-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0))) = (fun _ => 1#1)

def Pre_FfnAct0 (m : (ℓ : Loc Cert.FfnAct0.nD Cert.FfnAct0.τ Cert.FfnAct0.sig) → Buf (Elt Bits) ℓ) : Prop :=
  True

def Pre_FfnAct0Ideal (m : (ℓ : Loc Cert.FfnAct0Ideal.nD Cert.FfnAct0Ideal.τ Cert.FfnAct0Ideal.sig) → Buf (Elt Ideal) ℓ) : Prop :=
  True

def Pre_FfnAct0ReferenceIdeal (m : (ℓ : Loc Cert.FfnAct0ReferenceIdeal.nD Cert.FfnAct0ReferenceIdeal.τ Cert.FfnAct0ReferenceIdeal.sig) → Buf (Elt Ideal) ℓ) : Prop :=
  True

def Pre_FfnDown0 (m : (ℓ : Loc Cert.FfnDown0.nD Cert.FfnDown0.τ Cert.FfnDown0.sig) → Buf (Elt Bits) ℓ) : Prop :=
  True

def Pre_FfnDown0Ideal (m : (ℓ : Loc Cert.FfnDown0Ideal.nD Cert.FfnDown0Ideal.τ Cert.FfnDown0Ideal.sig) → Buf (Elt Ideal) ℓ) : Prop :=
  True

def Pre_FfnDown0ReferenceIdeal (m : (ℓ : Loc Cert.FfnDown0ReferenceIdeal.nD Cert.FfnDown0ReferenceIdeal.τ Cert.FfnDown0ReferenceIdeal.sig) → Buf (Elt Ideal) ℓ) : Prop :=
  True

def Pre_FfnAct1 (m : (ℓ : Loc Cert.FfnAct1.nD Cert.FfnAct1.τ Cert.FfnAct1.sig) → Buf (Elt Bits) ℓ) : Prop :=
  True

def Pre_FfnAct1Ideal (m : (ℓ : Loc Cert.FfnAct1Ideal.nD Cert.FfnAct1Ideal.τ Cert.FfnAct1Ideal.sig) → Buf (Elt Ideal) ℓ) : Prop :=
  True

def Pre_FfnAct1ReferenceIdeal (m : (ℓ : Loc Cert.FfnAct1ReferenceIdeal.nD Cert.FfnAct1ReferenceIdeal.τ Cert.FfnAct1ReferenceIdeal.sig) → Buf (Elt Ideal) ℓ) : Prop :=
  True

def Pre_FfnDown1 (m : (ℓ : Loc Cert.FfnDown1.nD Cert.FfnDown1.τ Cert.FfnDown1.sig) → Buf (Elt Bits) ℓ) : Prop :=
  True

def Pre_FfnDown1Ideal (m : (ℓ : Loc Cert.FfnDown1Ideal.nD Cert.FfnDown1Ideal.τ Cert.FfnDown1Ideal.sig) → Buf (Elt Ideal) ℓ) : Prop :=
  True

def Pre_FfnDown1ReferenceIdeal (m : (ℓ : Loc Cert.FfnDown1ReferenceIdeal.nD Cert.FfnDown1ReferenceIdeal.τ Cert.FfnDown1ReferenceIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInReferenceIdeal (m : (ℓ : Loc Cert.RetInReferenceIdeal.nD Cert.RetInReferenceIdeal.τ Cert.RetInReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_HyOut (m : (ℓ : Loc Cert.HyOut.nD Cert.HyOut.τ Cert.HyOut.sig) → Buf (Elt Bits) ℓ) : Prop :=
  True

def Pre_HyOutIdeal (m : (ℓ : Loc Cert.HyOutIdeal.nD Cert.HyOutIdeal.τ Cert.HyOutIdeal.sig) → Buf (Elt Ideal) ℓ) : Prop :=
  True

def Pre_HyOutReferenceIdeal (m : (ℓ : Loc Cert.HyOutReferenceIdeal.nD Cert.HyOutReferenceIdeal.τ Cert.HyOutReferenceIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInReferenceIdeal (m : (ℓ : Loc Cert.HyInReferenceIdeal.nD Cert.HyInReferenceIdeal.τ Cert.HyInReferenceIdeal.sig) → Buf (Elt Ideal) ℓ) : Prop :=
  True

def Pre_DsaK (m : (ℓ : Loc Cert.DsaK.nD Cert.DsaK.τ Cert.DsaK.sig) → Buf (Elt Bits) ℓ) : Prop :=
  True

def Pre_DsaKIdeal (m : (ℓ : Loc Cert.DsaKIdeal.nD Cert.DsaKIdeal.τ Cert.DsaKIdeal.sig) → Buf (Elt Ideal) ℓ) : Prop :=
  True

def Pre_DsaKReferenceIdeal (m : (ℓ : Loc Cert.DsaKReferenceIdeal.nD Cert.DsaKReferenceIdeal.τ Cert.DsaKReferenceIdeal.sig) → Buf (Elt Ideal) ℓ) : Prop :=
  True

def Pre_DsaVt (m : (ℓ : Loc Cert.DsaVt.nD Cert.DsaVt.τ Cert.DsaVt.sig) → Buf (Elt Bits) ℓ) : Prop :=
  True

def Pre_DsaVtIdeal (m : (ℓ : Loc Cert.DsaVtIdeal.nD Cert.DsaVtIdeal.τ Cert.DsaVtIdeal.sig) → Buf (Elt Ideal) ℓ) : Prop :=
  True

def Pre_DsaVtReferenceIdeal (m : (ℓ : Loc Cert.DsaVtReferenceIdeal.nD Cert.DsaVtReferenceIdeal.τ Cert.DsaVtReferenceIdeal.sig) → Buf (Elt Ideal) ℓ) : Prop :=
  True

def Pre_HyInX3 (m : (ℓ : Loc Cert.HyInX3.nD Cert.HyInX3.τ Cert.HyInX3.sig) → Buf (Elt Bits) ℓ) : Prop :=
  True

def Pre_HyInX3Ideal (m : (ℓ : Loc Cert.HyInX3Ideal.nD Cert.HyInX3Ideal.τ Cert.HyInX3Ideal.sig) → Buf (Elt Ideal) ℓ) : Prop :=
  True

def Pre_HyInX3Ideal_x3_finite [hPre_x3_finite : Cert.Pre_x3_finite.Facts] (m : (ℓ : Loc Cert.HyInX3Ideal.nD Cert.HyInX3Ideal.τ Cert.HyInX3Ideal.sig) → Buf (Elt Ideal) ℓ) : Prop :=
  ∀ c : Dev Cert.HyInX3Ideal.nD,
    (Cert.Pre_x3_finite.fn (F := Ideal) (m ((c.tc : Thread Cert.HyInX3Ideal.nD Cert.HyInX3Ideal.τ).loc Cert.HyInX3Ideal.main_arg0)) (m ((c.tc : Thread Cert.HyInX3Ideal.nD Cert.HyInX3Ideal.τ).loc Cert.HyInX3Ideal.main_arg1))).1 = (fun _ => 1#1)
    ∧ (Cert.Pre_x3_finite.fn (F := Ideal) (m ((c.tc : Thread Cert.HyInX3Ideal.nD Cert.HyInX3Ideal.τ).loc Cert.HyInX3Ideal.main_arg0)) (m ((c.tc : Thread Cert.HyInX3Ideal.nD Cert.HyInX3Ideal.τ).loc Cert.HyInX3Ideal.main_arg1))).2 = (fun _ => 1#1)

def Pre_HyInX3ReferenceIdeal (m : (ℓ : Loc Cert.HyInX3ReferenceIdeal.nD Cert.HyInX3ReferenceIdeal.τ Cert.HyInX3ReferenceIdeal.sig) → Buf (Elt Ideal) ℓ) : Prop :=
  True

def Pre_HyInX3ReferenceIdeal_x3_finite [hPre_x3_finite : Cert.Pre_x3_finite.Facts] (m : (ℓ : Loc Cert.HyInX3ReferenceIdeal.nD Cert.HyInX3ReferenceIdeal.τ Cert.HyInX3ReferenceIdeal.sig) → Buf (Elt Ideal) ℓ) : Prop :=
  ∀ c : Dev Cert.HyInX3ReferenceIdeal.nD,
    (Cert.Pre_x3_finite.fn (F := Ideal) (m ((c.tc : Thread Cert.HyInX3ReferenceIdeal.nD Cert.HyInX3ReferenceIdeal.τ).loc Cert.HyInX3ReferenceIdeal.main_arg0)) (m ((c.tc : Thread Cert.HyInX3ReferenceIdeal.nD Cert.HyInX3ReferenceIdeal.τ).loc Cert.HyInX3ReferenceIdeal.main_arg1))).1 = (fun _ => 1#1)
    ∧ (Cert.Pre_x3_finite.fn (F := Ideal) (m ((c.tc : Thread Cert.HyInX3ReferenceIdeal.nD Cert.HyInX3ReferenceIdeal.τ).loc Cert.HyInX3ReferenceIdeal.main_arg0)) (m ((c.tc : Thread Cert.HyInX3ReferenceIdeal.nD Cert.HyInX3ReferenceIdeal.τ).loc Cert.HyInX3ReferenceIdeal.main_arg1))).2 = (fun _ => 1#1)

def Pre_DsaQ (m : (ℓ : Loc Cert.DsaQ.nD Cert.DsaQ.τ Cert.DsaQ.sig) → Buf (Elt Bits) ℓ) : Prop :=
  True

def Pre_DsaQIdeal (m : (ℓ : Loc Cert.DsaQIdeal.nD Cert.DsaQIdeal.τ Cert.DsaQIdeal.sig) → Buf (Elt Ideal) ℓ) : Prop :=
  True

def Pre_DsaQReferenceIdeal (m : (ℓ : Loc Cert.DsaQReferenceIdeal.nD Cert.DsaQReferenceIdeal.τ Cert.DsaQReferenceIdeal.sig) → Buf (Elt Ideal) ℓ) : Prop :=
  True

def Pre_DsaQidx (m : (ℓ : Loc Cert.DsaQidx.nD Cert.DsaQidx.τ Cert.DsaQidx.sig) → Buf (Elt Bits) ℓ) : Prop :=
  True

def Pre_DsaQidxIdeal (m : (ℓ : Loc Cert.DsaQidxIdeal.nD Cert.DsaQidxIdeal.τ Cert.DsaQidxIdeal.sig) → Buf (Elt Ideal) ℓ) : Prop :=
  True

def Pre_DsaQidxIdeal_qidx_finite [hPre_qidx_finite : Cert.Pre_qidx_finite.Facts] (m : (ℓ : Loc Cert.DsaQidxIdeal.nD Cert.DsaQidxIdeal.τ Cert.DsaQidxIdeal.sig) → Buf (Elt Ideal) ℓ) : Prop :=
  ∀ c : Dev Cert.DsaQidxIdeal.nD,
    (Cert.Pre_qidx_finite.fn (F := Ideal) (m ((c.tc : Thread Cert.DsaQidxIdeal.nD Cert.DsaQidxIdeal.τ).loc Cert.DsaQidxIdeal.main_arg0)) (m ((c.tc : Thread Cert.DsaQidxIdeal.nD Cert.DsaQidxIdeal.τ).loc Cert.DsaQidxIdeal.main_arg1))).1 = (fun _ => 1#1)
    ∧ (Cert.Pre_qidx_finite.fn (F := Ideal) (m ((c.tc : Thread Cert.DsaQidxIdeal.nD Cert.DsaQidxIdeal.τ).loc Cert.DsaQidxIdeal.main_arg0)) (m ((c.tc : Thread Cert.DsaQidxIdeal.nD Cert.DsaQidxIdeal.τ).loc Cert.DsaQidxIdeal.main_arg1))).2 = (fun _ => 1#1)

def Pre_DsaQidxReferenceIdeal (m : (ℓ : Loc Cert.DsaQidxReferenceIdeal.nD Cert.DsaQidxReferenceIdeal.τ Cert.DsaQidxReferenceIdeal.sig) → Buf (Elt Ideal) ℓ) : Prop :=
  True

def Pre_DsaQidxReferenceIdeal_qidx_finite [hPre_qidx_finite : Cert.Pre_qidx_finite.Facts] (m : (ℓ : Loc Cert.DsaQidxReferenceIdeal.nD Cert.DsaQidxReferenceIdeal.τ Cert.DsaQidxReferenceIdeal.sig) → Buf (Elt Ideal) ℓ) : Prop :=
  ∀ c : Dev Cert.DsaQidxReferenceIdeal.nD,
    (Cert.Pre_qidx_finite.fn (F := Ideal) (m ((c.tc : Thread Cert.DsaQidxReferenceIdeal.nD Cert.DsaQidxReferenceIdeal.τ).loc Cert.DsaQidxReferenceIdeal.main_arg0)) (m ((c.tc : Thread Cert.DsaQidxReferenceIdeal.nD Cert.DsaQidxReferenceIdeal.τ).loc Cert.DsaQidxReferenceIdeal.main_arg1))).1 = (fun _ => 1#1)
    ∧ (Cert.Pre_qidx_finite.fn (F := Ideal) (m ((c.tc : Thread Cert.DsaQidxReferenceIdeal.nD Cert.DsaQidxReferenceIdeal.τ).loc Cert.DsaQidxReferenceIdeal.main_arg0)) (m ((c.tc : Thread Cert.DsaQidxReferenceIdeal.nD Cert.DsaQidxReferenceIdeal.τ).loc Cert.DsaQidxReferenceIdeal.main_arg1))).2 = (fun _ => 1#1)

def Pre_Resid0 (m : (ℓ : Loc Cert.Resid0.nD Cert.Resid0.τ Cert.Resid0.sig) → Buf (Elt Bits) ℓ) : Prop :=
  True

def Pre_Resid0Ideal (m : (ℓ : Loc Cert.Resid0Ideal.nD Cert.Resid0Ideal.τ Cert.Resid0Ideal.sig) → Buf (Elt Ideal) ℓ) : Prop :=
  True

def Pre_Resid0ReferenceIdeal (m : (ℓ : Loc Cert.Resid0ReferenceIdeal.nD Cert.Resid0ReferenceIdeal.τ Cert.Resid0ReferenceIdeal.sig) → Buf (Elt Ideal) ℓ) : Prop :=
  True

def Pre_Resid1 (m : (ℓ : Loc Cert.Resid1.nD Cert.Resid1.τ Cert.Resid1.sig) → Buf (Elt Bits) ℓ) : Prop :=
  True

def Pre_Resid1Ideal (m : (ℓ : Loc Cert.Resid1Ideal.nD Cert.Resid1Ideal.τ Cert.Resid1Ideal.sig) → Buf (Elt Ideal) ℓ) : Prop :=
  True

def Pre_Resid1ReferenceIdeal (m : (ℓ : Loc Cert.Resid1ReferenceIdeal.nD Cert.Resid1ReferenceIdeal.τ Cert.Resid1ReferenceIdeal.sig) → Buf (Elt Ideal) ℓ) : Prop :=
  True

def Pre_Resid2 (m : (ℓ : Loc Cert.Resid2.nD Cert.Resid2.τ Cert.Resid2.sig) → Buf (Elt Bits) ℓ) : Prop :=
  True

def Pre_Resid2Ideal (m : (ℓ : Loc Cert.Resid2Ideal.nD Cert.Resid2Ideal.τ Cert.Resid2Ideal.sig) → Buf (Elt Ideal) ℓ) : Prop :=
  True

def Pre_Resid2ReferenceIdeal (m : (ℓ : Loc Cert.Resid2ReferenceIdeal.nD Cert.Resid2ReferenceIdeal.τ Cert.Resid2ReferenceIdeal.sig) → Buf (Elt Ideal) ℓ) : Prop :=
  True

def Pre_Resid3 (m : (ℓ : Loc Cert.Resid3.nD Cert.Resid3.τ Cert.Resid3.sig) → Buf (Elt Bits) ℓ) : Prop :=
  True

def Pre_Resid3Ideal (m : (ℓ : Loc Cert.Resid3Ideal.nD Cert.Resid3Ideal.τ Cert.Resid3Ideal.sig) → Buf (Elt Ideal) ℓ) : Prop :=
  True

def Pre_Resid3ReferenceIdeal (m : (ℓ : Loc Cert.Resid3ReferenceIdeal.nD Cert.Resid3ReferenceIdeal.τ Cert.Resid3ReferenceIdeal.sig) → Buf (Elt Ideal) ℓ) : Prop :=
  True

def Pre_RmsKv (m : (ℓ : Loc Cert.RmsKv.nD Cert.RmsKv.τ Cert.RmsKv.sig) → Buf (Elt Bits) ℓ) : Prop :=
  True

def Pre_RmsKvIdeal (m : (ℓ : Loc Cert.RmsKvIdeal.nD Cert.RmsKvIdeal.τ Cert.RmsKvIdeal.sig) → Buf (Elt Ideal) ℓ) : Prop :=
  True

def Pre_RmsKvReferenceIdeal (m : (ℓ : Loc Cert.RmsKvReferenceIdeal.nD Cert.RmsKvReferenceIdeal.τ Cert.RmsKvReferenceIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedIdeal_embed_finite [hPre_embed_finite : Cert.Pre_embed_finite.Facts] (m : (ℓ : Loc Cert.EmbedIdeal.nD Cert.EmbedIdeal.τ Cert.EmbedIdeal.sig) → Buf (Elt Ideal) ℓ) : Prop :=
  ∀ c : Dev Cert.EmbedIdeal.nD,
    (Cert.Pre_embed_finite.fn (F := Ideal) (m ((c.tc : Thread Cert.EmbedIdeal.nD Cert.EmbedIdeal.τ).loc Cert.EmbedIdeal.main_arg0)) (m ((c.tc : Thread Cert.EmbedIdeal.nD Cert.EmbedIdeal.τ).loc Cert.EmbedIdeal.main_arg1)) (m ((c.tc : Thread Cert.EmbedIdeal.nD Cert.EmbedIdeal.τ).loc Cert.EmbedIdeal.main_arg2))) = (fun _ => 1#1)

def Pre_EmbedReferenceIdeal (m : (ℓ : Loc Cert.EmbedReferenceIdeal.nD Cert.EmbedReferenceIdeal.τ Cert.EmbedReferenceIdeal.sig) → Buf (Elt Ideal) ℓ) : Prop :=
  True

def Pre_EmbedReferenceIdeal_embed_finite [hPre_embed_finite : Cert.Pre_embed_finite.Facts] (m : (ℓ : Loc Cert.EmbedReferenceIdeal.nD Cert.EmbedReferenceIdeal.τ Cert.EmbedReferenceIdeal.sig) → Buf (Elt Ideal) ℓ) : Prop :=
  ∀ c : Dev Cert.EmbedReferenceIdeal.nD,
    (Cert.Pre_embed_finite.fn (F := Ideal) (m ((c.tc : Thread Cert.EmbedReferenceIdeal.nD Cert.EmbedReferenceIdeal.τ).loc Cert.EmbedReferenceIdeal.main_arg0)) (m ((c.tc : Thread Cert.EmbedReferenceIdeal.nD Cert.EmbedReferenceIdeal.τ).loc Cert.EmbedReferenceIdeal.main_arg1)) (m ((c.tc : Thread Cert.EmbedReferenceIdeal.nD Cert.EmbedReferenceIdeal.τ).loc Cert.EmbedReferenceIdeal.main_arg2))) = (fun _ => 1#1)

def Pre_RmsCq (m : (ℓ : Loc Cert.RmsCq.nD Cert.RmsCq.τ Cert.RmsCq.sig) → Buf (Elt Bits) ℓ) : Prop :=
  True

def Pre_RmsCqIdeal (m : (ℓ : Loc Cert.RmsCqIdeal.nD Cert.RmsCqIdeal.τ Cert.RmsCqIdeal.sig) → Buf (Elt Ideal) ℓ) : Prop :=
  True

def Pre_RmsCqIdeal_rms_cq_finite [hPre_rms_cq_finite : Cert.Pre_rms_cq_finite.Facts] (m : (ℓ : Loc Cert.RmsCqIdeal.nD Cert.RmsCqIdeal.τ Cert.RmsCqIdeal.sig) → Buf (Elt Ideal) ℓ) : Prop :=
  ∀ c : Dev Cert.RmsCqIdeal.nD,
    (Cert.Pre_rms_cq_finite.fn (F := Ideal) (m ((c.tc : Thread Cert.RmsCqIdeal.nD Cert.RmsCqIdeal.τ).loc Cert.RmsCqIdeal.main_arg0)) (m ((c.tc : Thread Cert.RmsCqIdeal.nD Cert.RmsCqIdeal.τ).loc Cert.RmsCqIdeal.main_arg1))) = (fun _ => 1#1)

def Pre_RmsCqReferenceIdeal (m : (ℓ : Loc Cert.RmsCqReferenceIdeal.nD Cert.RmsCqReferenceIdeal.τ Cert.RmsCqReferenceIdeal.sig) → Buf (Elt Ideal) ℓ) : Prop :=
  True

def Pre_RmsCqReferenceIdeal_rms_cq_finite [hPre_rms_cq_finite : Cert.Pre_rms_cq_finite.Facts] (m : (ℓ : Loc Cert.RmsCqReferenceIdeal.nD Cert.RmsCqReferenceIdeal.τ Cert.RmsCqReferenceIdeal.sig) → Buf (Elt Ideal) ℓ) : Prop :=
  ∀ c : Dev Cert.RmsCqReferenceIdeal.nD,
    (Cert.Pre_rms_cq_finite.fn (F := Ideal) (m ((c.tc : Thread Cert.RmsCqReferenceIdeal.nD Cert.RmsCqReferenceIdeal.τ).loc Cert.RmsCqReferenceIdeal.main_arg0)) (m ((c.tc : Thread Cert.RmsCqReferenceIdeal.nD Cert.RmsCqReferenceIdeal.τ).loc Cert.RmsCqReferenceIdeal.main_arg1))) = (fun _ => 1#1)

def Pre_Kidx (m : (ℓ : Loc Cert.Kidx.nD Cert.Kidx.τ Cert.Kidx.sig) → Buf (Elt Bits) ℓ) : Prop :=
  True

def Pre_KidxIdeal (m : (ℓ : Loc Cert.KidxIdeal.nD Cert.KidxIdeal.τ Cert.KidxIdeal.sig) → Buf (Elt Ideal) ℓ) : Prop :=
  True

def Pre_KidxIdeal_kidx_finite [hPre_kidx_finite : Cert.Pre_kidx_finite.Facts] (m : (ℓ : Loc Cert.KidxIdeal.nD Cert.KidxIdeal.τ Cert.KidxIdeal.sig) → Buf (Elt Ideal) ℓ) : Prop :=
  ∀ c : Dev Cert.KidxIdeal.nD,
    (Cert.Pre_kidx_finite.fn (F := Ideal) (m ((c.tc : Thread Cert.KidxIdeal.nD Cert.KidxIdeal.τ).loc Cert.KidxIdeal.main_arg0)) (m ((c.tc : Thread Cert.KidxIdeal.nD Cert.KidxIdeal.τ).loc Cert.KidxIdeal.main_arg1))) = (fun _ => 1#1)

def Pre_KidxReferenceIdeal (m : (ℓ : Loc Cert.KidxReferenceIdeal.nD Cert.KidxReferenceIdeal.τ Cert.KidxReferenceIdeal.sig) → Buf (Elt Ideal) ℓ) : Prop :=
  True

def Pre_KidxReferenceIdeal_kidx_finite [hPre_kidx_finite : Cert.Pre_kidx_finite.Facts] (m : (ℓ : Loc Cert.KidxReferenceIdeal.nD Cert.KidxReferenceIdeal.τ Cert.KidxReferenceIdeal.sig) → Buf (Elt Ideal) ℓ) : Prop :=
  ∀ c : Dev Cert.KidxReferenceIdeal.nD,
    (Cert.Pre_kidx_finite.fn (F := Ideal) (m ((c.tc : Thread Cert.KidxReferenceIdeal.nD Cert.KidxReferenceIdeal.τ).loc Cert.KidxReferenceIdeal.main_arg0)) (m ((c.tc : Thread Cert.KidxReferenceIdeal.nD Cert.KidxReferenceIdeal.τ).loc Cert.KidxReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_FfnAct0 [hFfnAct0 : Cert.FfnAct0.Facts] : Prop :=
  ∀ (m : (ℓ : Loc Cert.FfnAct0.nD Cert.FfnAct0.τ Cert.FfnAct0.sig) → Buf (Elt Bits) ℓ) (g : Dev Cert.FfnAct0.nD → PrngReg), Pre_FfnAct0 m →
    θ_run (Cert.FfnAct0.defs (F := Bits)) (onTc (τ := Cert.FfnAct0.τ) (Cert.FfnAct0.main (F := Bits))) ⟨m, fun _ => 0, g⟩ (fun r => (∀ c : Dev Cert.FfnAct0.nD,
      r.2.mem ((c.tc : Thread Cert.FfnAct0.nD Cert.FfnAct0.τ).loc Cert.FfnAct0.main_arg0) = m ((c.tc : Thread Cert.FfnAct0.nD Cert.FfnAct0.τ).loc Cert.FfnAct0.main_arg0)
      ∧ r.2.mem ((c.tc : Thread Cert.FfnAct0.nD Cert.FfnAct0.τ).loc Cert.FfnAct0.main_arg1) = m ((c.tc : Thread Cert.FfnAct0.nD Cert.FfnAct0.τ).loc Cert.FfnAct0.main_arg1)
      ∧ r.2.mem ((c.tc : Thread Cert.FfnAct0.nD Cert.FfnAct0.τ).loc Cert.FfnAct0.main_arg2) = m ((c.tc : Thread Cert.FfnAct0.nD Cert.FfnAct0.τ).loc Cert.FfnAct0.main_arg2))
      ∧ r.2.sem = fun _ => 0)

def quiescent_FfnAct0Ideal [hFfnAct0Ideal : Cert.FfnAct0Ideal.Facts] : Prop :=
  ∀ (m : (ℓ : Loc Cert.FfnAct0Ideal.nD Cert.FfnAct0Ideal.τ Cert.FfnAct0Ideal.sig) → Buf (Elt Ideal) ℓ) (g : Dev Cert.FfnAct0Ideal.nD → PrngReg), Pre_FfnAct0Ideal m →
    θ_run (Cert.FfnAct0Ideal.defs (F := Ideal)) (onTc (τ := Cert.FfnAct0Ideal.τ) (Cert.FfnAct0Ideal.main (F := Ideal))) ⟨m, fun _ => 0, g⟩ (fun r => (∀ c : Dev Cert.FfnAct0Ideal.nD,
      r.2.mem ((c.tc : Thread Cert.FfnAct0Ideal.nD Cert.FfnAct0Ideal.τ).loc Cert.FfnAct0Ideal.main_arg0) = m ((c.tc : Thread Cert.FfnAct0Ideal.nD Cert.FfnAct0Ideal.τ).loc Cert.FfnAct0Ideal.main_arg0)
      ∧ r.2.mem ((c.tc : Thread Cert.FfnAct0Ideal.nD Cert.FfnAct0Ideal.τ).loc Cert.FfnAct0Ideal.main_arg1) = m ((c.tc : Thread Cert.FfnAct0Ideal.nD Cert.FfnAct0Ideal.τ).loc Cert.FfnAct0Ideal.main_arg1)
      ∧ r.2.mem ((c.tc : Thread Cert.FfnAct0Ideal.nD Cert.FfnAct0Ideal.τ).loc Cert.FfnAct0Ideal.main_arg2) = m ((c.tc : Thread Cert.FfnAct0Ideal.nD Cert.FfnAct0Ideal.τ).loc Cert.FfnAct0Ideal.main_arg2))
      ∧ r.2.sem = fun _ => 0)

def quiescent_FfnAct0ReferenceIdeal [hFfnAct0ReferenceIdeal : Cert.FfnAct0ReferenceIdeal.Facts] : Prop :=
  ∀ (m : (ℓ : Loc Cert.FfnAct0ReferenceIdeal.nD Cert.FfnAct0ReferenceIdeal.τ Cert.FfnAct0ReferenceIdeal.sig) → Buf (Elt Ideal) ℓ) (g : Dev Cert.FfnAct0ReferenceIdeal.nD → PrngReg), Pre_FfnAct0ReferenceIdeal m →
    θ_run (Cert.FfnAct0ReferenceIdeal.defs (F := Ideal)) (onTc (τ := Cert.FfnAct0ReferenceIdeal.τ) (Cert.FfnAct0ReferenceIdeal.main (F := Ideal))) ⟨m, fun _ => 0, g⟩ (fun r => (∀ c : Dev Cert.FfnAct0ReferenceIdeal.nD,
      r.2.mem ((c.tc : Thread Cert.FfnAct0ReferenceIdeal.nD Cert.FfnAct0ReferenceIdeal.τ).loc Cert.FfnAct0ReferenceIdeal.main_arg0) = m ((c.tc : Thread Cert.FfnAct0ReferenceIdeal.nD Cert.FfnAct0ReferenceIdeal.τ).loc Cert.FfnAct0ReferenceIdeal.main_arg0)
      ∧ r.2.mem ((c.tc : Thread Cert.FfnAct0ReferenceIdeal.nD Cert.FfnAct0ReferenceIdeal.τ).loc Cert.FfnAct0ReferenceIdeal.main_arg1) = m ((c.tc : Thread Cert.FfnAct0ReferenceIdeal.nD Cert.FfnAct0ReferenceIdeal.τ).loc Cert.FfnAct0ReferenceIdeal.main_arg1)
      ∧ r.2.mem ((c.tc : Thread Cert.FfnAct0ReferenceIdeal.nD Cert.FfnAct0ReferenceIdeal.τ).loc Cert.FfnAct0ReferenceIdeal.main_arg2) = m ((c.tc : Thread Cert.FfnAct0ReferenceIdeal.nD Cert.FfnAct0ReferenceIdeal.τ).loc Cert.FfnAct0ReferenceIdeal.main_arg2))
      ∧ r.2.sem = fun _ => 0)

def quiescent_FfnDown0 [hFfnDown0 : Cert.FfnDown0.Facts] : Prop :=
  ∀ (m : (ℓ : Loc Cert.FfnDown0.nD Cert.FfnDown0.τ Cert.FfnDown0.sig) → Buf (Elt Bits) ℓ) (g : Dev Cert.FfnDown0.nD → PrngReg), Pre_FfnDown0 m →
    θ_run (Cert.FfnDown0.defs (F := Bits)) (onTc (τ := Cert.FfnDown0.τ) (Cert.FfnDown0.main (F := Bits))) ⟨m, fun _ => 0, g⟩ (fun r => (∀ c : Dev Cert.FfnDown0.nD,
      r.2.mem ((c.tc : Thread Cert.FfnDown0.nD Cert.FfnDown0.τ).loc Cert.FfnDown0.main_arg0) = m ((c.tc : Thread Cert.FfnDown0.nD Cert.FfnDown0.τ).loc Cert.FfnDown0.main_arg0)
      ∧ r.2.mem ((c.tc : Thread Cert.FfnDown0.nD Cert.FfnDown0.τ).loc Cert.FfnDown0.main_arg1) = m ((c.tc : Thread Cert.FfnDown0.nD Cert.FfnDown0.τ).loc Cert.FfnDown0.main_arg1))
      ∧ r.2.sem = fun _ => 0)

def quiescent_FfnDown0Ideal [hFfnDown0Ideal : Cert.FfnDown0Ideal.Facts] : Prop :=
  ∀ (m : (ℓ : Loc Cert.FfnDown0Ideal.nD Cert.FfnDown0Ideal.τ Cert.FfnDown0Ideal.sig) → Buf (Elt Ideal) ℓ) (g : Dev Cert.FfnDown0Ideal.nD → PrngReg), Pre_FfnDown0Ideal m →
    θ_run (Cert.FfnDown0Ideal.defs (F := Ideal)) (onTc (τ := Cert.FfnDown0Ideal.τ) (Cert.FfnDown0Ideal.main (F := Ideal))) ⟨m, fun _ => 0, g⟩ (fun r => (∀ c : Dev Cert.FfnDown0Ideal.nD,
      r.2.mem ((c.tc : Thread Cert.FfnDown0Ideal.nD Cert.FfnDown0Ideal.τ).loc Cert.FfnDown0Ideal.main_arg0) = m ((c.tc : Thread Cert.FfnDown0Ideal.nD Cert.FfnDown0Ideal.τ).loc Cert.FfnDown0Ideal.main_arg0)
      ∧ r.2.mem ((c.tc : Thread Cert.FfnDown0Ideal.nD Cert.FfnDown0Ideal.τ).loc Cert.FfnDown0Ideal.main_arg1) = m ((c.tc : Thread Cert.FfnDown0Ideal.nD Cert.FfnDown0Ideal.τ).loc Cert.FfnDown0Ideal.main_arg1))
      ∧ r.2.sem = fun _ => 0)

def quiescent_FfnDown0ReferenceIdeal [hFfnDown0ReferenceIdeal : Cert.FfnDown0ReferenceIdeal.Facts] : Prop :=
  ∀ (m : (ℓ : Loc Cert.FfnDown0ReferenceIdeal.nD Cert.FfnDown0ReferenceIdeal.τ Cert.FfnDown0ReferenceIdeal.sig) → Buf (Elt Ideal) ℓ) (g : Dev Cert.FfnDown0ReferenceIdeal.nD → PrngReg), Pre_FfnDown0ReferenceIdeal m →
    θ_run (Cert.FfnDown0ReferenceIdeal.defs (F := Ideal)) (onTc (τ := Cert.FfnDown0ReferenceIdeal.τ) (Cert.FfnDown0ReferenceIdeal.main (F := Ideal))) ⟨m, fun _ => 0, g⟩ (fun r => (∀ c : Dev Cert.FfnDown0ReferenceIdeal.nD,
      r.2.mem ((c.tc : Thread Cert.FfnDown0ReferenceIdeal.nD Cert.FfnDown0ReferenceIdeal.τ).loc Cert.FfnDown0ReferenceIdeal.main_arg0) = m ((c.tc : Thread Cert.FfnDown0ReferenceIdeal.nD Cert.FfnDown0ReferenceIdeal.τ).loc Cert.FfnDown0ReferenceIdeal.main_arg0)
      ∧ r.2.mem ((c.tc : Thread Cert.FfnDown0ReferenceIdeal.nD Cert.FfnDown0ReferenceIdeal.τ).loc Cert.FfnDown0ReferenceIdeal.main_arg1) = m ((c.tc : Thread Cert.FfnDown0ReferenceIdeal.nD Cert.FfnDown0ReferenceIdeal.τ).loc Cert.FfnDown0ReferenceIdeal.main_arg1))
      ∧ r.2.sem = fun _ => 0)

def quiescent_FfnAct1 [hFfnAct1 : Cert.FfnAct1.Facts] : Prop :=
  ∀ (m : (ℓ : Loc Cert.FfnAct1.nD Cert.FfnAct1.τ Cert.FfnAct1.sig) → Buf (Elt Bits) ℓ) (g : Dev Cert.FfnAct1.nD → PrngReg), Pre_FfnAct1 m →
    θ_run (Cert.FfnAct1.defs (F := Bits)) (onTc (τ := Cert.FfnAct1.τ) (Cert.FfnAct1.main (F := Bits))) ⟨m, fun _ => 0, g⟩ (fun r => (∀ c : Dev Cert.FfnAct1.nD,
      r.2.mem ((c.tc : Thread Cert.FfnAct1.nD Cert.FfnAct1.τ).loc Cert.FfnAct1.main_arg0) = m ((c.tc : Thread Cert.FfnAct1.nD Cert.FfnAct1.τ).loc Cert.FfnAct1.main_arg0)
      ∧ r.2.mem ((c.tc : Thread Cert.FfnAct1.nD Cert.FfnAct1.τ).loc Cert.FfnAct1.main_arg1) = m ((c.tc : Thread Cert.FfnAct1.nD Cert.FfnAct1.τ).loc Cert.FfnAct1.main_arg1)
      ∧ r.2.mem ((c.tc : Thread Cert.FfnAct1.nD Cert.FfnAct1.τ).loc Cert.FfnAct1.main_arg2) = m ((c.tc : Thread Cert.FfnAct1.nD Cert.FfnAct1.τ).loc Cert.FfnAct1.main_arg2))
      ∧ r.2.sem = fun _ => 0)

def quiescent_FfnAct1Ideal [hFfnAct1Ideal : Cert.FfnAct1Ideal.Facts] : Prop :=
  ∀ (m : (ℓ : Loc Cert.FfnAct1Ideal.nD Cert.FfnAct1Ideal.τ Cert.FfnAct1Ideal.sig) → Buf (Elt Ideal) ℓ) (g : Dev Cert.FfnAct1Ideal.nD → PrngReg), Pre_FfnAct1Ideal m →
    θ_run (Cert.FfnAct1Ideal.defs (F := Ideal)) (onTc (τ := Cert.FfnAct1Ideal.τ) (Cert.FfnAct1Ideal.main (F := Ideal))) ⟨m, fun _ => 0, g⟩ (fun r => (∀ c : Dev Cert.FfnAct1Ideal.nD,
      r.2.mem ((c.tc : Thread Cert.FfnAct1Ideal.nD Cert.FfnAct1Ideal.τ).loc Cert.FfnAct1Ideal.main_arg0) = m ((c.tc : Thread Cert.FfnAct1Ideal.nD Cert.FfnAct1Ideal.τ).loc Cert.FfnAct1Ideal.main_arg0)
      ∧ r.2.mem ((c.tc : Thread Cert.FfnAct1Ideal.nD Cert.FfnAct1Ideal.τ).loc Cert.FfnAct1Ideal.main_arg1) = m ((c.tc : Thread Cert.FfnAct1Ideal.nD Cert.FfnAct1Ideal.τ).loc Cert.FfnAct1Ideal.main_arg1)
      ∧ r.2.mem ((c.tc : Thread Cert.FfnAct1Ideal.nD Cert.FfnAct1Ideal.τ).loc Cert.FfnAct1Ideal.main_arg2) = m ((c.tc : Thread Cert.FfnAct1Ideal.nD Cert.FfnAct1Ideal.τ).loc Cert.FfnAct1Ideal.main_arg2))
      ∧ r.2.sem = fun _ => 0)

def quiescent_FfnAct1ReferenceIdeal [hFfnAct1ReferenceIdeal : Cert.FfnAct1ReferenceIdeal.Facts] : Prop :=
  ∀ (m : (ℓ : Loc Cert.FfnAct1ReferenceIdeal.nD Cert.FfnAct1ReferenceIdeal.τ Cert.FfnAct1ReferenceIdeal.sig) → Buf (Elt Ideal) ℓ) (g : Dev Cert.FfnAct1ReferenceIdeal.nD → PrngReg), Pre_FfnAct1ReferenceIdeal m →
    θ_run (Cert.FfnAct1ReferenceIdeal.defs (F := Ideal)) (onTc (τ := Cert.FfnAct1ReferenceIdeal.τ) (Cert.FfnAct1ReferenceIdeal.main (F := Ideal))) ⟨m, fun _ => 0, g⟩ (fun r => (∀ c : Dev Cert.FfnAct1ReferenceIdeal.nD,
      r.2.mem ((c.tc : Thread Cert.FfnAct1ReferenceIdeal.nD Cert.FfnAct1ReferenceIdeal.τ).loc Cert.FfnAct1ReferenceIdeal.main_arg0) = m ((c.tc : Thread Cert.FfnAct1ReferenceIdeal.nD Cert.FfnAct1ReferenceIdeal.τ).loc Cert.FfnAct1ReferenceIdeal.main_arg0)
      ∧ r.2.mem ((c.tc : Thread Cert.FfnAct1ReferenceIdeal.nD Cert.FfnAct1ReferenceIdeal.τ).loc Cert.FfnAct1ReferenceIdeal.main_arg1) = m ((c.tc : Thread Cert.FfnAct1ReferenceIdeal.nD Cert.FfnAct1ReferenceIdeal.τ).loc Cert.FfnAct1ReferenceIdeal.main_arg1)
      ∧ r.2.mem ((c.tc : Thread Cert.FfnAct1ReferenceIdeal.nD Cert.FfnAct1ReferenceIdeal.τ).loc Cert.FfnAct1ReferenceIdeal.main_arg2) = m ((c.tc : Thread Cert.FfnAct1ReferenceIdeal.nD Cert.FfnAct1ReferenceIdeal.τ).loc Cert.FfnAct1ReferenceIdeal.main_arg2))
      ∧ r.2.sem = fun _ => 0)

def quiescent_FfnDown1 [hFfnDown1 : Cert.FfnDown1.Facts] : Prop :=
  ∀ (m : (ℓ : Loc Cert.FfnDown1.nD Cert.FfnDown1.τ Cert.FfnDown1.sig) → Buf (Elt Bits) ℓ) (g : Dev Cert.FfnDown1.nD → PrngReg), Pre_FfnDown1 m →
    θ_run (Cert.FfnDown1.defs (F := Bits)) (onTc (τ := Cert.FfnDown1.τ) (Cert.FfnDown1.main (F := Bits))) ⟨m, fun _ => 0, g⟩ (fun r => (∀ c : Dev Cert.FfnDown1.nD,
      r.2.mem ((c.tc : Thread Cert.FfnDown1.nD Cert.FfnDown1.τ).loc Cert.FfnDown1.main_arg0) = m ((c.tc : Thread Cert.FfnDown1.nD Cert.FfnDown1.τ).loc Cert.FfnDown1.main_arg0)
      ∧ r.2.mem ((c.tc : Thread Cert.FfnDown1.nD Cert.FfnDown1.τ).loc Cert.FfnDown1.main_arg1) = m ((c.tc : Thread Cert.FfnDown1.nD Cert.FfnDown1.τ).loc Cert.FfnDown1.main_arg1))
      ∧ r.2.sem = fun _ => 0)

def quiescent_FfnDown1Ideal [hFfnDown1Ideal : Cert.FfnDown1Ideal.Facts] : Prop :=
  ∀ (m : (ℓ : Loc Cert.FfnDown1Ideal.nD Cert.FfnDown1Ideal.τ Cert.FfnDown1Ideal.sig) → Buf (Elt Ideal) ℓ) (g : Dev Cert.FfnDown1Ideal.nD → PrngReg), Pre_FfnDown1Ideal m →
    θ_run (Cert.FfnDown1Ideal.defs (F := Ideal)) (onTc (τ := Cert.FfnDown1Ideal.τ) (Cert.FfnDown1Ideal.main (F := Ideal))) ⟨m, fun _ => 0, g⟩ (fun r => (∀ c : Dev Cert.FfnDown1Ideal.nD,
      r.2.mem ((c.tc : Thread Cert.FfnDown1Ideal.nD Cert.FfnDown1Ideal.τ).loc Cert.FfnDown1Ideal.main_arg0) = m ((c.tc : Thread Cert.FfnDown1Ideal.nD Cert.FfnDown1Ideal.τ).loc Cert.FfnDown1Ideal.main_arg0)
      ∧ r.2.mem ((c.tc : Thread Cert.FfnDown1Ideal.nD Cert.FfnDown1Ideal.τ).loc Cert.FfnDown1Ideal.main_arg1) = m ((c.tc : Thread Cert.FfnDown1Ideal.nD Cert.FfnDown1Ideal.τ).loc Cert.FfnDown1Ideal.main_arg1))
      ∧ r.2.sem = fun _ => 0)

def quiescent_FfnDown1ReferenceIdeal [hFfnDown1ReferenceIdeal : Cert.FfnDown1ReferenceIdeal.Facts] : Prop :=
  ∀ (m : (ℓ : Loc Cert.FfnDown1ReferenceIdeal.nD Cert.FfnDown1ReferenceIdeal.τ Cert.FfnDown1ReferenceIdeal.sig) → Buf (Elt Ideal) ℓ) (g : Dev Cert.FfnDown1ReferenceIdeal.nD → PrngReg), Pre_FfnDown1ReferenceIdeal m →
    θ_run (Cert.FfnDown1ReferenceIdeal.defs (F := Ideal)) (onTc (τ := Cert.FfnDown1ReferenceIdeal.τ) (Cert.FfnDown1ReferenceIdeal.main (F := Ideal))) ⟨m, fun _ => 0, g⟩ (fun r => (∀ c : Dev Cert.FfnDown1ReferenceIdeal.nD,
      r.2.mem ((c.tc : Thread Cert.FfnDown1ReferenceIdeal.nD Cert.FfnDown1ReferenceIdeal.τ).loc Cert.FfnDown1ReferenceIdeal.main_arg0) = m ((c.tc : Thread Cert.FfnDown1ReferenceIdeal.nD Cert.FfnDown1ReferenceIdeal.τ).loc Cert.FfnDown1ReferenceIdeal.main_arg0)
      ∧ r.2.mem ((c.tc : Thread Cert.FfnDown1ReferenceIdeal.nD Cert.FfnDown1ReferenceIdeal.τ).loc Cert.FfnDown1ReferenceIdeal.main_arg1) = m ((c.tc : Thread Cert.FfnDown1ReferenceIdeal.nD Cert.FfnDown1ReferenceIdeal.τ).loc Cert.FfnDown1ReferenceIdeal.main_arg1))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RetInReferenceIdeal [hRetInReferenceIdeal : Cert.RetInReferenceIdeal.Facts] : Prop :=
  ∀ (m : (ℓ : Loc Cert.RetInReferenceIdeal.nD Cert.RetInReferenceIdeal.τ Cert.RetInReferenceIdeal.sig) → Buf (Elt Ideal) ℓ) (g : Dev Cert.RetInReferenceIdeal.nD → PrngReg), Pre_RetInReferenceIdeal m →
    θ_run (Cert.RetInReferenceIdeal.defs (F := Ideal)) (onTc (τ := Cert.RetInReferenceIdeal.τ) (Cert.RetInReferenceIdeal.main (F := Ideal))) ⟨m, fun _ => 0, g⟩ (fun r => (∀ c : Dev Cert.RetInReferenceIdeal.nD,
      r.2.mem ((c.tc : Thread Cert.RetInReferenceIdeal.nD Cert.RetInReferenceIdeal.τ).loc Cert.RetInReferenceIdeal.main_arg0) = m ((c.tc : Thread Cert.RetInReferenceIdeal.nD Cert.RetInReferenceIdeal.τ).loc Cert.RetInReferenceIdeal.main_arg0)
      ∧ r.2.mem ((c.tc : Thread Cert.RetInReferenceIdeal.nD Cert.RetInReferenceIdeal.τ).loc Cert.RetInReferenceIdeal.main_arg1) = m ((c.tc : Thread Cert.RetInReferenceIdeal.nD Cert.RetInReferenceIdeal.τ).loc Cert.RetInReferenceIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1))
      ∧ r.2.sem = fun _ => 0)

def quiescent_HyOut [hHyOut : Cert.HyOut.Facts] : Prop :=
  ∀ (m : (ℓ : Loc Cert.HyOut.nD Cert.HyOut.τ Cert.HyOut.sig) → Buf (Elt Bits) ℓ) (g : Dev Cert.HyOut.nD → PrngReg), Pre_HyOut m →
    θ_run (Cert.HyOut.defs (F := Bits)) (onTc (τ := Cert.HyOut.τ) (Cert.HyOut.main (F := Bits))) ⟨m, fun _ => 0, g⟩ (fun r => (∀ c : Dev Cert.HyOut.nD,
      r.2.mem ((c.tc : Thread Cert.HyOut.nD Cert.HyOut.τ).loc Cert.HyOut.main_arg0) = m ((c.tc : Thread Cert.HyOut.nD Cert.HyOut.τ).loc Cert.HyOut.main_arg0)
      ∧ r.2.mem ((c.tc : Thread Cert.HyOut.nD Cert.HyOut.τ).loc Cert.HyOut.main_arg1) = m ((c.tc : Thread Cert.HyOut.nD Cert.HyOut.τ).loc Cert.HyOut.main_arg1)
      ∧ r.2.mem ((c.tc : Thread Cert.HyOut.nD Cert.HyOut.τ).loc Cert.HyOut.main_arg2) = m ((c.tc : Thread Cert.HyOut.nD Cert.HyOut.τ).loc Cert.HyOut.main_arg2))
      ∧ r.2.sem = fun _ => 0)

def quiescent_HyOutIdeal [hHyOutIdeal : Cert.HyOutIdeal.Facts] : Prop :=
  ∀ (m : (ℓ : Loc Cert.HyOutIdeal.nD Cert.HyOutIdeal.τ Cert.HyOutIdeal.sig) → Buf (Elt Ideal) ℓ) (g : Dev Cert.HyOutIdeal.nD → PrngReg), Pre_HyOutIdeal m →
    θ_run (Cert.HyOutIdeal.defs (F := Ideal)) (onTc (τ := Cert.HyOutIdeal.τ) (Cert.HyOutIdeal.main (F := Ideal))) ⟨m, fun _ => 0, g⟩ (fun r => (∀ c : Dev Cert.HyOutIdeal.nD,
      r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
      ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
      ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2))
      ∧ r.2.sem = fun _ => 0)

def quiescent_HyOutReferenceIdeal [hHyOutReferenceIdeal : Cert.HyOutReferenceIdeal.Facts] : Prop :=
  ∀ (m : (ℓ : Loc Cert.HyOutReferenceIdeal.nD Cert.HyOutReferenceIdeal.τ Cert.HyOutReferenceIdeal.sig) → Buf (Elt Ideal) ℓ) (g : Dev Cert.HyOutReferenceIdeal.nD → PrngReg), Pre_HyOutReferenceIdeal m →
    θ_run (Cert.HyOutReferenceIdeal.defs (F := Ideal)) (onTc (τ := Cert.HyOutReferenceIdeal.τ) (Cert.HyOutReferenceIdeal.main (F := Ideal))) ⟨m, fun _ => 0, g⟩ (fun r => (∀ c : Dev Cert.HyOutReferenceIdeal.nD,
      r.2.mem ((c.tc : Thread Cert.HyOutReferenceIdeal.nD Cert.HyOutReferenceIdeal.τ).loc Cert.HyOutReferenceIdeal.main_arg0) = m ((c.tc : Thread Cert.HyOutReferenceIdeal.nD Cert.HyOutReferenceIdeal.τ).loc Cert.HyOutReferenceIdeal.main_arg0)
      ∧ r.2.mem ((c.tc : Thread Cert.HyOutReferenceIdeal.nD Cert.HyOutReferenceIdeal.τ).loc Cert.HyOutReferenceIdeal.main_arg1) = m ((c.tc : Thread Cert.HyOutReferenceIdeal.nD Cert.HyOutReferenceIdeal.τ).loc Cert.HyOutReferenceIdeal.main_arg1)
      ∧ r.2.mem ((c.tc : Thread Cert.HyOutReferenceIdeal.nD Cert.HyOutReferenceIdeal.τ).loc Cert.HyOutReferenceIdeal.main_arg2) = m ((c.tc : Thread Cert.HyOutReferenceIdeal.nD Cert.HyOutReferenceIdeal.τ).loc Cert.HyOutReferenceIdeal.main_arg2))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1))
      ∧ r.2.sem = fun _ => 0)

def quiescent_HyInReferenceIdeal [hHyInReferenceIdeal : Cert.HyInReferenceIdeal.Facts] : Prop :=
  ∀ (m : (ℓ : Loc Cert.HyInReferenceIdeal.nD Cert.HyInReferenceIdeal.τ Cert.HyInReferenceIdeal.sig) → Buf (Elt Ideal) ℓ) (g : Dev Cert.HyInReferenceIdeal.nD → PrngReg), Pre_HyInReferenceIdeal m →
    θ_run (Cert.HyInReferenceIdeal.defs (F := Ideal)) (onTc (τ := Cert.HyInReferenceIdeal.τ) (Cert.HyInReferenceIdeal.main (F := Ideal))) ⟨m, fun _ => 0, g⟩ (fun r => (∀ c : Dev Cert.HyInReferenceIdeal.nD,
      r.2.mem ((c.tc : Thread Cert.HyInReferenceIdeal.nD Cert.HyInReferenceIdeal.τ).loc Cert.HyInReferenceIdeal.main_arg0) = m ((c.tc : Thread Cert.HyInReferenceIdeal.nD Cert.HyInReferenceIdeal.τ).loc Cert.HyInReferenceIdeal.main_arg0)
      ∧ r.2.mem ((c.tc : Thread Cert.HyInReferenceIdeal.nD Cert.HyInReferenceIdeal.τ).loc Cert.HyInReferenceIdeal.main_arg1) = m ((c.tc : Thread Cert.HyInReferenceIdeal.nD Cert.HyInReferenceIdeal.τ).loc Cert.HyInReferenceIdeal.main_arg1))
      ∧ r.2.sem = fun _ => 0)

def quiescent_DsaK [hDsaK : Cert.DsaK.Facts] : Prop :=
  ∀ (m : (ℓ : Loc Cert.DsaK.nD Cert.DsaK.τ Cert.DsaK.sig) → Buf (Elt Bits) ℓ) (g : Dev Cert.DsaK.nD → PrngReg), Pre_DsaK m →
    θ_run (Cert.DsaK.defs (F := Bits)) (onTc (τ := Cert.DsaK.τ) (Cert.DsaK.main (F := Bits))) ⟨m, fun _ => 0, g⟩ (fun r => (∀ c : Dev Cert.DsaK.nD,
      r.2.mem ((c.tc : Thread Cert.DsaK.nD Cert.DsaK.τ).loc Cert.DsaK.main_arg0) = m ((c.tc : Thread Cert.DsaK.nD Cert.DsaK.τ).loc Cert.DsaK.main_arg0)
      ∧ r.2.mem ((c.tc : Thread Cert.DsaK.nD Cert.DsaK.τ).loc Cert.DsaK.main_arg1) = m ((c.tc : Thread Cert.DsaK.nD Cert.DsaK.τ).loc Cert.DsaK.main_arg1))
      ∧ r.2.sem = fun _ => 0)

def quiescent_DsaKIdeal [hDsaKIdeal : Cert.DsaKIdeal.Facts] : Prop :=
  ∀ (m : (ℓ : Loc Cert.DsaKIdeal.nD Cert.DsaKIdeal.τ Cert.DsaKIdeal.sig) → Buf (Elt Ideal) ℓ) (g : Dev Cert.DsaKIdeal.nD → PrngReg), Pre_DsaKIdeal m →
    θ_run (Cert.DsaKIdeal.defs (F := Ideal)) (onTc (τ := Cert.DsaKIdeal.τ) (Cert.DsaKIdeal.main (F := Ideal))) ⟨m, fun _ => 0, g⟩ (fun r => (∀ c : Dev Cert.DsaKIdeal.nD,
      r.2.mem ((c.tc : Thread Cert.DsaKIdeal.nD Cert.DsaKIdeal.τ).loc Cert.DsaKIdeal.main_arg0) = m ((c.tc : Thread Cert.DsaKIdeal.nD Cert.DsaKIdeal.τ).loc Cert.DsaKIdeal.main_arg0)
      ∧ r.2.mem ((c.tc : Thread Cert.DsaKIdeal.nD Cert.DsaKIdeal.τ).loc Cert.DsaKIdeal.main_arg1) = m ((c.tc : Thread Cert.DsaKIdeal.nD Cert.DsaKIdeal.τ).loc Cert.DsaKIdeal.main_arg1))
      ∧ r.2.sem = fun _ => 0)

def quiescent_DsaKReferenceIdeal [hDsaKReferenceIdeal : Cert.DsaKReferenceIdeal.Facts] : Prop :=
  ∀ (m : (ℓ : Loc Cert.DsaKReferenceIdeal.nD Cert.DsaKReferenceIdeal.τ Cert.DsaKReferenceIdeal.sig) → Buf (Elt Ideal) ℓ) (g : Dev Cert.DsaKReferenceIdeal.nD → PrngReg), Pre_DsaKReferenceIdeal m →
    θ_run (Cert.DsaKReferenceIdeal.defs (F := Ideal)) (onTc (τ := Cert.DsaKReferenceIdeal.τ) (Cert.DsaKReferenceIdeal.main (F := Ideal))) ⟨m, fun _ => 0, g⟩ (fun r => (∀ c : Dev Cert.DsaKReferenceIdeal.nD,
      r.2.mem ((c.tc : Thread Cert.DsaKReferenceIdeal.nD Cert.DsaKReferenceIdeal.τ).loc Cert.DsaKReferenceIdeal.main_arg0) = m ((c.tc : Thread Cert.DsaKReferenceIdeal.nD Cert.DsaKReferenceIdeal.τ).loc Cert.DsaKReferenceIdeal.main_arg0)
      ∧ r.2.mem ((c.tc : Thread Cert.DsaKReferenceIdeal.nD Cert.DsaKReferenceIdeal.τ).loc Cert.DsaKReferenceIdeal.main_arg1) = m ((c.tc : Thread Cert.DsaKReferenceIdeal.nD Cert.DsaKReferenceIdeal.τ).loc Cert.DsaKReferenceIdeal.main_arg1))
      ∧ r.2.sem = fun _ => 0)

def quiescent_DsaVt [hDsaVt : Cert.DsaVt.Facts] : Prop :=
  ∀ (m : (ℓ : Loc Cert.DsaVt.nD Cert.DsaVt.τ Cert.DsaVt.sig) → Buf (Elt Bits) ℓ) (g : Dev Cert.DsaVt.nD → PrngReg), Pre_DsaVt m →
    θ_run (Cert.DsaVt.defs (F := Bits)) (onTc (τ := Cert.DsaVt.τ) (Cert.DsaVt.main (F := Bits))) ⟨m, fun _ => 0, g⟩ (fun r => (∀ c : Dev Cert.DsaVt.nD,
      r.2.mem ((c.tc : Thread Cert.DsaVt.nD Cert.DsaVt.τ).loc Cert.DsaVt.main_arg0) = m ((c.tc : Thread Cert.DsaVt.nD Cert.DsaVt.τ).loc Cert.DsaVt.main_arg0)
      ∧ r.2.mem ((c.tc : Thread Cert.DsaVt.nD Cert.DsaVt.τ).loc Cert.DsaVt.main_arg1) = m ((c.tc : Thread Cert.DsaVt.nD Cert.DsaVt.τ).loc Cert.DsaVt.main_arg1))
      ∧ r.2.sem = fun _ => 0)

def quiescent_DsaVtIdeal [hDsaVtIdeal : Cert.DsaVtIdeal.Facts] : Prop :=
  ∀ (m : (ℓ : Loc Cert.DsaVtIdeal.nD Cert.DsaVtIdeal.τ Cert.DsaVtIdeal.sig) → Buf (Elt Ideal) ℓ) (g : Dev Cert.DsaVtIdeal.nD → PrngReg), Pre_DsaVtIdeal m →
    θ_run (Cert.DsaVtIdeal.defs (F := Ideal)) (onTc (τ := Cert.DsaVtIdeal.τ) (Cert.DsaVtIdeal.main (F := Ideal))) ⟨m, fun _ => 0, g⟩ (fun r => (∀ c : Dev Cert.DsaVtIdeal.nD,
      r.2.mem ((c.tc : Thread Cert.DsaVtIdeal.nD Cert.DsaVtIdeal.τ).loc Cert.DsaVtIdeal.main_arg0) = m ((c.tc : Thread Cert.DsaVtIdeal.nD Cert.DsaVtIdeal.τ).loc Cert.DsaVtIdeal.main_arg0)
      ∧ r.2.mem ((c.tc : Thread Cert.DsaVtIdeal.nD Cert.DsaVtIdeal.τ).loc Cert.DsaVtIdeal.main_arg1) = m ((c.tc : Thread Cert.DsaVtIdeal.nD Cert.DsaVtIdeal.τ).loc Cert.DsaVtIdeal.main_arg1))
      ∧ r.2.sem = fun _ => 0)

def quiescent_DsaVtReferenceIdeal [hDsaVtReferenceIdeal : Cert.DsaVtReferenceIdeal.Facts] : Prop :=
  ∀ (m : (ℓ : Loc Cert.DsaVtReferenceIdeal.nD Cert.DsaVtReferenceIdeal.τ Cert.DsaVtReferenceIdeal.sig) → Buf (Elt Ideal) ℓ) (g : Dev Cert.DsaVtReferenceIdeal.nD → PrngReg), Pre_DsaVtReferenceIdeal m →
    θ_run (Cert.DsaVtReferenceIdeal.defs (F := Ideal)) (onTc (τ := Cert.DsaVtReferenceIdeal.τ) (Cert.DsaVtReferenceIdeal.main (F := Ideal))) ⟨m, fun _ => 0, g⟩ (fun r => (∀ c : Dev Cert.DsaVtReferenceIdeal.nD,
      r.2.mem ((c.tc : Thread Cert.DsaVtReferenceIdeal.nD Cert.DsaVtReferenceIdeal.τ).loc Cert.DsaVtReferenceIdeal.main_arg0) = m ((c.tc : Thread Cert.DsaVtReferenceIdeal.nD Cert.DsaVtReferenceIdeal.τ).loc Cert.DsaVtReferenceIdeal.main_arg0)
      ∧ r.2.mem ((c.tc : Thread Cert.DsaVtReferenceIdeal.nD Cert.DsaVtReferenceIdeal.τ).loc Cert.DsaVtReferenceIdeal.main_arg1) = m ((c.tc : Thread Cert.DsaVtReferenceIdeal.nD Cert.DsaVtReferenceIdeal.τ).loc Cert.DsaVtReferenceIdeal.main_arg1))
      ∧ r.2.sem = fun _ => 0)

def quiescent_HyInX3 [hHyInX3 : Cert.HyInX3.Facts] : Prop :=
  ∀ (m : (ℓ : Loc Cert.HyInX3.nD Cert.HyInX3.τ Cert.HyInX3.sig) → Buf (Elt Bits) ℓ) (g : Dev Cert.HyInX3.nD → PrngReg), Pre_HyInX3 m →
    θ_run (Cert.HyInX3.defs (F := Bits)) (onTc (τ := Cert.HyInX3.τ) (Cert.HyInX3.main (F := Bits))) ⟨m, fun _ => 0, g⟩ (fun r => (∀ c : Dev Cert.HyInX3.nD,
      r.2.mem ((c.tc : Thread Cert.HyInX3.nD Cert.HyInX3.τ).loc Cert.HyInX3.main_arg0) = m ((c.tc : Thread Cert.HyInX3.nD Cert.HyInX3.τ).loc Cert.HyInX3.main_arg0)
      ∧ r.2.mem ((c.tc : Thread Cert.HyInX3.nD Cert.HyInX3.τ).loc Cert.HyInX3.main_arg1) = m ((c.tc : Thread Cert.HyInX3.nD Cert.HyInX3.τ).loc Cert.HyInX3.main_arg1))
      ∧ r.2.sem = fun _ => 0)

def quiescent_HyInX3Ideal [hHyInX3Ideal : Cert.HyInX3Ideal.Facts] : Prop :=
  ∀ (m : (ℓ : Loc Cert.HyInX3Ideal.nD Cert.HyInX3Ideal.τ Cert.HyInX3Ideal.sig) → Buf (Elt Ideal) ℓ) (g : Dev Cert.HyInX3Ideal.nD → PrngReg), Pre_HyInX3Ideal m →
    θ_run (Cert.HyInX3Ideal.defs (F := Ideal)) (onTc (τ := Cert.HyInX3Ideal.τ) (Cert.HyInX3Ideal.main (F := Ideal))) ⟨m, fun _ => 0, g⟩ (fun r => (∀ c : Dev Cert.HyInX3Ideal.nD,
      r.2.mem ((c.tc : Thread Cert.HyInX3Ideal.nD Cert.HyInX3Ideal.τ).loc Cert.HyInX3Ideal.main_arg0) = m ((c.tc : Thread Cert.HyInX3Ideal.nD Cert.HyInX3Ideal.τ).loc Cert.HyInX3Ideal.main_arg0)
      ∧ r.2.mem ((c.tc : Thread Cert.HyInX3Ideal.nD Cert.HyInX3Ideal.τ).loc Cert.HyInX3Ideal.main_arg1) = m ((c.tc : Thread Cert.HyInX3Ideal.nD Cert.HyInX3Ideal.τ).loc Cert.HyInX3Ideal.main_arg1))
      ∧ r.2.sem = fun _ => 0)

def quiescent_HyInX3Ideal_pre_x3_finite [hHyInX3Ideal : Cert.HyInX3Ideal.Facts] [hPre_x3_finite : Cert.Pre_x3_finite.Facts] : Prop :=
  ∀ (m : (ℓ : Loc Cert.HyInX3Ideal.nD Cert.HyInX3Ideal.τ Cert.HyInX3Ideal.sig) → Buf (Elt Ideal) ℓ) (g : Dev Cert.HyInX3Ideal.nD → PrngReg), Pre_HyInX3Ideal_x3_finite m →
    θ_run (Cert.HyInX3Ideal.defs (F := Ideal)) (onTc (τ := Cert.HyInX3Ideal.τ) (Cert.HyInX3Ideal.main (F := Ideal))) ⟨m, fun _ => 0, g⟩ (fun r => (∀ c : Dev Cert.HyInX3Ideal.nD,
      r.2.mem ((c.tc : Thread Cert.HyInX3Ideal.nD Cert.HyInX3Ideal.τ).loc Cert.HyInX3Ideal.main_arg0) = m ((c.tc : Thread Cert.HyInX3Ideal.nD Cert.HyInX3Ideal.τ).loc Cert.HyInX3Ideal.main_arg0)
      ∧ r.2.mem ((c.tc : Thread Cert.HyInX3Ideal.nD Cert.HyInX3Ideal.τ).loc Cert.HyInX3Ideal.main_arg1) = m ((c.tc : Thread Cert.HyInX3Ideal.nD Cert.HyInX3Ideal.τ).loc Cert.HyInX3Ideal.main_arg1))
      ∧ r.2.sem = fun _ => 0)

def quiescent_HyInX3ReferenceIdeal [hHyInX3ReferenceIdeal : Cert.HyInX3ReferenceIdeal.Facts] : Prop :=
  ∀ (m : (ℓ : Loc Cert.HyInX3ReferenceIdeal.nD Cert.HyInX3ReferenceIdeal.τ Cert.HyInX3ReferenceIdeal.sig) → Buf (Elt Ideal) ℓ) (g : Dev Cert.HyInX3ReferenceIdeal.nD → PrngReg), Pre_HyInX3ReferenceIdeal m →
    θ_run (Cert.HyInX3ReferenceIdeal.defs (F := Ideal)) (onTc (τ := Cert.HyInX3ReferenceIdeal.τ) (Cert.HyInX3ReferenceIdeal.main (F := Ideal))) ⟨m, fun _ => 0, g⟩ (fun r => (∀ c : Dev Cert.HyInX3ReferenceIdeal.nD,
      r.2.mem ((c.tc : Thread Cert.HyInX3ReferenceIdeal.nD Cert.HyInX3ReferenceIdeal.τ).loc Cert.HyInX3ReferenceIdeal.main_arg0) = m ((c.tc : Thread Cert.HyInX3ReferenceIdeal.nD Cert.HyInX3ReferenceIdeal.τ).loc Cert.HyInX3ReferenceIdeal.main_arg0)
      ∧ r.2.mem ((c.tc : Thread Cert.HyInX3ReferenceIdeal.nD Cert.HyInX3ReferenceIdeal.τ).loc Cert.HyInX3ReferenceIdeal.main_arg1) = m ((c.tc : Thread Cert.HyInX3ReferenceIdeal.nD Cert.HyInX3ReferenceIdeal.τ).loc Cert.HyInX3ReferenceIdeal.main_arg1))
      ∧ r.2.sem = fun _ => 0)

def quiescent_HyInX3ReferenceIdeal_pre_x3_finite [hHyInX3ReferenceIdeal : Cert.HyInX3ReferenceIdeal.Facts] [hPre_x3_finite : Cert.Pre_x3_finite.Facts] : Prop :=
  ∀ (m : (ℓ : Loc Cert.HyInX3ReferenceIdeal.nD Cert.HyInX3ReferenceIdeal.τ Cert.HyInX3ReferenceIdeal.sig) → Buf (Elt Ideal) ℓ) (g : Dev Cert.HyInX3ReferenceIdeal.nD → PrngReg), Pre_HyInX3ReferenceIdeal_x3_finite m →
    θ_run (Cert.HyInX3ReferenceIdeal.defs (F := Ideal)) (onTc (τ := Cert.HyInX3ReferenceIdeal.τ) (Cert.HyInX3ReferenceIdeal.main (F := Ideal))) ⟨m, fun _ => 0, g⟩ (fun r => (∀ c : Dev Cert.HyInX3ReferenceIdeal.nD,
      r.2.mem ((c.tc : Thread Cert.HyInX3ReferenceIdeal.nD Cert.HyInX3ReferenceIdeal.τ).loc Cert.HyInX3ReferenceIdeal.main_arg0) = m ((c.tc : Thread Cert.HyInX3ReferenceIdeal.nD Cert.HyInX3ReferenceIdeal.τ).loc Cert.HyInX3ReferenceIdeal.main_arg0)
      ∧ r.2.mem ((c.tc : Thread Cert.HyInX3ReferenceIdeal.nD Cert.HyInX3ReferenceIdeal.τ).loc Cert.HyInX3ReferenceIdeal.main_arg1) = m ((c.tc : Thread Cert.HyInX3ReferenceIdeal.nD Cert.HyInX3ReferenceIdeal.τ).loc Cert.HyInX3ReferenceIdeal.main_arg1))
      ∧ r.2.sem = fun _ => 0)

def quiescent_DsaQ [hDsaQ : Cert.DsaQ.Facts] : Prop :=
  ∀ (m : (ℓ : Loc Cert.DsaQ.nD Cert.DsaQ.τ Cert.DsaQ.sig) → Buf (Elt Bits) ℓ) (g : Dev Cert.DsaQ.nD → PrngReg), Pre_DsaQ m →
    θ_run (Cert.DsaQ.defs (F := Bits)) (onTc (τ := Cert.DsaQ.τ) (Cert.DsaQ.main (F := Bits))) ⟨m, fun _ => 0, g⟩ (fun r => (∀ c : Dev Cert.DsaQ.nD,
      r.2.mem ((c.tc : Thread Cert.DsaQ.nD Cert.DsaQ.τ).loc Cert.DsaQ.main_arg0) = m ((c.tc : Thread Cert.DsaQ.nD Cert.DsaQ.τ).loc Cert.DsaQ.main_arg0)
      ∧ r.2.mem ((c.tc : Thread Cert.DsaQ.nD Cert.DsaQ.τ).loc Cert.DsaQ.main_arg1) = m ((c.tc : Thread Cert.DsaQ.nD Cert.DsaQ.τ).loc Cert.DsaQ.main_arg1))
      ∧ r.2.sem = fun _ => 0)

def quiescent_DsaQIdeal [hDsaQIdeal : Cert.DsaQIdeal.Facts] : Prop :=
  ∀ (m : (ℓ : Loc Cert.DsaQIdeal.nD Cert.DsaQIdeal.τ Cert.DsaQIdeal.sig) → Buf (Elt Ideal) ℓ) (g : Dev Cert.DsaQIdeal.nD → PrngReg), Pre_DsaQIdeal m →
    θ_run (Cert.DsaQIdeal.defs (F := Ideal)) (onTc (τ := Cert.DsaQIdeal.τ) (Cert.DsaQIdeal.main (F := Ideal))) ⟨m, fun _ => 0, g⟩ (fun r => (∀ c : Dev Cert.DsaQIdeal.nD,
      r.2.mem ((c.tc : Thread Cert.DsaQIdeal.nD Cert.DsaQIdeal.τ).loc Cert.DsaQIdeal.main_arg0) = m ((c.tc : Thread Cert.DsaQIdeal.nD Cert.DsaQIdeal.τ).loc Cert.DsaQIdeal.main_arg0)
      ∧ r.2.mem ((c.tc : Thread Cert.DsaQIdeal.nD Cert.DsaQIdeal.τ).loc Cert.DsaQIdeal.main_arg1) = m ((c.tc : Thread Cert.DsaQIdeal.nD Cert.DsaQIdeal.τ).loc Cert.DsaQIdeal.main_arg1))
      ∧ r.2.sem = fun _ => 0)

def quiescent_DsaQReferenceIdeal [hDsaQReferenceIdeal : Cert.DsaQReferenceIdeal.Facts] : Prop :=
  ∀ (m : (ℓ : Loc Cert.DsaQReferenceIdeal.nD Cert.DsaQReferenceIdeal.τ Cert.DsaQReferenceIdeal.sig) → Buf (Elt Ideal) ℓ) (g : Dev Cert.DsaQReferenceIdeal.nD → PrngReg), Pre_DsaQReferenceIdeal m →
    θ_run (Cert.DsaQReferenceIdeal.defs (F := Ideal)) (onTc (τ := Cert.DsaQReferenceIdeal.τ) (Cert.DsaQReferenceIdeal.main (F := Ideal))) ⟨m, fun _ => 0, g⟩ (fun r => (∀ c : Dev Cert.DsaQReferenceIdeal.nD,
      r.2.mem ((c.tc : Thread Cert.DsaQReferenceIdeal.nD Cert.DsaQReferenceIdeal.τ).loc Cert.DsaQReferenceIdeal.main_arg0) = m ((c.tc : Thread Cert.DsaQReferenceIdeal.nD Cert.DsaQReferenceIdeal.τ).loc Cert.DsaQReferenceIdeal.main_arg0)
      ∧ r.2.mem ((c.tc : Thread Cert.DsaQReferenceIdeal.nD Cert.DsaQReferenceIdeal.τ).loc Cert.DsaQReferenceIdeal.main_arg1) = m ((c.tc : Thread Cert.DsaQReferenceIdeal.nD Cert.DsaQReferenceIdeal.τ).loc Cert.DsaQReferenceIdeal.main_arg1))
      ∧ r.2.sem = fun _ => 0)

def quiescent_DsaQidx [hDsaQidx : Cert.DsaQidx.Facts] : Prop :=
  ∀ (m : (ℓ : Loc Cert.DsaQidx.nD Cert.DsaQidx.τ Cert.DsaQidx.sig) → Buf (Elt Bits) ℓ) (g : Dev Cert.DsaQidx.nD → PrngReg), Pre_DsaQidx m →
    θ_run (Cert.DsaQidx.defs (F := Bits)) (onTc (τ := Cert.DsaQidx.τ) (Cert.DsaQidx.main (F := Bits))) ⟨m, fun _ => 0, g⟩ (fun r => (∀ c : Dev Cert.DsaQidx.nD,
      r.2.mem ((c.tc : Thread Cert.DsaQidx.nD Cert.DsaQidx.τ).loc Cert.DsaQidx.main_arg0) = m ((c.tc : Thread Cert.DsaQidx.nD Cert.DsaQidx.τ).loc Cert.DsaQidx.main_arg0)
      ∧ r.2.mem ((c.tc : Thread Cert.DsaQidx.nD Cert.DsaQidx.τ).loc Cert.DsaQidx.main_arg1) = m ((c.tc : Thread Cert.DsaQidx.nD Cert.DsaQidx.τ).loc Cert.DsaQidx.main_arg1))
      ∧ r.2.sem = fun _ => 0)

def quiescent_DsaQidxIdeal [hDsaQidxIdeal : Cert.DsaQidxIdeal.Facts] : Prop :=
  ∀ (m : (ℓ : Loc Cert.DsaQidxIdeal.nD Cert.DsaQidxIdeal.τ Cert.DsaQidxIdeal.sig) → Buf (Elt Ideal) ℓ) (g : Dev Cert.DsaQidxIdeal.nD → PrngReg), Pre_DsaQidxIdeal m →
    θ_run (Cert.DsaQidxIdeal.defs (F := Ideal)) (onTc (τ := Cert.DsaQidxIdeal.τ) (Cert.DsaQidxIdeal.main (F := Ideal))) ⟨m, fun _ => 0, g⟩ (fun r => (∀ c : Dev Cert.DsaQidxIdeal.nD,
      r.2.mem ((c.tc : Thread Cert.DsaQidxIdeal.nD Cert.DsaQidxIdeal.τ).loc Cert.DsaQidxIdeal.main_arg0) = m ((c.tc : Thread Cert.DsaQidxIdeal.nD Cert.DsaQidxIdeal.τ).loc Cert.DsaQidxIdeal.main_arg0)
      ∧ r.2.mem ((c.tc : Thread Cert.DsaQidxIdeal.nD Cert.DsaQidxIdeal.τ).loc Cert.DsaQidxIdeal.main_arg1) = m ((c.tc : Thread Cert.DsaQidxIdeal.nD Cert.DsaQidxIdeal.τ).loc Cert.DsaQidxIdeal.main_arg1))
      ∧ r.2.sem = fun _ => 0)

def quiescent_DsaQidxIdeal_pre_qidx_finite [hDsaQidxIdeal : Cert.DsaQidxIdeal.Facts] [hPre_qidx_finite : Cert.Pre_qidx_finite.Facts] : Prop :=
  ∀ (m : (ℓ : Loc Cert.DsaQidxIdeal.nD Cert.DsaQidxIdeal.τ Cert.DsaQidxIdeal.sig) → Buf (Elt Ideal) ℓ) (g : Dev Cert.DsaQidxIdeal.nD → PrngReg), Pre_DsaQidxIdeal_qidx_finite m →
    θ_run (Cert.DsaQidxIdeal.defs (F := Ideal)) (onTc (τ := Cert.DsaQidxIdeal.τ) (Cert.DsaQidxIdeal.main (F := Ideal))) ⟨m, fun _ => 0, g⟩ (fun r => (∀ c : Dev Cert.DsaQidxIdeal.nD,
      r.2.mem ((c.tc : Thread Cert.DsaQidxIdeal.nD Cert.DsaQidxIdeal.τ).loc Cert.DsaQidxIdeal.main_arg0) = m ((c.tc : Thread Cert.DsaQidxIdeal.nD Cert.DsaQidxIdeal.τ).loc Cert.DsaQidxIdeal.main_arg0)
      ∧ r.2.mem ((c.tc : Thread Cert.DsaQidxIdeal.nD Cert.DsaQidxIdeal.τ).loc Cert.DsaQidxIdeal.main_arg1) = m ((c.tc : Thread Cert.DsaQidxIdeal.nD Cert.DsaQidxIdeal.τ).loc Cert.DsaQidxIdeal.main_arg1))
      ∧ r.2.sem = fun _ => 0)

def quiescent_DsaQidxReferenceIdeal [hDsaQidxReferenceIdeal : Cert.DsaQidxReferenceIdeal.Facts] : Prop :=
  ∀ (m : (ℓ : Loc Cert.DsaQidxReferenceIdeal.nD Cert.DsaQidxReferenceIdeal.τ Cert.DsaQidxReferenceIdeal.sig) → Buf (Elt Ideal) ℓ) (g : Dev Cert.DsaQidxReferenceIdeal.nD → PrngReg), Pre_DsaQidxReferenceIdeal m →
    θ_run (Cert.DsaQidxReferenceIdeal.defs (F := Ideal)) (onTc (τ := Cert.DsaQidxReferenceIdeal.τ) (Cert.DsaQidxReferenceIdeal.main (F := Ideal))) ⟨m, fun _ => 0, g⟩ (fun r => (∀ c : Dev Cert.DsaQidxReferenceIdeal.nD,
      r.2.mem ((c.tc : Thread Cert.DsaQidxReferenceIdeal.nD Cert.DsaQidxReferenceIdeal.τ).loc Cert.DsaQidxReferenceIdeal.main_arg0) = m ((c.tc : Thread Cert.DsaQidxReferenceIdeal.nD Cert.DsaQidxReferenceIdeal.τ).loc Cert.DsaQidxReferenceIdeal.main_arg0)
      ∧ r.2.mem ((c.tc : Thread Cert.DsaQidxReferenceIdeal.nD Cert.DsaQidxReferenceIdeal.τ).loc Cert.DsaQidxReferenceIdeal.main_arg1) = m ((c.tc : Thread Cert.DsaQidxReferenceIdeal.nD Cert.DsaQidxReferenceIdeal.τ).loc Cert.DsaQidxReferenceIdeal.main_arg1))
      ∧ r.2.sem = fun _ => 0)

def quiescent_DsaQidxReferenceIdeal_pre_qidx_finite [hDsaQidxReferenceIdeal : Cert.DsaQidxReferenceIdeal.Facts] [hPre_qidx_finite : Cert.Pre_qidx_finite.Facts] : Prop :=
  ∀ (m : (ℓ : Loc Cert.DsaQidxReferenceIdeal.nD Cert.DsaQidxReferenceIdeal.τ Cert.DsaQidxReferenceIdeal.sig) → Buf (Elt Ideal) ℓ) (g : Dev Cert.DsaQidxReferenceIdeal.nD → PrngReg), Pre_DsaQidxReferenceIdeal_qidx_finite m →
    θ_run (Cert.DsaQidxReferenceIdeal.defs (F := Ideal)) (onTc (τ := Cert.DsaQidxReferenceIdeal.τ) (Cert.DsaQidxReferenceIdeal.main (F := Ideal))) ⟨m, fun _ => 0, g⟩ (fun r => (∀ c : Dev Cert.DsaQidxReferenceIdeal.nD,
      r.2.mem ((c.tc : Thread Cert.DsaQidxReferenceIdeal.nD Cert.DsaQidxReferenceIdeal.τ).loc Cert.DsaQidxReferenceIdeal.main_arg0) = m ((c.tc : Thread Cert.DsaQidxReferenceIdeal.nD Cert.DsaQidxReferenceIdeal.τ).loc Cert.DsaQidxReferenceIdeal.main_arg0)
      ∧ r.2.mem ((c.tc : Thread Cert.DsaQidxReferenceIdeal.nD Cert.DsaQidxReferenceIdeal.τ).loc Cert.DsaQidxReferenceIdeal.main_arg1) = m ((c.tc : Thread Cert.DsaQidxReferenceIdeal.nD Cert.DsaQidxReferenceIdeal.τ).loc Cert.DsaQidxReferenceIdeal.main_arg1))
      ∧ r.2.sem = fun _ => 0)

def quiescent_Resid0 [hResid0 : Cert.Resid0.Facts] : Prop :=
  ∀ (m : (ℓ : Loc Cert.Resid0.nD Cert.Resid0.τ Cert.Resid0.sig) → Buf (Elt Bits) ℓ) (g : Dev Cert.Resid0.nD → PrngReg), Pre_Resid0 m →
    θ_run (Cert.Resid0.defs (F := Bits)) (onTc (τ := Cert.Resid0.τ) (Cert.Resid0.main (F := Bits))) ⟨m, fun _ => 0, g⟩ (fun r => (∀ c : Dev Cert.Resid0.nD,
      r.2.mem ((c.tc : Thread Cert.Resid0.nD Cert.Resid0.τ).loc Cert.Resid0.main_arg0) = m ((c.tc : Thread Cert.Resid0.nD Cert.Resid0.τ).loc Cert.Resid0.main_arg0)
      ∧ r.2.mem ((c.tc : Thread Cert.Resid0.nD Cert.Resid0.τ).loc Cert.Resid0.main_arg1) = m ((c.tc : Thread Cert.Resid0.nD Cert.Resid0.τ).loc Cert.Resid0.main_arg1)
      ∧ r.2.mem ((c.tc : Thread Cert.Resid0.nD Cert.Resid0.τ).loc Cert.Resid0.main_arg2) = m ((c.tc : Thread Cert.Resid0.nD Cert.Resid0.τ).loc Cert.Resid0.main_arg2)
      ∧ r.2.mem ((c.tc : Thread Cert.Resid0.nD Cert.Resid0.τ).loc Cert.Resid0.main_arg3) = m ((c.tc : Thread Cert.Resid0.nD Cert.Resid0.τ).loc Cert.Resid0.main_arg3))
      ∧ r.2.sem = fun _ => 0)

def quiescent_Resid0Ideal [hResid0Ideal : Cert.Resid0Ideal.Facts] : Prop :=
  ∀ (m : (ℓ : Loc Cert.Resid0Ideal.nD Cert.Resid0Ideal.τ Cert.Resid0Ideal.sig) → Buf (Elt Ideal) ℓ) (g : Dev Cert.Resid0Ideal.nD → PrngReg), Pre_Resid0Ideal m →
    θ_run (Cert.Resid0Ideal.defs (F := Ideal)) (onTc (τ := Cert.Resid0Ideal.τ) (Cert.Resid0Ideal.main (F := Ideal))) ⟨m, fun _ => 0, g⟩ (fun r => (∀ c : Dev Cert.Resid0Ideal.nD,
      r.2.mem ((c.tc : Thread Cert.Resid0Ideal.nD Cert.Resid0Ideal.τ).loc Cert.Resid0Ideal.main_arg0) = m ((c.tc : Thread Cert.Resid0Ideal.nD Cert.Resid0Ideal.τ).loc Cert.Resid0Ideal.main_arg0)
      ∧ r.2.mem ((c.tc : Thread Cert.Resid0Ideal.nD Cert.Resid0Ideal.τ).loc Cert.Resid0Ideal.main_arg1) = m ((c.tc : Thread Cert.Resid0Ideal.nD Cert.Resid0Ideal.τ).loc Cert.Resid0Ideal.main_arg1)
      ∧ r.2.mem ((c.tc : Thread Cert.Resid0Ideal.nD Cert.Resid0Ideal.τ).loc Cert.Resid0Ideal.main_arg2) = m ((c.tc : Thread Cert.Resid0Ideal.nD Cert.Resid0Ideal.τ).loc Cert.Resid0Ideal.main_arg2)
      ∧ r.2.mem ((c.tc : Thread Cert.Resid0Ideal.nD Cert.Resid0Ideal.τ).loc Cert.Resid0Ideal.main_arg3) = m ((c.tc : Thread Cert.Resid0Ideal.nD Cert.Resid0Ideal.τ).loc Cert.Resid0Ideal.main_arg3))
      ∧ r.2.sem = fun _ => 0)

def quiescent_Resid0ReferenceIdeal [hResid0ReferenceIdeal : Cert.Resid0ReferenceIdeal.Facts] : Prop :=
  ∀ (m : (ℓ : Loc Cert.Resid0ReferenceIdeal.nD Cert.Resid0ReferenceIdeal.τ Cert.Resid0ReferenceIdeal.sig) → Buf (Elt Ideal) ℓ) (g : Dev Cert.Resid0ReferenceIdeal.nD → PrngReg), Pre_Resid0ReferenceIdeal m →
    θ_run (Cert.Resid0ReferenceIdeal.defs (F := Ideal)) (onTc (τ := Cert.Resid0ReferenceIdeal.τ) (Cert.Resid0ReferenceIdeal.main (F := Ideal))) ⟨m, fun _ => 0, g⟩ (fun r => (∀ c : Dev Cert.Resid0ReferenceIdeal.nD,
      r.2.mem ((c.tc : Thread Cert.Resid0ReferenceIdeal.nD Cert.Resid0ReferenceIdeal.τ).loc Cert.Resid0ReferenceIdeal.main_arg0) = m ((c.tc : Thread Cert.Resid0ReferenceIdeal.nD Cert.Resid0ReferenceIdeal.τ).loc Cert.Resid0ReferenceIdeal.main_arg0)
      ∧ r.2.mem ((c.tc : Thread Cert.Resid0ReferenceIdeal.nD Cert.Resid0ReferenceIdeal.τ).loc Cert.Resid0ReferenceIdeal.main_arg1) = m ((c.tc : Thread Cert.Resid0ReferenceIdeal.nD Cert.Resid0ReferenceIdeal.τ).loc Cert.Resid0ReferenceIdeal.main_arg1)
      ∧ r.2.mem ((c.tc : Thread Cert.Resid0ReferenceIdeal.nD Cert.Resid0ReferenceIdeal.τ).loc Cert.Resid0ReferenceIdeal.main_arg2) = m ((c.tc : Thread Cert.Resid0ReferenceIdeal.nD Cert.Resid0ReferenceIdeal.τ).loc Cert.Resid0ReferenceIdeal.main_arg2)
      ∧ r.2.mem ((c.tc : Thread Cert.Resid0ReferenceIdeal.nD Cert.Resid0ReferenceIdeal.τ).loc Cert.Resid0ReferenceIdeal.main_arg3) = m ((c.tc : Thread Cert.Resid0ReferenceIdeal.nD Cert.Resid0ReferenceIdeal.τ).loc Cert.Resid0ReferenceIdeal.main_arg3))
      ∧ r.2.sem = fun _ => 0)

def quiescent_Resid1 [hResid1 : Cert.Resid1.Facts] : Prop :=
  ∀ (m : (ℓ : Loc Cert.Resid1.nD Cert.Resid1.τ Cert.Resid1.sig) → Buf (Elt Bits) ℓ) (g : Dev Cert.Resid1.nD → PrngReg), Pre_Resid1 m →
    θ_run (Cert.Resid1.defs (F := Bits)) (onTc (τ := Cert.Resid1.τ) (Cert.Resid1.main (F := Bits))) ⟨m, fun _ => 0, g⟩ (fun r => (∀ c : Dev Cert.Resid1.nD,
      r.2.mem ((c.tc : Thread Cert.Resid1.nD Cert.Resid1.τ).loc Cert.Resid1.main_arg0) = m ((c.tc : Thread Cert.Resid1.nD Cert.Resid1.τ).loc Cert.Resid1.main_arg0)
      ∧ r.2.mem ((c.tc : Thread Cert.Resid1.nD Cert.Resid1.τ).loc Cert.Resid1.main_arg1) = m ((c.tc : Thread Cert.Resid1.nD Cert.Resid1.τ).loc Cert.Resid1.main_arg1)
      ∧ r.2.mem ((c.tc : Thread Cert.Resid1.nD Cert.Resid1.τ).loc Cert.Resid1.main_arg2) = m ((c.tc : Thread Cert.Resid1.nD Cert.Resid1.τ).loc Cert.Resid1.main_arg2)
      ∧ r.2.mem ((c.tc : Thread Cert.Resid1.nD Cert.Resid1.τ).loc Cert.Resid1.main_arg3) = m ((c.tc : Thread Cert.Resid1.nD Cert.Resid1.τ).loc Cert.Resid1.main_arg3))
      ∧ r.2.sem = fun _ => 0)

def quiescent_Resid1Ideal [hResid1Ideal : Cert.Resid1Ideal.Facts] : Prop :=
  ∀ (m : (ℓ : Loc Cert.Resid1Ideal.nD Cert.Resid1Ideal.τ Cert.Resid1Ideal.sig) → Buf (Elt Ideal) ℓ) (g : Dev Cert.Resid1Ideal.nD → PrngReg), Pre_Resid1Ideal m →
    θ_run (Cert.Resid1Ideal.defs (F := Ideal)) (onTc (τ := Cert.Resid1Ideal.τ) (Cert.Resid1Ideal.main (F := Ideal))) ⟨m, fun _ => 0, g⟩ (fun r => (∀ c : Dev Cert.Resid1Ideal.nD,
      r.2.mem ((c.tc : Thread Cert.Resid1Ideal.nD Cert.Resid1Ideal.τ).loc Cert.Resid1Ideal.main_arg0) = m ((c.tc : Thread Cert.Resid1Ideal.nD Cert.Resid1Ideal.τ).loc Cert.Resid1Ideal.main_arg0)
      ∧ r.2.mem ((c.tc : Thread Cert.Resid1Ideal.nD Cert.Resid1Ideal.τ).loc Cert.Resid1Ideal.main_arg1) = m ((c.tc : Thread Cert.Resid1Ideal.nD Cert.Resid1Ideal.τ).loc Cert.Resid1Ideal.main_arg1)
      ∧ r.2.mem ((c.tc : Thread Cert.Resid1Ideal.nD Cert.Resid1Ideal.τ).loc Cert.Resid1Ideal.main_arg2) = m ((c.tc : Thread Cert.Resid1Ideal.nD Cert.Resid1Ideal.τ).loc Cert.Resid1Ideal.main_arg2)
      ∧ r.2.mem ((c.tc : Thread Cert.Resid1Ideal.nD Cert.Resid1Ideal.τ).loc Cert.Resid1Ideal.main_arg3) = m ((c.tc : Thread Cert.Resid1Ideal.nD Cert.Resid1Ideal.τ).loc Cert.Resid1Ideal.main_arg3))
      ∧ r.2.sem = fun _ => 0)

def quiescent_Resid1ReferenceIdeal [hResid1ReferenceIdeal : Cert.Resid1ReferenceIdeal.Facts] : Prop :=
  ∀ (m : (ℓ : Loc Cert.Resid1ReferenceIdeal.nD Cert.Resid1ReferenceIdeal.τ Cert.Resid1ReferenceIdeal.sig) → Buf (Elt Ideal) ℓ) (g : Dev Cert.Resid1ReferenceIdeal.nD → PrngReg), Pre_Resid1ReferenceIdeal m →
    θ_run (Cert.Resid1ReferenceIdeal.defs (F := Ideal)) (onTc (τ := Cert.Resid1ReferenceIdeal.τ) (Cert.Resid1ReferenceIdeal.main (F := Ideal))) ⟨m, fun _ => 0, g⟩ (fun r => (∀ c : Dev Cert.Resid1ReferenceIdeal.nD,
      r.2.mem ((c.tc : Thread Cert.Resid1ReferenceIdeal.nD Cert.Resid1ReferenceIdeal.τ).loc Cert.Resid1ReferenceIdeal.main_arg0) = m ((c.tc : Thread Cert.Resid1ReferenceIdeal.nD Cert.Resid1ReferenceIdeal.τ).loc Cert.Resid1ReferenceIdeal.main_arg0)
      ∧ r.2.mem ((c.tc : Thread Cert.Resid1ReferenceIdeal.nD Cert.Resid1ReferenceIdeal.τ).loc Cert.Resid1ReferenceIdeal.main_arg1) = m ((c.tc : Thread Cert.Resid1ReferenceIdeal.nD Cert.Resid1ReferenceIdeal.τ).loc Cert.Resid1ReferenceIdeal.main_arg1)
      ∧ r.2.mem ((c.tc : Thread Cert.Resid1ReferenceIdeal.nD Cert.Resid1ReferenceIdeal.τ).loc Cert.Resid1ReferenceIdeal.main_arg2) = m ((c.tc : Thread Cert.Resid1ReferenceIdeal.nD Cert.Resid1ReferenceIdeal.τ).loc Cert.Resid1ReferenceIdeal.main_arg2)
      ∧ r.2.mem ((c.tc : Thread Cert.Resid1ReferenceIdeal.nD Cert.Resid1ReferenceIdeal.τ).loc Cert.Resid1ReferenceIdeal.main_arg3) = m ((c.tc : Thread Cert.Resid1ReferenceIdeal.nD Cert.Resid1ReferenceIdeal.τ).loc Cert.Resid1ReferenceIdeal.main_arg3))
      ∧ r.2.sem = fun _ => 0)

def quiescent_Resid2 [hResid2 : Cert.Resid2.Facts] : Prop :=
  ∀ (m : (ℓ : Loc Cert.Resid2.nD Cert.Resid2.τ Cert.Resid2.sig) → Buf (Elt Bits) ℓ) (g : Dev Cert.Resid2.nD → PrngReg), Pre_Resid2 m →
    θ_run (Cert.Resid2.defs (F := Bits)) (onTc (τ := Cert.Resid2.τ) (Cert.Resid2.main (F := Bits))) ⟨m, fun _ => 0, g⟩ (fun r => (∀ c : Dev Cert.Resid2.nD,
      r.2.mem ((c.tc : Thread Cert.Resid2.nD Cert.Resid2.τ).loc Cert.Resid2.main_arg0) = m ((c.tc : Thread Cert.Resid2.nD Cert.Resid2.τ).loc Cert.Resid2.main_arg0)
      ∧ r.2.mem ((c.tc : Thread Cert.Resid2.nD Cert.Resid2.τ).loc Cert.Resid2.main_arg1) = m ((c.tc : Thread Cert.Resid2.nD Cert.Resid2.τ).loc Cert.Resid2.main_arg1)
      ∧ r.2.mem ((c.tc : Thread Cert.Resid2.nD Cert.Resid2.τ).loc Cert.Resid2.main_arg2) = m ((c.tc : Thread Cert.Resid2.nD Cert.Resid2.τ).loc Cert.Resid2.main_arg2)
      ∧ r.2.mem ((c.tc : Thread Cert.Resid2.nD Cert.Resid2.τ).loc Cert.Resid2.main_arg3) = m ((c.tc : Thread Cert.Resid2.nD Cert.Resid2.τ).loc Cert.Resid2.main_arg3))
      ∧ r.2.sem = fun _ => 0)

def quiescent_Resid2Ideal [hResid2Ideal : Cert.Resid2Ideal.Facts] : Prop :=
  ∀ (m : (ℓ : Loc Cert.Resid2Ideal.nD Cert.Resid2Ideal.τ Cert.Resid2Ideal.sig) → Buf (Elt Ideal) ℓ) (g : Dev Cert.Resid2Ideal.nD → PrngReg), Pre_Resid2Ideal m →
    θ_run (Cert.Resid2Ideal.defs (F := Ideal)) (onTc (τ := Cert.Resid2Ideal.τ) (Cert.Resid2Ideal.main (F := Ideal))) ⟨m, fun _ => 0, g⟩ (fun r => (∀ c : Dev Cert.Resid2Ideal.nD,
      r.2.mem ((c.tc : Thread Cert.Resid2Ideal.nD Cert.Resid2Ideal.τ).loc Cert.Resid2Ideal.main_arg0) = m ((c.tc : Thread Cert.Resid2Ideal.nD Cert.Resid2Ideal.τ).loc Cert.Resid2Ideal.main_arg0)
      ∧ r.2.mem ((c.tc : Thread Cert.Resid2Ideal.nD Cert.Resid2Ideal.τ).loc Cert.Resid2Ideal.main_arg1) = m ((c.tc : Thread Cert.Resid2Ideal.nD Cert.Resid2Ideal.τ).loc Cert.Resid2Ideal.main_arg1)
      ∧ r.2.mem ((c.tc : Thread Cert.Resid2Ideal.nD Cert.Resid2Ideal.τ).loc Cert.Resid2Ideal.main_arg2) = m ((c.tc : Thread Cert.Resid2Ideal.nD Cert.Resid2Ideal.τ).loc Cert.Resid2Ideal.main_arg2)
      ∧ r.2.mem ((c.tc : Thread Cert.Resid2Ideal.nD Cert.Resid2Ideal.τ).loc Cert.Resid2Ideal.main_arg3) = m ((c.tc : Thread Cert.Resid2Ideal.nD Cert.Resid2Ideal.τ).loc Cert.Resid2Ideal.main_arg3))
      ∧ r.2.sem = fun _ => 0)

def quiescent_Resid2ReferenceIdeal [hResid2ReferenceIdeal : Cert.Resid2ReferenceIdeal.Facts] : Prop :=
  ∀ (m : (ℓ : Loc Cert.Resid2ReferenceIdeal.nD Cert.Resid2ReferenceIdeal.τ Cert.Resid2ReferenceIdeal.sig) → Buf (Elt Ideal) ℓ) (g : Dev Cert.Resid2ReferenceIdeal.nD → PrngReg), Pre_Resid2ReferenceIdeal m →
    θ_run (Cert.Resid2ReferenceIdeal.defs (F := Ideal)) (onTc (τ := Cert.Resid2ReferenceIdeal.τ) (Cert.Resid2ReferenceIdeal.main (F := Ideal))) ⟨m, fun _ => 0, g⟩ (fun r => (∀ c : Dev Cert.Resid2ReferenceIdeal.nD,
      r.2.mem ((c.tc : Thread Cert.Resid2ReferenceIdeal.nD Cert.Resid2ReferenceIdeal.τ).loc Cert.Resid2ReferenceIdeal.main_arg0) = m ((c.tc : Thread Cert.Resid2ReferenceIdeal.nD Cert.Resid2ReferenceIdeal.τ).loc Cert.Resid2ReferenceIdeal.main_arg0)
      ∧ r.2.mem ((c.tc : Thread Cert.Resid2ReferenceIdeal.nD Cert.Resid2ReferenceIdeal.τ).loc Cert.Resid2ReferenceIdeal.main_arg1) = m ((c.tc : Thread Cert.Resid2ReferenceIdeal.nD Cert.Resid2ReferenceIdeal.τ).loc Cert.Resid2ReferenceIdeal.main_arg1)
      ∧ r.2.mem ((c.tc : Thread Cert.Resid2ReferenceIdeal.nD Cert.Resid2ReferenceIdeal.τ).loc Cert.Resid2ReferenceIdeal.main_arg2) = m ((c.tc : Thread Cert.Resid2ReferenceIdeal.nD Cert.Resid2ReferenceIdeal.τ).loc Cert.Resid2ReferenceIdeal.main_arg2)
      ∧ r.2.mem ((c.tc : Thread Cert.Resid2ReferenceIdeal.nD Cert.Resid2ReferenceIdeal.τ).loc Cert.Resid2ReferenceIdeal.main_arg3) = m ((c.tc : Thread Cert.Resid2ReferenceIdeal.nD Cert.Resid2ReferenceIdeal.τ).loc Cert.Resid2ReferenceIdeal.main_arg3))
      ∧ r.2.sem = fun _ => 0)

def quiescent_Resid3 [hResid3 : Cert.Resid3.Facts] : Prop :=
  ∀ (m : (ℓ : Loc Cert.Resid3.nD Cert.Resid3.τ Cert.Resid3.sig) → Buf (Elt Bits) ℓ) (g : Dev Cert.Resid3.nD → PrngReg), Pre_Resid3 m →
    θ_run (Cert.Resid3.defs (F := Bits)) (onTc (τ := Cert.Resid3.τ) (Cert.Resid3.main (F := Bits))) ⟨m, fun _ => 0, g⟩ (fun r => (∀ c : Dev Cert.Resid3.nD,
      r.2.mem ((c.tc : Thread Cert.Resid3.nD Cert.Resid3.τ).loc Cert.Resid3.main_arg0) = m ((c.tc : Thread Cert.Resid3.nD Cert.Resid3.τ).loc Cert.Resid3.main_arg0)
      ∧ r.2.mem ((c.tc : Thread Cert.Resid3.nD Cert.Resid3.τ).loc Cert.Resid3.main_arg1) = m ((c.tc : Thread Cert.Resid3.nD Cert.Resid3.τ).loc Cert.Resid3.main_arg1)
      ∧ r.2.mem ((c.tc : Thread Cert.Resid3.nD Cert.Resid3.τ).loc Cert.Resid3.main_arg2) = m ((c.tc : Thread Cert.Resid3.nD Cert.Resid3.τ).loc Cert.Resid3.main_arg2))
      ∧ r.2.sem = fun _ => 0)

def quiescent_Resid3Ideal [hResid3Ideal : Cert.Resid3Ideal.Facts] : Prop :=
  ∀ (m : (ℓ : Loc Cert.Resid3Ideal.nD Cert.Resid3Ideal.τ Cert.Resid3Ideal.sig) → Buf (Elt Ideal) ℓ) (g : Dev Cert.Resid3Ideal.nD → PrngReg), Pre_Resid3Ideal m →
    θ_run (Cert.Resid3Ideal.defs (F := Ideal)) (onTc (τ := Cert.Resid3Ideal.τ) (Cert.Resid3Ideal.main (F := Ideal))) ⟨m, fun _ => 0, g⟩ (fun r => (∀ c : Dev Cert.Resid3Ideal.nD,
      r.2.mem ((c.tc : Thread Cert.Resid3Ideal.nD Cert.Resid3Ideal.τ).loc Cert.Resid3Ideal.main_arg0) = m ((c.tc : Thread Cert.Resid3Ideal.nD Cert.Resid3Ideal.τ).loc Cert.Resid3Ideal.main_arg0)
      ∧ r.2.mem ((c.tc : Thread Cert.Resid3Ideal.nD Cert.Resid3Ideal.τ).loc Cert.Resid3Ideal.main_arg1) = m ((c.tc : Thread Cert.Resid3Ideal.nD Cert.Resid3Ideal.τ).loc Cert.Resid3Ideal.main_arg1)
      ∧ r.2.mem ((c.tc : Thread Cert.Resid3Ideal.nD Cert.Resid3Ideal.τ).loc Cert.Resid3Ideal.main_arg2) = m ((c.tc : Thread Cert.Resid3Ideal.nD Cert.Resid3Ideal.τ).loc Cert.Resid3Ideal.main_arg2))
      ∧ r.2.sem = fun _ => 0)

def quiescent_Resid3ReferenceIdeal [hResid3ReferenceIdeal : Cert.Resid3ReferenceIdeal.Facts] : Prop :=
  ∀ (m : (ℓ : Loc Cert.Resid3ReferenceIdeal.nD Cert.Resid3ReferenceIdeal.τ Cert.Resid3ReferenceIdeal.sig) → Buf (Elt Ideal) ℓ) (g : Dev Cert.Resid3ReferenceIdeal.nD → PrngReg), Pre_Resid3ReferenceIdeal m →
    θ_run (Cert.Resid3ReferenceIdeal.defs (F := Ideal)) (onTc (τ := Cert.Resid3ReferenceIdeal.τ) (Cert.Resid3ReferenceIdeal.main (F := Ideal))) ⟨m, fun _ => 0, g⟩ (fun r => (∀ c : Dev Cert.Resid3ReferenceIdeal.nD,
      r.2.mem ((c.tc : Thread Cert.Resid3ReferenceIdeal.nD Cert.Resid3ReferenceIdeal.τ).loc Cert.Resid3ReferenceIdeal.main_arg0) = m ((c.tc : Thread Cert.Resid3ReferenceIdeal.nD Cert.Resid3ReferenceIdeal.τ).loc Cert.Resid3ReferenceIdeal.main_arg0)
      ∧ r.2.mem ((c.tc : Thread Cert.Resid3ReferenceIdeal.nD Cert.Resid3ReferenceIdeal.τ).loc Cert.Resid3ReferenceIdeal.main_arg1) = m ((c.tc : Thread Cert.Resid3ReferenceIdeal.nD Cert.Resid3ReferenceIdeal.τ).loc Cert.Resid3ReferenceIdeal.main_arg1)
      ∧ r.2.mem ((c.tc : Thread Cert.Resid3ReferenceIdeal.nD Cert.Resid3ReferenceIdeal.τ).loc Cert.Resid3ReferenceIdeal.main_arg2) = m ((c.tc : Thread Cert.Resid3ReferenceIdeal.nD Cert.Resid3ReferenceIdeal.τ).loc Cert.Resid3ReferenceIdeal.main_arg2))
      ∧ r.2.sem = fun _ => 0)

def quiescent_RmsKv [hRmsKv : Cert.RmsKv.Facts] : Prop :=
  ∀ (m : (ℓ : Loc Cert.RmsKv.nD Cert.RmsKv.τ Cert.RmsKv.sig) → Buf (Elt Bits) ℓ) (g : Dev Cert.RmsKv.nD → PrngReg), Pre_RmsKv m →
    θ_run (Cert.RmsKv.defs (F := Bits)) (onTc (τ := Cert.RmsKv.τ) (Cert.RmsKv.main (F := Bits))) ⟨m, fun _ => 0, g⟩ (fun r => (∀ c : Dev Cert.RmsKv.nD,
      r.2.mem ((c.tc : Thread Cert.RmsKv.nD Cert.RmsKv.τ).loc Cert.RmsKv.main_arg0) = m ((c.tc : Thread Cert.RmsKv.nD Cert.RmsKv.τ).loc Cert.RmsKv.main_arg0)
      ∧ r.2.mem ((c.tc : Thread Cert.RmsKv.nD Cert.RmsKv.τ).loc Cert.RmsKv.main_arg1) = m ((c.tc : Thread Cert.RmsKv.nD Cert.RmsKv.τ).loc Cert.RmsKv.main_arg1))
      ∧ r.2.sem = fun _ => 0)

def quiescent_RmsKvIdeal [hRmsKvIdeal : Cert.RmsKvIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg), Pre_RmsKvIdeal m →
    θ_run (Cert.RmsKvIdeal.defs (F := Ideal)) (onTc (τ := Cert.RmsKvIdeal.τ) (Cert.RmsKvIdeal.main (F := Ideal))) ⟨m, fun _ => 0, g⟩ (fun r => (∀ c : Dev Cert.RmsKvIdeal.nD,
      r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
      ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1))
      ∧ r.2.sem = fun _ => 0)

def quiescent_RmsKvReferenceIdeal [hRmsKvReferenceIdeal : Cert.RmsKvReferenceIdeal.Facts] : Prop :=
  ∀ (m : (ℓ : Loc Cert.RmsKvReferenceIdeal.nD Cert.RmsKvReferenceIdeal.τ Cert.RmsKvReferenceIdeal.sig) → Buf (Elt Ideal) ℓ) (g : Dev Cert.RmsKvReferenceIdeal.nD → PrngReg), Pre_RmsKvReferenceIdeal m →
    θ_run (Cert.RmsKvReferenceIdeal.defs (F := Ideal)) (onTc (τ := Cert.RmsKvReferenceIdeal.τ) (Cert.RmsKvReferenceIdeal.main (F := Ideal))) ⟨m, fun _ => 0, g⟩ (fun r => (∀ c : Dev Cert.RmsKvReferenceIdeal.nD,
      r.2.mem ((c.tc : Thread Cert.RmsKvReferenceIdeal.nD Cert.RmsKvReferenceIdeal.τ).loc Cert.RmsKvReferenceIdeal.main_arg0) = m ((c.tc : Thread Cert.RmsKvReferenceIdeal.nD Cert.RmsKvReferenceIdeal.τ).loc Cert.RmsKvReferenceIdeal.main_arg0)
      ∧ r.2.mem ((c.tc : Thread Cert.RmsKvReferenceIdeal.nD Cert.RmsKvReferenceIdeal.τ).loc Cert.RmsKvReferenceIdeal.main_arg1) = m ((c.tc : Thread Cert.RmsKvReferenceIdeal.nD Cert.RmsKvReferenceIdeal.τ).loc Cert.RmsKvReferenceIdeal.main_arg1))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedIdeal_pre_embed_finite [hEmbedIdeal : Cert.EmbedIdeal.Facts] [hPre_embed_finite : Cert.Pre_embed_finite.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal_embed_finite m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2))
      ∧ r.2.sem = fun _ => 0)

def quiescent_EmbedReferenceIdeal_pre_embed_finite [hEmbedReferenceIdeal : Cert.EmbedReferenceIdeal.Facts] [hPre_embed_finite : Cert.Pre_embed_finite.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal_embed_finite m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2))
      ∧ r.2.sem = fun _ => 0)

def quiescent_RmsCq [hRmsCq : Cert.RmsCq.Facts] : Prop :=
  ∀ (m : (ℓ : Loc Cert.RmsCq.nD Cert.RmsCq.τ Cert.RmsCq.sig) → Buf (Elt Bits) ℓ) (g : Dev Cert.RmsCq.nD → PrngReg), Pre_RmsCq m →
    θ_run (Cert.RmsCq.defs (F := Bits)) (onTc (τ := Cert.RmsCq.τ) (Cert.RmsCq.main (F := Bits))) ⟨m, fun _ => 0, g⟩ (fun r => (∀ c : Dev Cert.RmsCq.nD,
      r.2.mem ((c.tc : Thread Cert.RmsCq.nD Cert.RmsCq.τ).loc Cert.RmsCq.main_arg0) = m ((c.tc : Thread Cert.RmsCq.nD Cert.RmsCq.τ).loc Cert.RmsCq.main_arg0)
      ∧ r.2.mem ((c.tc : Thread Cert.RmsCq.nD Cert.RmsCq.τ).loc Cert.RmsCq.main_arg1) = m ((c.tc : Thread Cert.RmsCq.nD Cert.RmsCq.τ).loc Cert.RmsCq.main_arg1))
      ∧ r.2.sem = fun _ => 0)

def quiescent_RmsCqIdeal [hRmsCqIdeal : Cert.RmsCqIdeal.Facts] : Prop :=
  ∀ (m : (ℓ : Loc Cert.RmsCqIdeal.nD Cert.RmsCqIdeal.τ Cert.RmsCqIdeal.sig) → Buf (Elt Ideal) ℓ) (g : Dev Cert.RmsCqIdeal.nD → PrngReg), Pre_RmsCqIdeal m →
    θ_run (Cert.RmsCqIdeal.defs (F := Ideal)) (onTc (τ := Cert.RmsCqIdeal.τ) (Cert.RmsCqIdeal.main (F := Ideal))) ⟨m, fun _ => 0, g⟩ (fun r => (∀ c : Dev Cert.RmsCqIdeal.nD,
      r.2.mem ((c.tc : Thread Cert.RmsCqIdeal.nD Cert.RmsCqIdeal.τ).loc Cert.RmsCqIdeal.main_arg0) = m ((c.tc : Thread Cert.RmsCqIdeal.nD Cert.RmsCqIdeal.τ).loc Cert.RmsCqIdeal.main_arg0)
      ∧ r.2.mem ((c.tc : Thread Cert.RmsCqIdeal.nD Cert.RmsCqIdeal.τ).loc Cert.RmsCqIdeal.main_arg1) = m ((c.tc : Thread Cert.RmsCqIdeal.nD Cert.RmsCqIdeal.τ).loc Cert.RmsCqIdeal.main_arg1))
      ∧ r.2.sem = fun _ => 0)

def quiescent_RmsCqIdeal_pre_rms_cq_finite [hRmsCqIdeal : Cert.RmsCqIdeal.Facts] [hPre_rms_cq_finite : Cert.Pre_rms_cq_finite.Facts] : Prop :=
  ∀ (m : (ℓ : Loc Cert.RmsCqIdeal.nD Cert.RmsCqIdeal.τ Cert.RmsCqIdeal.sig) → Buf (Elt Ideal) ℓ) (g : Dev Cert.RmsCqIdeal.nD → PrngReg), Pre_RmsCqIdeal_rms_cq_finite m →
    θ_run (Cert.RmsCqIdeal.defs (F := Ideal)) (onTc (τ := Cert.RmsCqIdeal.τ) (Cert.RmsCqIdeal.main (F := Ideal))) ⟨m, fun _ => 0, g⟩ (fun r => (∀ c : Dev Cert.RmsCqIdeal.nD,
      r.2.mem ((c.tc : Thread Cert.RmsCqIdeal.nD Cert.RmsCqIdeal.τ).loc Cert.RmsCqIdeal.main_arg0) = m ((c.tc : Thread Cert.RmsCqIdeal.nD Cert.RmsCqIdeal.τ).loc Cert.RmsCqIdeal.main_arg0)
      ∧ r.2.mem ((c.tc : Thread Cert.RmsCqIdeal.nD Cert.RmsCqIdeal.τ).loc Cert.RmsCqIdeal.main_arg1) = m ((c.tc : Thread Cert.RmsCqIdeal.nD Cert.RmsCqIdeal.τ).loc Cert.RmsCqIdeal.main_arg1))
      ∧ r.2.sem = fun _ => 0)

def quiescent_RmsCqReferenceIdeal [hRmsCqReferenceIdeal : Cert.RmsCqReferenceIdeal.Facts] : Prop :=
  ∀ (m : (ℓ : Loc Cert.RmsCqReferenceIdeal.nD Cert.RmsCqReferenceIdeal.τ Cert.RmsCqReferenceIdeal.sig) → Buf (Elt Ideal) ℓ) (g : Dev Cert.RmsCqReferenceIdeal.nD → PrngReg), Pre_RmsCqReferenceIdeal m →
    θ_run (Cert.RmsCqReferenceIdeal.defs (F := Ideal)) (onTc (τ := Cert.RmsCqReferenceIdeal.τ) (Cert.RmsCqReferenceIdeal.main (F := Ideal))) ⟨m, fun _ => 0, g⟩ (fun r => (∀ c : Dev Cert.RmsCqReferenceIdeal.nD,
      r.2.mem ((c.tc : Thread Cert.RmsCqReferenceIdeal.nD Cert.RmsCqReferenceIdeal.τ).loc Cert.RmsCqReferenceIdeal.main_arg0) = m ((c.tc : Thread Cert.RmsCqReferenceIdeal.nD Cert.RmsCqReferenceIdeal.τ).loc Cert.RmsCqReferenceIdeal.main_arg0)
      ∧ r.2.mem ((c.tc : Thread Cert.RmsCqReferenceIdeal.nD Cert.RmsCqReferenceIdeal.τ).loc Cert.RmsCqReferenceIdeal.main_arg1) = m ((c.tc : Thread Cert.RmsCqReferenceIdeal.nD Cert.RmsCqReferenceIdeal.τ).loc Cert.RmsCqReferenceIdeal.main_arg1))
      ∧ r.2.sem = fun _ => 0)

def quiescent_RmsCqReferenceIdeal_pre_rms_cq_finite [hRmsCqReferenceIdeal : Cert.RmsCqReferenceIdeal.Facts] [hPre_rms_cq_finite : Cert.Pre_rms_cq_finite.Facts] : Prop :=
  ∀ (m : (ℓ : Loc Cert.RmsCqReferenceIdeal.nD Cert.RmsCqReferenceIdeal.τ Cert.RmsCqReferenceIdeal.sig) → Buf (Elt Ideal) ℓ) (g : Dev Cert.RmsCqReferenceIdeal.nD → PrngReg), Pre_RmsCqReferenceIdeal_rms_cq_finite m →
    θ_run (Cert.RmsCqReferenceIdeal.defs (F := Ideal)) (onTc (τ := Cert.RmsCqReferenceIdeal.τ) (Cert.RmsCqReferenceIdeal.main (F := Ideal))) ⟨m, fun _ => 0, g⟩ (fun r => (∀ c : Dev Cert.RmsCqReferenceIdeal.nD,
      r.2.mem ((c.tc : Thread Cert.RmsCqReferenceIdeal.nD Cert.RmsCqReferenceIdeal.τ).loc Cert.RmsCqReferenceIdeal.main_arg0) = m ((c.tc : Thread Cert.RmsCqReferenceIdeal.nD Cert.RmsCqReferenceIdeal.τ).loc Cert.RmsCqReferenceIdeal.main_arg0)
      ∧ r.2.mem ((c.tc : Thread Cert.RmsCqReferenceIdeal.nD Cert.RmsCqReferenceIdeal.τ).loc Cert.RmsCqReferenceIdeal.main_arg1) = m ((c.tc : Thread Cert.RmsCqReferenceIdeal.nD Cert.RmsCqReferenceIdeal.τ).loc Cert.RmsCqReferenceIdeal.main_arg1))
      ∧ r.2.sem = fun _ => 0)

def quiescent_Kidx [hKidx : Cert.Kidx.Facts] : Prop :=
  ∀ (m : (ℓ : Loc Cert.Kidx.nD Cert.Kidx.τ Cert.Kidx.sig) → Buf (Elt Bits) ℓ) (g : Dev Cert.Kidx.nD → PrngReg), Pre_Kidx m →
    θ_run (Cert.Kidx.defs (F := Bits)) (onTc (τ := Cert.Kidx.τ) (Cert.Kidx.main (F := Bits))) ⟨m, fun _ => 0, g⟩ (fun r => (∀ c : Dev Cert.Kidx.nD,
      r.2.mem ((c.tc : Thread Cert.Kidx.nD Cert.Kidx.τ).loc Cert.Kidx.main_arg0) = m ((c.tc : Thread Cert.Kidx.nD Cert.Kidx.τ).loc Cert.Kidx.main_arg0)
      ∧ r.2.mem ((c.tc : Thread Cert.Kidx.nD Cert.Kidx.τ).loc Cert.Kidx.main_arg1) = m ((c.tc : Thread Cert.Kidx.nD Cert.Kidx.τ).loc Cert.Kidx.main_arg1))
      ∧ r.2.sem = fun _ => 0)

def quiescent_KidxIdeal [hKidxIdeal : Cert.KidxIdeal.Facts] : Prop :=
  ∀ (m : (ℓ : Loc Cert.KidxIdeal.nD Cert.KidxIdeal.τ Cert.KidxIdeal.sig) → Buf (Elt Ideal) ℓ) (g : Dev Cert.KidxIdeal.nD → PrngReg), Pre_KidxIdeal m →
    θ_run (Cert.KidxIdeal.defs (F := Ideal)) (onTc (τ := Cert.KidxIdeal.τ) (Cert.KidxIdeal.main (F := Ideal))) ⟨m, fun _ => 0, g⟩ (fun r => (∀ c : Dev Cert.KidxIdeal.nD,
      r.2.mem ((c.tc : Thread Cert.KidxIdeal.nD Cert.KidxIdeal.τ).loc Cert.KidxIdeal.main_arg0) = m ((c.tc : Thread Cert.KidxIdeal.nD Cert.KidxIdeal.τ).loc Cert.KidxIdeal.main_arg0)
      ∧ r.2.mem ((c.tc : Thread Cert.KidxIdeal.nD Cert.KidxIdeal.τ).loc Cert.KidxIdeal.main_arg1) = m ((c.tc : Thread Cert.KidxIdeal.nD Cert.KidxIdeal.τ).loc Cert.KidxIdeal.main_arg1))
      ∧ r.2.sem = fun _ => 0)

def quiescent_KidxIdeal_pre_kidx_finite [hKidxIdeal : Cert.KidxIdeal.Facts] [hPre_kidx_finite : Cert.Pre_kidx_finite.Facts] : Prop :=
  ∀ (m : (ℓ : Loc Cert.KidxIdeal.nD Cert.KidxIdeal.τ Cert.KidxIdeal.sig) → Buf (Elt Ideal) ℓ) (g : Dev Cert.KidxIdeal.nD → PrngReg), Pre_KidxIdeal_kidx_finite m →
    θ_run (Cert.KidxIdeal.defs (F := Ideal)) (onTc (τ := Cert.KidxIdeal.τ) (Cert.KidxIdeal.main (F := Ideal))) ⟨m, fun _ => 0, g⟩ (fun r => (∀ c : Dev Cert.KidxIdeal.nD,
      r.2.mem ((c.tc : Thread Cert.KidxIdeal.nD Cert.KidxIdeal.τ).loc Cert.KidxIdeal.main_arg0) = m ((c.tc : Thread Cert.KidxIdeal.nD Cert.KidxIdeal.τ).loc Cert.KidxIdeal.main_arg0)
      ∧ r.2.mem ((c.tc : Thread Cert.KidxIdeal.nD Cert.KidxIdeal.τ).loc Cert.KidxIdeal.main_arg1) = m ((c.tc : Thread Cert.KidxIdeal.nD Cert.KidxIdeal.τ).loc Cert.KidxIdeal.main_arg1))
      ∧ r.2.sem = fun _ => 0)

def quiescent_KidxReferenceIdeal [hKidxReferenceIdeal : Cert.KidxReferenceIdeal.Facts] : Prop :=
  ∀ (m : (ℓ : Loc Cert.KidxReferenceIdeal.nD Cert.KidxReferenceIdeal.τ Cert.KidxReferenceIdeal.sig) → Buf (Elt Ideal) ℓ) (g : Dev Cert.KidxReferenceIdeal.nD → PrngReg), Pre_KidxReferenceIdeal m →
    θ_run (Cert.KidxReferenceIdeal.defs (F := Ideal)) (onTc (τ := Cert.KidxReferenceIdeal.τ) (Cert.KidxReferenceIdeal.main (F := Ideal))) ⟨m, fun _ => 0, g⟩ (fun r => (∀ c : Dev Cert.KidxReferenceIdeal.nD,
      r.2.mem ((c.tc : Thread Cert.KidxReferenceIdeal.nD Cert.KidxReferenceIdeal.τ).loc Cert.KidxReferenceIdeal.main_arg0) = m ((c.tc : Thread Cert.KidxReferenceIdeal.nD Cert.KidxReferenceIdeal.τ).loc Cert.KidxReferenceIdeal.main_arg0)
      ∧ r.2.mem ((c.tc : Thread Cert.KidxReferenceIdeal.nD Cert.KidxReferenceIdeal.τ).loc Cert.KidxReferenceIdeal.main_arg1) = m ((c.tc : Thread Cert.KidxReferenceIdeal.nD Cert.KidxReferenceIdeal.τ).loc Cert.KidxReferenceIdeal.main_arg1))
      ∧ r.2.sem = fun _ => 0)

def quiescent_KidxReferenceIdeal_pre_kidx_finite [hKidxReferenceIdeal : Cert.KidxReferenceIdeal.Facts] [hPre_kidx_finite : Cert.Pre_kidx_finite.Facts] : Prop :=
  ∀ (m : (ℓ : Loc Cert.KidxReferenceIdeal.nD Cert.KidxReferenceIdeal.τ Cert.KidxReferenceIdeal.sig) → Buf (Elt Ideal) ℓ) (g : Dev Cert.KidxReferenceIdeal.nD → PrngReg), Pre_KidxReferenceIdeal_kidx_finite m →
    θ_run (Cert.KidxReferenceIdeal.defs (F := Ideal)) (onTc (τ := Cert.KidxReferenceIdeal.τ) (Cert.KidxReferenceIdeal.main (F := Ideal))) ⟨m, fun _ => 0, g⟩ (fun r => (∀ c : Dev Cert.KidxReferenceIdeal.nD,
      r.2.mem ((c.tc : Thread Cert.KidxReferenceIdeal.nD Cert.KidxReferenceIdeal.τ).loc Cert.KidxReferenceIdeal.main_arg0) = m ((c.tc : Thread Cert.KidxReferenceIdeal.nD Cert.KidxReferenceIdeal.τ).loc Cert.KidxReferenceIdeal.main_arg0)
      ∧ r.2.mem ((c.tc : Thread Cert.KidxReferenceIdeal.nD Cert.KidxReferenceIdeal.τ).loc Cert.KidxReferenceIdeal.main_arg1) = m ((c.tc : Thread Cert.KidxReferenceIdeal.nD Cert.KidxReferenceIdeal.τ).loc Cert.KidxReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_FfnAct0_FfnAct0Ideal : Prop :=
  True

def algebraic_FfnAct0Ideal_FfnAct0ReferenceIdeal [hFfnAct0Ideal : Cert.FfnAct0Ideal.Facts] [hFfnAct0ReferenceIdeal : Cert.FfnAct0ReferenceIdeal.Facts] : Prop :=
  ∀ (m : (ℓ : Loc Cert.FfnAct0Ideal.nD Cert.FfnAct0Ideal.τ Cert.FfnAct0Ideal.sig) → Buf (Elt Ideal) ℓ) (g : Dev Cert.FfnAct0Ideal.nD → PrngReg)
    (m' : (ℓ : Loc Cert.FfnAct0ReferenceIdeal.nD Cert.FfnAct0ReferenceIdeal.τ Cert.FfnAct0ReferenceIdeal.sig) → Buf (Elt Ideal) ℓ) (g' : Dev Cert.FfnAct0ReferenceIdeal.nD → PrngReg), Pre_FfnAct0Ideal m →
    (∀ c : Dev Cert.FfnAct0Ideal.nD,
      m' ((c.tc : Thread Cert.FfnAct0ReferenceIdeal.nD Cert.FfnAct0ReferenceIdeal.τ).loc Cert.FfnAct0ReferenceIdeal.main_arg0) = m ((c.tc : Thread Cert.FfnAct0Ideal.nD Cert.FfnAct0Ideal.τ).loc Cert.FfnAct0Ideal.main_arg0)
      ∧ m' ((c.tc : Thread Cert.FfnAct0ReferenceIdeal.nD Cert.FfnAct0ReferenceIdeal.τ).loc Cert.FfnAct0ReferenceIdeal.main_arg1) = m ((c.tc : Thread Cert.FfnAct0Ideal.nD Cert.FfnAct0Ideal.τ).loc Cert.FfnAct0Ideal.main_arg1)
      ∧ m' ((c.tc : Thread Cert.FfnAct0ReferenceIdeal.nD Cert.FfnAct0ReferenceIdeal.τ).loc Cert.FfnAct0ReferenceIdeal.main_arg2) = m ((c.tc : Thread Cert.FfnAct0Ideal.nD Cert.FfnAct0Ideal.τ).loc Cert.FfnAct0Ideal.main_arg2)) →
    ∃ (v0 : (c : Dev Cert.FfnAct0Ideal.nD) → Buf (Elt Ideal) ((c.tc : Thread Cert.FfnAct0Ideal.nD Cert.FfnAct0Ideal.τ).loc Cert.FfnAct0Ideal.main_v0)),
      θ_run (Cert.FfnAct0Ideal.defs (F := Ideal)) (onTc (τ := Cert.FfnAct0Ideal.τ) (Cert.FfnAct0Ideal.main (F := Ideal))) ⟨m, fun _ => 0, g⟩ (fun r => ∀ c : Dev Cert.FfnAct0Ideal.nD,
          r.2.mem ((c.tc : Thread Cert.FfnAct0Ideal.nD Cert.FfnAct0Ideal.τ).loc Cert.FfnAct0Ideal.main_v0) = v0 c
          ∧ r.2.mem ((c.tc : Thread Cert.FfnAct0Ideal.nD Cert.FfnAct0Ideal.τ).loc Cert.FfnAct0Ideal.main_arg0) = m ((c.tc : Thread Cert.FfnAct0Ideal.nD Cert.FfnAct0Ideal.τ).loc Cert.FfnAct0Ideal.main_arg0)
          ∧ r.2.mem ((c.tc : Thread Cert.FfnAct0Ideal.nD Cert.FfnAct0Ideal.τ).loc Cert.FfnAct0Ideal.main_arg1) = m ((c.tc : Thread Cert.FfnAct0Ideal.nD Cert.FfnAct0Ideal.τ).loc Cert.FfnAct0Ideal.main_arg1)
          ∧ r.2.mem ((c.tc : Thread Cert.FfnAct0Ideal.nD Cert.FfnAct0Ideal.τ).loc Cert.FfnAct0Ideal.main_arg2) = m ((c.tc : Thread Cert.FfnAct0Ideal.nD Cert.FfnAct0Ideal.τ).loc Cert.FfnAct0Ideal.main_arg2))
      ∧ θ_run (Cert.FfnAct0ReferenceIdeal.defs (F := Ideal)) (onTc (τ := Cert.FfnAct0ReferenceIdeal.τ) (Cert.FfnAct0ReferenceIdeal.main (F := Ideal))) ⟨m', fun _ => 0, g'⟩ (fun r => ∀ c : Dev Cert.FfnAct0ReferenceIdeal.nD,
          r.2.mem ((c.tc : Thread Cert.FfnAct0ReferenceIdeal.nD Cert.FfnAct0ReferenceIdeal.τ).loc Cert.FfnAct0ReferenceIdeal.main_v9) = v0 c
          ∧ r.2.mem ((c.tc : Thread Cert.FfnAct0ReferenceIdeal.nD Cert.FfnAct0ReferenceIdeal.τ).loc Cert.FfnAct0ReferenceIdeal.main_arg0) = m' ((c.tc : Thread Cert.FfnAct0ReferenceIdeal.nD Cert.FfnAct0ReferenceIdeal.τ).loc Cert.FfnAct0ReferenceIdeal.main_arg0)
          ∧ r.2.mem ((c.tc : Thread Cert.FfnAct0ReferenceIdeal.nD Cert.FfnAct0ReferenceIdeal.τ).loc Cert.FfnAct0ReferenceIdeal.main_arg1) = m' ((c.tc : Thread Cert.FfnAct0ReferenceIdeal.nD Cert.FfnAct0ReferenceIdeal.τ).loc Cert.FfnAct0ReferenceIdeal.main_arg1)
          ∧ r.2.mem ((c.tc : Thread Cert.FfnAct0ReferenceIdeal.nD Cert.FfnAct0ReferenceIdeal.τ).loc Cert.FfnAct0ReferenceIdeal.main_arg2) = m' ((c.tc : Thread Cert.FfnAct0ReferenceIdeal.nD Cert.FfnAct0ReferenceIdeal.τ).loc Cert.FfnAct0ReferenceIdeal.main_arg2))

def preserves_FfnDown0_FfnDown0Ideal : Prop :=
  True

def algebraic_FfnDown0Ideal_FfnDown0ReferenceIdeal [hFfnDown0Ideal : Cert.FfnDown0Ideal.Facts] [hFfnDown0ReferenceIdeal : Cert.FfnDown0ReferenceIdeal.Facts] : Prop :=
  ∀ (m : (ℓ : Loc Cert.FfnDown0Ideal.nD Cert.FfnDown0Ideal.τ Cert.FfnDown0Ideal.sig) → Buf (Elt Ideal) ℓ) (g : Dev Cert.FfnDown0Ideal.nD → PrngReg)
    (m' : (ℓ : Loc Cert.FfnDown0ReferenceIdeal.nD Cert.FfnDown0ReferenceIdeal.τ Cert.FfnDown0ReferenceIdeal.sig) → Buf (Elt Ideal) ℓ) (g' : Dev Cert.FfnDown0ReferenceIdeal.nD → PrngReg), Pre_FfnDown0Ideal m →
    (∀ c : Dev Cert.FfnDown0Ideal.nD,
      m' ((c.tc : Thread Cert.FfnDown0ReferenceIdeal.nD Cert.FfnDown0ReferenceIdeal.τ).loc Cert.FfnDown0ReferenceIdeal.main_arg0) = m ((c.tc : Thread Cert.FfnDown0Ideal.nD Cert.FfnDown0Ideal.τ).loc Cert.FfnDown0Ideal.main_arg0)
      ∧ m' ((c.tc : Thread Cert.FfnDown0ReferenceIdeal.nD Cert.FfnDown0ReferenceIdeal.τ).loc Cert.FfnDown0ReferenceIdeal.main_arg1) = m ((c.tc : Thread Cert.FfnDown0Ideal.nD Cert.FfnDown0Ideal.τ).loc Cert.FfnDown0Ideal.main_arg1)) →
    ∃ (v0 : (c : Dev Cert.FfnDown0Ideal.nD) → Buf (Elt Ideal) ((c.tc : Thread Cert.FfnDown0Ideal.nD Cert.FfnDown0Ideal.τ).loc Cert.FfnDown0Ideal.main_v0)),
      θ_run (Cert.FfnDown0Ideal.defs (F := Ideal)) (onTc (τ := Cert.FfnDown0Ideal.τ) (Cert.FfnDown0Ideal.main (F := Ideal))) ⟨m, fun _ => 0, g⟩ (fun r => ∀ c : Dev Cert.FfnDown0Ideal.nD,
          r.2.mem ((c.tc : Thread Cert.FfnDown0Ideal.nD Cert.FfnDown0Ideal.τ).loc Cert.FfnDown0Ideal.main_v0) = v0 c
          ∧ r.2.mem ((c.tc : Thread Cert.FfnDown0Ideal.nD Cert.FfnDown0Ideal.τ).loc Cert.FfnDown0Ideal.main_arg0) = m ((c.tc : Thread Cert.FfnDown0Ideal.nD Cert.FfnDown0Ideal.τ).loc Cert.FfnDown0Ideal.main_arg0)
          ∧ r.2.mem ((c.tc : Thread Cert.FfnDown0Ideal.nD Cert.FfnDown0Ideal.τ).loc Cert.FfnDown0Ideal.main_arg1) = m ((c.tc : Thread Cert.FfnDown0Ideal.nD Cert.FfnDown0Ideal.τ).loc Cert.FfnDown0Ideal.main_arg1))
      ∧ θ_run (Cert.FfnDown0ReferenceIdeal.defs (F := Ideal)) (onTc (τ := Cert.FfnDown0ReferenceIdeal.τ) (Cert.FfnDown0ReferenceIdeal.main (F := Ideal))) ⟨m', fun _ => 0, g'⟩ (fun r => ∀ c : Dev Cert.FfnDown0ReferenceIdeal.nD,
          r.2.mem ((c.tc : Thread Cert.FfnDown0ReferenceIdeal.nD Cert.FfnDown0ReferenceIdeal.τ).loc Cert.FfnDown0ReferenceIdeal.main_v4) = v0 c
          ∧ r.2.mem ((c.tc : Thread Cert.FfnDown0ReferenceIdeal.nD Cert.FfnDown0ReferenceIdeal.τ).loc Cert.FfnDown0ReferenceIdeal.main_arg0) = m' ((c.tc : Thread Cert.FfnDown0ReferenceIdeal.nD Cert.FfnDown0ReferenceIdeal.τ).loc Cert.FfnDown0ReferenceIdeal.main_arg0)
          ∧ r.2.mem ((c.tc : Thread Cert.FfnDown0ReferenceIdeal.nD Cert.FfnDown0ReferenceIdeal.τ).loc Cert.FfnDown0ReferenceIdeal.main_arg1) = m' ((c.tc : Thread Cert.FfnDown0ReferenceIdeal.nD Cert.FfnDown0ReferenceIdeal.τ).loc Cert.FfnDown0ReferenceIdeal.main_arg1))

def preserves_FfnAct1_FfnAct1Ideal : Prop :=
  True

def algebraic_FfnAct1Ideal_FfnAct1ReferenceIdeal [hFfnAct1Ideal : Cert.FfnAct1Ideal.Facts] [hFfnAct1ReferenceIdeal : Cert.FfnAct1ReferenceIdeal.Facts] : Prop :=
  ∀ (m : (ℓ : Loc Cert.FfnAct1Ideal.nD Cert.FfnAct1Ideal.τ Cert.FfnAct1Ideal.sig) → Buf (Elt Ideal) ℓ) (g : Dev Cert.FfnAct1Ideal.nD → PrngReg)
    (m' : (ℓ : Loc Cert.FfnAct1ReferenceIdeal.nD Cert.FfnAct1ReferenceIdeal.τ Cert.FfnAct1ReferenceIdeal.sig) → Buf (Elt Ideal) ℓ) (g' : Dev Cert.FfnAct1ReferenceIdeal.nD → PrngReg), Pre_FfnAct1Ideal m →
    (∀ c : Dev Cert.FfnAct1Ideal.nD,
      m' ((c.tc : Thread Cert.FfnAct1ReferenceIdeal.nD Cert.FfnAct1ReferenceIdeal.τ).loc Cert.FfnAct1ReferenceIdeal.main_arg0) = m ((c.tc : Thread Cert.FfnAct1Ideal.nD Cert.FfnAct1Ideal.τ).loc Cert.FfnAct1Ideal.main_arg0)
      ∧ m' ((c.tc : Thread Cert.FfnAct1ReferenceIdeal.nD Cert.FfnAct1ReferenceIdeal.τ).loc Cert.FfnAct1ReferenceIdeal.main_arg1) = m ((c.tc : Thread Cert.FfnAct1Ideal.nD Cert.FfnAct1Ideal.τ).loc Cert.FfnAct1Ideal.main_arg1)
      ∧ m' ((c.tc : Thread Cert.FfnAct1ReferenceIdeal.nD Cert.FfnAct1ReferenceIdeal.τ).loc Cert.FfnAct1ReferenceIdeal.main_arg2) = m ((c.tc : Thread Cert.FfnAct1Ideal.nD Cert.FfnAct1Ideal.τ).loc Cert.FfnAct1Ideal.main_arg2)) →
    ∃ (v0 : (c : Dev Cert.FfnAct1Ideal.nD) → Buf (Elt Ideal) ((c.tc : Thread Cert.FfnAct1Ideal.nD Cert.FfnAct1Ideal.τ).loc Cert.FfnAct1Ideal.main_v0)),
      θ_run (Cert.FfnAct1Ideal.defs (F := Ideal)) (onTc (τ := Cert.FfnAct1Ideal.τ) (Cert.FfnAct1Ideal.main (F := Ideal))) ⟨m, fun _ => 0, g⟩ (fun r => ∀ c : Dev Cert.FfnAct1Ideal.nD,
          r.2.mem ((c.tc : Thread Cert.FfnAct1Ideal.nD Cert.FfnAct1Ideal.τ).loc Cert.FfnAct1Ideal.main_v0) = v0 c
          ∧ r.2.mem ((c.tc : Thread Cert.FfnAct1Ideal.nD Cert.FfnAct1Ideal.τ).loc Cert.FfnAct1Ideal.main_arg0) = m ((c.tc : Thread Cert.FfnAct1Ideal.nD Cert.FfnAct1Ideal.τ).loc Cert.FfnAct1Ideal.main_arg0)
          ∧ r.2.mem ((c.tc : Thread Cert.FfnAct1Ideal.nD Cert.FfnAct1Ideal.τ).loc Cert.FfnAct1Ideal.main_arg1) = m ((c.tc : Thread Cert.FfnAct1Ideal.nD Cert.FfnAct1Ideal.τ).loc Cert.FfnAct1Ideal.main_arg1)
          ∧ r.2.mem ((c.tc : Thread Cert.FfnAct1Ideal.nD Cert.FfnAct1Ideal.τ).loc Cert.FfnAct1Ideal.main_arg2) = m ((c.tc : Thread Cert.FfnAct1Ideal.nD Cert.FfnAct1Ideal.τ).loc Cert.FfnAct1Ideal.main_arg2))
      ∧ θ_run (Cert.FfnAct1ReferenceIdeal.defs (F := Ideal)) (onTc (τ := Cert.FfnAct1ReferenceIdeal.τ) (Cert.FfnAct1ReferenceIdeal.main (F := Ideal))) ⟨m', fun _ => 0, g'⟩ (fun r => ∀ c : Dev Cert.FfnAct1ReferenceIdeal.nD,
          r.2.mem ((c.tc : Thread Cert.FfnAct1ReferenceIdeal.nD Cert.FfnAct1ReferenceIdeal.τ).loc Cert.FfnAct1ReferenceIdeal.main_v9) = v0 c
          ∧ r.2.mem ((c.tc : Thread Cert.FfnAct1ReferenceIdeal.nD Cert.FfnAct1ReferenceIdeal.τ).loc Cert.FfnAct1ReferenceIdeal.main_arg0) = m' ((c.tc : Thread Cert.FfnAct1ReferenceIdeal.nD Cert.FfnAct1ReferenceIdeal.τ).loc Cert.FfnAct1ReferenceIdeal.main_arg0)
          ∧ r.2.mem ((c.tc : Thread Cert.FfnAct1ReferenceIdeal.nD Cert.FfnAct1ReferenceIdeal.τ).loc Cert.FfnAct1ReferenceIdeal.main_arg1) = m' ((c.tc : Thread Cert.FfnAct1ReferenceIdeal.nD Cert.FfnAct1ReferenceIdeal.τ).loc Cert.FfnAct1ReferenceIdeal.main_arg1)
          ∧ r.2.mem ((c.tc : Thread Cert.FfnAct1ReferenceIdeal.nD Cert.FfnAct1ReferenceIdeal.τ).loc Cert.FfnAct1ReferenceIdeal.main_arg2) = m' ((c.tc : Thread Cert.FfnAct1ReferenceIdeal.nD Cert.FfnAct1ReferenceIdeal.τ).loc Cert.FfnAct1ReferenceIdeal.main_arg2))

def preserves_FfnDown1_FfnDown1Ideal : Prop :=
  True

def algebraic_FfnDown1Ideal_FfnDown1ReferenceIdeal [hFfnDown1Ideal : Cert.FfnDown1Ideal.Facts] [hFfnDown1ReferenceIdeal : Cert.FfnDown1ReferenceIdeal.Facts] : Prop :=
  ∀ (m : (ℓ : Loc Cert.FfnDown1Ideal.nD Cert.FfnDown1Ideal.τ Cert.FfnDown1Ideal.sig) → Buf (Elt Ideal) ℓ) (g : Dev Cert.FfnDown1Ideal.nD → PrngReg)
    (m' : (ℓ : Loc Cert.FfnDown1ReferenceIdeal.nD Cert.FfnDown1ReferenceIdeal.τ Cert.FfnDown1ReferenceIdeal.sig) → Buf (Elt Ideal) ℓ) (g' : Dev Cert.FfnDown1ReferenceIdeal.nD → PrngReg), Pre_FfnDown1Ideal m →
    (∀ c : Dev Cert.FfnDown1Ideal.nD,
      m' ((c.tc : Thread Cert.FfnDown1ReferenceIdeal.nD Cert.FfnDown1ReferenceIdeal.τ).loc Cert.FfnDown1ReferenceIdeal.main_arg0) = m ((c.tc : Thread Cert.FfnDown1Ideal.nD Cert.FfnDown1Ideal.τ).loc Cert.FfnDown1Ideal.main_arg0)
      ∧ m' ((c.tc : Thread Cert.FfnDown1ReferenceIdeal.nD Cert.FfnDown1ReferenceIdeal.τ).loc Cert.FfnDown1ReferenceIdeal.main_arg1) = m ((c.tc : Thread Cert.FfnDown1Ideal.nD Cert.FfnDown1Ideal.τ).loc Cert.FfnDown1Ideal.main_arg1)) →
    ∃ (v0 : (c : Dev Cert.FfnDown1Ideal.nD) → Buf (Elt Ideal) ((c.tc : Thread Cert.FfnDown1Ideal.nD Cert.FfnDown1Ideal.τ).loc Cert.FfnDown1Ideal.main_v0)),
      θ_run (Cert.FfnDown1Ideal.defs (F := Ideal)) (onTc (τ := Cert.FfnDown1Ideal.τ) (Cert.FfnDown1Ideal.main (F := Ideal))) ⟨m, fun _ => 0, g⟩ (fun r => ∀ c : Dev Cert.FfnDown1Ideal.nD,
          r.2.mem ((c.tc : Thread Cert.FfnDown1Ideal.nD Cert.FfnDown1Ideal.τ).loc Cert.FfnDown1Ideal.main_v0) = v0 c
          ∧ r.2.mem ((c.tc : Thread Cert.FfnDown1Ideal.nD Cert.FfnDown1Ideal.τ).loc Cert.FfnDown1Ideal.main_arg0) = m ((c.tc : Thread Cert.FfnDown1Ideal.nD Cert.FfnDown1Ideal.τ).loc Cert.FfnDown1Ideal.main_arg0)
          ∧ r.2.mem ((c.tc : Thread Cert.FfnDown1Ideal.nD Cert.FfnDown1Ideal.τ).loc Cert.FfnDown1Ideal.main_arg1) = m ((c.tc : Thread Cert.FfnDown1Ideal.nD Cert.FfnDown1Ideal.τ).loc Cert.FfnDown1Ideal.main_arg1))
      ∧ θ_run (Cert.FfnDown1ReferenceIdeal.defs (F := Ideal)) (onTc (τ := Cert.FfnDown1ReferenceIdeal.τ) (Cert.FfnDown1ReferenceIdeal.main (F := Ideal))) ⟨m', fun _ => 0, g'⟩ (fun r => ∀ c : Dev Cert.FfnDown1ReferenceIdeal.nD,
          r.2.mem ((c.tc : Thread Cert.FfnDown1ReferenceIdeal.nD Cert.FfnDown1ReferenceIdeal.τ).loc Cert.FfnDown1ReferenceIdeal.main_v4) = v0 c
          ∧ r.2.mem ((c.tc : Thread Cert.FfnDown1ReferenceIdeal.nD Cert.FfnDown1ReferenceIdeal.τ).loc Cert.FfnDown1ReferenceIdeal.main_arg0) = m' ((c.tc : Thread Cert.FfnDown1ReferenceIdeal.nD Cert.FfnDown1ReferenceIdeal.τ).loc Cert.FfnDown1ReferenceIdeal.main_arg0)
          ∧ r.2.mem ((c.tc : Thread Cert.FfnDown1ReferenceIdeal.nD Cert.FfnDown1ReferenceIdeal.τ).loc Cert.FfnDown1ReferenceIdeal.main_arg1) = m' ((c.tc : Thread Cert.FfnDown1ReferenceIdeal.nD Cert.FfnDown1ReferenceIdeal.τ).loc Cert.FfnDown1ReferenceIdeal.main_arg1))

def preserves_RetIn_RetInIdeal : Prop :=
  True

def algebraic_RetInIdeal_RetInReferenceIdeal [hRetInIdeal : Cert.RetInIdeal.Facts] [hRetInReferenceIdeal : Cert.RetInReferenceIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInReferenceIdeal.nD Cert.RetInReferenceIdeal.τ Cert.RetInReferenceIdeal.sig) → Buf (Elt Ideal) ℓ) (g' : Dev Cert.RetInReferenceIdeal.nD → PrngReg), Pre_RetInIdeal m →
    (∀ c : Dev Cert.RetInIdeal.nD,
      m' ((c.tc : Thread Cert.RetInReferenceIdeal.nD Cert.RetInReferenceIdeal.τ).loc Cert.RetInReferenceIdeal.main_arg0) = m ((c.tc : Thread Cert.RetInIdeal.nD Cert.RetInIdeal.τ).loc Cert.RetInIdeal.main_arg0)
      ∧ m' ((c.tc : Thread Cert.RetInReferenceIdeal.nD Cert.RetInReferenceIdeal.τ).loc Cert.RetInReferenceIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v0)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInReferenceIdeal.defs (F := Ideal)) (onTc (τ := Cert.RetInReferenceIdeal.τ) (Cert.RetInReferenceIdeal.main (F := Ideal))) ⟨m', fun _ => 0, g'⟩ (fun r => ∀ c : Dev Cert.RetInReferenceIdeal.nD,
          r.2.mem ((c.tc : Thread Cert.RetInReferenceIdeal.nD Cert.RetInReferenceIdeal.τ).loc Cert.RetInReferenceIdeal.main_v3) = v0 c
          ∧ r.2.mem ((c.tc : Thread Cert.RetInReferenceIdeal.nD Cert.RetInReferenceIdeal.τ).loc Cert.RetInReferenceIdeal.main_arg0) = m' ((c.tc : Thread Cert.RetInReferenceIdeal.nD Cert.RetInReferenceIdeal.τ).loc Cert.RetInReferenceIdeal.main_arg0)
          ∧ r.2.mem ((c.tc : Thread Cert.RetInReferenceIdeal.nD Cert.RetInReferenceIdeal.τ).loc Cert.RetInReferenceIdeal.main_arg1) = m' ((c.tc : Thread Cert.RetInReferenceIdeal.nD Cert.RetInReferenceIdeal.τ).loc Cert.RetInReferenceIdeal.main_arg1))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)) →
    ∃ (v0 : (c : Dev Cert.RetOutIdeal.nD) → Buf (Elt Ideal) ((c.tc : Thread Cert.RetOutIdeal.nD Cert.RetOutIdeal.τ).loc Cert.RetOutIdeal.main_v0)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v3) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1))

def preserves_HyOut_HyOutIdeal : Prop :=
  True

def algebraic_HyOutIdeal_HyOutReferenceIdeal [hHyOutIdeal : Cert.HyOutIdeal.Facts] [hHyOutReferenceIdeal : Cert.HyOutReferenceIdeal.Facts] : Prop :=
  ∀ (m : (ℓ : Loc Cert.HyOutIdeal.nD Cert.HyOutIdeal.τ Cert.HyOutIdeal.sig) → Buf (Elt Ideal) ℓ) (g : Dev Cert.HyOutIdeal.nD → PrngReg)
    (m' : (ℓ : Loc Cert.HyOutReferenceIdeal.nD Cert.HyOutReferenceIdeal.τ Cert.HyOutReferenceIdeal.sig) → Buf (Elt Ideal) ℓ) (g' : Dev Cert.HyOutReferenceIdeal.nD → PrngReg), Pre_HyOutIdeal m →
    (∀ c : Dev Cert.HyOutIdeal.nD,
      m' ((c.tc : Thread Cert.HyOutReferenceIdeal.nD Cert.HyOutReferenceIdeal.τ).loc Cert.HyOutReferenceIdeal.main_arg0) = m ((c.tc : Thread Cert.HyOutIdeal.nD Cert.HyOutIdeal.τ).loc Cert.HyOutIdeal.main_arg0)
      ∧ m' ((c.tc : Thread Cert.HyOutReferenceIdeal.nD Cert.HyOutReferenceIdeal.τ).loc Cert.HyOutReferenceIdeal.main_arg1) = m ((c.tc : Thread Cert.HyOutIdeal.nD Cert.HyOutIdeal.τ).loc Cert.HyOutIdeal.main_arg1)
      ∧ m' ((c.tc : Thread Cert.HyOutReferenceIdeal.nD Cert.HyOutReferenceIdeal.τ).loc Cert.HyOutReferenceIdeal.main_arg2) = m ((c.tc : Thread Cert.HyOutIdeal.nD Cert.HyOutIdeal.τ).loc Cert.HyOutIdeal.main_arg2)) →
    ∃ (v0 : (c : Dev Cert.HyOutIdeal.nD) → Buf (Elt Ideal) ((c.tc : Thread Cert.HyOutIdeal.nD Cert.HyOutIdeal.τ).loc Cert.HyOutIdeal.main_v0)),
      θ_run (Cert.HyOutIdeal.defs (F := Ideal)) (onTc (τ := Cert.HyOutIdeal.τ) (Cert.HyOutIdeal.main (F := Ideal))) ⟨m, fun _ => 0, g⟩ (fun r => ∀ c : Dev Cert.HyOutIdeal.nD,
          r.2.mem ((c.tc : Thread Cert.HyOutIdeal.nD Cert.HyOutIdeal.τ).loc Cert.HyOutIdeal.main_v0) = v0 c
          ∧ r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
          ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
          ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2))
      ∧ θ_run (Cert.HyOutReferenceIdeal.defs (F := Ideal)) (onTc (τ := Cert.HyOutReferenceIdeal.τ) (Cert.HyOutReferenceIdeal.main (F := Ideal))) ⟨m', fun _ => 0, g'⟩ (fun r => ∀ c : Dev Cert.HyOutReferenceIdeal.nD,
          r.2.mem ((c.tc : Thread Cert.HyOutReferenceIdeal.nD Cert.HyOutReferenceIdeal.τ).loc Cert.HyOutReferenceIdeal.main_v4) = v0 c
          ∧ r.2.mem ((c.tc : Thread Cert.HyOutReferenceIdeal.nD Cert.HyOutReferenceIdeal.τ).loc Cert.HyOutReferenceIdeal.main_arg0) = m' ((c.tc : Thread Cert.HyOutReferenceIdeal.nD Cert.HyOutReferenceIdeal.τ).loc Cert.HyOutReferenceIdeal.main_arg0)
          ∧ r.2.mem ((c.tc : Thread Cert.HyOutReferenceIdeal.nD Cert.HyOutReferenceIdeal.τ).loc Cert.HyOutReferenceIdeal.main_arg1) = m' ((c.tc : Thread Cert.HyOutReferenceIdeal.nD Cert.HyOutReferenceIdeal.τ).loc Cert.HyOutReferenceIdeal.main_arg1)
          ∧ r.2.mem ((c.tc : Thread Cert.HyOutReferenceIdeal.nD Cert.HyOutReferenceIdeal.τ).loc Cert.HyOutReferenceIdeal.main_arg2) = m' ((c.tc : Thread Cert.HyOutReferenceIdeal.nD Cert.HyOutReferenceIdeal.τ).loc Cert.HyOutReferenceIdeal.main_arg2))

def preserves_HyIn_HyInIdeal : Prop :=
  True

def algebraic_HyInIdeal_HyInReferenceIdeal [hHyInIdeal : Cert.HyInIdeal.Facts] [hHyInReferenceIdeal : Cert.HyInReferenceIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInReferenceIdeal.nD Cert.HyInReferenceIdeal.τ Cert.HyInReferenceIdeal.sig) → Buf (Elt Ideal) ℓ) (g' : Dev Cert.HyInReferenceIdeal.nD → PrngReg), Pre_HyInIdeal m →
    (∀ c : Dev Cert.HyInIdeal.nD,
      m' ((c.tc : Thread Cert.HyInReferenceIdeal.nD Cert.HyInReferenceIdeal.τ).loc Cert.HyInReferenceIdeal.main_arg0) = m ((c.tc : Thread Cert.HyInIdeal.nD Cert.HyInIdeal.τ).loc Cert.HyInIdeal.main_arg0)
      ∧ m' ((c.tc : Thread Cert.HyInReferenceIdeal.nD Cert.HyInReferenceIdeal.τ).loc Cert.HyInReferenceIdeal.main_arg1) = m ((c.tc : Thread Cert.HyInIdeal.nD Cert.HyInIdeal.τ).loc Cert.HyInIdeal.main_arg1)) →
    ∃ (v0 : (c : Dev Cert.HyInIdeal.nD) → Buf (Elt Ideal) ((c.tc : Thread Cert.HyInIdeal.nD Cert.HyInIdeal.τ).loc Cert.HyInIdeal.main_v7)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v7) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1))
      ∧ θ_run (Cert.HyInReferenceIdeal.defs (F := Ideal)) (onTc (τ := Cert.HyInReferenceIdeal.τ) (Cert.HyInReferenceIdeal.main (F := Ideal))) ⟨m', fun _ => 0, g'⟩ (fun r => ∀ c : Dev Cert.HyInReferenceIdeal.nD,
          r.2.mem ((c.tc : Thread Cert.HyInReferenceIdeal.nD Cert.HyInReferenceIdeal.τ).loc Cert.HyInReferenceIdeal.main_v12) = v0 c
          ∧ r.2.mem ((c.tc : Thread Cert.HyInReferenceIdeal.nD Cert.HyInReferenceIdeal.τ).loc Cert.HyInReferenceIdeal.main_arg0) = m' ((c.tc : Thread Cert.HyInReferenceIdeal.nD Cert.HyInReferenceIdeal.τ).loc Cert.HyInReferenceIdeal.main_arg0)
          ∧ r.2.mem ((c.tc : Thread Cert.HyInReferenceIdeal.nD Cert.HyInReferenceIdeal.τ).loc Cert.HyInReferenceIdeal.main_arg1) = m' ((c.tc : Thread Cert.HyInReferenceIdeal.nD Cert.HyInReferenceIdeal.τ).loc Cert.HyInReferenceIdeal.main_arg1))

def preserves_DsaK_DsaKIdeal : Prop :=
  True

def algebraic_DsaKIdeal_DsaKReferenceIdeal [hDsaKIdeal : Cert.DsaKIdeal.Facts] [hDsaKReferenceIdeal : Cert.DsaKReferenceIdeal.Facts] : Prop :=
  ∀ (m : (ℓ : Loc Cert.DsaKIdeal.nD Cert.DsaKIdeal.τ Cert.DsaKIdeal.sig) → Buf (Elt Ideal) ℓ) (g : Dev Cert.DsaKIdeal.nD → PrngReg)
    (m' : (ℓ : Loc Cert.DsaKReferenceIdeal.nD Cert.DsaKReferenceIdeal.τ Cert.DsaKReferenceIdeal.sig) → Buf (Elt Ideal) ℓ) (g' : Dev Cert.DsaKReferenceIdeal.nD → PrngReg), Pre_DsaKIdeal m →
    (∀ c : Dev Cert.DsaKIdeal.nD,
      m' ((c.tc : Thread Cert.DsaKReferenceIdeal.nD Cert.DsaKReferenceIdeal.τ).loc Cert.DsaKReferenceIdeal.main_arg0) = m ((c.tc : Thread Cert.DsaKIdeal.nD Cert.DsaKIdeal.τ).loc Cert.DsaKIdeal.main_arg0)
      ∧ m' ((c.tc : Thread Cert.DsaKReferenceIdeal.nD Cert.DsaKReferenceIdeal.τ).loc Cert.DsaKReferenceIdeal.main_arg1) = m ((c.tc : Thread Cert.DsaKIdeal.nD Cert.DsaKIdeal.τ).loc Cert.DsaKIdeal.main_arg1)) →
    ∃ (v0 : (c : Dev Cert.DsaKIdeal.nD) → Buf (Elt Ideal) ((c.tc : Thread Cert.DsaKIdeal.nD Cert.DsaKIdeal.τ).loc Cert.DsaKIdeal.main_v6)),
      θ_run (Cert.DsaKIdeal.defs (F := Ideal)) (onTc (τ := Cert.DsaKIdeal.τ) (Cert.DsaKIdeal.main (F := Ideal))) ⟨m, fun _ => 0, g⟩ (fun r => ∀ c : Dev Cert.DsaKIdeal.nD,
          r.2.mem ((c.tc : Thread Cert.DsaKIdeal.nD Cert.DsaKIdeal.τ).loc Cert.DsaKIdeal.main_v6) = v0 c
          ∧ r.2.mem ((c.tc : Thread Cert.DsaKIdeal.nD Cert.DsaKIdeal.τ).loc Cert.DsaKIdeal.main_arg0) = m ((c.tc : Thread Cert.DsaKIdeal.nD Cert.DsaKIdeal.τ).loc Cert.DsaKIdeal.main_arg0)
          ∧ r.2.mem ((c.tc : Thread Cert.DsaKIdeal.nD Cert.DsaKIdeal.τ).loc Cert.DsaKIdeal.main_arg1) = m ((c.tc : Thread Cert.DsaKIdeal.nD Cert.DsaKIdeal.τ).loc Cert.DsaKIdeal.main_arg1))
      ∧ θ_run (Cert.DsaKReferenceIdeal.defs (F := Ideal)) (onTc (τ := Cert.DsaKReferenceIdeal.τ) (Cert.DsaKReferenceIdeal.main (F := Ideal))) ⟨m', fun _ => 0, g'⟩ (fun r => ∀ c : Dev Cert.DsaKReferenceIdeal.nD,
          r.2.mem ((c.tc : Thread Cert.DsaKReferenceIdeal.nD Cert.DsaKReferenceIdeal.τ).loc Cert.DsaKReferenceIdeal.main_v7) = v0 c
          ∧ r.2.mem ((c.tc : Thread Cert.DsaKReferenceIdeal.nD Cert.DsaKReferenceIdeal.τ).loc Cert.DsaKReferenceIdeal.main_arg0) = m' ((c.tc : Thread Cert.DsaKReferenceIdeal.nD Cert.DsaKReferenceIdeal.τ).loc Cert.DsaKReferenceIdeal.main_arg0)
          ∧ r.2.mem ((c.tc : Thread Cert.DsaKReferenceIdeal.nD Cert.DsaKReferenceIdeal.τ).loc Cert.DsaKReferenceIdeal.main_arg1) = m' ((c.tc : Thread Cert.DsaKReferenceIdeal.nD Cert.DsaKReferenceIdeal.τ).loc Cert.DsaKReferenceIdeal.main_arg1))

def preserves_DsaVt_DsaVtIdeal : Prop :=
  True

def algebraic_DsaVtIdeal_DsaVtReferenceIdeal [hDsaVtIdeal : Cert.DsaVtIdeal.Facts] [hDsaVtReferenceIdeal : Cert.DsaVtReferenceIdeal.Facts] : Prop :=
  ∀ (m : (ℓ : Loc Cert.DsaVtIdeal.nD Cert.DsaVtIdeal.τ Cert.DsaVtIdeal.sig) → Buf (Elt Ideal) ℓ) (g : Dev Cert.DsaVtIdeal.nD → PrngReg)
    (m' : (ℓ : Loc Cert.DsaVtReferenceIdeal.nD Cert.DsaVtReferenceIdeal.τ Cert.DsaVtReferenceIdeal.sig) → Buf (Elt Ideal) ℓ) (g' : Dev Cert.DsaVtReferenceIdeal.nD → PrngReg), Pre_DsaVtIdeal m →
    (∀ c : Dev Cert.DsaVtIdeal.nD,
      m' ((c.tc : Thread Cert.DsaVtReferenceIdeal.nD Cert.DsaVtReferenceIdeal.τ).loc Cert.DsaVtReferenceIdeal.main_arg0) = m ((c.tc : Thread Cert.DsaVtIdeal.nD Cert.DsaVtIdeal.τ).loc Cert.DsaVtIdeal.main_arg0)
      ∧ m' ((c.tc : Thread Cert.DsaVtReferenceIdeal.nD Cert.DsaVtReferenceIdeal.τ).loc Cert.DsaVtReferenceIdeal.main_arg1) = m ((c.tc : Thread Cert.DsaVtIdeal.nD Cert.DsaVtIdeal.τ).loc Cert.DsaVtIdeal.main_arg1)) →
    ∃ (v0 : (c : Dev Cert.DsaVtIdeal.nD) → Buf (Elt Ideal) ((c.tc : Thread Cert.DsaVtIdeal.nD Cert.DsaVtIdeal.τ).loc Cert.DsaVtIdeal.main_v7)),
      θ_run (Cert.DsaVtIdeal.defs (F := Ideal)) (onTc (τ := Cert.DsaVtIdeal.τ) (Cert.DsaVtIdeal.main (F := Ideal))) ⟨m, fun _ => 0, g⟩ (fun r => ∀ c : Dev Cert.DsaVtIdeal.nD,
          r.2.mem ((c.tc : Thread Cert.DsaVtIdeal.nD Cert.DsaVtIdeal.τ).loc Cert.DsaVtIdeal.main_v7) = v0 c
          ∧ r.2.mem ((c.tc : Thread Cert.DsaVtIdeal.nD Cert.DsaVtIdeal.τ).loc Cert.DsaVtIdeal.main_arg0) = m ((c.tc : Thread Cert.DsaVtIdeal.nD Cert.DsaVtIdeal.τ).loc Cert.DsaVtIdeal.main_arg0)
          ∧ r.2.mem ((c.tc : Thread Cert.DsaVtIdeal.nD Cert.DsaVtIdeal.τ).loc Cert.DsaVtIdeal.main_arg1) = m ((c.tc : Thread Cert.DsaVtIdeal.nD Cert.DsaVtIdeal.τ).loc Cert.DsaVtIdeal.main_arg1))
      ∧ θ_run (Cert.DsaVtReferenceIdeal.defs (F := Ideal)) (onTc (τ := Cert.DsaVtReferenceIdeal.τ) (Cert.DsaVtReferenceIdeal.main (F := Ideal))) ⟨m', fun _ => 0, g'⟩ (fun r => ∀ c : Dev Cert.DsaVtReferenceIdeal.nD,
          r.2.mem ((c.tc : Thread Cert.DsaVtReferenceIdeal.nD Cert.DsaVtReferenceIdeal.τ).loc Cert.DsaVtReferenceIdeal.main_v9) = v0 c
          ∧ r.2.mem ((c.tc : Thread Cert.DsaVtReferenceIdeal.nD Cert.DsaVtReferenceIdeal.τ).loc Cert.DsaVtReferenceIdeal.main_arg0) = m' ((c.tc : Thread Cert.DsaVtReferenceIdeal.nD Cert.DsaVtReferenceIdeal.τ).loc Cert.DsaVtReferenceIdeal.main_arg0)
          ∧ r.2.mem ((c.tc : Thread Cert.DsaVtReferenceIdeal.nD Cert.DsaVtReferenceIdeal.τ).loc Cert.DsaVtReferenceIdeal.main_arg1) = m' ((c.tc : Thread Cert.DsaVtReferenceIdeal.nD Cert.DsaVtReferenceIdeal.τ).loc Cert.DsaVtReferenceIdeal.main_arg1))

def preserves_HyInX3_HyInX3Ideal : Prop :=
  True

def algebraic_HyInX3Ideal_HyInX3ReferenceIdeal_pre_x3_finite [hHyInX3Ideal : Cert.HyInX3Ideal.Facts] [hHyInX3ReferenceIdeal : Cert.HyInX3ReferenceIdeal.Facts] [hPre_x3_finite : Cert.Pre_x3_finite.Facts] : Prop :=
  ∀ (m : (ℓ : Loc Cert.HyInX3Ideal.nD Cert.HyInX3Ideal.τ Cert.HyInX3Ideal.sig) → Buf (Elt Ideal) ℓ) (g : Dev Cert.HyInX3Ideal.nD → PrngReg)
    (m' : (ℓ : Loc Cert.HyInX3ReferenceIdeal.nD Cert.HyInX3ReferenceIdeal.τ Cert.HyInX3ReferenceIdeal.sig) → Buf (Elt Ideal) ℓ) (g' : Dev Cert.HyInX3ReferenceIdeal.nD → PrngReg), Pre_HyInX3Ideal_x3_finite m →
    (∀ c : Dev Cert.HyInX3Ideal.nD,
      m' ((c.tc : Thread Cert.HyInX3ReferenceIdeal.nD Cert.HyInX3ReferenceIdeal.τ).loc Cert.HyInX3ReferenceIdeal.main_arg0) = m ((c.tc : Thread Cert.HyInX3Ideal.nD Cert.HyInX3Ideal.τ).loc Cert.HyInX3Ideal.main_arg0)
      ∧ m' ((c.tc : Thread Cert.HyInX3ReferenceIdeal.nD Cert.HyInX3ReferenceIdeal.τ).loc Cert.HyInX3ReferenceIdeal.main_arg1) = m ((c.tc : Thread Cert.HyInX3Ideal.nD Cert.HyInX3Ideal.τ).loc Cert.HyInX3Ideal.main_arg1)) →
    ∃ (v0 : (c : Dev Cert.HyInX3Ideal.nD) → Buf (Elt Ideal) ((c.tc : Thread Cert.HyInX3Ideal.nD Cert.HyInX3Ideal.τ).loc Cert.HyInX3Ideal.main_v16_0)) (v1 : (c : Dev Cert.HyInX3Ideal.nD) → Buf (Elt Ideal) ((c.tc : Thread Cert.HyInX3Ideal.nD Cert.HyInX3Ideal.τ).loc Cert.HyInX3Ideal.main_v16_1)),
      θ_run (Cert.HyInX3Ideal.defs (F := Ideal)) (onTc (τ := Cert.HyInX3Ideal.τ) (Cert.HyInX3Ideal.main (F := Ideal))) ⟨m, fun _ => 0, g⟩ (fun r => ∀ c : Dev Cert.HyInX3Ideal.nD,
          r.2.mem ((c.tc : Thread Cert.HyInX3Ideal.nD Cert.HyInX3Ideal.τ).loc Cert.HyInX3Ideal.main_v16_0) = v0 c
          ∧ r.2.mem ((c.tc : Thread Cert.HyInX3Ideal.nD Cert.HyInX3Ideal.τ).loc Cert.HyInX3Ideal.main_v16_1) = v1 c
          ∧ r.2.mem ((c.tc : Thread Cert.HyInX3Ideal.nD Cert.HyInX3Ideal.τ).loc Cert.HyInX3Ideal.main_arg0) = m ((c.tc : Thread Cert.HyInX3Ideal.nD Cert.HyInX3Ideal.τ).loc Cert.HyInX3Ideal.main_arg0)
          ∧ r.2.mem ((c.tc : Thread Cert.HyInX3Ideal.nD Cert.HyInX3Ideal.τ).loc Cert.HyInX3Ideal.main_arg1) = m ((c.tc : Thread Cert.HyInX3Ideal.nD Cert.HyInX3Ideal.τ).loc Cert.HyInX3Ideal.main_arg1))
      ∧ θ_run (Cert.HyInX3ReferenceIdeal.defs (F := Ideal)) (onTc (τ := Cert.HyInX3ReferenceIdeal.τ) (Cert.HyInX3ReferenceIdeal.main (F := Ideal))) ⟨m', fun _ => 0, g'⟩ (fun r => ∀ c : Dev Cert.HyInX3ReferenceIdeal.nD,
          r.2.mem ((c.tc : Thread Cert.HyInX3ReferenceIdeal.nD Cert.HyInX3ReferenceIdeal.τ).loc Cert.HyInX3ReferenceIdeal.main_v13) = v0 c
          ∧ r.2.mem ((c.tc : Thread Cert.HyInX3ReferenceIdeal.nD Cert.HyInX3ReferenceIdeal.τ).loc Cert.HyInX3ReferenceIdeal.main_v11) = v1 c
          ∧ r.2.mem ((c.tc : Thread Cert.HyInX3ReferenceIdeal.nD Cert.HyInX3ReferenceIdeal.τ).loc Cert.HyInX3ReferenceIdeal.main_arg0) = m' ((c.tc : Thread Cert.HyInX3ReferenceIdeal.nD Cert.HyInX3ReferenceIdeal.τ).loc Cert.HyInX3ReferenceIdeal.main_arg0)
          ∧ r.2.mem ((c.tc : Thread Cert.HyInX3ReferenceIdeal.nD Cert.HyInX3ReferenceIdeal.τ).loc Cert.HyInX3ReferenceIdeal.main_arg1) = m' ((c.tc : Thread Cert.HyInX3ReferenceIdeal.nD Cert.HyInX3ReferenceIdeal.τ).loc Cert.HyInX3ReferenceIdeal.main_arg1))

def preserves_DsaQ_DsaQIdeal : Prop :=
  True

def algebraic_DsaQIdeal_DsaQReferenceIdeal [hDsaQIdeal : Cert.DsaQIdeal.Facts] [hDsaQReferenceIdeal : Cert.DsaQReferenceIdeal.Facts] : Prop :=
  ∀ (m : (ℓ : Loc Cert.DsaQIdeal.nD Cert.DsaQIdeal.τ Cert.DsaQIdeal.sig) → Buf (Elt Ideal) ℓ) (g : Dev Cert.DsaQIdeal.nD → PrngReg)
    (m' : (ℓ : Loc Cert.DsaQReferenceIdeal.nD Cert.DsaQReferenceIdeal.τ Cert.DsaQReferenceIdeal.sig) → Buf (Elt Ideal) ℓ) (g' : Dev Cert.DsaQReferenceIdeal.nD → PrngReg), Pre_DsaQIdeal m →
    (∀ c : Dev Cert.DsaQIdeal.nD,
      m' ((c.tc : Thread Cert.DsaQReferenceIdeal.nD Cert.DsaQReferenceIdeal.τ).loc Cert.DsaQReferenceIdeal.main_arg0) = m ((c.tc : Thread Cert.DsaQIdeal.nD Cert.DsaQIdeal.τ).loc Cert.DsaQIdeal.main_arg0)
      ∧ m' ((c.tc : Thread Cert.DsaQReferenceIdeal.nD Cert.DsaQReferenceIdeal.τ).loc Cert.DsaQReferenceIdeal.main_arg1) = m ((c.tc : Thread Cert.DsaQIdeal.nD Cert.DsaQIdeal.τ).loc Cert.DsaQIdeal.main_arg1)) →
    ∃ (v0 : (c : Dev Cert.DsaQIdeal.nD) → Buf (Elt Ideal) ((c.tc : Thread Cert.DsaQIdeal.nD Cert.DsaQIdeal.τ).loc Cert.DsaQIdeal.main_v3)),
      θ_run (Cert.DsaQIdeal.defs (F := Ideal)) (onTc (τ := Cert.DsaQIdeal.τ) (Cert.DsaQIdeal.main (F := Ideal))) ⟨m, fun _ => 0, g⟩ (fun r => ∀ c : Dev Cert.DsaQIdeal.nD,
          r.2.mem ((c.tc : Thread Cert.DsaQIdeal.nD Cert.DsaQIdeal.τ).loc Cert.DsaQIdeal.main_v3) = v0 c
          ∧ r.2.mem ((c.tc : Thread Cert.DsaQIdeal.nD Cert.DsaQIdeal.τ).loc Cert.DsaQIdeal.main_arg0) = m ((c.tc : Thread Cert.DsaQIdeal.nD Cert.DsaQIdeal.τ).loc Cert.DsaQIdeal.main_arg0)
          ∧ r.2.mem ((c.tc : Thread Cert.DsaQIdeal.nD Cert.DsaQIdeal.τ).loc Cert.DsaQIdeal.main_arg1) = m ((c.tc : Thread Cert.DsaQIdeal.nD Cert.DsaQIdeal.τ).loc Cert.DsaQIdeal.main_arg1))
      ∧ θ_run (Cert.DsaQReferenceIdeal.defs (F := Ideal)) (onTc (τ := Cert.DsaQReferenceIdeal.τ) (Cert.DsaQReferenceIdeal.main (F := Ideal))) ⟨m', fun _ => 0, g'⟩ (fun r => ∀ c : Dev Cert.DsaQReferenceIdeal.nD,
          r.2.mem ((c.tc : Thread Cert.DsaQReferenceIdeal.nD Cert.DsaQReferenceIdeal.τ).loc Cert.DsaQReferenceIdeal.main_v5) = v0 c
          ∧ r.2.mem ((c.tc : Thread Cert.DsaQReferenceIdeal.nD Cert.DsaQReferenceIdeal.τ).loc Cert.DsaQReferenceIdeal.main_arg0) = m' ((c.tc : Thread Cert.DsaQReferenceIdeal.nD Cert.DsaQReferenceIdeal.τ).loc Cert.DsaQReferenceIdeal.main_arg0)
          ∧ r.2.mem ((c.tc : Thread Cert.DsaQReferenceIdeal.nD Cert.DsaQReferenceIdeal.τ).loc Cert.DsaQReferenceIdeal.main_arg1) = m' ((c.tc : Thread Cert.DsaQReferenceIdeal.nD Cert.DsaQReferenceIdeal.τ).loc Cert.DsaQReferenceIdeal.main_arg1))

def preserves_DsaQidx_DsaQidxIdeal : Prop :=
  True

def algebraic_DsaQidxIdeal_DsaQidxReferenceIdeal_pre_qidx_finite [hDsaQidxIdeal : Cert.DsaQidxIdeal.Facts] [hDsaQidxReferenceIdeal : Cert.DsaQidxReferenceIdeal.Facts] [hPre_qidx_finite : Cert.Pre_qidx_finite.Facts] : Prop :=
  ∀ (m : (ℓ : Loc Cert.DsaQidxIdeal.nD Cert.DsaQidxIdeal.τ Cert.DsaQidxIdeal.sig) → Buf (Elt Ideal) ℓ) (g : Dev Cert.DsaQidxIdeal.nD → PrngReg)
    (m' : (ℓ : Loc Cert.DsaQidxReferenceIdeal.nD Cert.DsaQidxReferenceIdeal.τ Cert.DsaQidxReferenceIdeal.sig) → Buf (Elt Ideal) ℓ) (g' : Dev Cert.DsaQidxReferenceIdeal.nD → PrngReg), Pre_DsaQidxIdeal_qidx_finite m →
    (∀ c : Dev Cert.DsaQidxIdeal.nD,
      m' ((c.tc : Thread Cert.DsaQidxReferenceIdeal.nD Cert.DsaQidxReferenceIdeal.τ).loc Cert.DsaQidxReferenceIdeal.main_arg0) = m ((c.tc : Thread Cert.DsaQidxIdeal.nD Cert.DsaQidxIdeal.τ).loc Cert.DsaQidxIdeal.main_arg0)
      ∧ m' ((c.tc : Thread Cert.DsaQidxReferenceIdeal.nD Cert.DsaQidxReferenceIdeal.τ).loc Cert.DsaQidxReferenceIdeal.main_arg1) = m ((c.tc : Thread Cert.DsaQidxIdeal.nD Cert.DsaQidxIdeal.τ).loc Cert.DsaQidxIdeal.main_arg1)) →
    ∃ (v0 : (c : Dev Cert.DsaQidxIdeal.nD) → Buf (Elt Ideal) ((c.tc : Thread Cert.DsaQidxIdeal.nD Cert.DsaQidxIdeal.τ).loc Cert.DsaQidxIdeal.main_v10)),
      θ_run (Cert.DsaQidxIdeal.defs (F := Ideal)) (onTc (τ := Cert.DsaQidxIdeal.τ) (Cert.DsaQidxIdeal.main (F := Ideal))) ⟨m, fun _ => 0, g⟩ (fun r => ∀ c : Dev Cert.DsaQidxIdeal.nD,
          r.2.mem ((c.tc : Thread Cert.DsaQidxIdeal.nD Cert.DsaQidxIdeal.τ).loc Cert.DsaQidxIdeal.main_v10) = v0 c
          ∧ r.2.mem ((c.tc : Thread Cert.DsaQidxIdeal.nD Cert.DsaQidxIdeal.τ).loc Cert.DsaQidxIdeal.main_arg0) = m ((c.tc : Thread Cert.DsaQidxIdeal.nD Cert.DsaQidxIdeal.τ).loc Cert.DsaQidxIdeal.main_arg0)
          ∧ r.2.mem ((c.tc : Thread Cert.DsaQidxIdeal.nD Cert.DsaQidxIdeal.τ).loc Cert.DsaQidxIdeal.main_arg1) = m ((c.tc : Thread Cert.DsaQidxIdeal.nD Cert.DsaQidxIdeal.τ).loc Cert.DsaQidxIdeal.main_arg1))
      ∧ θ_run (Cert.DsaQidxReferenceIdeal.defs (F := Ideal)) (onTc (τ := Cert.DsaQidxReferenceIdeal.τ) (Cert.DsaQidxReferenceIdeal.main (F := Ideal))) ⟨m', fun _ => 0, g'⟩ (fun r => ∀ c : Dev Cert.DsaQidxReferenceIdeal.nD,
          r.2.mem ((c.tc : Thread Cert.DsaQidxReferenceIdeal.nD Cert.DsaQidxReferenceIdeal.τ).loc Cert.DsaQidxReferenceIdeal.main_v8) = v0 c
          ∧ r.2.mem ((c.tc : Thread Cert.DsaQidxReferenceIdeal.nD Cert.DsaQidxReferenceIdeal.τ).loc Cert.DsaQidxReferenceIdeal.main_arg0) = m' ((c.tc : Thread Cert.DsaQidxReferenceIdeal.nD Cert.DsaQidxReferenceIdeal.τ).loc Cert.DsaQidxReferenceIdeal.main_arg0)
          ∧ r.2.mem ((c.tc : Thread Cert.DsaQidxReferenceIdeal.nD Cert.DsaQidxReferenceIdeal.τ).loc Cert.DsaQidxReferenceIdeal.main_arg1) = m' ((c.tc : Thread Cert.DsaQidxReferenceIdeal.nD Cert.DsaQidxReferenceIdeal.τ).loc Cert.DsaQidxReferenceIdeal.main_arg1))

def preserves_Resid0_Resid0Ideal : Prop :=
  True

def algebraic_Resid0Ideal_Resid0ReferenceIdeal [hResid0Ideal : Cert.Resid0Ideal.Facts] [hResid0ReferenceIdeal : Cert.Resid0ReferenceIdeal.Facts] : Prop :=
  ∀ (m : (ℓ : Loc Cert.Resid0Ideal.nD Cert.Resid0Ideal.τ Cert.Resid0Ideal.sig) → Buf (Elt Ideal) ℓ) (g : Dev Cert.Resid0Ideal.nD → PrngReg)
    (m' : (ℓ : Loc Cert.Resid0ReferenceIdeal.nD Cert.Resid0ReferenceIdeal.τ Cert.Resid0ReferenceIdeal.sig) → Buf (Elt Ideal) ℓ) (g' : Dev Cert.Resid0ReferenceIdeal.nD → PrngReg), Pre_Resid0Ideal m →
    (∀ c : Dev Cert.Resid0Ideal.nD,
      m' ((c.tc : Thread Cert.Resid0ReferenceIdeal.nD Cert.Resid0ReferenceIdeal.τ).loc Cert.Resid0ReferenceIdeal.main_arg0) = m ((c.tc : Thread Cert.Resid0Ideal.nD Cert.Resid0Ideal.τ).loc Cert.Resid0Ideal.main_arg0)
      ∧ m' ((c.tc : Thread Cert.Resid0ReferenceIdeal.nD Cert.Resid0ReferenceIdeal.τ).loc Cert.Resid0ReferenceIdeal.main_arg1) = m ((c.tc : Thread Cert.Resid0Ideal.nD Cert.Resid0Ideal.τ).loc Cert.Resid0Ideal.main_arg1)
      ∧ m' ((c.tc : Thread Cert.Resid0ReferenceIdeal.nD Cert.Resid0ReferenceIdeal.τ).loc Cert.Resid0ReferenceIdeal.main_arg2) = m ((c.tc : Thread Cert.Resid0Ideal.nD Cert.Resid0Ideal.τ).loc Cert.Resid0Ideal.main_arg2)
      ∧ m' ((c.tc : Thread Cert.Resid0ReferenceIdeal.nD Cert.Resid0ReferenceIdeal.τ).loc Cert.Resid0ReferenceIdeal.main_arg3) = m ((c.tc : Thread Cert.Resid0Ideal.nD Cert.Resid0Ideal.τ).loc Cert.Resid0Ideal.main_arg3)) →
    ∃ (v0 : (c : Dev Cert.Resid0Ideal.nD) → Buf (Elt Ideal) ((c.tc : Thread Cert.Resid0Ideal.nD Cert.Resid0Ideal.τ).loc Cert.Resid0Ideal.main_v6_0)) (v1 : (c : Dev Cert.Resid0Ideal.nD) → Buf (Elt Ideal) ((c.tc : Thread Cert.Resid0Ideal.nD Cert.Resid0Ideal.τ).loc Cert.Resid0Ideal.main_v6_1)),
      θ_run (Cert.Resid0Ideal.defs (F := Ideal)) (onTc (τ := Cert.Resid0Ideal.τ) (Cert.Resid0Ideal.main (F := Ideal))) ⟨m, fun _ => 0, g⟩ (fun r => ∀ c : Dev Cert.Resid0Ideal.nD,
          r.2.mem ((c.tc : Thread Cert.Resid0Ideal.nD Cert.Resid0Ideal.τ).loc Cert.Resid0Ideal.main_v6_0) = v0 c
          ∧ r.2.mem ((c.tc : Thread Cert.Resid0Ideal.nD Cert.Resid0Ideal.τ).loc Cert.Resid0Ideal.main_v6_1) = v1 c
          ∧ r.2.mem ((c.tc : Thread Cert.Resid0Ideal.nD Cert.Resid0Ideal.τ).loc Cert.Resid0Ideal.main_arg0) = m ((c.tc : Thread Cert.Resid0Ideal.nD Cert.Resid0Ideal.τ).loc Cert.Resid0Ideal.main_arg0)
          ∧ r.2.mem ((c.tc : Thread Cert.Resid0Ideal.nD Cert.Resid0Ideal.τ).loc Cert.Resid0Ideal.main_arg1) = m ((c.tc : Thread Cert.Resid0Ideal.nD Cert.Resid0Ideal.τ).loc Cert.Resid0Ideal.main_arg1)
          ∧ r.2.mem ((c.tc : Thread Cert.Resid0Ideal.nD Cert.Resid0Ideal.τ).loc Cert.Resid0Ideal.main_arg2) = m ((c.tc : Thread Cert.Resid0Ideal.nD Cert.Resid0Ideal.τ).loc Cert.Resid0Ideal.main_arg2)
          ∧ r.2.mem ((c.tc : Thread Cert.Resid0Ideal.nD Cert.Resid0Ideal.τ).loc Cert.Resid0Ideal.main_arg3) = m ((c.tc : Thread Cert.Resid0Ideal.nD Cert.Resid0Ideal.τ).loc Cert.Resid0Ideal.main_arg3))
      ∧ θ_run (Cert.Resid0ReferenceIdeal.defs (F := Ideal)) (onTc (τ := Cert.Resid0ReferenceIdeal.τ) (Cert.Resid0ReferenceIdeal.main (F := Ideal))) ⟨m', fun _ => 0, g'⟩ (fun r => ∀ c : Dev Cert.Resid0ReferenceIdeal.nD,
          r.2.mem ((c.tc : Thread Cert.Resid0ReferenceIdeal.nD Cert.Resid0ReferenceIdeal.τ).loc Cert.Resid0ReferenceIdeal.main_v16) = v0 c
          ∧ r.2.mem ((c.tc : Thread Cert.Resid0ReferenceIdeal.nD Cert.Resid0ReferenceIdeal.τ).loc Cert.Resid0ReferenceIdeal.main_v32) = v1 c
          ∧ r.2.mem ((c.tc : Thread Cert.Resid0ReferenceIdeal.nD Cert.Resid0ReferenceIdeal.τ).loc Cert.Resid0ReferenceIdeal.main_arg0) = m' ((c.tc : Thread Cert.Resid0ReferenceIdeal.nD Cert.Resid0ReferenceIdeal.τ).loc Cert.Resid0ReferenceIdeal.main_arg0)
          ∧ r.2.mem ((c.tc : Thread Cert.Resid0ReferenceIdeal.nD Cert.Resid0ReferenceIdeal.τ).loc Cert.Resid0ReferenceIdeal.main_arg1) = m' ((c.tc : Thread Cert.Resid0ReferenceIdeal.nD Cert.Resid0ReferenceIdeal.τ).loc Cert.Resid0ReferenceIdeal.main_arg1)
          ∧ r.2.mem ((c.tc : Thread Cert.Resid0ReferenceIdeal.nD Cert.Resid0ReferenceIdeal.τ).loc Cert.Resid0ReferenceIdeal.main_arg2) = m' ((c.tc : Thread Cert.Resid0ReferenceIdeal.nD Cert.Resid0ReferenceIdeal.τ).loc Cert.Resid0ReferenceIdeal.main_arg2)
          ∧ r.2.mem ((c.tc : Thread Cert.Resid0ReferenceIdeal.nD Cert.Resid0ReferenceIdeal.τ).loc Cert.Resid0ReferenceIdeal.main_arg3) = m' ((c.tc : Thread Cert.Resid0ReferenceIdeal.nD Cert.Resid0ReferenceIdeal.τ).loc Cert.Resid0ReferenceIdeal.main_arg3))

def preserves_Resid1_Resid1Ideal : Prop :=
  True

def algebraic_Resid1Ideal_Resid1ReferenceIdeal [hResid1Ideal : Cert.Resid1Ideal.Facts] [hResid1ReferenceIdeal : Cert.Resid1ReferenceIdeal.Facts] : Prop :=
  ∀ (m : (ℓ : Loc Cert.Resid1Ideal.nD Cert.Resid1Ideal.τ Cert.Resid1Ideal.sig) → Buf (Elt Ideal) ℓ) (g : Dev Cert.Resid1Ideal.nD → PrngReg)
    (m' : (ℓ : Loc Cert.Resid1ReferenceIdeal.nD Cert.Resid1ReferenceIdeal.τ Cert.Resid1ReferenceIdeal.sig) → Buf (Elt Ideal) ℓ) (g' : Dev Cert.Resid1ReferenceIdeal.nD → PrngReg), Pre_Resid1Ideal m →
    (∀ c : Dev Cert.Resid1Ideal.nD,
      m' ((c.tc : Thread Cert.Resid1ReferenceIdeal.nD Cert.Resid1ReferenceIdeal.τ).loc Cert.Resid1ReferenceIdeal.main_arg0) = m ((c.tc : Thread Cert.Resid1Ideal.nD Cert.Resid1Ideal.τ).loc Cert.Resid1Ideal.main_arg0)
      ∧ m' ((c.tc : Thread Cert.Resid1ReferenceIdeal.nD Cert.Resid1ReferenceIdeal.τ).loc Cert.Resid1ReferenceIdeal.main_arg1) = m ((c.tc : Thread Cert.Resid1Ideal.nD Cert.Resid1Ideal.τ).loc Cert.Resid1Ideal.main_arg1)
      ∧ m' ((c.tc : Thread Cert.Resid1ReferenceIdeal.nD Cert.Resid1ReferenceIdeal.τ).loc Cert.Resid1ReferenceIdeal.main_arg2) = m ((c.tc : Thread Cert.Resid1Ideal.nD Cert.Resid1Ideal.τ).loc Cert.Resid1Ideal.main_arg2)
      ∧ m' ((c.tc : Thread Cert.Resid1ReferenceIdeal.nD Cert.Resid1ReferenceIdeal.τ).loc Cert.Resid1ReferenceIdeal.main_arg3) = m ((c.tc : Thread Cert.Resid1Ideal.nD Cert.Resid1Ideal.τ).loc Cert.Resid1Ideal.main_arg3)) →
    ∃ (v0 : (c : Dev Cert.Resid1Ideal.nD) → Buf (Elt Ideal) ((c.tc : Thread Cert.Resid1Ideal.nD Cert.Resid1Ideal.τ).loc Cert.Resid1Ideal.main_v6_0)) (v1 : (c : Dev Cert.Resid1Ideal.nD) → Buf (Elt Ideal) ((c.tc : Thread Cert.Resid1Ideal.nD Cert.Resid1Ideal.τ).loc Cert.Resid1Ideal.main_v6_1)),
      θ_run (Cert.Resid1Ideal.defs (F := Ideal)) (onTc (τ := Cert.Resid1Ideal.τ) (Cert.Resid1Ideal.main (F := Ideal))) ⟨m, fun _ => 0, g⟩ (fun r => ∀ c : Dev Cert.Resid1Ideal.nD,
          r.2.mem ((c.tc : Thread Cert.Resid1Ideal.nD Cert.Resid1Ideal.τ).loc Cert.Resid1Ideal.main_v6_0) = v0 c
          ∧ r.2.mem ((c.tc : Thread Cert.Resid1Ideal.nD Cert.Resid1Ideal.τ).loc Cert.Resid1Ideal.main_v6_1) = v1 c
          ∧ r.2.mem ((c.tc : Thread Cert.Resid1Ideal.nD Cert.Resid1Ideal.τ).loc Cert.Resid1Ideal.main_arg0) = m ((c.tc : Thread Cert.Resid1Ideal.nD Cert.Resid1Ideal.τ).loc Cert.Resid1Ideal.main_arg0)
          ∧ r.2.mem ((c.tc : Thread Cert.Resid1Ideal.nD Cert.Resid1Ideal.τ).loc Cert.Resid1Ideal.main_arg1) = m ((c.tc : Thread Cert.Resid1Ideal.nD Cert.Resid1Ideal.τ).loc Cert.Resid1Ideal.main_arg1)
          ∧ r.2.mem ((c.tc : Thread Cert.Resid1Ideal.nD Cert.Resid1Ideal.τ).loc Cert.Resid1Ideal.main_arg2) = m ((c.tc : Thread Cert.Resid1Ideal.nD Cert.Resid1Ideal.τ).loc Cert.Resid1Ideal.main_arg2)
          ∧ r.2.mem ((c.tc : Thread Cert.Resid1Ideal.nD Cert.Resid1Ideal.τ).loc Cert.Resid1Ideal.main_arg3) = m ((c.tc : Thread Cert.Resid1Ideal.nD Cert.Resid1Ideal.τ).loc Cert.Resid1Ideal.main_arg3))
      ∧ θ_run (Cert.Resid1ReferenceIdeal.defs (F := Ideal)) (onTc (τ := Cert.Resid1ReferenceIdeal.τ) (Cert.Resid1ReferenceIdeal.main (F := Ideal))) ⟨m', fun _ => 0, g'⟩ (fun r => ∀ c : Dev Cert.Resid1ReferenceIdeal.nD,
          r.2.mem ((c.tc : Thread Cert.Resid1ReferenceIdeal.nD Cert.Resid1ReferenceIdeal.τ).loc Cert.Resid1ReferenceIdeal.main_v16) = v0 c
          ∧ r.2.mem ((c.tc : Thread Cert.Resid1ReferenceIdeal.nD Cert.Resid1ReferenceIdeal.τ).loc Cert.Resid1ReferenceIdeal.main_v32) = v1 c
          ∧ r.2.mem ((c.tc : Thread Cert.Resid1ReferenceIdeal.nD Cert.Resid1ReferenceIdeal.τ).loc Cert.Resid1ReferenceIdeal.main_arg0) = m' ((c.tc : Thread Cert.Resid1ReferenceIdeal.nD Cert.Resid1ReferenceIdeal.τ).loc Cert.Resid1ReferenceIdeal.main_arg0)
          ∧ r.2.mem ((c.tc : Thread Cert.Resid1ReferenceIdeal.nD Cert.Resid1ReferenceIdeal.τ).loc Cert.Resid1ReferenceIdeal.main_arg1) = m' ((c.tc : Thread Cert.Resid1ReferenceIdeal.nD Cert.Resid1ReferenceIdeal.τ).loc Cert.Resid1ReferenceIdeal.main_arg1)
          ∧ r.2.mem ((c.tc : Thread Cert.Resid1ReferenceIdeal.nD Cert.Resid1ReferenceIdeal.τ).loc Cert.Resid1ReferenceIdeal.main_arg2) = m' ((c.tc : Thread Cert.Resid1ReferenceIdeal.nD Cert.Resid1ReferenceIdeal.τ).loc Cert.Resid1ReferenceIdeal.main_arg2)
          ∧ r.2.mem ((c.tc : Thread Cert.Resid1ReferenceIdeal.nD Cert.Resid1ReferenceIdeal.τ).loc Cert.Resid1ReferenceIdeal.main_arg3) = m' ((c.tc : Thread Cert.Resid1ReferenceIdeal.nD Cert.Resid1ReferenceIdeal.τ).loc Cert.Resid1ReferenceIdeal.main_arg3))

def preserves_Resid2_Resid2Ideal : Prop :=
  True

def algebraic_Resid2Ideal_Resid2ReferenceIdeal [hResid2Ideal : Cert.Resid2Ideal.Facts] [hResid2ReferenceIdeal : Cert.Resid2ReferenceIdeal.Facts] : Prop :=
  ∀ (m : (ℓ : Loc Cert.Resid2Ideal.nD Cert.Resid2Ideal.τ Cert.Resid2Ideal.sig) → Buf (Elt Ideal) ℓ) (g : Dev Cert.Resid2Ideal.nD → PrngReg)
    (m' : (ℓ : Loc Cert.Resid2ReferenceIdeal.nD Cert.Resid2ReferenceIdeal.τ Cert.Resid2ReferenceIdeal.sig) → Buf (Elt Ideal) ℓ) (g' : Dev Cert.Resid2ReferenceIdeal.nD → PrngReg), Pre_Resid2Ideal m →
    (∀ c : Dev Cert.Resid2Ideal.nD,
      m' ((c.tc : Thread Cert.Resid2ReferenceIdeal.nD Cert.Resid2ReferenceIdeal.τ).loc Cert.Resid2ReferenceIdeal.main_arg0) = m ((c.tc : Thread Cert.Resid2Ideal.nD Cert.Resid2Ideal.τ).loc Cert.Resid2Ideal.main_arg0)
      ∧ m' ((c.tc : Thread Cert.Resid2ReferenceIdeal.nD Cert.Resid2ReferenceIdeal.τ).loc Cert.Resid2ReferenceIdeal.main_arg1) = m ((c.tc : Thread Cert.Resid2Ideal.nD Cert.Resid2Ideal.τ).loc Cert.Resid2Ideal.main_arg1)
      ∧ m' ((c.tc : Thread Cert.Resid2ReferenceIdeal.nD Cert.Resid2ReferenceIdeal.τ).loc Cert.Resid2ReferenceIdeal.main_arg2) = m ((c.tc : Thread Cert.Resid2Ideal.nD Cert.Resid2Ideal.τ).loc Cert.Resid2Ideal.main_arg2)
      ∧ m' ((c.tc : Thread Cert.Resid2ReferenceIdeal.nD Cert.Resid2ReferenceIdeal.τ).loc Cert.Resid2ReferenceIdeal.main_arg3) = m ((c.tc : Thread Cert.Resid2Ideal.nD Cert.Resid2Ideal.τ).loc Cert.Resid2Ideal.main_arg3)) →
    ∃ (v0 : (c : Dev Cert.Resid2Ideal.nD) → Buf (Elt Ideal) ((c.tc : Thread Cert.Resid2Ideal.nD Cert.Resid2Ideal.τ).loc Cert.Resid2Ideal.main_v6_0)) (v1 : (c : Dev Cert.Resid2Ideal.nD) → Buf (Elt Ideal) ((c.tc : Thread Cert.Resid2Ideal.nD Cert.Resid2Ideal.τ).loc Cert.Resid2Ideal.main_v6_1)),
      θ_run (Cert.Resid2Ideal.defs (F := Ideal)) (onTc (τ := Cert.Resid2Ideal.τ) (Cert.Resid2Ideal.main (F := Ideal))) ⟨m, fun _ => 0, g⟩ (fun r => ∀ c : Dev Cert.Resid2Ideal.nD,
          r.2.mem ((c.tc : Thread Cert.Resid2Ideal.nD Cert.Resid2Ideal.τ).loc Cert.Resid2Ideal.main_v6_0) = v0 c
          ∧ r.2.mem ((c.tc : Thread Cert.Resid2Ideal.nD Cert.Resid2Ideal.τ).loc Cert.Resid2Ideal.main_v6_1) = v1 c
          ∧ r.2.mem ((c.tc : Thread Cert.Resid2Ideal.nD Cert.Resid2Ideal.τ).loc Cert.Resid2Ideal.main_arg0) = m ((c.tc : Thread Cert.Resid2Ideal.nD Cert.Resid2Ideal.τ).loc Cert.Resid2Ideal.main_arg0)
          ∧ r.2.mem ((c.tc : Thread Cert.Resid2Ideal.nD Cert.Resid2Ideal.τ).loc Cert.Resid2Ideal.main_arg1) = m ((c.tc : Thread Cert.Resid2Ideal.nD Cert.Resid2Ideal.τ).loc Cert.Resid2Ideal.main_arg1)
          ∧ r.2.mem ((c.tc : Thread Cert.Resid2Ideal.nD Cert.Resid2Ideal.τ).loc Cert.Resid2Ideal.main_arg2) = m ((c.tc : Thread Cert.Resid2Ideal.nD Cert.Resid2Ideal.τ).loc Cert.Resid2Ideal.main_arg2)
          ∧ r.2.mem ((c.tc : Thread Cert.Resid2Ideal.nD Cert.Resid2Ideal.τ).loc Cert.Resid2Ideal.main_arg3) = m ((c.tc : Thread Cert.Resid2Ideal.nD Cert.Resid2Ideal.τ).loc Cert.Resid2Ideal.main_arg3))
      ∧ θ_run (Cert.Resid2ReferenceIdeal.defs (F := Ideal)) (onTc (τ := Cert.Resid2ReferenceIdeal.τ) (Cert.Resid2ReferenceIdeal.main (F := Ideal))) ⟨m', fun _ => 0, g'⟩ (fun r => ∀ c : Dev Cert.Resid2ReferenceIdeal.nD,
          r.2.mem ((c.tc : Thread Cert.Resid2ReferenceIdeal.nD Cert.Resid2ReferenceIdeal.τ).loc Cert.Resid2ReferenceIdeal.main_v16) = v0 c
          ∧ r.2.mem ((c.tc : Thread Cert.Resid2ReferenceIdeal.nD Cert.Resid2ReferenceIdeal.τ).loc Cert.Resid2ReferenceIdeal.main_v32) = v1 c
          ∧ r.2.mem ((c.tc : Thread Cert.Resid2ReferenceIdeal.nD Cert.Resid2ReferenceIdeal.τ).loc Cert.Resid2ReferenceIdeal.main_arg0) = m' ((c.tc : Thread Cert.Resid2ReferenceIdeal.nD Cert.Resid2ReferenceIdeal.τ).loc Cert.Resid2ReferenceIdeal.main_arg0)
          ∧ r.2.mem ((c.tc : Thread Cert.Resid2ReferenceIdeal.nD Cert.Resid2ReferenceIdeal.τ).loc Cert.Resid2ReferenceIdeal.main_arg1) = m' ((c.tc : Thread Cert.Resid2ReferenceIdeal.nD Cert.Resid2ReferenceIdeal.τ).loc Cert.Resid2ReferenceIdeal.main_arg1)
          ∧ r.2.mem ((c.tc : Thread Cert.Resid2ReferenceIdeal.nD Cert.Resid2ReferenceIdeal.τ).loc Cert.Resid2ReferenceIdeal.main_arg2) = m' ((c.tc : Thread Cert.Resid2ReferenceIdeal.nD Cert.Resid2ReferenceIdeal.τ).loc Cert.Resid2ReferenceIdeal.main_arg2)
          ∧ r.2.mem ((c.tc : Thread Cert.Resid2ReferenceIdeal.nD Cert.Resid2ReferenceIdeal.τ).loc Cert.Resid2ReferenceIdeal.main_arg3) = m' ((c.tc : Thread Cert.Resid2ReferenceIdeal.nD Cert.Resid2ReferenceIdeal.τ).loc Cert.Resid2ReferenceIdeal.main_arg3))

def preserves_Resid3_Resid3Ideal : Prop :=
  True

def algebraic_Resid3Ideal_Resid3ReferenceIdeal [hResid3Ideal : Cert.Resid3Ideal.Facts] [hResid3ReferenceIdeal : Cert.Resid3ReferenceIdeal.Facts] : Prop :=
  ∀ (m : (ℓ : Loc Cert.Resid3Ideal.nD Cert.Resid3Ideal.τ Cert.Resid3Ideal.sig) → Buf (Elt Ideal) ℓ) (g : Dev Cert.Resid3Ideal.nD → PrngReg)
    (m' : (ℓ : Loc Cert.Resid3ReferenceIdeal.nD Cert.Resid3ReferenceIdeal.τ Cert.Resid3ReferenceIdeal.sig) → Buf (Elt Ideal) ℓ) (g' : Dev Cert.Resid3ReferenceIdeal.nD → PrngReg), Pre_Resid3Ideal m →
    (∀ c : Dev Cert.Resid3Ideal.nD,
      m' ((c.tc : Thread Cert.Resid3ReferenceIdeal.nD Cert.Resid3ReferenceIdeal.τ).loc Cert.Resid3ReferenceIdeal.main_arg0) = m ((c.tc : Thread Cert.Resid3Ideal.nD Cert.Resid3Ideal.τ).loc Cert.Resid3Ideal.main_arg0)
      ∧ m' ((c.tc : Thread Cert.Resid3ReferenceIdeal.nD Cert.Resid3ReferenceIdeal.τ).loc Cert.Resid3ReferenceIdeal.main_arg1) = m ((c.tc : Thread Cert.Resid3Ideal.nD Cert.Resid3Ideal.τ).loc Cert.Resid3Ideal.main_arg1)
      ∧ m' ((c.tc : Thread Cert.Resid3ReferenceIdeal.nD Cert.Resid3ReferenceIdeal.τ).loc Cert.Resid3ReferenceIdeal.main_arg2) = m ((c.tc : Thread Cert.Resid3Ideal.nD Cert.Resid3Ideal.τ).loc Cert.Resid3Ideal.main_arg2)) →
    ∃ (v0 : (c : Dev Cert.Resid3Ideal.nD) → Buf (Elt Ideal) ((c.tc : Thread Cert.Resid3Ideal.nD Cert.Resid3Ideal.τ).loc Cert.Resid3Ideal.main_v3)),
      θ_run (Cert.Resid3Ideal.defs (F := Ideal)) (onTc (τ := Cert.Resid3Ideal.τ) (Cert.Resid3Ideal.main (F := Ideal))) ⟨m, fun _ => 0, g⟩ (fun r => ∀ c : Dev Cert.Resid3Ideal.nD,
          r.2.mem ((c.tc : Thread Cert.Resid3Ideal.nD Cert.Resid3Ideal.τ).loc Cert.Resid3Ideal.main_v3) = v0 c
          ∧ r.2.mem ((c.tc : Thread Cert.Resid3Ideal.nD Cert.Resid3Ideal.τ).loc Cert.Resid3Ideal.main_arg0) = m ((c.tc : Thread Cert.Resid3Ideal.nD Cert.Resid3Ideal.τ).loc Cert.Resid3Ideal.main_arg0)
          ∧ r.2.mem ((c.tc : Thread Cert.Resid3Ideal.nD Cert.Resid3Ideal.τ).loc Cert.Resid3Ideal.main_arg1) = m ((c.tc : Thread Cert.Resid3Ideal.nD Cert.Resid3Ideal.τ).loc Cert.Resid3Ideal.main_arg1)
          ∧ r.2.mem ((c.tc : Thread Cert.Resid3Ideal.nD Cert.Resid3Ideal.τ).loc Cert.Resid3Ideal.main_arg2) = m ((c.tc : Thread Cert.Resid3Ideal.nD Cert.Resid3Ideal.τ).loc Cert.Resid3Ideal.main_arg2))
      ∧ θ_run (Cert.Resid3ReferenceIdeal.defs (F := Ideal)) (onTc (τ := Cert.Resid3ReferenceIdeal.τ) (Cert.Resid3ReferenceIdeal.main (F := Ideal))) ⟨m', fun _ => 0, g'⟩ (fun r => ∀ c : Dev Cert.Resid3ReferenceIdeal.nD,
          r.2.mem ((c.tc : Thread Cert.Resid3ReferenceIdeal.nD Cert.Resid3ReferenceIdeal.τ).loc Cert.Resid3ReferenceIdeal.main_v17) = v0 c
          ∧ r.2.mem ((c.tc : Thread Cert.Resid3ReferenceIdeal.nD Cert.Resid3ReferenceIdeal.τ).loc Cert.Resid3ReferenceIdeal.main_arg0) = m' ((c.tc : Thread Cert.Resid3ReferenceIdeal.nD Cert.Resid3ReferenceIdeal.τ).loc Cert.Resid3ReferenceIdeal.main_arg0)
          ∧ r.2.mem ((c.tc : Thread Cert.Resid3ReferenceIdeal.nD Cert.Resid3ReferenceIdeal.τ).loc Cert.Resid3ReferenceIdeal.main_arg1) = m' ((c.tc : Thread Cert.Resid3ReferenceIdeal.nD Cert.Resid3ReferenceIdeal.τ).loc Cert.Resid3ReferenceIdeal.main_arg1)
          ∧ r.2.mem ((c.tc : Thread Cert.Resid3ReferenceIdeal.nD Cert.Resid3ReferenceIdeal.τ).loc Cert.Resid3ReferenceIdeal.main_arg2) = m' ((c.tc : Thread Cert.Resid3ReferenceIdeal.nD Cert.Resid3ReferenceIdeal.τ).loc Cert.Resid3ReferenceIdeal.main_arg2))

def preserves_RmsKv_RmsKvIdeal : Prop :=
  True

def algebraic_RmsKvIdeal_RmsKvReferenceIdeal [hRmsKvIdeal : Cert.RmsKvIdeal.Facts] [hRmsKvReferenceIdeal : Cert.RmsKvReferenceIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg)
    (m' : (ℓ : Loc Cert.RmsKvReferenceIdeal.nD Cert.RmsKvReferenceIdeal.τ Cert.RmsKvReferenceIdeal.sig) → Buf (Elt Ideal) ℓ) (g' : Dev Cert.RmsKvReferenceIdeal.nD → PrngReg), Pre_RmsKvIdeal m →
    (∀ c : Dev Cert.RmsKvIdeal.nD,
      m' ((c.tc : Thread Cert.RmsKvReferenceIdeal.nD Cert.RmsKvReferenceIdeal.τ).loc Cert.RmsKvReferenceIdeal.main_arg0) = m ((c.tc : Thread Cert.RmsKvIdeal.nD Cert.RmsKvIdeal.τ).loc Cert.RmsKvIdeal.main_arg0)
      ∧ m' ((c.tc : Thread Cert.RmsKvReferenceIdeal.nD Cert.RmsKvReferenceIdeal.τ).loc Cert.RmsKvReferenceIdeal.main_arg1) = m ((c.tc : Thread Cert.RmsKvIdeal.nD Cert.RmsKvIdeal.τ).loc Cert.RmsKvIdeal.main_arg1)) →
    ∃ (v0 : (c : Dev Cert.RmsKvIdeal.nD) → Buf (Elt Ideal) ((c.tc : Thread Cert.RmsKvIdeal.nD Cert.RmsKvIdeal.τ).loc Cert.RmsKvIdeal.main_v2_0)) (v1 : (c : Dev Cert.RmsKvIdeal.nD) → Buf (Elt Ideal) ((c.tc : Thread Cert.RmsKvIdeal.nD Cert.RmsKvIdeal.τ).loc Cert.RmsKvIdeal.main_v2_1)),
      θ_run (Cert.RmsKvIdeal.defs (F := Ideal)) (onTc (τ := Cert.RmsKvIdeal.τ) (Cert.RmsKvIdeal.main (F := Ideal))) ⟨m, fun _ => 0, g⟩ (fun r => ∀ c : Dev Cert.RmsKvIdeal.nD,
          r.2.mem ((c.tc : Thread Cert.RmsKvIdeal.nD Cert.RmsKvIdeal.τ).loc Cert.RmsKvIdeal.main_v2_0) = v0 c
          ∧ r.2.mem ((c.tc : Thread Cert.RmsKvIdeal.nD Cert.RmsKvIdeal.τ).loc Cert.RmsKvIdeal.main_v2_1) = v1 c
          ∧ r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
          ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1))
      ∧ θ_run (Cert.RmsKvReferenceIdeal.defs (F := Ideal)) (onTc (τ := Cert.RmsKvReferenceIdeal.τ) (Cert.RmsKvReferenceIdeal.main (F := Ideal))) ⟨m', fun _ => 0, g'⟩ (fun r => ∀ c : Dev Cert.RmsKvReferenceIdeal.nD,
          r.2.mem ((c.tc : Thread Cert.RmsKvReferenceIdeal.nD Cert.RmsKvReferenceIdeal.τ).loc Cert.RmsKvReferenceIdeal.main_v15) = v0 c
          ∧ r.2.mem ((c.tc : Thread Cert.RmsKvReferenceIdeal.nD Cert.RmsKvReferenceIdeal.τ).loc Cert.RmsKvReferenceIdeal.main_v16) = v1 c
          ∧ r.2.mem ((c.tc : Thread Cert.RmsKvReferenceIdeal.nD Cert.RmsKvReferenceIdeal.τ).loc Cert.RmsKvReferenceIdeal.main_arg0) = m' ((c.tc : Thread Cert.RmsKvReferenceIdeal.nD Cert.RmsKvReferenceIdeal.τ).loc Cert.RmsKvReferenceIdeal.main_arg0)
          ∧ r.2.mem ((c.tc : Thread Cert.RmsKvReferenceIdeal.nD Cert.RmsKvReferenceIdeal.τ).loc Cert.RmsKvReferenceIdeal.main_arg1) = m' ((c.tc : Thread Cert.RmsKvReferenceIdeal.nD Cert.RmsKvReferenceIdeal.τ).loc Cert.RmsKvReferenceIdeal.main_arg1))

def preserves_Embed_EmbedIdeal : Prop :=
  True

def algebraic_EmbedIdeal_EmbedReferenceIdeal_pre_embed_finite [hEmbedIdeal : Cert.EmbedIdeal.Facts] [hEmbedReferenceIdeal : Cert.EmbedReferenceIdeal.Facts] [hPre_embed_finite : Cert.Pre_embed_finite.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal_embed_finite m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)
      ∧ m' ((c.tc : Thread Cert.EmbedReferenceIdeal.nD Cert.EmbedReferenceIdeal.τ).loc Cert.EmbedReferenceIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v6_0)) (v1 : (c : Dev Cert.EmbedIdeal.nD) → Buf (Elt Ideal) ((c.tc : Thread Cert.EmbedIdeal.nD Cert.EmbedIdeal.τ).loc Cert.EmbedIdeal.main_v6_1)) (v2 : (c : Dev Cert.EmbedIdeal.nD) → Buf (Elt Ideal) ((c.tc : Thread Cert.EmbedIdeal.nD Cert.EmbedIdeal.τ).loc Cert.EmbedIdeal.main_v6_2)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v6_0) = v0 c
          ∧ r.2.mem ((c.tc : Thread Cert.EmbedIdeal.nD Cert.EmbedIdeal.τ).loc Cert.EmbedIdeal.main_v6_1) = v1 c
          ∧ r.2.mem ((c.tc : Thread Cert.EmbedIdeal.nD Cert.EmbedIdeal.τ).loc Cert.EmbedIdeal.main_v6_2) = v2 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v2) = v0 c
          ∧ r.2.mem ((c.tc : Thread Cert.EmbedReferenceIdeal.nD Cert.EmbedReferenceIdeal.τ).loc Cert.EmbedReferenceIdeal.main_v18) = v1 c
          ∧ r.2.mem ((c.tc : Thread Cert.EmbedReferenceIdeal.nD Cert.EmbedReferenceIdeal.τ).loc Cert.EmbedReferenceIdeal.main_v20) = v2 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2))

def preserves_RmsCq_RmsCqIdeal : Prop :=
  True

def algebraic_RmsCqIdeal_RmsCqReferenceIdeal_pre_rms_cq_finite [hRmsCqIdeal : Cert.RmsCqIdeal.Facts] [hRmsCqReferenceIdeal : Cert.RmsCqReferenceIdeal.Facts] [hPre_rms_cq_finite : Cert.Pre_rms_cq_finite.Facts] : Prop :=
  ∀ (m : (ℓ : Loc Cert.RmsCqIdeal.nD Cert.RmsCqIdeal.τ Cert.RmsCqIdeal.sig) → Buf (Elt Ideal) ℓ) (g : Dev Cert.RmsCqIdeal.nD → PrngReg)
    (m' : (ℓ : Loc Cert.RmsCqReferenceIdeal.nD Cert.RmsCqReferenceIdeal.τ Cert.RmsCqReferenceIdeal.sig) → Buf (Elt Ideal) ℓ) (g' : Dev Cert.RmsCqReferenceIdeal.nD → PrngReg), Pre_RmsCqIdeal_rms_cq_finite m →
    (∀ c : Dev Cert.RmsCqIdeal.nD,
      m' ((c.tc : Thread Cert.RmsCqReferenceIdeal.nD Cert.RmsCqReferenceIdeal.τ).loc Cert.RmsCqReferenceIdeal.main_arg0) = m ((c.tc : Thread Cert.RmsCqIdeal.nD Cert.RmsCqIdeal.τ).loc Cert.RmsCqIdeal.main_arg0)
      ∧ m' ((c.tc : Thread Cert.RmsCqReferenceIdeal.nD Cert.RmsCqReferenceIdeal.τ).loc Cert.RmsCqReferenceIdeal.main_arg1) = m ((c.tc : Thread Cert.RmsCqIdeal.nD Cert.RmsCqIdeal.τ).loc Cert.RmsCqIdeal.main_arg1)) →
    ∃ (v0 : (c : Dev Cert.RmsCqIdeal.nD) → Buf (Elt Ideal) ((c.tc : Thread Cert.RmsCqIdeal.nD Cert.RmsCqIdeal.τ).loc Cert.RmsCqIdeal.main_v2_0)) (v1 : (c : Dev Cert.RmsCqIdeal.nD) → Buf (Elt Ideal) ((c.tc : Thread Cert.RmsCqIdeal.nD Cert.RmsCqIdeal.τ).loc Cert.RmsCqIdeal.main_v2_1)),
      θ_run (Cert.RmsCqIdeal.defs (F := Ideal)) (onTc (τ := Cert.RmsCqIdeal.τ) (Cert.RmsCqIdeal.main (F := Ideal))) ⟨m, fun _ => 0, g⟩ (fun r => ∀ c : Dev Cert.RmsCqIdeal.nD,
          r.2.mem ((c.tc : Thread Cert.RmsCqIdeal.nD Cert.RmsCqIdeal.τ).loc Cert.RmsCqIdeal.main_v2_0) = v0 c
          ∧ r.2.mem ((c.tc : Thread Cert.RmsCqIdeal.nD Cert.RmsCqIdeal.τ).loc Cert.RmsCqIdeal.main_v2_1) = v1 c
          ∧ r.2.mem ((c.tc : Thread Cert.RmsCqIdeal.nD Cert.RmsCqIdeal.τ).loc Cert.RmsCqIdeal.main_arg0) = m ((c.tc : Thread Cert.RmsCqIdeal.nD Cert.RmsCqIdeal.τ).loc Cert.RmsCqIdeal.main_arg0)
          ∧ r.2.mem ((c.tc : Thread Cert.RmsCqIdeal.nD Cert.RmsCqIdeal.τ).loc Cert.RmsCqIdeal.main_arg1) = m ((c.tc : Thread Cert.RmsCqIdeal.nD Cert.RmsCqIdeal.τ).loc Cert.RmsCqIdeal.main_arg1))
      ∧ θ_run (Cert.RmsCqReferenceIdeal.defs (F := Ideal)) (onTc (τ := Cert.RmsCqReferenceIdeal.τ) (Cert.RmsCqReferenceIdeal.main (F := Ideal))) ⟨m', fun _ => 0, g'⟩ (fun r => ∀ c : Dev Cert.RmsCqReferenceIdeal.nD,
          r.2.mem ((c.tc : Thread Cert.RmsCqReferenceIdeal.nD Cert.RmsCqReferenceIdeal.τ).loc Cert.RmsCqReferenceIdeal.main_v17) = v0 c
          ∧ r.2.mem ((c.tc : Thread Cert.RmsCqReferenceIdeal.nD Cert.RmsCqReferenceIdeal.τ).loc Cert.RmsCqReferenceIdeal.main_v20) = v1 c
          ∧ r.2.mem ((c.tc : Thread Cert.RmsCqReferenceIdeal.nD Cert.RmsCqReferenceIdeal.τ).loc Cert.RmsCqReferenceIdeal.main_arg0) = m' ((c.tc : Thread Cert.RmsCqReferenceIdeal.nD Cert.RmsCqReferenceIdeal.τ).loc Cert.RmsCqReferenceIdeal.main_arg0)
          ∧ r.2.mem ((c.tc : Thread Cert.RmsCqReferenceIdeal.nD Cert.RmsCqReferenceIdeal.τ).loc Cert.RmsCqReferenceIdeal.main_arg1) = m' ((c.tc : Thread Cert.RmsCqReferenceIdeal.nD Cert.RmsCqReferenceIdeal.τ).loc Cert.RmsCqReferenceIdeal.main_arg1))

def preserves_Kidx_KidxIdeal : Prop :=
  True

def algebraic_KidxIdeal_KidxReferenceIdeal_pre_kidx_finite [hKidxIdeal : Cert.KidxIdeal.Facts] [hKidxReferenceIdeal : Cert.KidxReferenceIdeal.Facts] [hPre_kidx_finite : Cert.Pre_kidx_finite.Facts] : Prop :=
  ∀ (m : (ℓ : Loc Cert.KidxIdeal.nD Cert.KidxIdeal.τ Cert.KidxIdeal.sig) → Buf (Elt Ideal) ℓ) (g : Dev Cert.KidxIdeal.nD → PrngReg)
    (m' : (ℓ : Loc Cert.KidxReferenceIdeal.nD Cert.KidxReferenceIdeal.τ Cert.KidxReferenceIdeal.sig) → Buf (Elt Ideal) ℓ) (g' : Dev Cert.KidxReferenceIdeal.nD → PrngReg), Pre_KidxIdeal_kidx_finite m →
    (∀ c : Dev Cert.KidxIdeal.nD,
      m' ((c.tc : Thread Cert.KidxReferenceIdeal.nD Cert.KidxReferenceIdeal.τ).loc Cert.KidxReferenceIdeal.main_arg0) = m ((c.tc : Thread Cert.KidxIdeal.nD Cert.KidxIdeal.τ).loc Cert.KidxIdeal.main_arg0)
      ∧ m' ((c.tc : Thread Cert.KidxReferenceIdeal.nD Cert.KidxReferenceIdeal.τ).loc Cert.KidxReferenceIdeal.main_arg1) = m ((c.tc : Thread Cert.KidxIdeal.nD Cert.KidxIdeal.τ).loc Cert.KidxIdeal.main_arg1)) →
    ∃ (v0 : (c : Dev Cert.KidxIdeal.nD) → Buf (Elt Ideal) ((c.tc : Thread Cert.KidxIdeal.nD Cert.KidxIdeal.τ).loc Cert.KidxIdeal.main_v6)),
      θ_run (Cert.KidxIdeal.defs (F := Ideal)) (onTc (τ := Cert.KidxIdeal.τ) (Cert.KidxIdeal.main (F := Ideal))) ⟨m, fun _ => 0, g⟩ (fun r => ∀ c : Dev Cert.KidxIdeal.nD,
          r.2.mem ((c.tc : Thread Cert.KidxIdeal.nD Cert.KidxIdeal.τ).loc Cert.KidxIdeal.main_v6) = v0 c
          ∧ r.2.mem ((c.tc : Thread Cert.KidxIdeal.nD Cert.KidxIdeal.τ).loc Cert.KidxIdeal.main_arg0) = m ((c.tc : Thread Cert.KidxIdeal.nD Cert.KidxIdeal.τ).loc Cert.KidxIdeal.main_arg0)
          ∧ r.2.mem ((c.tc : Thread Cert.KidxIdeal.nD Cert.KidxIdeal.τ).loc Cert.KidxIdeal.main_arg1) = m ((c.tc : Thread Cert.KidxIdeal.nD Cert.KidxIdeal.τ).loc Cert.KidxIdeal.main_arg1))
      ∧ θ_run (Cert.KidxReferenceIdeal.defs (F := Ideal)) (onTc (τ := Cert.KidxReferenceIdeal.τ) (Cert.KidxReferenceIdeal.main (F := Ideal))) ⟨m', fun _ => 0, g'⟩ (fun r => ∀ c : Dev Cert.KidxReferenceIdeal.nD,
          r.2.mem ((c.tc : Thread Cert.KidxReferenceIdeal.nD Cert.KidxReferenceIdeal.τ).loc Cert.KidxReferenceIdeal.main_v17) = v0 c
          ∧ r.2.mem ((c.tc : Thread Cert.KidxReferenceIdeal.nD Cert.KidxReferenceIdeal.τ).loc Cert.KidxReferenceIdeal.main_arg0) = m' ((c.tc : Thread Cert.KidxReferenceIdeal.nD Cert.KidxReferenceIdeal.τ).loc Cert.KidxReferenceIdeal.main_arg0)
          ∧ r.2.mem ((c.tc : Thread Cert.KidxReferenceIdeal.nD Cert.KidxReferenceIdeal.τ).loc Cert.KidxReferenceIdeal.main_arg1) = m' ((c.tc : Thread Cert.KidxReferenceIdeal.nD Cert.KidxReferenceIdeal.τ).loc Cert.KidxReferenceIdeal.main_arg1))

def Claim : Prop :=
  ∃ (hKernel : Cert.Kernel.Facts) (hKernelIdeal : Cert.KernelIdeal.Facts) (hReferenceIdeal : Cert.ReferenceIdeal.Facts) (hFfnAct0 : Cert.FfnAct0.Facts) (hFfnAct0Ideal : Cert.FfnAct0Ideal.Facts) (hFfnAct0ReferenceIdeal : Cert.FfnAct0ReferenceIdeal.Facts) (hFfnDown0 : Cert.FfnDown0.Facts) (hFfnDown0Ideal : Cert.FfnDown0Ideal.Facts) (hFfnDown0ReferenceIdeal : Cert.FfnDown0ReferenceIdeal.Facts) (hFfnAct1 : Cert.FfnAct1.Facts) (hFfnAct1Ideal : Cert.FfnAct1Ideal.Facts) (hFfnAct1ReferenceIdeal : Cert.FfnAct1ReferenceIdeal.Facts) (hFfnDown1 : Cert.FfnDown1.Facts) (hFfnDown1Ideal : Cert.FfnDown1Ideal.Facts) (hFfnDown1ReferenceIdeal : Cert.FfnDown1ReferenceIdeal.Facts) (hRetIn : Cert.RetIn.Facts) (hRetInIdeal : Cert.RetInIdeal.Facts) (hRetInReferenceIdeal : Cert.RetInReferenceIdeal.Facts) (hRetOut : Cert.RetOut.Facts) (hRetOutIdeal : Cert.RetOutIdeal.Facts) (hRetOutReferenceIdeal : Cert.RetOutReferenceIdeal.Facts) (hHyOut : Cert.HyOut.Facts) (hHyOutIdeal : Cert.HyOutIdeal.Facts) (hHyOutReferenceIdeal : Cert.HyOutReferenceIdeal.Facts) (hHyIn : Cert.HyIn.Facts) (hHyInIdeal : Cert.HyInIdeal.Facts) (hHyInReferenceIdeal : Cert.HyInReferenceIdeal.Facts) (hDsaK : Cert.DsaK.Facts) (hDsaKIdeal : Cert.DsaKIdeal.Facts) (hDsaKReferenceIdeal : Cert.DsaKReferenceIdeal.Facts) (hDsaVt : Cert.DsaVt.Facts) (hDsaVtIdeal : Cert.DsaVtIdeal.Facts) (hDsaVtReferenceIdeal : Cert.DsaVtReferenceIdeal.Facts) (hHyInX3 : Cert.HyInX3.Facts) (hHyInX3Ideal : Cert.HyInX3Ideal.Facts) (hHyInX3ReferenceIdeal : Cert.HyInX3ReferenceIdeal.Facts) (hDsaQ : Cert.DsaQ.Facts) (hDsaQIdeal : Cert.DsaQIdeal.Facts) (hDsaQReferenceIdeal : Cert.DsaQReferenceIdeal.Facts) (hDsaQidx : Cert.DsaQidx.Facts) (hDsaQidxIdeal : Cert.DsaQidxIdeal.Facts) (hDsaQidxReferenceIdeal : Cert.DsaQidxReferenceIdeal.Facts) (hResid0 : Cert.Resid0.Facts) (hResid0Ideal : Cert.Resid0Ideal.Facts) (hResid0ReferenceIdeal : Cert.Resid0ReferenceIdeal.Facts) (hResid1 : Cert.Resid1.Facts) (hResid1Ideal : Cert.Resid1Ideal.Facts) (hResid1ReferenceIdeal : Cert.Resid1ReferenceIdeal.Facts) (hResid2 : Cert.Resid2.Facts) (hResid2Ideal : Cert.Resid2Ideal.Facts) (hResid2ReferenceIdeal : Cert.Resid2ReferenceIdeal.Facts) (hResid3 : Cert.Resid3.Facts) (hResid3Ideal : Cert.Resid3Ideal.Facts) (hResid3ReferenceIdeal : Cert.Resid3ReferenceIdeal.Facts) (hRmsKv : Cert.RmsKv.Facts) (hRmsKvIdeal : Cert.RmsKvIdeal.Facts) (hRmsKvReferenceIdeal : Cert.RmsKvReferenceIdeal.Facts) (hEmbed : Cert.Embed.Facts) (hEmbedIdeal : Cert.EmbedIdeal.Facts) (hEmbedReferenceIdeal : Cert.EmbedReferenceIdeal.Facts) (hRmsCq : Cert.RmsCq.Facts) (hRmsCqIdeal : Cert.RmsCqIdeal.Facts) (hRmsCqReferenceIdeal : Cert.RmsCqReferenceIdeal.Facts) (hKidx : Cert.Kidx.Facts) (hKidxIdeal : Cert.KidxIdeal.Facts) (hKidxReferenceIdeal : Cert.KidxReferenceIdeal.Facts) (hPre_all_finite : Cert.Pre_all_finite.Facts) (hPre_x3_finite : Cert.Pre_x3_finite.Facts) (hPre_qidx_finite : Cert.Pre_qidx_finite.Facts) (hPre_embed_finite : Cert.Pre_embed_finite.Facts) (hPre_rms_cq_finite : Cert.Pre_rms_cq_finite.Facts) (hPre_kidx_finite : Cert.Pre_kidx_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_FfnAct0 (hFfnAct0 := hFfnAct0)
    ∧ quiescent_FfnAct0Ideal (hFfnAct0Ideal := hFfnAct0Ideal)
    ∧ quiescent_FfnAct0ReferenceIdeal (hFfnAct0ReferenceIdeal := hFfnAct0ReferenceIdeal)
    ∧ quiescent_FfnDown0 (hFfnDown0 := hFfnDown0)
    ∧ quiescent_FfnDown0Ideal (hFfnDown0Ideal := hFfnDown0Ideal)
    ∧ quiescent_FfnDown0ReferenceIdeal (hFfnDown0ReferenceIdeal := hFfnDown0ReferenceIdeal)
    ∧ quiescent_FfnAct1 (hFfnAct1 := hFfnAct1)
    ∧ quiescent_FfnAct1Ideal (hFfnAct1Ideal := hFfnAct1Ideal)
    ∧ quiescent_FfnAct1ReferenceIdeal (hFfnAct1ReferenceIdeal := hFfnAct1ReferenceIdeal)
    ∧ quiescent_FfnDown1 (hFfnDown1 := hFfnDown1)
    ∧ quiescent_FfnDown1Ideal (hFfnDown1Ideal := hFfnDown1Ideal)
    ∧ quiescent_FfnDown1ReferenceIdeal (hFfnDown1ReferenceIdeal := hFfnDown1ReferenceIdeal)
    ∧ quiescent_RetIn (hRetIn := hRetIn)
    ∧ quiescent_RetInIdeal (hRetInIdeal := hRetInIdeal)
    ∧ quiescent_RetInReferenceIdeal (hRetInReferenceIdeal := hRetInReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_HyOut (hHyOut := hHyOut)
    ∧ quiescent_HyOutIdeal (hHyOutIdeal := hHyOutIdeal)
    ∧ quiescent_HyOutReferenceIdeal (hHyOutReferenceIdeal := hHyOutReferenceIdeal)
    ∧ quiescent_HyIn (hHyIn := hHyIn)
    ∧ quiescent_HyInIdeal (hHyInIdeal := hHyInIdeal)
    ∧ quiescent_HyInReferenceIdeal (hHyInReferenceIdeal := hHyInReferenceIdeal)
    ∧ quiescent_DsaK (hDsaK := hDsaK)
    ∧ quiescent_DsaKIdeal (hDsaKIdeal := hDsaKIdeal)
    ∧ quiescent_DsaKReferenceIdeal (hDsaKReferenceIdeal := hDsaKReferenceIdeal)
    ∧ quiescent_DsaVt (hDsaVt := hDsaVt)
    ∧ quiescent_DsaVtIdeal (hDsaVtIdeal := hDsaVtIdeal)
    ∧ quiescent_DsaVtReferenceIdeal (hDsaVtReferenceIdeal := hDsaVtReferenceIdeal)
    ∧ quiescent_HyInX3 (hHyInX3 := hHyInX3)
    ∧ quiescent_HyInX3Ideal (hHyInX3Ideal := hHyInX3Ideal)
    ∧ quiescent_HyInX3Ideal_pre_x3_finite (hHyInX3Ideal := hHyInX3Ideal) (hPre_x3_finite := hPre_x3_finite)
    ∧ quiescent_HyInX3ReferenceIdeal (hHyInX3ReferenceIdeal := hHyInX3ReferenceIdeal)
    ∧ quiescent_HyInX3ReferenceIdeal_pre_x3_finite (hHyInX3ReferenceIdeal := hHyInX3ReferenceIdeal) (hPre_x3_finite := hPre_x3_finite)
    ∧ quiescent_DsaQ (hDsaQ := hDsaQ)
    ∧ quiescent_DsaQIdeal (hDsaQIdeal := hDsaQIdeal)
    ∧ quiescent_DsaQReferenceIdeal (hDsaQReferenceIdeal := hDsaQReferenceIdeal)
    ∧ quiescent_DsaQidx (hDsaQidx := hDsaQidx)
    ∧ quiescent_DsaQidxIdeal (hDsaQidxIdeal := hDsaQidxIdeal)
    ∧ quiescent_DsaQidxIdeal_pre_qidx_finite (hDsaQidxIdeal := hDsaQidxIdeal) (hPre_qidx_finite := hPre_qidx_finite)
    ∧ quiescent_DsaQidxReferenceIdeal (hDsaQidxReferenceIdeal := hDsaQidxReferenceIdeal)
    ∧ quiescent_DsaQidxReferenceIdeal_pre_qidx_finite (hDsaQidxReferenceIdeal := hDsaQidxReferenceIdeal) (hPre_qidx_finite := hPre_qidx_finite)
    ∧ quiescent_Resid0 (hResid0 := hResid0)
    ∧ quiescent_Resid0Ideal (hResid0Ideal := hResid0Ideal)
    ∧ quiescent_Resid0ReferenceIdeal (hResid0ReferenceIdeal := hResid0ReferenceIdeal)
    ∧ quiescent_Resid1 (hResid1 := hResid1)
    ∧ quiescent_Resid1Ideal (hResid1Ideal := hResid1Ideal)
    ∧ quiescent_Resid1ReferenceIdeal (hResid1ReferenceIdeal := hResid1ReferenceIdeal)
    ∧ quiescent_Resid2 (hResid2 := hResid2)
    ∧ quiescent_Resid2Ideal (hResid2Ideal := hResid2Ideal)
    ∧ quiescent_Resid2ReferenceIdeal (hResid2ReferenceIdeal := hResid2ReferenceIdeal)
    ∧ quiescent_Resid3 (hResid3 := hResid3)
    ∧ quiescent_Resid3Ideal (hResid3Ideal := hResid3Ideal)
    ∧ quiescent_Resid3ReferenceIdeal (hResid3ReferenceIdeal := hResid3ReferenceIdeal)
    ∧ quiescent_RmsKv (hRmsKv := hRmsKv)
    ∧ quiescent_RmsKvIdeal (hRmsKvIdeal := hRmsKvIdeal)
    ∧ quiescent_RmsKvReferenceIdeal (hRmsKvReferenceIdeal := hRmsKvReferenceIdeal)
    ∧ quiescent_Embed (hEmbed := hEmbed)
    ∧ quiescent_EmbedIdeal (hEmbedIdeal := hEmbedIdeal)
    ∧ quiescent_EmbedIdeal_pre_embed_finite (hEmbedIdeal := hEmbedIdeal) (hPre_embed_finite := hPre_embed_finite)
    ∧ quiescent_EmbedReferenceIdeal (hEmbedReferenceIdeal := hEmbedReferenceIdeal)
    ∧ quiescent_EmbedReferenceIdeal_pre_embed_finite (hEmbedReferenceIdeal := hEmbedReferenceIdeal) (hPre_embed_finite := hPre_embed_finite)
    ∧ quiescent_RmsCq (hRmsCq := hRmsCq)
    ∧ quiescent_RmsCqIdeal (hRmsCqIdeal := hRmsCqIdeal)
    ∧ quiescent_RmsCqIdeal_pre_rms_cq_finite (hRmsCqIdeal := hRmsCqIdeal) (hPre_rms_cq_finite := hPre_rms_cq_finite)
    ∧ quiescent_RmsCqReferenceIdeal (hRmsCqReferenceIdeal := hRmsCqReferenceIdeal)
    ∧ quiescent_RmsCqReferenceIdeal_pre_rms_cq_finite (hRmsCqReferenceIdeal := hRmsCqReferenceIdeal) (hPre_rms_cq_finite := hPre_rms_cq_finite)
    ∧ quiescent_Kidx (hKidx := hKidx)
    ∧ quiescent_KidxIdeal (hKidxIdeal := hKidxIdeal)
    ∧ quiescent_KidxIdeal_pre_kidx_finite (hKidxIdeal := hKidxIdeal) (hPre_kidx_finite := hPre_kidx_finite)
    ∧ quiescent_KidxReferenceIdeal (hKidxReferenceIdeal := hKidxReferenceIdeal)
    ∧ quiescent_KidxReferenceIdeal_pre_kidx_finite (hKidxReferenceIdeal := hKidxReferenceIdeal) (hPre_kidx_finite := hPre_kidx_finite)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_FfnAct0_FfnAct0Ideal
    ∧ algebraic_FfnAct0Ideal_FfnAct0ReferenceIdeal (hFfnAct0Ideal := hFfnAct0Ideal) (hFfnAct0ReferenceIdeal := hFfnAct0ReferenceIdeal)
    ∧ preserves_FfnDown0_FfnDown0Ideal
    ∧ algebraic_FfnDown0Ideal_FfnDown0ReferenceIdeal (hFfnDown0Ideal := hFfnDown0Ideal) (hFfnDown0ReferenceIdeal := hFfnDown0ReferenceIdeal)
    ∧ preserves_FfnAct1_FfnAct1Ideal
    ∧ algebraic_FfnAct1Ideal_FfnAct1ReferenceIdeal (hFfnAct1Ideal := hFfnAct1Ideal) (hFfnAct1ReferenceIdeal := hFfnAct1ReferenceIdeal)
    ∧ preserves_FfnDown1_FfnDown1Ideal
    ∧ algebraic_FfnDown1Ideal_FfnDown1ReferenceIdeal (hFfnDown1Ideal := hFfnDown1Ideal) (hFfnDown1ReferenceIdeal := hFfnDown1ReferenceIdeal)
    ∧ preserves_RetIn_RetInIdeal
    ∧ algebraic_RetInIdeal_RetInReferenceIdeal (hRetInIdeal := hRetInIdeal) (hRetInReferenceIdeal := hRetInReferenceIdeal)
    ∧ preserves_RetOut_RetOutIdeal
    ∧ algebraic_RetOutIdeal_RetOutReferenceIdeal (hRetOutIdeal := hRetOutIdeal) (hRetOutReferenceIdeal := hRetOutReferenceIdeal)
    ∧ preserves_HyOut_HyOutIdeal
    ∧ algebraic_HyOutIdeal_HyOutReferenceIdeal (hHyOutIdeal := hHyOutIdeal) (hHyOutReferenceIdeal := hHyOutReferenceIdeal)
    ∧ preserves_HyIn_HyInIdeal
    ∧ algebraic_HyInIdeal_HyInReferenceIdeal (hHyInIdeal := hHyInIdeal) (hHyInReferenceIdeal := hHyInReferenceIdeal)
    ∧ preserves_DsaK_DsaKIdeal
    ∧ algebraic_DsaKIdeal_DsaKReferenceIdeal (hDsaKIdeal := hDsaKIdeal) (hDsaKReferenceIdeal := hDsaKReferenceIdeal)
    ∧ preserves_DsaVt_DsaVtIdeal
    ∧ algebraic_DsaVtIdeal_DsaVtReferenceIdeal (hDsaVtIdeal := hDsaVtIdeal) (hDsaVtReferenceIdeal := hDsaVtReferenceIdeal)
    ∧ preserves_HyInX3_HyInX3Ideal
    ∧ algebraic_HyInX3Ideal_HyInX3ReferenceIdeal_pre_x3_finite (hHyInX3Ideal := hHyInX3Ideal) (hHyInX3ReferenceIdeal := hHyInX3ReferenceIdeal) (hPre_x3_finite := hPre_x3_finite)
    ∧ preserves_DsaQ_DsaQIdeal
    ∧ algebraic_DsaQIdeal_DsaQReferenceIdeal (hDsaQIdeal := hDsaQIdeal) (hDsaQReferenceIdeal := hDsaQReferenceIdeal)
    ∧ preserves_DsaQidx_DsaQidxIdeal
    ∧ algebraic_DsaQidxIdeal_DsaQidxReferenceIdeal_pre_qidx_finite (hDsaQidxIdeal := hDsaQidxIdeal) (hDsaQidxReferenceIdeal := hDsaQidxReferenceIdeal) (hPre_qidx_finite := hPre_qidx_finite)
    ∧ preserves_Resid0_Resid0Ideal
    ∧ algebraic_Resid0Ideal_Resid0ReferenceIdeal (hResid0Ideal := hResid0Ideal) (hResid0ReferenceIdeal := hResid0ReferenceIdeal)
    ∧ preserves_Resid1_Resid1Ideal
    ∧ algebraic_Resid1Ideal_Resid1ReferenceIdeal (hResid1Ideal := hResid1Ideal) (hResid1ReferenceIdeal := hResid1ReferenceIdeal)
    ∧ preserves_Resid2_Resid2Ideal
    ∧ algebraic_Resid2Ideal_Resid2ReferenceIdeal (hResid2Ideal := hResid2Ideal) (hResid2ReferenceIdeal := hResid2ReferenceIdeal)
    ∧ preserves_Resid3_Resid3Ideal
    ∧ algebraic_Resid3Ideal_Resid3ReferenceIdeal (hResid3Ideal := hResid3Ideal) (hResid3ReferenceIdeal := hResid3ReferenceIdeal)
    ∧ preserves_RmsKv_RmsKvIdeal
    ∧ algebraic_RmsKvIdeal_RmsKvReferenceIdeal (hRmsKvIdeal := hRmsKvIdeal) (hRmsKvReferenceIdeal := hRmsKvReferenceIdeal)
    ∧ preserves_Embed_EmbedIdeal
    ∧ algebraic_EmbedIdeal_EmbedReferenceIdeal_pre_embed_finite (hEmbedIdeal := hEmbedIdeal) (hEmbedReferenceIdeal := hEmbedReferenceIdeal) (hPre_embed_finite := hPre_embed_finite)
    ∧ preserves_RmsCq_RmsCqIdeal
    ∧ algebraic_RmsCqIdeal_RmsCqReferenceIdeal_pre_rms_cq_finite (hRmsCqIdeal := hRmsCqIdeal) (hRmsCqReferenceIdeal := hRmsCqReferenceIdeal) (hPre_rms_cq_finite := hPre_rms_cq_finite)
    ∧ preserves_Kidx_KidxIdeal
    ∧ algebraic_KidxIdeal_KidxReferenceIdeal_pre_kidx_finite (hKidxIdeal := hKidxIdeal) (hKidxReferenceIdeal := hKidxReferenceIdeal) (hPre_kidx_finite := hPre_kidx_finite)
-- ==== Pre_all_finite.lean ====
abbrev S8208x12288 : Shape := ⟨2, ![8208, 12288]⟩
abbrev S_ : Shape := ⟨0, ![]⟩

class Facts : Prop where
  bcast_S_S8208x12288 : S_.BroadcastsInDim S8208x12288 (![] : Fin 0 → Fin S8208x12288.rank)

variable [Facts]

def fn {F : FTy → Type} [FloatOps F] (main_arg0 : FVec F S8208x12288 .bf16) : IVec S8208x12288 1 :=
  let main_v0 : FVec F S8208x12288 .bf16 := Host.absf main_arg0
  let main_cst : FVec F S_ .bf16 := constant S_ .bf16 0x7F80#16
  let main_v1 : FVec F S8208x12288 .bf16 := broadcastInDim S8208x12288 ![] bcast_S_S8208x12288 main_cst
  let main_v2 : IVec S8208x12288 1 := cmpf .olt main_v0 main_v1
  main_v2
-- ==== Pre_embed_finite.lean ====
abbrev S1x8192x2048 : Shape := ⟨3, ![1, 8192, 2048]⟩
abbrev S16x2048 : Shape := ⟨2, ![16, 2048]⟩
abbrev S2x2048 : Shape := ⟨2, ![2, 2048]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : FVec F S1x8192x2048 .f32) (main_arg1 : FVec F S16x2048 .f32) (main_arg2 : FVec F S2x2048 .f32) : IVec S2x2048 1 :=
  let main_v0 : FVec F S2x2048 .f32 := Host.absf main_arg2
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  main_v2
-- ==== Pre_kidx_finite.lean ====
abbrev S8448x128 : Shape := ⟨2, ![8448, 128]⟩
abbrev S1x64 : Shape := ⟨2, ![1, 64]⟩
abbrev S_ : Shape := ⟨0, ![]⟩

class Facts : Prop where
  bcast_S_S1x64 : S_.BroadcastsInDim S1x64 (![] : Fin 0 → Fin S1x64.rank)

variable [Facts]

def fn {F : FTy → Type} [FloatOps F] (main_arg0 : FVec F S8448x128 .f32) (main_arg1 : FVec F S1x64 .f32) : IVec S1x64 1 :=
  let main_v0 : FVec F S1x64 .f32 := Host.absf main_arg1
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  main_v2
-- ==== Pre_qidx_finite.lean ====
abbrev S512x8448 : Shape := ⟨2, ![512, 8448]⟩
abbrev S1x512x1024 : Shape := ⟨3, ![1, 512, 1024]⟩
abbrev S_ : Shape := ⟨0, ![]⟩

class Facts : Prop where
  bcast_S_S512x8448 : S_.BroadcastsInDim S512x8448 (![] : Fin 0 → Fin S512x8448.rank)
  bcast_S_S1x512x1024 : S_.BroadcastsInDim S1x512x1024 (![] : Fin 0 → Fin S1x512x1024.rank)

variable [Facts]

def fn {F : FTy → Type} [FloatOps F] (main_arg0 : FVec F S512x8448 .f32) (main_arg1 : FVec F S1x512x1024 .f32) : IVec S512x8448 1 × IVec S1x512x1024 1 :=
  let main_v0 : FVec F S512x8448 .f32 := Host.absf main_arg0
  let main_cst : FVec F S_ .f32 := constant S_ .f32 0x7F800000#32
  let main_v1 : FVec F S512x8448 .f32 := broadcastInDim S512x8448 ![] bcast_S_S512x8448 main_cst
  let main_v2 : IVec S512x8448 1 := cmpf .olt main_v0 main_v1
  let main_v3 : FVec F S1x512x1024 .f32 := Host.absf main_arg1
  let main_cst_0 : FVec F S_ .f32 := constant S_ .f32 0x7F800000#32
  let main_v4 : FVec F S1x512x1024 .f32 := broadcastInDim S1x512x1024 ![] bcast_S_S1x512x1024 main_cst_0
  let main_v5 : IVec S1x512x1024 1 := cmpf .olt main_v3 main_v4
  (main_v2, main_v5)
-- ==== Pre_rms_cq_finite.lean ====
abbrev S640x8448 : Shape := ⟨2, ![640, 8448]⟩
abbrev S1x512 : Shape := ⟨2, ![1, 512]⟩
abbrev S_ : Shape := ⟨0, ![]⟩

class Facts : Prop where
  bcast_S_S1x512 : S_.BroadcastsInDim S1x512 (![] : Fin 0 → Fin S1x512.rank)

variable [Facts]

def fn {F : FTy → Type} [FloatOps F] (main_arg0 : FVec F S640x8448 .f32) (main_arg1 : FVec F S1x512 .f32) : IVec S1x512 1 :=
  let main_v0 : FVec F S1x512 .f32 := Host.absf main_arg1
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  main_v2
-- ==== Pre_x3_finite.lean ====
abbrev S8448x2048 : Shape := ⟨2, ![8448, 2048]⟩
abbrev S1x2048x4960 : Shape := ⟨3, ![1, 2048, 4960]⟩
abbrev S_ : Shape := ⟨0, ![]⟩

class Facts : Prop where
  bcast_S_S8448x2048 : S_.BroadcastsInDim S8448x2048 (![] : Fin 0 → Fin S8448x2048.rank)
  bcast_S_S1x2048x4960 : S_.BroadcastsInDim S1x2048x4960 (![] : Fin 0 → Fin S1x2048x4960.rank)

variable [Facts]

def fn {F : FTy → Type} [FloatOps F] (main_arg0 : FVec F S8448x2048 .f32) (main_arg1 : FVec F S1x2048x4960 .f32) : IVec S8448x2048 1 × IVec S1x2048x4960 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S1x2048x4960 .f32 := Host.absf main_arg1
  let main_cst_0 : FVec F S_ .f32 := constant S_ .f32 0x7F800000#32
  let main_v4 : FVec F S1x2048x4960 .f32 := broadcastInDim S1x2048x4960 ![] bcast_S_S1x2048x4960 main_cst_0
  let main_v5 : IVec S1x2048x4960 1 := cmpf .olt main_v3 main_v4
  (main_v2, main_v5)
-- ==== Kernel.lean ====
abbrev S8208x12288 : Shape := ⟨2, ![8208, 12288]⟩
abbrev S2 : Shape := ⟨1, ![2]⟩
abbrev S_ : Shape := ⟨0, ![]⟩
abbrev S8448x12288 : Shape := ⟨2, ![8448, 12288]⟩
abbrev S127 : Shape := ⟨1, ![127]⟩
abbrev S1 : Shape := ⟨1, ![1]⟩
abbrev S128 : Shape := ⟨1, ![128]⟩
abbrev S8448 : Shape := ⟨1, ![8448]⟩
abbrev S8448x1 : Shape := ⟨2, ![8448, 1]⟩
abbrev S128x2 : Shape := ⟨2, ![128, 2]⟩
abbrev S256 : Shape := ⟨1, ![256]⟩
abbrev S1x256 : Shape := ⟨2, ![1, 256]⟩
abbrev S8448x256 : Shape := ⟨2, ![8448, 256]⟩
abbrev S1x2 : Shape := ⟨2, ![1, 2]⟩
abbrev S8 : Shape := ⟨1, ![8]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S1x384x384 : Shape := ⟨3, ![1, 384, 384]⟩
abbrev S8x1x1 : Shape := ⟨3, ![8, 1, 1]⟩
abbrev S8x384x384 : Shape := ⟨3, ![8, 384, 384]⟩
abbrev S8x1 : Shape := ⟨2, ![8, 1]⟩
abbrev S8x384 : Shape := ⟨2, ![8, 384]⟩
abbrev S8x384x1 : Shape := ⟨3, ![8, 384, 1]⟩
abbrev S8x1x512 : Shape := ⟨3, ![8, 1, 512]⟩
abbrev S8448x4096 : Shape := ⟨2, ![8448, 4096]⟩
abbrev S384x512 : Shape := ⟨2, ![384, 512]⟩
abbrev S384x1024 : Shape := ⟨2, ![384, 1024]⟩
abbrev S384x256 : Shape := ⟨2, ![384, 256]⟩
abbrev S2x384x384 : Shape := ⟨3, ![2, 384, 384]⟩
abbrev S2x384x1 : Shape := ⟨3, ![2, 384, 1]⟩
abbrev S2x1x512 : Shape := ⟨3, ![2, 1, 512]⟩
abbrev S2x256x512 : Shape := ⟨3, ![2, 256, 512]⟩
abbrev S1x256x512 : Shape := ⟨3, ![1, 256, 512]⟩
abbrev S256x512 : Shape := ⟨2, ![256, 512]⟩
abbrev S1x384x1 : Shape := ⟨3, ![1, 384, 1]⟩
abbrev S1x1x512 : Shape := ⟨3, ![1, 1, 512]⟩
abbrev S1x512 : Shape := ⟨2, ![1, 512]⟩

abbrev nBuf : Space → Nat
  | .hbm => 115
  | .vmem => 23
  | .smem => 0
  | _ => 0

abbrev bufTy : (tb : Table) → Fin (tcTables nBuf tb) → BufTy
  | .hbm, ⟨0, _⟩ => ⟨S8208x12288, .bf16⟩
  | .hbm, ⟨1, _⟩ => ⟨S2, .f32⟩
  | .hbm, ⟨2, _⟩ => ⟨S_, .i32⟩
  | .hbm, ⟨3, _⟩ => ⟨S_, .bf16⟩
  | .hbm, ⟨4, _⟩ => ⟨S8448x12288, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S127, .f32⟩
  | .hbm, ⟨13, _⟩ => ⟨S_, .f32⟩
  | .hbm, ⟨14, _⟩ => ⟨S127, .f32⟩
  | .hbm, ⟨15, _⟩ => ⟨S127, .f32⟩
  | .hbm, ⟨16, _⟩ => ⟨S1, .f32⟩
  | .hbm, ⟨17, _⟩ => ⟨S_, .f32⟩
  | .hbm, ⟨18, _⟩ => ⟨S127, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S127, .f32⟩
  | .hbm, ⟨24, _⟩ => ⟨S127, .f32⟩
  | .hbm, ⟨25, _⟩ => ⟨S127, .f32⟩
  | .hbm, ⟨26, _⟩ => ⟨S1, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S8448, .i32⟩
  | .hbm, ⟨35, _⟩ => ⟨S_, .i32⟩
  | .hbm, ⟨36, _⟩ => ⟨S8448, .i32⟩
  | .hbm, ⟨37, _⟩ => ⟨S8448, .i32⟩
  | .hbm, ⟨38, _⟩ => ⟨S8448, .f32⟩
  | .hbm, ⟨39, _⟩ => ⟨S8448x1, .f32⟩
  | .hbm, ⟨40, _⟩ => ⟨S128x2, .f32⟩
  | .hbm, ⟨41, _⟩ => ⟨S256, .f32⟩
  | .hbm, ⟨42, _⟩ => ⟨S1x256, .f32⟩
  | .hbm, ⟨43, _⟩ => ⟨S8448x256, .f32⟩
  | .hbm, ⟨44, _⟩ => ⟨S8448x256, .f32⟩
  | .hbm, ⟨45, _⟩ => ⟨S8448x256, .f32⟩
  | .hbm, ⟨46, _⟩ => ⟨S1x2, .f32⟩
  | .hbm, ⟨47, _⟩ => ⟨S128x2, .f32⟩
  | .hbm, ⟨48, _⟩ => ⟨S256, .f32⟩
  | .hbm, ⟨49, _⟩ => ⟨S8448x256, .f32⟩
  | .hbm, ⟨50, _⟩ => ⟨S8448x256, .f32⟩
  | .hbm, ⟨51, _⟩ => ⟨S1x256, .f32⟩
  | .hbm, ⟨52, _⟩ => ⟨S8448x256, .f32⟩
  | .hbm, ⟨53, _⟩ => ⟨S8448x256, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S8, .f32⟩
  | .hbm, ⟨65, _⟩ => ⟨S384, .f32⟩
  | .hbm, ⟨66, _⟩ => ⟨S384x1, .f32⟩
  | .hbm, ⟨67, _⟩ => ⟨S1x384, .f32⟩
  | .hbm, ⟨68, _⟩ => ⟨S384x384, .f32⟩
  | .hbm, ⟨69, _⟩ => ⟨S384x384, .f32⟩
  | .hbm, ⟨70, _⟩ => ⟨S384x384, .f32⟩
  | .hbm, ⟨71, _⟩ => ⟨S_, .f32⟩
  | .hbm, ⟨72, _⟩ => ⟨S384x384, .f32⟩
  | .hbm, ⟨73, _⟩ => ⟨S384x384, .i1⟩
  | .hbm, ⟨74, _⟩ => ⟨S_, .f32⟩
  | .hbm, ⟨75, _⟩ => ⟨S384x384, .f32⟩
  | .hbm, ⟨76, _⟩ => ⟨S384x384, .f32⟩
  | .hbm, ⟨77, _⟩ => ⟨S1x384x384, .f32⟩
  | .hbm, ⟨78, _⟩ => ⟨S8x1x1, .f32⟩
  | .hbm, ⟨79, _⟩ => ⟨S8x384x384, .f32⟩
  | .hbm, ⟨80, _⟩ => ⟨S8x384x384, .f32⟩
  | .hbm, ⟨81, _⟩ => ⟨S8x384x384, .f32⟩
  | .hbm, ⟨82, _⟩ => ⟨S8x384x384, .f32⟩
  | .hbm, ⟨83, _⟩ => ⟨S_, .f32⟩
  | .hbm, ⟨84, _⟩ => ⟨S_, .f32⟩
  | .hbm, ⟨85, _⟩ => ⟨S8x384x384, .i1⟩
  | .hbm, ⟨86, _⟩ => ⟨S8x384x384, .f32⟩
  | .hbm, ⟨87, _⟩ => ⟨S8x384x384, .f32⟩
  | .hbm, ⟨88, _⟩ => ⟨S_, .f32⟩
  | .hbm, ⟨89, _⟩ => ⟨S384, .f32⟩
  | .hbm, ⟨90, _⟩ => ⟨S384, .f32⟩
  | .hbm, ⟨91, _⟩ => ⟨S1x384, .f32⟩
  | .hbm, ⟨92, _⟩ => ⟨S8x1, .f32⟩
  | .hbm, ⟨93, _⟩ => ⟨S8x384, .f32⟩
  | .hbm, ⟨94, _⟩ => ⟨S8x384, .f32⟩
  | .hbm, ⟨95, _⟩ => ⟨S8x384, .f32⟩
  | .hbm, ⟨96, _⟩ => ⟨S8x384, .f32⟩
  | .hbm, ⟨97, _⟩ => ⟨S8x384x1, .f32⟩
  | .hbm, ⟨98, _⟩ => ⟨S_, .f32⟩
  | .hbm, ⟨99, _⟩ => ⟨S384, .f32⟩
  | .hbm, ⟨100, _⟩ => ⟨S384, .f32⟩
  | .hbm, ⟨101, _⟩ => ⟨S1x384, .f32⟩
  | .hbm, ⟨102, _⟩ => ⟨S8x1, .f32⟩
  | .hbm, ⟨103, _⟩ => ⟨S8x384, .f32⟩
  | .hbm, ⟨104, _⟩ => ⟨S8x384, .f32⟩
  | .hbm, ⟨105, _⟩ => ⟨S8x384, .f32⟩
  | .hbm, ⟨106, _⟩ => ⟨S8x384, .f32⟩
  | .hbm, ⟨107, _⟩ => ⟨S8x384x1, .f32⟩
  | .hbm, ⟨108, _⟩ => ⟨S_, .f32⟩
  | .hbm, ⟨109, _⟩ => ⟨S8, .f32⟩
  | .hbm, ⟨110, _⟩ => ⟨S8, .f32⟩
  | .hbm, ⟨111, _⟩ => ⟨S8, .f32⟩
  | .hbm, ⟨112, _⟩ => ⟨S8x1x1, .f32⟩
  | .hbm, ⟨113, _⟩ => ⟨S8x1x512, .f32⟩
  | .hbm, ⟨114, _⟩ => ⟨S8448x4096, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x256, .f32⟩
  | .local _ .vmem, ⟨9, _⟩ => ⟨S384x256, .f32⟩
  | .local _ .vmem, ⟨10, _⟩ => ⟨S384x256, .f32⟩
  | .local _ .vmem, ⟨11, _⟩ => ⟨S384x256, .f32⟩
  | .local _ .vmem, ⟨12, _⟩ => ⟨S2x384x384, .f32⟩
  | .local _ .vmem, ⟨13, _⟩ => ⟨S2x384x384, .f32⟩
  | .local _ .vmem, ⟨14, _⟩ => ⟨S2x384x1, .f32⟩
  | .local _ .vmem, ⟨15, _⟩ => ⟨S2x384x1, .f32⟩
  | .local _ .vmem, ⟨16, _⟩ => ⟨S2x384x1, .f32⟩
  | .local _ .vmem, ⟨17, _⟩ => ⟨S2x384x1, .f32⟩
  | .local _ .vmem, ⟨18, _⟩ => ⟨S2x1x512, .f32⟩
  | .local _ .vmem, ⟨19, _⟩ => ⟨S2x1x512, .f32⟩
  | .local _ .vmem, ⟨20, _⟩ => ⟨S384x1024, .bf16⟩
  | .local _ .vmem, ⟨21, _⟩ => ⟨S384x1024, .bf16⟩
  | .local _ .vmem, ⟨22, _⟩ => ⟨S2x256x512, .f32⟩
  | _, _ => ⟨S8208x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_cst_1 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_cst : Ref sig .tc := ⟨.hbm, 10, rfl⟩
abbrev main_call1_v3 : Ref sig .tc := ⟨.hbm, 11, rfl⟩
abbrev main_call1_v4 : Ref sig .tc := ⟨.hbm, 12, rfl⟩
abbrev main_call1_cst_0 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_cst_1 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_v12 : Ref sig .tc := ⟨.hbm, 22, rfl⟩
abbrev main_call1_v13 : Ref sig .tc := ⟨.hbm, 23, rfl⟩
abbrev main_call1_v14 : Ref sig .tc := ⟨.hbm, 24, rfl⟩
abbrev main_call1_v15 : Ref sig .tc := ⟨.hbm, 25, rfl⟩
abbrev main_call1_v16 : Ref sig .tc := ⟨.hbm, 26, rfl⟩
abbrev main_v1 : Ref sig .tc := ⟨.hbm, 27, rfl⟩
abbrev main_cst_2 : Ref sig .tc := ⟨.hbm, 28, rfl⟩
abbrev main_v2 : Ref sig .tc := ⟨.hbm, 29, rfl⟩
abbrev main_v3 : Ref sig .tc := ⟨.hbm, 30, rfl⟩
abbrev main_cst_3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_4 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_cst_6 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_8 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x384x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8208x12288 : Shape := ⟨2, ![8208, 12288]⟩
abbrev S1x8208x12288 : Shape := ⟨3, ![1, 8208, 12288]⟩
abbrev S1x8208x2048 : Shape := ⟨3, ![1, 8208, 2048]⟩
abbrev S1x8208x4096 : Shape := ⟨3, ![1, 8208, 4096]⟩
abbrev S8208 : Shape := ⟨1, ![8208]⟩
abbrev S1x8208x8x256 : Shape := ⟨4, ![1, 8208, 8, 256]⟩
abbrev S_ : Shape := ⟨0, ![]⟩
abbrev S127 : Shape := ⟨1, ![127]⟩
abbrev S1 : Shape := ⟨1, ![1]⟩
abbrev S128 : Shape := ⟨1, ![128]⟩
abbrev S8208x1 : Shape := ⟨2, ![8208, 1]⟩
abbrev S1x128 : Shape := ⟨2, ![1, 128]⟩
abbrev S8208x128 : Shape := ⟨2, ![8208, 128]⟩
abbrev S8208x1x128 : Shape := ⟨3, ![8208, 1, 128]⟩
abbrev S1x8208x8x128 : Shape := ⟨4, ![1, 8208, 8, 128]⟩
abbrev S1x8208x1x128 : Shape := ⟨4, ![1, 8208, 1, 128]⟩
abbrev S1x8208x8x128x1 : Shape := ⟨5, ![1, 8208, 8, 128, 1]⟩
abbrev S1x8208x8x128x2 : Shape := ⟨5, ![1, 8208, 8, 128, 2]⟩
abbrev S1x8208x8x512 : Shape := ⟨4, ![1, 8208, 8, 512]⟩
abbrev S1x8256x8x256 : Shape := ⟨4, ![1, 8256, 8, 256]⟩
abbrev S1x129x64x8x256 : Shape := ⟨5, ![1, 129, 64, 8, 256]⟩
abbrev S1x8x129x64x256 : Shape := ⟨5, ![1, 8, 129, 64, 256]⟩
abbrev S1x8256x8x512 : Shape := ⟨4, ![1, 8256, 8, 512]⟩
abbrev S1x129x64x8x512 : Shape := ⟨5, ![1, 129, 64, 8, 512]⟩
abbrev S1x8x129x64x512 : Shape := ⟨5, ![1, 8, 129, 64, 512]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S8x1 : Shape := ⟨2, ![8, 1]⟩
abbrev S8x64 : Shape := ⟨2, ![8, 64]⟩
abbrev S1x8x256x512 : Shape := ⟨4, ![1, 8, 256, 512]⟩
abbrev S129x1x8x64x256 : Shape := ⟨5, ![129, 1, 8, 64, 256]⟩
abbrev S129x1x8x64x512 : Shape := ⟨5, ![129, 1, 8, 64, 512]⟩
abbrev S1x1x8x64x256 : Shape := ⟨5, ![1, 1, 8, 64, 256]⟩
abbrev S1x8x64x256 : Shape := ⟨4, ![1, 8, 64, 256]⟩
abbrev S1x1x8x64x512 : Shape := ⟨5, ![1, 1, 8, 64, 512]⟩
abbrev S1x8x64x512 : Shape := ⟨4, ![1, 8, 64, 512]⟩
abbrev S1x8x64x64 : Shape := ⟨4, ![1, 8, 64, 64]⟩
abbrev S8x64x512 : Shape := ⟨3, ![8, 64, 512]⟩
abbrev S1x8x64x1 : Shape := ⟨4, ![1, 8, 64, 1]⟩
abbrev S8x64x256 : Shape := ⟨3, ![8, 64, 256]⟩
abbrev S8x256x512 : Shape := ⟨3, ![8, 256, 512]⟩
abbrev S1x8x1x1 : Shape := ⟨4, ![1, 8, 1, 1]⟩
abbrev S1x8x256x64 : Shape := ⟨4, ![1, 8, 256, 64]⟩
abbrev S8x256x64 : Shape := ⟨3, ![8, 256, 64]⟩
abbrev S1x8x8256x512 : Shape := ⟨4, ![1, 8, 8256, 512]⟩
abbrev S1x8x8208x512 : Shape := ⟨4, ![1, 8, 8208, 512]⟩
abbrev S1x8208x8 : Shape := ⟨3, ![1, 8208, 8]⟩
abbrev S1x8208x8x1 : Shape := ⟨4, ![1, 8208, 8, 1]⟩
abbrev S8208x4096 : Shape := ⟨2, ![8208, 4096]⟩
abbrev S8448x4096 : Shape := ⟨2, ![8448, 4096]⟩

abbrev nBuf : Space → Nat
  | .hbm => 309
  | .vmem => 0
  | .smem => 0
  | _ => 0

abbrev hbmTy0_0 (i : Nat) : BufTy := match i % 128 with
  | 0 => ⟨S8208x12288, .bf16⟩
  | 1 => ⟨S8208x12288, .f32⟩
  | 2 => ⟨S1x8208x12288, .f32⟩
  | 3 => ⟨S1x8208x2048, .f32⟩
  | 4 => ⟨S1x8208x2048, .f32⟩
  | 5 => ⟨S1x8208x4096, .f32⟩
  | 6 => ⟨S8208, .i32⟩
  | 7 => ⟨S1x8208x8x256, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S127, .f32⟩
  | 16 => ⟨S_, .f32⟩
  | 17 => ⟨S127, .f32⟩
  | 18 => ⟨S127, .f32⟩
  | 19 => ⟨S1, .f32⟩
  | 20 => ⟨S_, .f32⟩
  | 21 => ⟨S127, .f32⟩
  | 22 => ⟨S127, .f32⟩
  | 23 => ⟨S127, .f32⟩
  | 24 => ⟨S127, .f32⟩
  | 25 => ⟨S1, .f32⟩
  | 26 => ⟨S127, .f32⟩
  | 27 => ⟨S127, .f32⟩
  | 28 => ⟨S127, .f32⟩
  | 29 => ⟨S1, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S8208, .f32⟩
  | 38 => ⟨S8208x1, .f32⟩
  | 39 => ⟨S1x128, .f32⟩
  | 40 => ⟨S8208x128, .f32⟩
  | 41 => ⟨S8208x128, .f32⟩
  | 42 => ⟨S8208x128, .f32⟩
  | 43 => ⟨S8208x128, .f32⟩
  | 44 => ⟨S8208x1x128, .f32⟩
  | 45 => ⟨S8208x128, .f32⟩
  | 46 => ⟨S8208x1x128, .f32⟩
  | 47 => ⟨S1x8208x8x128, .f32⟩
  | 48 => ⟨S1x8208x8x128, .f32⟩
  | 49 => ⟨S1x8208x1x128, .f32⟩
  | 50 => ⟨S1x8208x8x128, .f32⟩
  | 51 => ⟨S1x8208x8x128, .f32⟩
  | 52 => ⟨S1x8208x1x128, .f32⟩
  | 53 => ⟨S1x8208x8x128, .f32⟩
  | 54 => ⟨S1x8208x8x128, .f32⟩
  | 55 => ⟨S1x8208x8x128, .f32⟩
  | 56 => ⟨S1x8208x1x128, .f32⟩
  | 57 => ⟨S1x8208x8x128, .f32⟩
  | 58 => ⟨S1x8208x8x128, .f32⟩
  | 59 => ⟨S1x8208x1x128, .f32⟩
  | 60 => ⟨S1x8208x8x128, .f32⟩
  | 61 => ⟨S1x8208x8x128, .f32⟩
  | 62 => ⟨S1x8208x8x128, .f32⟩
  | 63 => ⟨S1x8208x8x128x1, .f32⟩
  | 64 => ⟨S1x8208x8x128x1, .f32⟩
  | 65 => ⟨S1x8208x8x128x2, .f32⟩
  | 66 => ⟨S1x8208x8x256, .f32⟩
  | 67 => ⟨S1x8208x8x256, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S127, .f32⟩
  | 76 => ⟨S_, .f32⟩
  | 77 => ⟨S127, .f32⟩
  | 78 => ⟨S127, .f32⟩
  | 79 => ⟨S1, .f32⟩
  | 80 => ⟨S_, .f32⟩
  | 81 => ⟨S127, .f32⟩
  | 82 => ⟨S127, .f32⟩
  | 83 => ⟨S127, .f32⟩
  | 84 => ⟨S127, .f32⟩
  | 85 => ⟨S1, .f32⟩
  | 86 => ⟨S127, .f32⟩
  | 87 => ⟨S127, .f32⟩
  | 88 => ⟨S127, .f32⟩
  | 89 => ⟨S1, .f32⟩
  | 90 => ⟨S128, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S8208, .f32⟩
  | 98 => ⟨S8208x1, .f32⟩
  | 99 => ⟨S1x128, .f32⟩
  | 100 => ⟨S8208x128, .f32⟩
  | 101 => ⟨S8208x128, .f32⟩
  | 102 => ⟨S8208x128, .f32⟩
  | 103 => ⟨S8208x128, .f32⟩
  | 104 => ⟨S8208x1x128, .f32⟩
  | 105 => ⟨S8208x128, .f32⟩
  | 106 => ⟨S8208x1x128, .f32⟩
  | 107 => ⟨S1x8208x8x128, .f32⟩
  | 108 => ⟨S1x8208x8x128, .f32⟩
  | 109 => ⟨S1x8208x1x128, .f32⟩
  | 110 => ⟨S1x8208x8x128, .f32⟩
  | 111 => ⟨S1x8208x8x128, .f32⟩
  | 112 => ⟨S1x8208x1x128, .f32⟩
  | 113 => ⟨S1x8208x8x128, .f32⟩
  | 114 => ⟨S1x8208x8x128, .f32⟩
  | 115 => ⟨S1x8208x8x128, .f32⟩
  | 116 => ⟨S1x8208x1x128, .f32⟩
  | 117 => ⟨S1x8208x8x128, .f32⟩
  | 118 => ⟨S1x8208x8x128, .f32⟩
  | 119 => ⟨S1x8208x1x128, .f32⟩
  | 120 => ⟨S1x8208x8x128, .f32⟩
  | 121 => ⟨S1x8208x8x128, .f32⟩
  | 122 => ⟨S1x8208x8x128, .f32⟩
  | 123 => ⟨S1x8208x8x128x1, .f32⟩
  | 124 => ⟨S1x8208x8x128x1, .f32⟩
  | 125 => ⟨S1x8208x8x128x2, .f32⟩
  | 126 => ⟨S1x8208x8x256, .f32⟩
  | 127 => ⟨S_, .f32⟩
  | _ => ⟨S8208x12288, .bf16⟩

abbrev hbmTy0_1 (i : Nat) : BufTy := match i % 128 with
  | 0 => ⟨S1x8208x8x256, .f32⟩
  | 1 => ⟨S1x8208x8x256, .f32⟩
  | 2 => ⟨S1x8208x8x512, .f32⟩
  | 3 => ⟨S_, .i32⟩
  | 4 => ⟨S_, .f32⟩
  | 5 => ⟨S1x8256x8x256, .f32⟩
  | 6 => ⟨S1x129x64x8x256, .f32⟩
  | 7 => ⟨S1x8x129x64x256, .f32⟩
  | 8 => ⟨S_, .i32⟩
  | 9 => ⟨S_, .f32⟩
  | 10 => ⟨S1x8256x8x256, .f32⟩
  | 11 => ⟨S1x129x64x8x256, .f32⟩
  | 12 => ⟨S1x8x129x64x256, .f32⟩
  | 13 => ⟨S_, .i32⟩
  | 14 => ⟨S_, .f32⟩
  | 15 => ⟨S1x8256x8x512, .f32⟩
  | 16 => ⟨S1x129x64x8x512, .f32⟩
  | 17 => ⟨S1x8x129x64x512, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S8, .f32⟩
  | 29 => ⟨S64, .f32⟩
  | 30 => ⟨S64x1, .f32⟩
  | 31 => ⟨S1x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .i1⟩
  | 38 => ⟨S_, .f32⟩
  | 39 => ⟨S64x64, .f32⟩
  | 40 => ⟨S64x64, .f32⟩
  | 41 => ⟨S1x64x64, .f32⟩
  | 42 => ⟨S8x1x1, .f32⟩
  | 43 => ⟨S8x64x64, .f32⟩
  | 44 => ⟨S8x64x64, .f32⟩
  | 45 => ⟨S8x64x64, .f32⟩
  | 46 => ⟨S8x64x64, .f32⟩
  | 47 => ⟨S_, .f32⟩
  | 48 => ⟨S_, .f32⟩
  | 49 => ⟨S8x64x64, .i1⟩
  | 50 => ⟨S8x64x64, .f32⟩
  | 51 => ⟨S8x64x64, .f32⟩
  | 52 => ⟨S_, .f32⟩
  | 53 => ⟨S64, .f32⟩
  | 54 => ⟨S64, .f32⟩
  | 55 => ⟨S1x64, .f32⟩
  | 56 => ⟨S8x1, .f32⟩
  | 57 => ⟨S8x64, .f32⟩
  | 58 => ⟨S8x64, .f32⟩
  | 59 => ⟨S8x64, .f32⟩
  | 60 => ⟨S8x64, .f32⟩
  | 61 => ⟨S_, .f32⟩
  | 62 => ⟨S64, .f32⟩
  | 63 => ⟨S64, .f32⟩
  | 64 => ⟨S1x64, .f32⟩
  | 65 => ⟨S8x1, .f32⟩
  | 66 => ⟨S8x64, .f32⟩
  | 67 => ⟨S8x64, .f32⟩
  | 68 => ⟨S8x64, .f32⟩
  | 69 => ⟨S8x64, .f32⟩
  | 70 => ⟨S_, .f32⟩
  | 71 => ⟨S8, .f32⟩
  | 72 => ⟨S8, .f32⟩
  | 73 => ⟨S8, .f32⟩
  | 74 => ⟨S_, .f32⟩
  | 75 => ⟨S1x8x256x512, .f32⟩
  | 76 => ⟨S129x1x8x64x256, .f32⟩
  | 77 => ⟨S129x1x8x64x256, .f32⟩
  | 78 => ⟨S129x1x8x64x512, .f32⟩
  | 79 => ⟨S_, .f32⟩
  | 80 => ⟨S129x1x8x64x512, .f32⟩
  | 81 => ⟨S_, .i32⟩
  | 82 => ⟨S129x1x8x64x256, .f32⟩
  | 83 => ⟨S129x1x8x64x256, .f32⟩
  | 84 => ⟨S129x1x8x64x512, .f32⟩
  | 85 => ⟨S8x64x64, .f32⟩
  | 86 => ⟨S8x64, .f32⟩
  | 87 => ⟨S8x64, .f32⟩
  | 88 => ⟨S8, .f32⟩
  | 89 => ⟨S_, .i32⟩
  | 90 => ⟨S1x8x256x512, .f32⟩
  | 91 => ⟨S129x1x8x64x512, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x1x8x64x256, .f32⟩
  | 99 => ⟨S1x8x64x256, .f32⟩
  | 100 => ⟨S_, .i32⟩
  | 101 => ⟨S_, .i32⟩
  | 102 => ⟨S_, .i32⟩
  | 103 => ⟨S_, .i32⟩
  | 104 => ⟨S1x1x8x64x256, .f32⟩
  | 105 => ⟨S1x8x64x256, .f32⟩
  | 106 => ⟨S_, .i32⟩
  | 107 => ⟨S_, .i32⟩
  | 108 => ⟨S_, .i32⟩
  | 109 => ⟨S_, .i32⟩
  | 110 => ⟨S1x1x8x64x512, .f32⟩
  | 111 => ⟨S1x8x64x512, .f32⟩
  | 112 => ⟨S1x8x64x64, .f32⟩
  | 113 => ⟨S1x8x64x64, .f32⟩
  | 114 => ⟨S1x8x64x64, .f32⟩
  | 115 => ⟨S8x64x64, .f32⟩
  | 116 => ⟨S8x64x512, .f32⟩
  | 117 => ⟨S8x64x512, .f32⟩
  | 118 => ⟨S1x8x64x512, .f32⟩
  | 119 => ⟨S1x8x64x1, .f32⟩
  | 120 => ⟨S1x8x64x256, .f32⟩
  | 121 => ⟨S1x8x64x256, .f32⟩
  | 122 => ⟨S8x64x256, .f32⟩
  | 123 => ⟨S8x256x512, .f32⟩
  | 124 => ⟨S8x64x512, .f32⟩
  | 125 => ⟨S1x8x64x512, .f32⟩
  | 126 => ⟨S1x8x64x512, .f32⟩
  | 127 => ⟨S1x8x64x1, .f32⟩
  | _ => ⟨S8208x12288, .bf16⟩

abbrev hbmTy0_2 (i : Nat) : BufTy := match i % 128 with
  | 0 => ⟨S1x8x64x256, .f32⟩
  | 1 => ⟨S1x8x64x256, .f32⟩
  | 2 => ⟨S1x8x1x1, .f32⟩
  | 3 => ⟨S1x8x256x512, .f32⟩
  | 4 => ⟨S1x8x256x512, .f32⟩
  | 5 => ⟨S1x8x256x64, .f32⟩
  | 6 => ⟨S8x256x64, .f32⟩
  | 7 => ⟨S8x64x512, .f32⟩
  | 8 => ⟨S8x256x512, .f32⟩
  | 9 => ⟨S1x8x256x512, .f32⟩
  | 10 => ⟨S1x8x256x512, .f32⟩
  | 11 => ⟨S1x1x8x64x512, .f32⟩
  | 12 => ⟨S_, .i32⟩
  | 13 => ⟨S_, .i32⟩
  | 14 => ⟨S_, .i32⟩
  | 15 => ⟨S_, .i32⟩
  | 16 => ⟨S129x1x8x64x512, .f32⟩
  | 17 => ⟨S_, .i32⟩
  | 18 => ⟨S_, .i32⟩
  | 19 => ⟨S1x8x129x64x512, .f32⟩
  | 20 => ⟨S1x8x8256x512, .f32⟩
  | 21 => ⟨S1x8x8208x512, .f32⟩
  | 22 => ⟨S1x8208x8x512, .f32⟩
  | 23 => ⟨S1x8208x8x512, .f32⟩
  | 24 => ⟨S_, .f32⟩
  | 25 => ⟨S1x8208x8, .f32⟩
  | 26 => ⟨S1x8208x8x1, .f32⟩
  | 27 => ⟨S_, .f32⟩
  | 28 => ⟨S1x8208x8x1, .f32⟩
  | 29 => ⟨S1x8208x8x1, .f32⟩
  | 30 => ⟨S_, .f32⟩
  | 31 => ⟨S1x8208x8x1, .f32⟩
  | 32 => ⟨S1x8208x8x1, .f32⟩
  | 33 => ⟨S1x8208x8x1, .f32⟩
  | 34 => ⟨S1x8208x8x512, .f32⟩
  | 35 => ⟨S1x8208x8x512, .f32⟩
  | 36 => ⟨S8208x4096, .f32⟩
  | 37 => ⟨S8208x4096, .bf16⟩
  | 38 => ⟨S8208x4096, .f32⟩
  | 39 => ⟨S8208x4096, .f32⟩
  | 40 => ⟨S8208x4096, .f32⟩
  | 41 => ⟨S_, .f32⟩
  | 42 => ⟨S8208x4096, .f32⟩
  | 43 => ⟨S8208x4096, .f32⟩
  | 44 => ⟨S_, .f32⟩
  | 45 => ⟨S8208x4096, .f32⟩
  | 46 => ⟨S8208x4096, .f32⟩
  | 47 => ⟨S8208x4096, .f32⟩
  | 48 => ⟨S8208x4096, .f32⟩
  | 49 => ⟨S_, .i32⟩
  | 50 => ⟨S_, .f32⟩
  | 51 => ⟨S8448x4096, .f32⟩
  | 52 => ⟨S8448x4096, .bf16⟩
  | _ => ⟨S8208x12288, .bf16⟩

abbrev hbmTy (i : Nat) : BufTy := match i / 128 with
  | 0 => hbmTy0_0 i
  | 1 => hbmTy0_1 i
  | 2 => hbmTy0_2 i
  | _ => ⟨S8208x12288, .bf16⟩

abbrev bufTy : (tb : Table) → Fin (tcTables nBuf tb) → BufTy
  | .hbm, ⟨i, _⟩ => hbmTy i
  | _, _ => ⟨S8208x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_cst_4 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_cst : Ref sig .tc := ⟨.hbm, 73, rfl⟩
abbrev main_call1_v3 : Ref sig .tc := ⟨.hbm, 74, rfl⟩
abbrev main_call1_v4 : Ref sig .tc := ⟨.hbm, 75, rfl⟩
abbrev main_call1_cst_0 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_v15 : Ref sig .tc := ⟨.hbm, 88, rfl⟩
abbrev main_call1_v16 : Ref sig .tc := ⟨.hbm, 89, rfl⟩
abbrev main_v43 : Ref sig .tc := ⟨.hbm, 90, rfl⟩
abbrev main_cst_5 : Ref sig .tc := ⟨.hbm, 91, rfl⟩
abbrev main_v44 : Ref sig .tc := ⟨.hbm, 92, rfl⟩
abbrev main_v45 : Ref sig .tc := ⟨.hbm, 93, rfl⟩
abbrev main_cst_6 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_7 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c : Ref sig .tc := ⟨.hbm, 131, rfl⟩
abbrev main_call2_v0 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_8 : Ref sig .tc := ⟨.hbm, 136, rfl⟩
abbrev main_call3_v0 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_9 : Ref sig .tc := ⟨.hbm, 141, rfl⟩
abbrev main_call4_v0 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_10 : Ref sig .tc := ⟨.hbm, 147, rfl⟩
abbrev main_v91 : Ref sig .tc := ⟨.hbm, 148, rfl⟩
abbrev main_v92 : Ref sig .tc := ⟨.hbm, 149, rfl⟩
abbrev main_cst_11 : Ref sig .tc := ⟨.hbm, 150, rfl⟩
abbrev main_v93 : Ref sig .tc := ⟨.hbm, 151, rfl⟩
abbrev main_v94 : Ref sig .tc := ⟨.hbm, 152, rfl⟩
abbrev main_cst_12 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_13 : Ref sig .tc := ⟨.hbm, 163, rfl⟩
abbrev main_v104 : Ref sig .tc := ⟨.hbm, 164, rfl⟩
abbrev main_v105 : Ref sig .tc := ⟨.hbm, 165, rfl⟩
abbrev main_cst_14 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_15 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_v114 : Ref sig .tc := ⟨.hbm, 179, rfl⟩
abbrev main_cst_16 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_17 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_cst_18 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_19 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_20 : Ref sig .tc := ⟨.hbm, 207, rfl⟩
abbrev main_v138 : Ref sig .tc := ⟨.hbm, 208, rfl⟩
abbrev main_c_21 : Ref sig .tc := ⟨.hbm, 209, rfl⟩
abbrev main_v139_0 : Ref sig .tc := ⟨.hbm, 210, rfl⟩
abbrev main_v139_1 : Ref sig .tc := ⟨.hbm, 211, rfl⟩
abbrev main_v139_2 : Ref sig .tc := ⟨.hbm, 212, rfl⟩
abbrev main_v139_3 : Ref sig .tc := ⟨.hbm, 213, rfl⟩
abbrev main_v139_4 : Ref sig .tc := ⟨.hbm, 214, rfl⟩
abbrev main_v139_5 : Ref sig .tc := ⟨.hbm, 215, rfl⟩
abbrev main_v139_6 : Ref sig .tc := ⟨.hbm, 216, rfl⟩
abbrev main_v139_7 : Ref sig .tc := ⟨.hbm, 217, rfl⟩
abbrev main_v139_8 : Ref sig .tc := ⟨.hbm, 218, rfl⟩
abbrev main_v139_9 : Ref sig .tc := ⟨.hbm, 219, rfl⟩
abbrev main_while0c_c_35 : Ref sig .tc := ⟨.hbm, 220, rfl⟩
abbrev main_while0c_v161 : Ref sig .tc := ⟨.hbm, 221, rfl⟩
abbrev main_while0b_call6_c : Ref sig .tc := ⟨.hbm, 222, rfl⟩
abbrev main_while0b_call6_c_0 : Ref sig .tc := ⟨.hbm, 223, rfl⟩
abbrev main_while0b_call6_c_1 : Ref sig .tc := ⟨.hbm, 224, rfl⟩
abbrev main_while0b_call6_c_2 : Ref sig .tc := ⟨.hbm, 225, rfl⟩
abbrev main_while0b_call6_v0 : Ref sig .tc := ⟨.hbm, 226, rfl⟩
abbrev main_while0b_v161 : Ref sig .tc := ⟨.hbm, 227, rfl⟩
abbrev main_while0b_call7_c : Ref sig .tc := ⟨.hbm, 228, rfl⟩
abbrev main_while0b_call7_c_0 : Ref sig .tc := ⟨.hbm, 229, rfl⟩
abbrev main_while0b_call7_c_1 : Ref sig .tc := ⟨.hbm, 230, rfl⟩
abbrev main_while0b_call7_c_2 : Ref sig .tc := ⟨.hbm, 231, rfl⟩
abbrev main_while0b_call7_v0 : Ref sig .tc := ⟨.hbm, 232, rfl⟩
abbrev main_while0b_v162 : Ref sig .tc := ⟨.hbm, 233, rfl⟩
abbrev main_while0b_call8_c : Ref sig .tc := ⟨.hbm, 234, rfl⟩
abbrev main_while0b_call8_c_0 : Ref sig .tc := ⟨.hbm, 235, rfl⟩
abbrev main_while0b_call8_c_1 : Ref sig .tc := ⟨.hbm, 236, rfl⟩
abbrev main_while0b_call8_c_2 : Ref sig .tc := ⟨.hbm, 237, rfl⟩
abbrev main_while0b_call8_v0 : Ref sig .tc := ⟨.hbm, 238, rfl⟩
abbrev main_while0b_v163 : Ref sig .tc := ⟨.hbm, 239, rfl⟩
abbrev main_while0b_v164 : Ref sig .tc := ⟨.hbm, 240, rfl⟩
abbrev main_while0b_v165 : Ref sig .tc := ⟨.hbm, 241, rfl⟩
abbrev main_while0b_v166 : Ref sig .tc := ⟨.hbm, 242, rfl⟩
abbrev main_while0b_v167 : Ref sig .tc := ⟨.hbm, 243, rfl⟩
abbrev main_while0b_v168 : Ref sig .tc := ⟨.hbm, 244, rfl⟩
abbrev main_while0b_v169 : Ref sig .tc := ⟨.hbm, 245, rfl⟩
abbrev main_while0b_v170 : Ref sig .tc := ⟨.hbm, 246, rfl⟩
abbrev main_while0b_v171 : Ref sig .tc := ⟨.hbm, 247, rfl⟩
abbrev main_while0b_v172 : Ref sig .tc := ⟨.hbm, 248, rfl⟩
abbrev main_while0b_v173 : Ref sig .tc := ⟨.hbm, 249, rfl⟩
abbrev main_while0b_v174 : Ref sig .tc := ⟨.hbm, 250, rfl⟩
abbrev main_while0b_v175 : Ref sig .tc := ⟨.hbm, 251, rfl⟩
abbrev main_while0b_v176 : Ref sig .tc := ⟨.hbm, 252, rfl⟩
abbrev main_while0b_v177 : Ref sig .tc := ⟨.hbm, 253, rfl⟩
abbrev main_while0b_v178 : Ref sig .tc := ⟨.hbm, 254, rfl⟩
abbrev main_while0b_v179 : Ref sig .tc := ⟨.hbm, 255, rfl⟩
abbrev main_while0b_v180 : Ref sig .tc := ⟨.hbm, 256, rfl⟩
abbrev main_while0b_v181 : Ref sig .tc := ⟨.hbm, 257, rfl⟩
abbrev main_while0b_v182 : Ref sig .tc := ⟨.hbm, 258, rfl⟩
abbrev main_while0b_v183 : Ref sig .tc := ⟨.hbm, 259, rfl⟩
abbrev main_while0b_v184 : Ref sig .tc := ⟨.hbm, 260, rfl⟩
abbrev main_while0b_v185 : Ref sig .tc := ⟨.hbm, 261, rfl⟩
abbrev main_while0b_v186 : Ref sig .tc := ⟨.hbm, 262, rfl⟩
abbrev main_while0b_v187 : Ref sig .tc := ⟨.hbm, 263, rfl⟩
abbrev main_while0b_v188 : Ref sig .tc := ⟨.hbm, 264, rfl⟩
abbrev main_while0b_v189 : Ref sig .tc := ⟨.hbm, 265, rfl⟩
abbrev main_while0b_v190 : Ref sig .tc := ⟨.hbm, 266, rfl⟩
abbrev main_while0b_call9_v0 : Ref sig .tc := ⟨.hbm, 267, rfl⟩
abbrev main_while0b_call9_c : Ref sig .tc := ⟨.hbm, 268, rfl⟩
abbrev main_while0b_call9_c_0 : Ref sig .tc := ⟨.hbm, 269, rfl⟩
abbrev main_while0b_call9_c_1 : Ref sig .tc := ⟨.hbm, 270, rfl⟩
abbrev main_while0b_call9_c_2 : Ref sig .tc := ⟨.hbm, 271, rfl⟩
abbrev main_while0b_v191 : Ref sig .tc := ⟨.hbm, 272, rfl⟩
abbrev main_while0b_c_35 : Ref sig .tc := ⟨.hbm, 273, rfl⟩
abbrev main_while0b_v192 : Ref sig .tc := ⟨.hbm, 274, rfl⟩
abbrev main_v140 : Ref sig .tc := ⟨.hbm, 275, rfl⟩
abbrev main_v141 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_cst_22 : Ref sig .tc := ⟨.hbm, 280, rfl⟩
abbrev main_v145 : Ref sig .tc := ⟨.hbm, 281, rfl⟩
abbrev main_v146 : Ref sig .tc := ⟨.hbm, 282, rfl⟩
abbrev main_cst_23 : Ref sig .tc := ⟨.hbm, 283, rfl⟩
abbrev main_v147 : Ref sig .tc := ⟨.hbm, 284, rfl⟩
abbrev main_v148 : Ref sig .tc := ⟨.hbm, 285, rfl⟩
abbrev main_cst_24 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_call10_v0 : Ref sig .tc := ⟨.hbm, 295, rfl⟩
abbrev main_call10_v1 : Ref sig .tc := ⟨.hbm, 296, rfl⟩
abbrev main_call10_cst : Ref sig .tc := ⟨.hbm, 297, rfl⟩
abbrev main_call10_v2 : Ref sig .tc := ⟨.hbm, 298, rfl⟩
abbrev main_call10_v3 : Ref sig .tc := ⟨.hbm, 299, rfl⟩
abbrev main_call10_cst_0 : Ref sig .tc := ⟨.hbm, 300, rfl⟩
abbrev main_call10_v4 : Ref sig .tc := ⟨.hbm, 301, rfl⟩
abbrev main_call10_v5 : Ref sig .tc := ⟨.hbm, 302, rfl⟩
abbrev main_v157 : Ref sig .tc := ⟨.hbm, 303, rfl⟩
abbrev main_v158 : Ref sig .tc := ⟨.hbm, 304, rfl⟩
abbrev main_c_25 : Ref sig .tc := ⟨.hbm, 305, rfl⟩
abbrev main_call11_v0 : Ref sig .tc := ⟨.hbm, 306, rfl⟩
abbrev main_v159 : Ref sig .tc := ⟨.hbm, 307, rfl⟩
abbrev main_v160 : Ref sig .tc := ⟨.hbm, 308, rfl⟩

abbrev nD : Nat := 1
abbrev τ : Topo := Topo.v7x

variable {F : FTy → Type} [FloatOps F]

abbrev main_while0_count : Scf.Loop 32 := ⟨0#32, 129#32, 1#32⟩
-- ==== FfnAct0.lean ====
abbrev S8448x2048 : Shape := ⟨2, ![8448, 2048]⟩
abbrev S2x2048x5632 : Shape := ⟨3, ![2, 2048, 5632]⟩
abbrev S8448x5632 : Shape := ⟨2, ![8448, 5632]⟩
abbrev S1408x2048 : Shape := ⟨2, ![1408, 2048]⟩
abbrev S1x2048x512 : Shape := ⟨3, ![1, 2048, 512]⟩
abbrev S1408x512 : Shape := ⟨2, ![1408, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S8448x5632, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1408x512, .bf16⟩
  | .local _ .vmem, ⟨7, _⟩ => ⟨S1408x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnAct0ReferenceIdeal.lean ====
abbrev S8448x2048 : Shape := ⟨2, ![8448, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8448x5632 : Shape := ⟨2, ![8448, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S1x2048x5632, .f32⟩
  | .hbm, ⟨6, _⟩ => ⟨S2048x5632, .f32⟩
  | .hbm, ⟨7, _⟩ => ⟨S8448x2048, .f32⟩
  | .hbm, ⟨8, _⟩ => ⟨S8448x5632, .f32⟩
  | .hbm, ⟨9, _⟩ => ⟨S8448x5632, .f32⟩
  | .hbm, ⟨10, _⟩ => ⟨S8448x5632, .f32⟩
  | .hbm, ⟨11, _⟩ => ⟨S_, .f32⟩
  | .hbm, ⟨12, _⟩ => ⟨S8448x5632, .f32⟩
  | .hbm, ⟨13, _⟩ => ⟨S8448x5632, .f32⟩
  | .hbm, ⟨14, _⟩ => ⟨S_, .f32⟩
  | .hbm, ⟨15, _⟩ => ⟨S8448x5632, .f32⟩
  | .hbm, ⟨16, _⟩ => ⟨S8448x5632, .f32⟩
  | .hbm, ⟨17, _⟩ => ⟨S8448x5632, .f32⟩
  | .hbm, ⟨18, _⟩ => ⟨S8448x5632, .f32⟩
  | .hbm, ⟨19, _⟩ => ⟨S8448x5632, .f32⟩
  | .hbm, ⟨20, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown0.lean ====
abbrev S8448x5632 : Shape := ⟨2, ![8448, 5632]⟩
abbrev S2x5632x2048 : Shape := ⟨3, ![2, 5632, 2048]⟩
abbrev S8448x2048 : Shape := ⟨2, ![8448, 2048]⟩
abbrev S768x5632 : Shape := ⟨2, ![768, 5632]⟩
abbrev S1x5632x512 : Shape := ⟨3, ![1, 5632, 512]⟩
abbrev S768x512 : Shape := ⟨2, ![768, 512]⟩
abbrev S5632x512 : Shape := ⟨2, ![5632, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S8448x2048, .bf16⟩
  | .local _ .vmem, ⟨0, _⟩ => ⟨S768x5632, .bf16⟩
  | .local _ .vmem, ⟨1, _⟩ => ⟨S768x5632, .bf16⟩
  | .local _ .vmem, ⟨2, _⟩ => ⟨S1x5632x512, .f32⟩
  | .local _ .vmem, ⟨3, _⟩ => ⟨S1x5632x512, .f32⟩
  | .local _ .vmem, ⟨4, _⟩ => ⟨S768x512, .bf16⟩
  | .local _ .vmem, ⟨5, _⟩ => ⟨S768x512, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDown0ReferenceIdeal.lean ====
abbrev S8448x5632 : Shape := ⟨2, ![8448, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S1x5632x2048, .f32⟩
  | .hbm, ⟨3, _⟩ => ⟨S5632x2048, .f32⟩
  | .hbm, ⟨4, _⟩ => ⟨S8448x5632, .f32⟩
  | .hbm, ⟨5, _⟩ => ⟨S8448x2048, .f32⟩
  | .hbm, ⟨6, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnAct1.lean ====
abbrev S8448x2048 : Shape := ⟨2, ![8448, 2048]⟩
abbrev S2x2048x5632 : Shape := ⟨3, ![2, 2048, 5632]⟩
abbrev S8448x5632 : Shape := ⟨2, ![8448, 5632]⟩
abbrev S1408x2048 : Shape := ⟨2, ![1408, 2048]⟩
abbrev S1x2048x512 : Shape := ⟨3, ![1, 2048, 512]⟩
abbrev S1408x512 : Shape := ⟨2, ![1408, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S8448x5632, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1408x512, .bf16⟩
  | .local _ .vmem, ⟨7, _⟩ => ⟨S1408x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnAct1ReferenceIdeal.lean ====
abbrev S8448x2048 : Shape := ⟨2, ![8448, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8448x5632 : Shape := ⟨2, ![8448, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S1x2048x5632, .f32⟩
  | .hbm, ⟨6, _⟩ => ⟨S2048x5632, .f32⟩
  | .hbm, ⟨7, _⟩ => ⟨S8448x2048, .f32⟩
  | .hbm, ⟨8, _⟩ => ⟨S8448x5632, .f32⟩
  | .hbm, ⟨9, _⟩ => ⟨S8448x5632, .f32⟩
  | .hbm, ⟨10, _⟩ => ⟨S8448x5632, .f32⟩
  | .hbm, ⟨11, _⟩ => ⟨S_, .f32⟩
  | .hbm, ⟨12, _⟩ => ⟨S8448x5632, .f32⟩
  | .hbm, ⟨13, _⟩ => ⟨S8448x5632, .f32⟩
  | .hbm, ⟨14, _⟩ => ⟨S_, .f32⟩
  | .hbm, ⟨15, _⟩ => ⟨S8448x5632, .f32⟩
  | .hbm, ⟨16, _⟩ => ⟨S8448x5632, .f32⟩
  | .hbm, ⟨17, _⟩ => ⟨S8448x5632, .f32⟩
  | .hbm, ⟨18, _⟩ => ⟨S8448x5632, .f32⟩
  | .hbm, ⟨19, _⟩ => ⟨S8448x5632, .f32⟩
  | .hbm, ⟨20, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown1.lean ====
abbrev S8448x5632 : Shape := ⟨2, ![8448, 5632]⟩
abbrev S2x5632x2048 : Shape := ⟨3, ![2, 5632, 2048]⟩
abbrev S8448x2048 : Shape := ⟨2, ![8448, 2048]⟩
abbrev S768x5632 : Shape := ⟨2, ![768, 5632]⟩
abbrev S1x5632x512 : Shape := ⟨3, ![1, 5632, 512]⟩
abbrev S768x512 : Shape := ⟨2, ![768, 512]⟩
abbrev S5632x512 : Shape := ⟨2, ![5632, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S8448x2048, .bf16⟩
  | .local _ .vmem, ⟨0, _⟩ => ⟨S768x5632, .bf16⟩
  | .local _ .vmem, ⟨1, _⟩ => ⟨S768x5632, .bf16⟩
  | .local _ .vmem, ⟨2, _⟩ => ⟨S1x5632x512, .f32⟩
  | .local _ .vmem, ⟨3, _⟩ => ⟨S1x5632x512, .f32⟩
  | .local _ .vmem, ⟨4, _⟩ => ⟨S768x512, .bf16⟩
  | .local _ .vmem, ⟨5, _⟩ => ⟨S768x512, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDown1ReferenceIdeal.lean ====
abbrev S8448x5632 : Shape := ⟨2, ![8448, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S1x5632x2048, .f32⟩
  | .hbm, ⟨3, _⟩ => ⟨S5632x2048, .f32⟩
  | .hbm, ⟨4, _⟩ => ⟨S8448x5632, .f32⟩
  | .hbm, ⟨5, _⟩ => ⟨S8448x2048, .f32⟩
  | .hbm, ⟨6, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== RetIn.lean ====
abbrev S8448x2048 : Shape := ⟨2, ![8448, 2048]⟩
abbrev S1x2048x12288 : Shape := ⟨3, ![1, 2048, 12288]⟩
abbrev S8448x12288 : Shape := ⟨2, ![8448, 12288]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S1x2048x12288, .f32⟩
  | .hbm, ⟨2, _⟩ => ⟨S8448x12288, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .bf16⟩
  | .local _ .vmem, ⟨5, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetInReferenceIdeal.lean ====
abbrev S8448x2048 : Shape := ⟨2, ![8448, 2048]⟩
abbrev S1x2048x12288 : Shape := ⟨3, ![1, 2048, 12288]⟩
abbrev S2048x12288 : Shape := ⟨2, ![2048, 12288]⟩
abbrev S8448x12288 : Shape := ⟨2, ![8448, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x12288, .f32⟩
  | .hbm, ⟨2, _⟩ => ⟨S2048x12288, .f32⟩
  | .hbm, ⟨3, _⟩ => ⟨S8448x2048, .f32⟩
  | .hbm, ⟨4, _⟩ => ⟨S8448x12288, .f32⟩
  | .hbm, ⟨5, _⟩ => ⟨S8448x12288, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RetOut.lean ====
abbrev S8448x4096 : Shape := ⟨2, ![8448, 4096]⟩
abbrev S1x4096x2048 : Shape := ⟨3, ![1, 4096, 2048]⟩
abbrev S8448x2048 : Shape := ⟨2, ![8448, 2048]⟩
abbrev S1408x4096 : Shape := ⟨2, ![1408, 4096]⟩
abbrev S1x4096x512 : Shape := ⟨3, ![1, 4096, 512]⟩
abbrev S1408x512 : Shape := ⟨2, ![1408, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S1x4096x2048, .f32⟩
  | .hbm, ⟨2, _⟩ => ⟨S8448x2048, .bf16⟩
  | .local _ .vmem, ⟨0, _⟩ => ⟨S1408x4096, .bf16⟩
  | .local _ .vmem, ⟨1, _⟩ => ⟨S1408x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetOutReferenceIdeal.lean ====
abbrev S8448x4096 : Shape := ⟨2, ![8448, 4096]⟩
abbrev S1x4096x2048 : Shape := ⟨3, ![1, 4096, 2048]⟩
abbrev S4096x2048 : Shape := ⟨2, ![4096, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S1x4096x2048, .f32⟩
  | .hbm, ⟨2, _⟩ => ⟨S4096x2048, .f32⟩
  | .hbm, ⟨3, _⟩ => ⟨S8448x4096, .f32⟩
  | .hbm, ⟨4, _⟩ => ⟨S8448x2048, .f32⟩
  | .hbm, ⟨5, _⟩ => ⟨S8448x2048, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HyOut.lean ====
abbrev S8448x1024 : Shape := ⟨2, ![8448, 1024]⟩
abbrev S1x2048x2048 : Shape := ⟨3, ![1, 2048, 2048]⟩
abbrev S8448x2048 : Shape := ⟨2, ![8448, 2048]⟩
abbrev S1408x1024 : Shape := ⟨2, ![1408, 1024]⟩
abbrev S1x2048x512 : Shape := ⟨3, ![1, 2048, 512]⟩
abbrev S1408x512 : Shape := ⟨2, ![1408, 512]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1x2048x2048, .f32⟩
  | .hbm, ⟨3, _⟩ => ⟨S8448x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x2048x512, .f32⟩
  | .local _ .vmem, ⟨5, _⟩ => ⟨S1x2048x512, .f32⟩
  | .local _ .vmem, ⟨6, _⟩ => ⟨S1408x512, .bf16⟩
  | .local _ .vmem, ⟨7, _⟩ => ⟨S1408x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HyOutReferenceIdeal.lean ====
abbrev S8448x1024 : Shape := ⟨2, ![8448, 1024]⟩
abbrev S1x2048x2048 : Shape := ⟨3, ![1, 2048, 2048]⟩
abbrev S8448x2048 : Shape := ⟨2, ![8448, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1x2048x2048, .f32⟩
  | .hbm, ⟨3, _⟩ => ⟨S8448x2048, .bf16⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HyIn.lean ====
abbrev S8448x2048 : Shape := ⟨2, ![8448, 2048]⟩
abbrev S1x2048x4960 : Shape := ⟨3, ![1, 2048, 4960]⟩
abbrev S2048x4960 : Shape := ⟨2, ![2048, 4960]⟩
abbrev S2048x3072 : Shape := ⟨2, ![2048, 3072]⟩
abbrev S2048x1024 : Shape := ⟨2, ![2048, 1024]⟩
abbrev S2048x256 : Shape := ⟨2, ![2048, 256]⟩
abbrev S_ : Shape := ⟨0, ![]⟩
abbrev S2048x4608 : Shape := ⟨2, ![2048, 4608]⟩
abbrev S8448x4608 : Shape := ⟨2, ![8448, 4608]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 11
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S1x2048x4960, .f32⟩
  | .hbm, ⟨2, _⟩ => ⟨S2048x4960, .f32⟩
  | .hbm, ⟨3, _⟩ => ⟨S2048x3072, .f32⟩
  | .hbm, ⟨4, _⟩ => ⟨S2048x1024, .f32⟩
  | .hbm, ⟨5, _⟩ => ⟨S2048x256, .f32⟩
  | .hbm, ⟨6, _⟩ => ⟨S_, .f32⟩
  | .hbm, ⟨7, _⟩ => ⟨S2048x256, .f32⟩
  | .hbm, ⟨8, _⟩ => ⟨S2048x4608, .f32⟩
  | .hbm, ⟨9, _⟩ => ⟨S2048x4608, .bf16⟩
  | .hbm, ⟨10, _⟩ => ⟨S8448x4608, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HyInReferenceIdeal.lean ====
abbrev S8448x2048 : Shape := ⟨2, ![8448, 2048]⟩
abbrev S1x2048x4960 : Shape := ⟨3, ![1, 2048, 4960]⟩
abbrev S2048x4960 : Shape := ⟨2, ![2048, 4960]⟩
abbrev S8448x4960 : Shape := ⟨2, ![8448, 4960]⟩
abbrev S8448x512 : Shape := ⟨2, ![8448, 512]⟩
abbrev S8448x256 : Shape := ⟨2, ![8448, 256]⟩
abbrev S8448x64 : Shape := ⟨2, ![8448, 64]⟩
abbrev S8448x16 : Shape := ⟨2, ![8448, 16]⟩
abbrev S8448x3072 : Shape := ⟨2, ![8448, 3072]⟩
abbrev S8448x1024 : Shape := ⟨2, ![8448, 1024]⟩
abbrev S8448x8 : Shape := ⟨2, ![8448, 8]⟩
abbrev S8448x4352 : Shape := ⟨2, ![8448, 4352]⟩
abbrev S_ : Shape := ⟨0, ![]⟩
abbrev S8448x4608 : Shape := ⟨2, ![8448, 4608]⟩

abbrev nBuf : Space → Nat
  | .hbm => 17
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x4960, .f32⟩
  | .hbm, ⟨2, _⟩ => ⟨S8448x2048, .f32⟩
  | .hbm, ⟨3, _⟩ => ⟨S2048x4960, .f32⟩
  | .hbm, ⟨4, _⟩ => ⟨S8448x4960, .f32⟩
  | .hbm, ⟨5, _⟩ => ⟨S8448x512, .f32⟩
  | .hbm, ⟨6, _⟩ => ⟨S8448x256, .f32⟩
  | .hbm, ⟨7, _⟩ => ⟨S8448x64, .f32⟩
  | .hbm, ⟨8, _⟩ => ⟨S8448x16, .f32⟩
  | .hbm, ⟨9, _⟩ => ⟨S8448x3072, .f32⟩
  | .hbm, ⟨10, _⟩ => ⟨S8448x1024, .f32⟩
  | .hbm, ⟨11, _⟩ => ⟨S8448x8, .f32⟩
  | .hbm, ⟨12, _⟩ => ⟨S8448x8, .f32⟩
  | .hbm, ⟨13, _⟩ => ⟨S8448x4352, .f32⟩
  | .hbm, ⟨14, _⟩ => ⟨S_, .i32⟩
  | .hbm, ⟨15, _⟩ => ⟨S_, .f32⟩
  | .hbm, ⟨16, _⟩ => ⟨S8448x4608, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DsaK.lean ====
abbrev S8448x256 : Shape := ⟨2, ![8448, 256]⟩
abbrev S1x256x2048 : Shape := ⟨3, ![1, 256, 2048]⟩
abbrev S256x2048 : Shape := ⟨2, ![256, 2048]⟩
abbrev S256x8x2x128 : Shape := ⟨4, ![256, 8, 2, 128]⟩
abbrev S256x8x1x128 : Shape := ⟨4, ![256, 8, 1, 128]⟩
abbrev S256x8x128 : Shape := ⟨3, ![256, 8, 128]⟩
abbrev S256x1024 : Shape := ⟨2, ![256, 1024]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S1x256x2048, .f32⟩
  | .hbm, ⟨2, _⟩ => ⟨S256x2048, .f32⟩
  | .hbm, ⟨3, _⟩ => ⟨S256x8x2x128, .f32⟩
  | .hbm, ⟨4, _⟩ => ⟨S256x8x1x128, .f32⟩
  | .hbm, ⟨5, _⟩ => ⟨S256x8x128, .f32⟩
  | .hbm, ⟨6, _⟩ => ⟨S256x1024, .f32⟩
  | .hbm, ⟨7, _⟩ => ⟨S256x1024, .bf16⟩
  | .hbm, ⟨8, _⟩ => ⟨S8448x1024, .bf16⟩
  | .local _ .vmem, ⟨0, _⟩ => ⟨S768x256, .bf16⟩
  | .local _ .vmem, ⟨1, _⟩ => ⟨S768x256, .bf16⟩
  | .local _ .vmem, ⟨2, _⟩ => ⟨S256x1024, .bf16⟩
  | .local _ .vmem, ⟨3, _⟩ => ⟨S768x1024, .bf16⟩
  | .local _ .vmem, ⟨4, _⟩ => ⟨S768x1024, .bf16⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DsaKReferenceIdeal.lean ====
abbrev S8448x256 : Shape := ⟨2, ![8448, 256]⟩
abbrev S1x256x2048 : Shape := ⟨3, ![1, 256, 2048]⟩
abbrev S256x2048 : Shape := ⟨2, ![256, 2048]⟩
abbrev S8448x2048 : Shape := ⟨2, ![8448, 2048]⟩
abbrev S8448x8x256 : Shape := ⟨3, ![8448, 8, 256]⟩
abbrev S8448x8x128 : Shape := ⟨3, ![8448, 8, 128]⟩
abbrev S8448x1024 : Shape := ⟨2, ![8448, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S1x256x2048, .f32⟩
  | .hbm, ⟨2, _⟩ => ⟨S8448x256, .f32⟩
  | .hbm, ⟨3, _⟩ => ⟨S256x2048, .f32⟩
  | .hbm, ⟨4, _⟩ => ⟨S8448x2048, .f32⟩
  | .hbm, ⟨5, _⟩ => ⟨S8448x8x256, .f32⟩
  | .hbm, ⟨6, _⟩ => ⟨S8448x8x128, .f32⟩
  | .hbm, ⟨7, _⟩ => ⟨S8448x8x128, .f32⟩
  | .hbm, ⟨8, _⟩ => ⟨S8448x1024, .f32⟩
  | .hbm, ⟨9, _⟩ => ⟨S8448x1024, .bf16⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DsaVt.lean ====
abbrev S256x8448 : Shape := ⟨2, ![256, 8448]⟩
abbrev S1x256x2048 : Shape := ⟨3, ![1, 256, 2048]⟩
abbrev S256x2048 : Shape := ⟨2, ![256, 2048]⟩
abbrev S256x8x2x128 : Shape := ⟨4, ![256, 8, 2, 128]⟩
abbrev S256x8x1x128 : Shape := ⟨4, ![256, 8, 1, 128]⟩
abbrev S256x8x128 : Shape := ⟨3, ![256, 8, 128]⟩
abbrev S256x1024 : Shape := ⟨2, ![256, 1024]⟩
abbrev S1024x256 : Shape := ⟨2, ![1024, 256]⟩
abbrev S1024x8448 : Shape := ⟨2, ![1024, 8448]⟩
abbrev S256x768 : Shape := ⟨2, ![256, 768]⟩
abbrev S1024x768 : Shape := ⟨2, ![1024, 768]⟩

abbrev nBuf : Space → Nat
  | .hbm => 10
  | .vmem => 5
  | .smem => 0
  | _ => 0

abbrev bufTy : (tb : Table) → Fin (tcTables nBuf tb) → BufTy
  | .hbm, ⟨0, _⟩ => ⟨S256x8448, .bf16⟩
  | .hbm, ⟨1, _⟩ => ⟨S1x256x2048, .f32⟩
  | .hbm, ⟨2, _⟩ => ⟨S256x2048, .f32⟩
  | .hbm, ⟨3, _⟩ => ⟨S256x8x2x128, .f32⟩
  | .hbm, ⟨4, _⟩ => ⟨S256x8x1x128, .f32⟩
  | .hbm, ⟨5, _⟩ => ⟨S256x8x128, .f32⟩
  | .hbm, ⟨6, _⟩ => ⟨S256x1024, .f32⟩
  | .hbm, ⟨7, _⟩ => ⟨S1024x256, .f32⟩
  | .hbm, ⟨8, _⟩ => ⟨S1024x256, .bf16⟩
  | .hbm, ⟨9, _⟩ => ⟨S1024x8448, .bf16⟩
  | .local _ .vmem, ⟨0, _⟩ => ⟨S1024x256, .bf16⟩
  | .local _ .vmem, ⟨1, _⟩ => ⟨S256x768, .bf16⟩
  | .local _ .vmem, ⟨2, _⟩ => ⟨S256x768, .bf16⟩
  | .local _ .vmem, ⟨3, _⟩ => ⟨S1024x768, .bf16⟩
  | .local _ .vmem, ⟨4, _⟩ => ⟨S1024x768, .bf16⟩
  | _, _ => ⟨S256x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DsaVtReferenceIdeal.lean ====
abbrev S256x8448 : Shape := ⟨2, ![256, 8448]⟩
abbrev S1x256x2048 : Shape := ⟨3, ![1, 256, 2048]⟩
abbrev S8448x256 : Shape := ⟨2, ![8448, 256]⟩
abbrev S256x2048 : Shape := ⟨2, ![256, 2048]⟩
abbrev S8448x2048 : Shape := ⟨2, ![8448, 2048]⟩
abbrev S8448x8x256 : Shape := ⟨3, ![8448, 8, 256]⟩
abbrev S8448x8x128 : Shape := ⟨3, ![8448, 8, 128]⟩
abbrev S8448x1024 : Shape := ⟨2, ![8448, 1024]⟩
abbrev S1024x8448 : Shape := ⟨2, ![1024, 8448]⟩

abbrev nBuf : Space → Nat
  | .hbm => 12
  | .vmem => 0
  | .smem => 0
  | _ => 0

abbrev bufTy : (tb : Table) → Fin (tcTables nBuf tb) → BufTy
  | .hbm, ⟨0, _⟩ => ⟨S256x8448, .bf16⟩
  | .hbm, ⟨1, _⟩ => ⟨S1x256x2048, .f32⟩
  | .hbm, ⟨2, _⟩ => ⟨S8448x256, .bf16⟩
  | .hbm, ⟨3, _⟩ => ⟨S8448x256, .f32⟩
  | .hbm, ⟨4, _⟩ => ⟨S256x2048, .f32⟩
  | .hbm, ⟨5, _⟩ => ⟨S8448x2048, .f32⟩
  | .hbm, ⟨6, _⟩ => ⟨S8448x8x256, .f32⟩
  | .hbm, ⟨7, _⟩ => ⟨S8448x8x128, .f32⟩
  | .hbm, ⟨8, _⟩ => ⟨S8448x8x128, .f32⟩
  | .hbm, ⟨9, _⟩ => ⟨S8448x1024, .f32⟩
  | .hbm, ⟨10, _⟩ => ⟨S1024x8448, .f32⟩
  | .hbm, ⟨11, _⟩ => ⟨S1024x8448, .bf16⟩
  | _, _ => ⟨S256x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== HyInX3.lean ====
abbrev S8448x2048 : Shape := ⟨2, ![8448, 2048]⟩
abbrev S1x2048x4960 : Shape := ⟨3, ![1, 2048, 4960]⟩
abbrev S2048x4960 : Shape := ⟨2, ![2048, 4960]⟩
abbrev S2048x512 : Shape := ⟨2, ![2048, 512]⟩
abbrev S2048x64 : Shape := ⟨2, ![2048, 64]⟩
abbrev S2048x16 : Shape := ⟨2, ![2048, 16]⟩
abbrev S2048x8 : Shape := ⟨2, ![2048, 8]⟩
abbrev S_ : Shape := ⟨0, ![]⟩
abbrev S2048x32 : Shape := ⟨2, ![2048, 32]⟩
abbrev S2048x640 : Shape := ⟨2, ![2048, 640]⟩
abbrev S640x8448 : Shape := ⟨2, ![640, 8448]⟩
abbrev S8448x128 : Shape := ⟨2, ![8448, 128]⟩
abbrev S768x2048 : Shape := ⟨2, ![768, 2048]⟩
abbrev S640x768 : Shape := ⟨2, ![640, 768]⟩
abbrev S768x128 : Shape := ⟨2, ![768, 128]⟩
abbrev S768x640 : Shape := ⟨2, ![768, 640]⟩

abbrev nBuf : Space → Nat
  | .hbm => 21
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S1x2048x4960, .f32⟩
  | .hbm, ⟨2, _⟩ => ⟨S8448x2048, .bf16⟩
  | .hbm, ⟨3, _⟩ => ⟨S8448x2048, .f32⟩
  | .hbm, ⟨4, _⟩ => ⟨S8448x2048, .f32⟩
  | .hbm, ⟨5, _⟩ => ⟨S8448x2048, .bf16⟩
  | .hbm, ⟨6, _⟩ => ⟨S2048x4960, .f32⟩
  | .hbm, ⟨7, _⟩ => ⟨S2048x512, .f32⟩
  | .hbm, ⟨8, _⟩ => ⟨S2048x64, .f32⟩
  | .hbm, ⟨9, _⟩ => ⟨S2048x16, .f32⟩
  | .hbm, ⟨10, _⟩ => ⟨S2048x8, .f32⟩
  | .hbm, ⟨11, _⟩ => ⟨S2048x8, .f32⟩
  | .hbm, ⟨12, _⟩ => ⟨S_, .f32⟩
  | .hbm, ⟨13, _⟩ => ⟨S2048x32, .f32⟩
  | .hbm, ⟨14, _⟩ => ⟨S2048x640, .f32⟩
  | .hbm, ⟨15, _⟩ => ⟨S2048x640, .bf16⟩
  | .hbm, ⟨16, _⟩ => ⟨S2048x640, .f32⟩
  | .hbm, ⟨17, _⟩ => ⟨S2048x640, .f32⟩
  | .hbm, ⟨18, _⟩ => ⟨S2048x640, .bf16⟩
  | .hbm, ⟨19, _⟩ => ⟨S640x8448, .f32⟩
  | .hbm, ⟨20, _⟩ => ⟨S8448x128, .f32⟩
  | .local _ .vmem, ⟨0, _⟩ => ⟨S768x2048, .bf16⟩
  | .local _ .vmem, ⟨1, _⟩ => ⟨S768x2048, .bf16⟩
  | .local _ .vmem, ⟨2, _⟩ => ⟨S768x2048, .bf16⟩
  | .local _ .vmem, ⟨3, _⟩ => ⟨S768x2048, .bf16⟩
  | .local _ .vmem, ⟨4, _⟩ => ⟨S2048x640, .bf16⟩
  | .local _ .vmem, ⟨5, _⟩ => ⟨S2048x640, .bf16⟩
  | .local _ .vmem, ⟨6, _⟩ => ⟨S640x768, .f32⟩
  | .local _ .vmem, ⟨7, _⟩ => ⟨S640x768, .f32⟩
  | .local _ .vmem, ⟨8, _⟩ => ⟨S768x128, .f32⟩
  | .local _ .vmem, ⟨9, _⟩ => ⟨S768x128, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16_0 : Ref sig .tc := ⟨.hbm, 19, rfl⟩
abbrev main_v16_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S640x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== HyInX3ReferenceIdeal.lean ====
abbrev S8448x2048 : Shape := ⟨2, ![8448, 2048]⟩
abbrev S1x2048x4960 : Shape := ⟨3, ![1, 2048, 4960]⟩
abbrev S2048x4960 : Shape := ⟨2, ![2048, 4960]⟩
abbrev S8448x4960 : Shape := ⟨2, ![8448, 4960]⟩
abbrev S8448x512 : Shape := ⟨2, ![8448, 512]⟩
abbrev S8448x256 : Shape := ⟨2, ![8448, 256]⟩
abbrev S8448x64 : Shape := ⟨2, ![8448, 64]⟩
abbrev S8448x16 : Shape := ⟨2, ![8448, 16]⟩
abbrev S8448x3072 : Shape := ⟨2, ![8448, 3072]⟩
abbrev S8448x1024 : Shape := ⟨2, ![8448, 1024]⟩
abbrev S8448x8 : Shape := ⟨2, ![8448, 8]⟩
abbrev S8448x96 : Shape := ⟨2, ![8448, 96]⟩
abbrev S_ : Shape := ⟨0, ![]⟩
abbrev S8448x128 : Shape := ⟨2, ![8448, 128]⟩
abbrev S8448x640 : Shape := ⟨2, ![8448, 640]⟩
abbrev S640x8448 : Shape := ⟨2, ![640, 8448]⟩

abbrev nBuf : Space → Nat
  | .hbm => 18
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048x4960, .f32⟩
  | .hbm, ⟨2, _⟩ => ⟨S2048x4960, .f32⟩
  | .hbm, ⟨3, _⟩ => ⟨S8448x4960, .f32⟩
  | .hbm, ⟨4, _⟩ => ⟨S8448x512, .f32⟩
  | .hbm, ⟨5, _⟩ => ⟨S8448x256, .f32⟩
  | .hbm, ⟨6, _⟩ => ⟨S8448x64, .f32⟩
  | .hbm, ⟨7, _⟩ => ⟨S8448x16, .f32⟩
  | .hbm, ⟨8, _⟩ => ⟨S8448x3072, .f32⟩
  | .hbm, ⟨9, _⟩ => ⟨S8448x1024, .f32⟩
  | .hbm, ⟨10, _⟩ => ⟨S8448x8, .f32⟩
  | .hbm, ⟨11, _⟩ => ⟨S8448x8, .f32⟩
  | .hbm, ⟨12, _⟩ => ⟨S8448x96, .f32⟩
  | .hbm, ⟨13, _⟩ => ⟨S_, .i32⟩
  | .hbm, ⟨14, _⟩ => ⟨S_, .f32⟩
  | .hbm, ⟨15, _⟩ => ⟨S8448x128, .f32⟩
  | .hbm, ⟨16, _⟩ => ⟨S8448x640, .f32⟩
  | .hbm, ⟨17, _⟩ => ⟨S640x8448, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== DsaQ.lean ====
abbrev S512x8448 : Shape := ⟨2, ![512, 8448]⟩
abbrev S1x512x1024 : Shape := ⟨3, ![1, 512, 1024]⟩
abbrev S512x1024 : Shape := ⟨2, ![512, 1024]⟩
abbrev S1024x512 : Shape := ⟨2, ![1024, 512]⟩
abbrev S1024x8448 : Shape := ⟨2, ![1024, 8448]⟩
abbrev S512x768 : Shape := ⟨2, ![512, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S512x8448, .bf16⟩
  | .hbm, ⟨1, _⟩ => ⟨S1x512x1024, .f32⟩
  | .hbm, ⟨2, _⟩ => ⟨S512x1024, .f32⟩
  | .hbm, ⟨3, _⟩ => ⟨S1024x512, .f32⟩
  | .hbm, ⟨4, _⟩ => ⟨S1024x512, .bf16⟩
  | .hbm, ⟨5, _⟩ => ⟨S1024x8448, .bf16⟩
  | .local _ .vmem, ⟨0, _⟩ => ⟨S1024x512, .bf16⟩
  | .local _ .vmem, ⟨1, _⟩ => ⟨S512x768, .bf16⟩
  | .local _ .vmem, ⟨2, _⟩ => ⟨S512x768, .bf16⟩
  | .local _ .vmem, ⟨3, _⟩ => ⟨S1024x768, .bf16⟩
  | .local _ .vmem, ⟨4, _⟩ => ⟨S1024x768, .bf16⟩
  | _, _ => ⟨S512x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DsaQReferenceIdeal.lean ====
abbrev S512x8448 : Shape := ⟨2, ![512, 8448]⟩
abbrev S1x512x1024 : Shape := ⟨3, ![1, 512, 1024]⟩
abbrev S8448x512 : Shape := ⟨2, ![8448, 512]⟩
abbrev S512x1024 : Shape := ⟨2, ![512, 1024]⟩
abbrev S8448x1024 : Shape := ⟨2, ![8448, 1024]⟩
abbrev S1024x8448 : Shape := ⟨2, ![1024, 8448]⟩

abbrev nBuf : Space → Nat
  | .hbm => 8
  | .vmem => 0
  | .smem => 0
  | _ => 0

abbrev bufTy : (tb : Table) → Fin (tcTables nBuf tb) → BufTy
  | .hbm, ⟨0, _⟩ => ⟨S512x8448, .bf16⟩
  | .hbm, ⟨1, _⟩ => ⟨S1x512x1024, .f32⟩
  | .hbm, ⟨2, _⟩ => ⟨S8448x512, .bf16⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S1024x8448, .f32⟩
  | .hbm, ⟨7, _⟩ => ⟨S1024x8448, .bf16⟩
  | _, _ => ⟨S512x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DsaQidx.lean ====
abbrev S512x8448 : Shape := ⟨2, ![512, 8448]⟩
abbrev S1x512x1024 : Shape := ⟨3, ![1, 512, 1024]⟩
abbrev S512x1024 : Shape := ⟨2, ![512, 1024]⟩
abbrev S1024x512 : Shape := ⟨2, ![1024, 512]⟩
abbrev S4096x8448 : Shape := ⟨2, ![4096, 8448]⟩
abbrev S512x768 : Shape := ⟨2, ![512, 768]⟩
abbrev S4096x768 : Shape := ⟨2, ![4096, 768]⟩
abbrev S1024x768 : Shape := ⟨2, ![1024, 768]⟩
abbrev S64x768 : Shape := ⟨2, ![64, 768]⟩

abbrev nBuf : Space → Nat
  | .hbm => 13
  | .vmem => 8
  | .smem => 0
  | _ => 0

abbrev bufTy : (tb : Table) → Fin (tcTables nBuf tb) → BufTy
  | .hbm, ⟨0, _⟩ => ⟨S512x8448, .f32⟩
  | .hbm, ⟨1, _⟩ => ⟨S1x512x1024, .f32⟩
  | .hbm, ⟨2, _⟩ => ⟨S512x1024, .f32⟩
  | .hbm, ⟨3, _⟩ => ⟨S1024x512, .f32⟩
  | .hbm, ⟨4, _⟩ => ⟨S1024x512, .bf16⟩
  | .hbm, ⟨5, _⟩ => ⟨S1024x512, .f32⟩
  | .hbm, ⟨6, _⟩ => ⟨S1024x512, .f32⟩
  | .hbm, ⟨7, _⟩ => ⟨S1024x512, .bf16⟩
  | .hbm, ⟨8, _⟩ => ⟨S512x8448, .bf16⟩
  | .hbm, ⟨9, _⟩ => ⟨S512x8448, .f32⟩
  | .hbm, ⟨10, _⟩ => ⟨S512x8448, .f32⟩
  | .hbm, ⟨11, _⟩ => ⟨S512x8448, .bf16⟩
  | .hbm, ⟨12, _⟩ => ⟨S4096x8448, .bf16⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S4096x768, .bf16⟩
  | .local _ .vmem, ⟨7, _⟩ => ⟨S4096x768, .bf16⟩
  | _, _ => ⟨S512x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DsaQidxReferenceIdeal.lean ====
abbrev S512x8448 : Shape := ⟨2, ![512, 8448]⟩
abbrev S1x512x1024 : Shape := ⟨3, ![1, 512, 1024]⟩
abbrev S8448x512 : Shape := ⟨2, ![8448, 512]⟩
abbrev S512x1024 : Shape := ⟨2, ![512, 1024]⟩
abbrev S8448x1024 : Shape := ⟨2, ![8448, 1024]⟩
abbrev S1024x8448 : Shape := ⟨2, ![1024, 8448]⟩
abbrev S16x64x8448 : Shape := ⟨3, ![16, 64, 8448]⟩
abbrev S_ : Shape := ⟨0, ![]⟩
abbrev S16x256x8448 : Shape := ⟨3, ![16, 256, 8448]⟩
abbrev S4096x8448 : Shape := ⟨2, ![4096, 8448]⟩

abbrev nBuf : Space → Nat
  | .hbm => 12
  | .vmem => 0
  | .smem => 0
  | _ => 0

abbrev bufTy : (tb : Table) → Fin (tcTables nBuf tb) → BufTy
  | .hbm, ⟨0, _⟩ => ⟨S512x8448, .f32⟩
  | .hbm, ⟨1, _⟩ => ⟨S1x512x1024, .f32⟩
  | .hbm, ⟨2, _⟩ => ⟨S8448x512, .f32⟩
  | .hbm, ⟨3, _⟩ => ⟨S512x1024, .f32⟩
  | .hbm, ⟨4, _⟩ => ⟨S8448x1024, .f32⟩
  | .hbm, ⟨5, _⟩ => ⟨S1024x8448, .f32⟩
  | .hbm, ⟨6, _⟩ => ⟨S16x64x8448, .f32⟩
  | .hbm, ⟨7, _⟩ => ⟨S_, .f32⟩
  | .hbm, ⟨8, _⟩ => ⟨S16x64x8448, .f32⟩
  | .hbm, ⟨9, _⟩ => ⟨S16x256x8448, .f32⟩
  | .hbm, ⟨10, _⟩ => ⟨S4096x8448, .f32⟩
  | .hbm, ⟨11, _⟩ => ⟨S4096x8448, .bf16⟩
  | _, _ => ⟨S512x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Resid0.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S768x2048 : Shape := ⟨2, ![768, 2048]⟩
abbrev S768 : Shape := ⟨1, ![768]⟩
abbrev S768x1 : Shape := ⟨2, ![768, 1]⟩

abbrev nBuf : Space → Nat
  | .hbm => 12
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8448x2048, .f32⟩
  | .hbm, ⟨11, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S768x2048, .bf16⟩
  | .local _ .vmem, ⟨3, _⟩ => ⟨S768x2048, .bf16⟩
  | .local _ .vmem, ⟨4, _⟩ => ⟨S1x2048, .f32⟩
  | .local _ .vmem, ⟨5, _⟩ => ⟨S1x2048, .f32⟩
  | .local _ .vmem, ⟨6, _⟩ => ⟨S768x2048, .f32⟩
  | .local _ .vmem, ⟨7, _⟩ => ⟨S768x2048, .f32⟩
  | .local _ .vmem, ⟨8, _⟩ => ⟨S768x2048, .bf16⟩
  | .local _ .vmem, ⟨9, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Resid0ReferenceIdeal.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩

abbrev nBuf : Space → Nat
  | .hbm => 43
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S8448x2048, .f32⟩
  | .hbm, ⟨24, _⟩ => ⟨S1x2048, .f32⟩
  | .hbm, ⟨25, _⟩ => ⟨S2048, .f32⟩
  | .hbm, ⟨26, _⟩ => ⟨S8448x2048, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x2048, .f32⟩
  | .hbm, ⟨38, _⟩ => ⟨S8448x2048, .f32⟩
  | .hbm, ⟨39, _⟩ => ⟨S1x2048, .f32⟩
  | .hbm, ⟨40, _⟩ => ⟨S8448x2048, .f32⟩
  | .hbm, ⟨41, _⟩ => ⟨S8448x2048, .f32⟩
  | .hbm, ⟨42, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Resid1.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S768x2048 : Shape := ⟨2, ![768, 2048]⟩
abbrev S768 : Shape := ⟨1, ![768]⟩
abbrev S768x1 : Shape := ⟨2, ![768, 1]⟩

abbrev nBuf : Space → Nat
  | .hbm => 12
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8448x2048, .f32⟩
  | .hbm, ⟨11, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S768x2048, .bf16⟩
  | .local _ .vmem, ⟨3, _⟩ => ⟨S768x2048, .bf16⟩
  | .local _ .vmem, ⟨4, _⟩ => ⟨S1x2048, .f32⟩
  | .local _ .vmem, ⟨5, _⟩ => ⟨S1x2048, .f32⟩
  | .local _ .vmem, ⟨6, _⟩ => ⟨S768x2048, .f32⟩
  | .local _ .vmem, ⟨7, _⟩ => ⟨S768x2048, .f32⟩
  | .local _ .vmem, ⟨8, _⟩ => ⟨S768x2048, .bf16⟩
  | .local _ .vmem, ⟨9, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Resid1ReferenceIdeal.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩

abbrev nBuf : Space → Nat
  | .hbm => 43
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S8448x2048, .f32⟩
  | .hbm, ⟨24, _⟩ => ⟨S1x2048, .f32⟩
  | .hbm, ⟨25, _⟩ => ⟨S2048, .f32⟩
  | .hbm, ⟨26, _⟩ => ⟨S8448x2048, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x2048, .f32⟩
  | .hbm, ⟨38, _⟩ => ⟨S8448x2048, .f32⟩
  | .hbm, ⟨39, _⟩ => ⟨S1x2048, .f32⟩
  | .hbm, ⟨40, _⟩ => ⟨S8448x2048, .f32⟩
  | .hbm, ⟨41, _⟩ => ⟨S8448x2048, .f32⟩
  | .hbm, ⟨42, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Resid2.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S768x2048 : Shape := ⟨2, ![768, 2048]⟩
abbrev S768 : Shape := ⟨1, ![768]⟩
abbrev S768x1 : Shape := ⟨2, ![768, 1]⟩

abbrev nBuf : Space → Nat
  | .hbm => 12
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8448x2048, .f32⟩
  | .hbm, ⟨11, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S768x2048, .bf16⟩
  | .local _ .vmem, ⟨3, _⟩ => ⟨S768x2048, .bf16⟩
  | .local _ .vmem, ⟨4, _⟩ => ⟨S1x2048, .f32⟩
  | .local _ .vmem, ⟨5, _⟩ => ⟨S1x2048, .f32⟩
  | .local _ .vmem, ⟨6, _⟩ => ⟨S768x2048, .f32⟩
  | .local _ .vmem, ⟨7, _⟩ => ⟨S768x2048, .f32⟩
  | .local _ .vmem, ⟨8, _⟩ => ⟨S768x2048, .bf16⟩
  | .local _ .vmem, ⟨9, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Resid2ReferenceIdeal.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩

abbrev nBuf : Space → Nat
  | .hbm => 43
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S8448x2048, .f32⟩
  | .hbm, ⟨24, _⟩ => ⟨S1x2048, .f32⟩
  | .hbm, ⟨25, _⟩ => ⟨S2048, .f32⟩
  | .hbm, ⟨26, _⟩ => ⟨S8448x2048, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x2048, .f32⟩
  | .hbm, ⟨38, _⟩ => ⟨S8448x2048, .f32⟩
  | .hbm, ⟨39, _⟩ => ⟨S1x2048, .f32⟩
  | .hbm, ⟨40, _⟩ => ⟨S8448x2048, .f32⟩
  | .hbm, ⟨41, _⟩ => ⟨S8448x2048, .f32⟩
  | .hbm, ⟨42, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Resid3.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Resid3ReferenceIdeal.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2x2048, .f32⟩
  | .hbm, ⟨3, _⟩ => ⟨S1x2048, .f32⟩
  | .hbm, ⟨4, _⟩ => ⟨S2048, .f32⟩
  | .hbm, ⟨5, _⟩ => ⟨S8448x2048, .f32⟩
  | .hbm, ⟨6, _⟩ => ⟨S8448x2048, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x2048, .f32⟩
  | .hbm, ⟨18, _⟩ => ⟨S8448x2048, .f32⟩
  | .hbm, ⟨19, _⟩ => ⟨S1x2048, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S8192x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== RmsKv.lean ====
abbrev S8448x4608 : Shape := ⟨2, ![8448, 4608]⟩
abbrev S1x256 : Shape := ⟨2, ![1, 256]⟩
abbrev S256 : Shape := ⟨1, ![256]⟩
abbrev S8448x256 : Shape := ⟨2, ![8448, 256]⟩
abbrev S256x8448 : Shape := ⟨2, ![256, 8448]⟩
abbrev S768x256 : Shape := ⟨2, ![768, 256]⟩
abbrev S256x768 : Shape := ⟨2, ![256, 768]⟩
abbrev S768 : Shape := ⟨1, ![768]⟩
abbrev S768x1 : Shape := ⟨2, ![768, 1]⟩

abbrev nBuf : Space → Nat
  | .hbm => 6
  | .vmem => 7
  | .smem => 0
  | _ => 0

abbrev bufTy : (tb : Table) → Fin (tcTables nBuf tb) → BufTy
  | .hbm, ⟨0, _⟩ => ⟨S8448x4608, .f32⟩
  | .hbm, ⟨1, _⟩ => ⟨S1x256, .f32⟩
  | .hbm, ⟨2, _⟩ => ⟨S256, .f32⟩
  | .hbm, ⟨3, _⟩ => ⟨S1x256, .f32⟩
  | .hbm, ⟨4, _⟩ => ⟨S8448x256, .bf16⟩
  | .hbm, ⟨5, _⟩ => ⟨S256x8448, .bf16⟩
  | .local _ .vmem, ⟨0, _⟩ => ⟨S768x256, .f32⟩
  | .local _ .vmem, ⟨1, _⟩ => ⟨S768x256, .f32⟩
  | .local _ .vmem, ⟨2, _⟩ => ⟨S1x256, .f32⟩
  | .local _ .vmem, ⟨3, _⟩ => ⟨S768x256, .bf16⟩
  | .local _ .vmem, ⟨4, _⟩ => ⟨S768x256, .bf16⟩
  | .local _ .vmem, ⟨5, _⟩ => ⟨S256x768, .bf16⟩
  | .local _ .vmem, ⟨6, _⟩ => ⟨S256x768, .bf16⟩
  | _, _ => ⟨S8448x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsKvReferenceIdeal.lean ====
abbrev S8448x4608 : Shape := ⟨2, ![8448, 4608]⟩
abbrev S1x256 : Shape := ⟨2, ![1, 256]⟩
abbrev S8448x256 : Shape := ⟨2, ![8448, 256]⟩
abbrev S256 : Shape := ⟨1, ![256]⟩
abbrev S_ : Shape := ⟨0, ![]⟩
abbrev S8448 : Shape := ⟨1, ![8448]⟩
abbrev S8448x1 : Shape := ⟨2, ![8448, 1]⟩
abbrev S256x8448 : Shape := ⟨2, ![256, 8448]⟩

abbrev nBuf : Space → Nat
  | .hbm => 22
  | .vmem => 0
  | .smem => 0
  | _ => 0

abbrev bufTy : (tb : Table) → Fin (tcTables nBuf tb) → BufTy
  | .hbm, ⟨0, _⟩ => ⟨S8448x4608, .f32⟩
  | .hbm, ⟨1, _⟩ => ⟨S1x256, .f32⟩
  | .hbm, ⟨2, _⟩ => ⟨S8448x256, .f32⟩
  | .hbm, ⟨3, _⟩ => ⟨S256, .f32⟩
  | .hbm, ⟨4, _⟩ => ⟨S8448x256, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x256, .f32⟩
  | .hbm, ⟨16, _⟩ => ⟨S8448x256, .f32⟩
  | .hbm, ⟨17, _⟩ => ⟨S1x256, .f32⟩
  | .hbm, ⟨18, _⟩ => ⟨S8448x256, .f32⟩
  | .hbm, ⟨19, _⟩ => ⟨S8448x256, .f32⟩
  | .hbm, ⟨20, _⟩ => ⟨S8448x256, .bf16⟩
  | .hbm, ⟨21, _⟩ => ⟨S256x8448, .bf16⟩
  | _, _ => ⟨S8448x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Embed.lean ====
abbrev S1x8192x2048 : Shape := ⟨3, ![1, 8192, 2048]⟩
abbrev S16x2048 : Shape := ⟨2, ![16, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S240x2048 : Shape := ⟨2, ![240, 2048]⟩
abbrev S256x2048 : Shape := ⟨2, ![256, 2048]⟩
abbrev S8448x2048 : Shape := ⟨2, ![8448, 2048]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S16x2048, .f32⟩
  | .hbm, ⟨2, _⟩ => ⟨S2x2048, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S_, .f32⟩
  | .hbm, ⟨7, _⟩ => ⟨S240x2048, .f32⟩
  | .hbm, ⟨8, _⟩ => ⟨S256x2048, .f32⟩
  | .hbm, ⟨9, _⟩ => ⟨S1x2048, .f32⟩
  | .hbm, ⟨10, _⟩ => ⟨S8448x2048, .f32⟩
  | .hbm, ⟨11, _⟩ => ⟨S8448x2048, .bf16⟩
  | .hbm, ⟨12, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EmbedReferenceIdeal.lean ====
abbrev S1x8192x2048 : Shape := ⟨3, ![1, 8192, 2048]⟩
abbrev S16x2048 : Shape := ⟨2, ![16, 2048]⟩
abbrev S2x2048 : Shape := ⟨2, ![2, 2048]⟩
abbrev S_ : Shape := ⟨0, ![]⟩
abbrev S240x2048 : Shape := ⟨2, ![240, 2048]⟩
abbrev S8192x2048 : Shape := ⟨2, ![8192, 2048]⟩
abbrev S8448x2048 : Shape := ⟨2, ![8448, 2048]⟩
abbrev S1x2048 : Shape := ⟨2, ![1, 2048]⟩
abbrev S2048 : Shape := ⟨1, ![2048]⟩
abbrev S8448 : Shape := ⟨1, ![8448]⟩
abbrev S8448x1 : Shape := ⟨2, ![8448, 1]⟩

abbrev nBuf : Space → Nat
  | .hbm => 29
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S16x2048, .f32⟩
  | .hbm, ⟨2, _⟩ => ⟨S2x2048, .f32⟩
  | .hbm, ⟨3, _⟩ => ⟨S_, .f32⟩
  | .hbm, ⟨4, _⟩ => ⟨S240x2048, .f32⟩
  | .hbm, ⟨5, _⟩ => ⟨S8192x2048, .f32⟩
  | .hbm, ⟨6, _⟩ => ⟨S8448x2048, .f32⟩
  | .hbm, ⟨7, _⟩ => ⟨S1x2048, .f32⟩
  | .hbm, ⟨8, _⟩ => ⟨S2048, .f32⟩
  | .hbm, ⟨9, _⟩ => ⟨S8448x2048, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x2048, .f32⟩
  | .hbm, ⟨21, _⟩ => ⟨S8448x2048, .f32⟩
  | .hbm, ⟨22, _⟩ => ⟨S1x2048, .f32⟩
  | .hbm, ⟨23, _⟩ => ⟨S8448x2048, .f32⟩
  | .hbm, ⟨24, _⟩ => ⟨S8448x2048, .f32⟩
  | .hbm, ⟨25, _⟩ => ⟨S8448x2048, .bf16⟩
  | .hbm, ⟨26, _⟩ => ⟨S_, .f32⟩
  | .hbm, ⟨27, _⟩ => ⟨S8448x2048, .f32⟩
  | .hbm, ⟨28, _⟩ => ⟨S8448x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== RmsCq.lean ====
abbrev S640x8448 : Shape := ⟨2, ![640, 8448]⟩
abbrev S1x512 : Shape := ⟨2, ![1, 512]⟩
abbrev S512 : Shape := ⟨1, ![512]⟩
abbrev S512x1 : Shape := ⟨2, ![512, 1]⟩
abbrev S512x8448 : Shape := ⟨2, ![512, 8448]⟩
abbrev S512x768 : Shape := ⟨2, ![512, 768]⟩
abbrev S768 : Shape := ⟨1, ![768]⟩
abbrev S1x768 : Shape := ⟨2, ![1, 768]⟩

abbrev nBuf : Space → Nat
  | .hbm => 6
  | .vmem => 7
  | .smem => 0
  | _ => 0

abbrev bufTy : (tb : Table) → Fin (tcTables nBuf tb) → BufTy
  | .hbm, ⟨0, _⟩ => ⟨S640x8448, .f32⟩
  | .hbm, ⟨1, _⟩ => ⟨S1x512, .f32⟩
  | .hbm, ⟨2, _⟩ => ⟨S512, .f32⟩
  | .hbm, ⟨3, _⟩ => ⟨S512x1, .f32⟩
  | .hbm, ⟨4, _⟩ => ⟨S512x8448, .bf16⟩
  | .hbm, ⟨5, _⟩ => ⟨S512x8448, .bf16⟩
  | .local _ .vmem, ⟨0, _⟩ => ⟨S512x768, .f32⟩
  | .local _ .vmem, ⟨1, _⟩ => ⟨S512x768, .f32⟩
  | .local _ .vmem, ⟨2, _⟩ => ⟨S512x1, .f32⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | _, _ => ⟨S640x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsCqReferenceIdeal.lean ====
abbrev S640x8448 : Shape := ⟨2, ![640, 8448]⟩
abbrev S1x512 : Shape := ⟨2, ![1, 512]⟩
abbrev S512x8448 : Shape := ⟨2, ![512, 8448]⟩
abbrev S8448x512 : Shape := ⟨2, ![8448, 512]⟩
abbrev S512 : Shape := ⟨1, ![512]⟩
abbrev S_ : Shape := ⟨0, ![]⟩
abbrev S8448 : Shape := ⟨1, ![8448]⟩
abbrev S8448x1 : Shape := ⟨2, ![8448, 1]⟩

abbrev nBuf : Space → Nat
  | .hbm => 27
  | .vmem => 0
  | .smem => 0
  | _ => 0

abbrev bufTy : (tb : Table) → Fin (tcTables nBuf tb) → BufTy
  | .hbm, ⟨0, _⟩ => ⟨S640x8448, .f32⟩
  | .hbm, ⟨1, _⟩ => ⟨S1x512, .f32⟩
  | .hbm, ⟨2, _⟩ => ⟨S512x8448, .f32⟩
  | .hbm, ⟨3, _⟩ => ⟨S8448x512, .f32⟩
  | .hbm, ⟨4, _⟩ => ⟨S512, .f32⟩
  | .hbm, ⟨5, _⟩ => ⟨S8448x512, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x512, .f32⟩
  | .hbm, ⟨17, _⟩ => ⟨S8448x512, .f32⟩
  | .hbm, ⟨18, _⟩ => ⟨S1x512, .f32⟩
  | .hbm, ⟨19, _⟩ => ⟨S8448x512, .f32⟩
  | .hbm, ⟨20, _⟩ => ⟨S8448x512, .f32⟩
  | .hbm, ⟨21, _⟩ => ⟨S512x8448, .f32⟩
  | .hbm, ⟨22, _⟩ => ⟨S512x8448, .bf16⟩
  | .hbm, ⟨23, _⟩ => ⟨S512x8448, .f32⟩
  | .hbm, ⟨24, _⟩ => ⟨S_, .f32⟩
  | .hbm, ⟨25, _⟩ => ⟨S512x8448, .f32⟩
  | .hbm, ⟨26, _⟩ => ⟨S512x8448, .bf16⟩
  | _, _ => ⟨S640x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kidx.lean ====
abbrev S8448x128 : Shape := ⟨2, ![8448, 128]⟩
abbrev S1x64 : Shape := ⟨2, ![1, 64]⟩
abbrev S64 : Shape := ⟨1, ![64]⟩
abbrev S_ : Shape := ⟨0, ![]⟩
abbrev S1x128 : Shape := ⟨2, ![1, 128]⟩
abbrev S1 : Shape := ⟨1, ![1]⟩
abbrev S2 : Shape := ⟨1, ![2]⟩
abbrev S8448x256 : Shape := ⟨2, ![8448, 256]⟩
abbrev S768x128 : Shape := ⟨2, ![768, 128]⟩
abbrev S768x256 : Shape := ⟨2, ![768, 256]⟩
abbrev S768 : Shape := ⟨1, ![768]⟩
abbrev S768x1 : Shape := ⟨2, ![768, 1]⟩

abbrev nBuf : Space → Nat
  | .hbm => 12
  | .vmem => 5
  | .smem => 0
  | _ => 0

abbrev bufTy : (tb : Table) → Fin (tcTables nBuf tb) → BufTy
  | .hbm, ⟨0, _⟩ => ⟨S8448x128, .f32⟩
  | .hbm, ⟨1, _⟩ => ⟨S1x64, .f32⟩
  | .hbm, ⟨2, _⟩ => ⟨S64, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S8448x256, .bf16⟩
  | .local _ .vmem, ⟨0, _⟩ => ⟨S768x128, .f32⟩
  | .local _ .vmem, ⟨1, _⟩ => ⟨S768x128, .f32⟩
  | .local _ .vmem, ⟨2, _⟩ => ⟨S1x128, .f32⟩
  | .local _ .vmem, ⟨3, _⟩ => ⟨S768x256, .bf16⟩
  | .local _ .vmem, ⟨4, _⟩ => ⟨S768x256, .bf16⟩
  | _, _ => ⟨S8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KidxReferenceIdeal.lean ====
abbrev S8448x128 : Shape := ⟨2, ![8448, 128]⟩
abbrev S1x64 : Shape := ⟨2, ![1, 64]⟩
abbrev S8448x64 : Shape := ⟨2, ![8448, 64]⟩
abbrev S64 : Shape := ⟨1, ![64]⟩
abbrev S_ : Shape := ⟨0, ![]⟩
abbrev S8448 : Shape := ⟨1, ![8448]⟩
abbrev S8448x1 : Shape := ⟨2, ![8448, 1]⟩
abbrev S8448x256 : Shape := ⟨2, ![8448, 256]⟩

abbrev nBuf : Space → Nat
  | .hbm => 24
  | .vmem => 0
  | .smem => 0
  | _ => 0

abbrev bufTy : (tb : Table) → Fin (tcTables nBuf tb) → BufTy
  | .hbm, ⟨0, _⟩ => ⟨S8448x128, .f32⟩
  | .hbm, ⟨1, _⟩ => ⟨S1x64, .f32⟩
  | .hbm, ⟨2, _⟩ => ⟨S8448x64, .f32⟩
  | .hbm, ⟨3, _⟩ => ⟨S64, .f32⟩
  | .hbm, ⟨4, _⟩ => ⟨S8448x64, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x64, .f32⟩
  | .hbm, ⟨16, _⟩ => ⟨S8448x64, .f32⟩
  | .hbm, ⟨17, _⟩ => ⟨S1x64, .f32⟩
  | .hbm, ⟨18, _⟩ => ⟨S8448x64, .f32⟩
  | .hbm, ⟨19, _⟩ => ⟨S8448x64, .f32⟩
  | .hbm, ⟨20, _⟩ => ⟨S_, .f32⟩
  | .hbm, ⟨21, _⟩ => ⟨S8448x64, .f32⟩
  | .hbm, ⟨22, _⟩ => ⟨S8448x256, .f32⟩
  | .hbm, ⟨23, _⟩ => ⟨S8448x256, .bf16⟩
  | _, _ => ⟨S8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.KBlock.lean ====
/- One point of the kernel, entry by entry: the rotated queries and keys, the new state, and the gated, normalized
   result, each as a closed expression of the point's blocks. -/
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.KernelIdeal.Block

open Cert.KernelIdeal Cert.KernelIdeal.Gen Idealize.ShloMosaic
open Idealize.ShloMosaic.Pointwise

theorem even_mask (i : Fin 384) (d : Fin 256) : (k0_pay5 (ix2 i d) : BitVec 1) = if d.val % 2 = 0 then 1#1 else 0#1 := by
  have h : ∀ d : Fin 256, (k0_pay5 (ix2 0 d) : BitVec 1) = if d.val % 2 = 0 then 1#1 else 0#1 := by
    unfold k0_pay5; decide +kernel
  exact h d

/-- A pair of the row `x` rotated: even places take `x·cos + next·sin`, odd places `x·cos + previous·sin`, where `sin`
    carries the sign of the place. -/
def rotE (x : Fin 256 → EReal) (cs sn : Fin 256 → EReal) (d : Fin 256) : EReal :=
  x d * cs d + (if d.val % 2 = 0 then x ⟨(d.val + 1) % 256, Nat.mod_lt _ (by decide)⟩ else x ⟨(d.val + 255) % 256, Nat.mod_lt _ (by decide)⟩) * sn d

/-- The rotated query (or, not yet scaled, key) of head `e` of the pair, at row `i` and place `d`. -/
def rotB (x : Vec Ideal S384x512 .bf16) (cs sn : Vec Ideal S384x256 .f32) (e : Fin 2) (i : Fin 384) (d : Fin 256) : EReal :=
  rotE (fun d => x (ix2 i ⟨e.val * 256 + d.val, by omega⟩)) (fun d => cs (ix2 i d)) (fun d => sn (ix2 i d)) d

/-- The scaled rotated key. -/
def keyB (x : Vec Ideal S384x512 .bf16) (cs sn : Vec Ideal S384x256 .f32) (e : Fin 2) (i : Fin 384) (d : Fin 256) : EReal :=
  rotB x cs sn e i d * Ideal.ofBits .f32 0x3D800000#32

/-- The value of head `e` of the pair at row `i` and place `j`. -/
def valB (x : Vec Ideal S384x1024 .bf16) (e : Fin 2) (i : Fin 384) (j : Fin 512) : EReal :=
  x (ix2 i ⟨e.val * 512 + j.val, by omega⟩)

/-- The state after the point. -/
def newState (x1 : Vec Ideal S384x512 .bf16) (x2 : Vec Ideal S384x1024 .bf16) (x4 x5 : Vec Ideal S384x256 .f32)
    (x8 : Vec Ideal S2x384x1 .f32) (x9 : Vec Ideal S2x1x512 .f32) (xs : Vec Ideal S2x256x512 .f32) (e : Fin 2) (d : Fin 256) (j : Fin 512) : EReal :=
  xs (ix3 e d j) * x9 (ix3 e 0 j) + ∑ i : Fin 384, keyB x1 x4 x5 e i d * x8 (ix3 e i 0) * valB x2 e i j

/-- The retention of the point's row `i`, before it is normalized. -/
def rawOut (x0 x1 : Vec Ideal S384x512 .bf16) (x2 : Vec Ideal S384x1024 .bf16) (x4 x5 : Vec Ideal S384x256 .f32)
    (x6 : Vec Ideal S2x384x384 .f32) (x7 : Vec Ideal S2x384x1 .f32) (xs : Vec Ideal S2x256x512 .f32) (e : Fin 2) (i : Fin 384) (j : Fin 512) : EReal :=
  (∑ s : Fin 384, (∑ d : Fin 256, rotB x0 x4 x5 e i d * keyB x1 x4 x5 e s d) * x6 (ix3 e i s) * valB x2 e s j)
    + ∑ d : Fin 256, rotB x0 x4 x5 e i d * x7 (ix3 e i 0) * xs (ix3 e d j)

/-- A gate `g` and a row `o`: `g` through its own logistic, times the row's entry `j` over the row's root mean square. -/
def gated (g : EReal) (o : Fin 512 → EReal) (j : Fin 512) : EReal :=
  g * Ideal.logistic g * (o j * Ideal.rsqrt (Ideal.div (∑ l, o l * o l) (Ideal.ofBits .f32 0x44000000#32) + Ideal.ofBits .f32 0x358637BD#32))

/-- The point's result. -/
def outVal (x0 x1 : Vec Ideal S384x512 .bf16) (x2 x3 : Vec Ideal S384x1024 .bf16) (x4 x5 : Vec Ideal S384x256 .f32)
    (x6 : Vec Ideal S2x384x384 .f32) (x7 : Vec Ideal S2x384x1 .f32) (xs : Vec Ideal S2x256x512 .f32) (e : Fin 2) (i : Fin 384) (j : Fin 512) : EReal :=
  gated (valB x3 e i j) (rawOut x0 x1 x2 x4 x5 x6 x7 xs e i) j

theorem rot_val (x : Fin 256 → EReal) (cs sn : EReal) (i : Fin 384) (d : Fin 256) (a b : EReal)
    (ha : a = x ⟨(d.val + 1) % 256, Nat.mod_lt _ (by decide)⟩) (hb : b = x ⟨(d.val + 255) % 256, Nat.mod_lt _ (by decide)⟩) :
    x d * cs + Scalar.select (k0_pay5 (ix2 i d)) a b * sn
      = x d * cs + (if d.val % 2 = 0 then x ⟨(d.val + 1) % 256, Nat.mod_lt _ (by decide)⟩ else x ⟨(d.val + 255) % 256, Nat.mod_lt _ (by decide)⟩) * sn := by
  rw [even_mask, ha, hb]
  by_cases h : d.val % 2 = 0
  · rw [if_pos h, if_pos h]; rfl
  · rw [if_neg h, if_neg h]; rfl

theorem q0 (x : Vec Ideal S384x512 .bf16) (v3 v5 : Vec Ideal S384x256 .f32) (e : Fin 2) (he : e.val = 0) (i : Fin 384) (d : Fin 256) :
    k0_pay6 (F := Ideal) v3 v5 (View.ld x (Rect.unit ![0, 0] ![384, 256] inb_S384x512_S384x256_0_0)) (ix2 i d) = rotB x v3 v5 e i d := by
  obtain rfl : e = 0 := Fin.ext he
  unfold k0_pay6 k0_pay3 k0_pay4 rotB rotE
  pointwise
  refine (rot_val (fun d => x (ix2 i ⟨d.val, by omega⟩)) _ _ i d _ _ ?_ ?_).trans ?_
  · congr 2
  · congr 2
  · simp

theorem q1 (x : Vec Ideal S384x512 .bf16) (v3 v5 : Vec Ideal S384x256 .f32) (e : Fin 2) (he : ¬e.val = 0) (i : Fin 384) (d : Fin 256) :
    k0_pay8 (F := Ideal) (k0_pay3 v3) (k0_pay4 v5) k0_pay5 (k0_pay7 (View.ld x (Rect.unit ![0, 256] ![384, 256] inb_S384x512_S384x256_0_256))) (ix2 i d) = rotB x v3 v5 e i d := by
  obtain rfl : e = 1 := Fin.ext (by show e.val = 1; omega)
  unfold k0_pay8 k0_pay7 k0_pay3 k0_pay4 rotB rotE
  pointwise
  refine (rot_val (fun d => x (ix2 i ⟨256 + d.val, by omega⟩)) _ _ i d _ _ ?_ ?_).trans ?_
  · congr 2
  · congr 2
  · simp

theorem k0 (x : Vec Ideal S384x512 .bf16) (v3 v5 : Vec Ideal S384x256 .f32) (e : Fin 2) (he : e.val = 0) (i : Fin 384) (d : Fin 256) :
    k0_pay9 (F := Ideal) (k0_pay3 v3) (k0_pay4 v5) k0_pay5 (View.ld x (Rect.unit ![0, 0] ![384, 256] inb_S384x512_S384x256_0_0)) (ix2 i d) = keyB x v3 v5 e i d := by
  unfold keyB
  rw [← q0 x v3 v5 e he i d]
  unfold k0_pay9 k0_pay6 k0_pay3 k0_pay4
  pointwise

theorem k1 (x : Vec Ideal S384x512 .bf16) (v3 v5 : Vec Ideal S384x256 .f32) (e : Fin 2) (he : ¬e.val = 0) (i : Fin 384) (d : Fin 256) :
    k0_pay10 (F := Ideal) (k0_pay3 v3) (k0_pay4 v5) k0_pay5 (View.ld x (Rect.unit ![0, 256] ![384, 256] inb_S384x512_S384x256_0_256)) (ix2 i d) = keyB x v3 v5 e i d := by
  unfold keyB
  rw [← q1 x v3 v5 e he i d]
  unfold k0_pay10 k0_pay8 k0_pay7 k0_pay3 k0_pay4
  pointwise

theorem newState_0 (x1 : Vec Ideal S384x512 .bf16) (x2 : Vec Ideal S384x1024 .bf16) (x4 x5 : Vec Ideal S384x256 .f32)
    (x8 : Vec Ideal S2x384x1 .f32) (x9 : Vec Ideal S2x1x512 .f32) (xs : Vec Ideal S2x256x512 .f32) (e : Fin 2) (he : e.val = 0) (d : Fin 256) (j : Fin 512) :
    k0_pay21 (k0_pay11 (View.ld x2 (Rect.unit ![0, 0] ![384, 512] inb_S384x1024_S384x512_0_0)))
      (k0_pay16 (View.ld (Val := Elt Ideal) (e' := .f32) xs (Rect.unit ![0, 0, 0] ![1, 256, 512] inb_S2x256x512_S1x256x512_0_0_0)))
      (k0_pay20 (k0_pay9 (k0_pay3 x4) (k0_pay4 x5) k0_pay5 (View.ld x1 (Rect.unit ![0, 0] ![384, 256] inb_S384x512_S384x256_0_0)))
        (View.ld (Val := Elt Ideal) (e' := .f32) x8 (Rect.unit ![0, 0, 0] ![1, 384, 1] inb_S2x384x1_S1x384x1_0_0_0)))
      (View.ld (Val := Elt Ideal) (e' := .f32) x9 (Rect.unit ![0, 0, 0] ![1, 1, 512] inb_S2x1x512_S1x1x512_0_0_0)) (ix3 0 d j)
      = newState x1 x2 x4 x5 x8 x9 xs e d j := by
  unfold newState
  simp only [← k0 x1 x4 x5 e he]
  obtain rfl : e = 0 := Fin.ext he
  unfold k0_pay21 k0_pay11 k0_pay16 k0_pay20 valB
  pointwise

theorem newState_1 (x1 : Vec Ideal S384x512 .bf16) (x2 : Vec Ideal S384x1024 .bf16) (x4 x5 : Vec Ideal S384x256 .f32)
    (x8 : Vec Ideal S2x384x1 .f32) (x9 : Vec Ideal S2x1x512 .f32) (xs : Vec Ideal S2x256x512 .f32) (e : Fin 2) (he : ¬e.val = 0) (d : Fin 256) (j : Fin 512) :
    k0_pay22 (k0_pay10 (k0_pay3 x4) (k0_pay4 x5) k0_pay5 (View.ld x1 (Rect.unit ![0, 256] ![384, 256] inb_S384x512_S384x256_0_256)))
      (k0_pay12 (View.ld x2 (Rect.unit ![0, 512] ![384, 512] inb_S384x1024_S384x512_0_512)))
      (k0_pay17 (View.ld (Val := Elt Ideal) (e' := .f32) xs (Rect.unit ![1, 0, 0] ![1, 256, 512] inb_S2x256x512_S1x256x512_1_0_0)))
      (View.ld (Val := Elt Ideal) (e' := .f32) x8 (Rect.unit ![1, 0, 0] ![1, 384, 1] inb_S2x384x1_S1x384x1_1_0_0))
      (View.ld (Val := Elt Ideal) (e' := .f32) x9 (Rect.unit ![1, 0, 0] ![1, 1, 512] inb_S2x1x512_S1x1x512_1_0_0)) (ix3 0 d j)
      = newState x1 x2 x4 x5 x8 x9 xs e d j := by
  unfold newState
  simp only [← k1 x1 x4 x5 e he]
  obtain rfl : e = 1 := Fin.ext (by show e.val = 1; omega)
  unfold k0_pay22 k0_pay12 k0_pay17 valB
  pointwise

theorem raw_0 (x0 x1 : Vec Ideal S384x512 .bf16) (x2 : Vec Ideal S384x1024 .bf16) (x4 x5 : Vec Ideal S384x256 .f32)
    (x6 : Vec Ideal S2x384x384 .f32) (x7 : Vec Ideal S2x384x1 .f32) (xs : Vec Ideal S2x256x512 .f32) (e : Fin 2) (he : e.val = 0) (i : Fin 384) (j : Fin 512) :
    k0_pay18 (k0_pay6 x4 x5 (View.ld x0 (Rect.unit ![0, 0] ![384, 256] inb_S384x512_S384x256_0_0)))
      (k0_pay11 (View.ld x2 (Rect.unit ![0, 0] ![384, 512] inb_S384x1024_S384x512_0_0)))
      (k0_pay13 (k0_pay3 x4) (k0_pay4 x5) k0_pay5 (k0_pay6 x4 x5 (View.ld x0 (Rect.unit ![0, 0] ![384, 256] inb_S384x512_S384x256_0_0)))
        (View.ld x1 (Rect.unit ![0, 0] ![384, 256] inb_S384x512_S384x256_0_0))
        (View.ld (Val := Elt Ideal) (e' := .f32) x6 (Rect.unit ![0, 0, 0] ![1, 384, 384] inb_S2x384x384_S1x384x384_0_0_0)))
      (View.ld (Val := Elt Ideal) (e' := .f32) xs (Rect.unit ![0, 0, 0] ![1, 256, 512] inb_S2x256x512_S1x256x512_0_0_0))
      (View.ld (Val := Elt Ideal) (e' := .f32) x7 (Rect.unit ![0, 0, 0] ![1, 384, 1] inb_S2x384x1_S1x384x1_0_0_0)) (ix2 i j)
      = rawOut x0 x1 x2 x4 x5 x6 x7 xs e i j := by
  unfold rawOut
  simp only [← k0 x1 x4 x5 e he, ← q0 x0 x4 x5 e he]
  obtain rfl : e = 0 := Fin.ext he
  unfold k0_pay18 k0_pay11 k0_pay13 k0_pay16 valB
  pointwise

theorem raw_1 (x0 x1 : Vec Ideal S384x512 .bf16) (x2 : Vec Ideal S384x1024 .bf16) (x4 x5 : Vec Ideal S384x256 .f32)
    (x6 : Vec Ideal S2x384x384 .f32) (x7 : Vec Ideal S2x384x1 .f32) (xs : Vec Ideal S2x256x512 .f32) (e : Fin 2) (he : ¬e.val = 0) (i : Fin 384) (j : Fin 512) :
    k0_pay19 (k0_pay8 (k0_pay3 x4) (k0_pay4 x5) k0_pay5 (k0_pay7 (View.ld x0 (Rect.unit ![0, 256] ![384, 256] inb_S384x512_S384x256_0_256))))
      (k0_pay12 (View.ld x2 (Rect.unit ![0, 512] ![384, 512] inb_S384x1024_S384x512_0_512)))
      (k0_pay14 (k0_pay3 x4) (k0_pay4 x5) k0_pay5 (k0_pay7 (View.ld x0 (Rect.unit ![0, 256] ![384, 256] inb_S384x512_S384x256_0_256))))
      (k0_pay15 (k0_pay3 x4) (k0_pay4 x5) k0_pay5 (View.ld x1 (Rect.unit ![0, 256] ![384, 256] inb_S384x512_S384x256_0_256)))
      (View.ld (Val := Elt Ideal) (e' := .f32) x6 (Rect.unit ![1, 0, 0] ![1, 384, 384] inb_S2x384x384_S1x384x384_1_0_0))
      (View.ld (Val := Elt Ideal) (e' := .f32) xs (Rect.unit ![1, 0, 0] ![1, 256, 512] inb_S2x256x512_S1x256x512_1_0_0))
      (View.ld (Val := Elt Ideal) (e' := .f32) x7 (Rect.unit ![1, 0, 0] ![1, 384, 1] inb_S2x384x1_S1x384x1_1_0_0)) (ix2 i j)
      = rawOut x0 x1 x2 x4 x5 x6 x7 xs e i j := by
  unfold rawOut
  simp only [← k1 x1 x4 x5 e he, ← q1 x0 x4 x5 e he]
  obtain rfl : e = 1 := Fin.ext (by show e.val = 1; omega)
  unfold k0_pay19 k0_pay12 k0_pay14 k0_pay15 k0_pay17 valB
  pointwise

theorem gated_0 (o : FVec Ideal S384x512 .f32) (x3 : Vec Ideal S384x1024 .bf16) (e : Fin 2) (he : e.val = 0) (i : Fin 384) (j : Fin 512) :
    k0_pay23 (F := Ideal) o (View.ld x3 (Rect.unit ![0, 0] ![384, 512] inb_S384x1024_S384x512_0_0)) (ix2 i j)
      = gated (valB x3 e i j) (fun l => o (ix2 i l)) j := by
  obtain rfl : e = 0 := Fin.ext he
  unfold k0_pay23 gated valB
  pointwise

theorem gated_1 (o : FVec Ideal S384x512 .f32) (x3 : Vec Ideal S384x1024 .bf16) (e : Fin 2) (he : ¬e.val = 0) (i : Fin 384) (j : Fin 512) :
    k0_pay1 (F := Ideal) o (View.ld x3 (Rect.unit ![0, 512] ![384, 512] inb_S384x1024_S384x512_0_512)) (ix2 i j)
      = gated (valB x3 e i j) (fun l => o (ix2 i l)) j := by
  obtain rfl : e = 1 := Fin.ext (by show e.val = 1; omega)
  unfold k0_pay1 gated valB
  pointwise

end Cert.KernelIdeal.Block

end
-- ==== Proof.KOpen.lean ====
/- What one point of the kernel leaves in its result block and in the carried state, entry by entry, as values of the
   point's input blocks and of the state the point before left. -/
module

public import proofs.«01_k».proof.Proof.KBlock
public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

namespace Cert.KernelIdeal.Open

open Cert.KernelIdeal Cert.KernelIdeal.Gen Cert.KernelIdeal.Block Idealize.ShloMosaic Idealize.ShloMosaic.TcCoe Idealize.SL.Sem
open Idealize.ShloMosaic.Pointwise

/-- Two stores, one per head, into the state: the entry of a head is the entry of that head's store. -/
theorem canon_state (p1 p0 : Vec Ideal S1x256x512 .f32) (L : List (View.Piece (Elt Ideal) S2x256x512 .f32)) (e : Fin 2) (d : Fin 256) (j : Fin 512) :
    View.canon (⟨Rect.unit (s := S2x256x512) ![1, 0, 0] ![1, 256, 512] inb_S2x256x512_S1x256x512_1_0_0, p1⟩ ::
      ⟨Rect.unit (s := S2x256x512) ![0, 0, 0] ![1, 256, 512] inb_S2x256x512_S1x256x512_0_0_0, p0⟩ :: L) (ix3 e d j)
      = if e.val = 0 then p0 (ix3 0 d j) else p1 (ix3 0 d j) := by
  by_cases he : e.val = 0
  · rw [if_pos he, View.canon_cons_of_not_mem]
    · have : (ix3 e d j : S2x256x512.Idx) = (Rect.unit (s := S2x256x512) ![0, 0, 0] ![1, 256, 512] inb_S2x256x512_S1x256x512_0_0_0).emb (ix3 0 d j) := by
        funext a; apply Fin.ext
        match a with
        | ⟨0, _⟩ => show e.val = 0 + 1 * 0; omega
        | ⟨1, _⟩ => show d.val = 0 + 1 * d.val; omega
        | ⟨2, _⟩ => show j.val = 0 + 1 * j.val; omega
      rw [this]; exact View.canon_cons_emb _ _ _ _
    · rw [Rect.mem_set_unit]; intro h
      have := (h 0).1
      change 1 ≤ e.val at this; omega
  · rw [if_neg he]
    have : (ix3 e d j : S2x256x512.Idx) = (Rect.unit (s := S2x256x512) ![1, 0, 0] ![1, 256, 512] inb_S2x256x512_S1x256x512_1_0_0).emb (ix3 0 d j) := by
      funext a; apply Fin.ext
      match a with
      | ⟨0, _⟩ => show e.val = 1 + 1 * 0; omega
      | ⟨1, _⟩ => show d.val = 0 + 1 * d.val; omega
      | ⟨2, _⟩ => show j.val = 0 + 1 * j.val; omega
    rw [this]; exact View.canon_cons_emb _ _ _ _

/-- Two stores, one per half, into the result block: an entry of a half is the entry of that half's store. -/
theorem canon_out (p1 p0 : Vec Ideal S384x512 .bf16) (e : Fin 2) (i : Fin 384) (j : Fin 512) :
    View.canon [⟨Rect.unit (s := S384x1024) ![0, 512] ![384, 512] inb_S384x1024_S384x512_0_512, p1⟩,
      ⟨Rect.unit (s := S384x1024) ![0, 0] ![384, 512] inb_S384x1024_S384x512_0_0, p0⟩] (ix2 i ⟨e.val * 512 + j.val, by omega⟩)
      = if e.val = 0 then p0 (ix2 i j) else p1 (ix2 i j) := by
  by_cases he : e.val = 0
  · rw [if_pos he, View.canon_cons_of_not_mem]
    · have : (ix2 i ⟨e.val * 512 + j.val, by omega⟩ : S384x1024.Idx) = (Rect.unit (s := S384x1024) ![0, 0] ![384, 512] inb_S384x1024_S384x512_0_0).emb (ix2 i j) := by
        funext a; apply Fin.ext
        match a with
        | ⟨0, _⟩ => show i.val = 0 + 1 * i.val; omega
        | ⟨1, _⟩ => show e.val * 512 + j.val = 0 + 1 * j.val; omega
      rw [this]; exact View.canon_cons_emb _ _ _ _
    · rw [Rect.mem_set_unit]; intro h
      have := (h 1).1
      change 512 ≤ e.val * 512 + j.val at this; omega
  · rw [if_neg he]
    have : (ix2 i ⟨e.val * 512 + j.val, by omega⟩ : S384x1024.Idx) = (Rect.unit (s := S384x1024) ![0, 512] ![384, 512] inb_S384x1024_S384x512_0_512).emb (ix2 i j) := by
      funext a; apply Fin.ext
      match a with
      | ⟨0, _⟩ => show i.val = 0 + 1 * i.val; omega
      | ⟨1, _⟩ => show e.val * 512 + j.val = 512 + 1 * j.val; omega
    rw [this]; exact View.canon_cons_emb _ _ _ _

theorem hz2 : (![0, 0] : Fin 2 → Nat) = fun _ => 0 := funext fun a => by fin_cases a <;> rfl
theorem hz3 : (![0, 0, 0] : Fin 3 → Nat) = fun _ => 0 := funext fun a => by fin_cases a <;> rfl

/-- The state read back after the store of zeros. -/
theorem readZero0 (v : View sig .tc .vmem S2x256x512 .f32) (p : Vec Ideal S2x256x512 .f32) :
    v.readCov (Val := Elt Ideal) [⟨Rect.unit (s := S2x256x512) ![0, 0, 0] ![2, 256, 512] inb_S2x256x512_S2x256x512_0_0_0, p⟩]
      (Rect.unit (s := S2x256x512) ![0, 0, 0] ![1, 256, 512] inb_S2x256x512_S1x256x512_0_0_0).toLoadRect
      = View.ld p (Rect.unit (s := S2x256x512) ![0, 0, 0] ![1, 256, 512] inb_S2x256x512_S1x256x512_0_0_0) := by
  rw [View.readCov_eq_canon', View.canon_unit_zero (S := S2x256x512) hz3]
theorem readZero1 (v : View sig .tc .vmem S2x256x512 .f32) (p : Vec Ideal S2x256x512 .f32) :
    v.readCov (Val := Elt Ideal) [⟨Rect.unit (s := S2x256x512) ![0, 0, 0] ![2, 256, 512] inb_S2x256x512_S2x256x512_0_0_0, p⟩]
      (Rect.unit (s := S2x256x512) ![1, 0, 0] ![1, 256, 512] inb_S2x256x512_S1x256x512_1_0_0).toLoadRect
      = View.ld p (Rect.unit (s := S2x256x512) ![1, 0, 0] ![1, 256, 512] inb_S2x256x512_S1x256x512_1_0_0) := by
  rw [View.readCov_eq_canon', View.canon_unit_zero (S := S2x256x512) hz3]

/-- A later point of a pair of heads: what it leaves in the carried state. -/
theorem sout_B (c : Dev nD) (i : grid0.Coords) (a2 : Memref sig .tc .vmem S384x512 .bf16) (h2 : a2.IsWhole) (a3 : Memref sig .tc .vmem S384x512 .bf16) (h3 : a3.IsWhole) (a4 : Memref sig .tc .vmem S384x1024 .bf16) (h4 : a4.IsWhole) (a5 : Memref sig .tc .vmem S384x1024 .bf16) (h5 : a5.IsWhole) (a6 : Memref sig .tc .vmem S384x256 .f32) (h6 : a6.IsWhole) (a7 : Memref sig .tc .vmem S384x256 .f32) (h7 : a7.IsWhole) (a8 : Memref sig .tc .vmem S2x384x384 .f32) (h8 : a8.IsWhole) (a9 : Memref sig .tc .vmem S2x384x1 .f32) (h9 : a9.IsWhole) (a10 : Memref sig .tc .vmem S2x384x1 .f32) (h10 : a10.IsWhole) (a11 : Memref sig .tc .vmem S2x1x512 .f32) (h11 : a11.IsWhole) (a12 : Memref sig .tc .vmem S384x1024 .bf16) (h12 : a12.IsWhole) (a13 : Memref sig .tc .vmem S2x256x512 .f32) (h13 : a13.IsWhole) (hc : ¬cond0_0 i)
    (x0 : Vec Ideal S384x512 .bf16) (x1 : Vec Ideal S384x512 .bf16) (x2 : Vec Ideal S384x1024 .bf16) (x3 : Vec Ideal S384x1024 .bf16) (x4 : Vec Ideal S384x256 .f32) (x5 : Vec Ideal S384x256 .f32) (x6 : Vec Ideal S2x384x384 .f32) (x7 : Vec Ideal S2x384x1 .f32) (x8 : Vec Ideal S2x384x1 .f32) (x9 : Vec Ideal S2x1x512 .f32) (xs : Vec Ideal S2x256x512 .f32) (e : Fin 2) (d : Fin 256) (j : Fin 512) :
    sout0_B_0 c i a2 h2 a3 h3 a4 h4 a5 h5 a6 h6 a7 h7 a8 h8 a9 h9 a10 h10 a11 h11 a12 h12 a13 h13 hc x0 x1 x2 x3 x4 x5 x6 x7 x8 x9 xs (ix3 e d j) = newState x1 x2 x4 x5 x8 x9 xs e d j := by
  unfold sout0_B_0
  rw [View.read_writes_eq_canon _ _ _ (scover0_B_0 c i a2 h2 a3 h3 a4 h4 a5 h5 a6 h6 a7 h7 a8 h8 a9 h9 a10 h10 a11 h11 a12 h12 a13 h13 hc x0 x1 x2 x3 x4 x5 x6 x7 x8 x9 xs)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h13.read_unread, View.ld_unit_zero (S := S384x256) hz2]
  rw [canon_state]
  by_cases he : e.val = 0
  · rw [if_pos he]; exact newState_0 _ _ _ _ _ _ _ e he d j
  · rw [if_neg he]; exact newState_1 _ _ _ _ _ _ _ e he d j

/-- A later point of a pair of heads: what it leaves in the result block. -/
theorem out_B (c : Dev nD) (i : grid0.Coords) (a2 : Memref sig .tc .vmem S384x512 .bf16) (h2 : a2.IsWhole) (a3 : Memref sig .tc .vmem S384x512 .bf16) (h3 : a3.IsWhole) (a4 : Memref sig .tc .vmem S384x1024 .bf16) (h4 : a4.IsWhole) (a5 : Memref sig .tc .vmem S384x1024 .bf16) (h5 : a5.IsWhole) (a6 : Memref sig .tc .vmem S384x256 .f32) (h6 : a6.IsWhole) (a7 : Memref sig .tc .vmem S384x256 .f32) (h7 : a7.IsWhole) (a8 : Memref sig .tc .vmem S2x384x384 .f32) (h8 : a8.IsWhole) (a9 : Memref sig .tc .vmem S2x384x1 .f32) (h9 : a9.IsWhole) (a10 : Memref sig .tc .vmem S2x384x1 .f32) (h10 : a10.IsWhole) (a11 : Memref sig .tc .vmem S2x1x512 .f32) (h11 : a11.IsWhole) (a12 : Memref sig .tc .vmem S384x1024 .bf16) (h12 : a12.IsWhole) (a13 : Memref sig .tc .vmem S2x256x512 .f32) (h13 : a13.IsWhole) (hc : ¬cond0_0 i)
    (x0 : Vec Ideal S384x512 .bf16) (x1 : Vec Ideal S384x512 .bf16) (x2 : Vec Ideal S384x1024 .bf16) (x3 : Vec Ideal S384x1024 .bf16) (x4 : Vec Ideal S384x256 .f32) (x5 : Vec Ideal S384x256 .f32) (x6 : Vec Ideal S2x384x384 .f32) (x7 : Vec Ideal S2x384x1 .f32) (x8 : Vec Ideal S2x384x1 .f32) (x9 : Vec Ideal S2x1x512 .f32) (xs : Vec Ideal S2x256x512 .f32) (e : Fin 2) (r : Fin 384) (j : Fin 512) :
    out0_B_10 c i a2 h2 a3 h3 a4 h4 a5 h5 a6 h6 a7 h7 a8 h8 a9 h9 a10 h10 a11 h11 a12 h12 a13 h13 hc x0 x1 x2 x3 x4 x5 x6 x7 x8 x9 xs (ix2 r ⟨e.val * 512 + j.val, by omega⟩) = outVal x0 x1 x2 x3 x4 x5 x6 x7 xs e r j := by
  unfold out0_B_10
  rw [View.read_writes_eq_canon _ _ _ (cover0_B_10 c i a2 h2 a3 h3 a4 h4 a5 h5 a6 h6 a7 h7 a8 h8 a9 h9 a10 h10 a11 h11 a12 h12 a13 h13 hc x0 x1 x2 x3 x4 x5 x6 x7 x8 x9 xs)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h13.read_unread, View.ld_unit_zero (S := S384x256) hz2]
  rw [canon_out]
  unfold outVal
  by_cases he : e.val = 0
  · rw [if_pos he, gated_0 _ _ e he]
    exact congrArg (fun o => gated _ o j) (funext fun l => raw_0 _ _ _ _ _ _ _ _ e he r l)
  · rw [if_neg he, gated_1 _ _ e he]
    exact congrArg (fun o => gated _ o j) (funext fun l => raw_1 _ _ _ _ _ _ _ _ e he r l)

/-- The first point of a pair of heads: what it leaves in the carried state. -/
theorem sout_A (c : Dev nD) (i : grid0.Coords) (a2 : Memref sig .tc .vmem S384x512 .bf16) (h2 : a2.IsWhole) (a3 : Memref sig .tc .vmem S384x512 .bf16) (h3 : a3.IsWhole) (a4 : Memref sig .tc .vmem S384x1024 .bf16) (h4 : a4.IsWhole) (a5 : Memref sig .tc .vmem S384x1024 .bf16) (h5 : a5.IsWhole) (a6 : Memref sig .tc .vmem S384x256 .f32) (h6 : a6.IsWhole) (a7 : Memref sig .tc .vmem S384x256 .f32) (h7 : a7.IsWhole) (a8 : Memref sig .tc .vmem S2x384x384 .f32) (h8 : a8.IsWhole) (a9 : Memref sig .tc .vmem S2x384x1 .f32) (h9 : a9.IsWhole) (a10 : Memref sig .tc .vmem S2x384x1 .f32) (h10 : a10.IsWhole) (a11 : Memref sig .tc .vmem S2x1x512 .f32) (h11 : a11.IsWhole) (a12 : Memref sig .tc .vmem S384x1024 .bf16) (h12 : a12.IsWhole) (a13 : Memref sig .tc .vmem S2x256x512 .f32) (h13 : a13.IsWhole) (hc : cond0_0 i)
    (x0 : Vec Ideal S384x512 .bf16) (x1 : Vec Ideal S384x512 .bf16) (x2 : Vec Ideal S384x1024 .bf16) (x3 : Vec Ideal S384x1024 .bf16) (x4 : Vec Ideal S384x256 .f32) (x5 : Vec Ideal S384x256 .f32) (x6 : Vec Ideal S2x384x384 .f32) (x7 : Vec Ideal S2x384x1 .f32) (x8 : Vec Ideal S2x384x1 .f32) (x9 : Vec Ideal S2x1x512 .f32) (e : Fin 2) (d : Fin 256) (j : Fin 512) :
    sout0_A_0 c i a2 h2 a3 h3 a4 h4 a5 h5 a6 h6 a7 h7 a8 h8 a9 h9 a10 h10 a11 h11 a12 h12 a13 h13 hc x0 x1 x2 x3 x4 x5 x6 x7 x8 x9 (ix3 e d j) = newState x1 x2 x4 x5 x8 x9 (k0_pay2 (F := Ideal)) e d j := by
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h13.read_unread, View.ld_unit_zero (S := S384x256) hz2, readZero0, readZero1]
  rw [canon_state]
  by_cases he : e.val = 0
  · rw [if_pos he]; exact newState_0 _ _ _ _ _ _ _ e he d j
  · rw [if_neg he]; exact newState_1 _ _ _ _ _ _ _ e he d j

/-- The first point of a pair of heads: what it leaves in the result block. -/
theorem out_A (c : Dev nD) (i : grid0.Coords) (a2 : Memref sig .tc .vmem S384x512 .bf16) (h2 : a2.IsWhole) (a3 : Memref sig .tc .vmem S384x512 .bf16) (h3 : a3.IsWhole) (a4 : Memref sig .tc .vmem S384x1024 .bf16) (h4 : a4.IsWhole) (a5 : Memref sig .tc .vmem S384x1024 .bf16) (h5 : a5.IsWhole) (a6 : Memref sig .tc .vmem S384x256 .f32) (h6 : a6.IsWhole) (a7 : Memref sig .tc .vmem S384x256 .f32) (h7 : a7.IsWhole) (a8 : Memref sig .tc .vmem S2x384x384 .f32) (h8 : a8.IsWhole) (a9 : Memref sig .tc .vmem S2x384x1 .f32) (h9 : a9.IsWhole) (a10 : Memref sig .tc .vmem S2x384x1 .f32) (h10 : a10.IsWhole) (a11 : Memref sig .tc .vmem S2x1x512 .f32) (h11 : a11.IsWhole) (a12 : Memref sig .tc .vmem S384x1024 .bf16) (h12 : a12.IsWhole) (a13 : Memref sig .tc .vmem S2x256x512 .f32) (h13 : a13.IsWhole) (hc : cond0_0 i)
    (x0 : Vec Ideal S384x512 .bf16) (x1 : Vec Ideal S384x512 .bf16) (x2 : Vec Ideal S384x1024 .bf16) (x3 : Vec Ideal S384x1024 .bf16) (x4 : Vec Ideal S384x256 .f32) (x5 : Vec Ideal S384x256 .f32) (x6 : Vec Ideal S2x384x384 .f32) (x7 : Vec Ideal S2x384x1 .f32) (x8 : Vec Ideal S2x384x1 .f32) (x9 : Vec Ideal S2x1x512 .f32) (e : Fin 2) (r : Fin 384) (j : Fin 512) :
    out0_A_10 c i a2 h2 a3 h3 a4 h4 a5 h5 a6 h6 a7 h7 a8 h8 a9 h9 a10 h10 a11 h11 a12 h12 a13 h13 hc x0 x1 x2 x3 x4 x5 x6 x7 x8 x9 (ix2 r ⟨e.val * 512 + j.val, by omega⟩) = outVal x0 x1 x2 x3 x4 x5 x6 x7 (k0_pay2 (F := Ideal)) e r j := by
  unfold out0_A_10
  rw [View.read_writes_eq_canon _ _ _ (cover0_A_10 c i a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h13.read_unread, View.ld_unit_zero (S := S384x256) hz2, readZero0, readZero1]
  rw [canon_out]
  unfold outVal
  by_cases he : e.val = 0
  · rw [if_pos he, gated_0 _ _ e he]
    exact congrArg (fun o => gated _ o j) (funext fun l => raw_0 _ _ _ _ _ _ _ _ e he r l)
  · rw [if_neg he, gated_1 _ _ e he]
    exact congrArg (fun o => gated _ o j) (funext fun l => raw_1 _ _ _ _ _ _ _ _ e he r l)

end Cert.KernelIdeal.Open

end
-- ==== Proof.Maths.lean ====
/-
  The retention recurrence over the real numbers: carrying a state from chunk to chunk and adding, inside a chunk, the
  masked products, gives at every row the same sum over the rows before it, whatever the length of a chunk.
-/
module

public import Idealize.ShloMosaic.PureOps.Ideal

@[expose] public section

namespace Cert.Maths

open Finset

variable {ι : Type} [Fintype ι]

/-- One value of the retention at row `t`: every row `s ≤ t` contributes its value, weighted by the product of its key with
    the query of row `t` and by the decay over `t - s` rows. -/
noncomputable def ret (G : ℝ) (Q K : ℕ → ι → ℝ) (v : ℕ → ℝ) (t : ℕ) : ℝ :=
  ∑ s ∈ range (t + 1), G ^ (t - s) * (∑ d, Q t d * K s d) * v s

/-- The state before chunk `n`: the keys times values of the rows before it, each decayed up to the last of them. -/
theorem state_eq (G : ℝ) (K : ℕ → ι → ℝ) (v : ℕ → ℝ) (C N : ℕ) (R : ℕ → ι → ℝ) (h0 : ∀ d, R 0 d = 0)
    (hR : ∀ n < N, ∀ d, R (n + 1) d = R n d * G ^ C + ∑ i : Fin C, (K (n * C + i) d * G ^ (C - 1 - i.val)) * v (n * C + i)) :
    ∀ n ≤ N, ∀ d, R n d = ∑ s ∈ range (n * C), G ^ (n * C - 1 - s) * K s d * v s := by
  intro n
  induction n with
  | zero => intro _ d; simp [h0]
  | succ n ih =>
    intro hn d
    rw [hR n (by omega) d, ih (by omega) d, Nat.succ_mul, sum_range_add, sum_mul]
    congr 1
    · refine sum_congr rfl fun s hs => ?_
      have hs := mem_range.mp hs
      rw [show n * C + C - 1 - s = (n * C - 1 - s) + C by omega, pow_add]
      ring
    · rw [Finset.sum_range]
      refine sum_congr rfl fun i _ => ?_
      have hi := i.isLt
      rw [show n * C + C - 1 - (n * C + i.val) = C - 1 - i.val by omega]
      ring

/-- What a chunk computes at its row `i` is the retention at that row. -/
theorem out_eq (G : ℝ) (Q K : ℕ → ι → ℝ) (v : ℕ → ℝ) (C n : ℕ) (R : ι → ℝ)
    (hR : ∀ d, R d = ∑ s ∈ range (n * C), G ^ (n * C - 1 - s) * K s d * v s) (i : Fin C) :
    (∑ j : Fin C, ((∑ d, Q (n * C + i) d * K (n * C + j) d) * (if j.val ≤ i.val then G ^ (i.val - j.val) else 0)) * v (n * C + j))
      + ∑ d, (Q (n * C + i) d * G ^ (i.val + 1)) * R d = ret G Q K v (n * C + i) := by
  have hi := i.isLt
  unfold ret
  rw [show n * C + i.val + 1 = n * C + (i.val + 1) by omega, sum_range_add, add_comm]
  congr 1
  · simp only [hR, mul_sum, sum_mul]
    rw [sum_comm]
    refine sum_congr rfl fun s hs => ?_
    have hs := mem_range.mp hs
    refine sum_congr rfl fun d _ => ?_
    rw [show n * C + i.val - s = (i.val + 1) + (n * C - 1 - s) by omega, pow_add]
    ring
  · rw [← Finset.sum_range (n := C) (fun j => ((∑ d, Q (n * C + i) d * K (n * C + j) d) * (if j ≤ i.val then G ^ (i.val - j) else 0)) * v (n * C + j))]
    rw [← Finset.sum_subset (range_subset_range.mpr (show i.val + 1 ≤ C by omega))]
    · refine sum_congr rfl fun j hj => ?_
      have hj := mem_range.mp hj
      rw [if_pos (by omega), show n * C + i.val - (n * C + j) = i.val - j by omega]
      ring
    · intro j _ hj
      have hj := mt mem_range.mpr hj
      rw [if_neg (by omega)]
      ring

/-- Leading rows whose keys are zero do not count. -/
theorem ret_shift (G : ℝ) (Q K : ℕ → ι → ℝ) (v : ℕ → ℝ) (p t : ℕ) (h : ∀ s < p, ∀ d, K s d = 0) :
    ret G Q K v (p + t) = ret G (fun s => Q (p + s)) (fun s => K (p + s)) (fun s => v (p + s)) t := by
  unfold ret
  rw [show p + t + 1 = p + (t + 1) by omega, sum_range_add, sum_eq_zero, zero_add]
  · refine sum_congr rfl fun s _ => ?_
    rw [show p + t - (p + s) = t - s by omega]
  · intro s hs
    simp [h s (mem_range.mp hs)]

/-- The retention reads its queries, keys and values up to the row only. -/
theorem ret_congr (G : ℝ) {Q Q' K K' : ℕ → ι → ℝ} {v v' : ℕ → ℝ} (t : ℕ) (hQ : ∀ d, Q t d = Q' t d)
    (hK : ∀ s ≤ t, ∀ d, K s d = K' s d) (hv : ∀ s ≤ t, v s = v' s) : ret G Q K v t = ret G Q' K' v' t := by
  unfold ret
  refine sum_congr rfl fun s hs => ?_
  have hs : s ≤ t := by have := mem_range.mp hs; omega
  simp only [hQ, hK s hs, hv s hs]

/-- The state, chunk after chunk. -/
noncomputable def stt (G : ℝ) (K : ℕ → ι → ℝ) (v : ℕ → ℝ) (C : ℕ) : ℕ → ι → ℝ
  | 0, _ => 0
  | n + 1, d => stt G K v C n d * G ^ C + ∑ i : Fin C, (K (n * C + i) d * G ^ (C - 1 - i.val)) * v (n * C + i)

/-- What a chunk computes at its row `i` from the carried state is the retention at that row. -/
theorem chunk_out (G : ℝ) (Q K : ℕ → ι → ℝ) (v : ℕ → ℝ) (C n : ℕ) (i : Fin C) :
    (∑ j : Fin C, ((∑ d, Q (n * C + i) d * K (n * C + j) d) * (if j.val ≤ i.val then G ^ (i.val - j.val) else 0)) * v (n * C + j))
      + ∑ d, (Q (n * C + i) d * G ^ (i.val + 1)) * stt G K v C n d = ret G Q K v (n * C + i) :=
  out_eq G Q K v C n (stt G K v C n)
    (state_eq G K v C n (stt G K v C) (fun _ => rfl) (fun _ _ _ => rfl) n le_rfl) i

/-- A finite sum of reals, read among the extended reals. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `chunk_out` over the extended reals, every block at real values. -/
theorem chunk_out_coe {G : ℝ} {Q K : ℕ → ι → ℝ} {v : ℕ → ℝ} {C n : ℕ} {q k : Fin C → ι → EReal} {w : Fin C → EReal}
    {mask : Fin C → Fin C → EReal} {qd : Fin C → EReal} {st : ι → EReal}
    (hq : ∀ i d, q i d = (Q (n * C + i.val) d : ℝ)) (hk : ∀ i d, k i d = (K (n * C + i.val) d : ℝ))
    (hw : ∀ i, w i = (v (n * C + i.val) : ℝ))
    (hm : ∀ i j : Fin C, mask i j = ((if j.val ≤ i.val then G ^ (i.val - j.val) else 0 : ℝ) : EReal))
    (hd : ∀ i : Fin C, qd i = (G ^ (i.val + 1) : ℝ)) (hs : ∀ d, st d = (stt G K v C n d : ℝ)) (i : Fin C) :
    (∑ j, (∑ d, q i d * k j d) * mask i j * w j) + ∑ d, q i d * qd i * st d = (ret G Q K v (n * C + i.val) : ℝ) := by
  rw [← chunk_out]
  simp only [hq, hk, hw, hm, hd, hs, ← EReal.coe_mul, ← coe_sum, ← EReal.coe_add]

/-- One step of the state over the extended reals, every block at real values. -/
theorem chunk_state_coe {G : ℝ} {K : ℕ → ι → ℝ} {v : ℕ → ℝ} {C n : ℕ} {k : Fin C → ι → EReal} {w : Fin C → EReal}
    {kd : Fin C → EReal} {cd : EReal} {st : ι → EReal}
    (hk : ∀ i d, k i d = (K (n * C + i.val) d : ℝ)) (hw : ∀ i, w i = (v (n * C + i.val) : ℝ))
    (hd : ∀ i : Fin C, kd i = (G ^ (C - 1 - i.val) : ℝ)) (hc : cd = (G ^ C : ℝ))
    (hs : ∀ d, st d = (stt G K v C n d : ℝ)) (d : ι) :
    st d * cd + ∑ i, k i d * kd i * w i = (stt G K v C (n + 1) d : ℝ) := by
  simp only [hk, hw, hd, hc, hs, stt, ← EReal.coe_mul, ← coe_sum, ← EReal.coe_add]

/-- `p` leading zeros. -/
noncomputable def pd (p : ℕ) (f : ℕ → ℝ) (n : ℕ) : ℝ := if n < p then 0 else f (n - p)

theorem pd_add (p : ℕ) (f : ℕ → ℝ) (t : ℕ) : pd p f (p + t) = f t := by
  unfold pd; rw [if_neg (by omega)]; congr 1; omega

/-- Padding in front by zero rows moves the retention along. -/
theorem ret_pd (G : ℝ) (Q K : ℕ → ι → ℝ) (v : ℕ → ℝ) (p t : ℕ) :
    ret G (fun n d => pd p (fun s => Q s d) n) (fun n d => pd p (fun s => K s d) n) (pd p v) (p + t) = ret G Q K v t := by
  rw [ret_shift _ _ _ _ _ _ (fun s hs d => by unfold pd; rw [if_pos hs])]
  simp only [pd_add]

end Cert.Maths
-- ==== Proof.Reals.lean ====
/-
  The scalar operations at real arguments, and the constants the programs spell by their bits.
-/
module

public import Idealize.ShloMosaic.PureOps.Ideal

@[expose] public section

noncomputable section

namespace Cert.Reals

open Idealize.ShloMosaic

theorem bits_127 : Ideal.ofBits .f32 0x42FE0000#32 = ((127 : ℝ) : EReal) := by
  simp [Ideal.ofBits, Ideal.ieee, -EReal.coe_mul]; norm_num
theorem bits_10000 : Ideal.ofBits .f32 0x461C4000#32 = ((10000 : ℝ) : EReal) := by
  simp [Ideal.ofBits, Ideal.ieee, -EReal.coe_mul]; norm_num
theorem bits_m5 : Ideal.ofBits .f32 0xC0A00000#32 = ((-5 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_383 : Ideal.ofBits .f32 0x43BF8000#32 = ((383 : ℝ) : EReal) := by
  simp [Ideal.ofBits, Ideal.ieee, -EReal.coe_mul]; norm_num
theorem bits_384 : Ideal.ofBits .f32 0x43C00000#32 = ((384 : ℝ) : EReal) := by
  simp [Ideal.ofBits, Ideal.ieee, -EReal.coe_mul]; norm_num
theorem bits_63 : Ideal.ofBits .f32 0x427C0000#32 = ((63 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_16th : Ideal.ofBits .f32 0x3D800000#32 = ((1 / 16 : ℝ) : EReal) := by
  simp [Ideal.ofBits, Ideal.ieee, -EReal.coe_mul]; norm_num
theorem bits_m1 : Ideal.ofBits .f32 0xBF800000#32 = ((-1 : ℝ) : EReal) := by
  simp [Ideal.ofBits, Ideal.ieee, -EReal.coe_mul]; norm_num

theorem div_real {y : ℝ} (h : y ≠ 0) (x : ℝ) : Ideal.div (x : EReal) (y : EReal) = ((x / y : ℝ) : EReal) := by
  rw [Ideal.div_coe h, ← EReal.coe_mul]; congr 1; ring
theorem exp_real (x : ℝ) : Ideal.exp (x : EReal) = (Real.exp x : ℝ) := rfl
theorem cos_real (x : ℝ) : Ideal.cos (x : EReal) = (Real.cos x : ℝ) := rfl
theorem sin_real (x : ℝ) : Ideal.sin (x : EReal) = (Real.sin x : ℝ) := rfl
theorem pow_real (x y : ℝ) : Ideal.pow (x : EReal) (y : EReal) = (x ^ y : ℝ) := rfl
theorem log_real {x : ℝ} (h : 0 < x) : Ideal.log (x : EReal) = (Real.log x : ℝ) := by
  show (if x ≤ 0 then (⊥ : EReal) else (Real.log x : ℝ)) = _
  rw [if_neg (not_le.mpr h)]

/-- A small number's word, read signed, is the number. -/
theorem word_toInt {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem sitofp_word {n : ℕ} (h : n < 2 ^ 31) :
    (FloatOps.sitofp (F := Ideal) .f32 (BitVec.ofNat 32 n) : EReal) = ((n : ℝ) : EReal) := by
  show (((BitVec.ofNat 32 n).toInt : ℝ) : EReal) = _
  rw [word_toInt h]; simp

/-- A small number less 240, computed on words. -/
theorem sitofp_word_sub {n : ℕ} (h : n < 2 ^ 30) :
    (FloatOps.sitofp (F := Ideal) .f32 (BitVec.ofNat 32 n - 240#32) : EReal) = (((n : ℝ) - 240 : ℝ) : EReal) := by
  show (((BitVec.ofNat 32 n - 240#32).toInt : ℝ) : EReal) = _
  have : (BitVec.ofNat 32 n - 240#32).toInt = (n : ℤ) - 240 := by
    rw [BitVec.toInt_sub, word_toInt (by omega), show (240#32 : BitVec 32).toInt = 240 from rfl]
    rw [Int.bmod_def]; split <;> omega
  rw [this]; push_cast; rfl

end Cert.Reals

end
end
-- ==== Proof.Model.lean ====
/-
  The layer's retention over the real numbers: the rotated queries and keys, the values, the decay of a head, and the two
  tables both programs compute on the host (the inverse frequencies and the logarithms of the decays), which are real.
-/
module

public import proofs.«01_k».proof.Proof.Gen.ReferenceIdeal.Step
public import proofs.«01_k».proof.Proof.Maths
public import proofs.«01_k».proof.Proof.Reals
public import Idealize.ShloMosaic.Lib.Pointwise

@[expose] public section

noncomputable section

namespace Cert.Model

open Idealize.ShloMosaic Idealize.ShloMosaic.Pointwise
open Cert.ReferenceIdeal Cert.ReferenceIdeal.Gen Cert.ReferenceIdeal.Step Cert.Reals Cert.Maths

/-- The inverse frequencies are real. -/
theorem inv_real (p : Fin 128) : ∃ r : ℝ, (K_main_v11 (F := Ideal) (ix1 p) : EReal) = (r : EReal) := by
  have hz : (10000 : ℝ) ≠ 0 := by norm_num
  unfold K_main_v11 K_main_v10 K_main_v9 K_main_v8 K_main_v7 K_main_cst_2 K_main_cst_1 K_main_call0_v15 K_main_call0_v16 K_main_call0_v11 K_main_call0_v14 K_main_call0_v13 K_main_call0_v12 K_main_call0_v10 K_main_call0_v9 K_main_call0_v8 K_main_call0_cst_1 K_main_call0_v7 K_main_call0_v6 K_main_call0_v5 K_main_call0_v4 K_main_call0_cst_0 K_main_call0_v1 K_main_call0_v0 K_main_cst_0 K_main_cst
  simp only [id]
  pointwise
  rw [sitofp_word (by omega), bits_127, bits_10000, div_real (by norm_num)]
  have h1 : ((1 : EReal)) = ((1 : ℝ) : EReal) := rfl
  split
  · rw [zero_mul, zero_add, pow_real, h1, div_real (Real.rpow_pos_of_pos (by norm_num) _).ne']
    exact ⟨_, rfl⟩
  · rw [h1, pow_real, div_real (Real.rpow_pos_of_pos (by norm_num) _).ne']
    exact ⟨_, rfl⟩

/-- The logarithms of the decays are real. -/
theorem lg_real (h : Fin 8) : ∃ r : ℝ, (K_main_v97 (F := Ideal) (ix1 h) : EReal) = (r : EReal) := by
  unfold K_main_v97 K_main_v96 K_main_v95 K_main_v94 K_main_v93 K_main_v92 K_main_v91 K_main_v90 K_main_cst_12 K_main_cst_11 K_main_cst_10
  pointwise
  have h1 : ((1 : EReal)) = ((1 : ℝ) : EReal) := rfl
  rw [sitofp_word (by omega), bits_2, bits_m5, ← EReal.coe_sub, pow_real, h1, ← EReal.coe_sub, log_real]
  · exact ⟨_, rfl⟩
  · have : (2 : ℝ) ^ ((-5 : ℝ) - (h.val : ℝ)) < 1 :=
      Real.rpow_lt_one_of_one_lt_of_neg (by norm_num) (by have : (0 : ℝ) ≤ (h.val : ℝ) := Nat.cast_nonneg _; linarith)
    linarith

/-- The inverse frequency of a pair of columns. -/
def inv (p : Fin 128) : ℝ := (inv_real p).choose
theorem inv_eq (p : Fin 128) : (K_main_v11 (F := Ideal) (ix1 p) : EReal) = (inv p : EReal) := (inv_real p).choose_spec

/-- The logarithm of a head's decay. -/
def lg (h : Fin 8) : ℝ := (lg_real h).choose
theorem lg_eq (h : Fin 8) : (K_main_v97 (F := Ideal) (ix1 h) : EReal) = (lg h : EReal) := (lg_real h).choose_spec

/-- A head's decay. -/
def G (h : Fin 8) : ℝ := Real.exp (lg h)

theorem exp_lg (n : ℕ) (h : Fin 8) : Ideal.exp ((((n : ℝ)) : EReal) * (lg h : EReal)) = (G h ^ n : ℝ) := by
  rw [← EReal.coe_mul, exp_real, G, ← Real.exp_nat_mul]

/-- The mask of a chunk: row `i` sees row `j` up to itself, decayed over the rows between. -/
theorem mask_val (h : Fin 8) (i j : ℕ) :
    (if (0 : EReal) ≤ (((i : ℝ) - (j : ℝ) : ℝ) : EReal) then Ideal.exp (max (((i : ℝ) - (j : ℝ) : ℝ) : EReal) 0 * (lg h : EReal)) else 0)
      = ((if j ≤ i then G h ^ (i - j) else 0 : ℝ) : EReal) := by
  have hc : ((0 : EReal) ≤ (((i : ℝ) - (j : ℝ) : ℝ) : EReal)) ↔ j ≤ i := by
    rw [EReal.coe_nonneg, sub_nonneg, Nat.cast_le]
  by_cases hij : j ≤ i
  · rw [if_pos (hc.mpr hij), if_pos hij, max_eq_left (hc.mpr hij), ← exp_lg, Nat.cast_sub hij]
  · rw [if_neg (mt hc.mp hij), if_neg hij]; rfl

/-- Column `d` of a head's rotated row `x` at position `τ`. -/
def rot (x : ℕ → ℝ) (τ : ℝ) (d : Fin 256) : ℝ :=
  if d.val % 2 = 0 then
    x d.val * Real.cos (τ * inv ⟨d.val / 2, by omega⟩) - x (d.val + 1) * Real.sin (τ * inv ⟨d.val / 2, by omega⟩)
  else
    x (d.val - 1) * Real.sin (τ * inv ⟨d.val / 2, by omega⟩) + x d.val * Real.cos (τ * inv ⟨d.val / 2, by omega⟩)

/-- The rotated query, the rotated and scaled key and the value of head `h` at row `t`, of the rows `X` the call is given. -/
def qr (X : ℕ → ℕ → ℝ) (h : Fin 8) (t : ℕ) (d : Fin 256) : ℝ := rot (fun l => X t (h.val * 256 + l)) t d
def kr (X : ℕ → ℕ → ℝ) (h : Fin 8) (t : ℕ) (d : Fin 256) : ℝ := rot (fun l => X t (2048 + (h.val * 256 + l))) t d * (1 / 16)
def vr (X : ℕ → ℕ → ℝ) (h : Fin 8) (j : ℕ) (t : ℕ) : ℝ := X t (4096 + (h.val * 512 + j))

/-- The retention's value at row `t`, column `j` of head `h`. -/
def out (X : ℕ → ℕ → ℝ) (h : Fin 8) (t j : ℕ) : ℝ := ret (G h) (qr X h) (kr X h) (vr X h j) t

/-- A matrix of extended reals none of whose elements is infinite is one of reals. -/
theorem real_of_finite {R C : ℕ} (x : Fin R → Fin C → EReal) (hx : ∀ t c, max (x t c) (-(x t c)) < ⊤) :
    ∃ X : ℕ → ℕ → ℝ, ∀ (t : Fin R) (c : Fin C), x t c = (X t.val c.val : EReal) := by
  refine ⟨fun t c => if h : t < R ∧ c < C then (x ⟨t, h.1⟩ ⟨c, h.2⟩).toReal else 0, fun t c => ?_⟩
  simp only [t.isLt, c.isLt, and_self, dite_true]
  have h := max_lt_iff.mp (hx t c)
  refine (EReal.coe_toReal h.1.ne ?_).symm
  intro hb
  have := h.2
  rw [show x t c = ⊥ from hb] at this
  simp at this

end Cert.Model

end
end
-- ==== Proof.KTables.lean ====
/-
  What the kernel's host code hands the launch: the padded rows and the six tables, at an index.
-/
module

public import proofs.«01_k».proof.Proof.Gen.KernelIdeal.Frame
public import proofs.«01_k».proof.Proof.Model
public import Idealize.ShloMosaic.Lib.StableHlo.ReadAt

@[expose] public section

noncomputable section

namespace Cert.KernelIdeal.Tables

open Idealize.ShloMosaic Idealize.ShloMosaic.Pointwise Idealize.ShloMosaic.TcCoe
open Cert.KernelIdeal Cert.KernelIdeal.Gen Cert.Model Cert.Reals
open Cert.ReferenceIdeal.Step

variable (m : (ℓ : Loc nD τ sig) → Buf (Elt Ideal) ℓ) (c : Dev nD)

/-- The rows, after 240 rows of zeros. -/
theorem rows (n : Fin 8448) (d : Fin 12288) :
    V m c main_v0 (ix2 n d) = (if h : 240 ≤ n.val ∧ n.val - 240 < 8208 then m ((c.tc : Thread nD τ).loc main_arg0) (ix2 ⟨n.val - 240, h.2⟩ d) else 0 : EReal) := by
  have z : (FloatOps.sitofp (F := Ideal) .bf16 (0#32) : EReal) = 0 := by
    show (((0#32 : BitVec 32).toInt : ℝ) : EReal) = 0
    simp
  unfold V
  after_reads_at
  rw [z]

theorem cos_table' (n : Fin 8448) (d : Fin 256) : V m c main_v20 (ix2 n d)
    = Ideal.cos (FloatOps.sitofp (F := Ideal) .f32 (IntOp.subi (BitVec.ofNat 32 n.val) 240#32) * (K_main_v11 (F := Ideal) (ix1 ⟨d.val / 2, by omega⟩) : EReal)) := by
  unfold V K_main_v11 K_main_v10 K_main_v9 K_main_v8 K_main_v7 K_main_cst_2 K_main_cst_1 K_main_call0_v15 K_main_call0_v16 K_main_call0_v11 K_main_call0_v14 K_main_call0_v13 K_main_call0_v12 K_main_call0_v10 K_main_call0_v9 K_main_call0_v8 K_main_call0_cst_1 K_main_call0_v7 K_main_call0_v6 K_main_call0_v5 K_main_call0_v4 K_main_call0_cst_0 K_main_call0_v1 K_main_call0_v0 K_main_cst_0 K_main_cst
  after_reads_at
  after_reads_at

theorem sin_table' (n : Fin 8448) (d : Fin 256) : V m c main_v24 (ix2 n d)
    = Ideal.sin (FloatOps.sitofp (F := Ideal) .f32 (IntOp.subi (BitVec.ofNat 32 n.val) 240#32) * (K_main_v11 (F := Ideal) (ix1 ⟨d.val / 2, by omega⟩) : EReal))
      * Ideal.ofBits FTy.f32 (lit0 (S2.rowMajor (ix1 ⟨d.val % 2, Nat.mod_lt _ (by decide)⟩))) := by
  unfold V K_main_v11 K_main_v10 K_main_v9 K_main_v8 K_main_v7 K_main_cst_2 K_main_cst_1 K_main_call0_v15 K_main_call0_v16 K_main_call0_v11 K_main_call0_v14 K_main_call0_v13 K_main_call0_v12 K_main_call0_v10 K_main_call0_v9 K_main_call0_v8 K_main_call0_cst_1 K_main_call0_v7 K_main_call0_v6 K_main_call0_v5 K_main_call0_v4 K_main_call0_cst_0 K_main_call0_v1 K_main_call0_v0 K_main_cst_0 K_main_cst
  after_reads_at
  after_reads_at

/-- The sign of the turn: minus at the even columns, plus at the odd ones. -/
theorem sign (d : Fin 256) : (Ideal.ofBits FTy.f32 (lit0 (S2.rowMajor (ix1 ⟨d.val % 2, Nat.mod_lt _ (by decide)⟩))) : EReal)
    = ((if d.val % 2 = 0 then -1 else 1 : ℝ) : EReal) := by
  have h : d.val % 2 = 0 ∨ d.val % 2 = 1 := by omega
  rcases h with h | h
  · simp only [h, if_true]; exact bits_m1
  · simp only [h, one_ne_zero, if_false]; exact Ideal.ofBits_one_f32

theorem cos_table (n : Fin 8448) (d : Fin 256) : V m c main_v20 (ix2 n d)
    = ((Real.cos (((n.val : ℝ) - 240) * Model.inv ⟨d.val / 2, by omega⟩) : ℝ) : EReal) := by
  rw [cos_table', inv_eq]
  show Ideal.cos (FloatOps.sitofp (F := Ideal) .f32 (BitVec.ofNat 32 n.val - 240#32) * _) = _
  rw [sitofp_word_sub (by omega), ← EReal.coe_mul, cos_real]

theorem sin_table (n : Fin 8448) (d : Fin 256) : V m c main_v24 (ix2 n d)
    = ((Real.sin (((n.val : ℝ) - 240) * Model.inv ⟨d.val / 2, by omega⟩) * (if d.val % 2 = 0 then -1 else 1) : ℝ) : EReal) := by
  rw [sin_table', inv_eq, sign]
  show Ideal.sin (FloatOps.sitofp (F := Ideal) .f32 (BitVec.ofNat 32 n.val - 240#32) * _) * _ = _
  rw [sitofp_word_sub (by omega), ← EReal.coe_mul, sin_real, ← EReal.coe_mul]

theorem mask_table (h : Fin 8) (i j : Fin 384) : V m c main_v49 (ix3 h i j)
    = ((if j.val ≤ i.val then G h ^ (i.val - j.val) else 0 : ℝ) : EReal) := by
  have e : V m c main_v49 (ix3 h i j) = (if (0 : EReal) ≤ FloatOps.sitofp (F := Ideal) FTy.f32 (BitVec.ofNat 32 i.val) - FloatOps.sitofp (F := Ideal) FTy.f32 (BitVec.ofNat 32 j.val) then
      Ideal.exp
        (max (FloatOps.sitofp (F := Ideal) FTy.f32 (BitVec.ofNat 32 i.val) - FloatOps.sitofp (F := Ideal) FTy.f32 (BitVec.ofNat 32 j.val)) (0 : EReal) *
          (K_main_v97 (F := Ideal) (ix1 h) : EReal))
    else (0 : EReal) : EReal) := by
    unfold V K_main_v97 K_main_v96 K_main_v95 K_main_v94 K_main_v93 K_main_v92 K_main_v91 K_main_v90 K_main_cst_12 K_main_cst_11 K_main_cst_10
    after_reads_at
    simp only [id]
    pointwise
  rw [e, lg_eq, sitofp_word (by omega), sitofp_word (by omega), ← EReal.coe_sub]
  exact mask_val h i.val j.val

theorem qdec_table (h : Fin 8) (i : Fin 384) : V m c main_v58 (ix3 h i (0 : Fin 1)) = ((G h ^ (i.val + 1) : ℝ) : EReal) := by
  have e : V m c main_v58 (ix3 h i (0 : Fin 1)) = (Ideal.exp ((FloatOps.sitofp (F := Ideal) FTy.f32 (BitVec.ofNat 32 i.val) + (1 : EReal)) * (K_main_v97 (F := Ideal) (ix1 h) : EReal)) : EReal) := by
    unfold V K_main_v97 K_main_v96 K_main_v95 K_main_v94 K_main_v93 K_main_v92 K_main_v91 K_main_v90 K_main_cst_12 K_main_cst_11 K_main_cst_10
    after_reads_at
  rw [e, lg_eq, sitofp_word (by omega), ← exp_lg]
  push_cast; rfl

theorem kdec_table (h : Fin 8) (i : Fin 384) : V m c main_v67 (ix3 h i (0 : Fin 1)) = ((G h ^ (384 - 1 - i.val) : ℝ) : EReal) := by
  have e : V m c main_v67 (ix3 h i (0 : Fin 1)) = (Ideal.exp ((Ideal.ofBits .f32 0x43BF8000#32 - FloatOps.sitofp (F := Ideal) FTy.f32 (BitVec.ofNat 32 i.val)) * (K_main_v97 (F := Ideal) (ix1 h) : EReal)) : EReal) := by
    unfold V K_main_v97 K_main_v96 K_main_v95 K_main_v94 K_main_v93 K_main_v92 K_main_v91 K_main_v90 K_main_cst_12 K_main_cst_11 K_main_cst_10
    after_reads_at
  rw [e, lg_eq, sitofp_word (by omega), bits_383, ← exp_lg, ← EReal.coe_sub]
  congr 3
  rw [Nat.sub_sub, Nat.cast_sub (by omega)]; push_cast; ring

theorem cdec_table (h : Fin 8) (j : Fin 512) : V m c main_v72 (ix3 h (0 : Fin 1) j) = ((G h ^ 384 : ℝ) : EReal) := by
  have e : V m c main_v72 (ix3 h (0 : Fin 1) j) = (Ideal.exp (Ideal.ofBits .f32 0x43C00000#32 * (K_main_v97 (F := Ideal) (ix1 h) : EReal)) : EReal) := by
    unfold V K_main_v97 K_main_v96 K_main_v95 K_main_v94 K_main_v93 K_main_v92 K_main_v91 K_main_v90 K_main_cst_12 K_main_cst_11 K_main_cst_10
    after_reads_at
  rw [e, lg_eq, bits_384, ← exp_lg]
  norm_num

end Cert.KernelIdeal.Tables

end
end
-- ==== Proof.KArray.lean ====
/-
  The kernel's array: the blocks of a point as real values, the state after every point by induction, and the result at
  every row and column as the gated retention of that row.
-/
module

public import proofs.«01_k».proof.Proof.KOpen
public import proofs.«01_k».proof.Proof.KTables
public import proofs.«01_k».proof.Proof.Gen.KernelIdeal.Value

@[expose] public section

noncomputable section

namespace Cert.KernelIdeal.Array

open Idealize.ShloMosaic Idealize.ShloMosaic.Pointwise Idealize.ShloMosaic.TcCoe
open Cert.KernelIdeal Cert.KernelIdeal.Gen Cert.KernelIdeal.Block Cert.KernelIdeal.Open Cert.KernelIdeal.Tables
open Cert.Model Cert.Reals Cert.Maths

variable (m : (ℓ : Loc nD τ sig) → Buf (Elt Ideal) ℓ) (c : Dev nD)

/-! ## The blocks -/

theorem idxs : ∀ t : Fin cfg0.N,
    (win0_0.index t (0 : Fin 2) = t.val % 22 ∧ win0_0.index t (1 : Fin 2) = t.val / 22)
    ∧ (win0_1.index t (0 : Fin 2) = t.val % 22 ∧ win0_1.index t (1 : Fin 2) = 4 + t.val / 22)
    ∧ (win0_2.index t (0 : Fin 2) = t.val % 22 ∧ win0_2.index t (1 : Fin 2) = 4 + t.val / 22)
    ∧ (win0_3.index t (0 : Fin 2) = t.val % 22 ∧ win0_3.index t (1 : Fin 2) = 8 + t.val / 22)
    ∧ (win0_4.index t (0 : Fin 2) = t.val % 22 ∧ win0_4.index t (1 : Fin 2) = 0)
    ∧ (win0_5.index t (0 : Fin 2) = t.val % 22 ∧ win0_5.index t (1 : Fin 2) = 0)
    ∧ (win0_6.index t (0 : Fin 3) = t.val / 22 ∧ win0_6.index t (1 : Fin 3) = 0 ∧ win0_6.index t (2 : Fin 3) = 0)
    ∧ (win0_7.index t (0 : Fin 3) = t.val / 22 ∧ win0_7.index t (1 : Fin 3) = 0 ∧ win0_7.index t (2 : Fin 3) = 0)
    ∧ (win0_8.index t (0 : Fin 3) = t.val / 22 ∧ win0_8.index t (1 : Fin 3) = 0 ∧ win0_8.index t (2 : Fin 3) = 0)
    ∧ (win0_9.index t (0 : Fin 3) = t.val / 22 ∧ win0_9.index t (1 : Fin 3) = 0 ∧ win0_9.index t (2 : Fin 3) = 0) :=
  (by decide +kernel : ∀ t : Fin grid0.N, _)

theorem lt88 (t : Fin cfg0.N) : t.val < 88 := lt_of_lt_of_eq t.isLt N_0

theorem blk0 (t : Fin cfg0.N) (i : Fin 384) (l : Fin 512) :
    (iblk m c 0 t : Vec Ideal S384x512 .bf16) (ix2 i l)
      = V m c main_v0 (ix2 ⟨t.val % 22 * 384 + i.val, by omega⟩ ⟨t.val / 22 * 512 + l.val, by have := lt88 t; omega⟩) := by
  show V m c main_v0 (((cfg0.win 0).blk t).view.emb (ix2 i l)) = _
  congr 1; funext a; apply Fin.ext
  match a with
  | ⟨0, _⟩ => show win0_0.index t (0 : Fin 2) * 384 + 1 * i.val = _; rw [(idxs t).1.1, one_mul] <;> rfl
  | ⟨1, _⟩ => show win0_0.index t (1 : Fin 2) * 512 + 1 * l.val = _; rw [(idxs t).1.2, one_mul] <;> rfl

theorem blk1 (t : Fin cfg0.N) (i : Fin 384) (l : Fin 512) :
    (iblk m c 1 t : Vec Ideal S384x512 .bf16) (ix2 i l)
      = V m c main_v0 (ix2 ⟨t.val % 22 * 384 + i.val, by omega⟩ ⟨(4 + t.val / 22) * 512 + l.val, by have := lt88 t; omega⟩) := by
  show V m c main_v0 (((cfg0.win 1).blk t).view.emb (ix2 i l)) = _
  congr 1; funext a; apply Fin.ext
  match a with
  | ⟨0, _⟩ => show win0_1.index t (0 : Fin 2) * 384 + 1 * i.val = _; rw [(idxs t).2.1.1, one_mul] <;> rfl
  | ⟨1, _⟩ => show win0_1.index t (1 : Fin 2) * 512 + 1 * l.val = _; rw [(idxs t).2.1.2, one_mul] <;> rfl

theorem blk2 (t : Fin cfg0.N) (i : Fin 384) (l : Fin 1024) :
    (iblk m c 2 t : Vec Ideal S384x1024 .bf16) (ix2 i l)
      = V m c main_v0 (ix2 ⟨t.val % 22 * 384 + i.val, by omega⟩ ⟨(4 + t.val / 22) * 1024 + l.val, by have := lt88 t; omega⟩) := by
  show V m c main_v0 (((cfg0.win 2).blk t).view.emb (ix2 i l)) = _
  congr 1; funext a; apply Fin.ext
  match a with
  | ⟨0, _⟩ => show win0_2.index t (0 : Fin 2) * 384 + 1 * i.val = _; rw [(idxs t).2.2.1.1, one_mul] <;> rfl
  | ⟨1, _⟩ => show win0_2.index t (1 : Fin 2) * 1024 + 1 * l.val = _; rw [(idxs t).2.2.1.2, one_mul] <;> rfl

theorem blk3 (t : Fin cfg0.N) (i : Fin 384) (l : Fin 1024) :
    (iblk m c 3 t : Vec Ideal S384x1024 .bf16) (ix2 i l)
      = V m c main_v0 (ix2 ⟨t.val % 22 * 384 + i.val, by omega⟩ ⟨(8 + t.val / 22) * 1024 + l.val, by have := lt88 t; omega⟩) := by
  show V m c main_v0 (((cfg0.win 3).blk t).view.emb (ix2 i l)) = _
  congr 1; funext a; apply Fin.ext
  match a with
  | ⟨0, _⟩ => show win0_3.index t (0 : Fin 2) * 384 + 1 * i.val = _; rw [(idxs t).2.2.2.1.1, one_mul] <;> rfl
  | ⟨1, _⟩ => show win0_3.index t (1 : Fin 2) * 1024 + 1 * l.val = _; rw [(idxs t).2.2.2.1.2, one_mul] <;> rfl

theorem blk4 (t : Fin cfg0.N) (i : Fin 384) (d : Fin 256) :
    (iblk m c 4 t : Vec Ideal S384x256 .f32) (ix2 i d) = V m c main_v20 (ix2 ⟨t.val % 22 * 384 + i.val, by omega⟩ d) := by
  show V m c main_v20 (((cfg0.win 4).blk t).view.emb (ix2 i d)) = _
  congr 1; funext a; apply Fin.ext
  match a with
  | ⟨0, _⟩ => show win0_4.index t (0 : Fin 2) * 384 + 1 * i.val = _; rw [(idxs t).2.2.2.2.1.1, one_mul] <;> rfl
  | ⟨1, _⟩ => show win0_4.index t (1 : Fin 2) * 256 + 1 * d.val = _; rw [(idxs t).2.2.2.2.1.2, one_mul, zero_mul, zero_add] <;> rfl

theorem blk5 (t : Fin cfg0.N) (i : Fin 384) (d : Fin 256) :
    (iblk m c 5 t : Vec Ideal S384x256 .f32) (ix2 i d) = V m c main_v24 (ix2 ⟨t.val % 22 * 384 + i.val, by omega⟩ d) := by
  show V m c main_v24 (((cfg0.win 5).blk t).view.emb (ix2 i d)) = _
  congr 1; funext a; apply Fin.ext
  match a with
  | ⟨0, _⟩ => show win0_5.index t (0 : Fin 2) * 384 + 1 * i.val = _; rw [(idxs t).2.2.2.2.2.1.1, one_mul] <;> rfl
  | ⟨1, _⟩ => show win0_5.index t (1 : Fin 2) * 256 + 1 * d.val = _; rw [(idxs t).2.2.2.2.2.1.2, one_mul, zero_mul, zero_add] <;> rfl

/-- The head a point's entry `e` is of. -/
def head (t : Fin cfg0.N) (e : Fin 2) : Fin 8 := ⟨t.val / 22 * 2 + e.val, by have := lt88 t; omega⟩

theorem blk6 (t : Fin cfg0.N) (e : Fin 2) (i j : Fin 384) :
    (iblk m c 6 t : Vec Ideal S2x384x384 .f32) (ix3 e i j) = V m c main_v49 (ix3 (head t e) i j) := by
  show V m c main_v49 (((cfg0.win 6).blk t).view.emb (ix3 e i j)) = _
  congr 1; funext a; apply Fin.ext
  match a with
  | ⟨0, _⟩ => show win0_6.index t (0 : Fin 3) * 2 + 1 * e.val = _; rw [(idxs t).2.2.2.2.2.2.1.1, one_mul] <;> rfl
  | ⟨1, _⟩ => show win0_6.index t (1 : Fin 3) * 384 + 1 * i.val = _; rw [(idxs t).2.2.2.2.2.2.1.2.1, one_mul, zero_mul, zero_add] <;> rfl
  | ⟨2, _⟩ => show win0_6.index t (2 : Fin 3) * 384 + 1 * j.val = _; rw [(idxs t).2.2.2.2.2.2.1.2.2, one_mul, zero_mul, zero_add] <;> rfl

theorem blk7 (t : Fin cfg0.N) (e : Fin 2) (i : Fin 384) :
    (iblk m c 7 t : Vec Ideal S2x384x1 .f32) (ix3 e i 0) = V m c main_v58 (ix3 (head t e) i (0 : Fin 1)) := by
  show V m c main_v58 (((cfg0.win 7).blk t).view.emb (ix3 e i 0)) = _
  congr 1; funext a; apply Fin.ext
  match a with
  | ⟨0, _⟩ => show win0_7.index t (0 : Fin 3) * 2 + 1 * e.val = _; rw [(idxs t).2.2.2.2.2.2.2.1.1, one_mul] <;> rfl
  | ⟨1, _⟩ => show win0_7.index t (1 : Fin 3) * 384 + 1 * i.val = _; rw [(idxs t).2.2.2.2.2.2.2.1.2.1, one_mul, zero_mul, zero_add] <;> rfl
  | ⟨2, _⟩ => show win0_7.index t (2 : Fin 3) * 1 + 1 * 0 = _; rw [(idxs t).2.2.2.2.2.2.2.1.2.2]; rfl

theorem blk8 (t : Fin cfg0.N) (e : Fin 2) (i : Fin 384) :
    (iblk m c 8 t : Vec Ideal S2x384x1 .f32) (ix3 e i 0) = V m c main_v67 (ix3 (head t e) i (0 : Fin 1)) := by
  show V m c main_v67 (((cfg0.win 8).blk t).view.emb (ix3 e i 0)) = _
  congr 1; funext a; apply Fin.ext
  match a with
  | ⟨0, _⟩ => show win0_8.index t (0 : Fin 3) * 2 + 1 * e.val = _; rw [(idxs t).2.2.2.2.2.2.2.2.1.1, one_mul] <;> rfl
  | ⟨1, _⟩ => show win0_8.index t (1 : Fin 3) * 384 + 1 * i.val = _; rw [(idxs t).2.2.2.2.2.2.2.2.1.2.1, one_mul, zero_mul, zero_add] <;> rfl
  | ⟨2, _⟩ => show win0_8.index t (2 : Fin 3) * 1 + 1 * 0 = _; rw [(idxs t).2.2.2.2.2.2.2.2.1.2.2]; rfl

theorem blk9 (t : Fin cfg0.N) (e : Fin 2) (j : Fin 512) :
    (iblk m c 9 t : Vec Ideal S2x1x512 .f32) (ix3 e 0 j) = V m c main_v72 (ix3 (head t e) (0 : Fin 1) j) := by
  show V m c main_v72 (((cfg0.win 9).blk t).view.emb (ix3 e 0 j)) = _
  congr 1; funext a; apply Fin.ext
  match a with
  | ⟨0, _⟩ => show win0_9.index t (0 : Fin 3) * 2 + 1 * e.val = _; rw [(idxs t).2.2.2.2.2.2.2.2.2.1, one_mul] <;> rfl
  | ⟨1, _⟩ => show win0_9.index t (1 : Fin 3) * 1 + 1 * 0 = _; rw [(idxs t).2.2.2.2.2.2.2.2.2.2.1]; rfl
  | ⟨2, _⟩ => show win0_9.index t (2 : Fin 3) * 512 + 1 * j.val = _; rw [(idxs t).2.2.2.2.2.2.2.2.2.2.2, one_mul, zero_mul, zero_add] <;> rfl

/-! ## Real rows -/

variable {m c}
variable {X : ℕ → ℕ → ℝ} (hX : ∀ (t : Fin 8208) (d : Fin 12288), (m ((c.tc : Thread nD τ).loc main_arg0) (ix2 t d) : EReal) = (X t.val d.val : EReal))
include hX

theorem rows_real (n : Fin 8448) (d : Fin 12288) : (V m c main_v0 (ix2 n d) : EReal) = ((pd 240 (fun s => X s d.val) n.val : ℝ) : EReal) := by
  rw [rows]
  unfold pd
  by_cases h : n.val < 240
  · rw [dif_neg (by omega), if_pos h]; rfl
  · rw [dif_pos (by omega), if_neg h]; exact hX _ _

omit hX in
/-- A row rotated after the leading zeros is the leading zeros before the rotated rows. -/
theorem rot_pd (X : ℕ → ℕ → ℝ) (o n : ℕ) (d : Fin 256) :
    rot (fun l => pd 240 (fun s => X s (o + l)) n) ((n : ℝ) - 240) d = pd 240 (fun s => rot (fun l => X s (o + l)) s d) n := by
  unfold pd
  by_cases h : n < 240
  · simp only [h, if_true]; unfold rot; simp
  · simp only [h, if_false]
    rw [Nat.cast_sub (by omega)]; norm_num

omit hX in
/-- A block's row, rotated by the tables' entries, is the rotated real row. -/
theorem rot_real (x : Fin 256 → EReal) (cs sn : Fin 256 → EReal) (f : ℕ → ℝ) (τ : ℝ) (hx : ∀ d : Fin 256, x d = (f d.val : ℝ))
    (hc : ∀ d : Fin 256, cs d = ((Real.cos (τ * Model.inv ⟨d.val / 2, by omega⟩) : ℝ) : EReal))
    (hs : ∀ d : Fin 256, sn d = ((Real.sin (τ * Model.inv ⟨d.val / 2, by omega⟩) * (if d.val % 2 = 0 then -1 else 1) : ℝ) : EReal)) (d : Fin 256) :
    rotE x cs sn d = (rot f τ d : ℝ) := by
  unfold rotE rot
  rw [hc, hs, hx]
  have hd := d.isLt
  by_cases h : d.val % 2 = 0
  · simp only [h, if_true]
    rw [hx]; dsimp only
    rw [Nat.mod_eq_of_lt (show d.val + 1 < 256 by omega), ← EReal.coe_mul, ← EReal.coe_mul, ← EReal.coe_add]
    congr 1; ring
  · simp only [h, if_false]
    rw [hx]; dsimp only
    rw [show (d.val + 255) % 256 = d.val - 1 by omega, ← EReal.coe_mul, ← EReal.coe_mul, ← EReal.coe_add]
    congr 1; ring

/-- The rows of the padded sequence. -/
theorem q_real (t : Fin cfg0.N) (e : Fin 2) (i : Fin 384) (d : Fin 256) :
    rotB (iblk m c 0 t) (iblk m c 4 t) (iblk m c 5 t) e i d
      = ((pd 240 (fun s => qr X (head t e) s d) (t.val % 22 * 384 + i.val) : ℝ) : EReal) := by
  unfold rotB
  rw [rot_real _ _ _ (fun l => pd 240 (fun s => X s ((head t e).val * 256 + l)) (t.val % 22 * 384 + i.val)) (((t.val % 22 * 384 + i.val : ℕ) : ℝ) - 240)
    (fun d => ?_) (fun d => (blk4 m c t i d).trans (cos_table m c _ d)) (fun d => (blk5 m c t i d).trans (sin_table m c _ d)), rot_pd]
  · rfl
  · rw [blk0, rows_real hX]
    congr 3; funext s; congr 1
    show t.val / 22 * 512 + (e.val * 256 + d.val) = (t.val / 22 * 2 + e.val) * 256 + d.val
    ring

theorem k_real (t : Fin cfg0.N) (e : Fin 2) (i : Fin 384) (d : Fin 256) :
    keyB (iblk m c 1 t) (iblk m c 4 t) (iblk m c 5 t) e i d
      = ((pd 240 (fun s => kr X (head t e) s d) (t.val % 22 * 384 + i.val) : ℝ) : EReal) := by
  unfold keyB rotB
  rw [rot_real _ _ _ (fun l => pd 240 (fun s => X s ((2048 + (head t e).val * 256) + l)) (t.val % 22 * 384 + i.val)) (((t.val % 22 * 384 + i.val : ℕ) : ℝ) - 240)
    (fun d => ?_) (fun d => (blk4 m c t i d).trans (cos_table m c _ d)) (fun d => (blk5 m c t i d).trans (sin_table m c _ d)), rot_pd, bits_16th, ← EReal.coe_mul]
  · congr 1
    unfold pd kr
    split
    · rw [zero_mul]
    · simp only [Nat.add_assoc]
  · rw [blk1, rows_real hX]
    congr 3; funext s; congr 1
    show (4 + t.val / 22) * 512 + (e.val * 256 + d.val) = 2048 + (t.val / 22 * 2 + e.val) * 256 + d.val
    ring

theorem v_real (t : Fin cfg0.N) (e : Fin 2) (i : Fin 384) (j : Fin 512) :
    valB (iblk m c 2 t) e i j = ((pd 240 (vr X (head t e) j.val) (t.val % 22 * 384 + i.val) : ℝ) : EReal) := by
  unfold valB
  rw [blk2, rows_real hX]
  congr 2; funext s
  show X s ((4 + t.val / 22) * 1024 + (e.val * 512 + j.val)) = X s (4096 + ((t.val / 22 * 2 + e.val) * 512 + j.val))
  congr 1; ring

/-- The padded keys and values of a head. -/
def kp (X : ℕ → ℕ → ℝ) (h : Fin 8) (n : ℕ) (d : Fin 256) : ℝ := pd 240 (fun s => kr X h s d) n
def qp (X : ℕ → ℕ → ℝ) (h : Fin 8) (n : ℕ) (d : Fin 256) : ℝ := pd 240 (fun s => qr X h s d) n

/-- One step of the state. -/
theorem step_real (t : Fin cfg0.N) (xs : Vec Ideal S2x256x512 .f32) (e : Fin 2) (j : Fin 512)
    (hs : ∀ d, (xs (ix3 e d j) : EReal) = ((stt (G (head t e)) (kp X (head t e)) (pd 240 (vr X (head t e) j.val)) 384 (t.val % 22) d : ℝ) : EReal)) (d : Fin 256) :
    newState (iblk m c 1 t) (iblk m c 2 t) (iblk m c 4 t) (iblk m c 5 t) (iblk m c 8 t) (iblk m c 9 t) xs e d j
      = ((stt (G (head t e)) (kp X (head t e)) (pd 240 (vr X (head t e) j.val)) 384 (t.val % 22 + 1) d : ℝ) : EReal) := by
  unfold newState
  exact chunk_state_coe (k := fun i d => keyB (iblk m c 1 t) (iblk m c 4 t) (iblk m c 5 t) e i d) (w := fun i => valB (iblk m c 2 t) e i j)
    (kd := fun i => (iblk m c 8 t : Vec Ideal S2x384x1 .f32) (ix3 e i 0)) (st := fun d => xs (ix3 e d j))
    (fun i d => k_real hX t e i d) (fun i => v_real hX t e i j) (fun i => (blk8 m c t e i).trans (kdec_table m c _ i))
    ((blk9 m c t e j).trans (cdec_table m c _ j)) hs d

/-- One point's result row before it is normalized. -/
theorem raw_real (t : Fin cfg0.N) (xs : Vec Ideal S2x256x512 .f32) (e : Fin 2) (j : Fin 512)
    (hs : ∀ d, (xs (ix3 e d j) : EReal) = ((stt (G (head t e)) (kp X (head t e)) (pd 240 (vr X (head t e) j.val)) 384 (t.val % 22) d : ℝ) : EReal)) (i : Fin 384) :
    rawOut (iblk m c 0 t) (iblk m c 1 t) (iblk m c 2 t) (iblk m c 4 t) (iblk m c 5 t) (iblk m c 6 t) (iblk m c 7 t) xs e i j
      = ((ret (G (head t e)) (qp X (head t e)) (kp X (head t e)) (pd 240 (vr X (head t e) j.val)) (t.val % 22 * 384 + i.val) : ℝ) : EReal) := by
  unfold rawOut
  exact chunk_out_coe (q := fun i d => rotB (iblk m c 0 t) (iblk m c 4 t) (iblk m c 5 t) e i d)
    (k := fun i d => keyB (iblk m c 1 t) (iblk m c 4 t) (iblk m c 5 t) e i d) (w := fun i => valB (iblk m c 2 t) e i j)
    (mask := fun i s => (iblk m c 6 t : Vec Ideal S2x384x384 .f32) (ix3 e i s))
    (qd := fun i => (iblk m c 7 t : Vec Ideal S2x384x1 .f32) (ix3 e i 0)) (st := fun d => xs (ix3 e d j))
    (fun i d => q_real hX t e i d) (fun i d => k_real hX t e i d) (fun i => v_real hX t e i j)
    (fun i s => (blk6 m c t e i s).trans (mask_table m c _ i s)) (fun i => (blk7 m c t e i).trans (qdec_table m c _ i)) hs i

omit hX in
theorem zeros (e : Fin 2) (d : Fin 256) (j : Fin 512) : (k0_pay2 (F := Ideal) (ix3 e d j) : EReal) = 0 := by
  unfold k0_pay2; pointwise

/-- The state after every point. -/
theorem state_after : ∀ (n : ℕ) (hn : n < cfg0.N) (e : Fin 2) (d : Fin 256) (j : Fin 512),
    ((outsAt0 m c n hn).2 (ix3 e d j) : EReal)
      = ((stt (G (head ⟨n, hn⟩ e)) (kp X (head ⟨n, hn⟩ e)) (pd 240 (vr X (head ⟨n, hn⟩ e) j.val)) 384 (n % 22 + 1) d : ℝ) : EReal) := by
  intro n
  induction n with
  | zero =>
    intro hn e d j
    rw [outsAt0_A m c ⟨0, hn⟩ (by rfl)]
    dsimp only
    rw [sout_A]
    exact step_real hX ⟨0, hn⟩ _ e j (fun d => zeros e d j) d
  | succ n ih =>
    intro hn e d j
    by_cases h0 : (n + 1) % 22 = 0
    · rw [outsAt0_A m c ⟨n + 1, hn⟩ h0]
      dsimp only
      rw [sout_A]
      refine step_real hX ⟨n + 1, hn⟩ _ e j (fun d => ?_) d
      rw [zeros]; show (0 : EReal) = ((stt _ _ _ _ ((n + 1) % 22) d : ℝ) : EReal); rw [h0]; rfl
    · rw [outsAt0_B m c ⟨n + 1, hn⟩ h0]
      dsimp only
      rw [sout_B]
      refine step_real hX ⟨n + 1, hn⟩ _ e j (fun d => ?_) d
      have h1 : n % 22 + 1 = (n + 1) % 22 := by omega
      have h2 : head (⟨n, Nat.lt_of_succ_lt hn⟩ : Fin cfg0.N) e = head ⟨n + 1, hn⟩ e := Fin.ext (by
        show n / 22 * 2 + e.val = (n + 1) / 22 * 2 + e.val
        omega)
      have := ih (Nat.lt_of_succ_lt hn) e d j
      rw [h1, h2] at this
      exact this

/-- The result block after every point. -/
theorem block_after (t : Fin cfg0.N) (e : Fin 2) (i : Fin 384) (j : Fin 512) :
    ((outsAt0 m c t.val t.isLt).1 (ix2 i ⟨e.val * 512 + j.val, by omega⟩) : EReal)
      = gated (valB (iblk m c 3 t) e i j) (fun l => ((ret (G (head t e)) (qp X (head t e)) (kp X (head t e)) (pd 240 (vr X (head t e) l.val)) (t.val % 22 * 384 + i.val) : ℝ) : EReal)) j := by
  by_cases h0 : t.val % 22 = 0
  · rw [outsAt0_A m c t h0]
    dsimp only
    rw [out_A]
    unfold outVal
    congr 1; funext l
    refine raw_real hX t _ e l (fun d => ?_) i
    rw [zeros, h0]; rfl
  · rw [outsAt0_B m c t h0]
    dsimp only
    rw [out_B]
    unfold outVal
    congr 1; funext l
    refine raw_real hX t _ e l (fun d => ?_) i
    have hp : t.val - 1 < cfg0.N := Nat.lt_of_le_of_lt (Nat.sub_le _ _) t.isLt
    have h1 : (t.val - 1) % 22 + 1 = t.val % 22 := by omega
    have h2 : head (⟨t.val - 1, hp⟩ : Fin cfg0.N) e = head t e := Fin.ext (by
      show (t.val - 1) / 22 * 2 + e.val = t.val / 22 * 2 + e.val
      omega)
    have := state_after hX (t.val - 1) hp e d l
    rw [h1, h2] at this
    exact this

omit hX in
/-- A gate of zero makes a zero. -/
theorem gated_zero (o : Fin 512 → EReal) (j : Fin 512) : gated 0 o j = 0 := by
  unfold gated; rw [zero_mul, zero_mul]

/-- The array after the run, at the row `240 + s`. -/
theorem array_row (s : Fin 8208) (h : Fin 8) (j : Fin 512) :
    (Value.G10 m c (ix2 ⟨240 + s.val, by omega⟩ ⟨h.val * 512 + j.val, by omega⟩) : EReal)
      = gated ((X s.val (8192 + (h.val * 512 + j.val)) : ℝ) : EReal) (fun l => ((out X h s.val l.val : ℝ) : EReal)) j := by
  have hs := s.isLt; have hh := h.isLt; have hj := j.isLt
  have hpt : (240 + s.val) / 384 + 22 * (h.val / 2) < cfg0.N := lt_of_lt_of_eq (by omega) N_0.symm
  have hb := block_after (m := m) (c := c) hX ⟨(240 + s.val) / 384 + 22 * (h.val / 2), hpt⟩ ⟨h.val % 2, by omega⟩ ⟨(240 + s.val) % 384, by omega⟩ j
  have e1 : ((240 + s.val) / 384 + 22 * (h.val / 2)) % 22 * 384 + (240 + s.val) % 384 = 240 + s.val := by omega
  have e2 : ((240 + s.val) / 384 + 22 * (h.val / 2)) / 22 = h.val / 2 := by omega
  have e3 : head (⟨(240 + s.val) / 384 + 22 * (h.val / 2), hpt⟩ : Fin cfg0.N) ⟨h.val % 2, by omega⟩ = h := Fin.ext (by
    show ((240 + s.val) / 384 + 22 * (h.val / 2)) / 22 * 2 + h.val % 2 = h.val
    omega)
  have e4 : valB (iblk m c 3 ⟨(240 + s.val) / 384 + 22 * (h.val / 2), hpt⟩) ⟨h.val % 2, by omega⟩ ⟨(240 + s.val) % 384, by omega⟩ j
      = ((X s.val (8192 + (h.val * 512 + j.val)) : ℝ) : EReal) := by
    unfold valB
    rw [blk3, rows_real hX]
    dsimp only
    rw [e1, pd_add]
    congr 2
    rw [e2]; omega
  dsimp only at hb
  rw [e1, e3, e4] at hb
  have e5 : ∀ l : Fin 512, ret (G h) (qp X h) (kp X h) (pd 240 (vr X h l.val)) (240 + s.val) = out X h s.val l.val := fun l =>
    ret_pd _ _ _ _ _ _
  simp only [e5] at hb
  rw [← hb]
  unfold Value.G10
  have hp : Value.pt10Of (ix2 ⟨240 + s.val, by omega⟩ ⟨h.val * 512 + j.val, by omega⟩ : S8448x4096.Idx) = (240 + s.val) / 384 + 22 * (h.val / 2) := by
    show 1 * ((240 + s.val) / 384 - 0) + 22 * ((h.val * 512 + j.val) / 1024 - 0) = _
    omega
  rw [dif_pos (by rw [hp]; exact hpt), Value.fold0_congr m c _ _ _ (by rw [Nat.zero_add]; exact hpt) hp, ← Value.outsAt0_sweep m c _ hpt]
  refine congrArg (outsAt0 m c _ hpt).1 ?_
  funext a; apply Fin.ext
  match a with
  | ⟨0, _⟩ => rfl
  | ⟨1, _⟩ => show (h.val * 512 + j.val) % 1024 = h.val % 2 * 512 + j.val; omega

/-- The array after the run, at the 240 rows before. -/
theorem array_pad (s : Fin 240) (h : Fin 8) (j : Fin 512) :
    (Value.G10 m c (ix2 ⟨s.val, by omega⟩ ⟨h.val * 512 + j.val, by omega⟩) : EReal) = (0 : EReal) := by
  have hs := s.isLt; have hh := h.isLt; have hj := j.isLt
  have hpt : 22 * (h.val / 2) < cfg0.N := lt_of_lt_of_eq (by omega) N_0.symm
  have hb := block_after (m := m) (c := c) hX ⟨22 * (h.val / 2), hpt⟩ ⟨h.val % 2, by omega⟩ ⟨s.val, by omega⟩ j
  have e4 : valB (iblk m c 3 ⟨22 * (h.val / 2), hpt⟩) ⟨h.val % 2, by omega⟩ ⟨s.val, by omega⟩ j = 0 := by
    unfold valB
    rw [blk3, rows_real hX]
    unfold pd
    rw [if_pos (by show 22 * (h.val / 2) % 22 * 384 + s.val < 240; omega)]; rfl
  dsimp only at hb
  rw [e4, gated_zero] at hb
  rw [← hb]
  unfold Value.G10
  have hp : Value.pt10Of (ix2 ⟨s.val, by omega⟩ ⟨h.val * 512 + j.val, by omega⟩ : S8448x4096.Idx) = 22 * (h.val / 2) := by
    show 1 * (s.val / 384 - 0) + 22 * ((h.val * 512 + j.val) / 1024 - 0) = _
    omega
  rw [dif_pos (by rw [hp]; exact hpt), Value.fold0_congr m c _ _ _ (by rw [Nat.zero_add]; exact hpt) hp, ← Value.outsAt0_sweep m c _ hpt]
  refine congrArg (outsAt0 m c _ hpt).1 ?_
  funext a; apply Fin.ext
  match a with
  | ⟨0, _⟩ => show s.val % 384 = s.val; omega
  | ⟨1, _⟩ => show (h.val * 512 + j.val) % 1024 = h.val % 2 * 512 + j.val; omega

end Cert.KernelIdeal.Array

end
end
-- ==== Proof.RTables.lean ====
/-
  The reference's set-up values: its rotated rows in blocks of 64 after 48 rows of zeros, and its tables, as real values.
-/
module

public import proofs.«01_k».proof.Proof.Model

@[expose] public section

noncomputable section

namespace Cert.ReferenceIdeal.Tables

open Idealize.ShloMosaic Idealize.ShloMosaic.Pointwise Idealize.ShloMosaic.TcCoe
open Cert.ReferenceIdeal Cert.ReferenceIdeal.Gen Cert.ReferenceIdeal.Step
open Cert.Model Cert.Reals Cert.Maths

/-! ## The tables -/

/-- The inverse frequencies of the keys are those of the queries. -/
theorem inv_eq' (p : Fin 128) : (K_main_v47 (F := Ideal) (ix1 p) : EReal) = (Model.inv p : EReal) := by
  rw [← inv_eq]
  unfold K_main_v47 K_main_v45 K_main_v43 K_main_call1_v16 K_main_call1_v15 K_main_call1_v14 K_main_call1_v13 K_main_call1_v12 K_main_call1_v1 K_main_cst_4 K_main_call1_v11 K_main_call1_v9 K_main_call1_v6 K_main_call1_v5 K_main_call1_cst_0 K_main_call1_v4 K_main_call1_v8 K_main_call1_cst_1 K_main_call1_v10 K_main_call1_v7 K_main_call1_v0 K_main_cst_3 K_main_v44 K_main_cst_5 K_main_v46 K_main_cst_6
  unfold K_main_v11 K_main_v9 K_main_v7 K_main_call0_v16 K_main_call0_v15 K_main_call0_v14 K_main_call0_v13 K_main_call0_v12 K_main_call0_v1 K_main_cst_0 K_main_call0_v11 K_main_call0_v9 K_main_call0_v6 K_main_call0_v5 K_main_call0_cst_0 K_main_call0_v4 K_main_call0_v8 K_main_call0_cst_1 K_main_call0_v10 K_main_call0_v7 K_main_call0_v0 K_main_cst K_main_v8 K_main_cst_1 K_main_v10 K_main_cst_2
  simp only [id]

theorem mask_table (h : Fin 8) (i j : Fin 64) : (K_main_v114 (F := Ideal) (ix3 h i j) : EReal)
    = ((if j.val ≤ i.val then G h ^ (i.val - j.val) else 0 : ℝ) : EReal) := by
  have e : (K_main_v114 (F := Ideal) (ix3 h i j) : EReal) = (if (0 : EReal) ≤ FloatOps.sitofp (F := Ideal) FTy.f32 (BitVec.ofNat 32 i.val) - FloatOps.sitofp (F := Ideal) FTy.f32 (BitVec.ofNat 32 j.val) then
      Ideal.exp
        (max (FloatOps.sitofp (F := Ideal) FTy.f32 (BitVec.ofNat 32 i.val) - FloatOps.sitofp (F := Ideal) FTy.f32 (BitVec.ofNat 32 j.val)) (0 : EReal) *
          (K_main_v97 (F := Ideal) (ix1 h) : EReal))
    else (0 : EReal) : EReal) := by
    unfold K_main_v114 K_main_call5_v2 K_main_call5_v0 K_main_cst_15 K_main_v113 K_main_v112 K_main_v111 K_main_v109 K_main_v110 K_main_v108 K_main_v107 K_main_v106 K_main_cst_14 K_main_call5_v1 K_main_v105 K_main_v104 K_main_cst_13 K_main_v103 K_main_v102 K_main_v100 K_main_v101 K_main_v99 K_main_v98
    simp only [id]
    pointwise
  rw [e, lg_eq, sitofp_word (by omega), sitofp_word (by omega), ← EReal.coe_sub]
  exact mask_val h i.val j.val

theorem qdec_table (h : Fin 8) (i : Fin 64) : (K_main_v122 (F := Ideal) (ix2 h i) : EReal) = ((G h ^ (i.val + 1) : ℝ) : EReal) := by
  have e : (K_main_v122 (F := Ideal) (ix2 h i) : EReal) = (Ideal.exp ((FloatOps.sitofp (F := Ideal) FTy.f32 (BitVec.ofNat 32 i.val) + (1 : EReal)) * (K_main_v97 (F := Ideal) (ix1 h) : EReal)) : EReal) := by
    unfold K_main_v122 K_main_v121 K_main_v120 K_main_v118 K_main_v119 K_main_v117 K_main_v116 K_main_v115 K_main_cst_16 K_main_v98
    simp only [id]
    pointwise
  rw [e, lg_eq, sitofp_word (by omega), ← exp_lg]
  push_cast; rfl

theorem kdec_table (h : Fin 8) (i : Fin 64) : (K_main_v130 (F := Ideal) (ix2 h i) : EReal) = ((G h ^ (64 - 1 - i.val) : ℝ) : EReal) := by
  have e : (K_main_v130 (F := Ideal) (ix2 h i) : EReal) = (Ideal.exp ((Ideal.ofBits .f32 0x427C0000#32 - FloatOps.sitofp (F := Ideal) FTy.f32 (BitVec.ofNat 32 i.val)) * (K_main_v97 (F := Ideal) (ix1 h) : EReal)) : EReal) := by
    unfold K_main_v130 K_main_v129 K_main_v128 K_main_v126 K_main_v127 K_main_v125 K_main_v124 K_main_v98 K_main_v123 K_main_cst_17
    simp only [id]
    pointwise
  rw [e, lg_eq, sitofp_word (by omega), bits_63, ← exp_lg, ← EReal.coe_sub]
  congr 3
  rw [Nat.sub_sub, Nat.cast_sub (by omega)]; push_cast; ring

theorem cdec_table (h : Fin 8) : (K_main_v133 (F := Ideal) (ix1 h) : EReal) = ((G h ^ 64 : ℝ) : EReal) := by
  have e : (K_main_v133 (F := Ideal) (ix1 h) : EReal) = (Ideal.exp (Ideal.ofBits .f32 0x42800000#32 * (K_main_v97 (F := Ideal) (ix1 h) : EReal)) : EReal) := by
    unfold K_main_v133 K_main_v132 K_main_v131 K_main_cst_18
    simp only [id]
    pointwise
  rw [e, lg_eq, bits_64, ← exp_lg]
  norm_num

/-! ## The rows -/

variable {x : (⟨S8208x12288, .bf16⟩ : BufTy).Contents (Elt Ideal)} {X : ℕ → ℕ → ℝ}
  (hX : ∀ (t : Fin 8208) (d : Fin 12288), (x (ix2 t d) : EReal) = (X t.val d.val : EReal))
include hX

theorem q_rows (t : Fin 8208) (h : Fin 8) (d : Fin 256) : (A_main_v41 x (ix4 (0 : Fin 1) t h d) : EReal) = ((qr X h t.val d : ℝ) : EReal) := by
  have e : (A_main_v41 x (ix4 (0 : Fin 1) t h d) : EReal) = ((if _hh : d.val % 2 < 1 then (x (ix2 t ⟨h.val * 256 + 2 * (d.val / 2), by omega⟩) : EReal) * Ideal.cos ((FloatOps.sitofp (F := Ideal) FTy.f32 (BitVec.ofNat 32 t.val) : EReal) * (K_main_v11 (F := Ideal) (ix1 ⟨d.val / 2, by omega⟩) : EReal)) - (x (ix2 t ⟨h.val * 256 + (1 + 2 * (d.val / 2)), by omega⟩) : EReal) * Ideal.sin ((FloatOps.sitofp (F := Ideal) FTy.f32 (BitVec.ofNat 32 t.val) : EReal) * (K_main_v11 (F := Ideal) (ix1 ⟨d.val / 2, by omega⟩) : EReal)) else (x (ix2 t ⟨h.val * 256 + 2 * (d.val / 2), by omega⟩) : EReal) * Ideal.sin ((FloatOps.sitofp (F := Ideal) FTy.f32 (BitVec.ofNat 32 t.val) : EReal) * (K_main_v11 (F := Ideal) (ix1 ⟨d.val / 2, by omega⟩) : EReal)) + (x (ix2 t ⟨h.val * 256 + (1 + 2 * (d.val / 2)), by omega⟩) : EReal) * Ideal.cos ((FloatOps.sitofp (F := Ideal) FTy.f32 (BitVec.ofNat 32 t.val) : EReal) * (K_main_v11 (F := Ideal) (ix1 ⟨d.val / 2, by omega⟩) : EReal))) : EReal) := by
    unfold A_main_v41 A_main_v40 A_main_v39 A_main_v37 A_main_v36 K_main_v35 K_main_v34 A_main_v33 K_main_v32 K_main_v31 A_main_v38 A_main_v30 A_main_v29 K_main_v28 K_main_v27 K_main_v21 K_main_v20 A_main_v23 A_main_v26 K_main_v25 K_main_v24 K_main_v19 K_main_v18 K_main_v17 K_main_v16 K_main_v14 K_main_v15 K_main_v13 K_main_v12 K_main_v5 A_main_v22 A_main_v6 A_main_v2 A_main_v1 A_main_v0
    pointwise
  rw [e]
  unfold qr rot
  have hd' := d.isLt
  by_cases hd : d.val % 2 = 0
  · rw [dif_pos (show d.val % 2 < 1 by omega), if_pos hd, inv_eq, sitofp_word (by omega), hX, hX, ← EReal.coe_mul, cos_real, sin_real]
    dsimp only
    rw [show 2 * (d.val / 2) = d.val by omega, show 1 + d.val = d.val + 1 by omega]
    rfl
  · rw [dif_neg (show ¬ d.val % 2 < 1 by omega), if_neg hd, inv_eq, sitofp_word (by omega), hX, hX, ← EReal.coe_mul, cos_real, sin_real]
    dsimp only
    rw [show 1 + 2 * (d.val / 2) = d.val by omega, show 2 * (d.val / 2) = d.val - 1 by omega]
    rfl

theorem k_rows (t : Fin 8208) (h : Fin 8) (d : Fin 256) : (A_main_v79 x (ix4 (0 : Fin 1) t h d) : EReal) = ((kr X h t.val d : ℝ) : EReal) := by
  have e : (A_main_v79 x (ix4 (0 : Fin 1) t h d) : EReal) = ((if _hh : d.val % 2 < 1 then (x (ix2 t ⟨2048 + (h.val * 256 + 2 * (d.val / 2)), by omega⟩) : EReal) * Ideal.cos ((FloatOps.sitofp (F := Ideal) FTy.f32 (BitVec.ofNat 32 t.val) : EReal) * (K_main_v47 (F := Ideal) (ix1 ⟨d.val / 2, by omega⟩) : EReal)) - (x (ix2 t ⟨2048 + (h.val * 256 + (1 + 2 * (d.val / 2))), by omega⟩) : EReal) * Ideal.sin ((FloatOps.sitofp (F := Ideal) FTy.f32 (BitVec.ofNat 32 t.val) : EReal) * (K_main_v47 (F := Ideal) (ix1 ⟨d.val / 2, by omega⟩) : EReal)) else (x (ix2 t ⟨2048 + (h.val * 256 + 2 * (d.val / 2)), by omega⟩) : EReal) * Ideal.sin ((FloatOps.sitofp (F := Ideal) FTy.f32 (BitVec.ofNat 32 t.val) : EReal) * (K_main_v47 (F := Ideal) (ix1 ⟨d.val / 2, by omega⟩) : EReal)) + (x (ix2 t ⟨2048 + (h.val * 256 + (1 + 2 * (d.val / 2))), by omega⟩) : EReal) * Ideal.cos ((FloatOps.sitofp (F := Ideal) FTy.f32 (BitVec.ofNat 32 t.val) : EReal) * (K_main_v47 (F := Ideal) (ix1 ⟨d.val / 2, by omega⟩) : EReal))) * Ideal.ofBits .f32 0x3D800000#32 : EReal) := by
    unfold A_main_v79 K_main_v78 K_main_cst_7 A_main_v77 A_main_v76 A_main_v75 A_main_v73 A_main_v72 K_main_v71 K_main_v70 A_main_v69 K_main_v68 K_main_v67 A_main_v74 A_main_v66 A_main_v65 K_main_v64 K_main_v63 K_main_v57 K_main_v56 A_main_v59 A_main_v62 K_main_v61 K_main_v60 K_main_v55 K_main_v54 K_main_v53 K_main_v52 K_main_v50 K_main_v51 K_main_v49 K_main_v48 K_main_v5 A_main_v58 A_main_v42 A_main_v3 A_main_v1 A_main_v0
    pointwise
  rw [e]
  unfold kr rot
  have hd' := d.isLt
  by_cases hd : d.val % 2 = 0
  · rw [dif_pos (show d.val % 2 < 1 by omega), if_pos hd, inv_eq', sitofp_word (by omega), hX, hX, ← EReal.coe_mul, cos_real, sin_real, bits_16th]
    dsimp only
    rw [show 2 * (d.val / 2) = d.val by omega, show 1 + d.val = d.val + 1 by omega]
    rfl
  · rw [dif_neg (show ¬ d.val % 2 < 1 by omega), if_neg hd, inv_eq', sitofp_word (by omega), hX, hX, ← EReal.coe_mul, cos_real, sin_real, bits_16th]
    dsimp only
    rw [show 1 + 2 * (d.val / 2) = d.val by omega, show 2 * (d.val / 2) = d.val - 1 by omega]
    rfl

theorem q_chunk (c : Fin 129) (h : Fin 8) (i : Fin 64) (d : Fin 256) : (A_main_v135 x (ix5 c (0 : Fin 1) h i d) : EReal)
    = ((pd 48 (fun s => qr X h s d) (c.val * 64 + i.val) : ℝ) : EReal) := by
  have z : (FloatOps.sitofp (F := Ideal) .f32 (0#32) : EReal) = 0 := by
    show (((0#32 : BitVec 32).toInt : ℝ) : EReal) = 0
    simp
  have e : (A_main_v135 x (ix5 c (0 : Fin 1) h i d) : EReal) = (if hh : 48 ≤ c.val * 64 + i.val ∧ c.val * 64 + i.val - 48 < 8208 then A_main_v41 x (ix4 (0 : Fin 1) ⟨c.val * 64 + i.val - 48, hh.2⟩ h d) else (FloatOps.sitofp (F := Ideal) .f32 (0#32) : EReal) : EReal) := by
    unfold A_main_v135 A_main_v83 A_main_v82 A_main_v81 K_main_call2_v0 K_main_c
    pointwise
  rw [e]
  unfold pd
  by_cases hc : c.val * 64 + i.val < 48
  · rw [dif_neg (by omega), if_pos hc, z]; rfl
  · rw [dif_pos (by omega), if_neg hc]; exact q_rows hX _ _ _

theorem k_chunk (c : Fin 129) (h : Fin 8) (i : Fin 64) (d : Fin 256) : (A_main_v136 x (ix5 c (0 : Fin 1) h i d) : EReal)
    = ((pd 48 (fun s => kr X h s d) (c.val * 64 + i.val) : ℝ) : EReal) := by
  have z : (FloatOps.sitofp (F := Ideal) .f32 (0#32) : EReal) = 0 := by
    show (((0#32 : BitVec 32).toInt : ℝ) : EReal) = 0
    simp
  have e : (A_main_v136 x (ix5 c (0 : Fin 1) h i d) : EReal) = (if hh : 48 ≤ c.val * 64 + i.val ∧ c.val * 64 + i.val - 48 < 8208 then A_main_v79 x (ix4 (0 : Fin 1) ⟨c.val * 64 + i.val - 48, hh.2⟩ h d) else (FloatOps.sitofp (F := Ideal) .f32 (0#32) : EReal) : EReal) := by
    unfold A_main_v136 A_main_v86 A_main_v85 A_main_v84 K_main_call3_v0 K_main_c_8
    pointwise
  rw [e]
  unfold pd
  by_cases hc : c.val * 64 + i.val < 48
  · rw [dif_neg (by omega), if_pos hc, z]; rfl
  · rw [dif_pos (by omega), if_neg hc]; exact k_rows hX _ _ _

theorem v_chunk (c : Fin 129) (h : Fin 8) (i : Fin 64) (j : Fin 512) : (A_main_v137 x (ix5 c (0 : Fin 1) h i j) : EReal)
    = ((pd 48 (vr X h j.val) (c.val * 64 + i.val) : ℝ) : EReal) := by
  have z : (FloatOps.sitofp (F := Ideal) .f32 (0#32) : EReal) = 0 := by
    show (((0#32 : BitVec 32).toInt : ℝ) : EReal) = 0
    simp
  have e : (A_main_v137 x (ix5 c (0 : Fin 1) h i j) : EReal) = (if hh : 48 ≤ c.val * 64 + i.val ∧ c.val * 64 + i.val - 48 < 8208 then x (ix2 ⟨c.val * 64 + i.val - 48, hh.2⟩ ⟨4096 + (h.val * 512 + j.val), by omega⟩) else (FloatOps.sitofp (F := Ideal) .f32 (0#32) : EReal) : EReal) := by
    unfold A_main_v137 A_main_v89 A_main_v88 A_main_v87 K_main_call4_v0 K_main_c_9 A_main_v80 A_main_v4 A_main_v1 A_main_v0
    pointwise
  rw [e]
  unfold pd
  by_cases hc : c.val * 64 + i.val < 48
  · rw [dif_neg (by omega), if_pos hc, z]; rfl
  · rw [dif_pos (by omega), if_neg hc]; exact hX _ _

end Cert.ReferenceIdeal.Tables

end
end
-- ==== Proof.RStep.lean ====
/-
  One trip of the reference's loop over the chunks, read at an index, the loop's state after any number of trips, and the
  result at every row and column as the gated retention of that row.
-/
module

public import proofs.«01_k».proof.Proof.RTables
public import proofs.«01_k».proof.Proof.KBlock

@[expose] public section

noncomputable section

namespace Cert.ReferenceIdeal.Loop

open Idealize.ShloMosaic Idealize.ShloMosaic.Pointwise Idealize.ShloMosaic.TcCoe
open Cert.ReferenceIdeal Cert.ReferenceIdeal.Gen Cert.ReferenceIdeal.Step Cert.ReferenceIdeal.Tables
open Cert.Model Cert.Reals Cert.Maths
open Cert.KernelIdeal.Block (gated)

/-! ## The chunk a trip takes -/

/-- The start of trip `j`'s slice: chunk `j`, and zero on the other axes. -/
def start (j : ℕ) (k : Fin 5) : Int :=
  (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt

theorem start_0 (j : ℕ) (hj : j < 129) : start j 0 = ((j : ℕ) : Int) := by
  show (BitVec.ofNat 32 j).toInt = _
  exact word_toInt (by omega)
theorem start_1 (j : ℕ) : start j 1 = ((0 : ℕ) : Int) := by show (0#32 : BitVec 32).toInt = _; decide
theorem start_2 (j : ℕ) : start j 2 = ((0 : ℕ) : Int) := by show (0#32 : BitVec 32).toInt = _; decide
theorem start_3 (j : ℕ) : start j 3 = ((0 : ℕ) : Int) := by show (0#32 : BitVec 32).toInt = _; decide
theorem start_4 (j : ℕ) : start j 4 = ((0 : ℕ) : Int) := by show (0#32 : BitVec 32).toInt = _; decide

theorem narrow_at (j : ℕ) (hj : j < 129) (y : S129x1x8x64x256.Idx → EReal) (hs : S129x1x8x64x256.Slices (fun _ => 0) S1x1x8x64x256)
    (h : Fin 8) (i : Fin 64) (d : Fin 256) :
    Host.dynamicSlice S1x1x8x64x256 y (start j) hs (ix5 (0 : Fin 1) (0 : Fin 1) h i d) = y (ix5 ⟨j, hj⟩ (0 : Fin 1) h i d) := by
  rw [Host.dynamicSlice_apply]
  congr 1
  funext a; apply Fin.ext
  match a with
  | ⟨0, _⟩ => show Host.clampedStart S129x1x8x64x256 S1x1x8x64x256 hs.1 (start j) 0 + 0 = j; rw [Host.clampedStart_of_le hs.1 _ _ j (start_0 j hj) (by show j + 1 ≤ 129; omega)]; rfl
  | ⟨1, _⟩ => show Host.clampedStart S129x1x8x64x256 S1x1x8x64x256 hs.1 (start j) 1 + 0 = 0; rw [Host.clampedStart_of_le hs.1 _ _ 0 (start_1 j) (by show 0 + 1 ≤ 1; omega)]
  | ⟨2, _⟩ => show Host.clampedStart S129x1x8x64x256 S1x1x8x64x256 hs.1 (start j) 2 + h.val = h.val; rw [Host.clampedStart_of_le hs.1 _ _ 0 (start_2 j) (by show 0 + 8 ≤ 8; omega), Nat.zero_add]
  | ⟨3, _⟩ => show Host.clampedStart S129x1x8x64x256 S1x1x8x64x256 hs.1 (start j) 3 + i.val = i.val; rw [Host.clampedStart_of_le hs.1 _ _ 0 (start_3 j) (by show 0 + 64 ≤ 64; omega), Nat.zero_add]
  | ⟨4, _⟩ => show Host.clampedStart S129x1x8x64x256 S1x1x8x64x256 hs.1 (start j) 4 + d.val = d.val; rw [Host.clampedStart_of_le hs.1 _ _ 0 (start_4 j) (by show 0 + 256 ≤ 256; omega), Nat.zero_add]

theorem wide_at (j : ℕ) (hj : j < 129) (y : S129x1x8x64x512.Idx → EReal) (hs : S129x1x8x64x512.Slices (fun _ => 0) S1x1x8x64x512)
    (h : Fin 8) (i : Fin 64) (d : Fin 512) :
    Host.dynamicSlice S1x1x8x64x512 y (start j) hs (ix5 (0 : Fin 1) (0 : Fin 1) h i d) = y (ix5 ⟨j, hj⟩ (0 : Fin 1) h i d) := by
  rw [Host.dynamicSlice_apply]
  congr 1
  funext a; apply Fin.ext
  match a with
  | ⟨0, _⟩ => show Host.clampedStart S129x1x8x64x512 S1x1x8x64x512 hs.1 (start j) 0 + 0 = j; rw [Host.clampedStart_of_le hs.1 _ _ j (start_0 j hj) (by show j + 1 ≤ 129; omega)]; rfl
  | ⟨1, _⟩ => show Host.clampedStart S129x1x8x64x512 S1x1x8x64x512 hs.1 (start j) 1 + 0 = 0; rw [Host.clampedStart_of_le hs.1 _ _ 0 (start_1 j) (by show 0 + 1 ≤ 1; omega)]
  | ⟨2, _⟩ => show Host.clampedStart S129x1x8x64x512 S1x1x8x64x512 hs.1 (start j) 2 + h.val = h.val; rw [Host.clampedStart_of_le hs.1 _ _ 0 (start_2 j) (by show 0 + 8 ≤ 8; omega), Nat.zero_add]
  | ⟨3, _⟩ => show Host.clampedStart S129x1x8x64x512 S1x1x8x64x512 hs.1 (start j) 3 + i.val = i.val; rw [Host.clampedStart_of_le hs.1 _ _ 0 (start_3 j) (by show 0 + 64 ≤ 64; omega), Nat.zero_add]
  | ⟨4, _⟩ => show Host.clampedStart S129x1x8x64x512 S1x1x8x64x512 hs.1 (start j) 4 + d.val = d.val; rw [Host.clampedStart_of_le hs.1 _ _ 0 (start_4 j) (by show 0 + 512 ≤ 512; omega), Nat.zero_add]

theorem q_at (j : ℕ) (hj : j < 129) (s : State Ideal) (h : Fin 8) (i : Fin 64) (d : Fin 256) :
    (b5 j s (ix4 (0 : Fin 1) h i d) : EReal) = (s.main_v139_0 (ix5 ⟨j, hj⟩ (0 : Fin 1) h i d) : EReal) := by
  have e : (b5 j s (ix4 (0 : Fin 1) h i d) : EReal) = (b4 j s (ix5 (0 : Fin 1) (0 : Fin 1) h i d) : EReal) := by
    unfold b5; pointwise
  rw [e]; exact narrow_at j hj _ _ h i d

theorem k_at (j : ℕ) (hj : j < 129) (s : State Ideal) (h : Fin 8) (i : Fin 64) (d : Fin 256) :
    (b11 j s (ix4 (0 : Fin 1) h i d) : EReal) = (s.main_v139_1 (ix5 ⟨j, hj⟩ (0 : Fin 1) h i d) : EReal) := by
  have e : (b11 j s (ix4 (0 : Fin 1) h i d) : EReal) = (b10 j s (ix5 (0 : Fin 1) (0 : Fin 1) h i d) : EReal) := by
    unfold b11; pointwise
  rw [e]; exact narrow_at j hj _ _ h i d

theorem v_at (j : ℕ) (hj : j < 129) (s : State Ideal) (h : Fin 8) (i : Fin 64) (l : Fin 512) :
    (b17 j s (ix4 (0 : Fin 1) h i l) : EReal) = (s.main_v139_2 (ix5 ⟨j, hj⟩ (0 : Fin 1) h i l) : EReal) := by
  have e : (b17 j s (ix4 (0 : Fin 1) h i l) : EReal) = (b16 j s (ix5 (0 : Fin 1) (0 : Fin 1) h i l) : EReal) := by
    unfold b17; pointwise
  rw [e]; exact wide_at j hj _ _ h i l

/-! ## What a trip makes -/

theorem out_at (j : ℕ) (s : State Ideal) (h : Fin 8) (i : Fin 64) (l : Fin 512) :
    (b32 j s (ix4 (0 : Fin 1) h i l) : EReal)
      = (∑ r, (∑ d, (b5 j s (ix4 (0 : Fin 1) h i d) : EReal) * (b11 j s (ix4 (0 : Fin 1) h r d) : EReal)) * (K_main_v114 (F := Ideal) (ix3 h i r) : EReal) * (b17 j s (ix4 (0 : Fin 1) h r l) : EReal))
        + ∑ d, (b5 j s (ix4 (0 : Fin 1) h i d) : EReal) * (K_main_v122 (F := Ideal) (ix2 h i) : EReal) * (s.main_v139_8 (ix4 (0 : Fin 1) h d l) : EReal) := by
  unfold b32 b31 b30 b29 b28 b27 b26 b25 b24 b23 b22 b21 b20 b19 b18
  pointwise

theorem state_at (j : ℕ) (s : State Ideal) (h : Fin 8) (d : Fin 256) (l : Fin 512) :
    (b44 j s (ix4 (0 : Fin 1) h d l) : EReal)
      = (s.main_v139_8 (ix4 (0 : Fin 1) h d l) : EReal) * (K_main_v133 (F := Ideal) (ix1 h) : EReal)
        + ∑ i, (b11 j s (ix4 (0 : Fin 1) h i d) : EReal) * (K_main_v130 (F := Ideal) (ix2 h i) : EReal) * (b17 j s (ix4 (0 : Fin 1) h i l) : EReal) := by
  unfold b44 b43 b42 b41 b40 b39 b38 b37 b36 b35 b34 b33
  pointwise

/-- The outputs after trip `j`: the trip's at chunk `j`, the earlier ones at the others. -/
theorem outs_at (j : ℕ) (hj : j < 129) (s : State Ideal) (c : Fin 129) (h : Fin 8) (i : Fin 64) (l : Fin 512) :
    (b50 j s (ix5 c (0 : Fin 1) h i l) : EReal)
      = (if c.val = j then (b32 j s (ix4 (0 : Fin 1) h i l) : EReal) else (s.main_v139_9 (ix5 c (0 : Fin 1) h i l) : EReal) : EReal) := by
  have hs := updateFits_S129x1x8x64x512_S1x1x8x64x512
  have c0 : Host.clampedStart S129x1x8x64x512 S1x1x8x64x512 hs.1 (start j) 0 = j := Host.clampedStart_of_le hs.1 _ _ j (start_0 j hj) (by show j + 1 ≤ 129; omega)
  have c1 : Host.clampedStart S129x1x8x64x512 S1x1x8x64x512 hs.1 (start j) 1 = 0 := Host.clampedStart_of_le hs.1 _ _ 0 (start_1 j) (by show 0 + 1 ≤ 1; omega)
  have c2 : Host.clampedStart S129x1x8x64x512 S1x1x8x64x512 hs.1 (start j) 2 = 0 := Host.clampedStart_of_le hs.1 _ _ 0 (start_2 j) (by show 0 + 8 ≤ 8; omega)
  have c3 : Host.clampedStart S129x1x8x64x512 S1x1x8x64x512 hs.1 (start j) 3 = 0 := Host.clampedStart_of_le hs.1 _ _ 0 (start_3 j) (by show 0 + 64 ≤ 64; omega)
  have c4 : Host.clampedStart S129x1x8x64x512 S1x1x8x64x512 hs.1 (start j) 4 = 0 := Host.clampedStart_of_le hs.1 _ _ 0 (start_4 j) (by show 0 + 512 ≤ 512; omega)
  show Host.dynamicUpdateSlice s.main_v139_9 (b45 j s) (start j) hs (ix5 c (0 : Fin 1) h i l) = _
  rw [Host.dynamicUpdateSlice_apply]
  by_cases hc : c.val = j
  · rw [if_pos hc, dif_pos]
    · have e : (b45 j s (ix5 (0 : Fin 1) (0 : Fin 1) h i l) : EReal) = (b32 j s (ix4 (0 : Fin 1) h i l) : EReal) := by
        unfold b45; pointwise
      rw [← e]
      congr 1
      funext a; apply Fin.ext
      match a with
      | ⟨0, _⟩ => show c.val - Host.clampedStart S129x1x8x64x512 S1x1x8x64x512 hs.1 (start j) 0 = 0; rw [c0]; omega
      | ⟨1, _⟩ => show 0 - Host.clampedStart S129x1x8x64x512 S1x1x8x64x512 hs.1 (start j) 1 = 0; rw [c1]
      | ⟨2, _⟩ => show h.val - Host.clampedStart S129x1x8x64x512 S1x1x8x64x512 hs.1 (start j) 2 = h.val; rw [c2]; rfl
      | ⟨3, _⟩ => show i.val - Host.clampedStart S129x1x8x64x512 S1x1x8x64x512 hs.1 (start j) 3 = i.val; rw [c3]; rfl
      | ⟨4, _⟩ => show l.val - Host.clampedStart S129x1x8x64x512 S1x1x8x64x512 hs.1 (start j) 4 = l.val; rw [c4]; rfl
    · intro a
      match a with
      | ⟨0, _⟩ => show Host.clampedStart S129x1x8x64x512 S1x1x8x64x512 hs.1 (start j) 0 ≤ c.val ∧ c.val < Host.clampedStart S129x1x8x64x512 S1x1x8x64x512 hs.1 (start j) 0 + 1; rw [c0]; omega
      | ⟨1, _⟩ => show Host.clampedStart S129x1x8x64x512 S1x1x8x64x512 hs.1 (start j) 1 ≤ 0 ∧ 0 < Host.clampedStart S129x1x8x64x512 S1x1x8x64x512 hs.1 (start j) 1 + 1; rw [c1]; omega
      | ⟨2, _⟩ => show Host.clampedStart S129x1x8x64x512 S1x1x8x64x512 hs.1 (start j) 2 ≤ h.val ∧ h.val < Host.clampedStart S129x1x8x64x512 S1x1x8x64x512 hs.1 (start j) 2 + 8; rw [c2]; omega
      | ⟨3, _⟩ => show Host.clampedStart S129x1x8x64x512 S1x1x8x64x512 hs.1 (start j) 3 ≤ i.val ∧ i.val < Host.clampedStart S129x1x8x64x512 S1x1x8x64x512 hs.1 (start j) 3 + 64; rw [c3]; omega
      | ⟨4, _⟩ => show Host.clampedStart S129x1x8x64x512 S1x1x8x64x512 hs.1 (start j) 4 ≤ l.val ∧ l.val < Host.clampedStart S129x1x8x64x512 S1x1x8x64x512 hs.1 (start j) 4 + 512; rw [c4]; omega
  · rw [if_neg hc, dif_neg]
    intro hin
    have h0 : Host.clampedStart S129x1x8x64x512 S1x1x8x64x512 hs.1 (start j) 0 ≤ c.val ∧ c.val < Host.clampedStart S129x1x8x64x512 S1x1x8x64x512 hs.1 (start j) 0 + 1 := hin 0
    rw [c0] at h0
    omega

/-! ## The loop -/

section
variable {x : (⟨S8208x12288, .bf16⟩ : BufTy).Contents (Elt Ideal)} {X : ℕ → ℕ → ℝ}
  (hX : ∀ (t : Fin 8208) (d : Fin 12288), (x (ix2 t d) : EReal) = (X t.val d.val : EReal))

/-- The padded queries and keys of a head. -/
def qp (X : ℕ → ℕ → ℝ) (h : Fin 8) (n : ℕ) (d : Fin 256) : ℝ := pd 48 (fun s => qr X h s d) n
def kp (X : ℕ → ℕ → ℝ) (h : Fin 8) (n : ℕ) (d : Fin 256) : ℝ := pd 48 (fun s => kr X h s d) n

/-- What the state holds before trip `n`. -/
structure At (x : (⟨S8208x12288, .bf16⟩ : BufTy).Contents (Elt Ideal)) (X : ℕ → ℕ → ℝ) (n : ℕ) (s : State Ideal) : Prop where
  q : s.main_v139_0 = A_main_v135 x
  k : s.main_v139_1 = A_main_v136 x
  v : s.main_v139_2 = A_main_v137 x
  st : ∀ (h : Fin 8) (d : Fin 256) (l : Fin 512), (s.main_v139_8 (ix4 (0 : Fin 1) h d l) : EReal) = ((stt (G h) (kp X h) (pd 48 (vr X h l.val)) 64 n d : ℝ) : EReal)
  out : ∀ (c : Fin 129) (h : Fin 8) (i : Fin 64) (l : Fin 512), c.val < n → (s.main_v139_9 (ix5 c (0 : Fin 1) h i l) : EReal) = ((ret (G h) (qp X h) (kp X h) (pd 48 (vr X h l.val)) (c.val * 64 + i.val) : ℝ) : EReal)

theorem at_init : At x X 0 (init x) where
  q := rfl
  k := rfl
  v := rfl
  st h d l := by
    show (K_main_v134 (F := Ideal) (ix4 (0 : Fin 1) h d l) : EReal) = 0
    unfold K_main_v134 K_main_cst_19
    pointwise
  out c h i l hc := absurd hc (Nat.not_lt_zero _)

include hX in
theorem at_step {n : ℕ} (hn : n < 129) {s : State Ideal} (hs : At x X n s) : At x X (n + 1) (step n s) where
  q := hs.q
  k := hs.k
  v := hs.v
  st h d l := by
    rw [step_main_v139_8, state_at]
    exact chunk_state_coe (k := fun i d => (b11 n s (ix4 (0 : Fin 1) h i d) : EReal)) (w := fun i => (b17 n s (ix4 (0 : Fin 1) h i l) : EReal))
      (kd := fun i => (K_main_v130 (F := Ideal) (ix2 h i) : EReal)) (st := fun d => (s.main_v139_8 (ix4 (0 : Fin 1) h d l) : EReal))
      (fun i d => by rw [k_at n hn, hs.k]; exact k_chunk hX _ _ _ _) (fun i => by rw [v_at n hn, hs.v]; exact v_chunk hX _ _ _ _)
      (fun i => kdec_table h i) (cdec_table h) (fun d => hs.st h d l) d
  out c h i l hc := by
    rw [step_main_v139_9, outs_at n hn]
    by_cases e : c.val = n
    · rw [if_pos e, out_at, e]
      exact chunk_out_coe (q := fun i d => (b5 n s (ix4 (0 : Fin 1) h i d) : EReal)) (k := fun i d => (b11 n s (ix4 (0 : Fin 1) h i d) : EReal))
        (w := fun i => (b17 n s (ix4 (0 : Fin 1) h i l) : EReal)) (mask := fun i r => (K_main_v114 (F := Ideal) (ix3 h i r) : EReal))
        (qd := fun i => (K_main_v122 (F := Ideal) (ix2 h i) : EReal)) (st := fun d => (s.main_v139_8 (ix4 (0 : Fin 1) h d l) : EReal))
        (fun i d => by rw [q_at n hn, hs.q]; exact q_chunk hX _ _ _ _) (fun i d => by rw [k_at n hn, hs.k]; exact k_chunk hX _ _ _ _)
        (fun i => by rw [v_at n hn, hs.v]; exact v_chunk hX _ _ _ _)
        (fun i r => mask_table h i r) (fun i => qdec_table h i) (fun d => hs.st h d l) i
    · rw [if_neg e]; exact hs.out c h i l (by omega)

include hX in
theorem at_iter (it : ℕ → State Ideal) (h0 : it 0 = init x) (hs : ∀ n, it (n + 1) = step n (it n)) : ∀ n, n ≤ 129 → At x X n (it n)
  | 0, _ => h0 ▸ at_init
  | n + 1, hn => by
    rw [hs n]
    exact at_step hX (by omega) (at_iter it h0 hs n (by omega))

/-! ## The result -/

theorem final (s : State Ideal) (r : Fin 8448) (h : Fin 8) (j : Fin 512) :
    (R_main_v160 s x (ix2 r ⟨h.val * 512 + j.val, by omega⟩) : EReal)
      = (if hh : (240 ≤ r.val ∧ r.val - 240 < 8208) ∧ h.val * 512 + j.val < 4096 then
          gated (x (ix2 ⟨r.val - 240, hh.1.2⟩ ⟨8192 + (h.val * 512 + j.val), by omega⟩))
            (fun l => (s.main_v139_9 (ix5 ⟨(48 + (r.val - 240)) / 64, by omega⟩ (0 : Fin 1) h ⟨(48 + (r.val - 240)) % 64, by omega⟩ l) : EReal)) j
        else FloatOps.sitofp (F := Ideal) FTy.f32 0#32 : EReal) := by
  unfold R_main_v160 gated Ideal.logistic
  pointwise

include hX in
theorem result_row (s : State Ideal) (hs : At x X 129 s) (t : Fin 8208) (h : Fin 8) (j : Fin 512) :
    (R_main_v160 s x (ix2 ⟨240 + t.val, by omega⟩ ⟨h.val * 512 + j.val, by omega⟩) : EReal)
      = gated ((X t.val (8192 + (h.val * 512 + j.val)) : ℝ) : EReal) (fun l => ((out X h t.val l.val : ℝ) : EReal)) j := by
  rw [final, dif_pos ⟨⟨by dsimp only; omega, by dsimp only; omega⟩, by omega⟩]
  dsimp only
  congr 1
  · rw [hX]; dsimp only; rw [Nat.add_sub_cancel_left]
  · funext l
    rw [hs.out _ _ _ _ (by dsimp only; omega)]
    dsimp only
    rw [show (48 + (240 + t.val - 240)) / 64 * 64 + (48 + (240 + t.val - 240)) % 64 = 48 + t.val by omega]
    congr 1
    exact ret_pd _ _ _ _ _ _

theorem result_pad (s : State Ideal) (t : Fin 240) (h : Fin 8) (j : Fin 512) :
    (R_main_v160 s x (ix2 ⟨t.val, by omega⟩ ⟨h.val * 512 + j.val, by omega⟩) : EReal) = 0 := by
  have z : (FloatOps.sitofp (F := Ideal) .f32 (0#32) : EReal) = 0 := by
    show (((0#32 : BitVec 32).toInt : ℝ) : EReal) = 0
    simp
  rw [final, dif_neg (by dsimp only; omega), z]

end

end Cert.ReferenceIdeal.Loop

end
end
-- ==== Proof.RRun.lean ====
/- The reference's loop, one trip at a time: a valuation that holds a state goes to one that holds the next, and the run's
   result is read off state number 129. -/
module

public import proofs.«01_k».proof.Proof.Gen.ReferenceIdeal.Run
public import proofs.«01_k».proof.Proof.Gen.ReferenceIdeal.Step

@[expose] public section

noncomputable section

namespace Cert.ReferenceIdeal.RRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v139_8) = s.main_v139_8
  f_9 : V0 (Proc.devRef .tc main_v139_9) = s.main_v139_9
  f_0 : V0 (Proc.devRef .tc main_v139_0) = s.main_v139_0
  f_1 : V0 (Proc.devRef .tc main_v139_1) = s.main_v139_1
  f_2 : V0 (Proc.devRef .tc main_v139_2) = s.main_v139_2
  n_7 : V0 (Proc.devRef .tc main_v139_7) = constantI S_ 32 (BitVec.ofNat 32 j)
  k_3 : V0 (Proc.devRef .tc main_v139_3) = Cert.ReferenceIdeal.Step.K_main_v114 (F := F)
  k_4 : V0 (Proc.devRef .tc main_v139_4) = Cert.ReferenceIdeal.Step.K_main_v122 (F := F)
  k_5 : V0 (Proc.devRef .tc main_v139_5) = Cert.ReferenceIdeal.Step.K_main_v130 (F := F)
  k_6 : V0 (Proc.devRef .tc main_v139_6) = Cert.ReferenceIdeal.Step.K_main_v133 (F := F)

variable {V0 s j}

set_option maxRecDepth 8192 in
theorem al_0 (h : Holds V0 s j) : (constantI S_ 32 0#32 : (Proc.devRef .tc main_while0b_call6_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call6_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call6_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call6_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x1x8x64x256 (V0 (Proc.devRef .tc main_v139_0)) (fun k => (((![V0 (Proc.devRef .tc main_v139_7), constantI S_ 32 0#32, constantI S_ 32 0#32, constantI S_ 32 0#32, constantI S_ 32 0#32] : Fin 5 → (⟨S_, .i32⟩ : BufTy).Contents (Elt F))) k (Shape.Idx.first h_S_)).toInt) sliceFits_S129x1x8x64x256_S1x1x8x64x256 : (Proc.devRef .tc main_while0b_call6_v0 : DevRef τ sig).ty.Contents (Elt F)) = Cert.ReferenceIdeal.Step.b4 j s := by
  unfold Cert.ReferenceIdeal.Step.b4
  rw [← al_0 h, ← al_1 h, ← al_2 h, ← al_3 h, h.f_0, h.n_7]
  try rfl
set_option maxRecDepth 8192 in
theorem al_5 (h : Holds V0 s j) : (res_main_while0b_v161 V0 : (Proc.devRef .tc main_while0b_v161 : DevRef τ sig).ty.Contents (Elt F)) = Cert.ReferenceIdeal.Step.b5 j s := by
  unfold res_main_while0b_v161 Cert.ReferenceIdeal.Step.b5
  rw [← al_4 h]
  try rfl
set_option maxRecDepth 8192 in
theorem al_6 (h : Holds V0 s j) : (constantI S_ 32 0#32 : (Proc.devRef .tc main_while0b_call7_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call7_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call7_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call7_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x1x8x64x256 (V0 (Proc.devRef .tc main_v139_1)) (fun k => (((![V0 (Proc.devRef .tc main_v139_7), constantI S_ 32 0#32, constantI S_ 32 0#32, constantI S_ 32 0#32, constantI S_ 32 0#32] : Fin 5 → (⟨S_, .i32⟩ : BufTy).Contents (Elt F))) k (Shape.Idx.first h_S_)).toInt) sliceFits_S129x1x8x64x256_S1x1x8x64x256 : (Proc.devRef .tc main_while0b_call7_v0 : DevRef τ sig).ty.Contents (Elt F)) = Cert.ReferenceIdeal.Step.b10 j s := by
  unfold Cert.ReferenceIdeal.Step.b10
  rw [← al_6 h, ← al_7 h, ← al_8 h, ← al_9 h, h.f_1, h.n_7]
  try rfl
set_option maxRecDepth 8192 in
theorem al_11 (h : Holds V0 s j) : (res_main_while0b_v162 V0 : (Proc.devRef .tc main_while0b_v162 : DevRef τ sig).ty.Contents (Elt F)) = Cert.ReferenceIdeal.Step.b11 j s := by
  unfold res_main_while0b_v162 Cert.ReferenceIdeal.Step.b11
  rw [← al_10 h]
  try rfl
set_option maxRecDepth 8192 in
theorem al_12 (h : Holds V0 s j) : (constantI S_ 32 0#32 : (Proc.devRef .tc main_while0b_call8_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call8_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call8_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call8_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x1x8x64x512 (V0 (Proc.devRef .tc main_v139_2)) (fun k => (((![V0 (Proc.devRef .tc main_v139_7), constantI S_ 32 0#32, constantI S_ 32 0#32, constantI S_ 32 0#32, constantI S_ 32 0#32] : Fin 5 → (⟨S_, .i32⟩ : BufTy).Contents (Elt F))) k (Shape.Idx.first h_S_)).toInt) sliceFits_S129x1x8x64x512_S1x1x8x64x512 : (Proc.devRef .tc main_while0b_call8_v0 : DevRef τ sig).ty.Contents (Elt F)) = Cert.ReferenceIdeal.Step.b16 j s := by
  unfold Cert.ReferenceIdeal.Step.b16
  rw [← al_12 h, ← al_13 h, ← al_14 h, ← al_15 h, h.f_2, h.n_7]
  try rfl
set_option maxRecDepth 8192 in
theorem al_17 (h : Holds V0 s j) : (res_main_while0b_v163 V0 : (Proc.devRef .tc main_while0b_v163 : DevRef τ sig).ty.Contents (Elt F)) = Cert.ReferenceIdeal.Step.b17 j s := by
  unfold res_main_while0b_v163 Cert.ReferenceIdeal.Step.b17
  rw [← al_16 h]
  try rfl
set_option maxRecDepth 8192 in
theorem al_18 (h : Holds V0 s j) : (Host.dotGeneral dot_S1x8x64x256_S1x8x64x256_S1x8x64x64_3_3_2_2_01_01 none (res_main_while0b_v161 V0) (res_main_while0b_v162 V0) : (Proc.devRef .tc main_while0b_v164 : DevRef τ sig).ty.Contents (Elt F)) = Cert.ReferenceIdeal.Step.b18 j s := by
  unfold Cert.ReferenceIdeal.Step.b18
  rw [← al_5 h, ← al_11 h]
  try rfl
set_option maxRecDepth 8192 in
theorem al_19 (h : Holds V0 s j) : (broadcastInDim S1x8x64x64 ![1, 2, 3] bcast_S8x64x64_S1x8x64x64_1_2_3 (V0 (Proc.devRef .tc main_v139_3)) : (Proc.devRef .tc main_while0b_v165 : DevRef τ sig).ty.Contents (Elt F)) = Cert.ReferenceIdeal.Step.b19 j s := by
  unfold Cert.ReferenceIdeal.Step.b19
  rw [h.k_3]
  try rfl
set_option maxRecDepth 8192 in
theorem al_20 (h : Holds V0 s j) : (mulf (Host.dotGeneral dot_S1x8x64x256_S1x8x64x256_S1x8x64x64_3_3_2_2_01_01 none (res_main_while0b_v161 V0) (res_main_while0b_v162 V0)) (broadcastInDim S1x8x64x64 ![1, 2, 3] bcast_S8x64x64_S1x8x64x64_1_2_3 (V0 (Proc.devRef .tc main_v139_3))) : (Proc.devRef .tc main_while0b_v166 : DevRef τ sig).ty.Contents (Elt F)) = Cert.ReferenceIdeal.Step.b20 j s := by
  unfold Cert.ReferenceIdeal.Step.b20
  rw [← al_18 h, ← al_19 h]
  try rfl
set_option maxRecDepth 8192 in
theorem al_21 (h : Holds V0 s j) : (shapeCast S8x64x64 (mulf (Host.dotGeneral dot_S1x8x64x256_S1x8x64x256_S1x8x64x64_3_3_2_2_01_01 none (res_main_while0b_v161 V0) (res_main_while0b_v162 V0)) (broadcastInDim S1x8x64x64 ![1, 2, 3] bcast_S8x64x64_S1x8x64x64_1_2_3 (V0 (Proc.devRef .tc main_v139_3)))) shapeCasts_S1x8x64x64_S8x64x64 : (Proc.devRef .tc main_while0b_v167 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (shapeCast S8x64x512 (res_main_while0b_v163 V0) shapeCasts_S1x8x64x512_S8x64x512 : (Proc.devRef .tc main_while0b_v168 : DevRef τ sig).ty.Contents (Elt F)) = Cert.ReferenceIdeal.Step.b22 j s := by
  unfold Cert.ReferenceIdeal.Step.b22
  rw [← al_17 h]
  try rfl
set_option maxRecDepth 8192 in
theorem al_23 (h : Holds V0 s j) : (Host.dotGeneral dot_S8x64x64_S8x64x512_S8x64x512_2_1_1_2_0_0 none (shapeCast S8x64x64 (mulf (Host.dotGeneral dot_S1x8x64x256_S1x8x64x256_S1x8x64x64_3_3_2_2_01_01 none (res_main_while0b_v161 V0) (res_main_while0b_v162 V0)) (broadcastInDim S1x8x64x64 ![1, 2, 3] bcast_S8x64x64_S1x8x64x64_1_2_3 (V0 (Proc.devRef .tc main_v139_3)))) shapeCasts_S1x8x64x64_S8x64x64) (shapeCast S8x64x512 (res_main_while0b_v163 V0) shapeCasts_S1x8x64x512_S8x64x512) : (Proc.devRef .tc main_while0b_v169 : DevRef τ sig).ty.Contents (Elt F)) = Cert.ReferenceIdeal.Step.b23 j s := by
  unfold Cert.ReferenceIdeal.Step.b23
  rw [← al_21 h, ← al_22 h]
  try rfl
set_option maxRecDepth 8192 in
theorem al_24 (h : Holds V0 s j) : (broadcastInDim S1x8x64x512 ![1, 2, 3] bcast_S8x64x512_S1x8x64x512_1_2_3 (Host.dotGeneral dot_S8x64x64_S8x64x512_S8x64x512_2_1_1_2_0_0 none (shapeCast S8x64x64 (mulf (Host.dotGeneral dot_S1x8x64x256_S1x8x64x256_S1x8x64x64_3_3_2_2_01_01 none (res_main_while0b_v161 V0) (res_main_while0b_v162 V0)) (broadcastInDim S1x8x64x64 ![1, 2, 3] bcast_S8x64x64_S1x8x64x64_1_2_3 (V0 (Proc.devRef .tc main_v139_3)))) shapeCasts_S1x8x64x64_S8x64x64) (shapeCast S8x64x512 (res_main_while0b_v163 V0) shapeCasts_S1x8x64x512_S8x64x512)) : (Proc.devRef .tc main_while0b_v170 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (broadcastInDim S1x8x64x1 ![1, 2] bcast_S8x64_S1x8x64x1_1_2 (V0 (Proc.devRef .tc main_v139_4)) : (Proc.devRef .tc main_while0b_v171 : DevRef τ sig).ty.Contents (Elt F)) = Cert.ReferenceIdeal.Step.b25 j s := by
  unfold Cert.ReferenceIdeal.Step.b25
  rw [h.k_4]
  try rfl
set_option maxRecDepth 8192 in
theorem al_26 (h : Holds V0 s j) : (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4))) : (Proc.devRef .tc main_while0b_v172 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (mulf (res_main_while0b_v161 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4)))) : (Proc.devRef .tc main_while0b_v173 : DevRef τ sig).ty.Contents (Elt F)) = Cert.ReferenceIdeal.Step.b27 j s := by
  unfold Cert.ReferenceIdeal.Step.b27
  rw [← al_5 h, ← al_26 h]
  try rfl
set_option maxRecDepth 8192 in
theorem al_28 (h : Holds V0 s j) : (shapeCast S8x64x256 (mulf (res_main_while0b_v161 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4))))) shapeCasts_S1x8x64x256_S8x64x256 : (Proc.devRef .tc main_while0b_v174 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (shapeCast S8x256x512 (V0 (Proc.devRef .tc main_v139_8)) shapeCasts_S1x8x256x512_S8x256x512 : (Proc.devRef .tc main_while0b_v175 : DevRef τ sig).ty.Contents (Elt F)) = Cert.ReferenceIdeal.Step.b29 j s := by
  unfold Cert.ReferenceIdeal.Step.b29
  rw [h.f_8]
  try rfl
set_option maxRecDepth 8192 in
theorem al_30 (h : Holds V0 s j) : (Host.dotGeneral dot_S8x64x256_S8x256x512_S8x64x512_2_1_1_2_0_0 none (shapeCast S8x64x256 (mulf (res_main_while0b_v161 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4))))) shapeCasts_S1x8x64x256_S8x64x256) (shapeCast S8x256x512 (V0 (Proc.devRef .tc main_v139_8)) shapeCasts_S1x8x256x512_S8x256x512) : (Proc.devRef .tc main_while0b_v176 : DevRef τ sig).ty.Contents (Elt F)) = Cert.ReferenceIdeal.Step.b30 j s := by
  unfold Cert.ReferenceIdeal.Step.b30
  rw [← al_28 h, ← al_29 h]
  try rfl
set_option maxRecDepth 8192 in
theorem al_31 (h : Holds V0 s j) : (broadcastInDim S1x8x64x512 ![1, 2, 3] bcast_S8x64x512_S1x8x64x512_1_2_3 (Host.dotGeneral dot_S8x64x256_S8x256x512_S8x64x512_2_1_1_2_0_0 none (shapeCast S8x64x256 (mulf (res_main_while0b_v161 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4))))) shapeCasts_S1x8x64x256_S8x64x256) (shapeCast S8x256x512 (V0 (Proc.devRef .tc main_v139_8)) shapeCasts_S1x8x256x512_S8x256x512)) : (Proc.devRef .tc main_while0b_v177 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (addf (broadcastInDim S1x8x64x512 ![1, 2, 3] bcast_S8x64x512_S1x8x64x512_1_2_3 (Host.dotGeneral dot_S8x64x64_S8x64x512_S8x64x512_2_1_1_2_0_0 none (shapeCast S8x64x64 (mulf (Host.dotGeneral dot_S1x8x64x256_S1x8x64x256_S1x8x64x64_3_3_2_2_01_01 none (res_main_while0b_v161 V0) (res_main_while0b_v162 V0)) (broadcastInDim S1x8x64x64 ![1, 2, 3] bcast_S8x64x64_S1x8x64x64_1_2_3 (V0 (Proc.devRef .tc main_v139_3)))) shapeCasts_S1x8x64x64_S8x64x64) (shapeCast S8x64x512 (res_main_while0b_v163 V0) shapeCasts_S1x8x64x512_S8x64x512))) (broadcastInDim S1x8x64x512 ![1, 2, 3] bcast_S8x64x512_S1x8x64x512_1_2_3 (Host.dotGeneral dot_S8x64x256_S8x256x512_S8x64x512_2_1_1_2_0_0 none (shapeCast S8x64x256 (mulf (res_main_while0b_v161 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4))))) shapeCasts_S1x8x64x256_S8x64x256) (shapeCast S8x256x512 (V0 (Proc.devRef .tc main_v139_8)) shapeCasts_S1x8x256x512_S8x256x512))) : (Proc.devRef .tc main_while0b_v178 : DevRef τ sig).ty.Contents (Elt F)) = Cert.ReferenceIdeal.Step.b32 j s := by
  unfold Cert.ReferenceIdeal.Step.b32
  rw [← al_24 h, ← al_31 h]
  try rfl
set_option maxRecDepth 8192 in
theorem al_33 (h : Holds V0 s j) : (broadcastInDim S1x8x64x1 ![1, 2] bcast_S8x64_S1x8x64x1_1_2 (V0 (Proc.devRef .tc main_v139_5)) : (Proc.devRef .tc main_while0b_v179 : DevRef τ sig).ty.Contents (Elt F)) = Cert.ReferenceIdeal.Step.b33 j s := by
  unfold Cert.ReferenceIdeal.Step.b33
  rw [h.k_5]
  try rfl
set_option maxRecDepth 8192 in
theorem al_34 (h : Holds V0 s j) : (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5))) : (Proc.devRef .tc main_while0b_v180 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (mulf (res_main_while0b_v162 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5)))) : (Proc.devRef .tc main_while0b_v181 : DevRef τ sig).ty.Contents (Elt F)) = Cert.ReferenceIdeal.Step.b35 j s := by
  unfold Cert.ReferenceIdeal.Step.b35
  rw [← al_11 h, ← al_34 h]
  try rfl
set_option maxRecDepth 8192 in
theorem al_36 (h : Holds V0 s j) : (broadcastInDim S1x8x1x1 ![1] bcast_S8_S1x8x1x1_1 (V0 (Proc.devRef .tc main_v139_6)) : (Proc.devRef .tc main_while0b_v182 : DevRef τ sig).ty.Contents (Elt F)) = Cert.ReferenceIdeal.Step.b36 j s := by
  unfold Cert.ReferenceIdeal.Step.b36
  rw [h.k_6]
  try rfl
set_option maxRecDepth 8192 in
theorem al_37 (h : Holds V0 s j) : (broadcastInDim S1x8x256x512 ![0, 1, 2, 3] bcast_S1x8x1x1_S1x8x256x512_0_1_2_3 (broadcastInDim S1x8x1x1 ![1] bcast_S8_S1x8x1x1_1 (V0 (Proc.devRef .tc main_v139_6))) : (Proc.devRef .tc main_while0b_v183 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (mulf (V0 (Proc.devRef .tc main_v139_8)) (broadcastInDim S1x8x256x512 ![0, 1, 2, 3] bcast_S1x8x1x1_S1x8x256x512_0_1_2_3 (broadcastInDim S1x8x1x1 ![1] bcast_S8_S1x8x1x1_1 (V0 (Proc.devRef .tc main_v139_6)))) : (Proc.devRef .tc main_while0b_v184 : DevRef τ sig).ty.Contents (Elt F)) = Cert.ReferenceIdeal.Step.b38 j s := by
  unfold Cert.ReferenceIdeal.Step.b38
  rw [← al_37 h, h.f_8]
  try rfl
set_option maxRecDepth 8192 in
theorem al_39 (h : Holds V0 s j) : (transpose S1x8x256x64 [0, 1, 3, 2] (mulf (res_main_while0b_v162 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5))))) transposes_S1x8x64x256_S1x8x256x64_0_1_3_2 : (Proc.devRef .tc main_while0b_v185 : DevRef τ sig).ty.Contents (Elt F)) = Cert.ReferenceIdeal.Step.b39 j s := by
  unfold Cert.ReferenceIdeal.Step.b39
  rw [← al_35 h]
  try rfl
set_option maxRecDepth 8192 in
theorem al_40 (h : Holds V0 s j) : (shapeCast S8x256x64 (transpose S1x8x256x64 [0, 1, 3, 2] (mulf (res_main_while0b_v162 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5))))) transposes_S1x8x64x256_S1x8x256x64_0_1_3_2) shapeCasts_S1x8x256x64_S8x256x64 : (Proc.devRef .tc main_while0b_v186 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (shapeCast S8x64x512 (res_main_while0b_v163 V0) shapeCasts_S1x8x64x512_S8x64x512 : (Proc.devRef .tc main_while0b_v187 : DevRef τ sig).ty.Contents (Elt F)) = Cert.ReferenceIdeal.Step.b41 j s := by
  unfold Cert.ReferenceIdeal.Step.b41
  rw [← al_17 h]
  try rfl
set_option maxRecDepth 8192 in
theorem al_42 (h : Holds V0 s j) : (Host.dotGeneral dot_S8x256x64_S8x64x512_S8x256x512_2_1_1_2_0_0 none (shapeCast S8x256x64 (transpose S1x8x256x64 [0, 1, 3, 2] (mulf (res_main_while0b_v162 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5))))) transposes_S1x8x64x256_S1x8x256x64_0_1_3_2) shapeCasts_S1x8x256x64_S8x256x64) (shapeCast S8x64x512 (res_main_while0b_v163 V0) shapeCasts_S1x8x64x512_S8x64x512) : (Proc.devRef .tc main_while0b_v188 : DevRef τ sig).ty.Contents (Elt F)) = Cert.ReferenceIdeal.Step.b42 j s := by
  unfold Cert.ReferenceIdeal.Step.b42
  rw [← al_40 h, ← al_41 h]
  try rfl
set_option maxRecDepth 8192 in
theorem al_43 (h : Holds V0 s j) : (broadcastInDim S1x8x256x512 ![1, 2, 3] bcast_S8x256x512_S1x8x256x512_1_2_3 (Host.dotGeneral dot_S8x256x64_S8x64x512_S8x256x512_2_1_1_2_0_0 none (shapeCast S8x256x64 (transpose S1x8x256x64 [0, 1, 3, 2] (mulf (res_main_while0b_v162 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5))))) transposes_S1x8x64x256_S1x8x256x64_0_1_3_2) shapeCasts_S1x8x256x64_S8x256x64) (shapeCast S8x64x512 (res_main_while0b_v163 V0) shapeCasts_S1x8x64x512_S8x64x512)) : (Proc.devRef .tc main_while0b_v189 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (addf (mulf (V0 (Proc.devRef .tc main_v139_8)) (broadcastInDim S1x8x256x512 ![0, 1, 2, 3] bcast_S1x8x1x1_S1x8x256x512_0_1_2_3 (broadcastInDim S1x8x1x1 ![1] bcast_S8_S1x8x1x1_1 (V0 (Proc.devRef .tc main_v139_6))))) (broadcastInDim S1x8x256x512 ![1, 2, 3] bcast_S8x256x512_S1x8x256x512_1_2_3 (Host.dotGeneral dot_S8x256x64_S8x64x512_S8x256x512_2_1_1_2_0_0 none (shapeCast S8x256x64 (transpose S1x8x256x64 [0, 1, 3, 2] (mulf (res_main_while0b_v162 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5))))) transposes_S1x8x64x256_S1x8x256x64_0_1_3_2) shapeCasts_S1x8x256x64_S8x256x64) (shapeCast S8x64x512 (res_main_while0b_v163 V0) shapeCasts_S1x8x64x512_S8x64x512))) : (Proc.devRef .tc main_while0b_v190 : DevRef τ sig).ty.Contents (Elt F)) = Cert.ReferenceIdeal.Step.b44 j s := by
  unfold Cert.ReferenceIdeal.Step.b44
  rw [← al_38 h, ← al_43 h]
  try rfl
set_option maxRecDepth 8192 in
theorem al_45 (h : Holds V0 s j) : (broadcastInDim S1x1x8x64x512 ![1, 2, 3, 4] bcast_S1x8x64x512_S1x1x8x64x512_1_2_3_4 (addf (broadcastInDim S1x8x64x512 ![1, 2, 3] bcast_S8x64x512_S1x8x64x512_1_2_3 (Host.dotGeneral dot_S8x64x64_S8x64x512_S8x64x512_2_1_1_2_0_0 none (shapeCast S8x64x64 (mulf (Host.dotGeneral dot_S1x8x64x256_S1x8x64x256_S1x8x64x64_3_3_2_2_01_01 none (res_main_while0b_v161 V0) (res_main_while0b_v162 V0)) (broadcastInDim S1x8x64x64 ![1, 2, 3] bcast_S8x64x64_S1x8x64x64_1_2_3 (V0 (Proc.devRef .tc main_v139_3)))) shapeCasts_S1x8x64x64_S8x64x64) (shapeCast S8x64x512 (res_main_while0b_v163 V0) shapeCasts_S1x8x64x512_S8x64x512))) (broadcastInDim S1x8x64x512 ![1, 2, 3] bcast_S8x64x512_S1x8x64x512_1_2_3 (Host.dotGeneral dot_S8x64x256_S8x256x512_S8x64x512_2_1_1_2_0_0 none (shapeCast S8x64x256 (mulf (res_main_while0b_v161 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4))))) shapeCasts_S1x8x64x256_S8x64x256) (shapeCast S8x256x512 (V0 (Proc.devRef .tc main_v139_8)) shapeCasts_S1x8x256x512_S8x256x512)))) : (Proc.devRef .tc main_while0b_call9_v0 : DevRef τ sig).ty.Contents (Elt F)) = Cert.ReferenceIdeal.Step.b45 j s := by
  unfold Cert.ReferenceIdeal.Step.b45
  rw [← al_32 h]
  try rfl
set_option maxRecDepth 8192 in
theorem al_46 (h : Holds V0 s j) : (constantI S_ 32 0#32 : (Proc.devRef .tc main_while0b_call9_c : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call9_c_0 : DevRef τ sig).ty.Contents (Elt F)) = Cert.ReferenceIdeal.Step.b47 j s := by
  unfold Cert.ReferenceIdeal.Step.b47
  rfl
set_option maxRecDepth 8192 in
theorem al_48 (h : Holds V0 s j) : (constantI S_ 32 0#32 : (Proc.devRef .tc main_while0b_call9_c_1 : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call9_c_2 : DevRef τ sig).ty.Contents (Elt F)) = Cert.ReferenceIdeal.Step.b49 j s := by
  unfold Cert.ReferenceIdeal.Step.b49
  rfl
set_option maxRecDepth 8192 in
theorem al_50 (h : Holds V0 s j) : (Host.dynamicUpdateSlice (V0 (Proc.devRef .tc main_v139_9)) (broadcastInDim S1x1x8x64x512 ![1, 2, 3, 4] bcast_S1x8x64x512_S1x1x8x64x512_1_2_3_4 (addf (broadcastInDim S1x8x64x512 ![1, 2, 3] bcast_S8x64x512_S1x8x64x512_1_2_3 (Host.dotGeneral dot_S8x64x64_S8x64x512_S8x64x512_2_1_1_2_0_0 none (shapeCast S8x64x64 (mulf (Host.dotGeneral dot_S1x8x64x256_S1x8x64x256_S1x8x64x64_3_3_2_2_01_01 none (res_main_while0b_v161 V0) (res_main_while0b_v162 V0)) (broadcastInDim S1x8x64x64 ![1, 2, 3] bcast_S8x64x64_S1x8x64x64_1_2_3 (V0 (Proc.devRef .tc main_v139_3)))) shapeCasts_S1x8x64x64_S8x64x64) (shapeCast S8x64x512 (res_main_while0b_v163 V0) shapeCasts_S1x8x64x512_S8x64x512))) (broadcastInDim S1x8x64x512 ![1, 2, 3] bcast_S8x64x512_S1x8x64x512_1_2_3 (Host.dotGeneral dot_S8x64x256_S8x256x512_S8x64x512_2_1_1_2_0_0 none (shapeCast S8x64x256 (mulf (res_main_while0b_v161 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_4))))) shapeCasts_S1x8x64x256_S8x64x256) (shapeCast S8x256x512 (V0 (Proc.devRef .tc main_v139_8)) shapeCasts_S1x8x256x512_S8x256x512))))) (fun k => (((![V0 (Proc.devRef .tc main_v139_7), constantI S_ 32 0#32, constantI S_ 32 0#32, constantI S_ 32 0#32, constantI S_ 32 0#32] : Fin 5 → (⟨S_, .i32⟩ : BufTy).Contents (Elt F))) k (Shape.Idx.first h_S_)).toInt) updateFits_S129x1x8x64x512_S1x1x8x64x512 : (Proc.devRef .tc main_while0b_v191 : DevRef τ sig).ty.Contents (Elt F)) = Cert.ReferenceIdeal.Step.b50 j s := by
  unfold Cert.ReferenceIdeal.Step.b50
  rw [← al_45 h, ← al_46 h, ← al_47 h, ← al_48 h, ← al_49 h, h.f_9, h.n_7]
  try rfl

/-! One trip's step of the carried values is `step`, field by field; a counter steps to the next number. -/

theorem step_8 (h : Holds V0 s j) : step_main_v139_8 V0 = (step j s).main_v139_8 := by
  unfold step_main_v139_8 Cert.ReferenceIdeal.Step.step
  show id (addf (mulf (V0 (Proc.devRef .tc main_v139_8)) (broadcastInDim S1x8x256x512 ![0, 1, 2, 3] bcast_S1x8x1x1_S1x8x256x512_0_1_2_3 (broadcastInDim S1x8x1x1 ![1] bcast_S8_S1x8x1x1_1 (V0 (Proc.devRef .tc main_v139_6))))) (broadcastInDim S1x8x256x512 ![1, 2, 3] bcast_S8x256x512_S1x8x256x512_1_2_3 (Host.dotGeneral dot_S8x256x64_S8x64x512_S8x256x512_2_1_1_2_0_0 none (shapeCast S8x256x64 (transpose S1x8x256x64 [0, 1, 3, 2] (mulf (res_main_while0b_v162 V0) (broadcastInDim S1x8x64x256 ![0, 1, 2, 3] bcast_S1x8x64x1_S1x8x64x256_0_1_2_3 (broadcastInDim S1x8x64x1 ![1, 2] bcast_S8x64_S1x8x64x1_1_2 (V0 (Proc.devRef .tc main_v139_5))))) transposes_S1x8x64x256_S1x8x256x64_0_1_3_2) shapeCasts_S1x8x256x64_S8x256x64) (shapeCast S8x64x512 (res_main_while0b_v163 V0) shapeCasts_S1x8x64x512_S8x64x512)))) = _
  rw [al_44 h]
  try rfl
set_option maxRecDepth 8192 in
theorem step_9 (h : Holds V0 s j) : step_main_v139_9 V0 = (step j s).main_v139_9 := by
  unfold step_main_v139_9 Cert.ReferenceIdeal.Step.step
  exact al_50 h
theorem step_7 (h : Holds V0 s j) : step_main_v139_7 V0 = constantI S_ 32 (BitVec.ofNat 32 (j + 1)) := by
  unfold step_main_v139_7
  rw [h.n_7]
  funext i
  show BitVec.ofNat 32 j + 1#32 = BitVec.ofNat 32 (j + 1)
  simp only [BitVec.ofNat_add]

set_option maxRecDepth 8192 in
theorem out_main_v160_holds (h : Holds V0 s j) {x_main_arg0 : (⟨S8208x12288, .bf16⟩ : BufTy).Contents (Elt F)} (h_main_arg0 : V0 (Proc.devRef .tc main_arg0) = x_main_arg0) : out_main_v160 V0 = Cert.ReferenceIdeal.Step.R_main_v160 s x_main_arg0 := by
  unfold out_main_v160 Cert.ReferenceIdeal.Step.R_main_v160
  rw [h.f_9, h_main_arg0]
  try rfl

/-- One trip keeps the valuation holding: `step` of the state, the same set-up values, the next number. -/
theorem holds_step (h : Holds V0 s j) : Holds (STEP V0) (step j s) (j + 1) where
  f_8 := (STEP_main_v139_8 V0).trans (step_8 h)
  f_9 := (STEP_main_v139_9 V0).trans (step_9 h)
  n_7 := (STEP_main_v139_7 V0).trans (step_7 h)
  k_3 := (STEP_main_v139_3 V0).trans h.k_3
  k_4 := (STEP_main_v139_4 V0).trans h.k_4
  k_5 := (STEP_main_v139_5 V0).trans h.k_5
  k_6 := (STEP_main_v139_6 V0).trans h.k_6
  f_0 := (STEP_main_v139_0 V0).trans h.f_0
  f_1 := (STEP_main_v139_1 V0).trans h.f_1
  f_2 := (STEP_main_v139_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

/-- The argument's contents at launch. -/
theorem launch_arg0 : launchContents m c (Proc.tc.devRef main_arg0) = m ((c.tc : Thread nD τ).loc main_arg0) := rfl

set_option maxRecDepth 65536 in
set_option maxHeartbeats 4000000 in
theorem entry_call0_v15 : upto hostOps0_1 (after hostOps0 (launchContents m c)) 20 (Proc.tc.devRef main_call0_v15) = Step.K_main_call0_v15 (F := F) := by
  after_reads_simp
  simp -implicitDefEqProofs only [TRef.toBuf, TRef.ofBuf, cast_cast, cast_eq, id]
  simp only [Step.K_main_call0_v15, Step.K_main_call0_v11, Step.K_main_call0_v10, Step.K_main_call0_v7, Step.K_main_call0_v0, Step.K_main_cst, Step.K_main_call0_v9, Step.K_main_call0_v8, Step.K_main_call0_cst_1, Step.K_main_call0_v6, Step.K_main_call0_v4, Step.K_main_call0_v5, Step.K_main_call0_cst_0, Step.K_main_call0_v14, Step.K_main_call0_v13, Step.K_main_call0_v12, Step.K_main_call0_v1, Step.K_main_cst_0]
  rfl

set_option maxRecDepth 65536 in
set_option maxHeartbeats 4000000 in
theorem entry_call0_v16 : upto hostOps0_1 (after hostOps0 (launchContents m c)) 20 (Proc.tc.devRef main_call0_v16) = Step.K_main_call0_v16 (F := F) := by
  after_reads_simp
  simp -implicitDefEqProofs only [TRef.toBuf, TRef.ofBuf, cast_cast, cast_eq, id]
  simp only [Step.K_main_call0_v16, Step.K_main_call0_v1, Step.K_main_cst_0]
  rfl

set_option maxRecDepth 65536 in
set_option maxHeartbeats 4000000 in
theorem entry_v38 : upto hostOps0_2 (after hostOps0_1 (after hostOps0 (launchContents m c))) 34 (Proc.tc.devRef main_v38) = Step.A_main_v38 (m ((c.tc : Thread nD τ).loc main_arg0)) := by
  after_reads_simp
  rw [entry_call0_v15, entry_call0_v16]
  rw [launch_arg0]
  simp -implicitDefEqProofs only [TRef.toBuf, TRef.ofBuf, cast_cast, cast_eq, id]
  simp only [Step.A_main_v38, Step.A_main_v30, Step.A_main_v26, Step.A_main_v22, Step.A_main_v6, Step.A_main_v2, Step.A_main_v1, Step.A_main_v0, Step.K_main_v25, Step.K_main_v24, Step.K_main_v19, Step.K_main_v18, Step.K_main_v17, Step.K_main_v15, Step.K_main_v13, Step.K_main_v12, Step.K_main_v5, Step.K_main_v16, Step.K_main_v14, Step.K_main_v11, Step.K_main_v10, Step.K_main_cst_2, Step.K_main_v9, Step.K_main_v8, Step.K_main_cst_1, Step.K_main_v7, Step.A_main_v29, Step.A_main_v23, Step.K_main_v28, Step.K_main_v27, Step.K_main_v21, Step.K_main_v20]
  generalize (m ((c.tc : Thread nD τ).loc main_arg0)) = x
  rfl

set_option maxRecDepth 65536 in
set_option maxHeartbeats 4000000 in
theorem entry_v39 : upto hostOps0_2 (after hostOps0_1 (after hostOps0 (launchContents m c))) 34 (Proc.tc.devRef main_v39) = Step.A_main_v39 (m ((c.tc : Thread nD τ).loc main_arg0)) := by
  after_reads_simp
  rw [entry_call0_v15, entry_call0_v16]
  rw [launch_arg0]
  simp -implicitDefEqProofs only [TRef.toBuf, TRef.ofBuf, cast_cast, cast_eq, id]
  simp only [Step.A_main_v39, Step.A_main_v37, Step.A_main_v33, Step.A_main_v22, Step.A_main_v6, Step.A_main_v2, Step.A_main_v1, Step.A_main_v0, Step.K_main_v32, Step.K_main_v31, Step.K_main_v21, Step.K_main_v20, Step.K_main_v17, Step.K_main_v15, Step.K_main_v13, Step.K_main_v12, Step.K_main_v5, Step.K_main_v16, Step.K_main_v14, Step.K_main_v11, Step.K_main_v10, Step.K_main_cst_2, Step.K_main_v9, Step.K_main_v8, Step.K_main_cst_1, Step.K_main_v7, Step.A_main_v36, Step.A_main_v23, Step.K_main_v35, Step.K_main_v34, Step.K_main_v19, Step.K_main_v18]
  generalize (m ((c.tc : Thread nD τ).loc main_arg0)) = x
  rfl

set_option maxRecDepth 65536 in
set_option maxHeartbeats 4000000 in
theorem entry_call1_v15 : upto hostOps0_3 (after hostOps0_2 (after hostOps0_1 (after hostOps0 (launchContents m c)))) 20 (Proc.tc.devRef main_call1_v15) = Step.K_main_call1_v15 (F := F) := by
  after_reads_simp
  simp -implicitDefEqProofs only [TRef.toBuf, TRef.ofBuf, cast_cast, cast_eq, id]
  simp only [Step.K_main_call1_v15, Step.K_main_call1_v11, Step.K_main_call1_v10, Step.K_main_call1_v7, Step.K_main_call1_v0, Step.K_main_cst_3, Step.K_main_call1_v9, Step.K_main_call1_v8, Step.K_main_call1_cst_1, Step.K_main_call1_v6, Step.K_main_call1_v4, Step.K_main_call1_v5, Step.K_main_call1_cst_0, Step.K_main_call1_v14, Step.K_main_call1_v13, Step.K_main_call1_v12, Step.K_main_call1_v1, Step.K_main_cst_4]
  rfl

set_option maxRecDepth 65536 in
set_option maxHeartbeats 4000000 in
theorem entry_call1_v16 : upto hostOps0_3 (after hostOps0_2 (after hostOps0_1 (after hostOps0 (launchContents m c)))) 20 (Proc.tc.devRef main_call1_v16) = Step.K_main_call1_v16 (F := F) := by
  after_reads_simp
  simp -implicitDefEqProofs only [TRef.toBuf, TRef.ofBuf, cast_cast, cast_eq, id]
  simp only [Step.K_main_call1_v16, Step.K_main_call1_v1, Step.K_main_cst_4]
  rfl

set_option maxRecDepth 65536 in
set_option maxHeartbeats 4000000 in
theorem entry_v74 : upto hostOps0_4 (after hostOps0_3 (after hostOps0_2 (after hostOps0_1 (after hostOps0 (launchContents m c))))) 34 (Proc.tc.devRef main_v74) = Step.A_main_v74 (m ((c.tc : Thread nD τ).loc main_arg0)) := by
  after_reads_simp
  rw [entry_call1_v15, entry_call1_v16]
  rw [launch_arg0]
  simp -implicitDefEqProofs only [TRef.toBuf, TRef.ofBuf, cast_cast, cast_eq, id]
  simp only [Step.A_main_v74, Step.A_main_v66, Step.A_main_v62, Step.A_main_v58, Step.A_main_v42, Step.A_main_v3, Step.A_main_v1, Step.A_main_v0, Step.K_main_v61, Step.K_main_v60, Step.K_main_v55, Step.K_main_v54, Step.K_main_v53, Step.K_main_v51, Step.K_main_v49, Step.K_main_v48, Step.K_main_v5, Step.K_main_v52, Step.K_main_v50, Step.K_main_v47, Step.K_main_v46, Step.K_main_cst_6, Step.K_main_v45, Step.K_main_v44, Step.K_main_cst_5, Step.K_main_v43, Step.A_main_v65, Step.A_main_v59, Step.K_main_v64, Step.K_main_v63, Step.K_main_v57, Step.K_main_v56]
  generalize (m ((c.tc : Thread nD τ).loc main_arg0)) = x
  rfl

set_option maxRecDepth 65536 in
set_option maxHeartbeats 4000000 in
theorem entry_v75 : upto hostOps0_4 (after hostOps0_3 (after hostOps0_2 (after hostOps0_1 (after hostOps0 (launchContents m c))))) 34 (Proc.tc.devRef main_v75) = Step.A_main_v75 (m ((c.tc : Thread nD τ).loc main_arg0)) := by
  after_reads_simp
  rw [entry_call1_v15, entry_call1_v16]
  rw [launch_arg0]
  simp -implicitDefEqProofs only [TRef.toBuf, TRef.ofBuf, cast_cast, cast_eq, id]
  simp only [Step.A_main_v75, Step.A_main_v73, Step.A_main_v69, Step.A_main_v58, Step.A_main_v42, Step.A_main_v3, Step.A_main_v1, Step.A_main_v0, Step.K_main_v68, Step.K_main_v67, Step.K_main_v57, Step.K_main_v56, Step.K_main_v53, Step.K_main_v51, Step.K_main_v49, Step.K_main_v48, Step.K_main_v5, Step.K_main_v52, Step.K_main_v50, Step.K_main_v47, Step.K_main_v46, Step.K_main_cst_6, Step.K_main_v45, Step.K_main_v44, Step.K_main_cst_5, Step.K_main_v43, Step.A_main_v72, Step.A_main_v59, Step.K_main_v71, Step.K_main_v70, Step.K_main_v55, Step.K_main_v54]
  generalize (m ((c.tc : Thread nD τ).loc main_arg0)) = x
  rfl

set_option maxRecDepth 65536 in
set_option maxHeartbeats 4000000 in
theorem entry_f_8 : entryContents preI m c (Proc.devRef .tc main_v139_8) = (initState m c).main_v139_8 := by
  simp only [entryContents, afterL_cons, afterL_nil]; after_reads_simp
  rfl
set_option maxRecDepth 65536 in
set_option maxHeartbeats 4000000 in
theorem entry_f_9 : entryContents preI m c (Proc.devRef .tc main_v139_9) = (initState m c).main_v139_9 := by
  simp only [entryContents, afterL_cons, afterL_nil]; after_reads_simp
  rfl
set_option maxRecDepth 65536 in
set_option maxHeartbeats 4000000 in
theorem entry_f_0 : entryContents preI m c (Proc.devRef .tc main_v139_0) = (initState m c).main_v139_0 := by
  simp only [entryContents, afterL_cons, afterL_nil]; after_reads_simp
  rw [entry_v38, entry_v39]
  simp -implicitDefEqProofs only [TRef.toBuf, TRef.ofBuf, cast_cast, cast_eq, id]
  simp only [initState, init, Step.A_main_v135, Step.A_main_v83, Step.A_main_v82, Step.A_main_v81, Step.A_main_v41, Step.A_main_v40, Step.K_main_call2_v0, Step.K_main_c]
  rfl
set_option maxRecDepth 65536 in
set_option maxHeartbeats 4000000 in
theorem entry_f_1 : entryContents preI m c (Proc.devRef .tc main_v139_1) = (initState m c).main_v139_1 := by
  simp only [entryContents, afterL_cons, afterL_nil]; after_reads_simp
  rw [entry_v74, entry_v75]
  simp -implicitDefEqProofs only [TRef.toBuf, TRef.ofBuf, cast_cast, cast_eq, id]
  simp only [initState, init, Step.A_main_v136, Step.A_main_v86, Step.A_main_v85, Step.A_main_v84, Step.A_main_v79, Step.A_main_v77, Step.A_main_v76, Step.K_main_v78, Step.K_main_cst_7, Step.K_main_call3_v0, Step.K_main_c_8]
  rfl
set_option maxRecDepth 65536 in
set_option maxHeartbeats 4000000 in
theorem entry_f_2 : entryContents preI m c (Proc.devRef .tc main_v139_2) = (initState m c).main_v139_2 := by
  simp only [entryContents, afterL_cons, afterL_nil]; after_reads_simp
  rw [launch_arg0]
  simp -implicitDefEqProofs only [TRef.toBuf, TRef.ofBuf, cast_cast, cast_eq, id]
  simp only [initState, init, Step.A_main_v137, Step.A_main_v89, Step.A_main_v88, Step.A_main_v87, Step.A_main_v80, Step.A_main_v4, Step.A_main_v1, Step.A_main_v0, Step.K_main_call4_v0, Step.K_main_c_9]
  generalize (m ((c.tc : Thread nD τ).loc main_arg0)) = x
  rfl
set_option maxRecDepth 65536 in
set_option maxHeartbeats 4000000 in
theorem entry_n_7 : entryContents preI m c (Proc.devRef .tc main_v139_7) = constantI S_ 32 (BitVec.ofNat 32 0) := by
  simp only [entryContents, afterL_cons, afterL_nil]; after_reads_simp
  rfl
set_option maxRecDepth 65536 in
set_option maxHeartbeats 4000000 in
theorem entry_k_3 : entryContents preI m c (Proc.devRef .tc main_v139_3) = Cert.ReferenceIdeal.Step.K_main_v114 (F := F) := by
  simp only [entryContents, afterL_cons, afterL_nil]; after_reads_simp
  rfl
set_option maxRecDepth 65536 in
set_option maxHeartbeats 4000000 in
theorem entry_k_4 : entryContents preI m c (Proc.devRef .tc main_v139_4) = Cert.ReferenceIdeal.Step.K_main_v122 (F := F) := by
  simp only [entryContents, afterL_cons, afterL_nil]; after_reads_simp
  rfl
set_option maxRecDepth 65536 in
set_option maxHeartbeats 4000000 in
theorem entry_k_5 : entryContents preI m c (Proc.devRef .tc main_v139_5) = Cert.ReferenceIdeal.Step.K_main_v130 (F := F) := by
  simp only [entryContents, afterL_cons, afterL_nil]; after_reads_simp
  rfl
set_option maxRecDepth 65536 in
set_option maxHeartbeats 4000000 in
theorem entry_k_6 : entryContents preI m c (Proc.devRef .tc main_v139_6) = Cert.ReferenceIdeal.Step.K_main_v133 (F := F) := by
  simp only [entryContents, afterL_cons, afterL_nil]; after_reads_simp
  rfl

/-- What @main's operations before the loop leave: the set-up values, number 0, the initial state. -/
theorem entry_holds : Holds (entryContents preI m c) (initState m c) 0 where
  f_8 := entry_f_8 m c
  f_9 := entry_f_9 m c
  f_0 := entry_f_0 m c
  f_1 := entry_f_1 m c
  f_2 := entry_f_2 m c
  n_7 := entry_n_7 m c
  k_3 := entry_k_3 m c
  k_4 := entry_k_4 m c
  k_5 := entry_k_5 m c
  k_6 := entry_k_6 m c

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 129 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v160) = Cert.ReferenceIdeal.Step.R_main_v160 (it c 129) (m ((c.tc : Thread nD τ).loc main_arg0))
      ∧ r.2.mem ((c.tc : Thread nD τ).loc main_arg0) = m ((c.tc : Thread nD τ).loc main_arg0) :=
  (θ_run defs _ _).mono (fun _ h c =>
    have hk := holds_iter m c (it c) (h0 c) (hs c) 129
    ⟨(h c).1.trans (out_main_v160_holds hk (iter_main_arg0 m c 129)), (h c).2⟩) (Value.run m ρ)

end Cert.ReferenceIdeal.RRun

end
-- ==== Proof.Products.lean ====
/-
  The entry of a product of a matrix with one matrix of a stack, which the projections and the feed-forward calls compute.
-/
module

public import Idealize.ShloMosaic.Lib.Pointwise
public import Idealize.ShloMosaic.PureOps.Ideal

@[expose] public section

noncomputable section

namespace Cert.Products

open Idealize.ShloMosaic Idealize.ShloMosaic.Pointwise

/-- Row `p` of `a` times column `q` of matrix `l` of the stack `w`. -/
def entry {R K N L : ℕ} (a : (⟨2, ![R, K]⟩ : Shape).Idx → EReal) (w : (⟨3, ![L, K, N]⟩ : Shape).Idx → EReal) (l : Fin L) (p : Fin R) (q : Fin N) : EReal :=
  ∑ k : Fin K, a (ix2 p k) * w (ix3 l k q)

/-- The entry of the first product through its own logistic, times the entry of the second. -/
def gated {R K N L : ℕ} (a : (⟨2, ![R, K]⟩ : Shape).Idx → EReal) (wg wu : (⟨3, ![L, K, N]⟩ : Shape).Idx → EReal) (l : Fin L) (p : Fin R) (q : Fin N) : EReal :=
  entry a wg l p q * Ideal.logistic (entry a wg l p q) * entry a wu l p q

theorem zeros2 : (![0, 0] : Fin 2 → Nat) = fun _ => 0 := funext fun a => by fin_cases a <;> rfl

/-- A function of two indices at each pair is the function. -/
theorem ext2 {R N : ℕ} (f g : (⟨2, ![R, N]⟩ : Shape).Idx → EReal) (h : ∀ p q, f (ix2 p q) = g (ix2 p q)) : f = g :=
  funext fun i => by rw [← ix2_eta i]; exact h _ _

/-- A place in a block, on an axis, from the block's index there. -/
theorem at_block {z a n x y : ℕ} (h : z = a) (e : a * n + x = y) : z * n + 1 * x = y := by rw [h, one_mul, e]

/-- A place in the first block. -/
theorem at_first {z n x : ℕ} (h : z = 0) : z * n + 1 * x = x := at_block h (by rw [zero_mul, zero_add])

end Cert.Products

end
-- ==== Proof.Act0.lean ====
/-
  The first layer's gate and up products: the kernel's result and the reference's, each at every row and column as the
  gate's entry through its own logistic times the up product's entry.
-/
module

public import proofs.«01_k».proof.Defs
public import proofs.«01_k».proof.Proof.Products
public import proofs.«01_k».proof.Proof.Gen.FfnAct0Ideal.Value
public import proofs.«01_k».proof.Proof.Gen.FfnAct0ReferenceIdeal.Run
public import Idealize.ShloMosaic.Lib.Quiescent

@[expose] public section

set_option maxRecDepth 16384

noncomputable section

namespace Cert.Act0

open Idealize.ShloMosaic Idealize.ShloMosaic.Pointwise Idealize.ShloMosaic.TcCoe Idealize.SL.Sem Cert.Products

section
open Cert.FfnAct0Ideal Cert.FfnAct0Ideal.Gen

/-- A point's block. -/
theorem block (x0 : Vec Ideal S1408x2048 .bf16) (x1 x2 : Vec Ideal S1x2048x512 .f32) (i : Fin 1408) (j : Fin 512) :
    (out0_3 (F := Ideal) x0 x1 x2 (ix2 i j) : EReal) = gated x0 x1 x2 (0 : Fin 1) i j := by
  unfold out0_3
  rw [View.canon_unit_zero (S := S1408x512) zeros2]
  unfold k0_pay1 gated entry
  pointwise

/-- Which block each window is at, at every point; every point writes its block back. -/
theorem idxs : ∀ t : Fin cfg0.N,
    (win0_0.index t (0 : Fin 2) = t.val / 11 ∧ win0_0.index t (1 : Fin 2) = 0)
    ∧ (win0_1.index t (0 : Fin 3) = 0 ∧ win0_1.index t (1 : Fin 3) = 0 ∧ win0_1.index t (2 : Fin 3) = t.val % 11)
    ∧ (win0_2.index t (0 : Fin 3) = 0 ∧ win0_2.index t (1 : Fin 3) = 0 ∧ win0_2.index t (2 : Fin 3) = t.val % 11)
    ∧ (win0_3.index t (0 : Fin 2) = t.val / 11 ∧ win0_3.index t (1 : Fin 2) = t.val % 11)
    ∧ win0_3.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 1408) (k : Fin 2048) (p : Fin 8448) (hp : t.val / 11 * 1408 + i.val = p.val) :
    (iblk m c 0 t : Vec Ideal S1408x2048 .bf16) (ix2 i k) = m ((c : Thread nD τ).loc main_arg0) (ix2 p k) := by
  show V m c main_arg0 (((cfg0.win 0).blk t).view.emb (ix2 i k)) = _
  congr 1; funext a; apply Fin.ext
  match a with
  | ⟨0, _⟩ => show win0_0.index t (0 : Fin 2) * 1408 + 1 * i.val = p.val; exact at_block (idxs t).1.1 hp
  | ⟨1, _⟩ => show win0_0.index t (1 : Fin 2) * 2048 + 1 * k.val = k.val; exact at_first (idxs t).1.2

/-- The columns a point reads. -/
theorem columns (t : Fin cfg0.N) (k : Fin 2048) (j : Fin 512) (q : Fin 5632) (hq : t.val % 11 * 512 + j.val = q.val) :
    (iblk m c 1 t : Vec Ideal S1x2048x512 .f32) (ix3 (0 : Fin 1) k j) = m ((c : Thread nD τ).loc main_arg1) (ix3 (0 : Fin 2) k q) := by
  show V m c main_arg1 (((cfg0.win 1).blk t).view.emb (ix3 (0 : Fin 1) k j)) = _
  congr 1; funext a; apply Fin.ext
  match a with
  | ⟨0, _⟩ => show win0_1.index t (0 : Fin 3) * 1 + 1 * 0 = 0; exact at_block (idxs t).2.1.1 rfl
  | ⟨1, _⟩ => show win0_1.index t (1 : Fin 3) * 2048 + 1 * k.val = k.val; exact at_first (idxs t).2.1.2.1
  | ⟨2, _⟩ => show win0_1.index t (2 : Fin 3) * 512 + 1 * j.val = q.val; exact at_block (idxs t).2.1.2.2 hq

/-- The second stack's columns a point reads. -/
theorem columns_up (t : Fin cfg0.N) (k : Fin 2048) (j : Fin 512) (q : Fin 5632) (hq : t.val % 11 * 512 + j.val = q.val) :
    (iblk m c 2 t : Vec Ideal S1x2048x512 .f32) (ix3 (0 : Fin 1) k j) = m ((c : Thread nD τ).loc main_arg2) (ix3 (0 : Fin 2) k q) := by
  show V m c main_arg2 (((cfg0.win 2).blk t).view.emb (ix3 (0 : Fin 1) k j)) = _
  congr 1; funext a; apply Fin.ext
  match a with
  | ⟨0, _⟩ => show win0_2.index t (0 : Fin 3) * 1 + 1 * 0 = 0; exact at_block (idxs t).2.2.1.1 rfl
  | ⟨1, _⟩ => show win0_2.index t (1 : Fin 3) * 2048 + 1 * k.val = k.val; exact at_first (idxs t).2.2.1.2.1
  | ⟨2, _⟩ => show win0_2.index t (2 : Fin 3) * 512 + 1 * j.val = q.val; exact at_block (idxs t).2.2.1.2.2 hq

/-- The kernel's array after the run. -/
theorem kernel_entry (p : Fin 8448) (q : Fin 5632) :
    ((dats m 0 c).arrAt 3 cfg0.N (ix2 p q) : EReal)
      = gated (m ((c : Thread nD τ).loc main_arg0)) (m ((c : Thread nD τ).loc main_arg1)) (m ((c : Thread nD τ).loc main_arg2)) (0 : Fin 2) p q := by
  have hp := p.isLt; have hq := q.isLt
  have hN : p.val / 1408 * 11 + q.val / 512 < cfg0.N := lt_of_lt_of_eq (by omega) N_0.symm
  have hb := congrFun ((Value.blocks3 m c ⟨p.val / 1408 * 11 + q.val / 512, hN⟩ (idxs _).2.2.2.2).trans (Value.flushed3 m c _))
    (ix2 (⟨p.val % 1408, by omega⟩ : Fin 1408) (⟨q.val % 512, by omega⟩ : Fin 512))
  have e : ((cfg0.win 3).blk ⟨p.val / 1408 * 11 + q.val / 512, hN⟩).view.emb (ix2 (⟨p.val % 1408, by omega⟩ : Fin 1408) (⟨q.val % 512, by omega⟩ : Fin 512))
      = ix2 p q := by
    funext a; apply Fin.ext
    match a with
    | ⟨0, _⟩ => show win0_3.index _ (0 : Fin 2) * 1408 + 1 * (p.val % 1408) = p.val; exact at_block (idxs _).2.2.2.1.1 (by dsimp only; omega)
    | ⟨1, _⟩ => show win0_3.index _ (1 : Fin 2) * 512 + 1 * (q.val % 512) = q.val; exact at_block (idxs _).2.2.2.1.2 (by dsimp only; omega)
  have h1 : ((dats m 0 c).arrAt 3 cfg0.N (ix2 p q) : EReal)
      = out0_3 (F := Ideal) (iblk m c 0 ⟨p.val / 1408 * 11 + q.val / 512, hN⟩) (iblk m c 1 ⟨p.val / 1408 * 11 + q.val / 512, hN⟩)
        (iblk m c 2 ⟨p.val / 1408 * 11 + q.val / 512, hN⟩) (ix2 (⟨p.val % 1408, by omega⟩ : Fin 1408) (⟨q.val % 512, by omega⟩ : Fin 512)) :=
    (congrArg ((dats m 0 c).arrAt 3 cfg0.N) e).symm.trans hb
  refine h1.trans ((block _ _ _ _ _).trans ?_)
  have eg : entry (iblk m c 0 ⟨p.val / 1408 * 11 + q.val / 512, hN⟩ : Vec Ideal S1408x2048 .bf16) (iblk m c 1 ⟨p.val / 1408 * 11 + q.val / 512, hN⟩ : Vec Ideal S1x2048x512 .f32)
      (0 : Fin 1) (⟨p.val % 1408, by omega⟩ : Fin 1408) (⟨q.val % 512, by omega⟩ : Fin 512)
      = entry (m ((c : Thread nD τ).loc main_arg0)) (m ((c : Thread nD τ).loc main_arg1)) (0 : Fin 2) p q :=
    Finset.sum_congr rfl fun k _ => by
      rw [rows m c _ _ k p (by dsimp only; omega), columns m c _ k _ q (by dsimp only; omega)]
  have eu : entry (iblk m c 0 ⟨p.val / 1408 * 11 + q.val / 512, hN⟩ : Vec Ideal S1408x2048 .bf16) (iblk m c 2 ⟨p.val / 1408 * 11 + q.val / 512, hN⟩ : Vec Ideal S1x2048x512 .f32)
      (0 : Fin 1) (⟨p.val % 1408, by omega⟩ : Fin 1408) (⟨q.val % 512, by omega⟩ : Fin 512)
      = entry (m ((c : Thread nD τ).loc main_arg0)) (m ((c : Thread nD τ).loc main_arg2)) (0 : Fin 2) p q :=
    Finset.sum_congr rfl fun k _ => by
      rw [rows m c _ _ k p (by dsimp only; omega), columns_up m c _ k _ q (by dsimp only; omega)]
  exact congrArg₂ (fun x y : EReal => x * Ideal.logistic x * y) eg eu

end

section
open Cert.FfnAct0ReferenceIdeal Cert.FfnAct0ReferenceIdeal.Gen

/-- One of the reference's products. -/
abbrev prod (a : FVec Ideal S8448x2048 .bf16) (w : FVec Ideal S2x2048x5632 .f32) : FVec Ideal S8448x5632 .f32 :=
  Host.dotGeneral dot_S8448x2048_S2048x5632_S8448x5632_1_0_0_1_n_n none (extf .f32 a bitsLt_bf16_f32)
      (shapeCast _ (extractStridedSlice S1x2048x5632 ![0, 0, 0] w slices_S2x2048x5632_S1x2048x5632_0_0_0) shapeCasts_S1x2048x5632_S2048x5632)

theorem prod_entry (a : FVec Ideal S8448x2048 .bf16) (w : FVec Ideal S2x2048x5632 .f32) (p : Fin 8448) (q : Fin 5632) :
    (prod a w (ix2 p q) : EReal) = entry a w (0 : Fin 2) p q := by
  unfold prod entry
  pointwise

theorem act_entry (g u : FVec Ideal S8448x5632 .f32) (p : Fin 8448) (q : Fin 5632) :
    (truncf .bf16 (mulf (mulf g (Host.divf (broadcastInDim S8448x5632 ![] bcast_S_S8448x5632 (constant S_ .f32 0x3F800000#32))
      (addf (broadcastInDim S8448x5632 ![] bcast_S_S8448x5632 (constant S_ .f32 0x3F800000#32)) (Host.exp (Host.negf g))))) u)
      bitsLt_bf16_f32 (ix2 p q) : EReal) = g (ix2 p q) * Ideal.logistic (g (ix2 p q)) * u (ix2 p q) := by
  unfold Ideal.logistic
  pointwise

/-- The reference's result. -/
theorem reference_entry (a : FVec Ideal S8448x2048 .bf16) (wg wu : FVec Ideal S2x2048x5632 .f32) (p : Fin 8448) (q : Fin 5632) :
    (truncf .bf16 (mulf (mulf (prod a wg) (Host.divf (broadcastInDim S8448x5632 ![] bcast_S_S8448x5632 (constant S_ .f32 0x3F800000#32))
      (addf (broadcastInDim S8448x5632 ![] bcast_S_S8448x5632 (constant S_ .f32 0x3F800000#32)) (Host.exp (Host.negf (prod a wg)))))) (prod a wu))
      bitsLt_bf16_f32 (ix2 p q) : EReal) = gated a wg wu (0 : Fin 2) p q :=
  (act_entry _ _ p q).trans (congrArg₂ (fun x y : EReal => x * Ideal.logistic x * y) (prod_entry a wg p q) (prod_entry a wu p q))

/-- The reference runs and leaves its arguments and every semaphore as they were. -/
theorem reference_frame : quiescent_FfnAct0ReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_FfnAct0Ideal_FfnAct0ReferenceIdeal := by
  intro m g m' g' _ ha
  refine ⟨fun c => (Cert.FfnAct0Ideal.Gen.dats m 0 c).arrAt 3 Cert.FfnAct0Ideal.cfg0.N, Cert.FfnAct0Ideal.Value.run_blocks m g, ?_⟩
  refine (θ_run Cert.FfnAct0ReferenceIdeal.defs _ _).mono (fun r h c => ⟨(h c).1.trans ?_, (h c).2⟩)
    (Cert.FfnAct0ReferenceIdeal.Value.run (F := Ideal) m' g')
  rw [(ha c).1, (ha c).2.1, (ha c).2.2]
  exact ext2 _ _ fun p q => (reference_entry _ _ _ p q).trans (kernel_entry m c p q).symm

end Cert.Act0

end
-- ==== Proof.Down0.lean ====
/-
  The first layer's product down: the kernel's result and the reference's, each at every row and column as the sum of
  products of that row and that column.
-/
module

public import proofs.«01_k».proof.Defs
public import proofs.«01_k».proof.Proof.Products
public import proofs.«01_k».proof.Proof.Gen.FfnDown0Ideal.Value
public import proofs.«01_k».proof.Proof.Gen.FfnDown0ReferenceIdeal.Run
public import Idealize.ShloMosaic.Lib.Quiescent

@[expose] public section

set_option maxRecDepth 16384

noncomputable section

namespace Cert.Down0

open Idealize.ShloMosaic Idealize.ShloMosaic.Pointwise Idealize.ShloMosaic.TcCoe Idealize.SL.Sem Cert.Products

section
open Cert.FfnDown0Ideal Cert.FfnDown0Ideal.Gen

/-- A point's block. -/
theorem block (x0 : Vec Ideal S768x5632 .bf16) (x1 : Vec Ideal S1x5632x512 .f32) (i : Fin 768) (j : Fin 512) :
    (out0_2 (F := Ideal) x0 x1 (ix2 i j) : EReal) = ∑ k : Fin 5632, (x0 (ix2 i k) : EReal) * x1 (ix3 (0 : Fin 1) k j) := by
  unfold out0_2
  rw [View.canon_unit_zero (S := S768x512) zeros2]
  unfold k0_pay1
  pointwise

/-- Which block each window is at, at every point; every point writes its block back. -/
theorem idxs : ∀ t : Fin cfg0.N,
    (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4)
    ∧ win0_2.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 768) (k : Fin 5632) (p : Fin 8448) (hp : t.val / 4 * 768 + i.val = p.val) :
    (iblk m c 0 t : Vec Ideal S768x5632 .bf16) (ix2 i k) = m ((c : Thread nD τ).loc main_arg0) (ix2 p k) := by
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 5632 + 1 * k.val = k.val; exact at_first (idxs t).1.2

/-- The columns a point reads. -/
theorem columns (t : Fin cfg0.N) (k : Fin 5632) (j : Fin 512) (q : Fin 2048) (hq : t.val % 4 * 512 + j.val = q.val) :
    (iblk m c 1 t : Vec Ideal S1x5632x512 .f32) (ix3 (0 : Fin 1) k j) = m ((c : Thread nD τ).loc main_arg1) (ix3 (0 : Fin 2) k q) := by
  show V m c main_arg1 (((cfg0.win 1).blk t).view.emb (ix3 (0 : Fin 1) k j)) = _
  congr 1; funext a; apply Fin.ext
  match a with
  | ⟨0, _⟩ => show win0_1.index t (0 : Fin 3) * 1 + 1 * 0 = 0; exact at_block (idxs t).2.1.1 rfl
  | ⟨1, _⟩ => show win0_1.index t (1 : Fin 3) * 5632 + 1 * k.val = k.val; exact at_first (idxs t).2.1.2.1
  | ⟨2, _⟩ => show win0_1.index t (2 : Fin 3) * 512 + 1 * j.val = q.val; exact at_block (idxs t).2.1.2.2 hq

/-- The kernel's array after the run. -/
theorem kernel_entry (p : Fin 8448) (q : Fin 2048) :
    ((dats m 0 c).arrAt 2 cfg0.N (ix2 p q) : EReal)
      = entry (m ((c : Thread nD τ).loc main_arg0)) (m ((c : Thread nD τ).loc main_arg1)) (0 : Fin 2) p q := by
  have hp := p.isLt; have hq := q.isLt
  have hN : p.val / 768 * 4 + q.val / 512 < cfg0.N := lt_of_lt_of_eq (by omega) N_0.symm
  have hb := congrFun ((Value.blocks2 m c ⟨p.val / 768 * 4 + q.val / 512, hN⟩ (idxs _).2.2.2).trans (Value.flushed2 m c _))
    (ix2 (⟨p.val % 768, by omega⟩ : Fin 768) (⟨q.val % 512, by omega⟩ : Fin 512))
  have e : ((cfg0.win 2).blk ⟨p.val / 768 * 4 + q.val / 512, hN⟩).view.emb (ix2 (⟨p.val % 768, by omega⟩ : Fin 768) (⟨q.val % 512, by omega⟩ : Fin 512))
      = ix2 p q := by
    funext a; apply Fin.ext
    match a with
    | ⟨0, _⟩ => show win0_2.index _ (0 : Fin 2) * 768 + 1 * (p.val % 768) = p.val; exact at_block (idxs _).2.2.1.1 (by dsimp only; omega)
    | ⟨1, _⟩ => show win0_2.index _ (1 : Fin 2) * 512 + 1 * (q.val % 512) = q.val; exact at_block (idxs _).2.2.1.2 (by dsimp only; omega)
  have h1 : ((dats m 0 c).arrAt 2 cfg0.N (ix2 p q) : EReal)
      = out0_2 (F := Ideal) (iblk m c 0 ⟨p.val / 768 * 4 + q.val / 512, hN⟩) (iblk m c 1 ⟨p.val / 768 * 4 + q.val / 512, hN⟩)
        (ix2 (⟨p.val % 768, by omega⟩ : Fin 768) (⟨q.val % 512, by omega⟩ : Fin 512)) :=
    (congrArg ((dats m 0 c).arrAt 2 cfg0.N) e).symm.trans hb
  refine h1.trans ((block _ _ _ _).trans ?_)
  unfold entry
  refine Finset.sum_congr rfl fun k _ => ?_
  rw [rows m c _ _ k p (by dsimp only; omega), columns m c _ k _ q (by dsimp only; omega)]

end

section
open Cert.FfnDown0ReferenceIdeal Cert.FfnDown0ReferenceIdeal.Gen

/-- The reference's result. -/
theorem reference_entry (a : FVec Ideal S8448x5632 .bf16) (w : FVec Ideal S2x5632x2048 .f32) (p : Fin 8448) (q : Fin 2048) :
    (truncf .bf16 (Host.dotGeneral dot_S8448x5632_S5632x2048_S8448x2048_1_0_0_1_n_n none (extf .f32 a bitsLt_bf16_f32)
      (shapeCast _ (extractStridedSlice S1x5632x2048 ![0, 0, 0] w slices_S2x5632x2048_S1x5632x2048_0_0_0) shapeCasts_S1x5632x2048_S5632x2048))
      bitsLt_bf16_f32 (ix2 p q) : EReal) = entry a w (0 : Fin 2) p q := by
  unfold entry
  pointwise

/-- The reference runs and leaves its arguments and every semaphore as they were. -/
theorem reference_frame : quiescent_FfnDown0ReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_FfnDown0Ideal_FfnDown0ReferenceIdeal := by
  intro m g m' g' _ ha
  refine ⟨fun c => (Cert.FfnDown0Ideal.Gen.dats m 0 c).arrAt 2 Cert.FfnDown0Ideal.cfg0.N, Cert.FfnDown0Ideal.Value.run_blocks m g, ?_⟩
  refine (θ_run Cert.FfnDown0ReferenceIdeal.defs _ _).mono (fun r h c => ⟨(h c).1.trans ?_, (h c).2⟩)
    (Cert.FfnDown0ReferenceIdeal.Value.run (F := Ideal) m' g')
  rw [(ha c).1, (ha c).2]
  exact ext2 _ _ fun p q => (reference_entry _ _ p q).trans (kernel_entry m c p q).symm

end Cert.Down0

end
-- ==== Proof.Act1.lean ====
/-
  The second layer's gate and up products: the kernel's result and the reference's, each at every row and column as the
  gate's entry through its own logistic times the up product's entry.
-/
module

public import proofs.«01_k».proof.Defs
public import proofs.«01_k».proof.Proof.Products
public import proofs.«01_k».proof.Proof.Gen.FfnAct1Ideal.Value
public import proofs.«01_k».proof.Proof.Gen.FfnAct1ReferenceIdeal.Run
public import Idealize.ShloMosaic.Lib.Quiescent

@[expose] public section

set_option maxRecDepth 16384

noncomputable section

namespace Cert.Act1

open Idealize.ShloMosaic Idealize.ShloMosaic.Pointwise Idealize.ShloMosaic.TcCoe Idealize.SL.Sem Cert.Products

section
open Cert.FfnAct1Ideal Cert.FfnAct1Ideal.Gen

/-- A point's block. -/
theorem block (x0 : Vec Ideal S1408x2048 .bf16) (x1 x2 : Vec Ideal S1x2048x512 .f32) (i : Fin 1408) (j : Fin 512) :
    (out0_3 (F := Ideal) x0 x1 x2 (ix2 i j) : EReal) = gated x0 x1 x2 (0 : Fin 1) i j := by
  unfold out0_3
  rw [View.canon_unit_zero (S := S1408x512) zeros2]
  unfold k0_pay1 gated entry
  pointwise

/-- Which block each window is at, at every point; every point writes its block back. -/
theorem idxs : ∀ t : Fin cfg0.N,
    (win0_0.index t (0 : Fin 2) = t.val / 11 ∧ win0_0.index t (1 : Fin 2) = 0)
    ∧ (win0_1.index t (0 : Fin 3) = 1 ∧ win0_1.index t (1 : Fin 3) = 0 ∧ win0_1.index t (2 : Fin 3) = t.val % 11)
    ∧ (win0_2.index t (0 : Fin 3) = 1 ∧ win0_2.index t (1 : Fin 3) = 0 ∧ win0_2.index t (2 : Fin 3) = t.val % 11)
    ∧ (win0_3.index t (0 : Fin 2) = t.val / 11 ∧ win0_3.index t (1 : Fin 2) = t.val % 11)
    ∧ win0_3.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 1408) (k : Fin 2048) (p : Fin 8448) (hp : t.val / 11 * 1408 + i.val = p.val) :
    (iblk m c 0 t : Vec Ideal S1408x2048 .bf16) (ix2 i k) = m ((c : Thread nD τ).loc main_arg0) (ix2 p k) := by
  show V m c main_arg0 (((cfg0.win 0).blk t).view.emb (ix2 i k)) = _
  congr 1; funext a; apply Fin.ext
  match a with
  | ⟨0, _⟩ => show win0_0.index t (0 : Fin 2) * 1408 + 1 * i.val = p.val; exact at_block (idxs t).1.1 hp
  | ⟨1, _⟩ => show win0_0.index t (1 : Fin 2) * 2048 + 1 * k.val = k.val; exact at_first (idxs t).1.2

/-- The columns a point reads. -/
theorem columns (t : Fin cfg0.N) (k : Fin 2048) (j : Fin 512) (q : Fin 5632) (hq : t.val % 11 * 512 + j.val = q.val) :
    (iblk m c 1 t : Vec Ideal S1x2048x512 .f32) (ix3 (0 : Fin 1) k j) = m ((c : Thread nD τ).loc main_arg1) (ix3 (1 : Fin 2) k q) := by
  show V m c main_arg1 (((cfg0.win 1).blk t).view.emb (ix3 (0 : Fin 1) k j)) = _
  congr 1; funext a; apply Fin.ext
  match a with
  | ⟨0, _⟩ => show win0_1.index t (0 : Fin 3) * 1 + 1 * 0 = 1; exact at_block (idxs t).2.1.1 rfl
  | ⟨1, _⟩ => show win0_1.index t (1 : Fin 3) * 2048 + 1 * k.val = k.val; exact at_first (idxs t).2.1.2.1
  | ⟨2, _⟩ => show win0_1.index t (2 : Fin 3) * 512 + 1 * j.val = q.val; exact at_block (idxs t).2.1.2.2 hq

/-- The second stack's columns a point reads. -/
theorem columns_up (t : Fin cfg0.N) (k : Fin 2048) (j : Fin 512) (q : Fin 5632) (hq : t.val % 11 * 512 + j.val = q.val) :
    (iblk m c 2 t : Vec Ideal S1x2048x512 .f32) (ix3 (0 : Fin 1) k j) = m ((c : Thread nD τ).loc main_arg2) (ix3 (1 : Fin 2) k q) := by
  show V m c main_arg2 (((cfg0.win 2).blk t).view.emb (ix3 (0 : Fin 1) k j)) = _
  congr 1; funext a; apply Fin.ext
  match a with
  | ⟨0, _⟩ => show win0_2.index t (0 : Fin 3) * 1 + 1 * 0 = 1; exact at_block (idxs t).2.2.1.1 rfl
  | ⟨1, _⟩ => show win0_2.index t (1 : Fin 3) * 2048 + 1 * k.val = k.val; exact at_first (idxs t).2.2.1.2.1
  | ⟨2, _⟩ => show win0_2.index t (2 : Fin 3) * 512 + 1 * j.val = q.val; exact at_block (idxs t).2.2.1.2.2 hq

/-- The kernel's array after the run. -/
theorem kernel_entry (p : Fin 8448) (q : Fin 5632) :
    ((dats m 0 c).arrAt 3 cfg0.N (ix2 p q) : EReal)
      = gated (m ((c : Thread nD τ).loc main_arg0)) (m ((c : Thread nD τ).loc main_arg1)) (m ((c : Thread nD τ).loc main_arg2)) (1 : Fin 2) p q := by
  have hp := p.isLt; have hq := q.isLt
  have hN : p.val / 1408 * 11 + q.val / 512 < cfg0.N := lt_of_lt_of_eq (by omega) N_0.symm
  have hb := congrFun ((Value.blocks3 m c ⟨p.val / 1408 * 11 + q.val / 512, hN⟩ (idxs _).2.2.2.2).trans (Value.flushed3 m c _))
    (ix2 (⟨p.val % 1408, by omega⟩ : Fin 1408) (⟨q.val % 512, by omega⟩ : Fin 512))
  have e : ((cfg0.win 3).blk ⟨p.val / 1408 * 11 + q.val / 512, hN⟩).view.emb (ix2 (⟨p.val % 1408, by omega⟩ : Fin 1408) (⟨q.val % 512, by omega⟩ : Fin 512))
      = ix2 p q := by
    funext a; apply Fin.ext
    match a with
    | ⟨0, _⟩ => show win0_3.index _ (0 : Fin 2) * 1408 + 1 * (p.val % 1408) = p.val; exact at_block (idxs _).2.2.2.1.1 (by dsimp only; omega)
    | ⟨1, _⟩ => show win0_3.index _ (1 : Fin 2) * 512 + 1 * (q.val % 512) = q.val; exact at_block (idxs _).2.2.2.1.2 (by dsimp only; omega)
  have h1 : ((dats m 0 c).arrAt 3 cfg0.N (ix2 p q) : EReal)
      = out0_3 (F := Ideal) (iblk m c 0 ⟨p.val / 1408 * 11 + q.val / 512, hN⟩) (iblk m c 1 ⟨p.val / 1408 * 11 + q.val / 512, hN⟩)
        (iblk m c 2 ⟨p.val / 1408 * 11 + q.val / 512, hN⟩) (ix2 (⟨p.val % 1408, by omega⟩ : Fin 1408) (⟨q.val % 512, by omega⟩ : Fin 512)) :=
    (congrArg ((dats m 0 c).arrAt 3 cfg0.N) e).symm.trans hb
  refine h1.trans ((block _ _ _ _ _).trans ?_)
  have eg : entry (iblk m c 0 ⟨p.val / 1408 * 11 + q.val / 512, hN⟩ : Vec Ideal S1408x2048 .bf16) (iblk m c 1 ⟨p.val / 1408 * 11 + q.val / 512, hN⟩ : Vec Ideal S1x2048x512 .f32)
      (0 : Fin 1) (⟨p.val % 1408, by omega⟩ : Fin 1408) (⟨q.val % 512, by omega⟩ : Fin 512)
      = entry (m ((c : Thread nD τ).loc main_arg0)) (m ((c : Thread nD τ).loc main_arg1)) (1 : Fin 2) p q :=
    Finset.sum_congr rfl fun k _ => by
      rw [rows m c _ _ k p (by dsimp only; omega), columns m c _ k _ q (by dsimp only; omega)]
  have eu : entry (iblk m c 0 ⟨p.val / 1408 * 11 + q.val / 512, hN⟩ : Vec Ideal S1408x2048 .bf16) (iblk m c 2 ⟨p.val / 1408 * 11 + q.val / 512, hN⟩ : Vec Ideal S1x2048x512 .f32)
      (0 : Fin 1) (⟨p.val % 1408, by omega⟩ : Fin 1408) (⟨q.val % 512, by omega⟩ : Fin 512)
      = entry (m ((c : Thread nD τ).loc main_arg0)) (m ((c : Thread nD τ).loc main_arg2)) (1 : Fin 2) p q :=
    Finset.sum_congr rfl fun k _ => by
      rw [rows m c _ _ k p (by dsimp only; omega), columns_up m c _ k _ q (by dsimp only; omega)]
  exact congrArg₂ (fun x y : EReal => x * Ideal.logistic x * y) eg eu

end

section
open Cert.FfnAct1ReferenceIdeal Cert.FfnAct1ReferenceIdeal.Gen

/-- One of the reference's products. -/
abbrev prod (a : FVec Ideal S8448x2048 .bf16) (w : FVec Ideal S2x2048x5632 .f32) : FVec Ideal S8448x5632 .f32 :=
  Host.dotGeneral dot_S8448x2048_S2048x5632_S8448x5632_1_0_0_1_n_n none (extf .f32 a bitsLt_bf16_f32)
      (shapeCast _ (extractStridedSlice S1x2048x5632 ![1, 0, 0] w slices_S2x2048x5632_S1x2048x5632_1_0_0) shapeCasts_S1x2048x5632_S2048x5632)

theorem prod_entry (a : FVec Ideal S8448x2048 .bf16) (w : FVec Ideal S2x2048x5632 .f32) (p : Fin 8448) (q : Fin 5632) :
    (prod a w (ix2 p q) : EReal) = entry a w (1 : Fin 2) p q := by
  unfold prod entry
  pointwise

theorem act_entry (g u : FVec Ideal S8448x5632 .f32) (p : Fin 8448) (q : Fin 5632) :
    (truncf .bf16 (mulf (mulf g (Host.divf (broadcastInDim S8448x5632 ![] bcast_S_S8448x5632 (constant S_ .f32 0x3F800000#32))
      (addf (broadcastInDim S8448x5632 ![] bcast_S_S8448x5632 (constant S_ .f32 0x3F800000#32)) (Host.exp (Host.negf g))))) u)
      bitsLt_bf16_f32 (ix2 p q) : EReal) = g (ix2 p q) * Ideal.logistic (g (ix2 p q)) * u (ix2 p q) := by
  unfold Ideal.logistic
  pointwise

/-- The reference's result. -/
theorem reference_entry (a : FVec Ideal S8448x2048 .bf16) (wg wu : FVec Ideal S2x2048x5632 .f32) (p : Fin 8448) (q : Fin 5632) :
    (truncf .bf16 (mulf (mulf (prod a wg) (Host.divf (broadcastInDim S8448x5632 ![] bcast_S_S8448x5632 (constant S_ .f32 0x3F800000#32))
      (addf (broadcastInDim S8448x5632 ![] bcast_S_S8448x5632 (constant S_ .f32 0x3F800000#32)) (Host.exp (Host.negf (prod a wg)))))) (prod a wu))
      bitsLt_bf16_f32 (ix2 p q) : EReal) = gated a wg wu (1 : Fin 2) p q :=
  (act_entry _ _ p q).trans (congrArg₂ (fun x y : EReal => x * Ideal.logistic x * y) (prod_entry a wg p q) (prod_entry a wu p q))

/-- The reference runs and leaves its arguments and every semaphore as they were. -/
theorem reference_frame : quiescent_FfnAct1ReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_FfnAct1Ideal_FfnAct1ReferenceIdeal := by
  intro m g m' g' _ ha
  refine ⟨fun c => (Cert.FfnAct1Ideal.Gen.dats m 0 c).arrAt 3 Cert.FfnAct1Ideal.cfg0.N, Cert.FfnAct1Ideal.Value.run_blocks m g, ?_⟩
  refine (θ_run Cert.FfnAct1ReferenceIdeal.defs _ _).mono (fun r h c => ⟨(h c).1.trans ?_, (h c).2⟩)
    (Cert.FfnAct1ReferenceIdeal.Value.run (F := Ideal) m' g')
  rw [(ha c).1, (ha c).2.1, (ha c).2.2]
  exact ext2 _ _ fun p q => (reference_entry _ _ _ p q).trans (kernel_entry m c p q).symm

end Cert.Act1

end
-- ==== Proof.Down1.lean ====
/-
  The second layer's product down: the kernel's result and the reference's, each at every row and column as the sum of
  products of that row and that column.
-/
module

public import proofs.«01_k».proof.Defs
public import proofs.«01_k».proof.Proof.Products
public import proofs.«01_k».proof.Proof.Gen.FfnDown1Ideal.Value
public import proofs.«01_k».proof.Proof.Gen.FfnDown1ReferenceIdeal.Run
public import Idealize.ShloMosaic.Lib.Quiescent

@[expose] public section

set_option maxRecDepth 16384

noncomputable section

namespace Cert.Down1

open Idealize.ShloMosaic Idealize.ShloMosaic.Pointwise Idealize.ShloMosaic.TcCoe Idealize.SL.Sem Cert.Products

section
open Cert.FfnDown1Ideal Cert.FfnDown1Ideal.Gen

/-- A point's block. -/
theorem block (x0 : Vec Ideal S768x5632 .bf16) (x1 : Vec Ideal S1x5632x512 .f32) (i : Fin 768) (j : Fin 512) :
    (out0_2 (F := Ideal) x0 x1 (ix2 i j) : EReal) = ∑ k : Fin 5632, (x0 (ix2 i k) : EReal) * x1 (ix3 (0 : Fin 1) k j) := by
  unfold out0_2
  rw [View.canon_unit_zero (S := S768x512) zeros2]
  unfold k0_pay1
  pointwise

/-- Which block each window is at, at every point; every point writes its block back. -/
theorem idxs : ∀ t : Fin cfg0.N,
    (win0_0.index t (0 : Fin 2) = t.val / 4 ∧ win0_0.index t (1 : Fin 2) = 0)
    ∧ (win0_1.index t (0 : Fin 3) = 1 ∧ win0_1.index t (1 : Fin 3) = 0 ∧ win0_1.index t (2 : Fin 3) = t.val % 4)
    ∧ (win0_2.index t (0 : Fin 2) = t.val / 4 ∧ win0_2.index t (1 : Fin 2) = t.val % 4)
    ∧ win0_2.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 768) (k : Fin 5632) (p : Fin 8448) (hp : t.val / 4 * 768 + i.val = p.val) :
    (iblk m c 0 t : Vec Ideal S768x5632 .bf16) (ix2 i k) = m ((c : Thread nD τ).loc main_arg0) (ix2 p k) := by
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 5632 + 1 * k.val = k.val; exact at_first (idxs t).1.2

/-- The columns a point reads. -/
theorem columns (t : Fin cfg0.N) (k : Fin 5632) (j : Fin 512) (q : Fin 2048) (hq : t.val % 4 * 512 + j.val = q.val) :
    (iblk m c 1 t : Vec Ideal S1x5632x512 .f32) (ix3 (0 : Fin 1) k j) = m ((c : Thread nD τ).loc main_arg1) (ix3 (1 : Fin 2) k q) := by
  show V m c main_arg1 (((cfg0.win 1).blk t).view.emb (ix3 (0 : Fin 1) k j)) = _
  congr 1; funext a; apply Fin.ext
  match a with
  | ⟨0, _⟩ => show win0_1.index t (0 : Fin 3) * 1 + 1 * 0 = 1; exact at_block (idxs t).2.1.1 rfl
  | ⟨1, _⟩ => show win0_1.index t (1 : Fin 3) * 5632 + 1 * k.val = k.val; exact at_first (idxs t).2.1.2.1
  | ⟨2, _⟩ => show win0_1.index t (2 : Fin 3) * 512 + 1 * j.val = q.val; exact at_block (idxs t).2.1.2.2 hq

/-- The kernel's array after the run. -/
theorem kernel_entry (p : Fin 8448) (q : Fin 2048) :
    ((dats m 0 c).arrAt 2 cfg0.N (ix2 p q) : EReal)
      = entry (m ((c : Thread nD τ).loc main_arg0)) (m ((c : Thread nD τ).loc main_arg1)) (1 : Fin 2) p q := by
  have hp := p.isLt; have hq := q.isLt
  have hN : p.val / 768 * 4 + q.val / 512 < cfg0.N := lt_of_lt_of_eq (by omega) N_0.symm
  have hb := congrFun ((Value.blocks2 m c ⟨p.val / 768 * 4 + q.val / 512, hN⟩ (idxs _).2.2.2).trans (Value.flushed2 m c _))
    (ix2 (⟨p.val % 768, by omega⟩ : Fin 768) (⟨q.val % 512, by omega⟩ : Fin 512))
  have e : ((cfg0.win 2).blk ⟨p.val / 768 * 4 + q.val / 512, hN⟩).view.emb (ix2 (⟨p.val % 768, by omega⟩ : Fin 768) (⟨q.val % 512, by omega⟩ : Fin 512))
      = ix2 p q := by
    funext a; apply Fin.ext
    match a with
    | ⟨0, _⟩ => show win0_2.index _ (0 : Fin 2) * 768 + 1 * (p.val % 768) = p.val; exact at_block (idxs _).2.2.1.1 (by dsimp only; omega)
    | ⟨1, _⟩ => show win0_2.index _ (1 : Fin 2) * 512 + 1 * (q.val % 512) = q.val; exact at_block (idxs _).2.2.1.2 (by dsimp only; omega)
  have h1 : ((dats m 0 c).arrAt 2 cfg0.N (ix2 p q) : EReal)
      = out0_2 (F := Ideal) (iblk m c 0 ⟨p.val / 768 * 4 + q.val / 512, hN⟩) (iblk m c 1 ⟨p.val / 768 * 4 + q.val / 512, hN⟩)
        (ix2 (⟨p.val % 768, by omega⟩ : Fin 768) (⟨q.val % 512, by omega⟩ : Fin 512)) :=
    (congrArg ((dats m 0 c).arrAt 2 cfg0.N) e).symm.trans hb
  refine h1.trans ((block _ _ _ _).trans ?_)
  unfold entry
  refine Finset.sum_congr rfl fun k _ => ?_
  rw [rows m c _ _ k p (by dsimp only; omega), columns m c _ k _ q (by dsimp only; omega)]

end

section
open Cert.FfnDown1ReferenceIdeal Cert.FfnDown1ReferenceIdeal.Gen

/-- The reference's result. -/
theorem reference_entry (a : FVec Ideal S8448x5632 .bf16) (w : FVec Ideal S2x5632x2048 .f32) (p : Fin 8448) (q : Fin 2048) :
    (truncf .bf16 (Host.dotGeneral dot_S8448x5632_S5632x2048_S8448x2048_1_0_0_1_n_n none (extf .f32 a bitsLt_bf16_f32)
      (shapeCast _ (extractStridedSlice S1x5632x2048 ![1, 0, 0] w slices_S2x5632x2048_S1x5632x2048_1_0_0) shapeCasts_S1x5632x2048_S5632x2048))
      bitsLt_bf16_f32 (ix2 p q) : EReal) = entry a w (1 : Fin 2) p q := by
  unfold entry
  pointwise

/-- The reference runs and leaves its arguments and every semaphore as they were. -/
theorem reference_frame : quiescent_FfnDown1ReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_FfnDown1Ideal_FfnDown1ReferenceIdeal := by
  intro m g m' g' _ ha
  refine ⟨fun c => (Cert.FfnDown1Ideal.Gen.dats m 0 c).arrAt 2 Cert.FfnDown1Ideal.cfg0.N, Cert.FfnDown1Ideal.Value.run_blocks m g, ?_⟩
  refine (θ_run Cert.FfnDown1ReferenceIdeal.defs _ _).mono (fun r h c => ⟨(h c).1.trans ?_, (h c).2⟩)
    (Cert.FfnDown1ReferenceIdeal.Value.run (F := Ideal) m' g')
  rw [(ha c).1, (ha c).2]
  exact ext2 _ _ fun p q => (reference_entry _ _ p q).trans (kernel_entry m c p q).symm

end Cert.Down1

end
-- ==== Proof.ProjIn.lean ====
/-
  The retention's projection in: the kernel's result and the reference's, each at every row and column as the sum of
  products of that row and that column.
-/
module

public import proofs.«01_k».proof.Defs
public import proofs.«01_k».proof.Proof.Products
public import proofs.«01_k».proof.Proof.Gen.RetInIdeal.Value
public import proofs.«01_k».proof.Proof.Gen.RetInReferenceIdeal.Run
public import Idealize.ShloMosaic.Lib.Quiescent

@[expose] public section

set_option maxRecDepth 16384

noncomputable section

namespace Cert.ProjIn

open Idealize.ShloMosaic Idealize.ShloMosaic.Pointwise Idealize.ShloMosaic.TcCoe Idealize.SL.Sem Cert.Products

section
open Cert.RetInIdeal Cert.RetInIdeal.Gen

/-- A point's block. -/
theorem block (x0 : Vec Ideal S1408x2048 .bf16) (x1 : Vec Ideal S1x2048x1024 .f32) (i : Fin 1408) (j : Fin 1024) :
    (out0_2 (F := Ideal) x0 x1 (ix2 i j) : EReal) = ∑ k : Fin 2048, (x0 (ix2 i k) : EReal) * x1 (ix3 (0 : Fin 1) k j) := by
  unfold out0_2
  rw [View.canon_unit_zero (S := S1408x1024) zeros2]
  unfold k0_pay1
  pointwise

/-- Which block each window is at, at every point; every point writes its block back. -/
theorem idxs : ∀ t : Fin cfg0.N,
    (win0_0.index t (0 : Fin 2) = t.val / 12 ∧ win0_0.index t (1 : Fin 2) = 0)
    ∧ (win0_1.index t (0 : Fin 3) = 0 ∧ win0_1.index t (1 : Fin 3) = 0 ∧ win0_1.index t (2 : Fin 3) = t.val % 12)
    ∧ (win0_2.index t (0 : Fin 2) = t.val / 12 ∧ win0_2.index t (1 : Fin 2) = t.val % 12)
    ∧ win0_2.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 1408) (k : Fin 2048) (p : Fin 8448) (hp : t.val / 12 * 1408 + i.val = p.val) :
    (iblk m c 0 t : Vec Ideal S1408x2048 .bf16) (ix2 i k) = m ((c : Thread nD τ).loc main_arg0) (ix2 p k) := by
  show V m c main_arg0 (((cfg0.win 0).blk t).view.emb (ix2 i k)) = _
  congr 1; funext a; apply Fin.ext
  match a with
  | ⟨0, _⟩ => show win0_0.index t (0 : Fin 2) * 1408 + 1 * i.val = p.val; exact at_block (idxs t).1.1 hp
  | ⟨1, _⟩ => show win0_0.index t (1 : Fin 2) * 2048 + 1 * k.val = k.val; exact at_first (idxs t).1.2

/-- The columns a point reads. -/
theorem columns (t : Fin cfg0.N) (k : Fin 2048) (j : Fin 1024) (q : Fin 12288) (hq : t.val % 12 * 1024 + j.val = q.val) :
    (iblk m c 1 t : Vec Ideal S1x2048x1024 .f32) (ix3 (0 : Fin 1) k j) = m ((c : Thread nD τ).loc main_arg1) (ix3 (0 : Fin 1) k q) := by
  show V m c main_arg1 (((cfg0.win 1).blk t).view.emb (ix3 (0 : Fin 1) k j)) = _
  congr 1; funext a; apply Fin.ext
  match a with
  | ⟨0, _⟩ => show win0_1.index t (0 : Fin 3) * 1 + 1 * 0 = 0; exact at_block (idxs t).2.1.1 rfl
  | ⟨1, _⟩ => show win0_1.index t (1 : Fin 3) * 2048 + 1 * k.val = k.val; exact at_first (idxs t).2.1.2.1
  | ⟨2, _⟩ => show win0_1.index t (2 : Fin 3) * 1024 + 1 * j.val = q.val; exact at_block (idxs t).2.1.2.2 hq

/-- The kernel's array after the run. -/
theorem kernel_entry (p : Fin 8448) (q : Fin 12288) :
    ((dats m 0 c).arrAt 2 cfg0.N (ix2 p q) : EReal)
      = entry (m ((c : Thread nD τ).loc main_arg0)) (m ((c : Thread nD τ).loc main_arg1)) (0 : Fin 1) p q := by
  have hp := p.isLt; have hq := q.isLt
  have hN : p.val / 1408 * 12 + q.val / 1024 < cfg0.N := lt_of_lt_of_eq (by omega) N_0.symm
  have hb := congrFun ((Value.blocks2 m c ⟨p.val / 1408 * 12 + q.val / 1024, hN⟩ (idxs _).2.2.2).trans (Value.flushed2 m c _))
    (ix2 (⟨p.val % 1408, by omega⟩ : Fin 1408) (⟨q.val % 1024, by omega⟩ : Fin 1024))
  have e : ((cfg0.win 2).blk ⟨p.val / 1408 * 12 + q.val / 1024, hN⟩).view.emb (ix2 (⟨p.val % 1408, by omega⟩ : Fin 1408) (⟨q.val % 1024, by omega⟩ : Fin 1024))
      = ix2 p q := by
    funext a; apply Fin.ext
    match a with
    | ⟨0, _⟩ => show win0_2.index _ (0 : Fin 2) * 1408 + 1 * (p.val % 1408) = p.val; exact at_block (idxs _).2.2.1.1 (by dsimp only; omega)
    | ⟨1, _⟩ => show win0_2.index _ (1 : Fin 2) * 1024 + 1 * (q.val % 1024) = q.val; exact at_block (idxs _).2.2.1.2 (by dsimp only; omega)
  have h1 : ((dats m 0 c).arrAt 2 cfg0.N (ix2 p q) : EReal)
      = out0_2 (F := Ideal) (iblk m c 0 ⟨p.val / 1408 * 12 + q.val / 1024, hN⟩) (iblk m c 1 ⟨p.val / 1408 * 12 + q.val / 1024, hN⟩)
        (ix2 (⟨p.val % 1408, by omega⟩ : Fin 1408) (⟨q.val % 1024, by omega⟩ : Fin 1024)) :=
    (congrArg ((dats m 0 c).arrAt 2 cfg0.N) e).symm.trans hb
  refine h1.trans ((block _ _ _ _).trans ?_)
  unfold entry
  refine Finset.sum_congr rfl fun k _ => ?_
  rw [rows m c _ _ k p (by dsimp only; omega), columns m c _ k _ q (by dsimp only; omega)]

end

section
open Cert.RetInReferenceIdeal Cert.RetInReferenceIdeal.Gen

/-- The reference's result. -/
theorem reference_entry (a : FVec Ideal S8448x2048 .bf16) (w : FVec Ideal S1x2048x12288 .f32) (p : Fin 8448) (q : Fin 12288) :
    (truncf .bf16 (Host.dotGeneral dot_S8448x2048_S2048x12288_S8448x12288_1_0_0_1_n_n none (extf .f32 a bitsLt_bf16_f32)
      (shapeCast _ w shapeCasts_S1x2048x12288_S2048x12288))
      bitsLt_bf16_f32 (ix2 p q) : EReal) = entry a w (0 : Fin 1) p q := by
  unfold entry
  pointwise

/-- The reference runs and leaves its arguments and every semaphore as they were. -/
theorem reference_frame : quiescent_RetInReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_RetInIdeal_RetInReferenceIdeal := by
  intro m g m' g' _ ha
  refine ⟨fun c => (Cert.RetInIdeal.Gen.dats m 0 c).arrAt 2 Cert.RetInIdeal.cfg0.N, Cert.RetInIdeal.Value.run_blocks m g, ?_⟩
  refine (θ_run Cert.RetInReferenceIdeal.defs _ _).mono (fun r h c => ⟨(h c).1.trans ?_, (h c).2⟩)
    (Cert.RetInReferenceIdeal.Value.run (F := Ideal) m' g')
  rw [(ha c).1, (ha c).2]
  exact ext2 _ _ fun p q => (reference_entry _ _ p q).trans (kernel_entry m c p q).symm

end Cert.ProjIn

end
-- ==== Proof.ProjOut.lean ====
/-
  The retention's projection out: the kernel's result and the reference's, each at every row and column as the sum of
  products of that row and that column.
-/
module

public import proofs.«01_k».proof.Defs
public import proofs.«01_k».proof.Proof.Products
public import proofs.«01_k».proof.Proof.Gen.RetOutIdeal.Value
public import proofs.«01_k».proof.Proof.Gen.RetOutReferenceIdeal.Run
public import Idealize.ShloMosaic.Lib.Quiescent

@[expose] public section

set_option maxRecDepth 16384

noncomputable section

namespace Cert.ProjOut

open Idealize.ShloMosaic Idealize.ShloMosaic.Pointwise Idealize.ShloMosaic.TcCoe Idealize.SL.Sem Cert.Products

section
open Cert.RetOutIdeal Cert.RetOutIdeal.Gen

/-- A point's block. -/
theorem block (x0 : Vec Ideal S1408x4096 .bf16) (x1 : Vec Ideal S1x4096x512 .f32) (i : Fin 1408) (j : Fin 512) :
    (out0_2 (F := Ideal) x0 x1 (ix2 i j) : EReal) = ∑ k : Fin 4096, (x0 (ix2 i k) : EReal) * x1 (ix3 (0 : Fin 1) k j) := by
  unfold out0_2
  rw [View.canon_unit_zero (S := S1408x512) zeros2]
  unfold k0_pay1
  pointwise

/-- Which block each window is at, at every point; every point writes its block back. -/
theorem idxs : ∀ t : Fin cfg0.N,
    (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4)
    ∧ win0_2.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 1408) (k : Fin 4096) (p : Fin 8448) (hp : t.val / 4 * 1408 + i.val = p.val) :
    (iblk m c 0 t : Vec Ideal S1408x4096 .bf16) (ix2 i k) = m ((c : Thread nD τ).loc main_arg0) (ix2 p k) := by
  show V m c main_arg0 (((cfg0.win 0).blk t).view.emb (ix2 i k)) = _
  congr 1; funext a; apply Fin.ext
  match a with
  | ⟨0, _⟩ => show win0_0.index t (0 : Fin 2) * 1408 + 1 * i.val = p.val; exact at_block (idxs t).1.1 hp
  | ⟨1, _⟩ => show win0_0.index t (1 : Fin 2) * 4096 + 1 * k.val = k.val; exact at_first (idxs t).1.2

/-- The columns a point reads. -/
theorem columns (t : Fin cfg0.N) (k : Fin 4096) (j : Fin 512) (q : Fin 2048) (hq : t.val % 4 * 512 + j.val = q.val) :
    (iblk m c 1 t : Vec Ideal S1x4096x512 .f32) (ix3 (0 : Fin 1) k j) = m ((c : Thread nD τ).loc main_arg1) (ix3 (0 : Fin 1) k q) := by
  show V m c main_arg1 (((cfg0.win 1).blk t).view.emb (ix3 (0 : Fin 1) k j)) = _
  congr 1; funext a; apply Fin.ext
  match a with
  | ⟨0, _⟩ => show win0_1.index t (0 : Fin 3) * 1 + 1 * 0 = 0; exact at_block (idxs t).2.1.1 rfl
  | ⟨1, _⟩ => show win0_1.index t (1 : Fin 3) * 4096 + 1 * k.val = k.val; exact at_first (idxs t).2.1.2.1
  | ⟨2, _⟩ => show win0_1.index t (2 : Fin 3) * 512 + 1 * j.val = q.val; exact at_block (idxs t).2.1.2.2 hq

/-- The kernel's array after the run. -/
theorem kernel_entry (p : Fin 8448) (q : Fin 2048) :
    ((dats m 0 c).arrAt 2 cfg0.N (ix2 p q) : EReal)
      = entry (m ((c : Thread nD τ).loc main_arg0)) (m ((c : Thread nD τ).loc main_arg1)) (0 : Fin 1) p q := by
  have hp := p.isLt; have hq := q.isLt
  have hN : p.val / 1408 * 4 + q.val / 512 < cfg0.N := lt_of_lt_of_eq (by omega) N_0.symm
  have hb := congrFun ((Value.blocks2 m c ⟨p.val / 1408 * 4 + q.val / 512, hN⟩ (idxs _).2.2.2).trans (Value.flushed2 m c _))
    (ix2 (⟨p.val % 1408, by omega⟩ : Fin 1408) (⟨q.val % 512, by omega⟩ : Fin 512))
  have e : ((cfg0.win 2).blk ⟨p.val / 1408 * 4 + q.val / 512, hN⟩).view.emb (ix2 (⟨p.val % 1408, by omega⟩ : Fin 1408) (⟨q.val % 512, by omega⟩ : Fin 512))
      = ix2 p q := by
    funext a; apply Fin.ext
    match a with
    | ⟨0, _⟩ => show win0_2.index _ (0 : Fin 2) * 1408 + 1 * (p.val % 1408) = p.val; exact at_block (idxs _).2.2.1.1 (by dsimp only; omega)
    | ⟨1, _⟩ => show win0_2.index _ (1 : Fin 2) * 512 + 1 * (q.val % 512) = q.val; exact at_block (idxs _).2.2.1.2 (by dsimp only; omega)
  have h1 : ((dats m 0 c).arrAt 2 cfg0.N (ix2 p q) : EReal)
      = out0_2 (F := Ideal) (iblk m c 0 ⟨p.val / 1408 * 4 + q.val / 512, hN⟩) (iblk m c 1 ⟨p.val / 1408 * 4 + q.val / 512, hN⟩)
        (ix2 (⟨p.val % 1408, by omega⟩ : Fin 1408) (⟨q.val % 512, by omega⟩ : Fin 512)) :=
    (congrArg ((dats m 0 c).arrAt 2 cfg0.N) e).symm.trans hb
  refine h1.trans ((block _ _ _ _).trans ?_)
  unfold entry
  refine Finset.sum_congr rfl fun k _ => ?_
  rw [rows m c _ _ k p (by dsimp only; omega), columns m c _ k _ q (by dsimp only; omega)]

end

section
open Cert.RetOutReferenceIdeal Cert.RetOutReferenceIdeal.Gen

/-- The reference's result. -/
theorem reference_entry (a : FVec Ideal S8448x4096 .bf16) (w : FVec Ideal S1x4096x2048 .f32) (p : Fin 8448) (q : Fin 2048) :
    (truncf .bf16 (Host.dotGeneral dot_S8448x4096_S4096x2048_S8448x2048_1_0_0_1_n_n none (extf .f32 a bitsLt_bf16_f32)
      (shapeCast _ w shapeCasts_S1x4096x2048_S4096x2048))
      bitsLt_bf16_f32 (ix2 p q) : EReal) = entry a w (0 : Fin 1) p q := by
  unfold entry
  pointwise

/-- The reference runs and leaves its arguments and every semaphore as they were. -/
theorem reference_frame : quiescent_RetOutReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_RetOutIdeal_RetOutReferenceIdeal := by
  intro m g m' g' _ ha
  refine ⟨fun c => (Cert.RetOutIdeal.Gen.dats m 0 c).arrAt 2 Cert.RetOutIdeal.cfg0.N, Cert.RetOutIdeal.Value.run_blocks m g, ?_⟩
  refine (θ_run Cert.RetOutReferenceIdeal.defs _ _).mono (fun r h c => ⟨(h c).1.trans ?_, (h c).2⟩)
    (Cert.RetOutReferenceIdeal.Value.run (F := Ideal) m' g')
  rw [(ha c).1, (ha c).2]
  exact ext2 _ _ fun p q => (reference_entry _ _ p q).trans (kernel_entry m c p q).symm

end Cert.ProjOut

end
-- ==== Proof.JoinOut.lean ====
/-
  The product that closes the third layer: the kernel multiplies two halves of each row with two halves of each column
  and adds the two sums, the reference multiplies the joined row with the whole column.
-/
module

public import proofs.«01_k».proof.Defs
public import proofs.«01_k».proof.Proof.Products
public import proofs.«01_k».proof.Proof.Gen.HyOutIdeal.Value
public import proofs.«01_k».proof.Proof.Gen.HyOutReferenceIdeal.Run
public import Idealize.ShloMosaic.Lib.Quiescent

@[expose] public section

set_option maxRecDepth 16384

noncomputable section

namespace Cert.JoinOut

open Idealize.ShloMosaic Idealize.ShloMosaic.Pointwise Idealize.ShloMosaic.TcCoe Idealize.SL.Sem Cert.Products

/-- The sum of the products of two rows of 1024 entries with the halves of a column of 2048. -/
def joined {R N : ℕ} (a b : (⟨2, ![R, 1024]⟩ : Shape).Idx → EReal) (w : (⟨3, ![1, 2048, N]⟩ : Shape).Idx → EReal) (p : Fin R) (q : Fin N) : EReal :=
  (∑ k : Fin 1024, a (ix2 p k) * w (ix3 (0 : Fin 1) (⟨k.val, by omega⟩ : Fin 2048) q))
    + ∑ k : Fin 1024, b (ix2 p k) * w (ix3 (0 : Fin 1) (⟨1024 + k.val, by omega⟩ : Fin 2048) q)

section
open Cert.HyOutIdeal Cert.HyOutIdeal.Gen

/-- A point's block. -/
theorem block (x0 x1 : Vec Ideal S1408x1024 .bf16) (x2 : Vec Ideal S1x2048x512 .f32) (i : Fin 1408) (j : Fin 512) :
    (out0_3 (F := Ideal) x0 x1 x2 (ix2 i j) : EReal) = joined x0 x1 x2 i j := by
  unfold out0_3
  rw [View.canon_unit_zero (S := S1408x512) zeros2]
  unfold k0_pay1 joined
  pointwise

/-- Which block each window is at, at every point; every point writes its block back. -/
theorem idxs : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 3) = 0 ∧ win0_2.index t (1 : Fin 3) = 0 ∧ win0_2.index t (2 : Fin 3) = t.val % 4)
    ∧ (win0_3.index t (0 : Fin 2) = t.val / 4 ∧ win0_3.index t (1 : Fin 2) = t.val % 4)
    ∧ win0_3.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 1408) (k : Fin 1024) (p : Fin 8448) (hp : t.val / 4 * 1408 + i.val = p.val) :
    (iblk m c 0 t : Vec Ideal S1408x1024 .bf16) (ix2 i k) = m ((c : Thread nD τ).loc main_arg0) (ix2 p k) := by
  show V m c main_arg0 (((cfg0.win 0).blk t).view.emb (ix2 i k)) = _
  congr 1; funext a; apply Fin.ext
  match a with
  | ⟨0, _⟩ => show win0_0.index t (0 : Fin 2) * 1408 + 1 * i.val = p.val; exact at_block (idxs t).1.1 hp
  | ⟨1, _⟩ => show win0_0.index t (1 : Fin 2) * 1024 + 1 * k.val = k.val; exact at_first (idxs t).1.2

/-- The second array's rows a point reads. -/
theorem rows_second (t : Fin cfg0.N) (i : Fin 1408) (k : Fin 1024) (p : Fin 8448) (hp : t.val / 4 * 1408 + i.val = p.val) :
    (iblk m c 1 t : Vec Ideal S1408x1024 .bf16) (ix2 i k) = m ((c : Thread nD τ).loc main_arg1) (ix2 p k) := by
  show V m c main_arg1 (((cfg0.win 1).blk t).view.emb (ix2 i k)) = _
  congr 1; funext a; apply Fin.ext
  match a with
  | ⟨0, _⟩ => show win0_1.index t (0 : Fin 2) * 1408 + 1 * i.val = p.val; exact at_block (idxs t).2.1.1 hp
  | ⟨1, _⟩ => show win0_1.index t (1 : Fin 2) * 1024 + 1 * k.val = k.val; exact at_first (idxs t).2.1.2

/-- The columns a point reads. -/
theorem columns (t : Fin cfg0.N) (k : Fin 2048) (j : Fin 512) (q : Fin 2048) (hq : t.val % 4 * 512 + j.val = q.val) :
    (iblk m c 2 t : Vec Ideal S1x2048x512 .f32) (ix3 (0 : Fin 1) k j) = m ((c : Thread nD τ).loc main_arg2) (ix3 (0 : Fin 1) k q) := by
  show V m c main_arg2 (((cfg0.win 2).blk t).view.emb (ix3 (0 : Fin 1) k j)) = _
  congr 1; funext a; apply Fin.ext
  match a with
  | ⟨0, _⟩ => show win0_2.index t (0 : Fin 3) * 1 + 1 * 0 = 0; exact at_block (idxs t).2.2.1.1 rfl
  | ⟨1, _⟩ => show win0_2.index t (1 : Fin 3) * 2048 + 1 * k.val = k.val; exact at_first (idxs t).2.2.1.2.1
  | ⟨2, _⟩ => show win0_2.index t (2 : Fin 3) * 512 + 1 * j.val = q.val; exact at_block (idxs t).2.2.1.2.2 hq

/-- The kernel's array after the run. -/
theorem kernel_entry (p : Fin 8448) (q : Fin 2048) :
    ((dats m 0 c).arrAt 3 cfg0.N (ix2 p q) : EReal)
      = joined (m ((c : Thread nD τ).loc main_arg0)) (m ((c : Thread nD τ).loc main_arg1)) (m ((c : Thread nD τ).loc main_arg2)) p q := by
  have hp := p.isLt; have hq := q.isLt
  have hN : p.val / 1408 * 4 + q.val / 512 < cfg0.N := lt_of_lt_of_eq (by omega) N_0.symm
  have hb := congrFun ((Value.blocks3 m c ⟨p.val / 1408 * 4 + q.val / 512, hN⟩ (idxs _).2.2.2.2).trans (Value.flushed3 m c _))
    (ix2 (⟨p.val % 1408, by omega⟩ : Fin 1408) (⟨q.val % 512, by omega⟩ : Fin 512))
  have e : ((cfg0.win 3).blk ⟨p.val / 1408 * 4 + q.val / 512, hN⟩).view.emb (ix2 (⟨p.val % 1408, by omega⟩ : Fin 1408) (⟨q.val % 512, by omega⟩ : Fin 512))
      = ix2 p q := by
    funext a; apply Fin.ext
    match a with
    | ⟨0, _⟩ => show win0_3.index _ (0 : Fin 2) * 1408 + 1 * (p.val % 1408) = p.val; exact at_block (idxs _).2.2.2.1.1 (by dsimp only; omega)
    | ⟨1, _⟩ => show win0_3.index _ (1 : Fin 2) * 512 + 1 * (q.val % 512) = q.val; exact at_block (idxs _).2.2.2.1.2 (by dsimp only; omega)
  have h1 : ((dats m 0 c).arrAt 3 cfg0.N (ix2 p q) : EReal)
      = out0_3 (F := Ideal) (iblk m c 0 ⟨p.val / 1408 * 4 + q.val / 512, hN⟩) (iblk m c 1 ⟨p.val / 1408 * 4 + q.val / 512, hN⟩)
        (iblk m c 2 ⟨p.val / 1408 * 4 + q.val / 512, hN⟩) (ix2 (⟨p.val % 1408, by omega⟩ : Fin 1408) (⟨q.val % 512, by omega⟩ : Fin 512)) :=
    (congrArg ((dats m 0 c).arrAt 3 cfg0.N) e).symm.trans hb
  refine h1.trans ((block _ _ _ _ _).trans ?_)
  unfold joined
  refine congrArg₂ (fun x y : EReal => x + y) (Finset.sum_congr rfl fun k _ => ?_) (Finset.sum_congr rfl fun k _ => ?_)
  · rw [rows m c _ _ k p (by dsimp only; omega), columns m c _ _ _ q (by dsimp only; omega)]
  · rw [rows_second m c _ _ k p (by dsimp only; omega), columns m c _ _ _ q (by dsimp only; omega)]

end

section
open Cert.HyOutReferenceIdeal Cert.HyOutReferenceIdeal.Gen

/-- The joined row's entry. -/
def row (a b : FVec Ideal S8448x1024 .bf16) (p : Fin 8448) (k : Fin 2048) : EReal :=
  if h : k.val < 1024 then a (ix2 p (⟨k.val, h⟩ : Fin 1024)) else b (ix2 p (⟨k.val - 1024, by omega⟩ : Fin 1024))

theorem joined_row (a b : FVec Ideal S8448x1024 .bf16) (w : FVec Ideal S1x2048x2048 .f32) (p : Fin 8448) (q : Fin 2048) :
    (∑ k : Fin 2048, row a b p k * w (ix3 (0 : Fin 1) k q)) = joined a b w p q := by
  refine (Fin.sum_univ_add (fun k : Fin (1024 + 1024) => row a b p k * w (ix3 (0 : Fin 1) k q))).trans ?_
  refine congrArg₂ (fun x y : EReal => x + y) (Finset.sum_congr rfl fun k _ => ?_) (Finset.sum_congr rfl fun k _ => ?_)
  · have h : row a b p (Fin.castAdd 1024 k) = a (ix2 p k) := dif_pos k.isLt
    rw [h]; rfl
  · have h : row a b p (Fin.natAdd 1024 k) = b (ix2 p k) := by
      refine (dif_neg (by show ¬ 1024 + k.val < 1024; omega)).trans (congrArg (fun i => b (ix2 p i)) (Fin.ext ?_))
      show 1024 + k.val - 1024 = k.val
      omega
    rw [h]; rfl

/-- The reference's result. -/
theorem reference_entry (a b : FVec Ideal S8448x1024 .bf16) (w : FVec Ideal S1x2048x2048 .f32) (p : Fin 8448) (q : Fin 2048) :
    (truncf .bf16 (Host.dotGeneral dot_S8448x2048_S2048x2048_S8448x2048_1_0_0_1_n_n none
      (extf .f32 (concatenate S8448x2048 1 [⟨S8448x1024, a⟩, ⟨S8448x1024, b⟩] concatenates_S8448x1024_S8448x1024_S8448x2048_d1) bitsLt_bf16_f32)
      (shapeCast _ w shapeCasts_S1x2048x2048_S2048x2048)) bitsLt_bf16_f32 (ix2 p q) : EReal) = joined a b w p q := by
  rw [← joined_row]
  unfold row
  pointwise

/-- The reference runs and leaves its arguments and every semaphore as they were. -/
theorem reference_frame : quiescent_HyOutReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_HyOutIdeal_HyOutReferenceIdeal := by
  intro m g m' g' _ ha
  refine ⟨fun c => (Cert.HyOutIdeal.Gen.dats m 0 c).arrAt 3 Cert.HyOutIdeal.cfg0.N, Cert.HyOutIdeal.Value.run_blocks m g, ?_⟩
  refine (θ_run Cert.HyOutReferenceIdeal.defs _ _).mono (fun r h c => ⟨(h c).1.trans ?_, (h c).2⟩)
    (Cert.HyOutReferenceIdeal.Value.run (F := Ideal) m' g')
  rw [(ha c).1, (ha c).2.1, (ha c).2.2]
  exact ext2 _ _ fun p q => (reference_entry _ _ _ p q).trans (kernel_entry m c p q).symm

end Cert.JoinOut

end
-- ==== Proof.MixIn.lean ====
/-
  The first mixer's input projection, for the columns of the delta rule's queries, keys and values, its gate, and the low-rank
  keys and values: the kernel multiplies with these columns, brought together and followed by zero columns; the reference
  multiplies with all columns and takes the same ones out of the product.
-/
module

public import proofs.«01_k».proof.Defs
public import proofs.«01_k».proof.Proof.Products
public import proofs.«01_k».proof.Proof.Gen.HyInIdeal.Value
public import proofs.«01_k».proof.Proof.Gen.HyInReferenceIdeal.Run
public import Idealize.ShloMosaic.Lib.Quiescent
public import Idealize.ShloMosaic.Lib.StableHlo.ReadAt

@[expose] public section

set_option maxRecDepth 16384

noncomputable section

namespace Cert.MixIn

open Idealize.ShloMosaic Idealize.ShloMosaic.Pointwise Idealize.ShloMosaic.TcCoe Idealize.SL.Sem Cert.Products

/-- The columns used, in their order, then zero columns. -/
def col (w : (⟨3, ![1, 2048, 4960]⟩ : Shape).Idx → EReal) (k : Fin 2048) (q : Fin 4608) : EReal :=
  if h : q.val < 3072 then w (ix3 (0 : Fin 1) k (⟨848 + q.val, by omega⟩ : Fin 4960))
  else if h : q.val - 3072 < 1024 then w (ix3 (0 : Fin 1) k (⟨3920 + (q.val - 3072), by omega⟩ : Fin 4960))
  else if h : q.val - 3072 - 1024 < 256 then w (ix3 (0 : Fin 1) k (⟨512 + (q.val - 3072 - 1024), by omega⟩ : Fin 4960))
  else 0

/-- A row times one of them. -/
def mixed (a : (⟨2, ![8448, 2048]⟩ : Shape).Idx → EReal) (w : (⟨3, ![1, 2048, 4960]⟩ : Shape).Idx → EReal) (p : Fin 8448) (q : Fin 4608) : EReal :=
  ∑ k : Fin 2048, a (ix2 p k) * col w k q

section
open Cert.HyInIdeal Cert.HyInIdeal.Gen

/-- A point's block. -/
theorem block (x0 : Vec Ideal S1408x2048 .bf16) (x1 : Vec Ideal S2048x512 .bf16) (i : Fin 1408) (j : Fin 512) :
    (out0_2 (F := Ideal) x0 x1 (ix2 i j) : EReal) = ∑ k : Fin 2048, (x0 (ix2 i k) : EReal) * x1 (ix2 k j) := by
  unfold out0_2
  rw [View.canon_unit_zero (S := S1408x512) zeros2]
  unfold k0_pay1
  pointwise

/-- Which block each window is at, at every point; every point writes its block back. -/
theorem idxs : ∀ t : Fin cfg0.N,
    (win0_0.index t (0 : Fin 2) = t.val / 9 ∧ win0_0.index t (1 : Fin 2) = 0)
    ∧ (win0_1.index t (0 : Fin 2) = 0 ∧ win0_1.index t (1 : Fin 2) = t.val % 9)
    ∧ (win0_2.index t (0 : Fin 2) = t.val / 9 ∧ win0_2.index t (1 : Fin 2) = t.val % 9)
    ∧ win0_2.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 1408) (k : Fin 2048) (p : Fin 8448) (hp : t.val / 9 * 1408 + i.val = p.val) :
    (iblk m c 0 t : Vec Ideal S1408x2048 .bf16) (ix2 i k) = m ((c : Thread nD τ).loc main_arg0) (ix2 p k) := by
  refine Eq.trans ?_ (congrFun (V_main_arg0 m c) (ix2 p k))
  show V m c main_arg0 (((cfg0.win 0).blk t).view.emb (ix2 i k)) = _
  congr 1; funext a; apply Fin.ext
  match a with
  | ⟨0, _⟩ => show win0_0.index t (0 : Fin 2) * 1408 + 1 * i.val = p.val; exact at_block (idxs t).1.1 hp
  | ⟨1, _⟩ => show win0_0.index t (1 : Fin 2) * 2048 + 1 * k.val = k.val; exact at_first (idxs t).1.2

/-- What the host hands the launch. -/
theorem host_columns (k : Fin 2048) (q : Fin 4608) :
    (V m c main_v6 (ix2 k q) : EReal) = col (m ((c : Thread nD τ).loc main_arg1)) k q := by
  unfold V col
  after_reads_at
  refine dite_congr rfl (fun _ => ?_) fun _ => dite_congr rfl (fun _ => ?_) fun _ => dite_congr rfl (fun _ => ?_) fun _ => ?_
  · after_reads_at
  · after_reads_at
  · after_reads_at
  · after_reads_at

/-- The columns a point reads. -/
theorem columns (t : Fin cfg0.N) (k : Fin 2048) (j : Fin 512) (q : Fin 4608) (hq : t.val % 9 * 512 + j.val = q.val) :
    (iblk m c 1 t : Vec Ideal S2048x512 .bf16) (ix2 k j) = col (m ((c : Thread nD τ).loc main_arg1)) k q := by
  refine Eq.trans ?_ (host_columns m c k q)
  show V m c main_v6 (((cfg0.win 1).blk t).view.emb (ix2 k j)) = _
  congr 1; funext a; apply Fin.ext
  match a with
  | ⟨0, _⟩ => show win0_1.index t (0 : Fin 2) * 2048 + 1 * k.val = k.val; exact at_first (idxs t).2.1.1
  | ⟨1, _⟩ => show win0_1.index t (1 : Fin 2) * 512 + 1 * j.val = q.val; exact at_block (idxs t).2.1.2 hq

/-- The kernel's array after the run. -/
theorem kernel_entry (p : Fin 8448) (q : Fin 4608) :
    ((dats m 0 c).arrAt 2 cfg0.N (ix2 p q) : EReal)
      = mixed (m ((c : Thread nD τ).loc main_arg0)) (m ((c : Thread nD τ).loc main_arg1)) p q := by
  have hp := p.isLt; have hq := q.isLt
  have hN : p.val / 1408 * 9 + q.val / 512 < cfg0.N := lt_of_lt_of_eq (by omega) N_0.symm
  have hb := congrFun ((Value.blocks2 m c ⟨p.val / 1408 * 9 + q.val / 512, hN⟩ (idxs _).2.2.2).trans (Value.flushed2 m c _))
    (ix2 (⟨p.val % 1408, by omega⟩ : Fin 1408) (⟨q.val % 512, by omega⟩ : Fin 512))
  have e : ((cfg0.win 2).blk ⟨p.val / 1408 * 9 + q.val / 512, hN⟩).view.emb (ix2 (⟨p.val % 1408, by omega⟩ : Fin 1408) (⟨q.val % 512, by omega⟩ : Fin 512))
      = ix2 p q := by
    funext a; apply Fin.ext
    match a with
    | ⟨0, _⟩ => show win0_2.index _ (0 : Fin 2) * 1408 + 1 * (p.val % 1408) = p.val; exact at_block (idxs _).2.2.1.1 (by dsimp only; omega)
    | ⟨1, _⟩ => show win0_2.index _ (1 : Fin 2) * 512 + 1 * (q.val % 512) = q.val; exact at_block (idxs _).2.2.1.2 (by dsimp only; omega)
  have h1 : ((dats m 0 c).arrAt 2 cfg0.N (ix2 p q) : EReal)
      = out0_2 (F := Ideal) (iblk m c 0 ⟨p.val / 1408 * 9 + q.val / 512, hN⟩) (iblk m c 1 ⟨p.val / 1408 * 9 + q.val / 512, hN⟩)
        (ix2 (⟨p.val % 1408, by omega⟩ : Fin 1408) (⟨q.val % 512, by omega⟩ : Fin 512)) :=
    (congrArg ((dats m 0 c).arrAt 2 cfg0.N) e).symm.trans hb
  refine h1.trans ((block _ _ _ _).trans ?_)
  unfold mixed
  refine Finset.sum_congr rfl fun k _ => ?_
  rw [rows m c _ _ k p (by dsimp only; omega), columns m c _ k _ q (by dsimp only; omega)]

end

section
open Cert.HyInReferenceIdeal Cert.HyInReferenceIdeal.Gen

/-- The reference's product with all columns. -/
abbrev prod (a : FVec Ideal S8448x2048 .bf16) (w : FVec Ideal S1x2048x4960 .f32) : FVec Ideal S8448x4960 .f32 :=
  Host.dotGeneral dot_S8448x2048_S2048x4960_S8448x4960_1_0_0_1_n_n none (extf .f32 a bitsLt_bf16_f32) (shapeCast _ w shapeCasts_S1x2048x4960_S2048x4960)

theorem prod_entry (a : FVec Ideal S8448x2048 .bf16) (w : FVec Ideal S1x2048x4960 .f32) (p : Fin 8448) (j : Fin 4960) :
    (prod a w (ix2 p j) : EReal) = ∑ k : Fin 2048, a (ix2 p k) * w (ix3 (0 : Fin 1) k j) := by
  unfold prod
  pointwise

theorem taken (d : FVec Ideal S8448x4960 .f32) (p : Fin 8448) (q : Fin 4608) :
    (pad S8448x4608 ![0, 0] ![0, 256] ![0, 0] (concatenate S8448x4352 1 [⟨S8448x3072, extractStridedSlice S8448x3072 ![0, 848] d slices_S8448x4960_S8448x3072_0_848⟩,
      ⟨S8448x1024, extractStridedSlice S8448x1024 ![0, 3920] d slices_S8448x4960_S8448x1024_0_3920⟩,
      ⟨S8448x256, extractStridedSlice S8448x256 ![0, 512] d slices_S8448x4960_S8448x256_0_512⟩] concatenates_S8448x3072_S8448x1024_S8448x256_S8448x4352_d1)
      (sitofp (F := Ideal) .f32 (constantI S_ 32 0#32)) pads_S8448x4352_S8448x4608_000_02560 h_S_ (ix2 p q) : EReal)
      = if h : q.val < 3072 then d (ix2 p (⟨848 + q.val, by omega⟩ : Fin 4960))
        else if h : q.val - 3072 < 1024 then d (ix2 p (⟨3920 + (q.val - 3072), by omega⟩ : Fin 4960))
        else if h : q.val - 3072 - 1024 < 256 then d (ix2 p (⟨512 + (q.val - 3072 - 1024), by omega⟩ : Fin 4960))
        else (0 : EReal) := by
  have z : (FloatOps.sitofp (F := Ideal) .f32 (0#32) : EReal) = 0 := by
    show (((0#32 : BitVec 32).toInt : ℝ) : EReal) = 0
    simp
  pointwise
  rw [z]
  by_cases h1 : q.val < 3072
  · rw [dif_pos (by omega), dif_pos h1, dif_pos h1]
  · rw [dif_neg h1]
    by_cases h2 : q.val - 3072 < 1024
    · rw [dif_pos (by omega), dif_neg h1, dif_pos h2, dif_pos h2]
    · rw [dif_neg h2]
      by_cases h3 : q.val - 3072 - 1024 < 256
      · rw [dif_pos (by omega), dif_neg h1, dif_neg h2, dif_pos h3]
      · rw [dif_neg (by omega), dif_neg h3]

/-- The reference's result. -/
theorem reference_entry (a : FVec Ideal S8448x2048 .bf16) (w : FVec Ideal S1x2048x4960 .f32) (p : Fin 8448) (q : Fin 4608) :
    (pad S8448x4608 ![0, 0] ![0, 256] ![0, 0] (concatenate S8448x4352 1 [⟨S8448x3072, extractStridedSlice S8448x3072 ![0, 848] (prod a w) slices_S8448x4960_S8448x3072_0_848⟩,
      ⟨S8448x1024, extractStridedSlice S8448x1024 ![0, 3920] (prod a w) slices_S8448x4960_S8448x1024_0_3920⟩,
      ⟨S8448x256, extractStridedSlice S8448x256 ![0, 512] (prod a w) slices_S8448x4960_S8448x256_0_512⟩] concatenates_S8448x3072_S8448x1024_S8448x256_S8448x4352_d1)
      (sitofp (F := Ideal) .f32 (constantI S_ 32 0#32)) pads_S8448x4352_S8448x4608_000_02560 h_S_ (ix2 p q) : EReal)
      = mixed a w p q := by
  refine (taken _ p q).trans ?_
  unfold mixed col
  split_ifs
  · exact prod_entry a w p _
  · exact prod_entry a w p _
  · exact prod_entry a w p _
  · exact (Finset.sum_eq_zero fun k _ => mul_zero _).symm

/-- The reference runs and leaves its arguments and every semaphore as they were. -/
theorem reference_frame : quiescent_HyInReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_HyInIdeal_HyInReferenceIdeal := by
  intro m g m' g' _ ha
  refine ⟨fun c => (Cert.HyInIdeal.Gen.dats m 0 c).arrAt 2 Cert.HyInIdeal.cfg0.N, Cert.HyInIdeal.Value.run_blocks m g, ?_⟩
  refine (θ_run Cert.HyInReferenceIdeal.defs _ _).mono (fun r h c => ⟨(h c).1.trans ?_, (h c).2⟩)
    (Cert.HyInReferenceIdeal.Value.run (F := Ideal) m' g')
  rw [(ha c).1, (ha c).2]
  exact ext2 _ _ fun p q => (reference_entry _ _ p q).trans (kernel_entry m c p q).symm

end Cert.MixIn

end
-- ==== Proof.HeadHalf.lean ====
/-
  The layout of the key and value columns: eight heads of 256 columns each, a head's keys in its first 128 columns and its
  values in its last 128.
-/
module

public import Idealize.ShloMosaic.Lib.Pipeline.Value
public import Idealize.ShloMosaic.Lib.Pointwise

@[expose] public section

namespace Cert.HeadHalf

open Idealize.ShloMosaic Idealize.ShloMosaic.Pointwise

/-- The column at place `q` among the columns of one half, the half that starts at `o` in every head. -/
def place (o : Nat) (ho : o ≤ 128) (q : Fin 1024) : Fin 2048 := ⟨q.val / 128 * 256 + (o + q.val % 128), by omega⟩

variable {α : Type} {n : Nat}

/-- A transposed array. -/
theorem turned {l : Nat} (x : (⟨2, ![n, l]⟩ : Shape).Idx → α) (h : (⟨2, ![n, l]⟩ : Shape).Transposes [1, 0] ⟨2, ![l, n]⟩) (q : Fin l) (p : Fin n) :
    transpose _ [1, 0] x h (ix2 q p) = x (ix2 p q) := by
  refine transpose_apply _ x h _ _ fun b => ?_
  match b with
  | ⟨0, _⟩ => rfl
  | ⟨1, _⟩ => rfl

/-- Joining the heads of a [n, 8, 128] array. -/
theorem joined (x : (⟨3, ![n, 8, 128]⟩ : Shape).Idx → α) (h : (⟨3, ![n, 8, 128]⟩ : Shape).ShapeCasts ⟨2, ![n, 1024]⟩) (p : Fin n) (q : Fin 1024) :
    shapeCast _ x h (ix2 p q) = x (ix3 p (⟨q.val / 128, by omega⟩ : Fin 8) (⟨q.val % 128, by omega⟩ : Fin 128)) := by
  refine shapeCast_apply x h (ix2 p q) _ ?_
  refine (Shape.rowMajor_val_three _).trans (Eq.trans ?_ (Shape.rowMajor_val_two _).symm)
  show (p.val * 8 + q.val / 128) * 128 + q.val % 128 = p.val * 1024 + q.val
  omega

/-- One half of every head, out of a [n, 2048] array read as [n, 8, 256]. -/
theorem half (o : Nat) (ho : o ≤ 128) (x : (⟨2, ![n, 2048]⟩ : Shape).Idx → α) (h1 : (⟨2, ![n, 2048]⟩ : Shape).ShapeCasts ⟨3, ![n, 8, 256]⟩)
    (h2 : (⟨3, ![n, 8, 256]⟩ : Shape).Slices ![0, 0, o] ⟨3, ![n, 8, 128]⟩) (h3 : (⟨3, ![n, 8, 128]⟩ : Shape).ShapeCasts ⟨2, ![n, 1024]⟩)
    (p : Fin n) (q : Fin 1024) :
    shapeCast _ (extractStridedSlice _ ![0, 0, o] (shapeCast _ x h1) h2) h3 (ix2 p q) = x (ix2 p (place o ho q)) := by
  refine (joined _ h3 p q).trans ?_
  refine (extractStridedSlice_apply _ _ h2 _ (ix3 p (⟨q.val / 128, by omega⟩ : Fin 8) (⟨o + q.val % 128, by omega⟩ : Fin 256)) ?_).trans ?_
  · intro a
    match a with
    | ⟨0, _⟩ => exact (Nat.zero_add _).symm
    | ⟨1, _⟩ => exact (Nat.zero_add _).symm
    | ⟨2, _⟩ => rfl
  refine shapeCast_apply x h1 _ (ix2 p (place o ho q)) ?_
  refine (Shape.rowMajor_val_two _).trans (Eq.trans ?_ (Shape.rowMajor_val_three _).symm)
  show p.val * 2048 + (q.val / 128 * 256 + (o + q.val % 128)) = (p.val * 8 + q.val / 128) * 256 + (o + q.val % 128)
  omega

/-- The same half, out of a [1, n, 2048] array read as [n, 8, 2, 128]; `b` says which of the two. -/
theorem part (b : Nat) (hb : b < 2) (ho : b * 128 ≤ 128) (x : (⟨3, ![1, n, 2048]⟩ : Shape).Idx → α)
    (h0 : (⟨3, ![1, n, 2048]⟩ : Shape).ShapeCasts ⟨2, ![n, 2048]⟩)
    (h1 : (⟨2, ![n, 2048]⟩ : Shape).ShapeCasts ⟨4, ![n, 8, 2, 128]⟩)
    (h2 : (⟨4, ![n, 8, 2, 128]⟩ : Shape).Slices ![0, 0, b, 0] ⟨4, ![n, 8, 1, 128]⟩)
    (h3 : (⟨4, ![n, 8, 1, 128]⟩ : Shape).ShapeCasts ⟨3, ![n, 8, 128]⟩)
    (h4 : (⟨3, ![n, 8, 128]⟩ : Shape).ShapeCasts ⟨2, ![n, 1024]⟩) (p : Fin n) (q : Fin 1024) :
    shapeCast _ (shapeCast _ (extractStridedSlice _ ![0, 0, b, 0] (shapeCast _ (shapeCast _ x h0) h1) h2) h3) h4 (ix2 p q)
      = x (ix3 (0 : Fin 1) p (place (b * 128) ho q)) := by
  refine (joined _ h4 p q).trans ?_
  refine (shapeCast_apply _ h3 _ (ix4 p (⟨q.val / 128, by omega⟩ : Fin 8) (0 : Fin 1) (⟨q.val % 128, by omega⟩ : Fin 128)) ?_).trans ?_
  · refine (Shape.rowMajor_val_four _).trans (Eq.trans ?_ (Shape.rowMajor_val_three _).symm)
    show ((p.val * 8 + q.val / 128) * 1 + 0) * 128 + q.val % 128 = (p.val * 8 + q.val / 128) * 128 + q.val % 128
    omega
  refine (extractStridedSlice_apply _ _ h2 _ (ix4 p (⟨q.val / 128, by omega⟩ : Fin 8) (⟨b, hb⟩ : Fin 2) (⟨q.val % 128, by omega⟩ : Fin 128)) ?_).trans ?_
  · intro a
    match a with
    | ⟨0, _⟩ => exact (Nat.zero_add _).symm
    | ⟨1, _⟩ => exact (Nat.zero_add _).symm
    | ⟨2, _⟩ => rfl
    | ⟨3, _⟩ => exact (Nat.zero_add _).symm
  refine (shapeCast_apply _ h1 _ (ix2 p (place (b * 128) ho q)) ?_).trans ?_
  · refine (Shape.rowMajor_val_two _).trans (Eq.trans ?_ (Shape.rowMajor_val_four _).symm)
    show p.val * 2048 + (q.val / 128 * 256 + (b * 128 + q.val % 128)) = ((p.val * 8 + q.val / 128) * 2 + b) * 128 + q.val % 128
    omega
  refine shapeCast_apply x h0 _ (ix3 (0 : Fin 1) p (place (b * 128) ho q)) ?_
  refine (Shape.rowMajor_val_three _).trans (Eq.trans ?_ (Shape.rowMajor_val_two _).symm)
  show (0 * n + p.val) * 2048 + (place (b * 128) ho q).val = p.val * 2048 + (place (b * 128) ho q).val
  omega

/-- The same half, transposed. -/
theorem part_turned (h5 : (⟨2, ![n, 1024]⟩ : Shape).Transposes [1, 0] ⟨2, ![1024, n]⟩)
    (b : Nat) (hb : b < 2) (ho : b * 128 ≤ 128) (x : (⟨3, ![1, n, 2048]⟩ : Shape).Idx → α)
    (h0 : (⟨3, ![1, n, 2048]⟩ : Shape).ShapeCasts ⟨2, ![n, 2048]⟩)
    (h1 : (⟨2, ![n, 2048]⟩ : Shape).ShapeCasts ⟨4, ![n, 8, 2, 128]⟩)
    (h2 : (⟨4, ![n, 8, 2, 128]⟩ : Shape).Slices ![0, 0, b, 0] ⟨4, ![n, 8, 1, 128]⟩)
    (h3 : (⟨4, ![n, 8, 1, 128]⟩ : Shape).ShapeCasts ⟨3, ![n, 8, 128]⟩)
    (h4 : (⟨3, ![n, 8, 128]⟩ : Shape).ShapeCasts ⟨2, ![n, 1024]⟩) (p : Fin n) (q : Fin 1024) :
    transpose _ [1, 0] (shapeCast _ (shapeCast _ (extractStridedSlice _ ![0, 0, b, 0] (shapeCast _ (shapeCast _ x h0) h1) h2) h3) h4) h5 (ix2 q p)
      = x (ix3 (0 : Fin 1) p (place (b * 128) ho q)) :=
  (turned _ h5 q p).trans (part b hb ho x h0 h1 h2 h3 h4 p q)

/-- One half of every head out of a [n, 2048] array, transposed. -/
theorem half_turned (h4 : (⟨2, ![n, 1024]⟩ : Shape).Transposes [1, 0] ⟨2, ![1024, n]⟩)
    (o : Nat) (ho : o ≤ 128) (x : (⟨2, ![n, 2048]⟩ : Shape).Idx → α) (h1 : (⟨2, ![n, 2048]⟩ : Shape).ShapeCasts ⟨3, ![n, 8, 256]⟩)
    (h2 : (⟨3, ![n, 8, 256]⟩ : Shape).Slices ![0, 0, o] ⟨3, ![n, 8, 128]⟩) (h3 : (⟨3, ![n, 8, 128]⟩ : Shape).ShapeCasts ⟨2, ![n, 1024]⟩)
    (p : Fin n) (q : Fin 1024) :
    transpose _ [1, 0] (shapeCast _ (extractStridedSlice _ ![0, 0, o] (shapeCast _ x h1) h2) h3) h4 (ix2 q p) = x (ix2 p (place o ho q)) :=
  (turned _ h4 q p).trans (half o ho x h1 h2 h3 p q)

end Cert.HeadHalf
-- ==== Proof.UpKeys.lean ====
/-
  The up-projection of the sparse attention's keys: the kernel multiplies with the key columns of every head, the reference with
  all columns and takes the key half of every head out of the product.
-/
module

public import proofs.«01_k».proof.Defs
public import proofs.«01_k».proof.Proof.Products
public import proofs.«01_k».proof.Proof.HeadHalf
public import proofs.«01_k».proof.Proof.Gen.DsaKIdeal.Value
public import proofs.«01_k».proof.Proof.Gen.DsaKReferenceIdeal.Run
public import Idealize.ShloMosaic.Lib.Quiescent
public import Idealize.ShloMosaic.Lib.StableHlo.ReadAt

@[expose] public section

set_option maxRecDepth 16384

noncomputable section

namespace Cert.UpKeys

open Idealize.ShloMosaic Idealize.ShloMosaic.Pointwise Idealize.ShloMosaic.TcCoe Idealize.SL.Sem Cert.Products

/-- The key columns, head by head. -/
def col (w : (⟨3, ![1, 256, 2048]⟩ : Shape).Idx → EReal) (k : Fin 256) (q : Fin 1024) : EReal :=
  w (ix3 (0 : Fin 1) k (HeadHalf.place (0 * 128) (by omega) q))

/-- A row times one of them. -/
def keys (a : (⟨2, ![8448, 256]⟩ : Shape).Idx → EReal) (w : (⟨3, ![1, 256, 2048]⟩ : Shape).Idx → EReal) (p : Fin 8448) (q : Fin 1024) : EReal :=
  ∑ k : Fin 256, a (ix2 p k) * col w k q

section
open Cert.DsaKIdeal Cert.DsaKIdeal.Gen

/-- A point's block. -/
theorem block (x0 : Vec Ideal S768x256 .bf16) (x1 : Vec Ideal S256x1024 .bf16) (i : Fin 768) (j : Fin 1024) :
    (out0_2 (F := Ideal) x0 x1 (ix2 i j) : EReal) = ∑ k : Fin 256, (x0 (ix2 i k) : EReal) * x1 (ix2 k j) := by
  unfold out0_2
  rw [View.canon_unit_zero (S := S768x1024) zeros2]
  unfold k0_pay1
  pointwise

/-- Which block each window is at, at every point; every point writes its block back. -/
theorem idxs : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ win0_2.flush t = true :=
  (by decide +kernel : ∀ t : Fin grid0.N, _)

variable (m : (ℓ : Loc nD τ sig) → Buf (Elt Ideal) ℓ) (c : Dev nD)

/-- The rows a point reads. -/
theorem rows (t : Fin cfg0.N) (i : Fin 768) (k : Fin 256) (p : Fin 8448) (hp : t.val * 768 + i.val = p.val) :
    (iblk m c 0 t : Vec Ideal S768x256 .bf16) (ix2 i k) = m ((c : Thread nD τ).loc main_arg0) (ix2 p k) := by
  refine Eq.trans ?_ (congrFun (V_main_arg0 m c) (ix2 p k))
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 256 + 1 * k.val = k.val; exact at_first (idxs t).1.2

/-- What the host hands the launch. -/
theorem host_columns (k : Fin 256) (q : Fin 1024) :
    (V m c main_v5 (ix2 k q) : EReal) = col (m ((c : Thread nD τ).loc main_arg1)) k q := by
  unfold V col
  after_reads_simp
  exact HeadHalf.part 0 (by omega) (by omega) (m ((c : Thread nD τ).loc main_arg1)) shapeCasts_S1x256x2048_S256x2048 shapeCasts_S256x2048_S256x8x2x128
    slices_S256x8x2x128_S256x8x1x128_0_0_0_0 shapeCasts_S256x8x1x128_S256x8x128 shapeCasts_S256x8x128_S256x1024 k q

/-- The columns a point reads. -/
theorem columns (t : Fin cfg0.N) (k : Fin 256) (j : Fin 1024) (q : Fin 1024) (hq : 0 * 1024 + j.val = q.val) :
    (iblk m c 1 t : Vec Ideal S256x1024 .bf16) (ix2 k j) = col (m ((c : Thread nD τ).loc main_arg1)) k q := by
  refine Eq.trans ?_ (host_columns m c k q)
  show V m c main_v5 (((cfg0.win 1).blk t).view.emb (ix2 k j)) = _
  congr 1; funext a; apply Fin.ext
  match a with
  | ⟨0, _⟩ => show win0_1.index t (0 : Fin 2) * 256 + 1 * k.val = k.val; exact at_first (idxs t).2.1.1
  | ⟨1, _⟩ => show win0_1.index t (1 : Fin 2) * 1024 + 1 * j.val = q.val; exact at_block (idxs t).2.1.2 hq

/-- The kernel's array after the run. -/
theorem kernel_entry (p : Fin 8448) (q : Fin 1024) :
    ((dats m 0 c).arrAt 2 cfg0.N (ix2 p q) : EReal)
      = keys (m ((c : Thread nD τ).loc main_arg0)) (m ((c : Thread nD τ).loc main_arg1)) p q := by
  have hp := p.isLt; have hq := q.isLt
  have hN : p.val / 768 < cfg0.N := lt_of_lt_of_eq (by omega) N_0.symm
  have hb := congrFun ((Value.blocks2 m c ⟨p.val / 768, hN⟩ (idxs _).2.2.2).trans (Value.flushed2 m c _))
    (ix2 (⟨p.val % 768, by omega⟩ : Fin 768) (⟨q.val % 1024, by omega⟩ : Fin 1024))
  have e : ((cfg0.win 2).blk ⟨p.val / 768, hN⟩).view.emb (ix2 (⟨p.val % 768, by omega⟩ : Fin 768) (⟨q.val % 1024, by omega⟩ : Fin 1024))
      = ix2 p q := by
    funext a; apply Fin.ext
    match a with
    | ⟨0, _⟩ => show win0_2.index _ (0 : Fin 2) * 768 + 1 * (p.val % 768) = p.val; exact at_block (idxs _).2.2.1.1 (by dsimp only; omega)
    | ⟨1, _⟩ => show win0_2.index _ (1 : Fin 2) * 1024 + 1 * (q.val % 1024) = q.val; exact at_block (idxs _).2.2.1.2 (by omega)
  have h1 : ((dats m 0 c).arrAt 2 cfg0.N (ix2 p q) : EReal)
      = out0_2 (F := Ideal) (iblk m c 0 ⟨p.val / 768, hN⟩) (iblk m c 1 ⟨p.val / 768, hN⟩)
        (ix2 (⟨p.val % 768, by omega⟩ : Fin 768) (⟨q.val % 1024, by omega⟩ : Fin 1024)) :=
    (congrArg ((dats m 0 c).arrAt 2 cfg0.N) e).symm.trans hb
  refine h1.trans ((block _ _ _ _).trans ?_)
  unfold keys
  refine Finset.sum_congr rfl fun k _ => ?_
  rw [rows m c _ _ k p (by dsimp only; omega), columns m c _ k _ q (by dsimp only; omega)]

end

section
open Cert.DsaKReferenceIdeal Cert.DsaKReferenceIdeal.Gen

/-- The reference's product with all columns. -/
abbrev prod (a : FVec Ideal S8448x256 .bf16) (w : FVec Ideal S1x256x2048 .f32) : FVec Ideal S8448x2048 .f32 :=
  Host.dotGeneral dot_S8448x256_S256x2048_S8448x2048_1_0_0_1_n_n none (extf .f32 a bitsLt_bf16_f32) (shapeCast _ w shapeCasts_S1x256x2048_S256x2048)

theorem prod_entry (a : FVec Ideal S8448x256 .bf16) (w : FVec Ideal S1x256x2048 .f32) (p : Fin 8448) (j : Fin 2048) :
    (prod a w (ix2 p j) : EReal) = ∑ k : Fin 256, a (ix2 p k) * w (ix3 (0 : Fin 1) k j) := by
  unfold prod
  pointwise
  trace_state

theorem taken (d : FVec Ideal S8448x2048 .f32) (p : Fin 8448) (q : Fin 1024) :
    (truncf .bf16 (shapeCast _ (extractStridedSlice S8448x8x128 ![0, 0, 0] (shapeCast _ d shapeCasts_S8448x2048_S8448x8x256) slices_S8448x8x256_S8448x8x128_0_0_0)
      shapeCasts_S8448x8x128_S8448x1024) bitsLt_bf16_f32 (ix2 p q) : EReal) = d (ix2 p (HeadHalf.place (0 * 128) (by omega) q)) :=
  HeadHalf.half (0 * 128) (by omega) d shapeCasts_S8448x2048_S8448x8x256 slices_S8448x8x256_S8448x8x128_0_0_0 shapeCasts_S8448x8x128_S8448x1024 p q

/-- The reference's result. -/
theorem reference_entry (a : FVec Ideal S8448x256 .bf16) (w : FVec Ideal S1x256x2048 .f32) (p : Fin 8448) (q : Fin 1024) :
    (truncf .bf16 (shapeCast _ (extractStridedSlice S8448x8x128 ![0, 0, 0] (shapeCast _ (prod a w) shapeCasts_S8448x2048_S8448x8x256) slices_S8448x8x256_S8448x8x128_0_0_0)
      shapeCasts_S8448x8x128_S8448x1024) bitsLt_bf16_f32 (ix2 p q) : EReal) = keys a w p q :=
  (taken _ p q).trans (prod_entry a w p _)

/-- The reference runs and leaves its arguments and every semaphore as they were. -/
theorem reference_frame : quiescent_DsaKReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_DsaKIdeal_DsaKReferenceIdeal := by
  intro m g m' g' _ ha
  refine ⟨fun c => (Cert.DsaKIdeal.Gen.dats m 0 c).arrAt 2 Cert.DsaKIdeal.cfg0.N, Cert.DsaKIdeal.Value.run_blocks m g, ?_⟩
  refine (θ_run Cert.DsaKReferenceIdeal.defs _ _).mono (fun r h c => ⟨(h c).1.trans ?_, (h c).2⟩)
    (Cert.DsaKReferenceIdeal.Value.run (F := Ideal) m' g')
  rw [(ha c).1, (ha c).2]
  exact ext2 _ _ fun p q => (reference_entry _ _ p q).trans (kernel_entry m c p q).symm

end Cert.UpKeys

end
-- ==== Proof.UpValues.lean ====
/-
  The up-projection of the sparse attention's values: the kernel multiplies with the value columns of every head, the reference with
  all columns and takes the value half of every head out of the product.
-/
module

public import proofs.«01_k».proof.Defs
public import proofs.«01_k».proof.Proof.Products
public import proofs.«01_k».proof.Proof.HeadHalf
public import proofs.«01_k».proof.Proof.Gen.DsaVtIdeal.Value
public import proofs.«01_k».proof.Proof.Gen.DsaVtReferenceIdeal.Run
public import Idealize.ShloMosaic.Lib.Quiescent
public import Idealize.ShloMosaic.Lib.StableHlo.ReadAt

@[expose] public section

set_option maxRecDepth 16384

noncomputable section

namespace Cert.UpValues

open Idealize.ShloMosaic Idealize.ShloMosaic.Pointwise Idealize.ShloMosaic.TcCoe Idealize.SL.Sem Cert.Products

/-- The value columns, head by head. -/
def col (w : (⟨3, ![1, 256, 2048]⟩ : Shape).Idx → EReal) (k : Fin 256) (q : Fin 1024) : EReal :=
  w (ix3 (0 : Fin 1) k (HeadHalf.place (1 * 128) (by omega) q))

/-- A row times one of them. -/
def values (a : (⟨2, ![256, 8448]⟩ : Shape).Idx → EReal) (w : (⟨3, ![1, 256, 2048]⟩ : Shape).Idx → EReal) (p : Fin 8448) (q : Fin 1024) : EReal :=
  ∑ k : Fin 256, a (ix2 k p) * col w k q

section
open Cert.DsaVtIdeal Cert.DsaVtIdeal.Gen

/-- A point's block. -/
theorem block (x0 : Vec Ideal S1024x256 .bf16) (x1 : Vec Ideal S256x768 .bf16) (i : Fin 1024) (j : Fin 768) :
    (out0_2 (F := Ideal) x0 x1 (ix2 i j) : EReal) = ∑ k : Fin 256, (x0 (ix2 i k) : EReal) * x1 (ix2 k j) := by
  unfold out0_2
  rw [View.canon_unit_zero (S := S1024x768) zeros2]
  unfold k0_pay1
  pointwise

/-- Which block each window is at, at every point; every point writes its block back. -/
theorem idxs : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ win0_2.flush t = true :=
  (by decide +kernel : ∀ t : Fin grid0.N, _)

variable (m : (ℓ : Loc nD τ sig) → Buf (Elt Ideal) ℓ) (c : Dev nD)

/-- The input columns a point reads. -/
theorem inputs (t : Fin cfg0.N) (k : Fin 256) (j : Fin 768) (p : Fin 8448) (hp : t.val * 768 + j.val = p.val) :
    (iblk m c 1 t : Vec Ideal S256x768 .bf16) (ix2 k j) = m ((c : Thread nD τ).loc main_arg0) (ix2 k p) := by
  refine Eq.trans ?_ (congrFun (V_main_arg0 m c) (ix2 k p))
  show V m c main_arg0 (((cfg0.win 1).blk t).view.emb (ix2 k j)) = _
  congr 1; funext a; apply Fin.ext
  match a with
  | ⟨0, _⟩ => show win0_1.index t (0 : Fin 2) * 256 + 1 * k.val = k.val; exact at_first (idxs t).2.1.1
  | ⟨1, _⟩ => show win0_1.index t (1 : Fin 2) * 768 + 1 * j.val = p.val; exact at_block (idxs t).2.1.2 hp

/-- What the host hands the launch. -/
theorem host_columns (q : Fin 1024) (k : Fin 256) :
    (V m c main_v6 (ix2 q k) : EReal) = col (m ((c : Thread nD τ).loc main_arg1)) k q := by
  unfold V col
  after_reads_simp
  exact HeadHalf.part_turned transposes_S256x1024_S1024x256_1_0 1 (by omega) (by omega) (m ((c : Thread nD τ).loc main_arg1)) shapeCasts_S1x256x2048_S256x2048 shapeCasts_S256x2048_S256x8x2x128
    slices_S256x8x2x128_S256x8x1x128_0_0_1_0 shapeCasts_S256x8x1x128_S256x8x128 shapeCasts_S256x8x128_S256x1024 k q

/-- The weight columns a point reads. -/
theorem columns (t : Fin cfg0.N) (q : Fin 1024) (k : Fin 256) :
    (iblk m c 0 t : Vec Ideal S1024x256 .bf16) (ix2 q k) = col (m ((c : Thread nD τ).loc main_arg1)) k q := by
  refine Eq.trans ?_ (host_columns m c q k)
  show V m c main_v6 (((cfg0.win 0).blk t).view.emb (ix2 q k)) = _
  congr 1; funext a; apply Fin.ext
  match a with
  | ⟨0, _⟩ => show win0_0.index t (0 : Fin 2) * 1024 + 1 * q.val = q.val; exact at_first (idxs t).1.1
  | ⟨1, _⟩ => show win0_0.index t (1 : Fin 2) * 256 + 1 * k.val = k.val; exact at_first (idxs t).1.2

/-- The kernel's array after the run. -/
theorem kernel_entry (q : Fin 1024) (p : Fin 8448) :
    ((dats m 0 c).arrAt 2 cfg0.N (ix2 q p) : EReal)
      = values (m ((c : Thread nD τ).loc main_arg0)) (m ((c : Thread nD τ).loc main_arg1)) p q := by
  have hp := p.isLt
  have hN : p.val / 768 < cfg0.N := lt_of_lt_of_eq (by omega) N_0.symm
  have hb := congrFun ((Value.blocks2 m c ⟨p.val / 768, hN⟩ (idxs _).2.2.2).trans (Value.flushed2 m c _))
    (ix2 q (⟨p.val % 768, by omega⟩ : Fin 768))
  have e : ((cfg0.win 2).blk ⟨p.val / 768, hN⟩).view.emb (ix2 q (⟨p.val % 768, by omega⟩ : Fin 768)) = ix2 q p := by
    funext a; apply Fin.ext
    match a with
    | ⟨0, _⟩ => show win0_2.index _ (0 : Fin 2) * 1024 + 1 * q.val = q.val; exact at_first (idxs _).2.2.1.1
    | ⟨1, _⟩ => show win0_2.index _ (1 : Fin 2) * 768 + 1 * (p.val % 768) = p.val; exact at_block (idxs _).2.2.1.2 (by dsimp only; omega)
  have h1 : ((dats m 0 c).arrAt 2 cfg0.N (ix2 q p) : EReal)
      = out0_2 (F := Ideal) (iblk m c 0 ⟨p.val / 768, hN⟩) (iblk m c 1 ⟨p.val / 768, hN⟩) (ix2 q (⟨p.val % 768, by omega⟩ : Fin 768)) :=
    (congrArg ((dats m 0 c).arrAt 2 cfg0.N) e).symm.trans hb
  refine h1.trans ((block _ _ _ _).trans ?_)
  unfold values
  refine Finset.sum_congr rfl fun k _ => ?_
  rw [columns m c _ q k, inputs m c _ k _ p (by dsimp only; omega)]
  exact mul_comm _ _

end

section
open Cert.DsaVtReferenceIdeal Cert.DsaVtReferenceIdeal.Gen

/-- The reference's product with all columns. -/
abbrev prod (a : FVec Ideal S256x8448 .bf16) (w : FVec Ideal S1x256x2048 .f32) : FVec Ideal S8448x2048 .f32 :=
  Host.dotGeneral dot_S8448x256_S256x2048_S8448x2048_1_0_0_1_n_n none (extf .f32 (transpose S8448x256 [1, 0] a transposes_S256x8448_S8448x256_1_0) bitsLt_bf16_f32)
    (shapeCast _ w shapeCasts_S1x256x2048_S256x2048)

theorem prod_entry (a : FVec Ideal S256x8448 .bf16) (w : FVec Ideal S1x256x2048 .f32) (p : Fin 8448) (j : Fin 2048) :
    (prod a w (ix2 p j) : EReal) = ∑ k : Fin 256, a (ix2 k p) * w (ix3 (0 : Fin 1) k j) := by
  unfold prod
  pointwise

/-- The reference's result. -/
theorem reference_entry (a : FVec Ideal S256x8448 .bf16) (w : FVec Ideal S1x256x2048 .f32) (q : Fin 1024) (p : Fin 8448) :
    (truncf .bf16 (transpose S1024x8448 [1, 0] (shapeCast _ (extractStridedSlice S8448x8x128 ![0, 0, 128] (shapeCast _ (prod a w) shapeCasts_S8448x2048_S8448x8x256)
      slices_S8448x8x256_S8448x8x128_0_0_128) shapeCasts_S8448x8x128_S8448x1024) transposes_S8448x1024_S1024x8448_1_0) bitsLt_bf16_f32 (ix2 q p) : EReal) = values a w p q :=
  Eq.trans (HeadHalf.half_turned transposes_S8448x1024_S1024x8448_1_0 (1 * 128) (by omega) (prod a w) shapeCasts_S8448x2048_S8448x8x256
    slices_S8448x8x256_S8448x8x128_0_0_128 shapeCasts_S8448x8x128_S8448x1024 p q) (prod_entry a w p _)

/-- The reference runs and leaves its arguments and every semaphore as they were. -/
theorem reference_frame : quiescent_DsaVtReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_DsaVtIdeal_DsaVtReferenceIdeal := by
  intro m g m' g' _ ha
  refine ⟨fun c => (Cert.DsaVtIdeal.Gen.dats m 0 c).arrAt 2 Cert.DsaVtIdeal.cfg0.N, Cert.DsaVtIdeal.Value.run_blocks m g, ?_⟩
  refine (θ_run Cert.DsaVtReferenceIdeal.defs _ _).mono (fun r h c => ⟨(h c).1.trans ?_, (h c).2⟩)
    (Cert.DsaVtReferenceIdeal.Value.run (F := Ideal) m' g')
  rw [(ha c).1, (ha c).2]
  exact ext2 _ _ fun q p => (reference_entry _ _ q p).trans (kernel_entry m c q p).symm

end Cert.UpValues

end
-- ==== Proof.MixInFine.lean ====
/-
  The first mixer's input projection, for the low-rank queries, the index keys and weights, and the delta rule's gates: the
  kernel multiplies with these columns, brought together and followed by zero columns, every factor cut in two parts; the
  reference multiplies with all columns and takes the same ones out of the product. Of finite entries the second part is zero.
-/
module

public import proofs.«01_k».proof.Defs
public import proofs.«01_k».proof.Proof.Products
public import proofs.«01_k».proof.Proof.Gen.HyInX3Ideal.Value
public import proofs.«01_k».proof.Proof.Gen.HyInX3ReferenceIdeal.Run
public import Idealize.ShloMosaic.Lib.Quiescent
public import Idealize.ShloMosaic.Lib.StableHlo.ReadAt

@[expose] public section

set_option maxRecDepth 16384

noncomputable section

namespace Cert.MixInFine

open Idealize.ShloMosaic Idealize.ShloMosaic.Pointwise Idealize.ShloMosaic.TcCoe Idealize.SL.Sem Cert.Products

/-- What a column list gives at place `q`: the columns used, in their order, then zero. -/
def pick (f : Fin 4960 → EReal) (q : Fin 640) : EReal :=
  if h : q.val < 512 then f (⟨q.val, by omega⟩ : Fin 4960)
  else if h : q.val - 512 < 64 then f (⟨768 + (q.val - 512), by omega⟩ : Fin 4960)
  else if h : q.val - 512 - 64 < 16 then f (⟨832 + (q.val - 512 - 64), by omega⟩ : Fin 4960)
  else if h : q.val - 512 - 64 - 16 < 8 then f (⟨4944 + (q.val - 512 - 64 - 16), by omega⟩ : Fin 4960)
  else if h : q.val - 512 - 64 - 16 - 8 < 8 then f (⟨4952 + (q.val - 512 - 64 - 16 - 8), by omega⟩ : Fin 4960)
  else 0

/-- What holds of every column and of zero holds of the pick. -/
theorem pick_of {P : EReal → Prop} (f : Fin 4960 → EReal) (q : Fin 640) (h0 : P 0) (hf : ∀ j, P (f j)) : P (pick f q) := by
  unfold pick
  split_ifs
  · exact hf _
  · exact hf _
  · exact hf _
  · exact hf _
  · exact hf _
  · exact h0

/-- A row times the columns picked is the pick of the row's products. -/
theorem pick_sum {K : ℕ} (a : Fin K → EReal) (w : Fin K → Fin 4960 → EReal) (q : Fin 640) :
    ∑ k : Fin K, a k * pick (w k) q = pick (fun j => ∑ k : Fin K, a k * w k j) q := by
  unfold pick
  split_ifs
  · rfl
  · rfl
  · rfl
  · rfl
  · rfl
  · exact Finset.sum_eq_zero fun k _ => mul_zero _

/-- The columns used. -/
def col (w : (⟨3, ![1, 2048, 4960]⟩ : Shape).Idx → EReal) (k : Fin 2048) (q : Fin 640) : EReal := pick (fun j => w (ix3 (0 : Fin 1) k j)) q

/-- A row times one of them. -/
def fine (a : (⟨2, ![8448, 2048]⟩ : Shape).Idx → EReal) (w : (⟨3, ![1, 2048, 4960]⟩ : Shape).Idx → EReal) (p : Fin 8448) (q : Fin 640) : EReal :=
  ∑ k : Fin 2048, a (ix2 p k) * col w k q

/-- The three products of the parts are the product of the first ones where the second ones are zero. -/
theorem three {K : ℕ} (a b : Fin K → EReal) (a' b' : Fin K → EReal) (ha : ∀ k, a' k = 0) (hb : ∀ k, b' k = 0) :
    (∑ k, a k * b k + ∑ k, a k * b' k) + ∑ k, a' k * b k = ∑ k, a k * b k := by
  simp [ha, hb]

/-- A number less itself. -/
def rest (x : EReal) : EReal := x - x

/-- A finite number less itself is zero. -/
theorem rest_of_finite {x : EReal} (h : max x (-x) < ⊤) : rest x = 0 := by
  unfold rest
  have h := max_lt_iff.mp h
  have hb : x ≠ ⊥ := by
    rintro rfl
    simp at h
  exact EReal.sub_self h.1.ne hb

/-- The bound of the precondition is plus infinity. -/
theorem bits_top : Ideal.ofBits .f32 0x7F800000#32 = ⊤ := by simp [Ideal.ofBits, Ideal.ieee]

/-- None of an array's entries is infinite. -/
def AllFinite {s : Shape} (x : s.Idx → EReal) : Prop := ∀ i, max (x i) (-(x i)) < ⊤

/-- Arguments that meet the precondition are finite. -/
theorem finite_args [Cert.Pre_x3_finite.Facts] (u : FVec Ideal Cert.Pre_x3_finite.S8448x2048 .f32) (w : FVec Ideal Cert.Pre_x3_finite.S1x2048x4960 .f32)
    (h : (Cert.Pre_x3_finite.fn (F := Ideal) u w).1 = (fun _ => 1#1) ∧ (Cert.Pre_x3_finite.fn (F := Ideal) u w).2 = (fun _ => 1#1)) :
    AllFinite u ∧ AllFinite w := by
  refine ⟨fun i => ?_, fun i => ?_⟩
  · have e : BitVec.ofBool (decide (max (u i : EReal) (-(u i : EReal)) < Ideal.ofBits .f32 0x7F800000#32)) = 1#1 := congrFun h.1 i
    rw [bits_top] at e
    by_contra hn
    rw [decide_eq_false hn] at e
    exact absurd e (by decide)
  · have e : BitVec.ofBool (decide (max (w i : EReal) (-(w i : EReal)) < Ideal.ofBits .f32 0x7F800000#32)) = 1#1 := congrFun h.2 i
    rw [bits_top] at e
    by_contra hn
    rw [decide_eq_false hn] at e
    exact absurd e (by decide)

section
open Cert.HyInX3Ideal Cert.HyInX3Ideal.Gen

/-- What a point computes. -/
theorem computed (x0 x1 : Vec Ideal S768x2048 .bf16) (x2 x3 : Vec Ideal S2048x640 .bf16) (i : Fin 768) (j : Fin 640) :
    (k0_pay1 (F := Ideal) x0 x2 x3 x1 (ix2 i j) : EReal)
      = (∑ k : Fin 2048, (x0 (ix2 i k) : EReal) * x2 (ix2 k j) + ∑ k : Fin 2048, (x0 (ix2 i k) : EReal) * x3 (ix2 k j))
        + ∑ k : Fin 2048, (x1 (ix2 i k) : EReal) * x2 (ix2 k j) := by
  unfold k0_pay1
  pointwise

/-- A point's first block. -/
theorem block4 (x0 x1 : Vec Ideal S768x2048 .bf16) (x2 x3 : Vec Ideal S2048x640 .bf16) (j : Fin 640) (i : Fin 768) :
    (out0_4 (F := Ideal) x0 x1 x2 x3 (ix2 j i) : EReal) = k0_pay1 (F := Ideal) x0 x2 x3 x1 (ix2 i j) := by
  unfold out0_4
  rw [View.canon_unit_zero (S := S640x768) zeros2]
  unfold k0_pay2
  rw [View.ld_unit_zero (S := S768x2048) zeros2, View.ld_unit_zero (S := S768x2048) zeros2, View.ld_unit_zero (S := S2048x640) zeros2,
    View.ld_unit_zero (S := S2048x640) zeros2]
  pointwise

/-- A point's second block. -/
theorem block5 (x0 x1 : Vec Ideal S768x2048 .bf16) (x2 x3 : Vec Ideal S2048x640 .bf16) (i : Fin 768) (j : Fin 128) :
    (out0_5 (F := Ideal) x0 x1 x2 x3 (ix2 i j) : EReal) = k0_pay1 (F := Ideal) x0 x2 x3 x1 (ix2 i (⟨512 + j.val, by omega⟩ : Fin 640)) := by
  unfold out0_5
  rw [View.canon_unit_zero (S := S768x128) zeros2]
  unfold k0_pay3
  rw [View.ld_unit_zero (S := S768x2048) zeros2, View.ld_unit_zero (S := S768x2048) zeros2, View.ld_unit_zero (S := S2048x640) zeros2,
    View.ld_unit_zero (S := S2048x640) zeros2]
  pointwise

/-- Which block each window is at, at every point; every point writes its blocks back. -/
theorem idxs : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val)
    ∧ (win0_5.index t (0 : Fin 2) = t.val ∧ win0_5.index t (1 : Fin 2) = 0)
    ∧ win0_4.flush t = true ∧ win0_5.flush t = true :=
  (by decide +kernel : ∀ t : Fin grid0.N, _)

variable (m : (ℓ : Loc nD τ sig) → Buf (Elt Ideal) ℓ) (c : Dev nD)

/-- What the host hands the launch: the input's first part. -/
theorem host_first (p : Fin 8448) (k : Fin 2048) :
    (V m c main_v0 (ix2 p k) : EReal) = m ((c : Thread nD τ).loc main_arg0) (ix2 p k) := by
  unfold V
  after_reads_simp
  rfl

/-- The input's second part. -/
theorem host_second (p : Fin 8448) (k : Fin 2048) :
    (V m c main_v3 (ix2 p k) : EReal)
      = rest (m ((c : Thread nD τ).loc main_arg0) (ix2 p k)) := by
  unfold V
  after_reads_simp
  rfl

/-- The columns' first part. -/
theorem host_columns (k : Fin 2048) (q : Fin 640) :
    (V m c main_v12 (ix2 k q) : EReal) = col (m ((c : Thread nD τ).loc main_arg1)) k q := by
  unfold V col pick
  after_reads_at
  refine dite_congr rfl (fun _ => ?_) fun _ => dite_congr rfl (fun _ => ?_) fun _ => dite_congr rfl (fun _ => ?_) fun _ =>
    dite_congr rfl (fun _ => ?_) fun _ => dite_congr rfl (fun _ => ?_) fun _ => ?_
  · after_reads_at
  · after_reads_at
  · after_reads_at
  · after_reads_at
  · after_reads_at
  · after_reads_at

/-- The columns' second part. -/
theorem host_rest (k : Fin 2048) (q : Fin 640) :
    (V m c main_v15 (ix2 k q) : EReal) = rest (V m c main_v12 (ix2 k q)) := by
  unfold V
  after_reads_simp
  rfl

/-- The rows a point reads. -/
theorem rows (t : Fin cfg0.N) (i : Fin 768) (k : Fin 2048) (p : Fin 8448) (hp : t.val * 768 + i.val = p.val) :
    (iblk m c 0 t : Vec Ideal S768x2048 .bf16) (ix2 i k) = m ((c : Thread nD τ).loc main_arg0) (ix2 p k) := by
  refine Eq.trans ?_ (host_first m c p k)
  show V m c main_v0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 2048 + 1 * k.val = k.val; exact at_first (idxs t).1.2

theorem rows_rest (t : Fin cfg0.N) (i : Fin 768) (k : Fin 2048) (p : Fin 8448) (hp : t.val * 768 + i.val = p.val) :
    ((iblk m c 1 t : Vec Ideal S768x2048 .bf16) (ix2 i k) : EReal)
      = rest (m ((c : Thread nD τ).loc main_arg0) (ix2 p k)) := by
  refine Eq.trans ?_ (host_second m c p k)
  show V m c main_v3 (((cfg0.win 1).blk t).view.emb (ix2 i k)) = _
  congr 1; funext a; apply Fin.ext
  match a with
  | ⟨0, _⟩ => show win0_1.index t (0 : Fin 2) * 768 + 1 * i.val = p.val; exact at_block (idxs t).2.1.1 hp
  | ⟨1, _⟩ => show win0_1.index t (1 : Fin 2) * 2048 + 1 * k.val = k.val; exact at_first (idxs t).2.1.2

/-- The columns a point reads. -/
theorem columns (t : Fin cfg0.N) (k : Fin 2048) (q : Fin 640) :
    (iblk m c 2 t : Vec Ideal S2048x640 .bf16) (ix2 k q) = col (m ((c : Thread nD τ).loc main_arg1)) k q := by
  refine Eq.trans ?_ (host_columns m c k q)
  show V m c main_v12 (((cfg0.win 2).blk t).view.emb (ix2 k q)) = _
  congr 1; funext a; apply Fin.ext
  match a with
  | ⟨0, _⟩ => show win0_2.index t (0 : Fin 2) * 2048 + 1 * k.val = k.val; exact at_first (idxs t).2.2.1.1
  | ⟨1, _⟩ => show win0_2.index t (1 : Fin 2) * 640 + 1 * q.val = q.val; exact at_first (idxs t).2.2.1.2

theorem columns_rest (t : Fin cfg0.N) (k : Fin 2048) (q : Fin 640) :
    ((iblk m c 3 t : Vec Ideal S2048x640 .bf16) (ix2 k q) : EReal)
      = rest (col (m ((c : Thread nD τ).loc main_arg1)) k q) := by
  rw [← host_columns m c k q]
  refine Eq.trans ?_ (host_rest m c k q)
  show V m c main_v15 (((cfg0.win 3).blk t).view.emb (ix2 k q)) = _
  congr 1; funext a; apply Fin.ext
  match a with
  | ⟨0, _⟩ => show win0_3.index t (0 : Fin 2) * 2048 + 1 * k.val = k.val; exact at_first (idxs t).2.2.2.1.1
  | ⟨1, _⟩ => show win0_3.index t (1 : Fin 2) * 640 + 1 * q.val = q.val; exact at_first (idxs t).2.2.2.1.2

variable (hu : AllFinite (s := ⟨2, ![8448, 2048]⟩) (m ((c : Thread nD τ).loc main_arg0)))
  (hw : AllFinite (s := ⟨3, ![1, 2048, 4960]⟩) (m ((c : Thread nD τ).loc main_arg1)))

include hu hw in
/-- What a point computes of finite arguments. -/
theorem point (t : Fin cfg0.N) (i : Fin 768) (q : Fin 640) (p : Fin 8448) (hp : t.val * 768 + i.val = p.val) :
    (k0_pay1 (F := Ideal) (iblk m c 0 t) (iblk m c 2 t) (iblk m c 3 t) (iblk m c 1 t) (ix2 i q) : EReal)
      = fine (m ((c : Thread nD τ).loc main_arg0)) (m ((c : Thread nD τ).loc main_arg1)) p q := by
  refine (computed _ _ _ _ i q).trans ?_
  refine (three _ _ _ _ (fun k => ?_) (fun k => ?_)).trans ?_
  · exact (rows_rest m c t i k p hp).trans (rest_of_finite (hu _))
  · refine (columns_rest m c t k q).trans (rest_of_finite ?_)
    exact pick_of (P := fun x => max x (-x) < ⊤) _ q (by simp) fun j => hw _
  · unfold fine
    refine Finset.sum_congr rfl fun k _ => ?_
    rw [rows m c t i k p hp, columns m c t k q]

include hu hw in
/-- The kernel's first array after the run. -/
theorem kernel_entry4 (q : Fin 640) (p : Fin 8448) :
    ((dats m 0 c).arrAt 4 cfg0.N (ix2 q p) : EReal)
      = fine (m ((c : Thread nD τ).loc main_arg0)) (m ((c : Thread nD τ).loc main_arg1)) p q := by
  have hp := p.isLt
  have hN : p.val / 768 < cfg0.N := lt_of_lt_of_eq (by omega) N_0.symm
  have hb := congrFun ((Value.blocks4 m c ⟨p.val / 768, hN⟩ (idxs _).2.2.2.2.2.2.1).trans (Value.flushed4 m c _))
    (ix2 q (⟨p.val % 768, by omega⟩ : Fin 768))
  have e : ((cfg0.win 4).blk ⟨p.val / 768, hN⟩).view.emb (ix2 q (⟨p.val % 768, by omega⟩ : Fin 768)) = ix2 q p := by
    funext a; apply Fin.ext
    match a with
    | ⟨0, _⟩ => show win0_4.index _ (0 : Fin 2) * 640 + 1 * q.val = q.val; exact at_first (idxs _).2.2.2.2.1.1
    | ⟨1, _⟩ => show win0_4.index _ (1 : Fin 2) * 768 + 1 * (p.val % 768) = p.val; exact at_block (idxs _).2.2.2.2.1.2 (by dsimp only; omega)
  have h1 : ((dats m 0 c).arrAt 4 cfg0.N (ix2 q p) : EReal)
      = out0_4 (F := Ideal) (iblk m c 0 ⟨p.val / 768, hN⟩) (iblk m c 1 ⟨p.val / 768, hN⟩) (iblk m c 2 ⟨p.val / 768, hN⟩) (iblk m c 3 ⟨p.val / 768, hN⟩)
        (ix2 q (⟨p.val % 768, by omega⟩ : Fin 768)) :=
    (congrArg ((dats m 0 c).arrAt 4 cfg0.N) e).symm.trans hb
  exact h1.trans ((block4 _ _ _ _ _ _).trans (point m c hu hw _ _ q p (by dsimp only; omega)))

include hu hw in
/-- The kernel's second array after the run. -/
theorem kernel_entry5 (p : Fin 8448) (j : Fin 128) :
    ((dats m 0 c).arrAt 5 cfg0.N (ix2 p j) : EReal)
      = fine (m ((c : Thread nD τ).loc main_arg0)) (m ((c : Thread nD τ).loc main_arg1)) p (⟨512 + j.val, by omega⟩ : Fin 640) := by
  have hp := p.isLt
  have hN : p.val / 768 < cfg0.N := lt_of_lt_of_eq (by omega) N_0.symm
  have hb := congrFun ((Value.blocks5 m c ⟨p.val / 768, hN⟩ (idxs _).2.2.2.2.2.2.2).trans (Value.flushed5 m c _))
    (ix2 (⟨p.val % 768, by omega⟩ : Fin 768) j)
  have e : ((cfg0.win 5).blk ⟨p.val / 768, hN⟩).view.emb (ix2 (⟨p.val % 768, by omega⟩ : Fin 768) j) = ix2 p j := by
    funext a; apply Fin.ext
    match a with
    | ⟨0, _⟩ => show win0_5.index _ (0 : Fin 2) * 768 + 1 * (p.val % 768) = p.val; exact at_block (idxs _).2.2.2.2.2.1.1 (by dsimp only; omega)
    | ⟨1, _⟩ => show win0_5.index _ (1 : Fin 2) * 128 + 1 * j.val = j.val; exact at_first (idxs _).2.2.2.2.2.1.2
  have h1 : ((dats m 0 c).arrAt 5 cfg0.N (ix2 p j) : EReal)
      = out0_5 (F := Ideal) (iblk m c 0 ⟨p.val / 768, hN⟩) (iblk m c 1 ⟨p.val / 768, hN⟩) (iblk m c 2 ⟨p.val / 768, hN⟩) (iblk m c 3 ⟨p.val / 768, hN⟩)
        (ix2 (⟨p.val % 768, by omega⟩ : Fin 768) j) :=
    (congrArg ((dats m 0 c).arrAt 5 cfg0.N) e).symm.trans hb
  exact h1.trans ((block5 _ _ _ _ _ _).trans (point m c hu hw _ _ _ p (by dsimp only; omega)))

end

section
open Cert.HyInX3ReferenceIdeal Cert.HyInX3ReferenceIdeal.Gen

/-- The reference's product with all columns. -/
abbrev prod (a : FVec Ideal S8448x2048 .f32) (w : FVec Ideal S1x2048x4960 .f32) : FVec Ideal S8448x4960 .f32 :=
  Host.dotGeneral dot_S8448x2048_S2048x4960_S8448x4960_1_0_0_1_n_n none a (shapeCast _ w shapeCasts_S1x2048x4960_S2048x4960)

theorem prod_entry (a : FVec Ideal S8448x2048 .f32) (w : FVec Ideal S1x2048x4960 .f32) (p : Fin 8448) (j : Fin 4960) :
    (prod a w (ix2 p j) : EReal) = ∑ k : Fin 2048, a (ix2 p k) * w (ix3 (0 : Fin 1) k j) := by
  unfold prod
  pointwise

/-- The small columns out of a product. -/
abbrev small (d : FVec Ideal S8448x4960 .f32) : FVec Ideal S8448x128 .f32 :=
  pad S8448x128 ![0, 0] ![0, 32] ![0, 0] ((concatenate S8448x96 1 [⟨S8448x64, (extractStridedSlice S8448x64 ![0, 768] d slices_S8448x4960_S8448x64_0_768 : (⟨S8448x64, .f32⟩ : BufTy).Contents (Elt Ideal))⟩,
    ⟨S8448x16, (extractStridedSlice S8448x16 ![0, 832] d slices_S8448x4960_S8448x16_0_832 : (⟨S8448x16, .f32⟩ : BufTy).Contents (Elt Ideal))⟩,
    ⟨S8448x8, (extractStridedSlice S8448x8 ![0, 4944] d slices_S8448x4960_S8448x8_0_4944 : (⟨S8448x8, .f32⟩ : BufTy).Contents (Elt Ideal))⟩,
    ⟨S8448x8, (extractStridedSlice S8448x8 ![0, 4952] d slices_S8448x4960_S8448x8_0_4952 : (⟨S8448x8, .f32⟩ : BufTy).Contents (Elt Ideal))⟩]
    concatenates_S8448x64_S8448x16_S8448x8_S8448x8_S8448x96_d1 : (⟨S8448x96, .f32⟩ : BufTy).Contents (Elt Ideal)))
    (sitofp (F := Ideal) .f32 (constantI S_ 32 0#32)) pads_S8448x96_S8448x128_000_0320 h_S_

theorem taken (d : FVec Ideal S8448x4960 .f32) (p : Fin 8448) (j : Fin 128) :
    (small d (ix2 p j) : EReal)
      = if h : j.val < 64 then d (ix2 p (⟨768 + j.val, by omega⟩ : Fin 4960))
        else if h : j.val - 64 < 16 then d (ix2 p (⟨832 + (j.val - 64), by omega⟩ : Fin 4960))
        else if h : j.val - 64 - 16 < 8 then d (ix2 p (⟨4944 + (j.val - 64 - 16), by omega⟩ : Fin 4960))
        else if h : j.val - 64 - 16 - 8 < 8 then d (ix2 p (⟨4952 + (j.val - 64 - 16 - 8), by omega⟩ : Fin 4960))
        else (0 : EReal) := by
  have z : (FloatOps.sitofp (F := Ideal) .f32 (0#32) : EReal) = 0 := by
    show (((0#32 : BitVec 32).toInt : ℝ) : EReal) = 0
    simp
  unfold small
  pointwise
  rw [z]
  by_cases h1 : j.val < 64
  · rw [dif_pos (by omega), dif_pos h1, dif_pos h1]
  · rw [dif_neg h1]
    by_cases h2 : j.val - 64 < 16
    · rw [dif_pos (by omega), dif_neg h1, dif_pos h2, dif_pos h2]
    · rw [dif_neg h2]
      by_cases h3 : j.val - 64 - 16 < 8
      · rw [dif_pos (by omega), dif_neg h1, dif_neg h2, dif_pos h3, dif_pos h3]
      · rw [dif_neg h3]
        by_cases h4 : j.val - 64 - 16 - 8 < 8
        · rw [dif_pos (by omega), dif_neg h1, dif_neg h2, dif_neg h3, dif_pos h4]
        · rw [dif_neg (by omega), dif_neg h4]

/-- The small columns are the pick's last 128. -/
theorem small_pick (d : FVec Ideal S8448x4960 .f32) (p : Fin 8448) (q : Fin 640) (j : Fin 128) (hq : q.val = 512 + j.val) :
    (small d (ix2 p j) : EReal) = pick (fun l => d (ix2 p l)) q := by
  refine (taken d p j).trans ?_
  unfold pick
  have e : q.val - 512 = j.val := by omega
  have n : ¬ q.val < 512 := by omega
  rw [dif_neg n]
  simp only [e]

/-- The reference's second result. -/
theorem reference_entry5 (a : FVec Ideal S8448x2048 .f32) (w : FVec Ideal S1x2048x4960 .f32) (p : Fin 8448) (j : Fin 128) :
    (small (prod a w) (ix2 p j) : EReal) = fine a w p (⟨512 + j.val, by omega⟩ : Fin 640) := by
  refine (small_pick _ p (⟨512 + j.val, by omega⟩ : Fin 640) j rfl).trans ?_
  unfold fine col
  refine Eq.trans ?_ (pick_sum _ _ _).symm
  exact congrArg (fun f => pick f _) (funext fun l => prod_entry a w p l)

/-- All columns used, out of a product, before the reference turns them. -/
theorem joined (d : FVec Ideal S8448x4960 .f32) (s : FVec Ideal S8448x128 .f32) (q : Fin 640) (p : Fin 8448) :
    (transpose S640x8448 [1, 0] (concatenate S8448x640 1 [⟨S8448x512, (extractStridedSlice S8448x512 ![0, 0] d slices_S8448x4960_S8448x512_0_0)⟩, ⟨S8448x128, s⟩]
      concatenates_S8448x512_S8448x128_S8448x640_d1) transposes_S8448x640_S640x8448_1_0 (ix2 q p) : EReal)
      = if h : q.val < 512 then d (ix2 p (⟨q.val, by omega⟩ : Fin 4960)) else s (ix2 p (⟨q.val - 512, by omega⟩ : Fin 128)) := by
  pointwise

/-- The reference's first result. -/
theorem reference_entry4 (a : FVec Ideal S8448x2048 .f32) (w : FVec Ideal S1x2048x4960 .f32) (q : Fin 640) (p : Fin 8448) :
    (transpose S640x8448 [1, 0] (concatenate S8448x640 1 [⟨S8448x512, (extractStridedSlice S8448x512 ![0, 0] (prod a w) slices_S8448x4960_S8448x512_0_0)⟩, ⟨S8448x128, small (prod a w)⟩]
      concatenates_S8448x512_S8448x128_S8448x640_d1) transposes_S8448x640_S640x8448_1_0 (ix2 q p) : EReal) = fine a w p q := by
  refine (joined _ _ q p).trans ?_
  unfold fine col
  refine Eq.trans ?_ (pick_sum _ _ _).symm
  by_cases h : q.val < 512
  · rw [dif_pos h]
    refine (prod_entry a w p _).trans ?_
    unfold pick
    rw [dif_pos h]
  · rw [dif_neg h]
    refine (small_pick _ p q _ (by dsimp only; omega)).trans ?_
    exact congrArg (fun f => pick f _) (funext fun l => prod_entry a w p l)

/-- The reference runs and leaves its arguments and every semaphore as they were. -/
theorem reference_frame : quiescent_HyInX3ReferenceIdeal := fun m g _ =>
  (θ_run defs _ _).mono (fun r h => ⟨fun c => (h c).2.2, sem_eq_zero_of_no_sems (by decide) r.2⟩) (Value.run (F := Ideal) m g)

end

/-- The precondition's side conditions. -/
theorem pre_facts : Cert.Pre_x3_finite.Facts := ⟨by decide, by decide⟩

/-- The kernel and the reference end with equal results. -/
theorem equation [Cert.Pre_x3_finite.Facts] : algebraic_HyInX3Ideal_HyInX3ReferenceIdeal_pre_x3_finite := by
  intro m g m' g' hp ha
  refine ⟨fun c => (Cert.HyInX3Ideal.Gen.dats m 0 c).arrAt 4 Cert.HyInX3Ideal.cfg0.N, fun c => (Cert.HyInX3Ideal.Gen.dats m 0 c).arrAt 5 Cert.HyInX3Ideal.cfg0.N,
    Cert.HyInX3Ideal.Value.run_blocks m g, ?_⟩
  refine (θ_run Cert.HyInX3ReferenceIdeal.defs _ _).mono (fun r h c => ⟨(h c).1.trans ?_, (h c).2.1.trans ?_, (h c).2.2⟩)
    (Cert.HyInX3ReferenceIdeal.Value.run (F := Ideal) m' g')
  · rw [(ha c).1, (ha c).2]
    exact ext2 _ _ fun q p => (reference_entry4 _ _ q p).trans (kernel_entry4 m c (finite_args _ _ (hp c)).1 (finite_args _ _ (hp c)).2 q p).symm
  · rw [(ha c).1, (ha c).2]
    exact ext2 _ _ fun p j => (reference_entry5 _ _ p j).trans (kernel_entry5 m c (finite_args _ _ (hp c)).1 (finite_args _ _ (hp c)).2 p j).symm

end Cert.MixInFine

end
-- ==== Proof.UpQueries.lean ====
/-
  The up-projection of the sparse attention's queries: the kernel multiplies the turned weight with the turned rows, the reference
  the rows with the weight.
-/
module

public import proofs.«01_k».proof.Defs
public import proofs.«01_k».proof.Proof.Products
public import proofs.«01_k».proof.Proof.Gen.DsaQIdeal.Value
public import proofs.«01_k».proof.Proof.Gen.DsaQReferenceIdeal.Run
public import Idealize.ShloMosaic.Lib.Quiescent
public import Idealize.ShloMosaic.Lib.StableHlo.ReadAt

@[expose] public section

set_option maxRecDepth 16384

noncomputable section

namespace Cert.UpQueries

open Idealize.ShloMosaic Idealize.ShloMosaic.Pointwise Idealize.ShloMosaic.TcCoe Idealize.SL.Sem Cert.Products

/-- A row times a column. -/
def queries (a : (⟨2, ![512, 8448]⟩ : Shape).Idx → EReal) (w : (⟨3, ![1, 512, 1024]⟩ : Shape).Idx → EReal) (p : Fin 8448) (q : Fin 1024) : EReal :=
  ∑ k : Fin 512, a (ix2 k p) * w (ix3 (0 : Fin 1) k q)

section
open Cert.DsaQIdeal Cert.DsaQIdeal.Gen

/-- A point's block. -/
theorem block (x0 : Vec Ideal S1024x512 .bf16) (x1 : Vec Ideal S512x768 .bf16) (i : Fin 1024) (j : Fin 768) :
    (out0_2 (F := Ideal) x0 x1 (ix2 i j) : EReal) = ∑ k : Fin 512, (x0 (ix2 i k) : EReal) * x1 (ix2 k j) := by
  unfold out0_2
  rw [View.canon_unit_zero (S := S1024x768) zeros2]
  unfold k0_pay1
  pointwise

/-- Which block each window is at, at every point; every point writes its block back. -/
theorem idxs : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ win0_2.flush t = true :=
  (by decide +kernel : ∀ t : Fin grid0.N, _)

variable (m : (ℓ : Loc nD τ sig) → Buf (Elt Ideal) ℓ) (c : Dev nD)

/-- The input columns a point reads. -/
theorem inputs (t : Fin cfg0.N) (k : Fin 512) (j : Fin 768) (p : Fin 8448) (hp : t.val * 768 + j.val = p.val) :
    (iblk m c 1 t : Vec Ideal S512x768 .bf16) (ix2 k j) = m ((c : Thread nD τ).loc main_arg0) (ix2 k p) := by
  refine Eq.trans ?_ (congrFun (V_main_arg0 m c) (ix2 k p))
  show V m c main_arg0 (((cfg0.win 1).blk t).view.emb (ix2 k j)) = _
  congr 1; funext a; apply Fin.ext
  match a with
  | ⟨0, _⟩ => show win0_1.index t (0 : Fin 2) * 512 + 1 * k.val = k.val; exact at_first (idxs t).2.1.1
  | ⟨1, _⟩ => show win0_1.index t (1 : Fin 2) * 768 + 1 * j.val = p.val; exact at_block (idxs t).2.1.2 hp

/-- What the host hands the launch. -/
theorem host_columns (q : Fin 1024) (k : Fin 512) :
    (V m c main_v2 (ix2 q k) : EReal) = m ((c : Thread nD τ).loc main_arg1) (ix3 (0 : Fin 1) k q) := by
  unfold V
  after_reads_at

/-- The weight columns a point reads. -/
theorem columns (t : Fin cfg0.N) (q : Fin 1024) (k : Fin 512) :
    (iblk m c 0 t : Vec Ideal S1024x512 .bf16) (ix2 q k) = m ((c : Thread nD τ).loc main_arg1) (ix3 (0 : Fin 1) k q) := by
  refine Eq.trans ?_ (host_columns m c q k)
  show V m c main_v2 (((cfg0.win 0).blk t).view.emb (ix2 q k)) = _
  congr 1; funext a; apply Fin.ext
  match a with
  | ⟨0, _⟩ => show win0_0.index t (0 : Fin 2) * 1024 + 1 * q.val = q.val; exact at_first (idxs t).1.1
  | ⟨1, _⟩ => show win0_0.index t (1 : Fin 2) * 512 + 1 * k.val = k.val; exact at_first (idxs t).1.2

/-- The kernel's array after the run. -/
theorem kernel_entry (q : Fin 1024) (p : Fin 8448) :
    ((dats m 0 c).arrAt 2 cfg0.N (ix2 q p) : EReal)
      = queries (m ((c : Thread nD τ).loc main_arg0)) (m ((c : Thread nD τ).loc main_arg1)) p q := by
  have hp := p.isLt
  have hN : p.val / 768 < cfg0.N := lt_of_lt_of_eq (by omega) N_0.symm
  have hb := congrFun ((Value.blocks2 m c ⟨p.val / 768, hN⟩ (idxs _).2.2.2).trans (Value.flushed2 m c _))
    (ix2 q (⟨p.val % 768, by omega⟩ : Fin 768))
  have e : ((cfg0.win 2).blk ⟨p.val / 768, hN⟩).view.emb (ix2 q (⟨p.val % 768, by omega⟩ : Fin 768)) = ix2 q p := by
    funext a; apply Fin.ext
    match a with
    | ⟨0, _⟩ => show win0_2.index _ (0 : Fin 2) * 1024 + 1 * q.val = q.val; exact at_first (idxs _).2.2.1.1
    | ⟨1, _⟩ => show win0_2.index _ (1 : Fin 2) * 768 + 1 * (p.val % 768) = p.val; exact at_block (idxs _).2.2.1.2 (by dsimp only; omega)
  have h1 : ((dats m 0 c).arrAt 2 cfg0.N (ix2 q p) : EReal)
      = out0_2 (F := Ideal) (iblk m c 0 ⟨p.val / 768, hN⟩) (iblk m c 1 ⟨p.val / 768, hN⟩) (ix2 q (⟨p.val % 768, by omega⟩ : Fin 768)) :=
    (congrArg ((dats m 0 c).arrAt 2 cfg0.N) e).symm.trans hb
  refine h1.trans ((block _ _ _ _).trans ?_)
  unfold queries
  refine Finset.sum_congr rfl fun k _ => ?_
  rw [columns m c _ q k, inputs m c _ k _ p (by dsimp only; omega)]
  exact mul_comm _ _

end

section
open Cert.DsaQReferenceIdeal Cert.DsaQReferenceIdeal.Gen

/-- The reference's result. -/
theorem reference_entry (a : FVec Ideal S512x8448 .bf16) (w : FVec Ideal S1x512x1024 .f32) (q : Fin 1024) (p : Fin 8448) :
    (truncf .bf16 (transpose S1024x8448 [1, 0] (Host.dotGeneral dot_S8448x512_S512x1024_S8448x1024_1_0_0_1_n_n none
      (extf .f32 (transpose S8448x512 [1, 0] a transposes_S512x8448_S8448x512_1_0) bitsLt_bf16_f32)
      (shapeCast _ w shapeCasts_S1x512x1024_S512x1024)) transposes_S8448x1024_S1024x8448_1_0) bitsLt_bf16_f32 (ix2 q p) : EReal) = queries a w p q := by
  unfold queries
  pointwise

/-- The reference runs and leaves its arguments and every semaphore as they were. -/
theorem reference_frame : quiescent_DsaQReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_DsaQIdeal_DsaQReferenceIdeal := by
  intro m g m' g' _ ha
  refine ⟨fun c => (Cert.DsaQIdeal.Gen.dats m 0 c).arrAt 2 Cert.DsaQIdeal.cfg0.N, Cert.DsaQIdeal.Value.run_blocks m g, ?_⟩
  refine (θ_run Cert.DsaQReferenceIdeal.defs _ _).mono (fun r h c => ⟨(h c).1.trans ?_, (h c).2⟩)
    (Cert.DsaQReferenceIdeal.Value.run (F := Ideal) m' g')
  rw [(ha c).1, (ha c).2]
  exact ext2 _ _ fun q p => (reference_entry _ _ q p).trans (kernel_entry m c q p).symm

end Cert.UpQueries

end
-- ==== Proof.UpIndex.lean ====
/-
  The projection of the sparse attention's index queries: the kernel multiplies the turned weight with the turned rows, every
  factor cut in two parts, and lays every head out four times: its first part, its second part, its first part, zero. The
  reference multiplies the rows with the weight and lays the heads out likewise. Of finite entries every second part is zero.
-/
module

public import proofs.«01_k».proof.Defs
public import proofs.«01_k».proof.Proof.Products
public import proofs.«01_k».proof.Proof.HeadHalf
public import proofs.«01_k».proof.Proof.MixInFine
public import proofs.«01_k».proof.Proof.Gen.DsaQidxIdeal.Value
public import proofs.«01_k».proof.Proof.Gen.DsaQidxReferenceIdeal.Run
public import Idealize.ShloMosaic.Lib.Quiescent
public import Idealize.ShloMosaic.Lib.StableHlo.ReadAt

@[expose] public section

set_option maxRecDepth 16384

noncomputable section

namespace Cert.UpIndex

open Idealize.ShloMosaic Idealize.ShloMosaic.Pointwise Idealize.ShloMosaic.TcCoe Idealize.SL.Sem Cert.Products

/-- The column that row `r` of the result belongs to. -/
def place (r : Fin 4096) : Fin 1024 := ⟨r.val / 256 * 64 + r.val % 64, by omega⟩

/-- A row times a column. -/
def queries (a : (⟨2, ![512, 8448]⟩ : Shape).Idx → EReal) (w : (⟨3, ![1, 512, 1024]⟩ : Shape).Idx → EReal) (q : Fin 1024) (p : Fin 8448) : EReal :=
  ∑ k : Fin 512, w (ix3 (0 : Fin 1) k q) * a (ix2 k p)

/-- The result: a head's queries in the first and the third quarter of its rows, zero in the others. -/
def twice (a : (⟨2, ![512, 8448]⟩ : Shape).Idx → EReal) (w : (⟨3, ![1, 512, 1024]⟩ : Shape).Idx → EReal) (r : Fin 4096) (p : Fin 8448) : EReal :=
  if r.val / 64 % 2 = 0 then queries a w (place r) p else 0

/-- A sum of products of finite numbers is a real number. -/
theorem real_sum {K : ℕ} (f g : Fin K → EReal) (hf : ∀ k, max (f k) (-(f k)) < ⊤) (hg : ∀ k, max (g k) (-(g k)) < ⊤) :
    ∃ r : ℝ, ∑ k, f k * g k = (r : EReal) := by
  have real : ∀ x : EReal, max x (-x) < ⊤ → ∃ r : ℝ, x = (r : EReal) := by
    intro x h
    have h := max_lt_iff.mp h
    have hb : x ≠ ⊥ := by
      rintro rfl
      simp at h
    exact ⟨x.toReal, (EReal.coe_toReal h.1.ne hb).symm⟩
  refine Finset.sum_induction _ (fun x => ∃ r : ℝ, x = (r : EReal)) ?_ ⟨0, EReal.coe_zero.symm⟩ fun k _ => ?_
  · rintro _ _ ⟨r, rfl⟩ ⟨s, rfl⟩
    exact ⟨r + s, (EReal.coe_add r s).symm⟩
  · obtain ⟨r, hr⟩ := real _ (hf k)
    obtain ⟨s, hs⟩ := real _ (hg k)
    exact ⟨r * s, by rw [hr, hs, EReal.coe_mul]⟩

/-- A real number less itself is zero. -/
theorem rest_real {x : EReal} (h : ∃ r : ℝ, x = (r : EReal)) : MixInFine.rest x = 0 := by
  obtain ⟨r, rfl⟩ := h
  exact EReal.sub_self (EReal.coe_ne_top r) (EReal.coe_ne_bot r)

/-- Arguments that meet the precondition are finite. -/
theorem finite_args [Cert.Pre_qidx_finite.Facts] (u : FVec Ideal Cert.Pre_qidx_finite.S512x8448 .f32) (w : FVec Ideal Cert.Pre_qidx_finite.S1x512x1024 .f32)
    (h : (Cert.Pre_qidx_finite.fn (F := Ideal) u w).1 = (fun _ => 1#1) ∧ (Cert.Pre_qidx_finite.fn (F := Ideal) u w).2 = (fun _ => 1#1)) :
    MixInFine.AllFinite u ∧ MixInFine.AllFinite w := by
  refine ⟨fun i => ?_, fun i => ?_⟩
  · have e : BitVec.ofBool (decide (max (u i : EReal) (-(u i : EReal)) < Ideal.ofBits .f32 0x7F800000#32)) = 1#1 := congrFun h.1 i
    rw [MixInFine.bits_top] at e
    by_contra hn
    rw [decide_eq_false hn] at e
    exact absurd e (by decide)
  · have e : BitVec.ofBool (decide (max (w i : EReal) (-(w i : EReal)) < Ideal.ofBits .f32 0x7F800000#32)) = 1#1 := congrFun h.2 i
    rw [MixInFine.bits_top] at e
    by_contra hn
    rw [decide_eq_false hn] at e
    exact absurd e (by decide)

section
open Cert.DsaQidxIdeal Cert.DsaQidxIdeal.Gen

/-- What a point computes, before it lays it out. -/
theorem computed (x0 x1 : Vec Ideal S1024x512 .bf16) (x2 x3 : Vec Ideal S512x768 .bf16) (i : Fin 1024) (j : Fin 768) :
    (k0_pay6 (F := Ideal) x0 x2 x3 x1 (ix2 i j) : EReal)
      = (∑ k : Fin 512, (x0 (ix2 i k) : EReal) * x2 (ix2 k j) + ∑ k : Fin 512, (x0 (ix2 i k) : EReal) * x3 (ix2 k j))
        + ∑ k : Fin 512, (x1 (ix2 i k) : EReal) * x2 (ix2 k j) := by
  unfold k0_pay6
  pointwise

theorem computed_block (x0 x1 : Vec Ideal S1024x512 .bf16) (x2 x3 : Vec Ideal S512x768 .bf16) :
    k0_pay66 (F := Ideal) x0 x1 x2 x3 = k0_pay6 (F := Ideal) x0 x2 x3 x1 := by
  unfold k0_pay66
  rw [View.ld_unit_zero (S := S1024x512) zeros2, View.ld_unit_zero (S := S1024x512) zeros2, View.ld_unit_zero (S := S512x768) zeros2,
    View.ld_unit_zero (S := S512x768) zeros2]

/-- How a point lays out what it computes. -/
def laid (A : S1024x768.Idx → EReal) (y : S4096x768.Idx) : EReal :=
  if (y (0 : Fin 2)).val / 64 % 4 = 1 then MixInFine.rest (A (ix2 (place (y (0 : Fin 2))) (y (1 : Fin 2))))
  else if (y (0 : Fin 2)).val / 64 % 4 = 3 then 0
  else A (ix2 (place (y (0 : Fin 2))) (y (1 : Fin 2)))

/-- The slice a head's queries come from, at the place of the result. -/
theorem slice_at (A : S1024x768.Idx → EReal) (n o a : Nat) (hn : o = 64 * n) (ha : a = 64 * (n / 4)) (h : S1024x768.Slices ![a, 0] S64x768)
    (inb : ∀ b : Fin 2, (![o, 0] : Fin 2 → Nat) b + S64x768.size b ≤ S4096x768.size b) (x : S64x768.Idx) :
    extractStridedSlice S64x768 ![a, 0] A h x
      = A (ix2 (place ((Rect.unit (s := S4096x768) ![o, 0] S64x768.size inb).emb x (0 : Fin 2))) ((Rect.unit (s := S4096x768) ![o, 0] S64x768.size inb).emb x (1 : Fin 2))) := by
  have hx : (x (0 : Fin 2)).val < 64 := (x (0 : Fin 2)).isLt
  refine extractStridedSlice_apply _ A h x _ fun b => ?_
  match b with
  | ⟨0, _⟩ =>
    show (o + 1 * (x (0 : Fin 2)).val) / 256 * 64 + (o + 1 * (x (0 : Fin 2)).val) % 64 = a + (x (0 : Fin 2)).val
    omega
  | ⟨1, _⟩ =>
    show 0 + 1 * (x (1 : Fin 2)).val = 0 + (x (1 : Fin 2)).val
    omega

/-- Which of the sixty-four stripes a row of the result is in. -/
theorem stripe (n o : Nat) (hn : o = 64 * n) (inb : ∀ b : Fin 2, (![o, 0] : Fin 2 → Nat) b + S64x768.size b ≤ S4096x768.size b) (x : S64x768.Idx) :
    ((Rect.unit (s := S4096x768) ![o, 0] S64x768.size inb).emb x (0 : Fin 2)).val / 64 % 4 = n % 4 := by
  have hx : (x (0 : Fin 2)).val < 64 := (x (0 : Fin 2)).isLt
  show (o + 1 * (x (0 : Fin 2)).val) / 64 % 4 = n % 4
  omega

/-- A first part's stripe. -/
theorem piece_first (A : S1024x768.Idx → EReal) (n o a : Nat) (h4 : n % 4 = 0 ∨ n % 4 = 2) (hn : o = 64 * n) (ha : a = 64 * (n / 4))
    (h : S1024x768.Slices ![a, 0] S64x768) (inb : ∀ b : Fin 2, (![o, 0] : Fin 2 → Nat) b + S64x768.size b ≤ S4096x768.size b) (x : S64x768.Idx) :
    extractStridedSlice S64x768 ![a, 0] A h x = laid A ((Rect.unit (s := S4096x768) ![o, 0] S64x768.size inb).emb x) := by
  have hs := stripe n o hn inb x
  refine (slice_at A n o a hn ha h inb x).trans ?_
  unfold laid
  rw [if_neg (by omega), if_neg (by omega)]

/-- A second part's stripe. -/
theorem piece_second (A : S1024x768.Idx → EReal) (n o a : Nat) (h4 : n % 4 = 1) (hn : o = 64 * n) (ha : a = 64 * (n / 4))
    (h : S1024x768.Slices ![a, 0] S64x768) (inb : ∀ b : Fin 2, (![o, 0] : Fin 2 → Nat) b + S64x768.size b ≤ S4096x768.size b) (x : S64x768.Idx) :
    MixInFine.rest (extractStridedSlice S64x768 ![a, 0] A h x) = laid A ((Rect.unit (s := S4096x768) ![o, 0] S64x768.size inb).emb x) := by
  have hs := stripe n o hn inb x
  rw [slice_at A n o a hn ha h inb x]
  unfold laid
  rw [if_pos (by omega)]

/-- The bits of zero. -/
theorem bits_zero : Ideal.ofBits .bf16 0x0000#16 = 0 := by simp [Ideal.ofBits, Ideal.ieee]

/-- A stripe of zeros. -/
theorem piece_zero (A : S1024x768.Idx → EReal) (n o : Nat) (h4 : n % 4 = 3) (hn : o = 64 * n)
    (inb : ∀ b : Fin 2, (![o, 0] : Fin 2 → Nat) b + S64x768.size b ≤ S4096x768.size b) (x : S64x768.Idx) :
    Ideal.ofBits .bf16 0x0000#16 = laid A ((Rect.unit (s := S4096x768) ![o, 0] S64x768.size inb).emb x) := by
  have hs := stripe n o hn inb x
  rw [bits_zero]
  unfold laid
  rw [if_neg (by omega), if_pos (by omega)]

/-- The stores one by one. -/
theorem pieces_cons (G : S4096x768.Idx → Elt Ideal .bf16) (r : Rect S4096x768) (w : r.shape.Idx → Elt Ideal .bf16) (L : List (View.Piece (Elt Ideal) S4096x768 .bf16))
    (h1 : ∀ x : r.shape.Idx, w x = G (r.emb x)) (h2 : ∀ p ∈ L, ∀ x : p.1.shape.Idx, p.2 x = G (p.1.emb x)) :
    ∀ p ∈ (⟨r, w⟩ : View.Piece (Elt Ideal) S4096x768 .bf16) :: L, ∀ x : p.1.shape.Idx, p.2 x = G (p.1.emb x) := by
  intro p hp
  rcases List.mem_cons.mp hp with rfl | hp
  · exact h1
  · exact h2 p hp

/-- A point's block. -/
theorem block (x0 x1 : Vec Ideal S1024x512 .bf16) (x2 x3 : Vec Ideal S512x768 .bf16) (y : S4096x768.Idx) :
    (out0_4 (F := Ideal) x0 x1 x2 x3 y : EReal) = laid (k0_pay66 (F := Ideal) x0 x1 x2 x3) y := by
  unfold out0_4
  refine View.canon_apply_of_pieces (Val := Elt Ideal) (S := S4096x768) (e := .bf16) (laid (k0_pay66 (F := Ideal) x0 x1 x2 x3)) _ ?_ y (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine pieces_cons _ _ _ _ (fun x => piece_zero _ 63 4032 rfl rfl _ x) ?_
  refine pieces_cons _ _ _ _ (fun x => piece_first (k0_pay66 (F := Ideal) x0 x1 x2 x3) 62 3968 960 (by omega) rfl rfl slices_S1024x768_o960_0_S64x768 inb_S4096x768_S64x768_3968_0 x) ?_
  refine pieces_cons _ _ _ _ (fun x => piece_second (k0_pay66 (F := Ideal) x0 x1 x2 x3) 61 3904 960 rfl rfl rfl slices_S1024x768_o960_0_S64x768 inb_S4096x768_S64x768_3904_0 x) ?_
  refine pieces_cons _ _ _ _ (fun x => piece_first (k0_pay66 (F := Ideal) x0 x1 x2 x3) 60 3840 960 (by omega) rfl rfl slices_S1024x768_o960_0_S64x768 inb_S4096x768_S64x768_3840_0 x) ?_
  refine pieces_cons _ _ _ _ (fun x => piece_zero _ 59 3776 rfl rfl _ x) ?_
  refine pieces_cons _ _ _ _ (fun x => piece_first (k0_pay66 (F := Ideal) x0 x1 x2 x3) 58 3712 896 (by omega) rfl rfl slices_S1024x768_o896_0_S64x768 inb_S4096x768_S64x768_3712_0 x) ?_
  refine pieces_cons _ _ _ _ (fun x => piece_second (k0_pay66 (F := Ideal) x0 x1 x2 x3) 57 3648 896 rfl rfl rfl slices_S1024x768_o896_0_S64x768 inb_S4096x768_S64x768_3648_0 x) ?_
  refine pieces_cons _ _ _ _ (fun x => piece_first (k0_pay66 (F := Ideal) x0 x1 x2 x3) 56 3584 896 (by omega) rfl rfl slices_S1024x768_o896_0_S64x768 inb_S4096x768_S64x768_3584_0 x) ?_
  refine pieces_cons _ _ _ _ (fun x => piece_zero _ 55 3520 rfl rfl _ x) ?_
  refine pieces_cons _ _ _ _ (fun x => piece_first (k0_pay66 (F := Ideal) x0 x1 x2 x3) 54 3456 832 (by omega) rfl rfl slices_S1024x768_o832_0_S64x768 inb_S4096x768_S64x768_3456_0 x) ?_
  refine pieces_cons _ _ _ _ (fun x => piece_second (k0_pay66 (F := Ideal) x0 x1 x2 x3) 53 3392 832 rfl rfl rfl slices_S1024x768_o832_0_S64x768 inb_S4096x768_S64x768_3392_0 x) ?_
  refine pieces_cons _ _ _ _ (fun x => piece_first (k0_pay66 (F := Ideal) x0 x1 x2 x3) 52 3328 832 (by omega) rfl rfl slices_S1024x768_o832_0_S64x768 inb_S4096x768_S64x768_3328_0 x) ?_
  refine pieces_cons _ _ _ _ (fun x => piece_zero _ 51 3264 rfl rfl _ x) ?_
  refine pieces_cons _ _ _ _ (fun x => piece_first (k0_pay66 (F := Ideal) x0 x1 x2 x3) 50 3200 768 (by omega) rfl rfl slices_S1024x768_o768_0_S64x768 inb_S4096x768_S64x768_3200_0 x) ?_
  refine pieces_cons _ _ _ _ (fun x => piece_second (k0_pay66 (F := Ideal) x0 x1 x2 x3) 49 3136 768 rfl rfl rfl slices_S1024x768_o768_0_S64x768 inb_S4096x768_S64x768_3136_0 x) ?_
  refine pieces_cons _ _ _ _ (fun x => piece_first (k0_pay66 (F := Ideal) x0 x1 x2 x3) 48 3072 768 (by omega) rfl rfl slices_S1024x768_o768_0_S64x768 inb_S4096x768_S64x768_3072_0 x) ?_
  refine pieces_cons _ _ _ _ (fun x => piece_zero _ 47 3008 rfl rfl _ x) ?_
  refine pieces_cons _ _ _ _ (fun x => piece_first (k0_pay66 (F := Ideal) x0 x1 x2 x3) 46 2944 704 (by omega) rfl rfl slices_S1024x768_o704_0_S64x768 inb_S4096x768_S64x768_2944_0 x) ?_
  refine pieces_cons _ _ _ _ (fun x => piece_second (k0_pay66 (F := Ideal) x0 x1 x2 x3) 45 2880 704 rfl rfl rfl slices_S1024x768_o704_0_S64x768 inb_S4096x768_S64x768_2880_0 x) ?_
  refine pieces_cons _ _ _ _ (fun x => piece_first (k0_pay66 (F := Ideal) x0 x1 x2 x3) 44 2816 704 (by omega) rfl rfl slices_S1024x768_o704_0_S64x768 inb_S4096x768_S64x768_2816_0 x) ?_
  refine pieces_cons _ _ _ _ (fun x => piece_zero _ 43 2752 rfl rfl _ x) ?_
  refine pieces_cons _ _ _ _ (fun x => piece_first (k0_pay66 (F := Ideal) x0 x1 x2 x3) 42 2688 640 (by omega) rfl rfl slices_S1024x768_o640_0_S64x768 inb_S4096x768_S64x768_2688_0 x) ?_
  refine pieces_cons _ _ _ _ (fun x => piece_second (k0_pay66 (F := Ideal) x0 x1 x2 x3) 41 2624 640 rfl rfl rfl slices_S1024x768_o640_0_S64x768 inb_S4096x768_S64x768_2624_0 x) ?_
  refine pieces_cons _ _ _ _ (fun x => piece_first (k0_pay66 (F := Ideal) x0 x1 x2 x3) 40 2560 640 (by omega) rfl rfl slices_S1024x768_o640_0_S64x768 inb_S4096x768_S64x768_2560_0 x) ?_
  refine pieces_cons _ _ _ _ (fun x => piece_zero _ 39 2496 rfl rfl _ x) ?_
  refine pieces_cons _ _ _ _ (fun x => piece_first (k0_pay66 (F := Ideal) x0 x1 x2 x3) 38 2432 576 (by omega) rfl rfl slices_S1024x768_o576_0_S64x768 inb_S4096x768_S64x768_2432_0 x) ?_
  refine pieces_cons _ _ _ _ (fun x => piece_second (k0_pay66 (F := Ideal) x0 x1 x2 x3) 37 2368 576 rfl rfl rfl slices_S1024x768_o576_0_S64x768 inb_S4096x768_S64x768_2368_0 x) ?_
  refine pieces_cons _ _ _ _ (fun x => piece_first (k0_pay66 (F := Ideal) x0 x1 x2 x3) 36 2304 576 (by omega) rfl rfl slices_S1024x768_o576_0_S64x768 inb_S4096x768_S64x768_2304_0 x) ?_
  refine pieces_cons _ _ _ _ (fun x => piece_zero _ 35 2240 rfl rfl _ x) ?_
  refine pieces_cons _ _ _ _ (fun x => piece_first (k0_pay66 (F := Ideal) x0 x1 x2 x3) 34 2176 512 (by omega) rfl rfl slices_S1024x768_o512_0_S64x768 inb_S4096x768_S64x768_2176_0 x) ?_
  refine pieces_cons _ _ _ _ (fun x => piece_second (k0_pay66 (F := Ideal) x0 x1 x2 x3) 33 2112 512 rfl rfl rfl slices_S1024x768_o512_0_S64x768 inb_S4096x768_S64x768_2112_0 x) ?_
  refine pieces_cons _ _ _ _ (fun x => piece_first (k0_pay66 (F := Ideal) x0 x1 x2 x3) 32 2048 512 (by omega) rfl rfl slices_S1024x768_o512_0_S64x768 inb_S4096x768_S64x768_2048_0 x) ?_
  refine pieces_cons _ _ _ _ (fun x => piece_zero _ 31 1984 rfl rfl _ x) ?_
  refine pieces_cons _ _ _ _ (fun x => piece_first (k0_pay66 (F := Ideal) x0 x1 x2 x3) 30 1920 448 (by omega) rfl rfl slices_S1024x768_o448_0_S64x768 inb_S4096x768_S64x768_1920_0 x) ?_
  refine pieces_cons _ _ _ _ (fun x => piece_second (k0_pay66 (F := Ideal) x0 x1 x2 x3) 29 1856 448 rfl rfl rfl slices_S1024x768_o448_0_S64x768 inb_S4096x768_S64x768_1856_0 x) ?_
  refine pieces_cons _ _ _ _ (fun x => piece_first (k0_pay66 (F := Ideal) x0 x1 x2 x3) 28 1792 448 (by omega) rfl rfl slices_S1024x768_o448_0_S64x768 inb_S4096x768_S64x768_1792_0 x) ?_
  refine pieces_cons _ _ _ _ (fun x => piece_zero _ 27 1728 rfl rfl _ x) ?_
  refine pieces_cons _ _ _ _ (fun x => piece_first (k0_pay66 (F := Ideal) x0 x1 x2 x3) 26 1664 384 (by omega) rfl rfl slices_S1024x768_o384_0_S64x768 inb_S4096x768_S64x768_1664_0 x) ?_
  refine pieces_cons _ _ _ _ (fun x => piece_second (k0_pay66 (F := Ideal) x0 x1 x2 x3) 25 1600 384 rfl rfl rfl slices_S1024x768_o384_0_S64x768 inb_S4096x768_S64x768_1600_0 x) ?_
  refine pieces_cons _ _ _ _ (fun x => piece_first (k0_pay66 (F := Ideal) x0 x1 x2 x3) 24 1536 384 (by omega) rfl rfl slices_S1024x768_o384_0_S64x768 inb_S4096x768_S64x768_1536_0 x) ?_
  refine pieces_cons _ _ _ _ (fun x => piece_zero _ 23 1472 rfl rfl _ x) ?_
  refine pieces_cons _ _ _ _ (fun x => piece_first (k0_pay66 (F := Ideal) x0 x1 x2 x3) 22 1408 320 (by omega) rfl rfl slices_S1024x768_o320_0_S64x768 inb_S4096x768_S64x768_1408_0 x) ?_
  refine pieces_cons _ _ _ _ (fun x => piece_second (k0_pay66 (F := Ideal) x0 x1 x2 x3) 21 1344 320 rfl rfl rfl slices_S1024x768_o320_0_S64x768 inb_S4096x768_S64x768_1344_0 x) ?_
  refine pieces_cons _ _ _ _ (fun x => piece_first (k0_pay66 (F := Ideal) x0 x1 x2 x3) 20 1280 320 (by omega) rfl rfl slices_S1024x768_o320_0_S64x768 inb_S4096x768_S64x768_1280_0 x) ?_
  refine pieces_cons _ _ _ _ (fun x => piece_zero _ 19 1216 rfl rfl _ x) ?_
  refine pieces_cons _ _ _ _ (fun x => piece_first (k0_pay66 (F := Ideal) x0 x1 x2 x3) 18 1152 256 (by omega) rfl rfl slices_S1024x768_o256_0_S64x768 inb_S4096x768_S64x768_1152_0 x) ?_
  refine pieces_cons _ _ _ _ (fun x => piece_second (k0_pay66 (F := Ideal) x0 x1 x2 x3) 17 1088 256 rfl rfl rfl slices_S1024x768_o256_0_S64x768 inb_S4096x768_S64x768_1088_0 x) ?_
  refine pieces_cons _ _ _ _ (fun x => piece_first (k0_pay66 (F := Ideal) x0 x1 x2 x3) 16 1024 256 (by omega) rfl rfl slices_S1024x768_o256_0_S64x768 inb_S4096x768_S64x768_1024_0 x) ?_
  refine pieces_cons _ _ _ _ (fun x => piece_zero _ 15 960 rfl rfl _ x) ?_
  refine pieces_cons _ _ _ _ (fun x => piece_first (k0_pay66 (F := Ideal) x0 x1 x2 x3) 14 896 192 (by omega) rfl rfl slices_S1024x768_o192_0_S64x768 inb_S4096x768_S64x768_896_0 x) ?_
  refine pieces_cons _ _ _ _ (fun x => piece_second (k0_pay66 (F := Ideal) x0 x1 x2 x3) 13 832 192 rfl rfl rfl slices_S1024x768_o192_0_S64x768 inb_S4096x768_S64x768_832_0 x) ?_
  refine pieces_cons _ _ _ _ (fun x => piece_first (k0_pay66 (F := Ideal) x0 x1 x2 x3) 12 768 192 (by omega) rfl rfl slices_S1024x768_o192_0_S64x768 inb_S4096x768_S64x768_768_0 x) ?_
  refine pieces_cons _ _ _ _ (fun x => piece_zero _ 11 704 rfl rfl _ x) ?_
  refine pieces_cons _ _ _ _ (fun x => piece_first (k0_pay66 (F := Ideal) x0 x1 x2 x3) 10 640 128 (by omega) rfl rfl slices_S1024x768_o128_0_S64x768 inb_S4096x768_S64x768_640_0 x) ?_
  refine pieces_cons _ _ _ _ (fun x => piece_second (k0_pay66 (F := Ideal) x0 x1 x2 x3) 9 576 128 rfl rfl rfl slices_S1024x768_o128_0_S64x768 inb_S4096x768_S64x768_576_0 x) ?_
  refine pieces_cons _ _ _ _ (fun x => piece_first (k0_pay66 (F := Ideal) x0 x1 x2 x3) 8 512 128 (by omega) rfl rfl slices_S1024x768_o128_0_S64x768 inb_S4096x768_S64x768_512_0 x) ?_
  refine pieces_cons _ _ _ _ (fun x => piece_zero _ 7 448 rfl rfl _ x) ?_
  refine pieces_cons _ _ _ _ (fun x => piece_first (k0_pay66 (F := Ideal) x0 x1 x2 x3) 6 384 64 (by omega) rfl rfl slices_S1024x768_o64_0_S64x768 inb_S4096x768_S64x768_384_0 x) ?_
  refine pieces_cons _ _ _ _ (fun x => piece_second (k0_pay66 (F := Ideal) x0 x1 x2 x3) 5 320 64 rfl rfl rfl slices_S1024x768_o64_0_S64x768 inb_S4096x768_S64x768_320_0 x) ?_
  refine pieces_cons _ _ _ _ (fun x => piece_first (k0_pay66 (F := Ideal) x0 x1 x2 x3) 4 256 64 (by omega) rfl rfl slices_S1024x768_o64_0_S64x768 inb_S4096x768_S64x768_256_0 x) ?_
  refine pieces_cons _ _ _ _ (fun x => piece_zero _ 3 192 rfl rfl _ x) ?_
  refine pieces_cons _ _ _ _ (fun x => piece_first (k0_pay66 (F := Ideal) x0 x1 x2 x3) 2 128 0 (by omega) rfl rfl slices_S1024x768_o0_0_S64x768 inb_S4096x768_S64x768_128_0 x) ?_
  refine pieces_cons _ _ _ _ (fun x => piece_second (k0_pay66 (F := Ideal) x0 x1 x2 x3) 1 64 0 rfl rfl rfl slices_S1024x768_o0_0_S64x768 inb_S4096x768_S64x768_64_0 x) ?_
  refine pieces_cons _ _ _ _ (fun x => piece_first (k0_pay66 (F := Ideal) x0 x1 x2 x3) 0 0 0 (by omega) rfl rfl slices_S1024x768_o0_0_S64x768 inb_S4096x768_S64x768_0_0 x) ?_
  exact fun p hp => absurd hp List.not_mem_nil

/-- Which block each window is at, at every point; every point writes its block back. -/
theorem idxs : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ win0_4.flush t = true :=
  (by decide +kernel : ∀ t : Fin grid0.N, _)

variable (m : (ℓ : Loc nD τ sig) → Buf (Elt Ideal) ℓ) (c : Dev nD)

/-- What the host hands the launch: the weight's first part. -/
theorem host_columns (q : Fin 1024) (k : Fin 512) :
    (V m c main_v2 (ix2 q k) : EReal) = m ((c : Thread nD τ).loc main_arg1) (ix3 (0 : Fin 1) k q) := by
  unfold V
  after_reads_at

/-- The weight's second part. -/
theorem host_columns_rest (q : Fin 1024) (k : Fin 512) :
    (V m c main_v5 (ix2 q k) : EReal) = MixInFine.rest (V m c main_v2 (ix2 q k)) := by
  unfold V
  after_reads_simp
  rfl

/-- The input's first part. -/
theorem host_rows (k : Fin 512) (p : Fin 8448) :
    (V m c main_v6 (ix2 k p) : EReal) = m ((c : Thread nD τ).loc main_arg0) (ix2 k p) := by
  unfold V
  after_reads_simp
  rfl

/-- The input's second part. -/
theorem host_rows_rest (k : Fin 512) (p : Fin 8448) :
    (V m c main_v9 (ix2 k p) : EReal) = MixInFine.rest (m ((c : Thread nD τ).loc main_arg0) (ix2 k p)) := by
  unfold V
  after_reads_simp
  rfl

/-- The weight columns a point reads. -/
theorem columns (t : Fin cfg0.N) (q : Fin 1024) (k : Fin 512) :
    ((iblk m c 0 t : Vec Ideal S1024x512 .bf16) (ix2 q k) : EReal) = m ((c : Thread nD τ).loc main_arg1) (ix3 (0 : Fin 1) k q) := by
  refine Eq.trans ?_ (host_columns m c q k)
  show V m c main_v2 (((cfg0.win 0).blk t).view.emb (ix2 q k)) = _
  congr 1; funext a; apply Fin.ext
  match a with
  | ⟨0, _⟩ => show win0_0.index t (0 : Fin 2) * 1024 + 1 * q.val = q.val; exact at_first (idxs t).1.1
  | ⟨1, _⟩ => show win0_0.index t (1 : Fin 2) * 512 + 1 * k.val = k.val; exact at_first (idxs t).1.2

theorem columns_rest (t : Fin cfg0.N) (q : Fin 1024) (k : Fin 512) :
    ((iblk m c 1 t : Vec Ideal S1024x512 .bf16) (ix2 q k) : EReal)
      = MixInFine.rest (m ((c : Thread nD τ).loc main_arg1) (ix3 (0 : Fin 1) k q)) := by
  rw [← host_columns m c q k]
  refine Eq.trans ?_ (host_columns_rest m c q k)
  show V m c main_v5 (((cfg0.win 1).blk t).view.emb (ix2 q k)) = _
  congr 1; funext a; apply Fin.ext
  match a with
  | ⟨0, _⟩ => show win0_1.index t (0 : Fin 2) * 1024 + 1 * q.val = q.val; exact at_first (idxs t).2.1.1
  | ⟨1, _⟩ => show win0_1.index t (1 : Fin 2) * 512 + 1 * k.val = k.val; exact at_first (idxs t).2.1.2

/-- The input columns a point reads. -/
theorem inputs (t : Fin cfg0.N) (k : Fin 512) (j : Fin 768) (p : Fin 8448) (hp : t.val * 768 + j.val = p.val) :
    ((iblk m c 2 t : Vec Ideal S512x768 .bf16) (ix2 k j) : EReal) = m ((c : Thread nD τ).loc main_arg0) (ix2 k p) := by
  refine Eq.trans ?_ (host_rows m c k p)
  show V m c main_v6 (((cfg0.win 2).blk t).view.emb (ix2 k j)) = _
  congr 1; funext a; apply Fin.ext
  match a with
  | ⟨0, _⟩ => show win0_2.index t (0 : Fin 2) * 512 + 1 * k.val = k.val; exact at_first (idxs t).2.2.1.1
  | ⟨1, _⟩ => show win0_2.index t (1 : Fin 2) * 768 + 1 * j.val = p.val; exact at_block (idxs t).2.2.1.2 hp

theorem inputs_rest (t : Fin cfg0.N) (k : Fin 512) (j : Fin 768) (p : Fin 8448) (hp : t.val * 768 + j.val = p.val) :
    ((iblk m c 3 t : Vec Ideal S512x768 .bf16) (ix2 k j) : EReal) = MixInFine.rest (m ((c : Thread nD τ).loc main_arg0) (ix2 k p)) := by
  refine Eq.trans ?_ (host_rows_rest m c k p)
  show V m c main_v9 (((cfg0.win 3).blk t).view.emb (ix2 k j)) = _
  congr 1; funext a; apply Fin.ext
  match a with
  | ⟨0, _⟩ => show win0_3.index t (0 : Fin 2) * 512 + 1 * k.val = k.val; exact at_first (idxs t).2.2.2.1.1
  | ⟨1, _⟩ => show win0_3.index t (1 : Fin 2) * 768 + 1 * j.val = p.val; exact at_block (idxs t).2.2.2.1.2 hp

variable (hu : MixInFine.AllFinite (s := ⟨2, ![512, 8448]⟩) (m ((c : Thread nD τ).loc main_arg0)))
  (hw : MixInFine.AllFinite (s := ⟨3, ![1, 512, 1024]⟩) (m ((c : Thread nD τ).loc main_arg1)))

include hu hw in
/-- What a point computes of finite arguments. -/
theorem point (t : Fin cfg0.N) (q : Fin 1024) (j : Fin 768) (p : Fin 8448) (hp : t.val * 768 + j.val = p.val) :
    (k0_pay66 (F := Ideal) (iblk m c 0 t) (iblk m c 1 t) (iblk m c 2 t) (iblk m c 3 t) (ix2 q j) : EReal)
      = queries (m ((c : Thread nD τ).loc main_arg0)) (m ((c : Thread nD τ).loc main_arg1)) q p := by
  refine (congrFun (computed_block _ _ _ _) (ix2 q j)).trans ?_
  refine (computed _ _ _ _ q j).trans ?_
  refine (MixInFine.three _ _ _ _ (fun k => ?_) (fun k => ?_)).trans ?_
  · exact (columns_rest m c t q k).trans (MixInFine.rest_of_finite (hw _))
  · exact (inputs_rest m c t k j p hp).trans (MixInFine.rest_of_finite (hu _))
  · unfold queries
    refine Finset.sum_congr rfl fun k _ => ?_
    rw [columns m c t q k, inputs m c t k j p hp]

include hu hw in
/-- How a point's block looks, of finite arguments. -/
theorem block_entry (t : Fin cfg0.N) (r : Fin 4096) (j : Fin 768) (p : Fin 8448) (hp : t.val * 768 + j.val = p.val) :
    (out0_4 (F := Ideal) (iblk m c 0 t) (iblk m c 1 t) (iblk m c 2 t) (iblk m c 3 t) (ix2 r j) : EReal)
      = twice (m ((c : Thread nD τ).loc main_arg0)) (m ((c : Thread nD τ).loc main_arg1)) r p := by
  refine (block _ _ _ _ (ix2 r j)).trans ?_
  have e := point m c hu hw t (place r) j p hp
  have hr : ∃ x : ℝ, queries (m ((c : Thread nD τ).loc main_arg0)) (m ((c : Thread nD τ).loc main_arg1)) (place r) p = (x : EReal) :=
    real_sum _ _ (fun k => hw _) fun k => hu _
  show (if r.val / 64 % 4 = 1 then MixInFine.rest (k0_pay66 (F := Ideal) (iblk m c 0 t) (iblk m c 1 t) (iblk m c 2 t) (iblk m c 3 t) (ix2 (place r) j))
    else if r.val / 64 % 4 = 3 then 0
    else k0_pay66 (F := Ideal) (iblk m c 0 t) (iblk m c 1 t) (iblk m c 2 t) (iblk m c 3 t) (ix2 (place r) j) : EReal) = _
  rw [e]
  unfold twice
  by_cases h1 : r.val / 64 % 4 = 1
  · rw [if_pos h1, if_neg (by omega)]
    exact rest_real hr
  · by_cases h3 : r.val / 64 % 4 = 3
    · rw [if_neg h1, if_pos h3, if_neg (by omega)]
    · rw [if_neg h1, if_neg h3, if_pos (by omega)]

include hu hw in
/-- The kernel's array after the run. -/
theorem kernel_entry (r : Fin 4096) (p : Fin 8448) :
    ((dats m 0 c).arrAt 4 cfg0.N (ix2 r p) : EReal)
      = twice (m ((c : Thread nD τ).loc main_arg0)) (m ((c : Thread nD τ).loc main_arg1)) r p := by
  have hp := p.isLt
  have hN : p.val / 768 < cfg0.N := lt_of_lt_of_eq (by omega) N_0.symm
  have hb := congrFun ((Value.blocks4 m c ⟨p.val / 768, hN⟩ (idxs _).2.2.2.2.2).trans (Value.flushed4 m c _))
    (ix2 r (⟨p.val % 768, by omega⟩ : Fin 768))
  have e : ((cfg0.win 4).blk ⟨p.val / 768, hN⟩).view.emb (ix2 r (⟨p.val % 768, by omega⟩ : Fin 768)) = ix2 r p := by
    funext a; apply Fin.ext
    match a with
    | ⟨0, _⟩ => show win0_4.index _ (0 : Fin 2) * 4096 + 1 * r.val = r.val; exact at_first (idxs _).2.2.2.2.1.1
    | ⟨1, _⟩ => show win0_4.index _ (1 : Fin 2) * 768 + 1 * (p.val % 768) = p.val; exact at_block (idxs _).2.2.2.2.1.2 (by dsimp only; omega)
  have h1 : ((dats m 0 c).arrAt 4 cfg0.N (ix2 r p) : EReal)
      = out0_4 (F := Ideal) (iblk m c 0 ⟨p.val / 768, hN⟩) (iblk m c 1 ⟨p.val / 768, hN⟩) (iblk m c 2 ⟨p.val / 768, hN⟩) (iblk m c 3 ⟨p.val / 768, hN⟩)
        (ix2 r (⟨p.val % 768, by omega⟩ : Fin 768)) :=
    (congrArg ((dats m 0 c).arrAt 4 cfg0.N) e).symm.trans hb
  exact h1.trans (block_entry m c hu hw _ r _ p (by dsimp only; omega))

end

section
open Cert.DsaQidxReferenceIdeal Cert.DsaQidxReferenceIdeal.Gen

/-- The reference's product. -/
abbrev prod (a : FVec Ideal S512x8448 .f32) (w : FVec Ideal S1x512x1024 .f32) : FVec Ideal S8448x1024 .f32 :=
  Host.dotGeneral dot_S8448x512_S512x1024_S8448x1024_1_0_0_1_n_n none (transpose S8448x512 [1, 0] a transposes_S512x8448_S8448x512_1_0)
    (shapeCast _ w shapeCasts_S1x512x1024_S512x1024)

theorem prod_entry (a : FVec Ideal S512x8448 .f32) (w : FVec Ideal S1x512x1024 .f32) (p : Fin 8448) (q : Fin 1024) :
    (prod a w (ix2 p q) : EReal) = queries a w q p := by
  have h : (prod a w (ix2 p q) : EReal) = ∑ k : Fin 512, a (ix2 k p) * w (ix3 (0 : Fin 1) k q) := by
    unfold prod
    pointwise
  refine h.trans ?_
  unfold queries
  exact Finset.sum_congr rfl fun k _ => mul_comm _ _

/-- The reference's heads. -/
abbrev heads (d : FVec Ideal S8448x1024 .f32) : FVec Ideal S16x64x8448 .f32 :=
  shapeCast _ (transpose S1024x8448 [1, 0] d transposes_S8448x1024_S1024x8448_1_0) shapeCasts_S1024x8448_S16x64x8448

theorem heads_entry (d : FVec Ideal S8448x1024 .f32) (g : Fin 16) (s : Fin 64) (p : Fin 8448) (q : Fin 1024) (hq : q.val = g.val * 64 + s.val) :
    (heads d (ix3 g s p) : EReal) = d (ix2 p q) := by
  refine (shapeCast_apply _ shapeCasts_S1024x8448_S16x64x8448 (ix3 g s p) (ix2 q p) ?_).trans
    (HeadHalf.turned d transposes_S8448x1024_S1024x8448_1_0 q p)
  refine (Shape.rowMajor_val_two _).trans (Eq.trans ?_ (Shape.rowMajor_val_three _).symm)
  show q.val * 8448 + p.val = (g.val * 64 + s.val) * 8448 + p.val
  rw [hq]

/-- The zeros between them. -/
abbrev zeros : FVec Ideal S16x64x8448 .f32 := broadcastInDim S16x64x8448 ![] bcast_S_S16x64x8448 (constant S_ .f32 0x00000000#32)

theorem zeros_entry (i : S16x64x8448.Idx) : (zeros i : EReal) = 0 := by
  show Ideal.ofBits .f32 0x00000000#32 = 0
  simp [Ideal.ofBits, Ideal.ieee]

/-- Four arrays of heads, one behind the other in every head. -/
abbrev four (x z : FVec Ideal S16x64x8448 .f32) : FVec Ideal S16x256x8448 .f32 :=
  concatenate S16x256x8448 1 [⟨S16x64x8448, x⟩, ⟨S16x64x8448, z⟩, ⟨S16x64x8448, x⟩, ⟨S16x64x8448, z⟩]
    concatenates_S16x64x8448_S16x64x8448_S16x64x8448_S16x64x8448_S16x256x8448_d1

theorem four_entry (x z : FVec Ideal S16x64x8448 .f32) (g : Fin 16) (s : Fin 256) (p : Fin 8448) :
    (four x z (ix3 g s p) : EReal)
      = if h : s.val < 64 then x (ix3 g (⟨s.val, by omega⟩ : Fin 64) p)
        else if h : s.val - 64 < 64 then z (ix3 g (⟨s.val - 64, by omega⟩ : Fin 64) p)
        else if h : s.val - 64 - 64 < 64 then x (ix3 g (⟨s.val - 64 - 64, by omega⟩ : Fin 64) p)
        else z (ix3 g (⟨s.val - 64 - 64 - 64, by omega⟩ : Fin 64) p) := by
  unfold four
  pointwise

/-- The reference's result. -/
theorem reference_entry (a : FVec Ideal S512x8448 .f32) (w : FVec Ideal S1x512x1024 .f32) (r : Fin 4096) (p : Fin 8448) :
    (truncf .bf16 (shapeCast S4096x8448 (four (heads (prod a w)) zeros) shapeCasts_S16x256x8448_S4096x8448) bitsLt_bf16_f32 (ix2 r p) : EReal) = twice a w r p := by
  have e : (truncf .bf16 (shapeCast S4096x8448 (four (heads (prod a w)) zeros) shapeCasts_S16x256x8448_S4096x8448) bitsLt_bf16_f32 (ix2 r p) : EReal)
      = four (heads (prod a w)) zeros (ix3 (⟨r.val / 256, by omega⟩ : Fin 16) (⟨r.val % 256, by omega⟩ : Fin 256) p) := by
    show shapeCast S4096x8448 (four (heads (prod a w)) zeros) shapeCasts_S16x256x8448_S4096x8448 (ix2 r p) = _
    refine shapeCast_apply _ shapeCasts_S16x256x8448_S4096x8448 (ix2 r p) _ ?_
    refine (Shape.rowMajor_val_three _).trans (Eq.trans ?_ (Shape.rowMajor_val_two _).symm)
    show (r.val / 256 * 256 + r.val % 256) * 8448 + p.val = r.val * 8448 + p.val
    omega
  refine e.trans ((four_entry _ _ _ _ _).trans ?_)
  unfold twice
  by_cases h1 : r.val % 256 < 64
  · rw [dif_pos h1, if_pos (by omega)]
    exact (heads_entry _ _ _ p (place r) (by show r.val / 256 * 64 + r.val % 64 = r.val / 256 * 64 + r.val % 256; omega)).trans (prod_entry a w p _)
  · rw [dif_neg h1]
    by_cases h2 : r.val % 256 - 64 < 64
    · rw [dif_pos h2, if_neg (by omega)]
      exact zeros_entry _
    · rw [dif_neg h2]
      by_cases h3 : r.val % 256 - 64 - 64 < 64
      · rw [dif_pos h3, if_pos (by omega)]
        exact (heads_entry _ _ _ p (place r) (by show r.val / 256 * 64 + r.val % 64 = r.val / 256 * 64 + (r.val % 256 - 64 - 64); omega)).trans (prod_entry a w p _)
      · rw [dif_neg h3, if_neg (by omega)]
        exact zeros_entry _

/-- The reference runs and leaves its arguments and every semaphore as they were. -/
theorem reference_frame : quiescent_DsaQidxReferenceIdeal := fun m g _ =>
  (θ_run defs _ _).mono (fun r h => ⟨fun c => (h c).2, sem_eq_zero_of_no_sems (by decide) r.2⟩) (Value.run (F := Ideal) m g)

end

/-- The precondition's side conditions. -/
theorem pre_facts : Cert.Pre_qidx_finite.Facts := ⟨by decide, by decide⟩

/-- The kernel and the reference end with equal results. -/
theorem equation [Cert.Pre_qidx_finite.Facts] : algebraic_DsaQidxIdeal_DsaQidxReferenceIdeal_pre_qidx_finite := by
  intro m g m' g' hp ha
  refine ⟨fun c => (Cert.DsaQidxIdeal.Gen.dats m 0 c).arrAt 4 Cert.DsaQidxIdeal.cfg0.N, Cert.DsaQidxIdeal.Value.run_blocks m g, ?_⟩
  refine (θ_run Cert.DsaQidxReferenceIdeal.defs _ _).mono (fun r h c => ⟨(h c).1.trans ?_, (h c).2⟩)
    (Cert.DsaQidxReferenceIdeal.Value.run (F := Ideal) m' g')
  rw [(ha c).1, (ha c).2]
  exact ext2 _ _ fun r p => (reference_entry _ _ r p).trans (kernel_entry m c (finite_args _ _ (hp c)).1 (finite_args _ _ (hp c)).2 r p).symm

end Cert.UpIndex

end
-- ==== Proof.RowNorm.lean ====
/-
  A row brought to unit mean square and scaled by a gain.
-/
module

public import Idealize.ShloMosaic.Lib.Pointwise
public import proofs.«01_k».proof.Proof.Reals

@[expose] public section

noncomputable section

namespace Cert.RowNorm

open Idealize.ShloMosaic

/-- An entry of the row `r` over the root of the row's mean square and a small number, times the gain `g`. -/
def rowNorm (r g : Fin 2048 → EReal) (j : Fin 2048) : EReal :=
  r j * Ideal.rsqrt (Ideal.div (∑ k : Fin 2048, r k * r k) (Ideal.ofBits .f32 0x45000000#32) + Ideal.ofBits .f32 0x358637BD#32) * g j

theorem bits_2048 : Ideal.ofBits .f32 0x45000000#32 = ((2048 : ℝ) : EReal) := by
  simp [Ideal.ofBits, Ideal.ieee, -EReal.coe_mul]; norm_num

theorem bits_512 : Ideal.ofBits .f32 0x44000000#32 = ((512 : ℝ) : EReal) := by
  simp [Ideal.ofBits, Ideal.ieee, -EReal.coe_mul]; norm_num

theorem bits_small : Ideal.ofBits .f32 0x358637BD#32 = ((8796093 / 2 ^ 43 : ℝ) : EReal) := by
  simp [Ideal.ofBits, Ideal.ieee, -EReal.coe_mul]; norm_num

theorem bits_inf : Ideal.ofBits .f32 0x7F800000#32 = ⊤ := by simp [Ideal.ofBits, Ideal.ieee]

theorem square_nonneg (x : EReal) : 0 ≤ x * x := by
  induction x with
  | bot => simp
  | top => simp
  | coe x => rw [← EReal.coe_mul]; exact EReal.coe_nonneg.mpr (mul_self_nonneg x)

/-- The root's inverse of a positive number. -/
theorem rsqrt_pos {x : ℝ} (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.mpr h.le), if_neg h.ne']

/-- An entry so scaled is a real number if its gain is one, whatever the row. -/
theorem real_of_gain {n : ℕ} (r : Fin n → EReal) (j : Fin n) {D E g : EReal} {d e : ℝ} (hD : D = (d : EReal)) (hE : E = (e : EReal)) (hd : 0 < d) (he : 0 < e)
    (hg : max g (-g) < ⊤) : ∃ v : ℝ, r j * Ideal.rsqrt (Ideal.div (∑ k : Fin n, r k * r k) D + E) * g = (v : EReal) := by
  subst hD hE
  have hle : r j * r j ≤ ∑ k : Fin n, r k * r k := Finset.single_le_sum (f := fun k => r k * r k) (fun k _ => square_nonneg (r k)) (Finset.mem_univ j)
  have hs : 0 ≤ ∑ k : Fin n, r k * r k := Finset.sum_nonneg fun k _ => square_nonneg (r k)
  generalize ∑ k : Fin n, r k * r k = s at hle hs
  have hg := max_lt_iff.mp hg
  have hgb : g ≠ ⊥ := by
    rintro rfl
    simp at hg
  lift g to ℝ using ⟨hg.1.ne, hgb⟩
  induction s with
  | bot => simp at hs
  | top =>
    refine ⟨0, ?_⟩
    rw [Ideal.div_coe hd.ne', EReal.top_mul_coe_of_pos (by positivity), EReal.top_add_coe]
    show r j * 0 * (g : EReal) = _
    simp
  | coe s =>
    have h1 : r j ≠ ⊤ := by
      intro h
      rw [h] at hle
      simp at hle
    have h2 : r j ≠ ⊥ := by
      intro h
      rw [h] at hle
      simp at hle
    generalize r j = x at h1 h2
    lift x to ℝ using ⟨h1, h2⟩
    have hs' : 0 ≤ s := EReal.coe_nonneg.mp hs
    rw [Cert.Reals.div_real hd.ne', ← EReal.coe_add, rsqrt_pos (by positivity), ← EReal.coe_mul, ← EReal.coe_mul]
    exact ⟨_, rfl⟩

/-- A real number less itself. -/
theorem sub_real {x : EReal} (h : ∃ v : ℝ, x = (v : EReal)) : x - x = 0 := by
  obtain ⟨v, rfl⟩ := h
  rw [← EReal.coe_sub, sub_self]
  rfl

end Cert.RowNorm

end
-- ==== Proof.AddNorm0.lean ====
/-
  The stream's addition after the first mixer: the kernel adds the block's output, brought to unit mean square and scaled by its gain, to
  the stream, block of rows by block of rows, and does the same to the sum for what the next block reads; the reference does
  so on the arrays as a whole.
-/
module

public import proofs.«01_k».proof.Defs
public import proofs.«01_k».proof.Proof.Products
public import proofs.«01_k».proof.Proof.RowNorm
public import proofs.«01_k».proof.Proof.Gen.Resid0Ideal.Value
public import proofs.«01_k».proof.Proof.Gen.Resid0ReferenceIdeal.Run
public import Idealize.ShloMosaic.Lib.Quiescent
public import Idealize.ShloMosaic.Lib.StableHlo.ReadAt

@[expose] public section

set_option maxRecDepth 16384

noncomputable section

namespace Cert.AddNorm0

open Idealize.ShloMosaic Idealize.ShloMosaic.Pointwise Idealize.ShloMosaic.TcCoe Idealize.SL.Sem Cert.Products Cert.RowNorm

/-- The new stream. -/
def stream (h u : (⟨2, ![8448, 2048]⟩ : Shape).Idx → EReal) (g : (⟨2, ![2, 2048]⟩ : Shape).Idx → EReal) (p : Fin 8448) (j : Fin 2048) : EReal :=
  h (ix2 p j) + rowNorm (fun k => u (ix2 p k)) (fun k => g (ix2 (0 : Fin 2) k)) j

/-- What the next block reads. -/
def next (h u : (⟨2, ![8448, 2048]⟩ : Shape).Idx → EReal) (g n : (⟨2, ![2, 2048]⟩ : Shape).Idx → EReal) (p : Fin 8448) (j : Fin 2048) : EReal :=
  rowNorm (stream h u g p) (fun k => n (ix2 (0 : Fin 2) k)) j

section
open Cert.Resid0Ideal Cert.Resid0Ideal.Gen

/-- What a point adds up. -/
theorem computed (x0 : Vec Ideal S768x2048 .f32) (x1 : Vec Ideal S768x2048 .bf16) (x2 : Vec Ideal S1x2048 .f32) (i : Fin 768) (j : Fin 2048) :
    (k0_pay1 (F := Ideal) x0 x1 x2 (ix2 i j) : EReal)
      = x0 (ix2 i j) + rowNorm (fun k => x1 (ix2 i k)) (fun k => x2 (ix2 (0 : Fin 1) k)) j := by
  unfold k0_pay1 rowNorm
  pointwise

/-- What a point hands on. -/
theorem computed_next (x0 : Vec Ideal S768x2048 .f32) (x1 : Vec Ideal S768x2048 .bf16) (x2 x3 : Vec Ideal S1x2048 .f32) (i : Fin 768) (j : Fin 2048) :
    (k0_pay2 (F := Ideal) x0 x1 x2 x3 (ix2 i j) : EReal)
      = rowNorm (fun k => k0_pay1 (F := Ideal) x0 x1 x2 (ix2 i k)) (fun k => x3 (ix2 (0 : Fin 1) k)) j := by
  unfold k0_pay2 rowNorm
  pointwise

/-- A point's first block. -/
theorem block4 (x0 : Vec Ideal S768x2048 .f32) (x1 : Vec Ideal S768x2048 .bf16) (x2 x3 : Vec Ideal S1x2048 .f32) :
    out0_4 (F := Ideal) x0 x1 x2 x3 = k0_pay1 (F := Ideal) x0 x1 x2 := by
  unfold out0_4
  rw [View.canon_unit_zero (S := S768x2048) zeros2, View.ld_unit_zero (S := S768x2048) zeros2, View.ld_unit_zero (S := S768x2048) zeros2,
    View.ld_unit_zero (S := S1x2048) zeros2]

/-- A point's second block. -/
theorem block5 (x0 : Vec Ideal S768x2048 .f32) (x1 : Vec Ideal S768x2048 .bf16) (x2 x3 : Vec Ideal S1x2048 .f32) :
    out0_5 (F := Ideal) x0 x1 x2 x3 = k0_pay2 (F := Ideal) x0 x1 x2 x3 := by
  unfold out0_5
  rw [View.canon_unit_zero (S := S768x2048) zeros2, View.ld_unit_zero (S := S768x2048) zeros2, View.ld_unit_zero (S := S768x2048) zeros2,
    View.ld_unit_zero (S := S1x2048) zeros2, View.ld_unit_zero (S := S1x2048) zeros2]

/-- Which block each window is at, at every point; every point writes its blocks back. -/
theorem idxs : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ win0_4.flush t = true ∧ win0_5.flush t = true :=
  (by decide +kernel : ∀ t : Fin grid0.N, _)

variable (m : (ℓ : Loc nD τ sig) → Buf (Elt Ideal) ℓ) (c : Dev nD)

/-- The gain the host hands the launch. -/
theorem host_gain (k : Fin 2048) :
    (V m c main_v4 (ix2 (0 : Fin 1) k) : EReal) = m ((c : Thread nD τ).loc main_arg2) (ix2 (0 : Fin 2) k) := by
  unfold V
  after_reads_at

/-- The next block's gain. -/
theorem host_next (k : Fin 2048) :
    (V m c main_v5 (ix2 (0 : Fin 1) k) : EReal) = m ((c : Thread nD τ).loc main_arg3) (ix2 (0 : Fin 2) k) := by
  unfold V
  after_reads_at

/-- The stream's rows a point reads. -/
theorem rows (t : Fin cfg0.N) (i : Fin 768) (k : Fin 2048) (p : Fin 8448) (hp : t.val * 768 + i.val = p.val) :
    (iblk m c 0 t : Vec Ideal S768x2048 .f32) (ix2 i k) = m ((c : Thread nD τ).loc main_arg0) (ix2 p k) := by
  rw [← V_main_arg0 m c]
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 2048 + 1 * k.val = k.val; exact at_first (idxs t).1.2

/-- The rows of the block's output. -/
theorem rows_out (t : Fin cfg0.N) (i : Fin 768) (k : Fin 2048) (p : Fin 8448) (hp : t.val * 768 + i.val = p.val) :
    (iblk m c 1 t : Vec Ideal S768x2048 .bf16) (ix2 i k) = m ((c : Thread nD τ).loc main_arg1) (ix2 p k) := by
  rw [← V_main_arg1 m c]
  show V m c main_arg1 (((cfg0.win 1).blk t).view.emb (ix2 i k)) = _
  congr 1; funext a; apply Fin.ext
  match a with
  | ⟨0, _⟩ => show win0_1.index t (0 : Fin 2) * 768 + 1 * i.val = p.val; exact at_block (idxs t).2.1.1 hp
  | ⟨1, _⟩ => show win0_1.index t (1 : Fin 2) * 2048 + 1 * k.val = k.val; exact at_first (idxs t).2.1.2

/-- The gain a point reads. -/
theorem gain (t : Fin cfg0.N) (k : Fin 2048) :
    (iblk m c 2 t : Vec Ideal S1x2048 .f32) (ix2 (0 : Fin 1) k) = m ((c : Thread nD τ).loc main_arg2) (ix2 (0 : Fin 2) k) := by
  refine Eq.trans ?_ (host_gain m c k)
  show V m c main_v4 (((cfg0.win 2).blk t).view.emb (ix2 (0 : Fin 1) k)) = _
  congr 1; funext a; apply Fin.ext
  match a with
  | ⟨0, _⟩ => show win0_2.index t (0 : Fin 2) * 1 + 1 * 0 = 0; exact at_first (idxs t).2.2.1.1
  | ⟨1, _⟩ => show win0_2.index t (1 : Fin 2) * 2048 + 1 * k.val = k.val; exact at_first (idxs t).2.2.1.2

/-- The next block's gain a point reads. -/
theorem gain_next (t : Fin cfg0.N) (k : Fin 2048) :
    (iblk m c 3 t : Vec Ideal S1x2048 .f32) (ix2 (0 : Fin 1) k) = m ((c : Thread nD τ).loc main_arg3) (ix2 (0 : Fin 2) k) := by
  refine Eq.trans ?_ (host_next m c k)
  show V m c main_v5 (((cfg0.win 3).blk t).view.emb (ix2 (0 : Fin 1) k)) = _
  congr 1; funext a; apply Fin.ext
  match a with
  | ⟨0, _⟩ => show win0_3.index t (0 : Fin 2) * 1 + 1 * 0 = 0; exact at_first (idxs t).2.2.2.1.1
  | ⟨1, _⟩ => show win0_3.index t (1 : Fin 2) * 2048 + 1 * k.val = k.val; exact at_first (idxs t).2.2.2.1.2

/-- What a point adds up, in the arguments. -/
theorem point (t : Fin cfg0.N) (i : Fin 768) (j : Fin 2048) (p : Fin 8448) (hp : t.val * 768 + i.val = p.val) :
    (k0_pay1 (F := Ideal) (iblk m c 0 t) (iblk m c 1 t) (iblk m c 2 t) (ix2 i j) : EReal)
      = stream (m ((c : Thread nD τ).loc main_arg0)) (m ((c : Thread nD τ).loc main_arg1)) (m ((c : Thread nD τ).loc main_arg2)) p j := by
  refine (computed _ _ _ i j).trans ?_
  unfold stream
  exact congrArg₂ _ (rows m c t i j p hp)
    (congrArg₂ (fun f g => rowNorm f g j) (funext fun k => rows_out m c t i k p hp) (funext fun k => gain m c t k))

/-- What a point hands on, in the arguments. -/
theorem point_next (t : Fin cfg0.N) (i : Fin 768) (j : Fin 2048) (p : Fin 8448) (hp : t.val * 768 + i.val = p.val) :
    (k0_pay2 (F := Ideal) (iblk m c 0 t) (iblk m c 1 t) (iblk m c 2 t) (iblk m c 3 t) (ix2 i j) : EReal)
      = next (m ((c : Thread nD τ).loc main_arg0)) (m ((c : Thread nD τ).loc main_arg1)) (m ((c : Thread nD τ).loc main_arg2))
        (m ((c : Thread nD τ).loc main_arg3)) p j := by
  refine (computed_next _ _ _ _ i j).trans ?_
  unfold next
  exact congrArg₂ (fun f g => rowNorm f g j) (funext fun k => point m c t i k p hp) (funext fun k => gain_next m c t k)

/-- The kernel's first array after the run. -/
theorem kernel_entry4 (p : Fin 8448) (j : Fin 2048) :
    ((dats m 0 c).arrAt 4 cfg0.N (ix2 p j) : EReal)
      = stream (m ((c : Thread nD τ).loc main_arg0)) (m ((c : Thread nD τ).loc main_arg1)) (m ((c : Thread nD τ).loc main_arg2)) p j := by
  have hp := p.isLt
  have hN : p.val / 768 < cfg0.N := lt_of_lt_of_eq (by omega) N_0.symm
  have hb := congrFun ((Value.blocks4 m c ⟨p.val / 768, hN⟩ (idxs _).2.2.2.2.2.2.1).trans (Value.flushed4 m c _))
    (ix2 (⟨p.val % 768, by omega⟩ : Fin 768) j)
  have e : ((cfg0.win 4).blk ⟨p.val / 768, hN⟩).view.emb (ix2 (⟨p.val % 768, by omega⟩ : Fin 768) j) = ix2 p j := by
    funext a; apply Fin.ext
    match a with
    | ⟨0, _⟩ => show win0_4.index _ (0 : Fin 2) * 768 + 1 * (p.val % 768) = p.val; exact at_block (idxs _).2.2.2.2.1.1 (by dsimp only; omega)
    | ⟨1, _⟩ => show win0_4.index _ (1 : Fin 2) * 2048 + 1 * j.val = j.val; exact at_first (idxs _).2.2.2.2.1.2
  refine ((congrArg ((dats m 0 c).arrAt 4 cfg0.N) e).symm.trans hb).trans ?_
  exact (congrFun (block4 _ _ _ _) _).trans (point m c _ _ j p (by dsimp only; omega))

/-- The kernel's second array after the run. -/
theorem kernel_entry5 (p : Fin 8448) (j : Fin 2048) :
    ((dats m 0 c).arrAt 5 cfg0.N (ix2 p j) : EReal)
      = next (m ((c : Thread nD τ).loc main_arg0)) (m ((c : Thread nD τ).loc main_arg1)) (m ((c : Thread nD τ).loc main_arg2))
        (m ((c : Thread nD τ).loc main_arg3)) p j := by
  have hp := p.isLt
  have hN : p.val / 768 < cfg0.N := lt_of_lt_of_eq (by omega) N_0.symm
  have hb := congrFun ((Value.blocks5 m c ⟨p.val / 768, hN⟩ (idxs _).2.2.2.2.2.2.2).trans (Value.flushed5 m c _))
    (ix2 (⟨p.val % 768, by omega⟩ : Fin 768) j)
  have e : ((cfg0.win 5).blk ⟨p.val / 768, hN⟩).view.emb (ix2 (⟨p.val % 768, by omega⟩ : Fin 768) j) = ix2 p j := by
    funext a; apply Fin.ext
    match a with
    | ⟨0, _⟩ => show win0_5.index _ (0 : Fin 2) * 768 + 1 * (p.val % 768) = p.val; exact at_block (idxs _).2.2.2.2.2.1.1 (by dsimp only; omega)
    | ⟨1, _⟩ => show win0_5.index _ (1 : Fin 2) * 2048 + 1 * j.val = j.val; exact at_first (idxs _).2.2.2.2.2.1.2
  refine ((congrArg ((dats m 0 c).arrAt 5 cfg0.N) e).symm.trans hb).trans ?_
  exact (congrFun (block5 _ _ _ _) _).trans (point_next m c _ _ j p (by dsimp only; omega))

end

section
open Cert.Resid0ReferenceIdeal Cert.Resid0ReferenceIdeal.Gen

/-- The reference's scaling of rows to unit mean square, times a gain. -/
abbrev normed (a : FVec Ideal S8448x2048 .f32) (w : FVec Ideal S1x2048 .f32) : FVec Ideal S8448x2048 .f32 :=
  mulf (mulf a (broadcastInDim S8448x2048 ![0, 1] bcast_S8448x1_S8448x2048_0_1 (Host.rsqrt (addf (Host.divf (broadcastInDim S8448x1 ![0]
    bcast_S8448_S8448x1_0 (Host.reduceAdd (mulf a a) (constant S_ .f32 0x00000000#32) reducesTo_S8448x2048_S8448_d1 h_S_))
    (broadcastInDim S8448x1 ![] bcast_S_S8448x1 (constant S_ .f32 0x45000000#32))) (broadcastInDim S8448x1 ![] bcast_S_S8448x1
    (constant S_ .f32 0x358637BD#32)))))) (broadcastInDim S8448x2048 ![0, 1] bcast_S1x2048_S8448x2048_0_1 (broadcastInDim S1x2048 ![1]
    bcast_S2048_S1x2048_1 (shapeCast _ w shapeCasts_S1x2048_S2048)))

theorem normed_entry (a : FVec Ideal S8448x2048 .f32) (w : FVec Ideal S1x2048 .f32) (p : Fin 8448) (j : Fin 2048) :
    (normed a w (ix2 p j) : EReal) = rowNorm (fun k => a (ix2 p k)) (fun k => w (ix2 (0 : Fin 1) k)) j := by
  unfold normed rowNorm
  pointwise

/-- The row taken out of each stack of gains. -/
theorem row_gain (w : FVec Ideal S2x2048 .f32) (k : Fin 2048) :
    (extractStridedSlice S1x2048 ![0, 0] w slices_S2x2048_S1x2048_0_0 (ix2 (0 : Fin 1) k) : EReal) = w (ix2 (0 : Fin 2) k) := by
  pointwise

theorem row_next (w : FVec Ideal S2x2048 .f32) (k : Fin 2048) :
    (extractStridedSlice S1x2048 ![0, 0] w slices_S2x2048_S1x2048_0_0 (ix2 (0 : Fin 1) k) : EReal) = w (ix2 (0 : Fin 2) k) := by
  pointwise

/-- The reference's new stream. -/
abbrev added (h : FVec Ideal S8448x2048 .f32) (u : FVec Ideal S8448x2048 .bf16) (g : FVec Ideal S2x2048 .f32) : FVec Ideal S8448x2048 .f32 :=
  addf h (normed (extf .f32 u bitsLt_bf16_f32) (extractStridedSlice S1x2048 ![0, 0] g slices_S2x2048_S1x2048_0_0))

theorem reference_entry4 (h : FVec Ideal S8448x2048 .f32) (u : FVec Ideal S8448x2048 .bf16) (g : FVec Ideal S2x2048 .f32) (p : Fin 8448) (j : Fin 2048) :
    (added h u g (ix2 p j) : EReal) = stream h u g p j := by
  unfold stream
  refine congrArg ((h (ix2 p j) : EReal) + ·) ((normed_entry _ _ p j).trans ?_)
  exact congrArg (fun f => rowNorm _ f j) (funext fun k => row_gain g k)

/-- The reference's input of the next block. -/
theorem reference_entry5 (h : FVec Ideal S8448x2048 .f32) (u : FVec Ideal S8448x2048 .bf16) (g n : FVec Ideal S2x2048 .f32) (p : Fin 8448) (j : Fin 2048) :
    (truncf .bf16 (normed (added h u g) (extractStridedSlice S1x2048 ![0, 0] n slices_S2x2048_S1x2048_0_0)) bitsLt_bf16_f32 (ix2 p j) : EReal)
      = next h u g n p j := by
  unfold next
  refine (normed_entry _ _ p j).trans ?_
  exact congrArg₂ (fun f f' => rowNorm f f' j) (funext fun k => reference_entry4 h u g p k) (funext fun k => row_next n k)

/-- The reference runs and leaves its arguments and every semaphore as they were. -/
theorem reference_frame : quiescent_Resid0ReferenceIdeal := fun m g _ =>
  (θ_run defs _ _).mono (fun r h => ⟨fun c => (h c).2.2, sem_eq_zero_of_no_sems (by decide) r.2⟩) (Value.run (F := Ideal) m g)

end

/-- The kernel and the reference end with equal results. -/
theorem equation : algebraic_Resid0Ideal_Resid0ReferenceIdeal := by
  intro m g m' g' hp ha
  refine ⟨fun c => (Cert.Resid0Ideal.Gen.dats m 0 c).arrAt 4 Cert.Resid0Ideal.cfg0.N, fun c => (Cert.Resid0Ideal.Gen.dats m 0 c).arrAt 5 Cert.Resid0Ideal.cfg0.N,
    Cert.Resid0Ideal.Value.run_blocks m g, ?_⟩
  refine (θ_run Cert.Resid0ReferenceIdeal.defs _ _).mono (fun r h c => ⟨(h c).1.trans ?_, (h c).2.1.trans ?_, (h c).2.2⟩)
    (Cert.Resid0ReferenceIdeal.Value.run (F := Ideal) m' g')
  · rw [(ha c).1, (ha c).2.1, (ha c).2.2.1]
    exact ext2 _ _ fun p j => (reference_entry4 _ _ _ p j).trans (kernel_entry4 m c p j).symm
  · rw [(ha c).1, (ha c).2.1, (ha c).2.2.1, (ha c).2.2.2]
    exact ext2 _ _ fun p j => (reference_entry5 _ _ _ _ p j).trans (kernel_entry5 m c p j).symm

end Cert.AddNorm0

end
-- ==== Proof.AddNorm1.lean ====
/-
  The stream's addition after the first layer's feed-forward part: the kernel adds the block's output, brought to unit mean square and scaled by its gain, to
  the stream, block of rows by block of rows, and does the same to the sum for what the next block reads; the reference does
  so on the arrays as a whole.
-/
module

public import proofs.«01_k».proof.Defs
public import proofs.«01_k».proof.Proof.Products
public import proofs.«01_k».proof.Proof.RowNorm
public import proofs.«01_k».proof.Proof.Gen.Resid1Ideal.Value
public import proofs.«01_k».proof.Proof.Gen.Resid1ReferenceIdeal.Run
public import Idealize.ShloMosaic.Lib.Quiescent
public import Idealize.ShloMosaic.Lib.StableHlo.ReadAt

@[expose] public section

set_option maxRecDepth 16384

noncomputable section

namespace Cert.AddNorm1

open Idealize.ShloMosaic Idealize.ShloMosaic.Pointwise Idealize.ShloMosaic.TcCoe Idealize.SL.Sem Cert.Products Cert.RowNorm

/-- The new stream. -/
def stream (h u : (⟨2, ![8448, 2048]⟩ : Shape).Idx → EReal) (g : (⟨2, ![2, 2048]⟩ : Shape).Idx → EReal) (p : Fin 8448) (j : Fin 2048) : EReal :=
  h (ix2 p j) + rowNorm (fun k => u (ix2 p k)) (fun k => g (ix2 (0 : Fin 2) k)) j

/-- What the next block reads. -/
def next (h u : (⟨2, ![8448, 2048]⟩ : Shape).Idx → EReal) (g n : (⟨2, ![2, 2048]⟩ : Shape).Idx → EReal) (p : Fin 8448) (j : Fin 2048) : EReal :=
  rowNorm (stream h u g p) (fun k => n (ix2 (1 : Fin 2) k)) j

section
open Cert.Resid1Ideal Cert.Resid1Ideal.Gen

/-- What a point adds up. -/
theorem computed (x0 : Vec Ideal S768x2048 .f32) (x1 : Vec Ideal S768x2048 .bf16) (x2 : Vec Ideal S1x2048 .f32) (i : Fin 768) (j : Fin 2048) :
    (k0_pay1 (F := Ideal) x0 x1 x2 (ix2 i j) : EReal)
      = x0 (ix2 i j) + rowNorm (fun k => x1 (ix2 i k)) (fun k => x2 (ix2 (0 : Fin 1) k)) j := by
  unfold k0_pay1 rowNorm
  pointwise

/-- What a point hands on. -/
theorem computed_next (x0 : Vec Ideal S768x2048 .f32) (x1 : Vec Ideal S768x2048 .bf16) (x2 x3 : Vec Ideal S1x2048 .f32) (i : Fin 768) (j : Fin 2048) :
    (k0_pay2 (F := Ideal) x0 x1 x2 x3 (ix2 i j) : EReal)
      = rowNorm (fun k => k0_pay1 (F := Ideal) x0 x1 x2 (ix2 i k)) (fun k => x3 (ix2 (0 : Fin 1) k)) j := by
  unfold k0_pay2 rowNorm
  pointwise

/-- A point's first block. -/
theorem block4 (x0 : Vec Ideal S768x2048 .f32) (x1 : Vec Ideal S768x2048 .bf16) (x2 x3 : Vec Ideal S1x2048 .f32) :
    out0_4 (F := Ideal) x0 x1 x2 x3 = k0_pay1 (F := Ideal) x0 x1 x2 := by
  unfold out0_4
  rw [View.canon_unit_zero (S := S768x2048) zeros2, View.ld_unit_zero (S := S768x2048) zeros2, View.ld_unit_zero (S := S768x2048) zeros2,
    View.ld_unit_zero (S := S1x2048) zeros2]

/-- A point's second block. -/
theorem block5 (x0 : Vec Ideal S768x2048 .f32) (x1 : Vec Ideal S768x2048 .bf16) (x2 x3 : Vec Ideal S1x2048 .f32) :
    out0_5 (F := Ideal) x0 x1 x2 x3 = k0_pay2 (F := Ideal) x0 x1 x2 x3 := by
  unfold out0_5
  rw [View.canon_unit_zero (S := S768x2048) zeros2, View.ld_unit_zero (S := S768x2048) zeros2, View.ld_unit_zero (S := S768x2048) zeros2,
    View.ld_unit_zero (S := S1x2048) zeros2, View.ld_unit_zero (S := S1x2048) zeros2]

/-- Which block each window is at, at every point; every point writes its blocks back. -/
theorem idxs : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ win0_4.flush t = true ∧ win0_5.flush t = true :=
  (by decide +kernel : ∀ t : Fin grid0.N, _)

variable (m : (ℓ : Loc nD τ sig) → Buf (Elt Ideal) ℓ) (c : Dev nD)

/-- The gain the host hands the launch. -/
theorem host_gain (k : Fin 2048) :
    (V m c main_v4 (ix2 (0 : Fin 1) k) : EReal) = m ((c : Thread nD τ).loc main_arg2) (ix2 (0 : Fin 2) k) := by
  unfold V
  after_reads_at

/-- The next block's gain. -/
theorem host_next (k : Fin 2048) :
    (V m c main_v5 (ix2 (0 : Fin 1) k) : EReal) = m ((c : Thread nD τ).loc main_arg3) (ix2 (1 : Fin 2) k) := by
  unfold V
  after_reads_at

/-- The stream's rows a point reads. -/
theorem rows (t : Fin cfg0.N) (i : Fin 768) (k : Fin 2048) (p : Fin 8448) (hp : t.val * 768 + i.val = p.val) :
    (iblk m c 0 t : Vec Ideal S768x2048 .f32) (ix2 i k) = m ((c : Thread nD τ).loc main_arg0) (ix2 p k) := by
  rw [← V_main_arg0 m c]
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 2048 + 1 * k.val = k.val; exact at_first (idxs t).1.2

/-- The rows of the block's output. -/
theorem rows_out (t : Fin cfg0.N) (i : Fin 768) (k : Fin 2048) (p : Fin 8448) (hp : t.val * 768 + i.val = p.val) :
    (iblk m c 1 t : Vec Ideal S768x2048 .bf16) (ix2 i k) = m ((c : Thread nD τ).loc main_arg1) (ix2 p k) := by
  rw [← V_main_arg1 m c]
  show V m c main_arg1 (((cfg0.win 1).blk t).view.emb (ix2 i k)) = _
  congr 1; funext a; apply Fin.ext
  match a with
  | ⟨0, _⟩ => show win0_1.index t (0 : Fin 2) * 768 + 1 * i.val = p.val; exact at_block (idxs t).2.1.1 hp
  | ⟨1, _⟩ => show win0_1.index t (1 : Fin 2) * 2048 + 1 * k.val = k.val; exact at_first (idxs t).2.1.2

/-- The gain a point reads. -/
theorem gain (t : Fin cfg0.N) (k : Fin 2048) :
    (iblk m c 2 t : Vec Ideal S1x2048 .f32) (ix2 (0 : Fin 1) k) = m ((c : Thread nD τ).loc main_arg2) (ix2 (0 : Fin 2) k) := by
  refine Eq.trans ?_ (host_gain m c k)
  show V m c main_v4 (((cfg0.win 2).blk t).view.emb (ix2 (0 : Fin 1) k)) = _
  congr 1; funext a; apply Fin.ext
  match a with
  | ⟨0, _⟩ => show win0_2.index t (0 : Fin 2) * 1 + 1 * 0 = 0; exact at_first (idxs t).2.2.1.1
  | ⟨1, _⟩ => show win0_2.index t (1 : Fin 2) * 2048 + 1 * k.val = k.val; exact at_first (idxs t).2.2.1.2

/-- The next block's gain a point reads. -/
theorem gain_next (t : Fin cfg0.N) (k : Fin 2048) :
    (iblk m c 3 t : Vec Ideal S1x2048 .f32) (ix2 (0 : Fin 1) k) = m ((c : Thread nD τ).loc main_arg3) (ix2 (1 : Fin 2) k) := by
  refine Eq.trans ?_ (host_next m c k)
  show V m c main_v5 (((cfg0.win 3).blk t).view.emb (ix2 (0 : Fin 1) k)) = _
  congr 1; funext a; apply Fin.ext
  match a with
  | ⟨0, _⟩ => show win0_3.index t (0 : Fin 2) * 1 + 1 * 0 = 0; exact at_first (idxs t).2.2.2.1.1
  | ⟨1, _⟩ => show win0_3.index t (1 : Fin 2) * 2048 + 1 * k.val = k.val; exact at_first (idxs t).2.2.2.1.2

/-- What a point adds up, in the arguments. -/
theorem point (t : Fin cfg0.N) (i : Fin 768) (j : Fin 2048) (p : Fin 8448) (hp : t.val * 768 + i.val = p.val) :
    (k0_pay1 (F := Ideal) (iblk m c 0 t) (iblk m c 1 t) (iblk m c 2 t) (ix2 i j) : EReal)
      = stream (m ((c : Thread nD τ).loc main_arg0)) (m ((c : Thread nD τ).loc main_arg1)) (m ((c : Thread nD τ).loc main_arg2)) p j := by
  refine (computed _ _ _ i j).trans ?_
  unfold stream
  exact congrArg₂ _ (rows m c t i j p hp)
    (congrArg₂ (fun f g => rowNorm f g j) (funext fun k => rows_out m c t i k p hp) (funext fun k => gain m c t k))

/-- What a point hands on, in the arguments. -/
theorem point_next (t : Fin cfg0.N) (i : Fin 768) (j : Fin 2048) (p : Fin 8448) (hp : t.val * 768 + i.val = p.val) :
    (k0_pay2 (F := Ideal) (iblk m c 0 t) (iblk m c 1 t) (iblk m c 2 t) (iblk m c 3 t) (ix2 i j) : EReal)
      = next (m ((c : Thread nD τ).loc main_arg0)) (m ((c : Thread nD τ).loc main_arg1)) (m ((c : Thread nD τ).loc main_arg2))
        (m ((c : Thread nD τ).loc main_arg3)) p j := by
  refine (computed_next _ _ _ _ i j).trans ?_
  unfold next
  exact congrArg₂ (fun f g => rowNorm f g j) (funext fun k => point m c t i k p hp) (funext fun k => gain_next m c t k)

/-- The kernel's first array after the run. -/
theorem kernel_entry4 (p : Fin 8448) (j : Fin 2048) :
    ((dats m 0 c).arrAt 4 cfg0.N (ix2 p j) : EReal)
      = stream (m ((c : Thread nD τ).loc main_arg0)) (m ((c : Thread nD τ).loc main_arg1)) (m ((c : Thread nD τ).loc main_arg2)) p j := by
  have hp := p.isLt
  have hN : p.val / 768 < cfg0.N := lt_of_lt_of_eq (by omega) N_0.symm
  have hb := congrFun ((Value.blocks4 m c ⟨p.val / 768, hN⟩ (idxs _).2.2.2.2.2.2.1).trans (Value.flushed4 m c _))
    (ix2 (⟨p.val % 768, by omega⟩ : Fin 768) j)
  have e : ((cfg0.win 4).blk ⟨p.val / 768, hN⟩).view.emb (ix2 (⟨p.val % 768, by omega⟩ : Fin 768) j) = ix2 p j := by
    funext a; apply Fin.ext
    match a with
    | ⟨0, _⟩ => show win0_4.index _ (0 : Fin 2) * 768 + 1 * (p.val % 768) = p.val; exact at_block (idxs _).2.2.2.2.1.1 (by dsimp only; omega)
    | ⟨1, _⟩ => show win0_4.index _ (1 : Fin 2) * 2048 + 1 * j.val = j.val; exact at_first (idxs _).2.2.2.2.1.2
  refine ((congrArg ((dats m 0 c).arrAt 4 cfg0.N) e).symm.trans hb).trans ?_
  exact (congrFun (block4 _ _ _ _) _).trans (point m c _ _ j p (by dsimp only; omega))

/-- The kernel's second array after the run. -/
theorem kernel_entry5 (p : Fin 8448) (j : Fin 2048) :
    ((dats m 0 c).arrAt 5 cfg0.N (ix2 p j) : EReal)
      = next (m ((c : Thread nD τ).loc main_arg0)) (m ((c : Thread nD τ).loc main_arg1)) (m ((c : Thread nD τ).loc main_arg2))
        (m ((c : Thread nD τ).loc main_arg3)) p j := by
  have hp := p.isLt
  have hN : p.val / 768 < cfg0.N := lt_of_lt_of_eq (by omega) N_0.symm
  have hb := congrFun ((Value.blocks5 m c ⟨p.val / 768, hN⟩ (idxs _).2.2.2.2.2.2.2).trans (Value.flushed5 m c _))
    (ix2 (⟨p.val % 768, by omega⟩ : Fin 768) j)
  have e : ((cfg0.win 5).blk ⟨p.val / 768, hN⟩).view.emb (ix2 (⟨p.val % 768, by omega⟩ : Fin 768) j) = ix2 p j := by
    funext a; apply Fin.ext
    match a with
    | ⟨0, _⟩ => show win0_5.index _ (0 : Fin 2) * 768 + 1 * (p.val % 768) = p.val; exact at_block (idxs _).2.2.2.2.2.1.1 (by dsimp only; omega)
    | ⟨1, _⟩ => show win0_5.index _ (1 : Fin 2) * 2048 + 1 * j.val = j.val; exact at_first (idxs _).2.2.2.2.2.1.2
  refine ((congrArg ((dats m 0 c).arrAt 5 cfg0.N) e).symm.trans hb).trans ?_
  exact (congrFun (block5 _ _ _ _) _).trans (point_next m c _ _ j p (by dsimp only; omega))

end

section
open Cert.Resid1ReferenceIdeal Cert.Resid1ReferenceIdeal.Gen

/-- The reference's scaling of rows to unit mean square, times a gain. -/
abbrev normed (a : FVec Ideal S8448x2048 .f32) (w : FVec Ideal S1x2048 .f32) : FVec Ideal S8448x2048 .f32 :=
  mulf (mulf a (broadcastInDim S8448x2048 ![0, 1] bcast_S8448x1_S8448x2048_0_1 (Host.rsqrt (addf (Host.divf (broadcastInDim S8448x1 ![0]
    bcast_S8448_S8448x1_0 (Host.reduceAdd (mulf a a) (constant S_ .f32 0x00000000#32) reducesTo_S8448x2048_S8448_d1 h_S_))
    (broadcastInDim S8448x1 ![] bcast_S_S8448x1 (constant S_ .f32 0x45000000#32))) (broadcastInDim S8448x1 ![] bcast_S_S8448x1
    (constant S_ .f32 0x358637BD#32)))))) (broadcastInDim S8448x2048 ![0, 1] bcast_S1x2048_S8448x2048_0_1 (broadcastInDim S1x2048 ![1]
    bcast_S2048_S1x2048_1 (shapeCast _ w shapeCasts_S1x2048_S2048)))

theorem normed_entry (a : FVec Ideal S8448x2048 .f32) (w : FVec Ideal S1x2048 .f32) (p : Fin 8448) (j : Fin 2048) :
    (normed a w (ix2 p j) : EReal) = rowNorm (fun k => a (ix2 p k)) (fun k => w (ix2 (0 : Fin 1) k)) j := by
  unfold normed rowNorm
  pointwise

/-- The row taken out of each stack of gains. -/
theorem row_gain (w : FVec Ideal S2x2048 .f32) (k : Fin 2048) :
    (extractStridedSlice S1x2048 ![0, 0] w slices_S2x2048_S1x2048_0_0 (ix2 (0 : Fin 1) k) : EReal) = w (ix2 (0 : Fin 2) k) := by
  pointwise

theorem row_next (w : FVec Ideal S2x2048 .f32) (k : Fin 2048) :
    (extractStridedSlice S1x2048 ![1, 0] w slices_S2x2048_S1x2048_1_0 (ix2 (0 : Fin 1) k) : EReal) = w (ix2 (1 : Fin 2) k) := by
  pointwise

/-- The reference's new stream. -/
abbrev added (h : FVec Ideal S8448x2048 .f32) (u : FVec Ideal S8448x2048 .bf16) (g : FVec Ideal S2x2048 .f32) : FVec Ideal S8448x2048 .f32 :=
  addf h (normed (extf .f32 u bitsLt_bf16_f32) (extractStridedSlice S1x2048 ![0, 0] g slices_S2x2048_S1x2048_0_0))

theorem reference_entry4 (h : FVec Ideal S8448x2048 .f32) (u : FVec Ideal S8448x2048 .bf16) (g : FVec Ideal S2x2048 .f32) (p : Fin 8448) (j : Fin 2048) :
    (added h u g (ix2 p j) : EReal) = stream h u g p j := by
  unfold stream
  refine congrArg ((h (ix2 p j) : EReal) + ·) ((normed_entry _ _ p j).trans ?_)
  exact congrArg (fun f => rowNorm _ f j) (funext fun k => row_gain g k)

/-- The reference's input of the next block. -/
theorem reference_entry5 (h : FVec Ideal S8448x2048 .f32) (u : FVec Ideal S8448x2048 .bf16) (g n : FVec Ideal S2x2048 .f32) (p : Fin 8448) (j : Fin 2048) :
    (truncf .bf16 (normed (added h u g) (extractStridedSlice S1x2048 ![1, 0] n slices_S2x2048_S1x2048_1_0)) bitsLt_bf16_f32 (ix2 p j) : EReal)
      = next h u g n p j := by
  unfold next
  refine (normed_entry _ _ p j).trans ?_
  exact congrArg₂ (fun f f' => rowNorm f f' j) (funext fun k => reference_entry4 h u g p k) (funext fun k => row_next n k)

/-- The reference runs and leaves its arguments and every semaphore as they were. -/
theorem reference_frame : quiescent_Resid1ReferenceIdeal := fun m g _ =>
  (θ_run defs _ _).mono (fun r h => ⟨fun c => (h c).2.2, sem_eq_zero_of_no_sems (by decide) r.2⟩) (Value.run (F := Ideal) m g)

end

/-- The kernel and the reference end with equal results. -/
theorem equation : algebraic_Resid1Ideal_Resid1ReferenceIdeal := by
  intro m g m' g' hp ha
  refine ⟨fun c => (Cert.Resid1Ideal.Gen.dats m 0 c).arrAt 4 Cert.Resid1Ideal.cfg0.N, fun c => (Cert.Resid1Ideal.Gen.dats m 0 c).arrAt 5 Cert.Resid1Ideal.cfg0.N,
    Cert.Resid1Ideal.Value.run_blocks m g, ?_⟩
  refine (θ_run Cert.Resid1ReferenceIdeal.defs _ _).mono (fun r h c => ⟨(h c).1.trans ?_, (h c).2.1.trans ?_, (h c).2.2⟩)
    (Cert.Resid1ReferenceIdeal.Value.run (F := Ideal) m' g')
  · rw [(ha c).1, (ha c).2.1, (ha c).2.2.1]
    exact ext2 _ _ fun p j => (reference_entry4 _ _ _ p j).trans (kernel_entry4 m c p j).symm
  · rw [(ha c).1, (ha c).2.1, (ha c).2.2.1, (ha c).2.2.2]
    exact ext2 _ _ fun p j => (reference_entry5 _ _ _ _ p j).trans (kernel_entry5 m c p j).symm

end Cert.AddNorm1

end
-- ==== Proof.AddNorm2.lean ====
/-
  The stream's addition after the second mixer: the kernel adds the block's output, brought to unit mean square and scaled by its gain, to
  the stream, block of rows by block of rows, and does the same to the sum for what the next block reads; the reference does
  so on the arrays as a whole.
-/
module

public import proofs.«01_k».proof.Defs
public import proofs.«01_k».proof.Proof.Products
public import proofs.«01_k».proof.Proof.RowNorm
public import proofs.«01_k».proof.Proof.Gen.Resid2Ideal.Value
public import proofs.«01_k».proof.Proof.Gen.Resid2ReferenceIdeal.Run
public import Idealize.ShloMosaic.Lib.Quiescent
public import Idealize.ShloMosaic.Lib.StableHlo.ReadAt

@[expose] public section

set_option maxRecDepth 16384

noncomputable section

namespace Cert.AddNorm2

open Idealize.ShloMosaic Idealize.ShloMosaic.Pointwise Idealize.ShloMosaic.TcCoe Idealize.SL.Sem Cert.Products Cert.RowNorm

/-- The new stream. -/
def stream (h u : (⟨2, ![8448, 2048]⟩ : Shape).Idx → EReal) (g : (⟨2, ![2, 2048]⟩ : Shape).Idx → EReal) (p : Fin 8448) (j : Fin 2048) : EReal :=
  h (ix2 p j) + rowNorm (fun k => u (ix2 p k)) (fun k => g (ix2 (1 : Fin 2) k)) j

/-- What the next block reads. -/
def next (h u : (⟨2, ![8448, 2048]⟩ : Shape).Idx → EReal) (g n : (⟨2, ![2, 2048]⟩ : Shape).Idx → EReal) (p : Fin 8448) (j : Fin 2048) : EReal :=
  rowNorm (stream h u g p) (fun k => n (ix2 (1 : Fin 2) k)) j

section
open Cert.Resid2Ideal Cert.Resid2Ideal.Gen

/-- What a point adds up. -/
theorem computed (x0 : Vec Ideal S768x2048 .f32) (x1 : Vec Ideal S768x2048 .bf16) (x2 : Vec Ideal S1x2048 .f32) (i : Fin 768) (j : Fin 2048) :
    (k0_pay1 (F := Ideal) x0 x1 x2 (ix2 i j) : EReal)
      = x0 (ix2 i j) + rowNorm (fun k => x1 (ix2 i k)) (fun k => x2 (ix2 (0 : Fin 1) k)) j := by
  unfold k0_pay1 rowNorm
  pointwise

/-- What a point hands on. -/
theorem computed_next (x0 : Vec Ideal S768x2048 .f32) (x1 : Vec Ideal S768x2048 .bf16) (x2 x3 : Vec Ideal S1x2048 .f32) (i : Fin 768) (j : Fin 2048) :
    (k0_pay2 (F := Ideal) x0 x1 x2 x3 (ix2 i j) : EReal)
      = rowNorm (fun k => k0_pay1 (F := Ideal) x0 x1 x2 (ix2 i k)) (fun k => x3 (ix2 (0 : Fin 1) k)) j := by
  unfold k0_pay2 rowNorm
  pointwise

/-- A point's first block. -/
theorem block4 (x0 : Vec Ideal S768x2048 .f32) (x1 : Vec Ideal S768x2048 .bf16) (x2 x3 : Vec Ideal S1x2048 .f32) :
    out0_4 (F := Ideal) x0 x1 x2 x3 = k0_pay1 (F := Ideal) x0 x1 x2 := by
  unfold out0_4
  rw [View.canon_unit_zero (S := S768x2048) zeros2, View.ld_unit_zero (S := S768x2048) zeros2, View.ld_unit_zero (S := S768x2048) zeros2,
    View.ld_unit_zero (S := S1x2048) zeros2]

/-- A point's second block. -/
theorem block5 (x0 : Vec Ideal S768x2048 .f32) (x1 : Vec Ideal S768x2048 .bf16) (x2 x3 : Vec Ideal S1x2048 .f32) :
    out0_5 (F := Ideal) x0 x1 x2 x3 = k0_pay2 (F := Ideal) x0 x1 x2 x3 := by
  unfold out0_5
  rw [View.canon_unit_zero (S := S768x2048) zeros2, View.ld_unit_zero (S := S768x2048) zeros2, View.ld_unit_zero (S := S768x2048) zeros2,
    View.ld_unit_zero (S := S1x2048) zeros2, View.ld_unit_zero (S := S1x2048) zeros2]

/-- Which block each window is at, at every point; every point writes its blocks back. -/
theorem idxs : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ win0_4.flush t = true ∧ win0_5.flush t = true :=
  (by decide +kernel : ∀ t : Fin grid0.N, _)

variable (m : (ℓ : Loc nD τ sig) → Buf (Elt Ideal) ℓ) (c : Dev nD)

/-- The gain the host hands the launch. -/
theorem host_gain (k : Fin 2048) :
    (V m c main_v4 (ix2 (0 : Fin 1) k) : EReal) = m ((c : Thread nD τ).loc main_arg2) (ix2 (1 : Fin 2) k) := by
  unfold V
  after_reads_at

/-- The next block's gain. -/
theorem host_next (k : Fin 2048) :
    (V m c main_v5 (ix2 (0 : Fin 1) k) : EReal) = m ((c : Thread nD τ).loc main_arg3) (ix2 (1 : Fin 2) k) := by
  unfold V
  after_reads_at

/-- The stream's rows a point reads. -/
theorem rows (t : Fin cfg0.N) (i : Fin 768) (k : Fin 2048) (p : Fin 8448) (hp : t.val * 768 + i.val = p.val) :
    (iblk m c 0 t : Vec Ideal S768x2048 .f32) (ix2 i k) = m ((c : Thread nD τ).loc main_arg0) (ix2 p k) := by
  rw [← V_main_arg0 m c]
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 2048 + 1 * k.val = k.val; exact at_first (idxs t).1.2

/-- The rows of the block's output. -/
theorem rows_out (t : Fin cfg0.N) (i : Fin 768) (k : Fin 2048) (p : Fin 8448) (hp : t.val * 768 + i.val = p.val) :
    (iblk m c 1 t : Vec Ideal S768x2048 .bf16) (ix2 i k) = m ((c : Thread nD τ).loc main_arg1) (ix2 p k) := by
  rw [← V_main_arg1 m c]
  show V m c main_arg1 (((cfg0.win 1).blk t).view.emb (ix2 i k)) = _
  congr 1; funext a; apply Fin.ext
  match a with
  | ⟨0, _⟩ => show win0_1.index t (0 : Fin 2) * 768 + 1 * i.val = p.val; exact at_block (idxs t).2.1.1 hp
  | ⟨1, _⟩ => show win0_1.index t (1 : Fin 2) * 2048 + 1 * k.val = k.val; exact at_first (idxs t).2.1.2

/-- The gain a point reads. -/
theorem gain (t : Fin cfg0.N) (k : Fin 2048) :
    (iblk m c 2 t : Vec Ideal S1x2048 .f32) (ix2 (0 : Fin 1) k) = m ((c : Thread nD τ).loc main_arg2) (ix2 (1 : Fin 2) k) := by
  refine Eq.trans ?_ (host_gain m c k)
  show V m c main_v4 (((cfg0.win 2).blk t).view.emb (ix2 (0 : Fin 1) k)) = _
  congr 1; funext a; apply Fin.ext
  match a with
  | ⟨0, _⟩ => show win0_2.index t (0 : Fin 2) * 1 + 1 * 0 = 0; exact at_first (idxs t).2.2.1.1
  | ⟨1, _⟩ => show win0_2.index t (1 : Fin 2) * 2048 + 1 * k.val = k.val; exact at_first (idxs t).2.2.1.2

/-- The next block's gain a point reads. -/
theorem gain_next (t : Fin cfg0.N) (k : Fin 2048) :
    (iblk m c 3 t : Vec Ideal S1x2048 .f32) (ix2 (0 : Fin 1) k) = m ((c : Thread nD τ).loc main_arg3) (ix2 (1 : Fin 2) k) := by
  refine Eq.trans ?_ (host_next m c k)
  show V m c main_v5 (((cfg0.win 3).blk t).view.emb (ix2 (0 : Fin 1) k)) = _
  congr 1; funext a; apply Fin.ext
  match a with
  | ⟨0, _⟩ => show win0_3.index t (0 : Fin 2) * 1 + 1 * 0 = 0; exact at_first (idxs t).2.2.2.1.1
  | ⟨1, _⟩ => show win0_3.index t (1 : Fin 2) * 2048 + 1 * k.val = k.val; exact at_first (idxs t).2.2.2.1.2

/-- What a point adds up, in the arguments. -/
theorem point (t : Fin cfg0.N) (i : Fin 768) (j : Fin 2048) (p : Fin 8448) (hp : t.val * 768 + i.val = p.val) :
    (k0_pay1 (F := Ideal) (iblk m c 0 t) (iblk m c 1 t) (iblk m c 2 t) (ix2 i j) : EReal)
      = stream (m ((c : Thread nD τ).loc main_arg0)) (m ((c : Thread nD τ).loc main_arg1)) (m ((c : Thread nD τ).loc main_arg2)) p j := by
  refine (computed _ _ _ i j).trans ?_
  unfold stream
  exact congrArg₂ _ (rows m c t i j p hp)
    (congrArg₂ (fun f g => rowNorm f g j) (funext fun k => rows_out m c t i k p hp) (funext fun k => gain m c t k))

/-- What a point hands on, in the arguments. -/
theorem point_next (t : Fin cfg0.N) (i : Fin 768) (j : Fin 2048) (p : Fin 8448) (hp : t.val * 768 + i.val = p.val) :
    (k0_pay2 (F := Ideal) (iblk m c 0 t) (iblk m c 1 t) (iblk m c 2 t) (iblk m c 3 t) (ix2 i j) : EReal)
      = next (m ((c : Thread nD τ).loc main_arg0)) (m ((c : Thread nD τ).loc main_arg1)) (m ((c : Thread nD τ).loc main_arg2))
        (m ((c : Thread nD τ).loc main_arg3)) p j := by
  refine (computed_next _ _ _ _ i j).trans ?_
  unfold next
  exact congrArg₂ (fun f g => rowNorm f g j) (funext fun k => point m c t i k p hp) (funext fun k => gain_next m c t k)

/-- The kernel's first array after the run. -/
theorem kernel_entry4 (p : Fin 8448) (j : Fin 2048) :
    ((dats m 0 c).arrAt 4 cfg0.N (ix2 p j) : EReal)
      = stream (m ((c : Thread nD τ).loc main_arg0)) (m ((c : Thread nD τ).loc main_arg1)) (m ((c : Thread nD τ).loc main_arg2)) p j := by
  have hp := p.isLt
  have hN : p.val / 768 < cfg0.N := lt_of_lt_of_eq (by omega) N_0.symm
  have hb := congrFun ((Value.blocks4 m c ⟨p.val / 768, hN⟩ (idxs _).2.2.2.2.2.2.1).trans (Value.flushed4 m c _))
    (ix2 (⟨p.val % 768, by omega⟩ : Fin 768) j)
  have e : ((cfg0.win 4).blk ⟨p.val / 768, hN⟩).view.emb (ix2 (⟨p.val % 768, by omega⟩ : Fin 768) j) = ix2 p j := by
    funext a; apply Fin.ext
    match a with
    | ⟨0, _⟩ => show win0_4.index _ (0 : Fin 2) * 768 + 1 * (p.val % 768) = p.val; exact at_block (idxs _).2.2.2.2.1.1 (by dsimp only; omega)
    | ⟨1, _⟩ => show win0_4.index _ (1 : Fin 2) * 2048 + 1 * j.val = j.val; exact at_first (idxs _).2.2.2.2.1.2
  refine ((congrArg ((dats m 0 c).arrAt 4 cfg0.N) e).symm.trans hb).trans ?_
  exact (congrFun (block4 _ _ _ _) _).trans (point m c _ _ j p (by dsimp only; omega))

/-- The kernel's second array after the run. -/
theorem kernel_entry5 (p : Fin 8448) (j : Fin 2048) :
    ((dats m 0 c).arrAt 5 cfg0.N (ix2 p j) : EReal)
      = next (m ((c : Thread nD τ).loc main_arg0)) (m ((c : Thread nD τ).loc main_arg1)) (m ((c : Thread nD τ).loc main_arg2))
        (m ((c : Thread nD τ).loc main_arg3)) p j := by
  have hp := p.isLt
  have hN : p.val / 768 < cfg0.N := lt_of_lt_of_eq (by omega) N_0.symm
  have hb := congrFun ((Value.blocks5 m c ⟨p.val / 768, hN⟩ (idxs _).2.2.2.2.2.2.2).trans (Value.flushed5 m c _))
    (ix2 (⟨p.val % 768, by omega⟩ : Fin 768) j)
  have e : ((cfg0.win 5).blk ⟨p.val / 768, hN⟩).view.emb (ix2 (⟨p.val % 768, by omega⟩ : Fin 768) j) = ix2 p j := by
    funext a; apply Fin.ext
    match a with
    | ⟨0, _⟩ => show win0_5.index _ (0 : Fin 2) * 768 + 1 * (p.val % 768) = p.val; exact at_block (idxs _).2.2.2.2.2.1.1 (by dsimp only; omega)
    | ⟨1, _⟩ => show win0_5.index _ (1 : Fin 2) * 2048 + 1 * j.val = j.val; exact at_first (idxs _).2.2.2.2.2.1.2
  refine ((congrArg ((dats m 0 c).arrAt 5 cfg0.N) e).symm.trans hb).trans ?_
  exact (congrFun (block5 _ _ _ _) _).trans (point_next m c _ _ j p (by dsimp only; omega))

end

section
open Cert.Resid2ReferenceIdeal Cert.Resid2ReferenceIdeal.Gen

/-- The reference's scaling of rows to unit mean square, times a gain. -/
abbrev normed (a : FVec Ideal S8448x2048 .f32) (w : FVec Ideal S1x2048 .f32) : FVec Ideal S8448x2048 .f32 :=
  mulf (mulf a (broadcastInDim S8448x2048 ![0, 1] bcast_S8448x1_S8448x2048_0_1 (Host.rsqrt (addf (Host.divf (broadcastInDim S8448x1 ![0]
    bcast_S8448_S8448x1_0 (Host.reduceAdd (mulf a a) (constant S_ .f32 0x00000000#32) reducesTo_S8448x2048_S8448_d1 h_S_))
    (broadcastInDim S8448x1 ![] bcast_S_S8448x1 (constant S_ .f32 0x45000000#32))) (broadcastInDim S8448x1 ![] bcast_S_S8448x1
    (constant S_ .f32 0x358637BD#32)))))) (broadcastInDim S8448x2048 ![0, 1] bcast_S1x2048_S8448x2048_0_1 (broadcastInDim S1x2048 ![1]
    bcast_S2048_S1x2048_1 (shapeCast _ w shapeCasts_S1x2048_S2048)))

theorem normed_entry (a : FVec Ideal S8448x2048 .f32) (w : FVec Ideal S1x2048 .f32) (p : Fin 8448) (j : Fin 2048) :
    (normed a w (ix2 p j) : EReal) = rowNorm (fun k => a (ix2 p k)) (fun k => w (ix2 (0 : Fin 1) k)) j := by
  unfold normed rowNorm
  pointwise

/-- The row taken out of each stack of gains. -/
theorem row_gain (w : FVec Ideal S2x2048 .f32) (k : Fin 2048) :
    (extractStridedSlice S1x2048 ![1, 0] w slices_S2x2048_S1x2048_1_0 (ix2 (0 : Fin 1) k) : EReal) = w (ix2 (1 : Fin 2) k) := by
  pointwise

theorem row_next (w : FVec Ideal S2x2048 .f32) (k : Fin 2048) :
    (extractStridedSlice S1x2048 ![1, 0] w slices_S2x2048_S1x2048_1_0 (ix2 (0 : Fin 1) k) : EReal) = w (ix2 (1 : Fin 2) k) := by
  pointwise

/-- The reference's new stream. -/
abbrev added (h : FVec Ideal S8448x2048 .f32) (u : FVec Ideal S8448x2048 .bf16) (g : FVec Ideal S2x2048 .f32) : FVec Ideal S8448x2048 .f32 :=
  addf h (normed (extf .f32 u bitsLt_bf16_f32) (extractStridedSlice S1x2048 ![1, 0] g slices_S2x2048_S1x2048_1_0))

theorem reference_entry4 (h : FVec Ideal S8448x2048 .f32) (u : FVec Ideal S8448x2048 .bf16) (g : FVec Ideal S2x2048 .f32) (p : Fin 8448) (j : Fin 2048) :
    (added h u g (ix2 p j) : EReal) = stream h u g p j := by
  unfold stream
  refine congrArg ((h (ix2 p j) : EReal) + ·) ((normed_entry _ _ p j).trans ?_)
  exact congrArg (fun f => rowNorm _ f j) (funext fun k => row_gain g k)

/-- The reference's input of the next block. -/
theorem reference_entry5 (h : FVec Ideal S8448x2048 .f32) (u : FVec Ideal S8448x2048 .bf16) (g n : FVec Ideal S2x2048 .f32) (p : Fin 8448) (j : Fin 2048) :
    (truncf .bf16 (normed (added h u g) (extractStridedSlice S1x2048 ![1, 0] n slices_S2x2048_S1x2048_1_0)) bitsLt_bf16_f32 (ix2 p j) : EReal)
      = next h u g n p j := by
  unfold next
  refine (normed_entry _ _ p j).trans ?_
  exact congrArg₂ (fun f f' => rowNorm f f' j) (funext fun k => reference_entry4 h u g p k) (funext fun k => row_next n k)

/-- The reference runs and leaves its arguments and every semaphore as they were. -/
theorem reference_frame : quiescent_Resid2ReferenceIdeal := fun m g _ =>
  (θ_run defs _ _).mono (fun r h => ⟨fun c => (h c).2.2, sem_eq_zero_of_no_sems (by decide) r.2⟩) (Value.run (F := Ideal) m g)

end

/-- The kernel and the reference end with equal results. -/
theorem equation : algebraic_Resid2Ideal_Resid2ReferenceIdeal := by
  intro m g m' g' hp ha
  refine ⟨fun c => (Cert.Resid2Ideal.Gen.dats m 0 c).arrAt 4 Cert.Resid2Ideal.cfg0.N, fun c => (Cert.Resid2Ideal.Gen.dats m 0 c).arrAt 5 Cert.Resid2Ideal.cfg0.N,
    Cert.Resid2Ideal.Value.run_blocks m g, ?_⟩
  refine (θ_run Cert.Resid2ReferenceIdeal.defs _ _).mono (fun r h c => ⟨(h c).1.trans ?_, (h c).2.1.trans ?_, (h c).2.2⟩)
    (Cert.Resid2ReferenceIdeal.Value.run (F := Ideal) m' g')
  · rw [(ha c).1, (ha c).2.1, (ha c).2.2.1]
    exact ext2 _ _ fun p j => (reference_entry4 _ _ _ p j).trans (kernel_entry4 m c p j).symm
  · rw [(ha c).1, (ha c).2.1, (ha c).2.2.1, (ha c).2.2.2]
    exact ext2 _ _ fun p j => (reference_entry5 _ _ _ _ p j).trans (kernel_entry5 m c p j).symm

end Cert.AddNorm2

end
-- ==== Proof.AddNorm3.lean ====
/-
  The stream's addition after the second layer's feed-forward part: the kernel adds the block's output, brought to unit mean square and scaled by its gain, to
  the stream, block of rows by block of rows, from row 256 on; the reference does so on the arrays as a whole and takes the
  rows from 256 on.
-/
module

public import proofs.«01_k».proof.Defs
public import proofs.«01_k».proof.Proof.Products
public import proofs.«01_k».proof.Proof.RowNorm
public import proofs.«01_k».proof.Proof.Gen.Resid3Ideal.Value
public import proofs.«01_k».proof.Proof.Gen.Resid3ReferenceIdeal.Run
public import Idealize.ShloMosaic.Lib.Quiescent
public import Idealize.ShloMosaic.Lib.StableHlo.ReadAt

@[expose] public section

set_option maxRecDepth 16384

noncomputable section

namespace Cert.AddNorm3

open Idealize.ShloMosaic Idealize.ShloMosaic.Pointwise Idealize.ShloMosaic.TcCoe Idealize.SL.Sem Cert.Products Cert.RowNorm

/-- The new stream. -/
def stream (h u : (⟨2, ![8448, 2048]⟩ : Shape).Idx → EReal) (g : (⟨2, ![2, 2048]⟩ : Shape).Idx → EReal) (p : Fin 8448) (j : Fin 2048) : EReal :=
  h (ix2 p j) + rowNorm (fun k => u (ix2 p k)) (fun k => g (ix2 (1 : Fin 2) k)) j

section
open Cert.Resid3Ideal Cert.Resid3Ideal.Gen

/-- What a point adds up. -/
theorem computed (x0 : Vec Ideal S256x2048 .f32) (x1 : Vec Ideal S256x2048 .bf16) (x2 : Vec Ideal S1x2048 .f32) (i : Fin 256) (j : Fin 2048) :
    (k0_pay1 (F := Ideal) x0 x1 x2 (ix2 i j) : EReal)
      = x0 (ix2 i j) + rowNorm (fun k => x1 (ix2 i k)) (fun k => x2 (ix2 (0 : Fin 1) k)) j := by
  unfold k0_pay1 rowNorm
  pointwise

/-- A point's block. -/
theorem block (x0 : Vec Ideal S256x2048 .f32) (x1 : Vec Ideal S256x2048 .bf16) (x2 : Vec Ideal S1x2048 .f32) :
    out0_3 (F := Ideal) x0 x1 x2 = k0_pay1 (F := Ideal) x0 x1 x2 := by
  unfold out0_3
  rw [View.canon_unit_zero (S := S256x2048) zeros2, View.ld_unit_zero (S := S256x2048) zeros2, View.ld_unit_zero (S := S256x2048) zeros2,
    View.ld_unit_zero (S := S1x2048) zeros2]

/-- Which block each window is at, at every point; every point writes its block back. -/
theorem idxs : ∀ t : Fin cfg0.N,
    (win0_0.index t (0 : Fin 2) = t.val + 1 ∧ win0_0.index t (1 : Fin 2) = 0)
    ∧ (win0_1.index t (0 : Fin 2) = t.val + 1 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ win0_3.flush t = true :=
  (by decide +kernel : ∀ t : Fin grid0.N, _)

variable (m : (ℓ : Loc nD τ sig) → Buf (Elt Ideal) ℓ) (c : Dev nD)

/-- The gain the host hands the launch. -/
theorem host_gain (k : Fin 2048) :
    (V m c main_v2 (ix2 (0 : Fin 1) k) : EReal) = m ((c : Thread nD τ).loc main_arg2) (ix2 (1 : Fin 2) k) := by
  unfold V
  after_reads_at

/-- The stream's rows a point reads. -/
theorem rows (t : Fin cfg0.N) (i : Fin 256) (k : Fin 2048) (p : Fin 8448) (hp : (t.val + 1) * 256 + i.val = p.val) :
    (iblk m c 0 t : Vec Ideal S256x2048 .f32) (ix2 i k) = m ((c : Thread nD τ).loc main_arg0) (ix2 p k) := by
  rw [← V_main_arg0 m c]
  show V m c main_arg0 (((cfg0.win 0).blk t).view.emb (ix2 i k)) = _
  congr 1; funext a; apply Fin.ext
  match a with
  | ⟨0, _⟩ => show win0_0.index t (0 : Fin 2) * 256 + 1 * i.val = p.val; exact at_block (idxs t).1.1 hp
  | ⟨1, _⟩ => show win0_0.index t (1 : Fin 2) * 2048 + 1 * k.val = k.val; exact at_first (idxs t).1.2

/-- The rows of the block's output. -/
theorem rows_out (t : Fin cfg0.N) (i : Fin 256) (k : Fin 2048) (p : Fin 8448) (hp : (t.val + 1) * 256 + i.val = p.val) :
    (iblk m c 1 t : Vec Ideal S256x2048 .bf16) (ix2 i k) = m ((c : Thread nD τ).loc main_arg1) (ix2 p k) := by
  rw [← V_main_arg1 m c]
  show V m c main_arg1 (((cfg0.win 1).blk t).view.emb (ix2 i k)) = _
  congr 1; funext a; apply Fin.ext
  match a with
  | ⟨0, _⟩ => show win0_1.index t (0 : Fin 2) * 256 + 1 * i.val = p.val; exact at_block (idxs t).2.1.1 hp
  | ⟨1, _⟩ => show win0_1.index t (1 : Fin 2) * 2048 + 1 * k.val = k.val; exact at_first (idxs t).2.1.2

/-- The gain a point reads. -/
theorem gain (t : Fin cfg0.N) (k : Fin 2048) :
    (iblk m c 2 t : Vec Ideal S1x2048 .f32) (ix2 (0 : Fin 1) k) = m ((c : Thread nD τ).loc main_arg2) (ix2 (1 : Fin 2) k) := by
  refine Eq.trans ?_ (host_gain m c k)
  show V m c main_v2 (((cfg0.win 2).blk t).view.emb (ix2 (0 : Fin 1) k)) = _
  congr 1; funext a; apply Fin.ext
  match a with
  | ⟨0, _⟩ => show win0_2.index t (0 : Fin 2) * 1 + 1 * 0 = 0; exact at_first (idxs t).2.2.1.1
  | ⟨1, _⟩ => show win0_2.index t (1 : Fin 2) * 2048 + 1 * k.val = k.val; exact at_first (idxs t).2.2.1.2

/-- What a point adds up, in the arguments. -/
theorem point (t : Fin cfg0.N) (i : Fin 256) (j : Fin 2048) (p : Fin 8448) (hp : (t.val + 1) * 256 + i.val = p.val) :
    (k0_pay1 (F := Ideal) (iblk m c 0 t) (iblk m c 1 t) (iblk m c 2 t) (ix2 i j) : EReal)
      = stream (m ((c : Thread nD τ).loc main_arg0)) (m ((c : Thread nD τ).loc main_arg1)) (m ((c : Thread nD τ).loc main_arg2)) p j := by
  refine (computed _ _ _ i j).trans ?_
  unfold stream
  exact congrArg₂ _ (rows m c t i j p hp)
    (congrArg₂ (fun f g => rowNorm f g j) (funext fun k => rows_out m c t i k p hp) (funext fun k => gain m c t k))

/-- The kernel's array after the run. -/
theorem kernel_entry (r : Fin 8192) (j : Fin 2048) :
    ((dats m 0 c).arrAt 3 cfg0.N (ix2 r j) : EReal)
      = stream (m ((c : Thread nD τ).loc main_arg0)) (m ((c : Thread nD τ).loc main_arg1)) (m ((c : Thread nD τ).loc main_arg2))
        (⟨256 + r.val, by omega⟩ : Fin 8448) j := by
  have hr := r.isLt
  have hN : r.val / 256 < cfg0.N := lt_of_lt_of_eq (by omega) N_0.symm
  have hb := congrFun ((Value.blocks3 m c ⟨r.val / 256, hN⟩ (idxs _).2.2.2.2).trans (Value.flushed3 m c _))
    (ix2 (⟨r.val % 256, by omega⟩ : Fin 256) j)
  have e : ((cfg0.win 3).blk ⟨r.val / 256, hN⟩).view.emb (ix2 (⟨r.val % 256, by omega⟩ : Fin 256) j) = ix2 r j := by
    funext a; apply Fin.ext
    match a with
    | ⟨0, _⟩ => show win0_3.index _ (0 : Fin 2) * 256 + 1 * (r.val % 256) = r.val; exact at_block (idxs _).2.2.2.1.1 (by dsimp only; omega)
    | ⟨1, _⟩ => show win0_3.index _ (1 : Fin 2) * 2048 + 1 * j.val = j.val; exact at_first (idxs _).2.2.2.1.2
  refine ((congrArg ((dats m 0 c).arrAt 3 cfg0.N) e).symm.trans hb).trans ?_
  exact (congrFun (block _ _ _) _).trans (point m c _ _ j _ (by dsimp only; omega))

end

section
open Cert.Resid3ReferenceIdeal Cert.Resid3ReferenceIdeal.Gen

/-- The reference's scaling of rows to unit mean square, times a gain. -/
abbrev normed (a : FVec Ideal S8448x2048 .f32) (w : FVec Ideal S1x2048 .f32) : FVec Ideal S8448x2048 .f32 :=
  mulf (mulf a (broadcastInDim S8448x2048 ![0, 1] bcast_S8448x1_S8448x2048_0_1 (Host.rsqrt (addf (Host.divf (broadcastInDim S8448x1 ![0]
    bcast_S8448_S8448x1_0 (Host.reduceAdd (mulf a a) (constant S_ .f32 0x00000000#32) reducesTo_S8448x2048_S8448_d1 h_S_))
    (broadcastInDim S8448x1 ![] bcast_S_S8448x1 (constant S_ .f32 0x45000000#32))) (broadcastInDim S8448x1 ![] bcast_S_S8448x1
    (constant S_ .f32 0x358637BD#32)))))) (broadcastInDim S8448x2048 ![0, 1] bcast_S1x2048_S8448x2048_0_1 (broadcastInDim S1x2048 ![1]
    bcast_S2048_S1x2048_1 (shapeCast _ w shapeCasts_S1x2048_S2048)))

theorem normed_entry (a : FVec Ideal S8448x2048 .f32) (w : FVec Ideal S1x2048 .f32) (p : Fin 8448) (j : Fin 2048) :
    (normed a w (ix2 p j) : EReal) = rowNorm (fun k => a (ix2 p k)) (fun k => w (ix2 (0 : Fin 1) k)) j := by
  unfold normed rowNorm
  pointwise

/-- The row taken out of each stack of gains. -/
theorem row_gain (w : FVec Ideal S2x2048 .f32) (k : Fin 2048) :
    (extractStridedSlice S1x2048 ![1, 0] w slices_S2x2048_S1x2048_1_0 (ix2 (0 : Fin 1) k) : EReal) = w (ix2 (1 : Fin 2) k) := by
  pointwise

/-- The reference's new stream. -/
abbrev added (h : FVec Ideal S8448x2048 .f32) (u : FVec Ideal S8448x2048 .bf16) (g : FVec Ideal S2x2048 .f32) : FVec Ideal S8448x2048 .f32 :=
  addf h (normed (extf .f32 u bitsLt_bf16_f32) (extractStridedSlice S1x2048 ![1, 0] g slices_S2x2048_S1x2048_1_0))

theorem stream_entry (h : FVec Ideal S8448x2048 .f32) (u : FVec Ideal S8448x2048 .bf16) (g : FVec Ideal S2x2048 .f32) (p : Fin 8448) (j : Fin 2048) :
    (added h u g (ix2 p j) : EReal) = stream h u g p j := by
  unfold stream
  refine congrArg ((h (ix2 p j) : EReal) + ·) ((normed_entry _ _ p j).trans ?_)
  exact congrArg (fun f => rowNorm _ f j) (funext fun k => row_gain g k)

/-- Rows from 256 on. -/
theorem tail_entry (d : FVec Ideal S8448x2048 .f32) (r : Fin 8192) (j : Fin 2048) :
    (extractStridedSlice S8192x2048 ![256, 0] d slices_S8448x2048_S8192x2048_256_0 (ix2 r j) : EReal) = d (ix2 (⟨256 + r.val, by omega⟩ : Fin 8448) j) := by
  pointwise

/-- The reference's result. -/
theorem reference_entry (h : FVec Ideal S8448x2048 .f32) (u : FVec Ideal S8448x2048 .bf16) (g : FVec Ideal S2x2048 .f32) (r : Fin 8192) (j : Fin 2048) :
    (extractStridedSlice S8192x2048 ![256, 0] (added h u g) slices_S8448x2048_S8192x2048_256_0 (ix2 r j) : EReal)
      = stream h u g (⟨256 + r.val, by omega⟩ : Fin 8448) j :=
  (tail_entry _ r j).trans (stream_entry h u g _ j)

/-- The reference runs and leaves its arguments and every semaphore as they were. -/
theorem reference_frame : quiescent_Resid3ReferenceIdeal := fun m g _ =>
  (θ_run defs _ _).mono (fun r h => ⟨fun c => (h c).2, sem_eq_zero_of_no_sems (by decide) r.2⟩) (Value.run (F := Ideal) m g)

end

/-- The kernel and the reference end with equal results. -/
theorem equation : algebraic_Resid3Ideal_Resid3ReferenceIdeal := by
  intro m g m' g' hp ha
  refine ⟨fun c => (Cert.Resid3Ideal.Gen.dats m 0 c).arrAt 3 Cert.Resid3Ideal.cfg0.N, Cert.Resid3Ideal.Value.run_blocks m g, ?_⟩
  refine (θ_run Cert.Resid3ReferenceIdeal.defs _ _).mono (fun r h c => ⟨(h c).1.trans ?_, (h c).2⟩)
    (Cert.Resid3ReferenceIdeal.Value.run (F := Ideal) m' g')
  rw [(ha c).1, (ha c).2.1, (ha c).2.2]
  exact ext2 _ _ fun r j => (reference_entry _ _ _ r j).trans (kernel_entry m c r j).symm

end Cert.AddNorm3

end
-- ==== Proof.NormKv.lean ====
/-
  The norm of the low-rank keys and values: the kernel takes their columns out of the projection, block of rows by block of
  rows, brings every row to unit mean square and scales it by a gain, and writes the result as it is and transposed; the
  reference does so on the array as a whole.
-/
module

public import proofs.«01_k».proof.Defs
public import proofs.«01_k».proof.Proof.Products
public import proofs.«01_k».proof.Proof.Gen.RmsKvIdeal.Value
public import proofs.«01_k».proof.Proof.Gen.RmsKvReferenceIdeal.Run
public import Idealize.ShloMosaic.Lib.Quiescent
public import Idealize.ShloMosaic.Lib.StableHlo.ReadAt

@[expose] public section

set_option maxRecDepth 16384

noncomputable section

namespace Cert.NormKv

open Idealize.ShloMosaic Idealize.ShloMosaic.Pointwise Idealize.ShloMosaic.TcCoe Idealize.SL.Sem Cert.Products

/-- An entry of the row `r` over the root of the row's mean square and a small number, times the gain `g`. -/
def scaled (r g : Fin 256 → EReal) (j : Fin 256) : EReal :=
  r j * Ideal.rsqrt (Ideal.div (∑ k : Fin 256, r k * r k) (Ideal.ofBits .f32 0x43800000#32) + Ideal.ofBits .f32 0x358637BD#32) * g j

/-- The columns of the keys and values, normed. -/
def kv (x : (⟨2, ![8448, 4608]⟩ : Shape).Idx → EReal) (g : (⟨2, ![1, 256]⟩ : Shape).Idx → EReal) (p : Fin 8448) (j : Fin 256) : EReal :=
  scaled (fun k => x (ix2 p (⟨4096 + k.val, by omega⟩ : Fin 4608))) (fun k => g (ix2 (0 : Fin 1) k)) j

section
open Cert.RmsKvIdeal Cert.RmsKvIdeal.Gen

/-- What a point computes. -/
theorem computed (x0 : Vec Ideal S768x256 .f32) (x1 : Vec Ideal S1x256 .f32) (i : Fin 768) (j : Fin 256) :
    (k0_pay1 (F := Ideal) x0 x1 (ix2 i j) : EReal) = scaled (fun k => x0 (ix2 i k)) (fun k => x1 (ix2 (0 : Fin 1) k)) j := by
  unfold k0_pay1 scaled
  pointwise

/-- A point's first block. -/
theorem block2 (x0 : Vec Ideal S768x256 .f32) (x1 : Vec Ideal S1x256 .f32) (i : Fin 768) (j : Fin 256) :
    (out0_2 (F := Ideal) x0 x1 (ix2 i j) : EReal) = k0_pay1 (F := Ideal) x0 x1 (ix2 i j) := by
  unfold out0_2
  rw [View.canon_unit_zero (S := S768x256) zeros2, View.ld_unit_zero (S := S768x256) zeros2, View.ld_unit_zero (S := S1x256) zeros2]
  unfold k0_pay2
  pointwise

/-- A point's second block. -/
theorem block3 (x0 : Vec Ideal S768x256 .f32) (x1 : Vec Ideal S1x256 .f32) (j : Fin 256) (i : Fin 768) :
    (out0_3 (F := Ideal) x0 x1 (ix2 j i) : EReal) = k0_pay1 (F := Ideal) x0 x1 (ix2 i j) := by
  unfold out0_3
  rw [View.canon_unit_zero (S := S256x768) zeros2, View.ld_unit_zero (S := S768x256) zeros2, View.ld_unit_zero (S := S1x256) zeros2]
  unfold k0_pay3
  pointwise

/-- Which block each window is at, at every point; every point writes its blocks back. -/
theorem idxs : ∀ t : Fin cfg0.N,
    (win0_0.index t (0 : Fin 2) = t.val ∧ win0_0.index t (1 : Fin 2) = 16)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = t.val)
    ∧ win0_2.flush t = true ∧ win0_3.flush t = true :=
  (by decide +kernel : ∀ t : Fin grid0.N, _)

variable (m : (ℓ : Loc nD τ sig) → Buf (Elt Ideal) ℓ) (c : Dev nD)

/-- The gain the host hands the launch. -/
theorem host_gain (k : Fin 256) :
    (V m c main_v1 (ix2 (0 : Fin 1) k) : EReal) = m ((c : Thread nD τ).loc main_arg1) (ix2 (0 : Fin 1) k) := by
  unfold V
  after_reads_at

/-- The rows a point reads. -/
theorem rows (t : Fin cfg0.N) (i : Fin 768) (k : Fin 256) (p : Fin 8448) (hp : t.val * 768 + i.val = p.val) :
    (iblk m c 0 t : Vec Ideal S768x256 .f32) (ix2 i k) = m ((c : Thread nD τ).loc main_arg0) (ix2 p (⟨4096 + k.val, by omega⟩ : Fin 4608)) := by
  rw [← V_main_arg0 m c]
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 256 + 1 * k.val = 4096 + k.val; exact at_block (idxs t).1.2 (by omega)

/-- The gain a point reads. -/
theorem gain (t : Fin cfg0.N) (k : Fin 256) :
    (iblk m c 1 t : Vec Ideal S1x256 .f32) (ix2 (0 : Fin 1) k) = m ((c : Thread nD τ).loc main_arg1) (ix2 (0 : Fin 1) k) := by
  refine Eq.trans ?_ (host_gain m c k)
  show V m c main_v1 (((cfg0.win 1).blk t).view.emb (ix2 (0 : Fin 1) k)) = _
  congr 1; funext a; apply Fin.ext
  match a with
  | ⟨0, _⟩ => show win0_1.index t (0 : Fin 2) * 1 + 1 * 0 = 0; exact at_first (idxs t).2.1.1
  | ⟨1, _⟩ => show win0_1.index t (1 : Fin 2) * 256 + 1 * k.val = k.val; exact at_first (idxs t).2.1.2

/-- What a point computes, in the arguments. -/
theorem point (t : Fin cfg0.N) (i : Fin 768) (j : Fin 256) (p : Fin 8448) (hp : t.val * 768 + i.val = p.val) :
    (k0_pay1 (F := Ideal) (iblk m c 0 t) (iblk m c 1 t) (ix2 i j) : EReal)
      = kv (m ((c : Thread nD τ).loc main_arg0)) (m ((c : Thread nD τ).loc main_arg1)) p j := by
  refine (computed _ _ i j).trans ?_
  unfold kv
  exact congrArg₂ (fun f g => scaled f g j) (funext fun k => rows m c t i k p hp) (funext fun k => gain m c t k)

/-- The kernel's first array after the run. -/
theorem kernel_entry2 (p : Fin 8448) (j : Fin 256) :
    ((dats m 0 c).arrAt 2 cfg0.N (ix2 p j) : EReal)
      = kv (m ((c : Thread nD τ).loc main_arg0)) (m ((c : Thread nD τ).loc main_arg1)) p j := by
  have hp := p.isLt
  have hN : p.val / 768 < cfg0.N := lt_of_lt_of_eq (by omega) N_0.symm
  have hb := congrFun ((Value.blocks2 m c ⟨p.val / 768, hN⟩ (idxs _).2.2.2.2.1).trans (Value.flushed2 m c _))
    (ix2 (⟨p.val % 768, by omega⟩ : Fin 768) j)
  have e : ((cfg0.win 2).blk ⟨p.val / 768, hN⟩).view.emb (ix2 (⟨p.val % 768, by omega⟩ : Fin 768) j) = ix2 p j := by
    funext a; apply Fin.ext
    match a with
    | ⟨0, _⟩ => show win0_2.index _ (0 : Fin 2) * 768 + 1 * (p.val % 768) = p.val; exact at_block (idxs _).2.2.1.1 (by dsimp only; omega)
    | ⟨1, _⟩ => show win0_2.index _ (1 : Fin 2) * 256 + 1 * j.val = j.val; exact at_first (idxs _).2.2.1.2
  refine ((congrArg ((dats m 0 c).arrAt 2 cfg0.N) e).symm.trans hb).trans ?_
  exact (block2 _ _ _ _).trans (point m c _ _ j p (by dsimp only; omega))

/-- The kernel's second array after the run. -/
theorem kernel_entry3 (j : Fin 256) (p : Fin 8448) :
    ((dats m 0 c).arrAt 3 cfg0.N (ix2 j p) : EReal)
      = kv (m ((c : Thread nD τ).loc main_arg0)) (m ((c : Thread nD τ).loc main_arg1)) p j := by
  have hp := p.isLt
  have hN : p.val / 768 < cfg0.N := lt_of_lt_of_eq (by omega) N_0.symm
  have hb := congrFun ((Value.blocks3 m c ⟨p.val / 768, hN⟩ (idxs _).2.2.2.2.2).trans (Value.flushed3 m c _))
    (ix2 j (⟨p.val % 768, by omega⟩ : Fin 768))
  have e : ((cfg0.win 3).blk ⟨p.val / 768, hN⟩).view.emb (ix2 j (⟨p.val % 768, by omega⟩ : Fin 768)) = ix2 j p := by
    funext a; apply Fin.ext
    match a with
    | ⟨0, _⟩ => show win0_3.index _ (0 : Fin 2) * 256 + 1 * j.val = j.val; exact at_first (idxs _).2.2.2.1.1
    | ⟨1, _⟩ => show win0_3.index _ (1 : Fin 2) * 768 + 1 * (p.val % 768) = p.val; exact at_block (idxs _).2.2.2.1.2 (by dsimp only; omega)
  refine ((congrArg ((dats m 0 c).arrAt 3 cfg0.N) e).symm.trans hb).trans ?_
  exact (block3 _ _ _ _).trans (point m c _ _ j p (by dsimp only; omega))

end

section
open Cert.RmsKvReferenceIdeal Cert.RmsKvReferenceIdeal.Gen

/-- The reference's scaling of rows to unit mean square, times a gain. -/
abbrev normed (a : FVec Ideal S8448x256 .f32) (w : FVec Ideal S1x256 .f32) : FVec Ideal S8448x256 .f32 :=
  mulf (mulf a (broadcastInDim S8448x256 ![0, 1] bcast_S8448x1_S8448x256_0_1 (Host.rsqrt (addf (Host.divf (broadcastInDim S8448x1 ![0]
    bcast_S8448_S8448x1_0 (Host.reduceAdd (mulf a a) (constant S_ .f32 0x00000000#32) reducesTo_S8448x256_S8448_d1 h_S_))
    (broadcastInDim S8448x1 ![] bcast_S_S8448x1 (constant S_ .f32 0x43800000#32))) (broadcastInDim S8448x1 ![] bcast_S_S8448x1
    (constant S_ .f32 0x358637BD#32)))))) (broadcastInDim S8448x256 ![0, 1] bcast_S1x256_S8448x256_0_1 (broadcastInDim S1x256 ![1]
    bcast_S256_S1x256_1 (shapeCast _ w shapeCasts_S1x256_S256)))

theorem normed_entry (a : FVec Ideal S8448x256 .f32) (w : FVec Ideal S1x256 .f32) (p : Fin 8448) (j : Fin 256) :
    (normed a w (ix2 p j) : EReal) = scaled (fun k => a (ix2 p k)) (fun k => w (ix2 (0 : Fin 1) k)) j := by
  unfold normed scaled
  pointwise

/-- The columns taken out of the projection. -/
theorem columns (x : FVec Ideal S8448x4608 .f32) (p : Fin 8448) (k : Fin 256) :
    (extractStridedSlice S8448x256 ![0, 4096] x slices_S8448x4608_S8448x256_0_4096 (ix2 p k) : EReal) = x (ix2 p (⟨4096 + k.val, by omega⟩ : Fin 4608)) := by
  pointwise

/-- The reference's first result. -/
abbrev result (x : FVec Ideal S8448x4608 .f32) (g : FVec Ideal S1x256 .f32) : FVec Ideal S8448x256 .bf16 :=
  truncf .bf16 (normed (extractStridedSlice S8448x256 ![0, 4096] x slices_S8448x4608_S8448x256_0_4096) g) bitsLt_bf16_f32

theorem reference_entry2 (x : FVec Ideal S8448x4608 .f32) (g : FVec Ideal S1x256 .f32) (p : Fin 8448) (j : Fin 256) :
    (result x g (ix2 p j) : EReal) = kv x g p j := by
  unfold kv
  refine (normed_entry _ _ p j).trans ?_
  exact congrArg (fun f => scaled f _ j) (funext fun k => columns x p k)

/-- An array turned. -/
theorem turned (d : FVec Ideal S8448x256 .bf16) (j : Fin 256) (p : Fin 8448) :
    (transpose S256x8448 [1, 0] d transposes_S8448x256_S256x8448_1_0 (ix2 j p) : EReal) = d (ix2 p j) := by
  pointwise

/-- The reference's second result. -/
theorem reference_entry3 (x : FVec Ideal S8448x4608 .f32) (g : FVec Ideal S1x256 .f32) (j : Fin 256) (p : Fin 8448) :
    (transpose S256x8448 [1, 0] (result x g) transposes_S8448x256_S256x8448_1_0 (ix2 j p) : EReal) = kv x g p j :=
  (turned _ j p).trans (reference_entry2 x g p j)

/-- The reference runs and leaves its arguments and every semaphore as they were. -/
theorem reference_frame : quiescent_RmsKvReferenceIdeal := fun m g _ =>
  (θ_run defs _ _).mono (fun r h => ⟨fun c => (h c).2.2, sem_eq_zero_of_no_sems (by decide) r.2⟩) (Value.run (F := Ideal) m g)

end

/-- The kernel and the reference end with equal results. -/
theorem equation : algebraic_RmsKvIdeal_RmsKvReferenceIdeal := by
  intro m g m' g' hp ha
  refine ⟨fun c => (Cert.RmsKvIdeal.Gen.dats m 0 c).arrAt 2 Cert.RmsKvIdeal.cfg0.N, fun c => (Cert.RmsKvIdeal.Gen.dats m 0 c).arrAt 3 Cert.RmsKvIdeal.cfg0.N,
    Cert.RmsKvIdeal.Value.run_blocks m g, ?_⟩
  refine (θ_run Cert.RmsKvReferenceIdeal.defs _ _).mono (fun r h c => ⟨(h c).1.trans ?_, (h c).2.1.trans ?_, (h c).2.2⟩)
    (Cert.RmsKvReferenceIdeal.Value.run (F := Ideal) m' g')
  · rw [(ha c).1, (ha c).2]
    exact ext2 _ _ fun p j => (reference_entry2 _ _ p j).trans (kernel_entry2 m c p j).symm
  · rw [(ha c).1, (ha c).2]
    exact ext2 _ _ fun j p => (reference_entry3 _ _ j p).trans (kernel_entry3 m c j p).symm

end Cert.NormKv

end
-- ==== Proof.NormIn.lean ====
/-
  The model's input: the kernel puts 240 rows of zeros and the meta tokens before the sequence, brings every row to unit mean
  square and scales it by a gain, and writes the rows as they are, and the normed ones in two parts; the reference does so on
  the array as a whole. Of a finite gain the second part is zero.
-/
module

public import proofs.«01_k».proof.Defs
public import proofs.«01_k».proof.Proof.Products
public import proofs.«01_k».proof.Proof.RowNorm
public import proofs.«01_k».proof.Proof.Gen.EmbedIdeal.Value
public import proofs.«01_k».proof.Proof.Gen.EmbedReferenceIdeal.Run
public import Idealize.ShloMosaic.Lib.Quiescent
public import Idealize.ShloMosaic.Lib.StableHlo.ReadAt

@[expose] public section

set_option maxRecDepth 16384

noncomputable section

namespace Cert.NormIn

open Idealize.ShloMosaic Idealize.ShloMosaic.Pointwise Idealize.ShloMosaic.TcCoe Idealize.SL.Sem Cert.Products Cert.RowNorm

/-- The rows: zeros, then the meta tokens, then the sequence. -/
def rowsIn (x : (⟨3, ![1, 8192, 2048]⟩ : Shape).Idx → EReal) (t : (⟨2, ![16, 2048]⟩ : Shape).Idx → EReal) (p : Fin 8448) (j : Fin 2048) : EReal :=
  if h : p.val < 240 then 0
  else if h : p.val - 240 < 16 then t (ix2 (⟨p.val - 240, by omega⟩ : Fin 16) j)
  else x (ix3 (0 : Fin 1) (⟨p.val - 240 - 16, by omega⟩ : Fin 8192) j)

/-- The rows normed. -/
def normIn (x : (⟨3, ![1, 8192, 2048]⟩ : Shape).Idx → EReal) (t : (⟨2, ![16, 2048]⟩ : Shape).Idx → EReal) (g : (⟨2, ![2, 2048]⟩ : Shape).Idx → EReal)
    (p : Fin 8448) (j : Fin 2048) : EReal :=
  rowNorm (rowsIn x t p) (fun k => g (ix2 (0 : Fin 2) k)) j

/-- No entry of the gain is infinite. -/
def Finite (g : (⟨2, ![2, 2048]⟩ : Shape).Idx → EReal) : Prop := ∀ i, max (g i) (-(g i)) < ⊤

/-- A gain that meets the precondition is finite. -/
theorem finite_gain [Cert.Pre_embed_finite.Facts] (x : FVec Ideal Cert.Pre_embed_finite.S1x8192x2048 .f32) (t : FVec Ideal Cert.Pre_embed_finite.S16x2048 .f32)
    (g : FVec Ideal Cert.Pre_embed_finite.S2x2048 .f32) (h : Cert.Pre_embed_finite.fn (F := Ideal) x t g = (fun _ => 1#1)) : Finite g := by
  intro i
  have e : BitVec.ofBool (decide (max (g i : EReal) (-(g i : EReal)) < Ideal.ofBits .f32 0x7F800000#32)) = 1#1 := congrFun h i
  rw [bits_inf] at e
  by_contra hn
  rw [decide_eq_false hn] at e
  exact absurd e (by decide)

/-- With a finite gain the rows normed are real numbers. -/
theorem real_normIn (x : (⟨3, ![1, 8192, 2048]⟩ : Shape).Idx → EReal) (t : (⟨2, ![16, 2048]⟩ : Shape).Idx → EReal) (g : (⟨2, ![2, 2048]⟩ : Shape).Idx → EReal)
    (hg : Finite g) (p : Fin 8448) (j : Fin 2048) : ∃ v : ℝ, normIn x t g p j = (v : EReal) :=
  real_of_gain (rowsIn x t p) j bits_2048 bits_small (by norm_num) (by norm_num) (hg _)

section
open Cert.EmbedIdeal Cert.EmbedIdeal.Gen

/-- A point's rows: the first point takes its second operand. -/
theorem taken_first (i : grid0.Coords) (hi : (i 0).val = 0) (a b : Vec Ideal S256x2048 .f32) (r : Fin 256) (j : Fin 2048) :
    (k0_pay1 (F := Ideal) i a b (ix2 r j) : EReal) = a (ix2 r j) := by
  have e : Scalar.cmpi .eq (BitVec.ofNat 32 (i 0).val) 0#32 = 1#1 := by rw [hi]; rfl
  unfold k0_pay1
  simp only [e, Scalar.select]
  rw [if_pos (show (1#1 : BitVec 1) = 1 from rfl)]
  pointwise

/-- Every other point takes its first. -/
theorem taken_later (i : grid0.Coords) (hi : (i 0).val ≠ 0) (h33 : (i 0).val < 33) (a b : Vec Ideal S256x2048 .f32) (r : Fin 256) (j : Fin 2048) :
    (k0_pay1 (F := Ideal) i a b (ix2 r j) : EReal) = b (ix2 r j) := by
  have e : Scalar.cmpi .eq (BitVec.ofNat 32 (i 0).val) 0#32 = 0#1 := by
    show BitVec.ofBool (BitVec.ofNat 32 (i 0).val == 0#32) = 0#1
    have n : BitVec.ofNat 32 (i 0).val ≠ 0#32 := by
      intro h
      have h := congrArg BitVec.toNat h
      rw [BitVec.toNat_ofNat, Nat.mod_eq_of_lt (by omega)] at h
      exact hi h
    rw [beq_false_of_ne n]
    rfl
  unfold k0_pay1
  simp only [e, Scalar.select]
  rw [if_neg (show ¬ (0#1 : BitVec 1) = 1 from by decide)]
  pointwise

/-- What a point norms. -/
theorem computed (i : grid0.Coords) (a b : Vec Ideal S256x2048 .f32) (g : Vec Ideal S1x2048 .f32) (r : Fin 256) (j : Fin 2048) :
    (k0_pay2 (F := Ideal) i a b g (ix2 r j) : EReal)
      = rowNorm (fun k => k0_pay1 (F := Ideal) i a b (ix2 r k)) (fun k => g (ix2 (0 : Fin 1) k)) j := by
  unfold k0_pay2 rowNorm
  pointwise

/-- A point's first block. -/
theorem block3 (i : grid0.Coords) (x0 x1 : Vec Ideal S256x2048 .f32) (x2 : Vec Ideal S1x2048 .f32) :
    out0_3 (F := Ideal) i x0 x1 x2 = k0_pay1 (F := Ideal) i x1 x0 := by
  unfold out0_3
  rw [View.canon_unit_zero (S := S256x2048) zeros2, View.ld_unit_zero (S := S256x2048) zeros2, View.ld_unit_zero (S := S256x2048) zeros2]

/-- A point's second block. -/
theorem block4 (i : grid0.Coords) (x0 x1 : Vec Ideal S256x2048 .f32) (x2 : Vec Ideal S1x2048 .f32) (r : Fin 256) (j : Fin 2048) :
    (out0_4 (F := Ideal) i x0 x1 x2 (ix2 r j) : EReal) = k0_pay2 (F := Ideal) i x1 x0 x2 (ix2 r j) := by
  unfold out0_4
  rw [View.canon_unit_zero (S := S256x2048) zeros2, View.ld_unit_zero (S := S256x2048) zeros2, View.ld_unit_zero (S := S256x2048) zeros2,
    View.ld_unit_zero (S := S1x2048) zeros2]
  rfl

/-- A point's third block. -/
theorem block5 (i : grid0.Coords) (x0 x1 : Vec Ideal S256x2048 .f32) (x2 : Vec Ideal S1x2048 .f32) (r : Fin 256) (j : Fin 2048) :
    (out0_5 (F := Ideal) i x0 x1 x2 (ix2 r j) : EReal)
      = (k0_pay2 (F := Ideal) i x1 x0 x2 (ix2 r j) : EReal) - k0_pay2 (F := Ideal) i x1 x0 x2 (ix2 r j) := by
  unfold out0_5
  rw [View.canon_unit_zero (S := S256x2048) zeros2, View.ld_unit_zero (S := S256x2048) zeros2, View.ld_unit_zero (S := S256x2048) zeros2,
    View.ld_unit_zero (S := S1x2048) zeros2]
  rfl

/-- Which block each window is at, at every point; every point writes its blocks back. -/
theorem idxs : ∀ t : Fin cfg0.N,
    (win0_0.index t (0 : Fin 2) = t.val - 1 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ win0_3.flush t = true ∧ win0_4.flush t = true ∧ win0_5.flush t = true
    ∧ (grid0.coords t 0).val = t.val :=
  (by decide +kernel : ∀ t : Fin grid0.N, _)

theorem coord (t : Fin cfg0.N) : (grid0.coords t 0).val = t.val := (idxs t).2.2.2.2.2.2.2.2.2

variable (m : (ℓ : Loc nD τ sig) → Buf (Elt Ideal) ℓ) (c : Dev nD)

/-- What the host hands the launch: the sequence. -/
theorem host_seq (p : Fin 8192) (k : Fin 2048) :
    (V m c main_v0 (ix2 p k) : EReal) = m ((c : Thread nD τ).loc main_arg0) (ix3 (0 : Fin 1) p k) := by
  unfold V
  after_reads_at

/-- The zeros and the meta tokens. -/
theorem host_head (r : Fin 256) (k : Fin 2048) :
    (V m c main_v4 (ix2 r k) : EReal)
      = if h : r.val < 240 then (0 : EReal) else m ((c : Thread nD τ).loc main_arg1) (ix2 (⟨r.val - 240, by omega⟩ : Fin 16) k) := by
  unfold V
  after_reads_at

/-- The gain. -/
theorem host_gain (k : Fin 2048) :
    (V m c main_v5 (ix2 (0 : Fin 1) k) : EReal) = m ((c : Thread nD τ).loc main_arg2) (ix2 (0 : Fin 2) k) := by
  unfold V
  after_reads_at

/-- The rows of the sequence a point reads. -/
theorem rows (t : Fin cfg0.N) (i : Fin 256) (k : Fin 2048) (p : Fin 8192) (hp : (t.val - 1) * 256 + i.val = p.val) :
    (iblk m c 0 t : Vec Ideal S256x2048 .f32) (ix2 i k) = m ((c : Thread nD τ).loc main_arg0) (ix3 (0 : Fin 1) p k) := by
  refine Eq.trans ?_ (host_seq m c p k)
  show V m c main_v0 (((cfg0.win 0).blk t).view.emb (ix2 i k)) = _
  congr 1; funext a; apply Fin.ext
  match a with
  | ⟨0, _⟩ => show win0_0.index t (0 : Fin 2) * 256 + 1 * i.val = p.val; exact at_block (idxs t).1.1 hp
  | ⟨1, _⟩ => show win0_0.index t (1 : Fin 2) * 2048 + 1 * k.val = k.val; exact at_first (idxs t).1.2

/-- The rows before the sequence. -/
theorem rows_head (t : Fin cfg0.N) (i : Fin 256) (k : Fin 2048) :
    (iblk m c 1 t : Vec Ideal S256x2048 .f32) (ix2 i k) = V m c main_v4 (ix2 i k) := by
  show V m c main_v4 (((cfg0.win 1).blk t).view.emb (ix2 i k)) = _
  congr 1; funext a; apply Fin.ext
  match a with
  | ⟨0, _⟩ => show win0_1.index t (0 : Fin 2) * 256 + 1 * i.val = i.val; exact at_first (idxs t).2.1.1
  | ⟨1, _⟩ => show win0_1.index t (1 : Fin 2) * 2048 + 1 * k.val = k.val; exact at_first (idxs t).2.1.2

/-- The gain a point reads. -/
theorem gain (t : Fin cfg0.N) (k : Fin 2048) :
    (iblk m c 2 t : Vec Ideal S1x2048 .f32) (ix2 (0 : Fin 1) k) = m ((c : Thread nD τ).loc main_arg2) (ix2 (0 : Fin 2) k) := by
  refine Eq.trans ?_ (host_gain m c k)
  show V m c main_v5 (((cfg0.win 2).blk t).view.emb (ix2 (0 : Fin 1) k)) = _
  congr 1; funext a; apply Fin.ext
  match a with
  | ⟨0, _⟩ => show win0_2.index t (0 : Fin 2) * 1 + 1 * 0 = 0; exact at_first (idxs t).2.2.1.1
  | ⟨1, _⟩ => show win0_2.index t (1 : Fin 2) * 2048 + 1 * k.val = k.val; exact at_first (idxs t).2.2.1.2

/-- A point's rows, in the arguments. -/
theorem point (t : Fin cfg0.N) (i : Fin 256) (k : Fin 2048) (p : Fin 8448) (hp : t.val * 256 + i.val = p.val) :
    (k0_pay1 (F := Ideal) (grid0.coords t) (iblk m c 1 t) (iblk m c 0 t) (ix2 i k) : EReal)
      = rowsIn (m ((c : Thread nD τ).loc main_arg0)) (m ((c : Thread nD τ).loc main_arg1)) p k := by
  have hi := i.isLt
  have hpl := p.isLt
  have hc := coord t
  unfold rowsIn
  by_cases h0 : t.val = 0
  · refine (taken_first _ (hc.trans h0) _ _ i k).trans ((rows_head m c t i k).trans ((host_head m c i k).trans ?_))
    have e : i.val = p.val := by omega
    by_cases h : p.val < 240
    · rw [dif_pos (show i.val < 240 by omega), dif_pos h]
    · rw [dif_neg (show ¬ i.val < 240 by omega), dif_neg h, dif_pos (show p.val - 240 < 16 by omega)]
      exact congrArg (fun q => m ((c : Thread nD τ).loc main_arg1) (ix2 q k)) (Fin.ext (by dsimp only; omega))
  · rw [dif_neg (show ¬ p.val < 240 by omega), dif_neg (show ¬ p.val - 240 < 16 by omega)]
    exact (taken_later _ (fun h => h0 (hc.symm.trans h)) (by omega) _ _ i k).trans (rows m c t i k _ (by dsimp only; omega))

/-- What a point norms, in the arguments. -/
theorem point_norm (t : Fin cfg0.N) (i : Fin 256) (j : Fin 2048) (p : Fin 8448) (hp : t.val * 256 + i.val = p.val) :
    (k0_pay2 (F := Ideal) (grid0.coords t) (iblk m c 1 t) (iblk m c 0 t) (iblk m c 2 t) (ix2 i j) : EReal)
      = normIn (m ((c : Thread nD τ).loc main_arg0)) (m ((c : Thread nD τ).loc main_arg1)) (m ((c : Thread nD τ).loc main_arg2)) p j := by
  refine (computed _ _ _ _ i j).trans ?_
  unfold normIn
  exact congrArg₂ (fun f g => rowNorm f g j) (funext fun k => point m c t i k p hp) (funext fun k => gain m c t k)

/-- The kernel's first array after the run. -/
theorem kernel_entry3 (p : Fin 8448) (j : Fin 2048) :
    ((dats m 0 c).arrAt 3 cfg0.N (ix2 p j) : EReal) = rowsIn (m ((c : Thread nD τ).loc main_arg0)) (m ((c : Thread nD τ).loc main_arg1)) p j := by
  have hp := p.isLt
  have hN : p.val / 256 < cfg0.N := lt_of_lt_of_eq (by omega) N_0.symm
  have hb := congrFun ((Value.blocks3 m c ⟨p.val / 256, hN⟩ (idxs _).2.2.2.2.2.2.1).trans (Value.flushed3 m c _))
    (ix2 (⟨p.val % 256, by omega⟩ : Fin 256) j)
  have e : ((cfg0.win 3).blk ⟨p.val / 256, hN⟩).view.emb (ix2 (⟨p.val % 256, by omega⟩ : Fin 256) j) = ix2 p j := by
    funext a; apply Fin.ext
    match a with
    | ⟨0, _⟩ => show win0_3.index _ (0 : Fin 2) * 256 + 1 * (p.val % 256) = p.val; exact at_block (idxs _).2.2.2.1.1 (by dsimp only; omega)
    | ⟨1, _⟩ => show win0_3.index _ (1 : Fin 2) * 2048 + 1 * j.val = j.val; exact at_first (idxs _).2.2.2.1.2
  refine ((congrArg ((dats m 0 c).arrAt 3 cfg0.N) e).symm.trans hb).trans ?_
  exact (congrFun (block3 _ _ _ _) _).trans (point m c _ _ j p (by dsimp only; omega))

/-- The kernel's second array after the run. -/
theorem kernel_entry4 (p : Fin 8448) (j : Fin 2048) :
    ((dats m 0 c).arrAt 4 cfg0.N (ix2 p j) : EReal) = normIn (m ((c : Thread nD τ).loc main_arg0)) (m ((c : Thread nD τ).loc main_arg1)) (m ((c : Thread nD τ).loc main_arg2)) p j := by
  have hp := p.isLt
  have hN : p.val / 256 < cfg0.N := lt_of_lt_of_eq (by omega) N_0.symm
  have hb := congrFun ((Value.blocks4 m c ⟨p.val / 256, hN⟩ (idxs _).2.2.2.2.2.2.2.1).trans (Value.flushed4 m c _))
    (ix2 (⟨p.val % 256, by omega⟩ : Fin 256) j)
  have e : ((cfg0.win 4).blk ⟨p.val / 256, hN⟩).view.emb (ix2 (⟨p.val % 256, by omega⟩ : Fin 256) j) = ix2 p j := by
    funext a; apply Fin.ext
    match a with
    | ⟨0, _⟩ => show win0_4.index _ (0 : Fin 2) * 256 + 1 * (p.val % 256) = p.val; exact at_block (idxs _).2.2.2.2.1.1 (by dsimp only; omega)
    | ⟨1, _⟩ => show win0_4.index _ (1 : Fin 2) * 2048 + 1 * j.val = j.val; exact at_first (idxs _).2.2.2.2.1.2
  refine ((congrArg ((dats m 0 c).arrAt 4 cfg0.N) e).symm.trans hb).trans ?_
  exact (block4 _ _ _ _ _ _).trans (point_norm m c _ _ j p (by dsimp only; omega))

variable (hg : Finite (m ((c : Thread nD τ).loc main_arg2)))

include hg in
/-- The kernel's third array after the run. -/
theorem kernel_entry5 (p : Fin 8448) (j : Fin 2048) :
    ((dats m 0 c).arrAt 5 cfg0.N (ix2 p j) : EReal) = (0 : EReal) := by
  have hp := p.isLt
  have hN : p.val / 256 < cfg0.N := lt_of_lt_of_eq (by omega) N_0.symm
  have hb := congrFun ((Value.blocks5 m c ⟨p.val / 256, hN⟩ (idxs _).2.2.2.2.2.2.2.2.1).trans (Value.flushed5 m c _))
    (ix2 (⟨p.val % 256, by omega⟩ : Fin 256) j)
  have e : ((cfg0.win 5).blk ⟨p.val / 256, hN⟩).view.emb (ix2 (⟨p.val % 256, by omega⟩ : Fin 256) j) = ix2 p j := by
    funext a; apply Fin.ext
    match a with
    | ⟨0, _⟩ => show win0_5.index _ (0 : Fin 2) * 256 + 1 * (p.val % 256) = p.val; exact at_block (idxs _).2.2.2.2.2.1.1 (by dsimp only; omega)
    | ⟨1, _⟩ => show win0_5.index _ (1 : Fin 2) * 2048 + 1 * j.val = j.val; exact at_first (idxs _).2.2.2.2.2.1.2
  refine ((congrArg ((dats m 0 c).arrAt 5 cfg0.N) e).symm.trans hb).trans ?_
  refine (block5 _ _ _ _ _ _).trans ?_
  rw [point_norm m c _ _ j p (by dsimp only; omega)]
  exact sub_real (real_normIn _ _ _ hg p j)

end

section
open Cert.EmbedReferenceIdeal Cert.EmbedReferenceIdeal.Gen

/-- The reference's rows. -/
abbrev joined (x : FVec Ideal S1x8192x2048 .f32) (t : FVec Ideal S16x2048 .f32) : FVec Ideal S8448x2048 .f32 :=
  concatenate S8448x2048 0 [⟨S240x2048, ((broadcastInDim S240x2048 ![] bcast_S_S240x2048 (constant (F := Ideal) S_ .f32 0x00000000#32)) : (⟨S240x2048, .f32⟩ : BufTy).Contents (Elt Ideal))⟩,
    ⟨S16x2048, (t : (⟨S16x2048, .f32⟩ : BufTy).Contents (Elt Ideal))⟩,
    ⟨S8192x2048, ((shapeCast S8192x2048 x shapeCasts_S1x8192x2048_S8192x2048) : (⟨S8192x2048, .f32⟩ : BufTy).Contents (Elt Ideal))⟩]
    concatenates_S240x2048_S16x2048_S8192x2048_S8448x2048_d0

theorem reference_entry3 (x : FVec Ideal S1x8192x2048 .f32) (t : FVec Ideal S16x2048 .f32) (p : Fin 8448) (j : Fin 2048) :
    (joined x t (ix2 p j) : EReal) = rowsIn x t p j := by
  unfold joined rowsIn
  pointwise

/-- The reference's scaling of rows to unit mean square, times a gain. -/
abbrev normed (a : FVec Ideal S8448x2048 .f32) (w : FVec Ideal S1x2048 .f32) : FVec Ideal S8448x2048 .f32 :=
  mulf (mulf a (broadcastInDim S8448x2048 ![0, 1] bcast_S8448x1_S8448x2048_0_1 (Host.rsqrt (addf (Host.divf (broadcastInDim S8448x1 ![0]
    bcast_S8448_S8448x1_0 (Host.reduceAdd (mulf a a) (constant S_ .f32 0x00000000#32) reducesTo_S8448x2048_S8448_d1 h_S_))
    (broadcastInDim S8448x1 ![] bcast_S_S8448x1 (constant S_ .f32 0x45000000#32))) (broadcastInDim S8448x1 ![] bcast_S_S8448x1
    (constant S_ .f32 0x358637BD#32)))))) (broadcastInDim S8448x2048 ![0, 1] bcast_S1x2048_S8448x2048_0_1 (broadcastInDim S1x2048 ![1]
    bcast_S2048_S1x2048_1 (shapeCast _ w shapeCasts_S1x2048_S2048)))

theorem normed_entry (a : FVec Ideal S8448x2048 .f32) (w : FVec Ideal S1x2048 .f32) (p : Fin 8448) (j : Fin 2048) :
    (normed a w (ix2 p j) : EReal) = rowNorm (fun k => a (ix2 p k)) (fun k => w (ix2 (0 : Fin 1) k)) j := by
  unfold normed rowNorm
  pointwise

/-- The row taken out of the stack of gains. -/
theorem row_gain (w : FVec Ideal S2x2048 .f32) (k : Fin 2048) :
    (extractStridedSlice S1x2048 ![0, 0] w slices_S2x2048_S1x2048_0_0 (ix2 (0 : Fin 1) k) : EReal) = w (ix2 (0 : Fin 2) k) := by
  pointwise

theorem reference_entry4 (x : FVec Ideal S1x8192x2048 .f32) (t : FVec Ideal S16x2048 .f32) (g : FVec Ideal S2x2048 .f32) (p : Fin 8448) (j : Fin 2048) :
    (truncf .bf16 (normed (joined x t) (extractStridedSlice S1x2048 ![0, 0] g slices_S2x2048_S1x2048_0_0)) bitsLt_bf16_f32 (ix2 p j) : EReal)
      = normIn x t g p j := by
  unfold normIn
  refine (normed_entry _ _ p j).trans ?_
  exact congrArg₂ (fun f f' => rowNorm f f' j) (funext fun k => reference_entry3 x t p k) (funext fun k => row_gain g k)

theorem reference_entry5 (p : Fin 8448) (j : Fin 2048) :
    (truncf (F := Ideal) .bf16 (broadcastInDim S8448x2048 ![] bcast_S_S8448x2048 (constant (F := Ideal) S_ .f32 0x00000000#32)) bitsLt_bf16_f32 (ix2 p j) : EReal) = 0 := by
  pointwise

/-- The reference runs and leaves its arguments and every semaphore as they were. -/
theorem reference_frame : quiescent_EmbedReferenceIdeal := fun m g _ =>
  (θ_run defs _ _).mono (fun r h => ⟨fun c => (h c).2.2.2, sem_eq_zero_of_no_sems (by decide) r.2⟩) (Value.run (F := Ideal) m g)

end

/-- The precondition's side conditions. -/
theorem pre_facts : Cert.Pre_embed_finite.Facts := ⟨by decide⟩

/-- The kernel and the reference end with equal results. -/
theorem equation [Cert.Pre_embed_finite.Facts] : algebraic_EmbedIdeal_EmbedReferenceIdeal_pre_embed_finite := by
  intro m g m' g' hp ha
  refine ⟨fun c => (Cert.EmbedIdeal.Gen.dats m 0 c).arrAt 3 Cert.EmbedIdeal.cfg0.N, fun c => (Cert.EmbedIdeal.Gen.dats m 0 c).arrAt 4 Cert.EmbedIdeal.cfg0.N,
    fun c => (Cert.EmbedIdeal.Gen.dats m 0 c).arrAt 5 Cert.EmbedIdeal.cfg0.N, Cert.EmbedIdeal.Value.run_blocks m g, ?_⟩
  refine (θ_run Cert.EmbedReferenceIdeal.defs _ _).mono (fun r h c => ⟨(h c).1.trans ?_, (h c).2.1.trans ?_, (h c).2.2.1.trans ?_, (h c).2.2.2⟩)
    (Cert.EmbedReferenceIdeal.Value.run (F := Ideal) m' g')
  · rw [(ha c).1, (ha c).2.1]
    exact ext2 _ _ fun p j => (reference_entry3 _ _ p j).trans (kernel_entry3 m c p j).symm
  · rw [(ha c).1, (ha c).2.1, (ha c).2.2]
    exact ext2 _ _ fun p j => (reference_entry4 _ _ _ p j).trans (kernel_entry4 m c p j).symm
  · exact ext2 _ _ fun p j => (reference_entry5 p j).trans (kernel_entry5 m c (finite_gain _ _ _ (hp c)) p j).symm

end Cert.NormIn

end
-- ==== Proof.NormQueries.lean ====
/-
  The low-rank queries: the kernel brings every column of its operand's first 512 rows to unit mean square and scales it by a
  gain, one column at a time, and writes the result in two parts; the reference does so on the array as a whole. Of a finite
  gain the second part is zero.
-/
module

public import proofs.«01_k».proof.Defs
public import proofs.«01_k».proof.Proof.Products
public import proofs.«01_k».proof.Proof.RowNorm
public import proofs.«01_k».proof.Proof.Gen.RmsCqIdeal.Value
public import proofs.«01_k».proof.Proof.Gen.RmsCqReferenceIdeal.Run
public import Idealize.ShloMosaic.Lib.Quiescent
public import Idealize.ShloMosaic.Lib.Tactic
public import Idealize.ShloMosaic.Lib.StableHlo.ReadAt

@[expose] public section

set_option maxRecDepth 16384

noncomputable section

namespace Cert.NormQueries

open Idealize.ShloMosaic Idealize.ShloMosaic.Pointwise Idealize.ShloMosaic.TcCoe Idealize.SL.Sem Cert.Products Cert.RowNorm

/-- An entry of the row `r` over the root of the row's mean square and a small number, times the gain. -/
def queryNorm (r g : Fin 512 → EReal) (j : Fin 512) : EReal :=
  r j * Ideal.rsqrt (Ideal.div (∑ k : Fin 512, r k * r k) (Ideal.ofBits .f32 0x44000000#32) + Ideal.ofBits .f32 0x358637BD#32) * g j

/-- The queries normed: the first 512 rows of the operand, column by column. -/
def queries (x : (⟨2, ![640, 8448]⟩ : Shape).Idx → EReal) (g : (⟨2, ![1, 512]⟩ : Shape).Idx → EReal) (j : Fin 512) (p : Fin 8448) : EReal :=
  queryNorm (fun k => x (ix2 (⟨k.val, by omega⟩ : Fin 640) p)) (fun k => g (ix2 (0 : Fin 1) k)) j

/-- No entry of the gain is infinite. -/
def Finite (g : (⟨2, ![1, 512]⟩ : Shape).Idx → EReal) : Prop := ∀ i, max (g i) (-(g i)) < ⊤

/-- A gain that meets the precondition is finite. -/
theorem finite_gain [Cert.Pre_rms_cq_finite.Facts] (x : FVec Ideal Cert.Pre_rms_cq_finite.S640x8448 .f32)
    (g : FVec Ideal Cert.Pre_rms_cq_finite.S1x512 .f32) (h : Cert.Pre_rms_cq_finite.fn (F := Ideal) x g = (fun _ => 1#1)) : Finite g := by
  intro i
  have e : BitVec.ofBool (decide (max (g i : EReal) (-(g i : EReal)) < Ideal.ofBits .f32 0x7F800000#32)) = 1#1 := congrFun h i
  rw [bits_inf] at e
  by_contra hn
  rw [decide_eq_false hn] at e
  exact absurd e (by decide)

/-- With a finite gain the queries normed are real numbers. -/
theorem real_queries (x : (⟨2, ![640, 8448]⟩ : Shape).Idx → EReal) (g : (⟨2, ![1, 512]⟩ : Shape).Idx → EReal) (hg : Finite g) (j : Fin 512) (p : Fin 8448) :
    ∃ v : ℝ, queries x g j p = (v : EReal) :=
  real_of_gain (fun k : Fin 512 => x (ix2 (⟨k.val, by omega⟩ : Fin 640) p)) j bits_512 bits_small (by norm_num) (by norm_num) (hg _)

section
open Cert.RmsCqIdeal Cert.RmsCqIdeal.Gen

/-- What a point norms. -/
theorem computed (x : Vec Ideal S512x768 .f32) (g : Vec Ideal S512x1 .f32) (j : Fin 512) (r : Fin 768) :
    (k0_pay1 (F := Ideal) x g (ix2 j r) : EReal) = queryNorm (fun k => x (ix2 k r)) (fun k => g (ix2 k (0 : Fin 1))) j := by
  unfold k0_pay1 queryNorm
  pointwise

/-- A point's first block. -/
theorem block2 (c : Dev nD) (i : grid0.Coords) (a1 : Memref sig .tc .vmem S512x768 .f32) (h1 : a1.IsWhole) (a2 : Memref sig .tc .vmem S512x1 .f32) (h2 : a2.IsWhole)
    (a3 : Memref sig .tc .vmem S512x768 .bf16) (h3 : a3.IsWhole) (a4 : Memref sig .tc .vmem S512x768 .bf16) (h4 : a4.IsWhole)
    (x0 : Vec Ideal S512x768 .f32) (x1 : Vec Ideal S512x1 .f32) : out0_A_2 (F := Ideal) c i a1 h1 a2 h2 a3 h3 a4 h4 x0 x1 = k0_pay2 (F := Ideal) x0 x1 := by
  unfold out0_A_2
  rw [View.read_writes_eq_canon _ _ _ (cover0_A_2 c i a1 h1 a2 h2 a3 h3 a4 h4 x0 x1)]
  unfold kernelRun0_A
  dsimp only
  sl_unfold_words
  simp only [View.readAt_eq_ld, h1.read_unread, h2.read_unread, View.ld_unit_zero (S := S512x768) zeros2, View.ld_unit_zero (S := S512x1) zeros2]
  rw [View.canon_unit_zero (S := S512x768) zeros2]

/-- A point's second block. -/
theorem block3 (c : Dev nD) (i : grid0.Coords) (a1 : Memref sig .tc .vmem S512x768 .f32) (h1 : a1.IsWhole) (a2 : Memref sig .tc .vmem S512x1 .f32) (h2 : a2.IsWhole)
    (a3 : Memref sig .tc .vmem S512x768 .bf16) (h3 : a3.IsWhole) (a4 : Memref sig .tc .vmem S512x768 .bf16) (h4 : a4.IsWhole)
    (x0 : Vec Ideal S512x768 .f32) (x1 : Vec Ideal S512x1 .f32) : out0_A_3 (F := Ideal) c i a1 h1 a2 h2 a3 h3 a4 h4 x0 x1 = k0_pay3 (F := Ideal) x0 x1 := by
  unfold out0_A_3
  rw [View.read_writes_eq_canon _ _ _ (cover0_A_3 c i a1 h1 a2 h2 a3 h3 a4 h4 x0 x1)]
  unfold kernelRun0_A
  dsimp only
  sl_unfold_words
  simp only [View.readAt_eq_ld, h1.read_unread, h2.read_unread, View.ld_unit_zero (S := S512x768) zeros2, View.ld_unit_zero (S := S512x1) zeros2]
  rw [View.canon_unit_zero (S := S512x768) zeros2]

/-- Which block each window is at, at every point; every point writes its blocks back. -/
theorem idxs : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ win0_2.flush t = true ∧ win0_3.flush t = true :=
  (by decide +kernel : ∀ t : Fin grid0.N, _)

variable (m : (ℓ : Loc nD τ sig) → Buf (Elt Ideal) ℓ) (c : Dev nD)

/-- What the host hands the launch: the operand as it is. -/
theorem host_x : V m c main_arg0 = m ((c : Thread nD τ).loc main_arg0) := V_main_arg0 m c

/-- The gain as a column. -/
theorem host_gain (k : Fin 512) :
    (V m c main_v1 (ix2 k (0 : Fin 1)) : EReal) = m ((c : Thread nD τ).loc main_arg1) (ix2 (0 : Fin 1) k) := by
  unfold V
  after_reads_at

/-- The columns a point reads. -/
theorem rows (t : Fin cfg0.N) (k : Fin 512) (i : Fin 768) (p : Fin 8448) (hp : t.val * 768 + i.val = p.val) :
    (X0_0 m c t : Vec Ideal S512x768 .f32) (ix2 k i) = m ((c : Thread nD τ).loc main_arg0) (ix2 (⟨k.val, by omega⟩ : Fin 640) p) := by
  refine Eq.trans ?_ (congrFun (host_x m c) _)
  unfold X0_0 Pipeline.Window.fill
  rw [dif_pos (moved0_0 t _)]
  show V m c main_arg0 (((cfg0.win 0).blk t).view.emb _) = _
  congr 1; funext a; apply Fin.ext
  match a with
  | ⟨0, _⟩ => show win0_0.index t (0 : Fin 2) * 512 + 1 * k.val = k.val; exact at_first (idxs t).1.1
  | ⟨1, _⟩ => show win0_0.index t (1 : Fin 2) * 768 + 1 * i.val = p.val; exact at_block (idxs t).1.2 hp

/-- The gain a point reads. -/
theorem gain (t : Fin cfg0.N) (k : Fin 512) :
    (iblk m c 1 t : Vec Ideal S512x1 .f32) (ix2 k (0 : Fin 1)) = m ((c : Thread nD τ).loc main_arg1) (ix2 (0 : Fin 1) k) := by
  refine Eq.trans ?_ (host_gain m c k)
  show V m c main_v1 (((cfg0.win 1).blk t).view.emb (ix2 k (0 : Fin 1))) = _
  congr 1; funext a; apply Fin.ext
  match a with
  | ⟨0, _⟩ => show win0_1.index t (0 : Fin 2) * 512 + 1 * k.val = k.val; exact at_first (idxs t).2.1.1
  | ⟨1, _⟩ => show win0_1.index t (1 : Fin 2) * 1 + 1 * 0 = 0; exact at_first (idxs t).2.1.2

/-- What a point norms, in the arguments. -/
theorem point (t : Fin cfg0.N) (j : Fin 512) (i : Fin 768) (p : Fin 8448) (hp : t.val * 768 + i.val = p.val) :
    (k0_pay1 (F := Ideal) (X0_0 m c t) (iblk m c 1 t) (ix2 j i) : EReal)
      = queries (m ((c : Thread nD τ).loc main_arg0)) (m ((c : Thread nD τ).loc main_arg1)) j p := by
  refine (computed _ _ j i).trans ?_
  unfold queries
  exact congrArg₂ (fun f g => queryNorm f g j) (funext fun k => rows m c t k i p hp) (funext fun k => gain m c t k)

/-- The kernel's first array after the run. -/
theorem kernel_entry2 (j : Fin 512) (p : Fin 8448) :
    ((dats m 0 c).arrAt 2 cfg0.N (ix2 j p) : EReal) = queries (m ((c : Thread nD τ).loc main_arg0)) (m ((c : Thread nD τ).loc main_arg1)) j p := by
  have hp := p.isLt
  have hN : p.val / 768 < cfg0.N := lt_of_lt_of_eq (by omega) N_0.symm
  have hb := congrFun ((Value.blocks2 m c ⟨p.val / 768, hN⟩ (idxs _).2.2.2.2.1).trans (Value.flushed2_A m c _))
    (ix2 j (⟨p.val % 768, by omega⟩ : Fin 768))
  have e : ((cfg0.win 2).blk ⟨p.val / 768, hN⟩).view.emb (ix2 j (⟨p.val % 768, by omega⟩ : Fin 768)) = ix2 j p := by
    funext a; apply Fin.ext
    match a with
    | ⟨0, _⟩ => show win0_2.index _ (0 : Fin 2) * 512 + 1 * j.val = j.val; exact at_first (idxs _).2.2.1.1
    | ⟨1, _⟩ => show win0_2.index _ (1 : Fin 2) * 768 + 1 * (p.val % 768) = p.val; exact at_block (idxs _).2.2.1.2 (by dsimp only; omega)
  refine ((congrArg ((dats m 0 c).arrAt 2 cfg0.N) e).symm.trans hb).trans ?_
  refine (congrFun (block2 _ _ _ _ _ _ _ _ _ _ _ _) _).trans ?_
  exact point m c _ j _ p (by dsimp only; omega)

variable (hg : Finite (m ((c : Thread nD τ).loc main_arg1)))

include hg in
/-- The kernel's second array after the run. -/
theorem kernel_entry3 (j : Fin 512) (p : Fin 8448) :
    ((dats m 0 c).arrAt 3 cfg0.N (ix2 j p) : EReal) = (0 : EReal) := by
  have hp := p.isLt
  have hN : p.val / 768 < cfg0.N := lt_of_lt_of_eq (by omega) N_0.symm
  have hb := congrFun ((Value.blocks3 m c ⟨p.val / 768, hN⟩ (idxs _).2.2.2.2.2).trans (Value.flushed3_A m c _))
    (ix2 j (⟨p.val % 768, by omega⟩ : Fin 768))
  have e : ((cfg0.win 3).blk ⟨p.val / 768, hN⟩).view.emb (ix2 j (⟨p.val % 768, by omega⟩ : Fin 768)) = ix2 j p := by
    funext a; apply Fin.ext
    match a with
    | ⟨0, _⟩ => show win0_3.index _ (0 : Fin 2) * 512 + 1 * j.val = j.val; exact at_first (idxs _).2.2.2.1.1
    | ⟨1, _⟩ => show win0_3.index _ (1 : Fin 2) * 768 + 1 * (p.val % 768) = p.val; exact at_block (idxs _).2.2.2.1.2 (by dsimp only; omega)
  refine ((congrArg ((dats m 0 c).arrAt 3 cfg0.N) e).symm.trans hb).trans ?_
  refine (congrFun (block3 _ _ _ _ _ _ _ _ _ _ _ _) _).trans ?_
  have q := point m c ⟨p.val / 768, hN⟩ j (⟨p.val % 768, by omega⟩ : Fin 768) p (by dsimp only; omega)
  show (k0_pay1 (F := Ideal) (X0_0 m c ⟨p.val / 768, hN⟩) (iblk m c 1 ⟨p.val / 768, hN⟩) (ix2 j (⟨p.val % 768, by omega⟩ : Fin 768)) : EReal)
    - k0_pay1 (F := Ideal) (X0_0 m c ⟨p.val / 768, hN⟩) (iblk m c 1 ⟨p.val / 768, hN⟩) (ix2 j (⟨p.val % 768, by omega⟩ : Fin 768)) = 0
  rw [q]
  exact sub_real (real_queries _ _ hg j p)

end

section
open Cert.RmsCqReferenceIdeal Cert.RmsCqReferenceIdeal.Gen

/-- The reference's norm of rows. -/
abbrev normed (a : FVec Ideal S8448x512 .f32) (w : FVec Ideal S1x512 .f32) : FVec Ideal S8448x512 .f32 :=
  mulf (mulf a (broadcastInDim S8448x512 ![0, 1] bcast_S8448x1_S8448x512_0_1 (Host.rsqrt (addf (Host.divf (broadcastInDim S8448x1 ![0]
    bcast_S8448_S8448x1_0 (Host.reduceAdd (mulf a a) (constant S_ .f32 0x00000000#32) reducesTo_S8448x512_S8448_d1 h_S_))
    (broadcastInDim S8448x1 ![] bcast_S_S8448x1 (constant S_ .f32 0x44000000#32))) (broadcastInDim S8448x1 ![] bcast_S_S8448x1
    (constant S_ .f32 0x358637BD#32)))))) (broadcastInDim S8448x512 ![0, 1] bcast_S1x512_S8448x512_0_1 (broadcastInDim S1x512 ![1]
    bcast_S512_S1x512_1 (shapeCast _ w shapeCasts_S1x512_S512)))

theorem normed_entry (a : FVec Ideal S8448x512 .f32) (w : FVec Ideal S1x512 .f32) (p : Fin 8448) (j : Fin 512) :
    (normed a w (ix2 p j) : EReal) = queryNorm (fun k => a (ix2 p k)) (fun k => w (ix2 (0 : Fin 1) k)) j := by
  unfold normed queryNorm
  pointwise

/-- The operand's first rows, as columns. -/
abbrev turned (x : FVec Ideal S640x8448 .f32) : FVec Ideal S8448x512 .f32 :=
  transpose S8448x512 [1, 0] (extractStridedSlice S512x8448 ![0, 0] x slices_S640x8448_S512x8448_0_0) transposes_S512x8448_S8448x512_1_0

theorem turned_entry (x : FVec Ideal S640x8448 .f32) (p : Fin 8448) (k : Fin 512) :
    (turned x (ix2 p k) : EReal) = x (ix2 (⟨k.val, by omega⟩ : Fin 640) p) := by
  unfold turned
  pointwise

/-- An array turned over and rounded. -/
theorem turned_back (a : FVec Ideal S8448x512 .f32) (j : Fin 512) (p : Fin 8448) :
    (truncf (F := Ideal) .bf16 (transpose S512x8448 [1, 0] a transposes_S8448x512_S512x8448_1_0) bitsLt_bf16_f32 (ix2 j p) : EReal) = a (ix2 p j) := by
  pointwise

theorem reference_entry2 (x : FVec Ideal S640x8448 .f32) (g : FVec Ideal S1x512 .f32) (j : Fin 512) (p : Fin 8448) :
    (truncf (F := Ideal) .bf16 (transpose S512x8448 [1, 0] (normed (turned x) g) transposes_S8448x512_S512x8448_1_0) bitsLt_bf16_f32 (ix2 j p) : EReal)
      = queries x g j p := by
  refine (turned_back _ j p).trans ((normed_entry _ _ p j).trans ?_)
  unfold queries
  exact congrArg (fun f => queryNorm f _ j) (funext fun k => turned_entry x p k)

theorem reference_entry3 (j : Fin 512) (p : Fin 8448) :
    (truncf (F := Ideal) .bf16 (broadcastInDim S512x8448 ![] bcast_S_S512x8448 (constant (F := Ideal) S_ .f32 0x00000000#32)) bitsLt_bf16_f32 (ix2 j p) : EReal) = 0 := by
  pointwise

/-- The reference runs and leaves its arguments and every semaphore as they were. -/
theorem reference_frame : quiescent_RmsCqReferenceIdeal := fun m g _ =>
  (θ_run defs _ _).mono (fun r h => ⟨fun c => (h c).2.2, sem_eq_zero_of_no_sems (by decide) r.2⟩) (Value.run (F := Ideal) m g)

end

/-- The precondition's side conditions. -/
theorem pre_facts : Cert.Pre_rms_cq_finite.Facts := ⟨by decide⟩

/-- The kernel and the reference end with equal results. -/
theorem equation [Cert.Pre_rms_cq_finite.Facts] : algebraic_RmsCqIdeal_RmsCqReferenceIdeal_pre_rms_cq_finite := by
  intro m g m' g' hp ha
  refine ⟨fun c => (Cert.RmsCqIdeal.Gen.dats m 0 c).arrAt 2 Cert.RmsCqIdeal.cfg0.N, fun c => (Cert.RmsCqIdeal.Gen.dats m 0 c).arrAt 3 Cert.RmsCqIdeal.cfg0.N,
    Cert.RmsCqIdeal.Value.run_blocks m g, ?_⟩
  refine (θ_run Cert.RmsCqReferenceIdeal.defs _ _).mono (fun r h c => ⟨(h c).1.trans ?_, (h c).2.1.trans ?_, (h c).2.2⟩)
    (Cert.RmsCqReferenceIdeal.Value.run (F := Ideal) m' g')
  · rw [(ha c).1, (ha c).2]
    exact ext2 _ _ fun j p => (reference_entry2 _ _ j p).trans (kernel_entry2 m c j p).symm
  · exact ext2 _ _ fun j p => (reference_entry3 j p).trans (kernel_entry3 m c (finite_gain _ _ (hp c)) j p).symm

end Cert.NormQueries

end
-- ==== Proof.IndexKeys.lean ====
/-
  The keys of the index scores: the kernel brings the lower half of every row of its operand to unit mean square, masking the
  upper half out, scales it by a gain laid in a wider row of zeros, and writes the keys twice, the second copy by a rotation, and
  the rest of their rounding twice; the reference norms the lower half of the array as a whole and joins it twice with zeros. Of
  a finite gain the rest is zero.
-/
module

public import proofs.«01_k».proof.Defs
public import proofs.«01_k».proof.Proof.Products
public import proofs.«01_k».proof.Proof.RowNorm
public import proofs.«01_k».proof.Proof.Gen.KidxIdeal.Value
public import proofs.«01_k».proof.Proof.Gen.KidxReferenceIdeal.Run
public import Idealize.ShloMosaic.Lib.Quiescent
public import Idealize.ShloMosaic.Lib.StableHlo.ReadAt
public import Idealize.ShloMosaic.Lib.Routing.OpsPair
public import Idealize.ShloMosaic.Lib.Routing.OpsOne

@[expose] public section

set_option maxRecDepth 16384

noncomputable section

namespace Cert.IndexKeys

open Idealize.ShloMosaic Idealize.ShloMosaic.Pointwise Idealize.ShloMosaic.TcCoe Idealize.SL.Sem Cert.Products Cert.RowNorm

/-- A choice by whether a place of 128 is in the lower half. -/
theorem pick (j : Fin 128) (a b : EReal) : Scalar.select (IntOp.cmpi .slt (BitVec.ofNat 32 j.val) 64#32) a b = if j.val < 64 then a else b := by
  have e : ∀ j : Fin 128, IntOp.cmpi .slt (BitVec.ofNat 32 j.val) 64#32 = if j.val < 64 then 1#1 else 0#1 := by decide
  rw [e j]
  by_cases h : j.val < 64
  · rw [if_pos h, if_pos h]; rfl
  · rw [if_neg h, if_neg h]; rfl

theorem bits_64 : Ideal.ofBits .f32 0x42800000#32 = ((64 : ℝ) : EReal) := by
  simp [Ideal.ofBits, Ideal.ieee, -EReal.coe_mul]; norm_num

theorem bits_64th : Ideal.ofBits .f32 0x3C800000#32 = ((1 / 64 : ℝ) : EReal) := by
  simp [Ideal.ofBits, Ideal.ieee, -EReal.coe_mul]; norm_num
/-- An entry of the row `r` over the root of the row's mean square and a small number, times the gain. -/
def keyNorm (r g : Fin 64 → EReal) (j : Fin 64) : EReal :=
  r j * Ideal.rsqrt (Ideal.div (∑ k : Fin 64, r k * r k) (Ideal.ofBits .f32 0x42800000#32) + Ideal.ofBits .f32 0x358637BD#32) * g j

/-- The sum over the lower half of 128 places. -/
theorem half_sum (f : Fin 128 → EReal) : (∑ k : Fin 128, if k.val < 64 then f k else 0) = ∑ k : Fin 64, f ⟨k.val, by omega⟩ := by
  refine (Fin.sum_univ_add (a := 64) (b := 64) (fun k : Fin (64 + 64) => if k.val < 64 then f k else 0)).trans ?_
  have hi : (∑ i : Fin 64, if (Fin.natAdd 64 i).val < 64 then f (Fin.natAdd 64 i) else 0) = 0 :=
    Finset.sum_eq_zero fun i _ => if_neg (by simp)
  rw [hi, add_zero]
  exact Finset.sum_congr rfl fun i _ => (if_pos (by simp)).trans (congrArg f (Fin.ext rfl))

/-- A key: the lower half of a row normed. -/
def key (x : (⟨2, ![8448, 128]⟩ : Shape).Idx → EReal) (g : (⟨2, ![1, 64]⟩ : Shape).Idx → EReal) (p : Fin 8448) (j : Fin 64) : EReal :=
  keyNorm (fun k => x (ix2 p (⟨k.val, by omega⟩ : Fin 128))) (fun k => g (ix2 (0 : Fin 1) k)) j

/-- The keys twice, then zeros. -/
def keys (x : (⟨2, ![8448, 128]⟩ : Shape).Idx → EReal) (g : (⟨2, ![1, 64]⟩ : Shape).Idx → EReal) (p : Fin 8448) (q : Fin 256) : EReal :=
  if h : q.val < 64 then key x g p ⟨q.val, h⟩ else if h : q.val - 64 < 64 then key x g p ⟨q.val - 64, h⟩ else 0

/-- No entry of the gain is infinite. -/
def Finite (g : (⟨2, ![1, 64]⟩ : Shape).Idx → EReal) : Prop := ∀ i, max (g i) (-(g i)) < ⊤

/-- A gain that meets the precondition is finite. -/
theorem finite_gain [Cert.Pre_kidx_finite.Facts] (x : FVec Ideal Cert.Pre_kidx_finite.S8448x128 .f32)
    (g : FVec Ideal Cert.Pre_kidx_finite.S1x64 .f32) (h : Cert.Pre_kidx_finite.fn (F := Ideal) x g = (fun _ => 1#1)) : Finite g := by
  intro i
  have e : BitVec.ofBool (decide (max (g i : EReal) (-(g i : EReal)) < Ideal.ofBits .f32 0x7F800000#32)) = 1#1 := congrFun h i
  rw [bits_inf] at e
  by_contra hn
  rw [decide_eq_false hn] at e
  exact absurd e (by decide)

/-- With a finite gain a key is a real number. -/
theorem real_key (x : (⟨2, ![8448, 128]⟩ : Shape).Idx → EReal) (g : (⟨2, ![1, 64]⟩ : Shape).Idx → EReal) (hg : Finite g) (p : Fin 8448) (j : Fin 64) :
    ∃ v : ℝ, key x g p j = (v : EReal) :=
  real_of_gain (fun k : Fin 64 => x (ix2 p (⟨k.val, by omega⟩ : Fin 128))) j bits_64 bits_small (by norm_num) (by norm_num) (hg _)

section
open Cert.KidxIdeal Cert.KidxIdeal.Gen

/-- What a point norms. -/
theorem computed (x : Vec Ideal S768x128 .f32) (g : Vec Ideal S1x128 .f32) (r : Fin 768) (j : Fin 128) :
    (k0_pay1 (F := Ideal) x g (ix2 r j) : EReal) = if h : j.val < 64 then
      keyNorm (fun k => x (ix2 r (⟨k.val, by omega⟩ : Fin 128))) (fun k => g (ix2 (0 : Fin 1) (⟨k.val, by omega⟩ : Fin 128))) ⟨j.val, h⟩ else 0 := by
  unfold k0_pay1 keyNorm
  pointwise
  simp only [pick]
  have q : (∑ k : Fin 128, if k.val < 64 then (if k.val < 64 then (x (ix2 r k) : EReal) * x (ix2 r k) else 0) else 0)
      = ∑ k : Fin 64, (x (ix2 r (⟨k.val, by omega⟩ : Fin 128)) : EReal) * x (ix2 r (⟨k.val, by omega⟩ : Fin 128)) := by
    refine Eq.trans (Finset.sum_congr rfl fun k _ => ?_) (half_sum fun k => (x (ix2 r k) : EReal) * x (ix2 r k))
    by_cases h : k.val < 64
    · rw [if_pos h, if_pos h]
    · rw [if_neg h, if_neg h]
  by_cases h : j.val < 64
  · rw [if_pos h, dif_pos h, q, bits_64, bits_64th, Ideal.div_coe (by norm_num)]
  · rw [if_neg h, dif_neg h]

/-- Two stores, one per half, into the result block: an entry of the lower half is the first store's. -/
theorem canon_low (p1 p0 : Vec Ideal S768x128 .bf16) (i : Fin 768) (j : Fin 128) :
    View.canon (Val := Elt Ideal) [⟨Rect.unit (s := S768x256) ![0, 128] S768x128.size inb_S768x256_S768x128_0_128, p1⟩,
      ⟨Rect.unit (s := S768x256) ![0, 0] S768x128.size inb_S768x256_S768x128_0_0, p0⟩] (ix2 i (⟨j.val, by omega⟩ : Fin 256)) = p0 (ix2 i j) := by
  rw [View.canon_cons_of_not_mem]
  · have : (ix2 i (⟨j.val, by omega⟩ : Fin 256) : S768x256.Idx) = (Rect.unit (s := S768x256) ![0, 0] S768x128.size inb_S768x256_S768x128_0_0).emb (ix2 i j) := by
      funext a; apply Fin.ext
      match a with
      | ⟨0, _⟩ => show i.val = 0 + 1 * i.val; omega
      | ⟨1, _⟩ => show j.val = 0 + 1 * j.val; omega
    rw [this]; exact View.canon_cons_emb _ _ _ _
  · rw [Rect.mem_set_unit]; intro h
    have := (h 1).1
    change 128 ≤ j.val at this; omega

/-- And an entry of the upper half is the second store's. -/
theorem canon_high (p1 p0 : Vec Ideal S768x128 .bf16) (i : Fin 768) (j : Fin 128) :
    View.canon (Val := Elt Ideal) [⟨Rect.unit (s := S768x256) ![0, 128] S768x128.size inb_S768x256_S768x128_0_128, p1⟩,
      ⟨Rect.unit (s := S768x256) ![0, 0] S768x128.size inb_S768x256_S768x128_0_0, p0⟩] (ix2 i (⟨128 + j.val, by omega⟩ : Fin 256)) = p1 (ix2 i j) := by
  have : (ix2 i (⟨128 + j.val, by omega⟩ : Fin 256) : S768x256.Idx) = (Rect.unit (s := S768x256) ![0, 128] S768x128.size inb_S768x256_S768x128_0_128).emb (ix2 i j) := by
    funext a; apply Fin.ext
    match a with
    | ⟨0, _⟩ => show i.val = 0 + 1 * i.val; omega
    | ⟨1, _⟩ => show 128 + j.val = 128 + 1 * j.val; omega
  rw [this]; exact View.canon_cons_emb _ _ _ _

/-- The lower half of a point's block: what it norms and the same rotated by half. -/
theorem block_low (x0 : Vec Ideal S768x128 .f32) (x1 : Vec Ideal S1x128 .f32) (i : Fin 768) (j : Fin 128) :
    (out0_2 (F := Ideal) x0 x1 (ix2 i (⟨j.val, by omega⟩ : Fin 256)) : EReal)
      = (k0_pay1 (F := Ideal) x0 x1 (ix2 i j) : EReal) + k0_pay1 (F := Ideal) x0 x1 (ix2 i (⟨(j.val + 128 - 64) % 128, Nat.mod_lt _ (by decide)⟩ : Fin 128)) := by
  unfold out0_2
  rw [View.ld_unit_zero (S := S768x128) zeros2, View.ld_unit_zero (S := S1x128) zeros2]
  refine (canon_low _ _ i j).trans ?_
  unfold k0_pay3
  pointwise

/-- The upper half: the rest of what it norms. -/
theorem block_high (x0 : Vec Ideal S768x128 .f32) (x1 : Vec Ideal S1x128 .f32) (i : Fin 768) (j : Fin 128) :
    (out0_2 (F := Ideal) x0 x1 (ix2 i (⟨128 + j.val, by omega⟩ : Fin 256)) : EReal)
      = (k0_pay1 (F := Ideal) x0 x1 (ix2 i j) : EReal) - k0_pay1 (F := Ideal) x0 x1 (ix2 i j) := by
  unfold out0_2
  rw [View.ld_unit_zero (S := S768x128) zeros2, View.ld_unit_zero (S := S1x128) zeros2]
  exact (canon_high _ _ i j).trans rfl

/-- Which block each window is at, at every point; every point writes its block back. -/
theorem idxs : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ win0_2.flush t = true :=
  (by decide +kernel : ∀ t : Fin grid0.N, _)

open Idealize.ShloMosaic.Routing in
/-- Where an entry of the gain lands in the wider row. -/
theorem lands (idx : IVec S2 32) (h0 : (idx (ValueIdx.ix1 (0 : Fin 2))).toInt = 0) (h1 : (idx (ValueIdx.ix1 (1 : Fin 2))).toInt = 0) (k : Fin 64) (c : Fin 128) :
    scatter_S1x128_S2_S64_0_0_01_0.resultIdx? (ValueIdx.ix1 k) idx = some (ValueIdx.ix2 (0 : Fin 1) c) ↔ k.val = c.val := by
  have hk : scatter_S1x128_S2_S64_0_0_01_0.sKept = [1] := rfl
  have hwin0 : scatter_S1x128_S2_S64_0_0_01_0.window (ValueIdx.ix1 k) 0 = 0 := by
    unfold ScatterDims.window
    rw [dif_neg (by rw [hk]; decide)]
  have hwin1 : scatter_S1x128_S2_S64_0_0_01_0.window (ValueIdx.ix1 k) 1 = k.val := by
    unfold ScatterDims.window
    rw [dif_pos (by rw [hk]; decide)]
    exact congrArg (fun t => ((ValueIdx.ix1 k : S64.Idx) t).val) (Subsingleton.elim (α := Fin 1) _ 0)
  refine (resultIdx?_ix2 (R := 1) (C := 128) scatter_S1x128_S2_S64_0_0_01_0 (ValueIdx.ix1 k) idx (0 : Fin 1) c).trans ?_
  rw [start_pair _ rfl rfl, start_pair _ rfl rfl, hwin0, hwin1, h0, h1]
  simp

variable (m : (ℓ : Loc nD τ sig) → Buf (Elt Ideal) ℓ) (c : Dev nD)

/-- The place where the host puts the gain in a wider row of zeros: the first row. -/
theorem first  :
    StableHlo.upto hostOps0 (fun b => m (c, b)) 7 (Proc.tc.devRef main_v2) = fun _ => (0#32 : BitVec 32) := by
  after_reads_simp
  rfl
/-- And the first column. -/
theorem second  :
    StableHlo.upto hostOps0 (fun b => m (c, b)) 7 (Proc.tc.devRef main_v3) = fun _ => (0#32 : BitVec 32) := by
  after_reads_simp
  rfl

open Idealize.ShloMosaic.Routing in
/-- The gain in the wider row. -/
theorem host_gain (k : Fin 64) :
    (V m c main_v5 (ix2 (0 : Fin 1) (⟨k.val, by omega⟩ : Fin 128)) : EReal) = m ((c : Thread nD τ).loc main_arg1) (ix2 (0 : Fin 1) k) := by
  unfold V
  after_reads_at
  rw [first m c, second m c]
  have hl := lands (concatenate S2 0 [⟨S1, fun _ => (0#32 : BitVec 32)⟩, ⟨S1, fun _ => (0#32 : BitVec 32)⟩] concatenates_S1_S1_S2_d0) (by pointwise; rfl) (by pointwise; rfl)
  refine scatter_set_hit _ _ _ _ _ _ (fun k' hk' => ?_) (ValueIdx.ix1 k) ((hl k _).2 rfl)
  have q := (hl (k' 0) _).1 ((congrArg (fun t => scatter_S1x128_S2_S64_0_0_01_0.resultIdx? t _) (ValueIdx.eq_ix1 k').symm).trans hk')
  exact congrArg (fun t => m ((c : Thread nD τ).loc main_arg1) (ix2 (0 : Fin 1) t)) (Fin.ext q)

/-- The rows a point reads. -/
theorem rows (t : Fin cfg0.N) (i : Fin 768) (k : Fin 128) (p : Fin 8448) (hp : t.val * 768 + i.val = p.val) :
    (iblk m c 0 t : Vec Ideal S768x128 .f32) (ix2 i k) = m ((c : Thread nD τ).loc main_arg0) (ix2 p k) := by
  refine Eq.trans ?_ (congrFun (V_main_arg0 m c) (ix2 p k))
  show V m c main_arg0 (((cfg0.win 0).blk t).view.emb (ix2 i k)) = _
  congr 1; funext a; apply Fin.ext
  match a with
  | ⟨0, _⟩ => show win0_0.index t (0 : Fin 2) * 768 + 1 * i.val = p.val; exact at_block (idxs t).1.1 hp
  | ⟨1, _⟩ => show win0_0.index t (1 : Fin 2) * 128 + 1 * k.val = k.val; exact at_first (idxs t).1.2

/-- The gain a point reads. -/
theorem gain (t : Fin cfg0.N) (k : Fin 64) :
    (iblk m c 1 t : Vec Ideal S1x128 .f32) (ix2 (0 : Fin 1) (⟨k.val, by omega⟩ : Fin 128)) = m ((c : Thread nD τ).loc main_arg1) (ix2 (0 : Fin 1) k) := by
  refine Eq.trans ?_ (host_gain m c k)
  show V m c main_v5 (((cfg0.win 1).blk t).view.emb (ix2 (0 : Fin 1) (⟨k.val, by omega⟩ : Fin 128))) = _
  congr 1; funext a; apply Fin.ext
  match a with
  | ⟨0, _⟩ => show win0_1.index t (0 : Fin 2) * 1 + 1 * 0 = 0; exact at_first (idxs t).2.1.1
  | ⟨1, _⟩ => show win0_1.index t (1 : Fin 2) * 128 + 1 * k.val = k.val; exact at_first (idxs t).2.1.2

/-- What a point norms, in the arguments. -/
theorem point (t : Fin cfg0.N) (i : Fin 768) (j : Fin 128) (p : Fin 8448) (hp : t.val * 768 + i.val = p.val) :
    (k0_pay1 (F := Ideal) (iblk m c 0 t) (iblk m c 1 t) (ix2 i j) : EReal)
      = if h : j.val < 64 then key (m ((c : Thread nD τ).loc main_arg0)) (m ((c : Thread nD τ).loc main_arg1)) p ⟨j.val, h⟩ else 0 := by
  refine (computed _ _ i j).trans ?_
  by_cases h : j.val < 64
  · rw [dif_pos h, dif_pos h]
    unfold key
    exact congrArg₂ (fun f g => keyNorm f g ⟨j.val, h⟩) (funext fun k => rows m c t i _ p hp) (funext fun k => gain m c t k)
  · rw [dif_neg h, dif_neg h]

variable (hg : Finite (m ((c : Thread nD τ).loc main_arg1)))

include hg in
/-- A point's block, in the arguments. -/
theorem block (t : Fin cfg0.N) (i : Fin 768) (q : Fin 256) (p : Fin 8448) (hp : t.val * 768 + i.val = p.val) :
    (out0_2 (F := Ideal) (iblk m c 0 t) (iblk m c 1 t) (ix2 i q) : EReal)
      = keys (m ((c : Thread nD τ).loc main_arg0)) (m ((c : Thread nD τ).loc main_arg1)) p q := by
  have hq := q.isLt
  unfold keys
  by_cases h : q.val < 128
  · refine (block_low _ _ i (⟨q.val, h⟩ : Fin 128)).trans ?_
    rw [point m c t i _ p hp, point m c t i _ p hp]
    by_cases h' : q.val < 64
    · rw [dif_pos h', dif_pos h', dif_neg (by dsimp only; omega), add_zero]
    · rw [dif_neg h', dif_neg h', dif_pos (by dsimp only; omega), dif_pos (show q.val - 64 < 64 by omega), zero_add]
      exact congrArg (key _ _ p) (Fin.ext (by dsimp only; omega))
  · rw [dif_neg (show ¬ q.val < 64 by omega), dif_neg (show ¬ q.val - 64 < 64 by omega)]
    have e : q = (⟨128 + (q.val - 128), by omega⟩ : Fin 256) := Fin.ext (by dsimp only; omega)
    rw [e]
    refine (block_high _ _ i (⟨q.val - 128, by omega⟩ : Fin 128)).trans ?_
    rw [point m c t i _ p hp]
    by_cases h' : q.val - 128 < 64
    · rw [dif_pos h']
      exact sub_real (real_key _ _ hg p _)
    · rw [dif_neg h', sub_zero]

include hg in
/-- The kernel's array after the run. -/
theorem kernel_entry (p : Fin 8448) (q : Fin 256) :
    ((dats m 0 c).arrAt 2 cfg0.N (ix2 p q) : EReal) = keys (m ((c : Thread nD τ).loc main_arg0)) (m ((c : Thread nD τ).loc main_arg1)) p q := by
  have hp := p.isLt
  have hN : p.val / 768 < cfg0.N := lt_of_lt_of_eq (by omega) N_0.symm
  have hb := congrFun ((Value.blocks2 m c ⟨p.val / 768, hN⟩ (idxs _).2.2.2).trans (Value.flushed2 m c _))
    (ix2 (⟨p.val % 768, by omega⟩ : Fin 768) q)
  have e : ((cfg0.win 2).blk ⟨p.val / 768, hN⟩).view.emb (ix2 (⟨p.val % 768, by omega⟩ : Fin 768) q) = ix2 p q := by
    funext a; apply Fin.ext
    match a with
    | ⟨0, _⟩ => show win0_2.index _ (0 : Fin 2) * 768 + 1 * (p.val % 768) = p.val; exact at_block (idxs _).2.2.1.1 (by dsimp only; omega)
    | ⟨1, _⟩ => show win0_2.index _ (1 : Fin 2) * 256 + 1 * q.val = q.val; exact at_first (idxs _).2.2.1.2
  refine ((congrArg ((dats m 0 c).arrAt 2 cfg0.N) e).symm.trans hb).trans ?_
  exact block m c hg _ _ q p (by dsimp only; omega)

end

section
open Cert.KidxReferenceIdeal Cert.KidxReferenceIdeal.Gen

/-- The reference's norm of rows. -/
abbrev normed (a : FVec Ideal S8448x64 .f32) (w : FVec Ideal S1x64 .f32) : FVec Ideal S8448x64 .f32 :=
  mulf (mulf a (broadcastInDim S8448x64 ![0, 1] bcast_S8448x1_S8448x64_0_1 (Host.rsqrt (addf (Host.divf (broadcastInDim S8448x1 ![0]
    bcast_S8448_S8448x1_0 (Host.reduceAdd (mulf a a) (constant S_ .f32 0x00000000#32) reducesTo_S8448x64_S8448_d1 h_S_))
    (broadcastInDim S8448x1 ![] bcast_S_S8448x1 (constant S_ .f32 0x42800000#32))) (broadcastInDim S8448x1 ![] bcast_S_S8448x1
    (constant S_ .f32 0x358637BD#32)))))) (broadcastInDim S8448x64 ![0, 1] bcast_S1x64_S8448x64_0_1 (broadcastInDim S1x64 ![1]
    bcast_S64_S1x64_1 (shapeCast _ w shapeCasts_S1x64_S64)))

theorem normed_entry (a : FVec Ideal S8448x64 .f32) (w : FVec Ideal S1x64 .f32) (p : Fin 8448) (j : Fin 64) :
    (normed a w (ix2 p j) : EReal) = keyNorm (fun k => a (ix2 p k)) (fun k => w (ix2 (0 : Fin 1) k)) j := by
  unfold normed keyNorm
  pointwise

/-- The lower half of the operand. -/
abbrev lower (x : FVec Ideal S8448x128 .f32) : FVec Ideal S8448x64 .f32 := extractStridedSlice S8448x64 ![0, 0] x slices_S8448x128_S8448x64_0_0

theorem lower_entry (x : FVec Ideal S8448x128 .f32) (p : Fin 8448) (k : Fin 64) :
    (lower x (ix2 p k) : EReal) = x (ix2 p (⟨k.val, by omega⟩ : Fin 128)) := by
  unfold lower
  pointwise

theorem normed_lower (x : FVec Ideal S8448x128 .f32) (g : FVec Ideal S1x64 .f32) (p : Fin 8448) (j : Fin 64) :
    (normed (lower x) g (ix2 p j) : EReal) = key x g p j := by
  refine (normed_entry _ _ p j).trans ?_
  unfold key
  exact congrArg (fun f => keyNorm f _ j) (funext fun k => lower_entry x p k)

/-- An array joined with itself and twice with another. -/
abbrev joined (n z : FVec Ideal S8448x64 .f32) : FVec Ideal S8448x256 .bf16 :=
  truncf .bf16 (concatenate S8448x256 1 [⟨S8448x64, (n : (⟨S8448x64, .f32⟩ : BufTy).Contents (Elt Ideal))⟩,
    ⟨S8448x64, (n : (⟨S8448x64, .f32⟩ : BufTy).Contents (Elt Ideal))⟩, ⟨S8448x64, (z : (⟨S8448x64, .f32⟩ : BufTy).Contents (Elt Ideal))⟩,
    ⟨S8448x64, (z : (⟨S8448x64, .f32⟩ : BufTy).Contents (Elt Ideal))⟩]
    concatenates_S8448x64_S8448x64_S8448x64_S8448x64_S8448x256_d1) bitsLt_bf16_f32

theorem joined_entry (n z : FVec Ideal S8448x64 .f32) (p : Fin 8448) (q : Fin 256) :
    (joined n z (ix2 p q) : EReal) = if h : q.val < 64 then (n (ix2 p (⟨q.val, h⟩ : Fin 64)) : EReal)
      else if h : q.val - 64 < 64 then n (ix2 p (⟨q.val - 64, h⟩ : Fin 64))
      else if h : q.val - 64 - 64 < 64 then z (ix2 p (⟨q.val - 64 - 64, h⟩ : Fin 64)) else z (ix2 p (⟨q.val - 64 - 64 - 64, by omega⟩ : Fin 64)) := by
  unfold joined
  pointwise

/-- The reference's zeros. -/
abbrev nothing : FVec Ideal S8448x64 .f32 := broadcastInDim S8448x64 ![] bcast_S_S8448x64 (constant (F := Ideal) S_ .f32 0x00000000#32)

theorem nothing_entry (p : Fin 8448) (j : Fin 64) : (nothing (ix2 p j) : EReal) = 0 := by
  unfold nothing
  pointwise

theorem reference_entry (x : FVec Ideal S8448x128 .f32) (g : FVec Ideal S1x64 .f32) (p : Fin 8448) (q : Fin 256) :
    (joined (normed (lower x) g) nothing (ix2 p q) : EReal) = keys x g p q := by
  refine (joined_entry _ _ p q).trans ?_
  unfold keys
  by_cases h : q.val < 64
  · rw [dif_pos h, dif_pos h]; exact normed_lower x g p _
  · rw [dif_neg h, dif_neg h]
    by_cases h' : q.val - 64 < 64
    · rw [dif_pos h', dif_pos h']; exact normed_lower x g p _
    · rw [dif_neg h', dif_neg h']
      by_cases h'' : q.val - 64 - 64 < 64
      · rw [dif_pos h'']; exact nothing_entry p _
      · rw [dif_neg h'']; exact nothing_entry p _

/-- The reference runs and leaves its arguments and every semaphore as they were. -/
theorem reference_frame : quiescent_KidxReferenceIdeal := fun m g _ =>
  (θ_run defs _ _).mono (fun r h => ⟨fun c => (h c).2, sem_eq_zero_of_no_sems (by decide) r.2⟩) (Value.run (F := Ideal) m g)

end

/-- The precondition's side conditions. -/
theorem pre_facts : Cert.Pre_kidx_finite.Facts := ⟨by decide⟩

/-- The kernel and the reference end with equal results. -/
theorem equation [Cert.Pre_kidx_finite.Facts] : algebraic_KidxIdeal_KidxReferenceIdeal_pre_kidx_finite := by
  intro m g m' g' hp ha
  refine ⟨fun c => (Cert.KidxIdeal.Gen.dats m 0 c).arrAt 2 Cert.KidxIdeal.cfg0.N, Cert.KidxIdeal.Value.run_blocks m g, ?_⟩
  refine (θ_run Cert.KidxReferenceIdeal.defs _ _).mono (fun r h c => ⟨(h c).1.trans ?_, (h c).2⟩)
    (Cert.KidxReferenceIdeal.Value.run (F := Ideal) m' g')
  rw [(ha c).1, (ha c).2]
  exact ext2 _ _ fun p q => (reference_entry _ _ p q).trans (kernel_entry m c (finite_gain _ _ (hp c)) p q).symm

end Cert.IndexKeys

end
-- ==== Proof.lean ====
/-
  The proof of the claim: for each call the frames of its three programs, the idealization, and the equation of the kernel
  with the reference. The retention's equation is read off here, row by row from the two descriptions of its result; the
  products' equations are in their own modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.KArray
public import proofs.«01_k».proof.Proof.RStep
public import proofs.«01_k».proof.Proof.RRun
public import proofs.«01_k».proof.Proof.Gen.FfnAct0
public import proofs.«01_k».proof.Proof.Gen.FfnAct0.Skeleton
public import proofs.«01_k».proof.Proof.Gen.FfnAct0.Launch
public import proofs.«01_k».proof.Proof.Gen.FfnAct0.Points
public import proofs.«01_k».proof.Proof.Gen.FfnAct0.Frame
public import proofs.«01_k».proof.Proof.Gen.FfnAct0Ideal
public import proofs.«01_k».proof.Proof.Gen.FfnAct0Ideal.Skeleton
public import proofs.«01_k».proof.Proof.Gen.FfnAct0Ideal.Launch
public import proofs.«01_k».proof.Proof.Gen.FfnAct0Ideal.Points
public import proofs.«01_k».proof.Proof.Gen.FfnAct0Ideal.Frame
public import proofs.«01_k».proof.Proof.Gen.FfnAct0Ideal.Value
public import proofs.«01_k».proof.Proof.Gen.FfnAct0ReferenceIdeal
public import proofs.«01_k».proof.Proof.Gen.FfnAct0ReferenceIdeal.Run
public import proofs.«01_k».proof.Proof.Act0
public import proofs.«01_k».proof.Proof.Gen.FfnDown0
public import proofs.«01_k».proof.Proof.Gen.FfnDown0.Skeleton
public import proofs.«01_k».proof.Proof.Gen.FfnDown0.Launch
public import proofs.«01_k».proof.Proof.Gen.FfnDown0.Points
public import proofs.«01_k».proof.Proof.Gen.FfnDown0.Frame
public import proofs.«01_k».proof.Proof.Gen.FfnDown0Ideal
public import proofs.«01_k».proof.Proof.Gen.FfnDown0Ideal.Skeleton
public import proofs.«01_k».proof.Proof.Gen.FfnDown0Ideal.Launch
public import proofs.«01_k».proof.Proof.Gen.FfnDown0Ideal.Points
public import proofs.«01_k».proof.Proof.Gen.FfnDown0Ideal.Frame
public import proofs.«01_k».proof.Proof.Gen.FfnDown0Ideal.Value
public import proofs.«01_k».proof.Proof.Gen.FfnDown0ReferenceIdeal
public import proofs.«01_k».proof.Proof.Gen.FfnDown0ReferenceIdeal.Run
public import proofs.«01_k».proof.Proof.Down0
public import proofs.«01_k».proof.Proof.Gen.FfnAct1
public import proofs.«01_k».proof.Proof.Gen.FfnAct1.Skeleton
public import proofs.«01_k».proof.Proof.Gen.FfnAct1.Launch
public import proofs.«01_k».proof.Proof.Gen.FfnAct1.Points
public import proofs.«01_k».proof.Proof.Gen.FfnAct1.Frame
public import proofs.«01_k».proof.Proof.Gen.FfnAct1Ideal
public import proofs.«01_k».proof.Proof.Gen.FfnAct1Ideal.Skeleton
public import proofs.«01_k».proof.Proof.Gen.FfnAct1Ideal.Launch
public import proofs.«01_k».proof.Proof.Gen.FfnAct1Ideal.Points
public import proofs.«01_k».proof.Proof.Gen.FfnAct1Ideal.Frame
public import proofs.«01_k».proof.Proof.Gen.FfnAct1Ideal.Value
public import proofs.«01_k».proof.Proof.Gen.FfnAct1ReferenceIdeal
public import proofs.«01_k».proof.Proof.Gen.FfnAct1ReferenceIdeal.Run
public import proofs.«01_k».proof.Proof.Act1
public import proofs.«01_k».proof.Proof.Gen.FfnDown1
public import proofs.«01_k».proof.Proof.Gen.FfnDown1.Skeleton
public import proofs.«01_k».proof.Proof.Gen.FfnDown1.Launch
public import proofs.«01_k».proof.Proof.Gen.FfnDown1.Points
public import proofs.«01_k».proof.Proof.Gen.FfnDown1.Frame
public import proofs.«01_k».proof.Proof.Gen.FfnDown1Ideal
public import proofs.«01_k».proof.Proof.Gen.FfnDown1Ideal.Skeleton
public import proofs.«01_k».proof.Proof.Gen.FfnDown1Ideal.Launch
public import proofs.«01_k».proof.Proof.Gen.FfnDown1Ideal.Points
public import proofs.«01_k».proof.Proof.Gen.FfnDown1Ideal.Frame
public import proofs.«01_k».proof.Proof.Gen.FfnDown1Ideal.Value
public import proofs.«01_k».proof.Proof.Gen.FfnDown1ReferenceIdeal
public import proofs.«01_k».proof.Proof.Gen.FfnDown1ReferenceIdeal.Run
public import proofs.«01_k».proof.Proof.Down1
public import proofs.«01_k».proof.Proof.Gen.RetIn
public import proofs.«01_k».proof.Proof.Gen.RetIn.Skeleton
public import proofs.«01_k».proof.Proof.Gen.RetIn.Launch
public import proofs.«01_k».proof.Proof.Gen.RetIn.Points
public import proofs.«01_k».proof.Proof.Gen.RetIn.Frame
public import proofs.«01_k».proof.Proof.Gen.RetInIdeal
public import proofs.«01_k».proof.Proof.Gen.RetInIdeal.Skeleton
public import proofs.«01_k».proof.Proof.Gen.RetInIdeal.Launch
public import proofs.«01_k».proof.Proof.Gen.RetInIdeal.Points
public import proofs.«01_k».proof.Proof.Gen.RetInIdeal.Frame
public import proofs.«01_k».proof.Proof.Gen.RetInIdeal.Value
public import proofs.«01_k».proof.Proof.Gen.RetInReferenceIdeal
public import proofs.«01_k».proof.Proof.Gen.RetInReferenceIdeal.Run
public import proofs.«01_k».proof.Proof.ProjIn
public import proofs.«01_k».proof.Proof.Gen.RetOut
public import proofs.«01_k».proof.Proof.Gen.RetOut.Skeleton
public import proofs.«01_k».proof.Proof.Gen.RetOut.Launch
public import proofs.«01_k».proof.Proof.Gen.RetOut.Points
public import proofs.«01_k».proof.Proof.Gen.RetOut.Frame
public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutIdeal.Value
public import proofs.«01_k».proof.Proof.Gen.RetOutReferenceIdeal
public import proofs.«01_k».proof.Proof.Gen.RetOutReferenceIdeal.Run
public import proofs.«01_k».proof.Proof.ProjOut
public import proofs.«01_k».proof.Proof.Gen.HyOut
public import proofs.«01_k».proof.Proof.Gen.HyOut.Skeleton
public import proofs.«01_k».proof.Proof.Gen.HyOut.Launch
public import proofs.«01_k».proof.Proof.Gen.HyOut.Points
public import proofs.«01_k».proof.Proof.Gen.HyOut.Frame
public import proofs.«01_k».proof.Proof.Gen.HyOutIdeal
public import proofs.«01_k».proof.Proof.Gen.HyOutIdeal.Skeleton
public import proofs.«01_k».proof.Proof.Gen.HyOutIdeal.Launch
public import proofs.«01_k».proof.Proof.Gen.HyOutIdeal.Points
public import proofs.«01_k».proof.Proof.Gen.HyOutIdeal.Frame
public import proofs.«01_k».proof.Proof.Gen.HyOutIdeal.Value
public import proofs.«01_k».proof.Proof.Gen.HyOutReferenceIdeal
public import proofs.«01_k».proof.Proof.Gen.HyOutReferenceIdeal.Run
public import proofs.«01_k».proof.Proof.JoinOut
public import proofs.«01_k».proof.Proof.Gen.HyIn
public import proofs.«01_k».proof.Proof.Gen.HyIn.Skeleton
public import proofs.«01_k».proof.Proof.Gen.HyIn.Launch
public import proofs.«01_k».proof.Proof.Gen.HyIn.Points
public import proofs.«01_k».proof.Proof.Gen.HyIn.Frame
public import proofs.«01_k».proof.Proof.Gen.HyInIdeal
public import proofs.«01_k».proof.Proof.Gen.HyInIdeal.Skeleton
public import proofs.«01_k».proof.Proof.Gen.HyInIdeal.Launch
public import proofs.«01_k».proof.Proof.Gen.HyInIdeal.Points
public import proofs.«01_k».proof.Proof.Gen.HyInIdeal.Frame
public import proofs.«01_k».proof.Proof.Gen.HyInIdeal.Value
public import proofs.«01_k».proof.Proof.Gen.HyInReferenceIdeal
public import proofs.«01_k».proof.Proof.Gen.HyInReferenceIdeal.Run
public import proofs.«01_k».proof.Proof.MixIn
public import proofs.«01_k».proof.Proof.Gen.DsaK
public import proofs.«01_k».proof.Proof.Gen.DsaK.Skeleton
public import proofs.«01_k».proof.Proof.Gen.DsaK.Launch
public import proofs.«01_k».proof.Proof.Gen.DsaK.Points
public import proofs.«01_k».proof.Proof.Gen.DsaK.Frame
public import proofs.«01_k».proof.Proof.Gen.DsaKIdeal
public import proofs.«01_k».proof.Proof.Gen.DsaKIdeal.Skeleton
public import proofs.«01_k».proof.Proof.Gen.DsaKIdeal.Launch
public import proofs.«01_k».proof.Proof.Gen.DsaKIdeal.Points
public import proofs.«01_k».proof.Proof.Gen.DsaKIdeal.Frame
public import proofs.«01_k».proof.Proof.Gen.DsaKIdeal.Value
public import proofs.«01_k».proof.Proof.Gen.DsaKReferenceIdeal
public import proofs.«01_k».proof.Proof.Gen.DsaKReferenceIdeal.Run
public import proofs.«01_k».proof.Proof.UpKeys
public import proofs.«01_k».proof.Proof.Gen.DsaVt
public import proofs.«01_k».proof.Proof.Gen.DsaVt.Skeleton
public import proofs.«01_k».proof.Proof.Gen.DsaVt.Launch
public import proofs.«01_k».proof.Proof.Gen.DsaVt.Points
public import proofs.«01_k».proof.Proof.Gen.DsaVt.Frame
public import proofs.«01_k».proof.Proof.Gen.DsaVtIdeal
public import proofs.«01_k».proof.Proof.Gen.DsaVtIdeal.Skeleton
public import proofs.«01_k».proof.Proof.Gen.DsaVtIdeal.Launch
public import proofs.«01_k».proof.Proof.Gen.DsaVtIdeal.Points
public import proofs.«01_k».proof.Proof.Gen.DsaVtIdeal.Frame
public import proofs.«01_k».proof.Proof.Gen.DsaVtIdeal.Value
public import proofs.«01_k».proof.Proof.Gen.DsaVtReferenceIdeal
public import proofs.«01_k».proof.Proof.Gen.DsaVtReferenceIdeal.Run
public import proofs.«01_k».proof.Proof.UpValues
public import proofs.«01_k».proof.Proof.Gen.HyInX3
public import proofs.«01_k».proof.Proof.Gen.HyInX3.Skeleton
public import proofs.«01_k».proof.Proof.Gen.HyInX3.Launch
public import proofs.«01_k».proof.Proof.Gen.HyInX3.Points
public import proofs.«01_k».proof.Proof.Gen.HyInX3.Frame
public import proofs.«01_k».proof.Proof.Gen.HyInX3Ideal
public import proofs.«01_k».proof.Proof.Gen.HyInX3Ideal.Skeleton
public import proofs.«01_k».proof.Proof.Gen.HyInX3Ideal.Launch
public import proofs.«01_k».proof.Proof.Gen.HyInX3Ideal.Points
public import proofs.«01_k».proof.Proof.Gen.HyInX3Ideal.Frame
public import proofs.«01_k».proof.Proof.Gen.HyInX3Ideal.Value
public import proofs.«01_k».proof.Proof.Gen.HyInX3ReferenceIdeal
public import proofs.«01_k».proof.Proof.Gen.HyInX3ReferenceIdeal.Run
public import proofs.«01_k».proof.Proof.MixInFine
public import proofs.«01_k».proof.Proof.Gen.DsaQ
public import proofs.«01_k».proof.Proof.Gen.DsaQ.Skeleton
public import proofs.«01_k».proof.Proof.Gen.DsaQ.Launch
public import proofs.«01_k».proof.Proof.Gen.DsaQ.Points
public import proofs.«01_k».proof.Proof.Gen.DsaQ.Frame
public import proofs.«01_k».proof.Proof.Gen.DsaQIdeal
public import proofs.«01_k».proof.Proof.Gen.DsaQIdeal.Skeleton
public import proofs.«01_k».proof.Proof.Gen.DsaQIdeal.Launch
public import proofs.«01_k».proof.Proof.Gen.DsaQIdeal.Points
public import proofs.«01_k».proof.Proof.Gen.DsaQIdeal.Frame
public import proofs.«01_k».proof.Proof.Gen.DsaQIdeal.Value
public import proofs.«01_k».proof.Proof.Gen.DsaQReferenceIdeal
public import proofs.«01_k».proof.Proof.Gen.DsaQReferenceIdeal.Run
public import proofs.«01_k».proof.Proof.UpQueries
public import proofs.«01_k».proof.Proof.Gen.DsaQidx
public import proofs.«01_k».proof.Proof.Gen.DsaQidx.Skeleton
public import proofs.«01_k».proof.Proof.Gen.DsaQidx.Launch
public import proofs.«01_k».proof.Proof.Gen.DsaQidx.Points
public import proofs.«01_k».proof.Proof.Gen.DsaQidx.Frame
public import proofs.«01_k».proof.Proof.Gen.DsaQidxIdeal
public import proofs.«01_k».proof.Proof.Gen.DsaQidxIdeal.Skeleton
public import proofs.«01_k».proof.Proof.Gen.DsaQidxIdeal.Launch
public import proofs.«01_k».proof.Proof.Gen.DsaQidxIdeal.Points
public import proofs.«01_k».proof.Proof.Gen.DsaQidxIdeal.Frame
public import proofs.«01_k».proof.Proof.Gen.DsaQidxIdeal.Value
public import proofs.«01_k».proof.Proof.Gen.DsaQidxReferenceIdeal
public import proofs.«01_k».proof.Proof.Gen.DsaQidxReferenceIdeal.Run
public import proofs.«01_k».proof.Proof.UpIndex
public import proofs.«01_k».proof.Proof.Gen.Resid0
public import proofs.«01_k».proof.Proof.Gen.Resid0.Skeleton
public import proofs.«01_k».proof.Proof.Gen.Resid0.Launch
public import proofs.«01_k».proof.Proof.Gen.Resid0.Points
public import proofs.«01_k».proof.Proof.Gen.Resid0.Frame
public import proofs.«01_k».proof.Proof.Gen.Resid0Ideal
public import proofs.«01_k».proof.Proof.Gen.Resid0Ideal.Skeleton
public import proofs.«01_k».proof.Proof.Gen.Resid0Ideal.Launch
public import proofs.«01_k».proof.Proof.Gen.Resid0Ideal.Points
public import proofs.«01_k».proof.Proof.Gen.Resid0Ideal.Frame
public import proofs.«01_k».proof.Proof.Gen.Resid0Ideal.Value
public import proofs.«01_k».proof.Proof.Gen.Resid0ReferenceIdeal
public import proofs.«01_k».proof.Proof.Gen.Resid0ReferenceIdeal.Run
public import proofs.«01_k».proof.Proof.AddNorm0
public import proofs.«01_k».proof.Proof.Gen.Resid1
public import proofs.«01_k».proof.Proof.Gen.Resid1.Skeleton
public import proofs.«01_k».proof.Proof.Gen.Resid1.Launch
public import proofs.«01_k».proof.Proof.Gen.Resid1.Points
public import proofs.«01_k».proof.Proof.Gen.Resid1.Frame
public import proofs.«01_k».proof.Proof.Gen.Resid1Ideal
public import proofs.«01_k».proof.Proof.Gen.Resid1Ideal.Skeleton
public import proofs.«01_k».proof.Proof.Gen.Resid1Ideal.Launch
public import proofs.«01_k».proof.Proof.Gen.Resid1Ideal.Points
public import proofs.«01_k».proof.Proof.Gen.Resid1Ideal.Frame
public import proofs.«01_k».proof.Proof.Gen.Resid1Ideal.Value
public import proofs.«01_k».proof.Proof.Gen.Resid1ReferenceIdeal
public import proofs.«01_k».proof.Proof.Gen.Resid1ReferenceIdeal.Run
public import proofs.«01_k».proof.Proof.AddNorm1
public import proofs.«01_k».proof.Proof.Gen.Resid2
public import proofs.«01_k».proof.Proof.Gen.Resid2.Skeleton
public import proofs.«01_k».proof.Proof.Gen.Resid2.Launch
public import proofs.«01_k».proof.Proof.Gen.Resid2.Points
public import proofs.«01_k».proof.Proof.Gen.Resid2.Frame
public import proofs.«01_k».proof.Proof.Gen.Resid2Ideal
public import proofs.«01_k».proof.Proof.Gen.Resid2Ideal.Skeleton
public import proofs.«01_k».proof.Proof.Gen.Resid2Ideal.Launch
public import proofs.«01_k».proof.Proof.Gen.Resid2Ideal.Points
public import proofs.«01_k».proof.Proof.Gen.Resid2Ideal.Frame
public import proofs.«01_k».proof.Proof.Gen.Resid2Ideal.Value
public import proofs.«01_k».proof.Proof.Gen.Resid2ReferenceIdeal
public import proofs.«01_k».proof.Proof.Gen.Resid2ReferenceIdeal.Run
public import proofs.«01_k».proof.Proof.AddNorm2
public import proofs.«01_k».proof.Proof.Gen.Resid3
public import proofs.«01_k».proof.Proof.Gen.Resid3.Skeleton
public import proofs.«01_k».proof.Proof.Gen.Resid3.Launch
public import proofs.«01_k».proof.Proof.Gen.Resid3.Points
public import proofs.«01_k».proof.Proof.Gen.Resid3.Frame
public import proofs.«01_k».proof.Proof.Gen.Resid3Ideal
public import proofs.«01_k».proof.Proof.Gen.Resid3Ideal.Skeleton
public import proofs.«01_k».proof.Proof.Gen.Resid3Ideal.Launch
public import proofs.«01_k».proof.Proof.Gen.Resid3Ideal.Points
public import proofs.«01_k».proof.Proof.Gen.Resid3Ideal.Frame
public import proofs.«01_k».proof.Proof.Gen.Resid3Ideal.Value
public import proofs.«01_k».proof.Proof.Gen.Resid3ReferenceIdeal
public import proofs.«01_k».proof.Proof.Gen.Resid3ReferenceIdeal.Run
public import proofs.«01_k».proof.Proof.AddNorm3
public import proofs.«01_k».proof.Proof.Gen.RmsKv
public import proofs.«01_k».proof.Proof.Gen.RmsKv.Skeleton
public import proofs.«01_k».proof.Proof.Gen.RmsKv.Launch
public import proofs.«01_k».proof.Proof.Gen.RmsKv.Points
public import proofs.«01_k».proof.Proof.Gen.RmsKv.Frame
public import proofs.«01_k».proof.Proof.Gen.RmsKvIdeal
public import proofs.«01_k».proof.Proof.Gen.RmsKvIdeal.Skeleton
public import proofs.«01_k».proof.Proof.Gen.RmsKvIdeal.Launch
public import proofs.«01_k».proof.Proof.Gen.RmsKvIdeal.Points
public import proofs.«01_k».proof.Proof.Gen.RmsKvIdeal.Frame
public import proofs.«01_k».proof.Proof.Gen.RmsKvIdeal.Value
public import proofs.«01_k».proof.Proof.Gen.RmsKvReferenceIdeal
public import proofs.«01_k».proof.Proof.Gen.RmsKvReferenceIdeal.Run
public import proofs.«01_k».proof.Proof.NormKv
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedIdeal.Value
public import proofs.«01_k».proof.Proof.Gen.EmbedReferenceIdeal
public import proofs.«01_k».proof.Proof.Gen.EmbedReferenceIdeal.Run
public import proofs.«01_k».proof.Proof.NormIn
public import proofs.«01_k».proof.Proof.Gen.RmsCq
public import proofs.«01_k».proof.Proof.Gen.RmsCq.Skeleton
public import proofs.«01_k».proof.Proof.Gen.RmsCq.Launch
public import proofs.«01_k».proof.Proof.Gen.RmsCq.Points
public import proofs.«01_k».proof.Proof.Gen.RmsCq.Frame
public import proofs.«01_k».proof.Proof.Gen.RmsCqIdeal
public import proofs.«01_k».proof.Proof.Gen.RmsCqIdeal.Skeleton
public import proofs.«01_k».proof.Proof.Gen.RmsCqIdeal.Launch
public import proofs.«01_k».proof.Proof.Gen.RmsCqIdeal.Points
public import proofs.«01_k».proof.Proof.Gen.RmsCqIdeal.Frame
public import proofs.«01_k».proof.Proof.Gen.RmsCqIdeal.Value
public import proofs.«01_k».proof.Proof.Gen.RmsCqReferenceIdeal
public import proofs.«01_k».proof.Proof.Gen.RmsCqReferenceIdeal.Run
public import proofs.«01_k».proof.Proof.NormQueries
public import proofs.«01_k».proof.Proof.Gen.Kidx
public import proofs.«01_k».proof.Proof.Gen.Kidx.Skeleton
public import proofs.«01_k».proof.Proof.Gen.Kidx.Launch
public import proofs.«01_k».proof.Proof.Gen.Kidx.Points
public import proofs.«01_k».proof.Proof.Gen.Kidx.Frame
public import proofs.«01_k».proof.Proof.Gen.KidxIdeal
public import proofs.«01_k».proof.Proof.Gen.KidxIdeal.Skeleton
public import proofs.«01_k».proof.Proof.Gen.KidxIdeal.Launch
public import proofs.«01_k».proof.Proof.Gen.KidxIdeal.Points
public import proofs.«01_k».proof.Proof.Gen.KidxIdeal.Frame
public import proofs.«01_k».proof.Proof.Gen.KidxIdeal.Value
public import proofs.«01_k».proof.Proof.Gen.KidxReferenceIdeal
public import proofs.«01_k».proof.Proof.Gen.KidxReferenceIdeal.Run
public import proofs.«01_k».proof.Proof.IndexKeys
public import Idealize.ShloMosaic.Lib.Quiescent
public import Idealize.ShloMosaic.Adequacy
public import Idealize.ShloMosaic.Init

@[expose] public section

noncomputable section

namespace Cert.Proof

open Idealize.ShloMosaic Idealize.SL.Sem

/-- The precondition's one side condition. -/
theorem pre_facts : Cert.Pre_all_finite.Facts := ⟨by decide⟩

/-- The bf16 pattern of the precondition's bound is plus infinity. -/
theorem bits_top : Ideal.ofBits .bf16 0x7F80#16 = ⊤ := by simp [Ideal.ofBits, Ideal.ieee]

/-- An argument that meets the precondition holds real numbers. -/
theorem real_arg [Cert.Pre_all_finite.Facts] (x : FVec Ideal Cert.Pre_all_finite.S8208x12288 .bf16)
    (h : Cert.Pre_all_finite.fn (F := Ideal) x = fun _ => 1#1) :
    ∃ X : ℕ → ℕ → ℝ, ∀ (t : Fin 8208) (d : Fin 12288), (x (ix2 t d) : EReal) = (X t.val d.val : EReal) := by
  refine Cert.Model.real_of_finite (R := 8208) (C := 12288) (fun t d => x (ix2 t d)) fun t d => ?_
  have e : BitVec.ofBool (decide (max (x (ix2 t d) : EReal) (-(x (ix2 t d) : EReal)) < Ideal.ofBits .bf16 0x7F80#16)) = 1#1 :=
    congrFun h (ix2 t d)
  rw [bits_top] at e
  by_contra hn
  rw [decide_eq_false hn] at e
  exact absurd e (by decide)

/-- The trips of the reference's loop from an argument. -/
def trips (x : (⟨Cert.ReferenceIdeal.S8208x12288, .bf16⟩ : BufTy).Contents (Elt Ideal)) : ℕ → Cert.ReferenceIdeal.Step.State Ideal
  | 0 => Cert.ReferenceIdeal.Step.init x
  | n + 1 => Cert.ReferenceIdeal.Step.step n (trips x n)

/-- The two results agree at every row and column. -/
theorem results (m : (ℓ : Loc Cert.KernelIdeal.nD Cert.KernelIdeal.τ Cert.KernelIdeal.sig) → Buf (Elt Ideal) ℓ) (c : Dev Cert.KernelIdeal.nD)
    (x : (⟨Cert.ReferenceIdeal.S8208x12288, .bf16⟩ : BufTy).Contents (Elt Ideal)) (X : ℕ → ℕ → ℝ)
    (hX : ∀ (t : Fin 8208) (d : Fin 12288), (x (ix2 t d) : EReal) = (X t.val d.val : EReal))
    (hm : ∀ (t : Fin 8208) (d : Fin 12288),
      (m ((c.tc : Thread Cert.KernelIdeal.nD Cert.KernelIdeal.τ).loc Cert.KernelIdeal.main_arg0) (ix2 t d) : EReal) = (X t.val d.val : EReal))
    (p : Fin 8448) (q : Fin 4096) :
    (Cert.ReferenceIdeal.Step.R_main_v160 (trips x 129) x (ix2 p q) : EReal) = Cert.KernelIdeal.Value.G10 m c (ix2 p q) := by
  obtain ⟨h, j, hq⟩ : ∃ (h : Fin 8) (j : Fin 512), q = ⟨h.val * 512 + j.val, by omega⟩ :=
    ⟨⟨q.val / 512, by omega⟩, ⟨q.val % 512, by omega⟩, Fin.ext (by dsimp only; omega)⟩
  subst hq
  by_cases hp : p.val < 240
  · obtain ⟨t, ht⟩ : ∃ t : Fin 240, p = ⟨t.val, by omega⟩ := ⟨⟨p.val, hp⟩, rfl⟩
    rw [ht]
    exact (Cert.ReferenceIdeal.Loop.result_pad _ t h j).trans (Cert.KernelIdeal.Array.array_pad hm t h j).symm
  · obtain ⟨t, ht⟩ : ∃ t : Fin 8208, p = ⟨240 + t.val, by omega⟩ := ⟨⟨p.val - 240, by omega⟩, Fin.ext (by dsimp only; omega)⟩
    rw [ht]
    exact (Cert.ReferenceIdeal.Loop.result_row hX _
      (Cert.ReferenceIdeal.Loop.at_iter hX (trips x) rfl (fun _ => rfl) 129 (le_refl _)) t h j).trans
      (Cert.KernelIdeal.Array.array_row hm t h j).symm

/-- The reference runs and leaves its argument and every semaphore as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel and the reference end with equal results. -/
theorem equation [Cert.Pre_all_finite.Facts] : algebraic_KernelIdeal_ReferenceIdeal_pre_all_finite := by
  intro m g m' g' hp ha
  refine ⟨fun c => Cert.KernelIdeal.Value.G10 m c, Cert.KernelIdeal.Value.run m g, ?_⟩
  refine (θ_run Cert.ReferenceIdeal.defs _ _).mono (fun r h c => ⟨(h c).1.trans ?_, (h c).2⟩)
    (Cert.ReferenceIdeal.RRun.run_iter (F := Ideal) m' g'
      (fun c => trips (m' ((c.tc : Thread Cert.ReferenceIdeal.nD Cert.ReferenceIdeal.τ).loc Cert.ReferenceIdeal.main_arg0)))
      (fun _ => rfl) (fun _ _ => rfl))
  obtain ⟨X, hX⟩ := real_arg _ (hp c)
  funext i
  rw [show i = ix2 (i 0) (i 1) from (ix2_eta i).symm]
  exact results m c _ X (fun t d => (congrFun (ha c) (ix2 t d)).trans (hX t d)) hX (i 0) (i 1)

theorem claim : Cert.Claim :=
  ⟨Cert.Kernel.Gen.facts, Cert.KernelIdeal.Gen.facts, Cert.ReferenceIdeal.Gen.facts,
    Cert.FfnAct0.Gen.facts, Cert.FfnAct0Ideal.Gen.facts, Cert.FfnAct0ReferenceIdeal.Gen.facts,
    Cert.FfnDown0.Gen.facts, Cert.FfnDown0Ideal.Gen.facts, Cert.FfnDown0ReferenceIdeal.Gen.facts,
    Cert.FfnAct1.Gen.facts, Cert.FfnAct1Ideal.Gen.facts, Cert.FfnAct1ReferenceIdeal.Gen.facts,
    Cert.FfnDown1.Gen.facts, Cert.FfnDown1Ideal.Gen.facts, Cert.FfnDown1ReferenceIdeal.Gen.facts,
    Cert.RetIn.Gen.facts, Cert.RetInIdeal.Gen.facts, Cert.RetInReferenceIdeal.Gen.facts,
    Cert.RetOut.Gen.facts, Cert.RetOutIdeal.Gen.facts, Cert.RetOutReferenceIdeal.Gen.facts,
    Cert.HyOut.Gen.facts, Cert.HyOutIdeal.Gen.facts, Cert.HyOutReferenceIdeal.Gen.facts,
    Cert.HyIn.Gen.facts, Cert.HyInIdeal.Gen.facts, Cert.HyInReferenceIdeal.Gen.facts,
    Cert.DsaK.Gen.facts, Cert.DsaKIdeal.Gen.facts, Cert.DsaKReferenceIdeal.Gen.facts,
    Cert.DsaVt.Gen.facts, Cert.DsaVtIdeal.Gen.facts, Cert.DsaVtReferenceIdeal.Gen.facts,
    Cert.HyInX3.Gen.facts, Cert.HyInX3Ideal.Gen.facts, Cert.HyInX3ReferenceIdeal.Gen.facts,
    Cert.DsaQ.Gen.facts, Cert.DsaQIdeal.Gen.facts, Cert.DsaQReferenceIdeal.Gen.facts,
    Cert.DsaQidx.Gen.facts, Cert.DsaQidxIdeal.Gen.facts, Cert.DsaQidxReferenceIdeal.Gen.facts,
    Cert.Resid0.Gen.facts, Cert.Resid0Ideal.Gen.facts, Cert.Resid0ReferenceIdeal.Gen.facts,
    Cert.Resid1.Gen.facts, Cert.Resid1Ideal.Gen.facts, Cert.Resid1ReferenceIdeal.Gen.facts,
    Cert.Resid2.Gen.facts, Cert.Resid2Ideal.Gen.facts, Cert.Resid2ReferenceIdeal.Gen.facts,
    Cert.Resid3.Gen.facts, Cert.Resid3Ideal.Gen.facts, Cert.Resid3ReferenceIdeal.Gen.facts,
    Cert.RmsKv.Gen.facts, Cert.RmsKvIdeal.Gen.facts, Cert.RmsKvReferenceIdeal.Gen.facts,
    Cert.Embed.Gen.facts, Cert.EmbedIdeal.Gen.facts, Cert.EmbedReferenceIdeal.Gen.facts,
    Cert.RmsCq.Gen.facts, Cert.RmsCqIdeal.Gen.facts, Cert.RmsCqReferenceIdeal.Gen.facts,
    Cert.Kidx.Gen.facts, Cert.KidxIdeal.Gen.facts, Cert.KidxReferenceIdeal.Gen.facts,
    pre_facts, Cert.MixInFine.pre_facts, Cert.UpIndex.pre_facts,
    Cert.NormIn.pre_facts, Cert.NormQueries.pre_facts, Cert.IndexKeys.pre_facts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.FfnAct0.Gen.frame m g, fun m g _ => Cert.FfnAct0Ideal.Gen.frame m g, Cert.Act0.reference_frame,
    fun m g _ => Cert.FfnDown0.Gen.frame m g, fun m g _ => Cert.FfnDown0Ideal.Gen.frame m g, Cert.Down0.reference_frame,
    fun m g _ => Cert.FfnAct1.Gen.frame m g, fun m g _ => Cert.FfnAct1Ideal.Gen.frame m g, Cert.Act1.reference_frame,
    fun m g _ => Cert.FfnDown1.Gen.frame m g, fun m g _ => Cert.FfnDown1Ideal.Gen.frame m g, Cert.Down1.reference_frame,
    fun m g _ => Cert.RetIn.Gen.frame m g, fun m g _ => Cert.RetInIdeal.Gen.frame m g, Cert.ProjIn.reference_frame,
    fun m g _ => Cert.RetOut.Gen.frame m g, fun m g _ => Cert.RetOutIdeal.Gen.frame m g, Cert.ProjOut.reference_frame,
    fun m g _ => Cert.HyOut.Gen.frame m g, fun m g _ => Cert.HyOutIdeal.Gen.frame m g, Cert.JoinOut.reference_frame,
    fun m g _ => Cert.HyIn.Gen.frame m g, fun m g _ => Cert.HyInIdeal.Gen.frame m g, Cert.MixIn.reference_frame,
    fun m g _ => Cert.DsaK.Gen.frame m g, fun m g _ => Cert.DsaKIdeal.Gen.frame m g, Cert.UpKeys.reference_frame,
    fun m g _ => Cert.DsaVt.Gen.frame m g, fun m g _ => Cert.DsaVtIdeal.Gen.frame m g, Cert.UpValues.reference_frame,
    fun m g _ => Cert.HyInX3.Gen.frame m g, fun m g _ => Cert.HyInX3Ideal.Gen.frame m g, fun m g _ => Cert.HyInX3Ideal.Gen.frame m g,
    Cert.MixInFine.reference_frame, fun m g _ => Cert.MixInFine.reference_frame m g trivial,
    fun m g _ => Cert.DsaQ.Gen.frame m g, fun m g _ => Cert.DsaQIdeal.Gen.frame m g, Cert.UpQueries.reference_frame,
    fun m g _ => Cert.DsaQidx.Gen.frame m g, fun m g _ => Cert.DsaQidxIdeal.Gen.frame m g, fun m g _ => Cert.DsaQidxIdeal.Gen.frame m g,
    Cert.UpIndex.reference_frame, fun m g _ => Cert.UpIndex.reference_frame m g trivial,
    fun m g _ => Cert.Resid0.Gen.frame m g, fun m g _ => Cert.Resid0Ideal.Gen.frame m g, Cert.AddNorm0.reference_frame,
    fun m g _ => Cert.Resid1.Gen.frame m g, fun m g _ => Cert.Resid1Ideal.Gen.frame m g, Cert.AddNorm1.reference_frame,
    fun m g _ => Cert.Resid2.Gen.frame m g, fun m g _ => Cert.Resid2Ideal.Gen.frame m g, Cert.AddNorm2.reference_frame,
    fun m g _ => Cert.Resid3.Gen.frame m g, fun m g _ => Cert.Resid3Ideal.Gen.frame m g, Cert.AddNorm3.reference_frame,
    fun m g _ => Cert.RmsKv.Gen.frame m g, fun m g _ => Cert.RmsKvIdeal.Gen.frame m g, Cert.NormKv.reference_frame,
    fun m g _ => Cert.Embed.Gen.frame m g, fun m g _ => Cert.EmbedIdeal.Gen.frame m g, fun m g _ => Cert.EmbedIdeal.Gen.frame m g,
    Cert.NormIn.reference_frame, fun m g _ => Cert.NormIn.reference_frame m g trivial,
    fun m g _ => Cert.RmsCq.Gen.frame m g, fun m g _ => Cert.RmsCqIdeal.Gen.frame m g, fun m g _ => Cert.RmsCqIdeal.Gen.frame m g,
    Cert.NormQueries.reference_frame, fun m g _ => Cert.NormQueries.reference_frame m g trivial,
    fun m g _ => Cert.Kidx.Gen.frame m g, fun m g _ => Cert.KidxIdeal.Gen.frame m g, fun m g _ => Cert.KidxIdeal.Gen.frame m g,
    Cert.IndexKeys.reference_frame, fun m g _ => Cert.IndexKeys.reference_frame m g trivial,
    trivial, @equation pre_facts,
    trivial, Cert.Act0.equation,
    trivial, Cert.Down0.equation,
    trivial, Cert.Act1.equation,
    trivial, Cert.Down1.equation,
    trivial, Cert.ProjIn.equation,
    trivial, Cert.ProjOut.equation,
    trivial, Cert.JoinOut.equation,
    trivial, Cert.MixIn.equation,
    trivial, Cert.UpKeys.equation,
    trivial, Cert.UpValues.equation,
    trivial, @Cert.MixInFine.equation Cert.MixInFine.pre_facts,
    trivial, Cert.UpQueries.equation,
    trivial, @Cert.UpIndex.equation Cert.UpIndex.pre_facts,
    trivial, Cert.AddNorm0.equation,
    trivial, Cert.AddNorm1.equation,
    trivial, Cert.AddNorm2.equation,
    trivial, Cert.AddNorm3.equation,
    trivial, Cert.NormKv.equation,
    trivial, @Cert.NormIn.equation Cert.NormIn.pre_facts,
    trivial, @Cert.NormQueries.equation Cert.NormQueries.pre_facts,
    trivial, @Cert.IndexKeys.equation Cert.IndexKeys.pre_facts⟩

end Cert.Proof

end
